-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Mlp (m : (ℓ : Loc Cert.Mlp.nD Cert.Mlp.τ Cert.Mlp.sig) → Buf (Elt Bits) ℓ) : Prop :=
  True

def Pre_MlpIdeal (m : (ℓ : Loc Cert.MlpIdeal.nD Cert.MlpIdeal.τ Cert.MlpIdeal.sig) → Buf (Elt Ideal) ℓ) : Prop :=
  True

def Pre_MlpReferenceIdeal (m : (ℓ : Loc Cert.MlpReferenceIdeal.nD Cert.MlpReferenceIdeal.τ Cert.MlpReferenceIdeal.sig) → Buf (Elt Ideal) ℓ) : Prop :=
  True

def Pre_Mlp0 (m : (ℓ : Loc Cert.Mlp0.nD Cert.Mlp0.τ Cert.Mlp0.sig) → Buf (Elt Bits) ℓ) : Prop :=
  True

def Pre_Mlp0Ideal (m : (ℓ : Loc Cert.Mlp0Ideal.nD Cert.Mlp0Ideal.τ Cert.Mlp0Ideal.sig) → Buf (Elt Ideal) ℓ) : Prop :=
  True

def Pre_Mlp0ReferenceIdeal (m : (ℓ : Loc Cert.Mlp0ReferenceIdeal.nD Cert.Mlp0ReferenceIdeal.τ Cert.Mlp0ReferenceIdeal.sig) → Buf (Elt Ideal) ℓ) : Prop :=
  True

def Pre_RetOut (m : (ℓ : Loc Cert.RetOut.nD Cert.RetOut.τ Cert.RetOut.sig) → Buf (Elt Bits) ℓ) : Prop :=
  True

def Pre_RetOutIdeal (m : (ℓ : Loc Cert.RetOutIdeal.nD Cert.RetOutIdeal.τ Cert.RetOutIdeal.sig) → Buf (Elt Ideal) ℓ) : Prop :=
  True

def Pre_RetOutReferenceIdeal (m : (ℓ : Loc Cert.RetOutReferenceIdeal.nD Cert.RetOutReferenceIdeal.τ Cert.RetOutReferenceIdeal.sig) → Buf (Elt Ideal) ℓ) : Prop :=
  True

def Pre_AttnOut (m : (ℓ : Loc Cert.AttnOut.nD Cert.AttnOut.τ Cert.AttnOut.sig) → Buf (Elt Bits) ℓ) : Prop :=
  True

def Pre_AttnOutIdeal (m : (ℓ : Loc Cert.AttnOutIdeal.nD Cert.AttnOutIdeal.τ Cert.AttnOutIdeal.sig) → Buf (Elt Ideal) ℓ) : Prop :=
  True

def Pre_AttnOutReferenceIdeal (m : (ℓ : Loc Cert.AttnOutReferenceIdeal.nD Cert.AttnOutReferenceIdeal.τ Cert.AttnOutReferenceIdeal.sig) → Buf (Elt Ideal) ℓ) : Prop :=
  True

def Pre_RetProj (m : (ℓ : Loc Cert.RetProj.nD Cert.RetProj.τ Cert.RetProj.sig) → Buf (Elt Bits) ℓ) : Prop :=
  True

def Pre_RetProjIdeal (m : (ℓ : Loc Cert.RetProjIdeal.nD Cert.RetProjIdeal.τ Cert.RetProjIdeal.sig) → Buf (Elt Ideal) ℓ) : Prop :=
  True

def Pre_RetProjReferenceIdeal (m : (ℓ : Loc Cert.RetProjReferenceIdeal.nD Cert.RetProjReferenceIdeal.τ Cert.RetProjReferenceIdeal.sig) → Buf (Elt Ideal) ℓ) : Prop :=
  True

def Pre_AttnProj (m : (ℓ : Loc Cert.AttnProj.nD Cert.AttnProj.τ Cert.AttnProj.sig) → Buf (Elt Bits) ℓ) : Prop :=
  True

def Pre_AttnProjIdeal (m : (ℓ : Loc Cert.AttnProjIdeal.nD Cert.AttnProjIdeal.τ Cert.AttnProjIdeal.sig) → Buf (Elt Ideal) ℓ) : Prop :=
  True

def Pre_AttnProjReferenceIdeal (m : (ℓ : Loc Cert.AttnProjReferenceIdeal.nD Cert.AttnProjReferenceIdeal.τ Cert.AttnProjReferenceIdeal.sig) → Buf (Elt Ideal) ℓ) : Prop :=
  True

def Pre_Mlp0Ctx (m : (ℓ : Loc Cert.Mlp0Ctx.nD Cert.Mlp0Ctx.τ Cert.Mlp0Ctx.sig) → Buf (Elt Bits) ℓ) : Prop :=
  True

def Pre_Mlp0CtxIdeal (m : (ℓ : Loc Cert.Mlp0CtxIdeal.nD Cert.Mlp0CtxIdeal.τ Cert.Mlp0CtxIdeal.sig) → Buf (Elt Ideal) ℓ) : Prop :=
  True

def Pre_Mlp0CtxReferenceIdeal (m : (ℓ : Loc Cert.Mlp0CtxReferenceIdeal.nD Cert.Mlp0CtxReferenceIdeal.τ Cert.Mlp0CtxReferenceIdeal.sig) → Buf (Elt Ideal) ℓ) : Prop :=
  True

def Pre_RetProjCtx (m : (ℓ : Loc Cert.RetProjCtx.nD Cert.RetProjCtx.τ Cert.RetProjCtx.sig) → Buf (Elt Bits) ℓ) : Prop :=
  True

def Pre_RetProjCtxIdeal (m : (ℓ : Loc Cert.RetProjCtxIdeal.nD Cert.RetProjCtxIdeal.τ Cert.RetProjCtxIdeal.sig) → Buf (Elt Ideal) ℓ) : Prop :=
  True

def Pre_RetProjCtxReferenceIdeal (m : (ℓ : Loc Cert.RetProjCtxReferenceIdeal.nD Cert.RetProjCtxReferenceIdeal.τ Cert.RetProjCtxReferenceIdeal.sig) → Buf (Elt Ideal) ℓ) : Prop :=
  True

def Pre_RetOutCtx (m : (ℓ : Loc Cert.RetOutCtx.nD Cert.RetOutCtx.τ Cert.RetOutCtx.sig) → Buf (Elt Bits) ℓ) : Prop :=
  True

def Pre_RetOutCtxIdeal (m : (ℓ : Loc Cert.RetOutCtxIdeal.nD Cert.RetOutCtxIdeal.τ Cert.RetOutCtxIdeal.sig) → Buf (Elt Ideal) ℓ) : Prop :=
  True

def Pre_RetOutCtxReferenceIdeal (m : (ℓ : Loc Cert.RetOutCtxReferenceIdeal.nD Cert.RetOutCtxReferenceIdeal.τ Cert.RetOutCtxReferenceIdeal.sig) → Buf (Elt Ideal) ℓ) : Prop :=
  True

def Pre_AttnProjCtx (m : (ℓ : Loc Cert.AttnProjCtx.nD Cert.AttnProjCtx.τ Cert.AttnProjCtx.sig) → Buf (Elt Bits) ℓ) : Prop :=
  True

def Pre_AttnProjCtxIdeal (m : (ℓ : Loc Cert.AttnProjCtxIdeal.nD Cert.AttnProjCtxIdeal.τ Cert.AttnProjCtxIdeal.sig) → Buf (Elt Ideal) ℓ) : Prop :=
  True

def Pre_AttnProjCtxReferenceIdeal (m : (ℓ : Loc Cert.AttnProjCtxReferenceIdeal.nD Cert.AttnProjCtxReferenceIdeal.τ Cert.AttnProjCtxReferenceIdeal.sig) → Buf (Elt Ideal) ℓ) : Prop :=
  True

def Pre_Ada (m : (ℓ : Loc Cert.Ada.nD Cert.Ada.τ Cert.Ada.sig) → Buf (Elt Bits) ℓ) : Prop :=
  True

def Pre_AdaIdeal (m : (ℓ : Loc Cert.AdaIdeal.nD Cert.AdaIdeal.τ Cert.AdaIdeal.sig) → Buf (Elt Ideal) ℓ) : Prop :=
  True

def Pre_AdaReferenceIdeal (m : (ℓ : Loc Cert.AdaReferenceIdeal.nD Cert.AdaReferenceIdeal.τ Cert.AdaReferenceIdeal.sig) → Buf (Elt Ideal) ℓ) : Prop :=
  True

def Pre_RetCtx (m : (ℓ : Loc Cert.RetCtx.nD Cert.RetCtx.τ Cert.RetCtx.sig) → Buf (Elt Bits) ℓ) : Prop :=
  True

def Pre_RetCtxIdeal (m : (ℓ : Loc Cert.RetCtxIdeal.nD Cert.RetCtxIdeal.τ Cert.RetCtxIdeal.sig) → Buf (Elt Ideal) ℓ) : Prop :=
  True

def Pre_RetCtxIdeal_finite [hPre_finite : Cert.Pre_finite.Facts] (m : (ℓ : Loc Cert.RetCtxIdeal.nD Cert.RetCtxIdeal.τ Cert.RetCtxIdeal.sig) → Buf (Elt Ideal) ℓ) : Prop :=
  ∀ c : Dev Cert.RetCtxIdeal.nD,
    (Cert.Pre_finite.fn (F := Ideal) (m ((c.tc : Thread Cert.RetCtxIdeal.nD Cert.RetCtxIdeal.τ).loc Cert.RetCtxIdeal.main_arg0)) (m ((c.tc : Thread Cert.RetCtxIdeal.nD Cert.RetCtxIdeal.τ).loc Cert.RetCtxIdeal.main_arg1)) (m ((c.tc : Thread Cert.RetCtxIdeal.nD Cert.RetCtxIdeal.τ).loc Cert.RetCtxIdeal.main_arg2))) = (fun _ => 1#1)

def Pre_RetCtxReferenceIdeal (m : (ℓ : Loc Cert.RetCtxReferenceIdeal.nD Cert.RetCtxReferenceIdeal.τ Cert.RetCtxReferenceIdeal.sig) → Buf (Elt Ideal) ℓ) : Prop :=
  True

def Pre_RetCtxReferenceIdeal_finite [hPre_finite : Cert.Pre_finite.Facts] (m : (ℓ : Loc Cert.RetCtxReferenceIdeal.nD Cert.RetCtxReferenceIdeal.τ Cert.RetCtxReferenceIdeal.sig) → Buf (Elt Ideal) ℓ) : Prop :=
  ∀ c : Dev Cert.RetCtxReferenceIdeal.nD,
    (Cert.Pre_finite.fn (F := Ideal) (m ((c.tc : Thread Cert.RetCtxReferenceIdeal.nD Cert.RetCtxReferenceIdeal.τ).loc Cert.RetCtxReferenceIdeal.main_arg0)) (m ((c.tc : Thread Cert.RetCtxReferenceIdeal.nD Cert.RetCtxReferenceIdeal.τ).loc Cert.RetCtxReferenceIdeal.main_arg1)) (m ((c.tc : Thread Cert.RetCtxReferenceIdeal.nD Cert.RetCtxReferenceIdeal.τ).loc Cert.RetCtxReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Mlp [hMlp : Cert.Mlp.Facts] : Prop :=
  ∀ (m : (ℓ : Loc Cert.Mlp.nD Cert.Mlp.τ Cert.Mlp.sig) → Buf (Elt Bits) ℓ) (g : Dev Cert.Mlp.nD → PrngReg), Pre_Mlp m →
    θ_run (Cert.Mlp.defs (F := Bits)) (onTc (τ := Cert.Mlp.τ) (Cert.Mlp.main (F := Bits))) ⟨m, fun _ => 0, g⟩ (fun r => (∀ c : Dev Cert.Mlp.nD,
      r.2.mem ((c.tc : Thread Cert.Mlp.nD Cert.Mlp.τ).loc Cert.Mlp.main_arg0) = m ((c.tc : Thread Cert.Mlp.nD Cert.Mlp.τ).loc Cert.Mlp.main_arg0)
      ∧ r.2.mem ((c.tc : Thread Cert.Mlp.nD Cert.Mlp.τ).loc Cert.Mlp.main_arg1) = m ((c.tc : Thread Cert.Mlp.nD Cert.Mlp.τ).loc Cert.Mlp.main_arg1)
      ∧ r.2.mem ((c.tc : Thread Cert.Mlp.nD Cert.Mlp.τ).loc Cert.Mlp.main_arg2) = m ((c.tc : Thread Cert.Mlp.nD Cert.Mlp.τ).loc Cert.Mlp.main_arg2)
      ∧ r.2.mem ((c.tc : Thread Cert.Mlp.nD Cert.Mlp.τ).loc Cert.Mlp.main_arg3) = m ((c.tc : Thread Cert.Mlp.nD Cert.Mlp.τ).loc Cert.Mlp.main_arg3)
      ∧ r.2.mem ((c.tc : Thread Cert.Mlp.nD Cert.Mlp.τ).loc Cert.Mlp.main_arg4) = m ((c.tc : Thread Cert.Mlp.nD Cert.Mlp.τ).loc Cert.Mlp.main_arg4)
      ∧ r.2.mem ((c.tc : Thread Cert.Mlp.nD Cert.Mlp.τ).loc Cert.Mlp.main_arg5) = m ((c.tc : Thread Cert.Mlp.nD Cert.Mlp.τ).loc Cert.Mlp.main_arg5))
      ∧ r.2.sem = fun _ => 0)

def quiescent_MlpIdeal [hMlpIdeal : Cert.MlpIdeal.Facts] : Prop :=
  ∀ (m : (ℓ : Loc Cert.MlpIdeal.nD Cert.MlpIdeal.τ Cert.MlpIdeal.sig) → Buf (Elt Ideal) ℓ) (g : Dev Cert.MlpIdeal.nD → PrngReg), Pre_MlpIdeal m →
    θ_run (Cert.MlpIdeal.defs (F := Ideal)) (onTc (τ := Cert.MlpIdeal.τ) (Cert.MlpIdeal.main (F := Ideal))) ⟨m, fun _ => 0, g⟩ (fun r => (∀ c : Dev Cert.MlpIdeal.nD,
      r.2.mem ((c.tc : Thread Cert.MlpIdeal.nD Cert.MlpIdeal.τ).loc Cert.MlpIdeal.main_arg0) = m ((c.tc : Thread Cert.MlpIdeal.nD Cert.MlpIdeal.τ).loc Cert.MlpIdeal.main_arg0)
      ∧ r.2.mem ((c.tc : Thread Cert.MlpIdeal.nD Cert.MlpIdeal.τ).loc Cert.MlpIdeal.main_arg1) = m ((c.tc : Thread Cert.MlpIdeal.nD Cert.MlpIdeal.τ).loc Cert.MlpIdeal.main_arg1)
      ∧ r.2.mem ((c.tc : Thread Cert.MlpIdeal.nD Cert.MlpIdeal.τ).loc Cert.MlpIdeal.main_arg2) = m ((c.tc : Thread Cert.MlpIdeal.nD Cert.MlpIdeal.τ).loc Cert.MlpIdeal.main_arg2)
      ∧ r.2.mem ((c.tc : Thread Cert.MlpIdeal.nD Cert.MlpIdeal.τ).loc Cert.MlpIdeal.main_arg3) = m ((c.tc : Thread Cert.MlpIdeal.nD Cert.MlpIdeal.τ).loc Cert.MlpIdeal.main_arg3)
      ∧ r.2.mem ((c.tc : Thread Cert.MlpIdeal.nD Cert.MlpIdeal.τ).loc Cert.MlpIdeal.main_arg4) = m ((c.tc : Thread Cert.MlpIdeal.nD Cert.MlpIdeal.τ).loc Cert.MlpIdeal.main_arg4)
      ∧ r.2.mem ((c.tc : Thread Cert.MlpIdeal.nD Cert.MlpIdeal.τ).loc Cert.MlpIdeal.main_arg5) = m ((c.tc : Thread Cert.MlpIdeal.nD Cert.MlpIdeal.τ).loc Cert.MlpIdeal.main_arg5))
      ∧ r.2.sem = fun _ => 0)

def quiescent_MlpReferenceIdeal [hMlpReferenceIdeal : Cert.MlpReferenceIdeal.Facts] : Prop :=
  ∀ (m : (ℓ : Loc Cert.MlpReferenceIdeal.nD Cert.MlpReferenceIdeal.τ Cert.MlpReferenceIdeal.sig) → Buf (Elt Ideal) ℓ) (g : Dev Cert.MlpReferenceIdeal.nD → PrngReg), Pre_MlpReferenceIdeal m →
    θ_run (Cert.MlpReferenceIdeal.defs (F := Ideal)) (onTc (τ := Cert.MlpReferenceIdeal.τ) (Cert.MlpReferenceIdeal.main (F := Ideal))) ⟨m, fun _ => 0, g⟩ (fun r => (∀ c : Dev Cert.MlpReferenceIdeal.nD,
      r.2.mem ((c.tc : Thread Cert.MlpReferenceIdeal.nD Cert.MlpReferenceIdeal.τ).loc Cert.MlpReferenceIdeal.main_arg0) = m ((c.tc : Thread Cert.MlpReferenceIdeal.nD Cert.MlpReferenceIdeal.τ).loc Cert.MlpReferenceIdeal.main_arg0)
      ∧ r.2.mem ((c.tc : Thread Cert.MlpReferenceIdeal.nD Cert.MlpReferenceIdeal.τ).loc Cert.MlpReferenceIdeal.main_arg1) = m ((c.tc : Thread Cert.MlpReferenceIdeal.nD Cert.MlpReferenceIdeal.τ).loc Cert.MlpReferenceIdeal.main_arg1)
      ∧ r.2.mem ((c.tc : Thread Cert.MlpReferenceIdeal.nD Cert.MlpReferenceIdeal.τ).loc Cert.MlpReferenceIdeal.main_arg2) = m ((c.tc : Thread Cert.MlpReferenceIdeal.nD Cert.MlpReferenceIdeal.τ).loc Cert.MlpReferenceIdeal.main_arg2)
      ∧ r.2.mem ((c.tc : Thread Cert.MlpReferenceIdeal.nD Cert.MlpReferenceIdeal.τ).loc Cert.MlpReferenceIdeal.main_arg3) = m ((c.tc : Thread Cert.MlpReferenceIdeal.nD Cert.MlpReferenceIdeal.τ).loc Cert.MlpReferenceIdeal.main_arg3)
      ∧ r.2.mem ((c.tc : Thread Cert.MlpReferenceIdeal.nD Cert.MlpReferenceIdeal.τ).loc Cert.MlpReferenceIdeal.main_arg4) = m ((c.tc : Thread Cert.MlpReferenceIdeal.nD Cert.MlpReferenceIdeal.τ).loc Cert.MlpReferenceIdeal.main_arg4)
      ∧ r.2.mem ((c.tc : Thread Cert.MlpReferenceIdeal.nD Cert.MlpReferenceIdeal.τ).loc Cert.MlpReferenceIdeal.main_arg5) = m ((c.tc : Thread Cert.MlpReferenceIdeal.nD Cert.MlpReferenceIdeal.τ).loc Cert.MlpReferenceIdeal.main_arg5))
      ∧ r.2.sem = fun _ => 0)

def quiescent_Mlp0 [hMlp0 : Cert.Mlp0.Facts] : Prop :=
  ∀ (m : (ℓ : Loc Cert.Mlp0.nD Cert.Mlp0.τ Cert.Mlp0.sig) → Buf (Elt Bits) ℓ) (g : Dev Cert.Mlp0.nD → PrngReg), Pre_Mlp0 m →
    θ_run (Cert.Mlp0.defs (F := Bits)) (onTc (τ := Cert.Mlp0.τ) (Cert.Mlp0.main (F := Bits))) ⟨m, fun _ => 0, g⟩ (fun r => (∀ c : Dev Cert.Mlp0.nD,
      r.2.mem ((c.tc : Thread Cert.Mlp0.nD Cert.Mlp0.τ).loc Cert.Mlp0.main_arg0) = m ((c.tc : Thread Cert.Mlp0.nD Cert.Mlp0.τ).loc Cert.Mlp0.main_arg0)
      ∧ r.2.mem ((c.tc : Thread Cert.Mlp0.nD Cert.Mlp0.τ).loc Cert.Mlp0.main_arg1) = m ((c.tc : Thread Cert.Mlp0.nD Cert.Mlp0.τ).loc Cert.Mlp0.main_arg1)
      ∧ r.2.mem ((c.tc : Thread Cert.Mlp0.nD Cert.Mlp0.τ).loc Cert.Mlp0.main_arg2) = m ((c.tc : Thread Cert.Mlp0.nD Cert.Mlp0.τ).loc Cert.Mlp0.main_arg2)
      ∧ r.2.mem ((c.tc : Thread Cert.Mlp0.nD Cert.Mlp0.τ).loc Cert.Mlp0.main_arg3) = m ((c.tc : Thread Cert.Mlp0.nD Cert.Mlp0.τ).loc Cert.Mlp0.main_arg3)
      ∧ r.2.mem ((c.tc : Thread Cert.Mlp0.nD Cert.Mlp0.τ).loc Cert.Mlp0.main_arg4) = m ((c.tc : Thread Cert.Mlp0.nD Cert.Mlp0.τ).loc Cert.Mlp0.main_arg4))
      ∧ r.2.sem = fun _ => 0)

def quiescent_Mlp0Ideal [hMlp0Ideal : Cert.Mlp0Ideal.Facts] : Prop :=
  ∀ (m : (ℓ : Loc Cert.Mlp0Ideal.nD Cert.Mlp0Ideal.τ Cert.Mlp0Ideal.sig) → Buf (Elt Ideal) ℓ) (g : Dev Cert.Mlp0Ideal.nD → PrngReg), Pre_Mlp0Ideal m →
    θ_run (Cert.Mlp0Ideal.defs (F := Ideal)) (onTc (τ := Cert.Mlp0Ideal.τ) (Cert.Mlp0Ideal.main (F := Ideal))) ⟨m, fun _ => 0, g⟩ (fun r => (∀ c : Dev Cert.Mlp0Ideal.nD,
      r.2.mem ((c.tc : Thread Cert.Mlp0Ideal.nD Cert.Mlp0Ideal.τ).loc Cert.Mlp0Ideal.main_arg0) = m ((c.tc : Thread Cert.Mlp0Ideal.nD Cert.Mlp0Ideal.τ).loc Cert.Mlp0Ideal.main_arg0)
      ∧ r.2.mem ((c.tc : Thread Cert.Mlp0Ideal.nD Cert.Mlp0Ideal.τ).loc Cert.Mlp0Ideal.main_arg1) = m ((c.tc : Thread Cert.Mlp0Ideal.nD Cert.Mlp0Ideal.τ).loc Cert.Mlp0Ideal.main_arg1)
      ∧ r.2.mem ((c.tc : Thread Cert.Mlp0Ideal.nD Cert.Mlp0Ideal.τ).loc Cert.Mlp0Ideal.main_arg2) = m ((c.tc : Thread Cert.Mlp0Ideal.nD Cert.Mlp0Ideal.τ).loc Cert.Mlp0Ideal.main_arg2)
      ∧ r.2.mem ((c.tc : Thread Cert.Mlp0Ideal.nD Cert.Mlp0Ideal.τ).loc Cert.Mlp0Ideal.main_arg3) = m ((c.tc : Thread Cert.Mlp0Ideal.nD Cert.Mlp0Ideal.τ).loc Cert.Mlp0Ideal.main_arg3)
      ∧ r.2.mem ((c.tc : Thread Cert.Mlp0Ideal.nD Cert.Mlp0Ideal.τ).loc Cert.Mlp0Ideal.main_arg4) = m ((c.tc : Thread Cert.Mlp0Ideal.nD Cert.Mlp0Ideal.τ).loc Cert.Mlp0Ideal.main_arg4))
      ∧ r.2.sem = fun _ => 0)

def quiescent_Mlp0ReferenceIdeal [hMlp0ReferenceIdeal : Cert.Mlp0ReferenceIdeal.Facts] : Prop :=
  ∀ (m : (ℓ : Loc Cert.Mlp0ReferenceIdeal.nD Cert.Mlp0ReferenceIdeal.τ Cert.Mlp0ReferenceIdeal.sig) → Buf (Elt Ideal) ℓ) (g : Dev Cert.Mlp0ReferenceIdeal.nD → PrngReg), Pre_Mlp0ReferenceIdeal m →
    θ_run (Cert.Mlp0ReferenceIdeal.defs (F := Ideal)) (onTc (τ := Cert.Mlp0ReferenceIdeal.τ) (Cert.Mlp0ReferenceIdeal.main (F := Ideal))) ⟨m, fun _ => 0, g⟩ (fun r => (∀ c : Dev Cert.Mlp0ReferenceIdeal.nD,
      r.2.mem ((c.tc : Thread Cert.Mlp0ReferenceIdeal.nD Cert.Mlp0ReferenceIdeal.τ).loc Cert.Mlp0ReferenceIdeal.main_arg0) = m ((c.tc : Thread Cert.Mlp0ReferenceIdeal.nD Cert.Mlp0ReferenceIdeal.τ).loc Cert.Mlp0ReferenceIdeal.main_arg0)
      ∧ r.2.mem ((c.tc : Thread Cert.Mlp0ReferenceIdeal.nD Cert.Mlp0ReferenceIdeal.τ).loc Cert.Mlp0ReferenceIdeal.main_arg1) = m ((c.tc : Thread Cert.Mlp0ReferenceIdeal.nD Cert.Mlp0ReferenceIdeal.τ).loc Cert.Mlp0ReferenceIdeal.main_arg1)
      ∧ r.2.mem ((c.tc : Thread Cert.Mlp0ReferenceIdeal.nD Cert.Mlp0ReferenceIdeal.τ).loc Cert.Mlp0ReferenceIdeal.main_arg2) = m ((c.tc : Thread Cert.Mlp0ReferenceIdeal.nD Cert.Mlp0ReferenceIdeal.τ).loc Cert.Mlp0ReferenceIdeal.main_arg2)
      ∧ r.2.mem ((c.tc : Thread Cert.Mlp0ReferenceIdeal.nD Cert.Mlp0ReferenceIdeal.τ).loc Cert.Mlp0ReferenceIdeal.main_arg3) = m ((c.tc : Thread Cert.Mlp0ReferenceIdeal.nD Cert.Mlp0ReferenceIdeal.τ).loc Cert.Mlp0ReferenceIdeal.main_arg3)
      ∧ r.2.mem ((c.tc : Thread Cert.Mlp0ReferenceIdeal.nD Cert.Mlp0ReferenceIdeal.τ).loc Cert.Mlp0ReferenceIdeal.main_arg4) = m ((c.tc : Thread Cert.Mlp0ReferenceIdeal.nD Cert.Mlp0ReferenceIdeal.τ).loc Cert.Mlp0ReferenceIdeal.main_arg4))
      ∧ r.2.sem = fun _ => 0)

def quiescent_RetOut [hRetOut : Cert.RetOut.Facts] : Prop :=
  ∀ (m : (ℓ : Loc Cert.RetOut.nD Cert.RetOut.τ Cert.RetOut.sig) → Buf (Elt Bits) ℓ) (g : Dev Cert.RetOut.nD → PrngReg), Pre_RetOut m →
    θ_run (Cert.RetOut.defs (F := Bits)) (onTc (τ := Cert.RetOut.τ) (Cert.RetOut.main (F := Bits))) ⟨m, fun _ => 0, g⟩ (fun r => (∀ c : Dev Cert.RetOut.nD,
      r.2.mem ((c.tc : Thread Cert.RetOut.nD Cert.RetOut.τ).loc Cert.RetOut.main_arg0) = m ((c.tc : Thread Cert.RetOut.nD Cert.RetOut.τ).loc Cert.RetOut.main_arg0)
      ∧ r.2.mem ((c.tc : Thread Cert.RetOut.nD Cert.RetOut.τ).loc Cert.RetOut.main_arg1) = m ((c.tc : Thread Cert.RetOut.nD Cert.RetOut.τ).loc Cert.RetOut.main_arg1)
      ∧ r.2.mem ((c.tc : Thread Cert.RetOut.nD Cert.RetOut.τ).loc Cert.RetOut.main_arg2) = m ((c.tc : Thread Cert.RetOut.nD Cert.RetOut.τ).loc Cert.RetOut.main_arg2)
      ∧ r.2.mem ((c.tc : Thread Cert.RetOut.nD Cert.RetOut.τ).loc Cert.RetOut.main_arg3) = m ((c.tc : Thread Cert.RetOut.nD Cert.RetOut.τ).loc Cert.RetOut.main_arg3))
      ∧ r.2.sem = fun _ => 0)

def quiescent_RetOutIdeal [hRetOutIdeal : Cert.RetOutIdeal.Facts] : Prop :=
  ∀ (m : (ℓ : Loc Cert.RetOutIdeal.nD Cert.RetOutIdeal.τ Cert.RetOutIdeal.sig) → Buf (Elt Ideal) ℓ) (g : Dev Cert.RetOutIdeal.nD → PrngReg), Pre_RetOutIdeal m →
    θ_run (Cert.RetOutIdeal.defs (F := Ideal)) (onTc (τ := Cert.RetOutIdeal.τ) (Cert.RetOutIdeal.main (F := Ideal))) ⟨m, fun _ => 0, g⟩ (fun r => (∀ c : Dev Cert.RetOutIdeal.nD,
      r.2.mem ((c.tc : Thread Cert.RetOutIdeal.nD Cert.RetOutIdeal.τ).loc Cert.RetOutIdeal.main_arg0) = m ((c.tc : Thread Cert.RetOutIdeal.nD Cert.RetOutIdeal.τ).loc Cert.RetOutIdeal.main_arg0)
      ∧ r.2.mem ((c.tc : Thread Cert.RetOutIdeal.nD Cert.RetOutIdeal.τ).loc Cert.RetOutIdeal.main_arg1) = m ((c.tc : Thread Cert.RetOutIdeal.nD Cert.RetOutIdeal.τ).loc Cert.RetOutIdeal.main_arg1)
      ∧ r.2.mem ((c.tc : Thread Cert.RetOutIdeal.nD Cert.RetOutIdeal.τ).loc Cert.RetOutIdeal.main_arg2) = m ((c.tc : Thread Cert.RetOutIdeal.nD Cert.RetOutIdeal.τ).loc Cert.RetOutIdeal.main_arg2)
      ∧ r.2.mem ((c.tc : Thread Cert.RetOutIdeal.nD Cert.RetOutIdeal.τ).loc Cert.RetOutIdeal.main_arg3) = m ((c.tc : Thread Cert.RetOutIdeal.nD Cert.RetOutIdeal.τ).loc Cert.RetOutIdeal.main_arg3))
      ∧ r.2.sem = fun _ => 0)

def quiescent_RetOutReferenceIdeal [hRetOutReferenceIdeal : Cert.RetOutReferenceIdeal.Facts] : Prop :=
  ∀ (m : (ℓ : Loc Cert.RetOutReferenceIdeal.nD Cert.RetOutReferenceIdeal.τ Cert.RetOutReferenceIdeal.sig) → Buf (Elt Ideal) ℓ) (g : Dev Cert.RetOutReferenceIdeal.nD → PrngReg), Pre_RetOutReferenceIdeal m →
    θ_run (Cert.RetOutReferenceIdeal.defs (F := Ideal)) (onTc (τ := Cert.RetOutReferenceIdeal.τ) (Cert.RetOutReferenceIdeal.main (F := Ideal))) ⟨m, fun _ => 0, g⟩ (fun r => (∀ c : Dev Cert.RetOutReferenceIdeal.nD,
      r.2.mem ((c.tc : Thread Cert.RetOutReferenceIdeal.nD Cert.RetOutReferenceIdeal.τ).loc Cert.RetOutReferenceIdeal.main_arg0) = m ((c.tc : Thread Cert.RetOutReferenceIdeal.nD Cert.RetOutReferenceIdeal.τ).loc Cert.RetOutReferenceIdeal.main_arg0)
      ∧ r.2.mem ((c.tc : Thread Cert.RetOutReferenceIdeal.nD Cert.RetOutReferenceIdeal.τ).loc Cert.RetOutReferenceIdeal.main_arg1) = m ((c.tc : Thread Cert.RetOutReferenceIdeal.nD Cert.RetOutReferenceIdeal.τ).loc Cert.RetOutReferenceIdeal.main_arg1)
      ∧ r.2.mem ((c.tc : Thread Cert.RetOutReferenceIdeal.nD Cert.RetOutReferenceIdeal.τ).loc Cert.RetOutReferenceIdeal.main_arg2) = m ((c.tc : Thread Cert.RetOutReferenceIdeal.nD Cert.RetOutReferenceIdeal.τ).loc Cert.RetOutReferenceIdeal.main_arg2)
      ∧ r.2.mem ((c.tc : Thread Cert.RetOutReferenceIdeal.nD Cert.RetOutReferenceIdeal.τ).loc Cert.RetOutReferenceIdeal.main_arg3) = m ((c.tc : Thread Cert.RetOutReferenceIdeal.nD Cert.RetOutReferenceIdeal.τ).loc Cert.RetOutReferenceIdeal.main_arg3))
      ∧ r.2.sem = fun _ => 0)

def quiescent_AttnOut [hAttnOut : Cert.AttnOut.Facts] : Prop :=
  ∀ (m : (ℓ : Loc Cert.AttnOut.nD Cert.AttnOut.τ Cert.AttnOut.sig) → Buf (Elt Bits) ℓ) (g : Dev Cert.AttnOut.nD → PrngReg), Pre_AttnOut m →
    θ_run (Cert.AttnOut.defs (F := Bits)) (onTc (τ := Cert.AttnOut.τ) (Cert.AttnOut.main (F := Bits))) ⟨m, fun _ => 0, g⟩ (fun r => (∀ c : Dev Cert.AttnOut.nD,
      r.2.mem ((c.tc : Thread Cert.AttnOut.nD Cert.AttnOut.τ).loc Cert.AttnOut.main_arg0) = m ((c.tc : Thread Cert.AttnOut.nD Cert.AttnOut.τ).loc Cert.AttnOut.main_arg0)
      ∧ r.2.mem ((c.tc : Thread Cert.AttnOut.nD Cert.AttnOut.τ).loc Cert.AttnOut.main_arg1) = m ((c.tc : Thread Cert.AttnOut.nD Cert.AttnOut.τ).loc Cert.AttnOut.main_arg1)
      ∧ r.2.mem ((c.tc : Thread Cert.AttnOut.nD Cert.AttnOut.τ).loc Cert.AttnOut.main_arg2) = m ((c.tc : Thread Cert.AttnOut.nD Cert.AttnOut.τ).loc Cert.AttnOut.main_arg2)
      ∧ r.2.mem ((c.tc : Thread Cert.AttnOut.nD Cert.AttnOut.τ).loc Cert.AttnOut.main_arg3) = m ((c.tc : Thread Cert.AttnOut.nD Cert.AttnOut.τ).loc Cert.AttnOut.main_arg3))
      ∧ r.2.sem = fun _ => 0)

def quiescent_AttnOutIdeal [hAttnOutIdeal : Cert.AttnOutIdeal.Facts] : Prop :=
  ∀ (m : (ℓ : Loc Cert.AttnOutIdeal.nD Cert.AttnOutIdeal.τ Cert.AttnOutIdeal.sig) → Buf (Elt Ideal) ℓ) (g : Dev Cert.AttnOutIdeal.nD → PrngReg), Pre_AttnOutIdeal m →
    θ_run (Cert.AttnOutIdeal.defs (F := Ideal)) (onTc (τ := Cert.AttnOutIdeal.τ) (Cert.AttnOutIdeal.main (F := Ideal))) ⟨m, fun _ => 0, g⟩ (fun r => (∀ c : Dev Cert.AttnOutIdeal.nD,
      r.2.mem ((c.tc : Thread Cert.AttnOutIdeal.nD Cert.AttnOutIdeal.τ).loc Cert.AttnOutIdeal.main_arg0) = m ((c.tc : Thread Cert.AttnOutIdeal.nD Cert.AttnOutIdeal.τ).loc Cert.AttnOutIdeal.main_arg0)
      ∧ r.2.mem ((c.tc : Thread Cert.AttnOutIdeal.nD Cert.AttnOutIdeal.τ).loc Cert.AttnOutIdeal.main_arg1) = m ((c.tc : Thread Cert.AttnOutIdeal.nD Cert.AttnOutIdeal.τ).loc Cert.AttnOutIdeal.main_arg1)
      ∧ r.2.mem ((c.tc : Thread Cert.AttnOutIdeal.nD Cert.AttnOutIdeal.τ).loc Cert.AttnOutIdeal.main_arg2) = m ((c.tc : Thread Cert.AttnOutIdeal.nD Cert.AttnOutIdeal.τ).loc Cert.AttnOutIdeal.main_arg2)
      ∧ r.2.mem ((c.tc : Thread Cert.AttnOutIdeal.nD Cert.AttnOutIdeal.τ).loc Cert.AttnOutIdeal.main_arg3) = m ((c.tc : Thread Cert.AttnOutIdeal.nD Cert.AttnOutIdeal.τ).loc Cert.AttnOutIdeal.main_arg3))
      ∧ r.2.sem = fun _ => 0)

def quiescent_AttnOutReferenceIdeal [hAttnOutReferenceIdeal : Cert.AttnOutReferenceIdeal.Facts] : Prop :=
  ∀ (m : (ℓ : Loc Cert.AttnOutReferenceIdeal.nD Cert.AttnOutReferenceIdeal.τ Cert.AttnOutReferenceIdeal.sig) → Buf (Elt Ideal) ℓ) (g : Dev Cert.AttnOutReferenceIdeal.nD → PrngReg), Pre_AttnOutReferenceIdeal m →
    θ_run (Cert.AttnOutReferenceIdeal.defs (F := Ideal)) (onTc (τ := Cert.AttnOutReferenceIdeal.τ) (Cert.AttnOutReferenceIdeal.main (F := Ideal))) ⟨m, fun _ => 0, g⟩ (fun r => (∀ c : Dev Cert.AttnOutReferenceIdeal.nD,
      r.2.mem ((c.tc : Thread Cert.AttnOutReferenceIdeal.nD Cert.AttnOutReferenceIdeal.τ).loc Cert.AttnOutReferenceIdeal.main_arg0) = m ((c.tc : Thread Cert.AttnOutReferenceIdeal.nD Cert.AttnOutReferenceIdeal.τ).loc Cert.AttnOutReferenceIdeal.main_arg0)
      ∧ r.2.mem ((c.tc : Thread Cert.AttnOutReferenceIdeal.nD Cert.AttnOutReferenceIdeal.τ).loc Cert.AttnOutReferenceIdeal.main_arg1) = m ((c.tc : Thread Cert.AttnOutReferenceIdeal.nD Cert.AttnOutReferenceIdeal.τ).loc Cert.AttnOutReferenceIdeal.main_arg1)
      ∧ r.2.mem ((c.tc : Thread Cert.AttnOutReferenceIdeal.nD Cert.AttnOutReferenceIdeal.τ).loc Cert.AttnOutReferenceIdeal.main_arg2) = m ((c.tc : Thread Cert.AttnOutReferenceIdeal.nD Cert.AttnOutReferenceIdeal.τ).loc Cert.AttnOutReferenceIdeal.main_arg2)
      ∧ r.2.mem ((c.tc : Thread Cert.AttnOutReferenceIdeal.nD Cert.AttnOutReferenceIdeal.τ).loc Cert.AttnOutReferenceIdeal.main_arg3) = m ((c.tc : Thread Cert.AttnOutReferenceIdeal.nD Cert.AttnOutReferenceIdeal.τ).loc Cert.AttnOutReferenceIdeal.main_arg3))
      ∧ r.2.sem = fun _ => 0)

def quiescent_RetProj [hRetProj : Cert.RetProj.Facts] : Prop :=
  ∀ (m : (ℓ : Loc Cert.RetProj.nD Cert.RetProj.τ Cert.RetProj.sig) → Buf (Elt Bits) ℓ) (g : Dev Cert.RetProj.nD → PrngReg), Pre_RetProj m →
    θ_run (Cert.RetProj.defs (F := Bits)) (onTc (τ := Cert.RetProj.τ) (Cert.RetProj.main (F := Bits))) ⟨m, fun _ => 0, g⟩ (fun r => (∀ c : Dev Cert.RetProj.nD,
      r.2.mem ((c.tc : Thread Cert.RetProj.nD Cert.RetProj.τ).loc Cert.RetProj.main_arg0) = m ((c.tc : Thread Cert.RetProj.nD Cert.RetProj.τ).loc Cert.RetProj.main_arg0)
      ∧ r.2.mem ((c.tc : Thread Cert.RetProj.nD Cert.RetProj.τ).loc Cert.RetProj.main_arg1) = m ((c.tc : Thread Cert.RetProj.nD Cert.RetProj.τ).loc Cert.RetProj.main_arg1)
      ∧ r.2.mem ((c.tc : Thread Cert.RetProj.nD Cert.RetProj.τ).loc Cert.RetProj.main_arg2) = m ((c.tc : Thread Cert.RetProj.nD Cert.RetProj.τ).loc Cert.RetProj.main_arg2)
      ∧ r.2.mem ((c.tc : Thread Cert.RetProj.nD Cert.RetProj.τ).loc Cert.RetProj.main_arg3) = m ((c.tc : Thread Cert.RetProj.nD Cert.RetProj.τ).loc Cert.RetProj.main_arg3))
      ∧ r.2.sem = fun _ => 0)

def quiescent_RetProjIdeal [hRetProjIdeal : Cert.RetProjIdeal.Facts] : Prop :=
  ∀ (m : (ℓ : Loc Cert.RetProjIdeal.nD Cert.RetProjIdeal.τ Cert.RetProjIdeal.sig) → Buf (Elt Ideal) ℓ) (g : Dev Cert.RetProjIdeal.nD → PrngReg), Pre_RetProjIdeal m →
    θ_run (Cert.RetProjIdeal.defs (F := Ideal)) (onTc (τ := Cert.RetProjIdeal.τ) (Cert.RetProjIdeal.main (F := Ideal))) ⟨m, fun _ => 0, g⟩ (fun r => (∀ c : Dev Cert.RetProjIdeal.nD,
      r.2.mem ((c.tc : Thread Cert.RetProjIdeal.nD Cert.RetProjIdeal.τ).loc Cert.RetProjIdeal.main_arg0) = m ((c.tc : Thread Cert.RetProjIdeal.nD Cert.RetProjIdeal.τ).loc Cert.RetProjIdeal.main_arg0)
      ∧ r.2.mem ((c.tc : Thread Cert.RetProjIdeal.nD Cert.RetProjIdeal.τ).loc Cert.RetProjIdeal.main_arg1) = m ((c.tc : Thread Cert.RetProjIdeal.nD Cert.RetProjIdeal.τ).loc Cert.RetProjIdeal.main_arg1)
      ∧ r.2.mem ((c.tc : Thread Cert.RetProjIdeal.nD Cert.RetProjIdeal.τ).loc Cert.RetProjIdeal.main_arg2) = m ((c.tc : Thread Cert.RetProjIdeal.nD Cert.RetProjIdeal.τ).loc Cert.RetProjIdeal.main_arg2)
      ∧ r.2.mem ((c.tc : Thread Cert.RetProjIdeal.nD Cert.RetProjIdeal.τ).loc Cert.RetProjIdeal.main_arg3) = m ((c.tc : Thread Cert.RetProjIdeal.nD Cert.RetProjIdeal.τ).loc Cert.RetProjIdeal.main_arg3))
      ∧ r.2.sem = fun _ => 0)

def quiescent_RetProjReferenceIdeal [hRetProjReferenceIdeal : Cert.RetProjReferenceIdeal.Facts] : Prop :=
  ∀ (m : (ℓ : Loc Cert.RetProjReferenceIdeal.nD Cert.RetProjReferenceIdeal.τ Cert.RetProjReferenceIdeal.sig) → Buf (Elt Ideal) ℓ) (g : Dev Cert.RetProjReferenceIdeal.nD → PrngReg), Pre_RetProjReferenceIdeal m →
    θ_run (Cert.RetProjReferenceIdeal.defs (F := Ideal)) (onTc (τ := Cert.RetProjReferenceIdeal.τ) (Cert.RetProjReferenceIdeal.main (F := Ideal))) ⟨m, fun _ => 0, g⟩ (fun r => (∀ c : Dev Cert.RetProjReferenceIdeal.nD,
      r.2.mem ((c.tc : Thread Cert.RetProjReferenceIdeal.nD Cert.RetProjReferenceIdeal.τ).loc Cert.RetProjReferenceIdeal.main_arg0) = m ((c.tc : Thread Cert.RetProjReferenceIdeal.nD Cert.RetProjReferenceIdeal.τ).loc Cert.RetProjReferenceIdeal.main_arg0)
      ∧ r.2.mem ((c.tc : Thread Cert.RetProjReferenceIdeal.nD Cert.RetProjReferenceIdeal.τ).loc Cert.RetProjReferenceIdeal.main_arg1) = m ((c.tc : Thread Cert.RetProjReferenceIdeal.nD Cert.RetProjReferenceIdeal.τ).loc Cert.RetProjReferenceIdeal.main_arg1)
      ∧ r.2.mem ((c.tc : Thread Cert.RetProjReferenceIdeal.nD Cert.RetProjReferenceIdeal.τ).loc Cert.RetProjReferenceIdeal.main_arg2) = m ((c.tc : Thread Cert.RetProjReferenceIdeal.nD Cert.RetProjReferenceIdeal.τ).loc Cert.RetProjReferenceIdeal.main_arg2)
      ∧ r.2.mem ((c.tc : Thread Cert.RetProjReferenceIdeal.nD Cert.RetProjReferenceIdeal.τ).loc Cert.RetProjReferenceIdeal.main_arg3) = m ((c.tc : Thread Cert.RetProjReferenceIdeal.nD Cert.RetProjReferenceIdeal.τ).loc Cert.RetProjReferenceIdeal.main_arg3))
      ∧ r.2.sem = fun _ => 0)

def quiescent_AttnProj [hAttnProj : Cert.AttnProj.Facts] : Prop :=
  ∀ (m : (ℓ : Loc Cert.AttnProj.nD Cert.AttnProj.τ Cert.AttnProj.sig) → Buf (Elt Bits) ℓ) (g : Dev Cert.AttnProj.nD → PrngReg), Pre_AttnProj m →
    θ_run (Cert.AttnProj.defs (F := Bits)) (onTc (τ := Cert.AttnProj.τ) (Cert.AttnProj.main (F := Bits))) ⟨m, fun _ => 0, g⟩ (fun r => (∀ c : Dev Cert.AttnProj.nD,
      r.2.mem ((c.tc : Thread Cert.AttnProj.nD Cert.AttnProj.τ).loc Cert.AttnProj.main_arg0) = m ((c.tc : Thread Cert.AttnProj.nD Cert.AttnProj.τ).loc Cert.AttnProj.main_arg0)
      ∧ r.2.mem ((c.tc : Thread Cert.AttnProj.nD Cert.AttnProj.τ).loc Cert.AttnProj.main_arg1) = m ((c.tc : Thread Cert.AttnProj.nD Cert.AttnProj.τ).loc Cert.AttnProj.main_arg1)
      ∧ r.2.mem ((c.tc : Thread Cert.AttnProj.nD Cert.AttnProj.τ).loc Cert.AttnProj.main_arg2) = m ((c.tc : Thread Cert.AttnProj.nD Cert.AttnProj.τ).loc Cert.AttnProj.main_arg2)
      ∧ r.2.mem ((c.tc : Thread Cert.AttnProj.nD Cert.AttnProj.τ).loc Cert.AttnProj.main_arg3) = m ((c.tc : Thread Cert.AttnProj.nD Cert.AttnProj.τ).loc Cert.AttnProj.main_arg3))
      ∧ r.2.sem = fun _ => 0)

def quiescent_AttnProjIdeal [hAttnProjIdeal : Cert.AttnProjIdeal.Facts] : Prop :=
  ∀ (m : (ℓ : Loc Cert.AttnProjIdeal.nD Cert.AttnProjIdeal.τ Cert.AttnProjIdeal.sig) → Buf (Elt Ideal) ℓ) (g : Dev Cert.AttnProjIdeal.nD → PrngReg), Pre_AttnProjIdeal m →
    θ_run (Cert.AttnProjIdeal.defs (F := Ideal)) (onTc (τ := Cert.AttnProjIdeal.τ) (Cert.AttnProjIdeal.main (F := Ideal))) ⟨m, fun _ => 0, g⟩ (fun r => (∀ c : Dev Cert.AttnProjIdeal.nD,
      r.2.mem ((c.tc : Thread Cert.AttnProjIdeal.nD Cert.AttnProjIdeal.τ).loc Cert.AttnProjIdeal.main_arg0) = m ((c.tc : Thread Cert.AttnProjIdeal.nD Cert.AttnProjIdeal.τ).loc Cert.AttnProjIdeal.main_arg0)
      ∧ r.2.mem ((c.tc : Thread Cert.AttnProjIdeal.nD Cert.AttnProjIdeal.τ).loc Cert.AttnProjIdeal.main_arg1) = m ((c.tc : Thread Cert.AttnProjIdeal.nD Cert.AttnProjIdeal.τ).loc Cert.AttnProjIdeal.main_arg1)
      ∧ r.2.mem ((c.tc : Thread Cert.AttnProjIdeal.nD Cert.AttnProjIdeal.τ).loc Cert.AttnProjIdeal.main_arg2) = m ((c.tc : Thread Cert.AttnProjIdeal.nD Cert.AttnProjIdeal.τ).loc Cert.AttnProjIdeal.main_arg2)
      ∧ r.2.mem ((c.tc : Thread Cert.AttnProjIdeal.nD Cert.AttnProjIdeal.τ).loc Cert.AttnProjIdeal.main_arg3) = m ((c.tc : Thread Cert.AttnProjIdeal.nD Cert.AttnProjIdeal.τ).loc Cert.AttnProjIdeal.main_arg3))
      ∧ r.2.sem = fun _ => 0)

def quiescent_AttnProjReferenceIdeal [hAttnProjReferenceIdeal : Cert.AttnProjReferenceIdeal.Facts] : Prop :=
  ∀ (m : (ℓ : Loc Cert.AttnProjReferenceIdeal.nD Cert.AttnProjReferenceIdeal.τ Cert.AttnProjReferenceIdeal.sig) → Buf (Elt Ideal) ℓ) (g : Dev Cert.AttnProjReferenceIdeal.nD → PrngReg), Pre_AttnProjReferenceIdeal m →
    θ_run (Cert.AttnProjReferenceIdeal.defs (F := Ideal)) (onTc (τ := Cert.AttnProjReferenceIdeal.τ) (Cert.AttnProjReferenceIdeal.main (F := Ideal))) ⟨m, fun _ => 0, g⟩ (fun r => (∀ c : Dev Cert.AttnProjReferenceIdeal.nD,
      r.2.mem ((c.tc : Thread Cert.AttnProjReferenceIdeal.nD Cert.AttnProjReferenceIdeal.τ).loc Cert.AttnProjReferenceIdeal.main_arg0) = m ((c.tc : Thread Cert.AttnProjReferenceIdeal.nD Cert.AttnProjReferenceIdeal.τ).loc Cert.AttnProjReferenceIdeal.main_arg0)
      ∧ r.2.mem ((c.tc : Thread Cert.AttnProjReferenceIdeal.nD Cert.AttnProjReferenceIdeal.τ).loc Cert.AttnProjReferenceIdeal.main_arg1) = m ((c.tc : Thread Cert.AttnProjReferenceIdeal.nD Cert.AttnProjReferenceIdeal.τ).loc Cert.AttnProjReferenceIdeal.main_arg1)
      ∧ r.2.mem ((c.tc : Thread Cert.AttnProjReferenceIdeal.nD Cert.AttnProjReferenceIdeal.τ).loc Cert.AttnProjReferenceIdeal.main_arg2) = m ((c.tc : Thread Cert.AttnProjReferenceIdeal.nD Cert.AttnProjReferenceIdeal.τ).loc Cert.AttnProjReferenceIdeal.main_arg2)
      ∧ r.2.mem ((c.tc : Thread Cert.AttnProjReferenceIdeal.nD Cert.AttnProjReferenceIdeal.τ).loc Cert.AttnProjReferenceIdeal.main_arg3) = m ((c.tc : Thread Cert.AttnProjReferenceIdeal.nD Cert.AttnProjReferenceIdeal.τ).loc Cert.AttnProjReferenceIdeal.main_arg3))
      ∧ r.2.sem = fun _ => 0)

def quiescent_Mlp0Ctx [hMlp0Ctx : Cert.Mlp0Ctx.Facts] : Prop :=
  ∀ (m : (ℓ : Loc Cert.Mlp0Ctx.nD Cert.Mlp0Ctx.τ Cert.Mlp0Ctx.sig) → Buf (Elt Bits) ℓ) (g : Dev Cert.Mlp0Ctx.nD → PrngReg), Pre_Mlp0Ctx m →
    θ_run (Cert.Mlp0Ctx.defs (F := Bits)) (onTc (τ := Cert.Mlp0Ctx.τ) (Cert.Mlp0Ctx.main (F := Bits))) ⟨m, fun _ => 0, g⟩ (fun r => (∀ c : Dev Cert.Mlp0Ctx.nD,
      r.2.mem ((c.tc : Thread Cert.Mlp0Ctx.nD Cert.Mlp0Ctx.τ).loc Cert.Mlp0Ctx.main_arg0) = m ((c.tc : Thread Cert.Mlp0Ctx.nD Cert.Mlp0Ctx.τ).loc Cert.Mlp0Ctx.main_arg0)
      ∧ r.2.mem ((c.tc : Thread Cert.Mlp0Ctx.nD Cert.Mlp0Ctx.τ).loc Cert.Mlp0Ctx.main_arg1) = m ((c.tc : Thread Cert.Mlp0Ctx.nD Cert.Mlp0Ctx.τ).loc Cert.Mlp0Ctx.main_arg1)
      ∧ r.2.mem ((c.tc : Thread Cert.Mlp0Ctx.nD Cert.Mlp0Ctx.τ).loc Cert.Mlp0Ctx.main_arg2) = m ((c.tc : Thread Cert.Mlp0Ctx.nD Cert.Mlp0Ctx.τ).loc Cert.Mlp0Ctx.main_arg2)
      ∧ r.2.mem ((c.tc : Thread Cert.Mlp0Ctx.nD Cert.Mlp0Ctx.τ).loc Cert.Mlp0Ctx.main_arg3) = m ((c.tc : Thread Cert.Mlp0Ctx.nD Cert.Mlp0Ctx.τ).loc Cert.Mlp0Ctx.main_arg3)
      ∧ r.2.mem ((c.tc : Thread Cert.Mlp0Ctx.nD Cert.Mlp0Ctx.τ).loc Cert.Mlp0Ctx.main_arg4) = m ((c.tc : Thread Cert.Mlp0Ctx.nD Cert.Mlp0Ctx.τ).loc Cert.Mlp0Ctx.main_arg4))
      ∧ r.2.sem = fun _ => 0)

def quiescent_Mlp0CtxIdeal [hMlp0CtxIdeal : Cert.Mlp0CtxIdeal.Facts] : Prop :=
  ∀ (m : (ℓ : Loc Cert.Mlp0CtxIdeal.nD Cert.Mlp0CtxIdeal.τ Cert.Mlp0CtxIdeal.sig) → Buf (Elt Ideal) ℓ) (g : Dev Cert.Mlp0CtxIdeal.nD → PrngReg), Pre_Mlp0CtxIdeal m →
    θ_run (Cert.Mlp0CtxIdeal.defs (F := Ideal)) (onTc (τ := Cert.Mlp0CtxIdeal.τ) (Cert.Mlp0CtxIdeal.main (F := Ideal))) ⟨m, fun _ => 0, g⟩ (fun r => (∀ c : Dev Cert.Mlp0CtxIdeal.nD,
      r.2.mem ((c.tc : Thread Cert.Mlp0CtxIdeal.nD Cert.Mlp0CtxIdeal.τ).loc Cert.Mlp0CtxIdeal.main_arg0) = m ((c.tc : Thread Cert.Mlp0CtxIdeal.nD Cert.Mlp0CtxIdeal.τ).loc Cert.Mlp0CtxIdeal.main_arg0)
      ∧ r.2.mem ((c.tc : Thread Cert.Mlp0CtxIdeal.nD Cert.Mlp0CtxIdeal.τ).loc Cert.Mlp0CtxIdeal.main_arg1) = m ((c.tc : Thread Cert.Mlp0CtxIdeal.nD Cert.Mlp0CtxIdeal.τ).loc Cert.Mlp0CtxIdeal.main_arg1)
      ∧ r.2.mem ((c.tc : Thread Cert.Mlp0CtxIdeal.nD Cert.Mlp0CtxIdeal.τ).loc Cert.Mlp0CtxIdeal.main_arg2) = m ((c.tc : Thread Cert.Mlp0CtxIdeal.nD Cert.Mlp0CtxIdeal.τ).loc Cert.Mlp0CtxIdeal.main_arg2)
      ∧ r.2.mem ((c.tc : Thread Cert.Mlp0CtxIdeal.nD Cert.Mlp0CtxIdeal.τ).loc Cert.Mlp0CtxIdeal.main_arg3) = m ((c.tc : Thread Cert.Mlp0CtxIdeal.nD Cert.Mlp0CtxIdeal.τ).loc Cert.Mlp0CtxIdeal.main_arg3)
      ∧ r.2.mem ((c.tc : Thread Cert.Mlp0CtxIdeal.nD Cert.Mlp0CtxIdeal.τ).loc Cert.Mlp0CtxIdeal.main_arg4) = m ((c.tc : Thread Cert.Mlp0CtxIdeal.nD Cert.Mlp0CtxIdeal.τ).loc Cert.Mlp0CtxIdeal.main_arg4))
      ∧ r.2.sem = fun _ => 0)

def quiescent_Mlp0CtxReferenceIdeal [hMlp0CtxReferenceIdeal : Cert.Mlp0CtxReferenceIdeal.Facts] : Prop :=
  ∀ (m : (ℓ : Loc Cert.Mlp0CtxReferenceIdeal.nD Cert.Mlp0CtxReferenceIdeal.τ Cert.Mlp0CtxReferenceIdeal.sig) → Buf (Elt Ideal) ℓ) (g : Dev Cert.Mlp0CtxReferenceIdeal.nD → PrngReg), Pre_Mlp0CtxReferenceIdeal m →
    θ_run (Cert.Mlp0CtxReferenceIdeal.defs (F := Ideal)) (onTc (τ := Cert.Mlp0CtxReferenceIdeal.τ) (Cert.Mlp0CtxReferenceIdeal.main (F := Ideal))) ⟨m, fun _ => 0, g⟩ (fun r => (∀ c : Dev Cert.Mlp0CtxReferenceIdeal.nD,
      r.2.mem ((c.tc : Thread Cert.Mlp0CtxReferenceIdeal.nD Cert.Mlp0CtxReferenceIdeal.τ).loc Cert.Mlp0CtxReferenceIdeal.main_arg0) = m ((c.tc : Thread Cert.Mlp0CtxReferenceIdeal.nD Cert.Mlp0CtxReferenceIdeal.τ).loc Cert.Mlp0CtxReferenceIdeal.main_arg0)
      ∧ r.2.mem ((c.tc : Thread Cert.Mlp0CtxReferenceIdeal.nD Cert.Mlp0CtxReferenceIdeal.τ).loc Cert.Mlp0CtxReferenceIdeal.main_arg1) = m ((c.tc : Thread Cert.Mlp0CtxReferenceIdeal.nD Cert.Mlp0CtxReferenceIdeal.τ).loc Cert.Mlp0CtxReferenceIdeal.main_arg1)
      ∧ r.2.mem ((c.tc : Thread Cert.Mlp0CtxReferenceIdeal.nD Cert.Mlp0CtxReferenceIdeal.τ).loc Cert.Mlp0CtxReferenceIdeal.main_arg2) = m ((c.tc : Thread Cert.Mlp0CtxReferenceIdeal.nD Cert.Mlp0CtxReferenceIdeal.τ).loc Cert.Mlp0CtxReferenceIdeal.main_arg2)
      ∧ r.2.mem ((c.tc : Thread Cert.Mlp0CtxReferenceIdeal.nD Cert.Mlp0CtxReferenceIdeal.τ).loc Cert.Mlp0CtxReferenceIdeal.main_arg3) = m ((c.tc : Thread Cert.Mlp0CtxReferenceIdeal.nD Cert.Mlp0CtxReferenceIdeal.τ).loc Cert.Mlp0CtxReferenceIdeal.main_arg3)
      ∧ r.2.mem ((c.tc : Thread Cert.Mlp0CtxReferenceIdeal.nD Cert.Mlp0CtxReferenceIdeal.τ).loc Cert.Mlp0CtxReferenceIdeal.main_arg4) = m ((c.tc : Thread Cert.Mlp0CtxReferenceIdeal.nD Cert.Mlp0CtxReferenceIdeal.τ).loc Cert.Mlp0CtxReferenceIdeal.main_arg4))
      ∧ r.2.sem = fun _ => 0)

def quiescent_RetProjCtx [hRetProjCtx : Cert.RetProjCtx.Facts] : Prop :=
  ∀ (m : (ℓ : Loc Cert.RetProjCtx.nD Cert.RetProjCtx.τ Cert.RetProjCtx.sig) → Buf (Elt Bits) ℓ) (g : Dev Cert.RetProjCtx.nD → PrngReg), Pre_RetProjCtx m →
    θ_run (Cert.RetProjCtx.defs (F := Bits)) (onTc (τ := Cert.RetProjCtx.τ) (Cert.RetProjCtx.main (F := Bits))) ⟨m, fun _ => 0, g⟩ (fun r => (∀ c : Dev Cert.RetProjCtx.nD,
      r.2.mem ((c.tc : Thread Cert.RetProjCtx.nD Cert.RetProjCtx.τ).loc Cert.RetProjCtx.main_arg0) = m ((c.tc : Thread Cert.RetProjCtx.nD Cert.RetProjCtx.τ).loc Cert.RetProjCtx.main_arg0)
      ∧ r.2.mem ((c.tc : Thread Cert.RetProjCtx.nD Cert.RetProjCtx.τ).loc Cert.RetProjCtx.main_arg1) = m ((c.tc : Thread Cert.RetProjCtx.nD Cert.RetProjCtx.τ).loc Cert.RetProjCtx.main_arg1)
      ∧ r.2.mem ((c.tc : Thread Cert.RetProjCtx.nD Cert.RetProjCtx.τ).loc Cert.RetProjCtx.main_arg2) = m ((c.tc : Thread Cert.RetProjCtx.nD Cert.RetProjCtx.τ).loc Cert.RetProjCtx.main_arg2)
      ∧ r.2.mem ((c.tc : Thread Cert.RetProjCtx.nD Cert.RetProjCtx.τ).loc Cert.RetProjCtx.main_arg3) = m ((c.tc : Thread Cert.RetProjCtx.nD Cert.RetProjCtx.τ).loc Cert.RetProjCtx.main_arg3))
      ∧ r.2.sem = fun _ => 0)

def quiescent_RetProjCtxIdeal [hRetProjCtxIdeal : Cert.RetProjCtxIdeal.Facts] : Prop :=
  ∀ (m : (ℓ : Loc Cert.RetProjCtxIdeal.nD Cert.RetProjCtxIdeal.τ Cert.RetProjCtxIdeal.sig) → Buf (Elt Ideal) ℓ) (g : Dev Cert.RetProjCtxIdeal.nD → PrngReg), Pre_RetProjCtxIdeal m →
    θ_run (Cert.RetProjCtxIdeal.defs (F := Ideal)) (onTc (τ := Cert.RetProjCtxIdeal.τ) (Cert.RetProjCtxIdeal.main (F := Ideal))) ⟨m, fun _ => 0, g⟩ (fun r => (∀ c : Dev Cert.RetProjCtxIdeal.nD,
      r.2.mem ((c.tc : Thread Cert.RetProjCtxIdeal.nD Cert.RetProjCtxIdeal.τ).loc Cert.RetProjCtxIdeal.main_arg0) = m ((c.tc : Thread Cert.RetProjCtxIdeal.nD Cert.RetProjCtxIdeal.τ).loc Cert.RetProjCtxIdeal.main_arg0)
      ∧ r.2.mem ((c.tc : Thread Cert.RetProjCtxIdeal.nD Cert.RetProjCtxIdeal.τ).loc Cert.RetProjCtxIdeal.main_arg1) = m ((c.tc : Thread Cert.RetProjCtxIdeal.nD Cert.RetProjCtxIdeal.τ).loc Cert.RetProjCtxIdeal.main_arg1)
      ∧ r.2.mem ((c.tc : Thread Cert.RetProjCtxIdeal.nD Cert.RetProjCtxIdeal.τ).loc Cert.RetProjCtxIdeal.main_arg2) = m ((c.tc : Thread Cert.RetProjCtxIdeal.nD Cert.RetProjCtxIdeal.τ).loc Cert.RetProjCtxIdeal.main_arg2)
      ∧ r.2.mem ((c.tc : Thread Cert.RetProjCtxIdeal.nD Cert.RetProjCtxIdeal.τ).loc Cert.RetProjCtxIdeal.main_arg3) = m ((c.tc : Thread Cert.RetProjCtxIdeal.nD Cert.RetProjCtxIdeal.τ).loc Cert.RetProjCtxIdeal.main_arg3))
      ∧ r.2.sem = fun _ => 0)

def quiescent_RetProjCtxReferenceIdeal [hRetProjCtxReferenceIdeal : Cert.RetProjCtxReferenceIdeal.Facts] : Prop :=
  ∀ (m : (ℓ : Loc Cert.RetProjCtxReferenceIdeal.nD Cert.RetProjCtxReferenceIdeal.τ Cert.RetProjCtxReferenceIdeal.sig) → Buf (Elt Ideal) ℓ) (g : Dev Cert.RetProjCtxReferenceIdeal.nD → PrngReg), Pre_RetProjCtxReferenceIdeal m →
    θ_run (Cert.RetProjCtxReferenceIdeal.defs (F := Ideal)) (onTc (τ := Cert.RetProjCtxReferenceIdeal.τ) (Cert.RetProjCtxReferenceIdeal.main (F := Ideal))) ⟨m, fun _ => 0, g⟩ (fun r => (∀ c : Dev Cert.RetProjCtxReferenceIdeal.nD,
      r.2.mem ((c.tc : Thread Cert.RetProjCtxReferenceIdeal.nD Cert.RetProjCtxReferenceIdeal.τ).loc Cert.RetProjCtxReferenceIdeal.main_arg0) = m ((c.tc : Thread Cert.RetProjCtxReferenceIdeal.nD Cert.RetProjCtxReferenceIdeal.τ).loc Cert.RetProjCtxReferenceIdeal.main_arg0)
      ∧ r.2.mem ((c.tc : Thread Cert.RetProjCtxReferenceIdeal.nD Cert.RetProjCtxReferenceIdeal.τ).loc Cert.RetProjCtxReferenceIdeal.main_arg1) = m ((c.tc : Thread Cert.RetProjCtxReferenceIdeal.nD Cert.RetProjCtxReferenceIdeal.τ).loc Cert.RetProjCtxReferenceIdeal.main_arg1)
      ∧ r.2.mem ((c.tc : Thread Cert.RetProjCtxReferenceIdeal.nD Cert.RetProjCtxReferenceIdeal.τ).loc Cert.RetProjCtxReferenceIdeal.main_arg2) = m ((c.tc : Thread Cert.RetProjCtxReferenceIdeal.nD Cert.RetProjCtxReferenceIdeal.τ).loc Cert.RetProjCtxReferenceIdeal.main_arg2)
      ∧ r.2.mem ((c.tc : Thread Cert.RetProjCtxReferenceIdeal.nD Cert.RetProjCtxReferenceIdeal.τ).loc Cert.RetProjCtxReferenceIdeal.main_arg3) = m ((c.tc : Thread Cert.RetProjCtxReferenceIdeal.nD Cert.RetProjCtxReferenceIdeal.τ).loc Cert.RetProjCtxReferenceIdeal.main_arg3))
      ∧ r.2.sem = fun _ => 0)

def quiescent_RetOutCtx [hRetOutCtx : Cert.RetOutCtx.Facts] : Prop :=
  ∀ (m : (ℓ : Loc Cert.RetOutCtx.nD Cert.RetOutCtx.τ Cert.RetOutCtx.sig) → Buf (Elt Bits) ℓ) (g : Dev Cert.RetOutCtx.nD → PrngReg), Pre_RetOutCtx m →
    θ_run (Cert.RetOutCtx.defs (F := Bits)) (onTc (τ := Cert.RetOutCtx.τ) (Cert.RetOutCtx.main (F := Bits))) ⟨m, fun _ => 0, g⟩ (fun r => (∀ c : Dev Cert.RetOutCtx.nD,
      r.2.mem ((c.tc : Thread Cert.RetOutCtx.nD Cert.RetOutCtx.τ).loc Cert.RetOutCtx.main_arg0) = m ((c.tc : Thread Cert.RetOutCtx.nD Cert.RetOutCtx.τ).loc Cert.RetOutCtx.main_arg0)
      ∧ r.2.mem ((c.tc : Thread Cert.RetOutCtx.nD Cert.RetOutCtx.τ).loc Cert.RetOutCtx.main_arg1) = m ((c.tc : Thread Cert.RetOutCtx.nD Cert.RetOutCtx.τ).loc Cert.RetOutCtx.main_arg1)
      ∧ r.2.mem ((c.tc : Thread Cert.RetOutCtx.nD Cert.RetOutCtx.τ).loc Cert.RetOutCtx.main_arg2) = m ((c.tc : Thread Cert.RetOutCtx.nD Cert.RetOutCtx.τ).loc Cert.RetOutCtx.main_arg2)
      ∧ r.2.mem ((c.tc : Thread Cert.RetOutCtx.nD Cert.RetOutCtx.τ).loc Cert.RetOutCtx.main_arg3) = m ((c.tc : Thread Cert.RetOutCtx.nD Cert.RetOutCtx.τ).loc Cert.RetOutCtx.main_arg3))
      ∧ r.2.sem = fun _ => 0)

def quiescent_RetOutCtxIdeal [hRetOutCtxIdeal : Cert.RetOutCtxIdeal.Facts] : Prop :=
  ∀ (m : (ℓ : Loc Cert.RetOutCtxIdeal.nD Cert.RetOutCtxIdeal.τ Cert.RetOutCtxIdeal.sig) → Buf (Elt Ideal) ℓ) (g : Dev Cert.RetOutCtxIdeal.nD → PrngReg), Pre_RetOutCtxIdeal m →
    θ_run (Cert.RetOutCtxIdeal.defs (F := Ideal)) (onTc (τ := Cert.RetOutCtxIdeal.τ) (Cert.RetOutCtxIdeal.main (F := Ideal))) ⟨m, fun _ => 0, g⟩ (fun r => (∀ c : Dev Cert.RetOutCtxIdeal.nD,
      r.2.mem ((c.tc : Thread Cert.RetOutCtxIdeal.nD Cert.RetOutCtxIdeal.τ).loc Cert.RetOutCtxIdeal.main_arg0) = m ((c.tc : Thread Cert.RetOutCtxIdeal.nD Cert.RetOutCtxIdeal.τ).loc Cert.RetOutCtxIdeal.main_arg0)
      ∧ r.2.mem ((c.tc : Thread Cert.RetOutCtxIdeal.nD Cert.RetOutCtxIdeal.τ).loc Cert.RetOutCtxIdeal.main_arg1) = m ((c.tc : Thread Cert.RetOutCtxIdeal.nD Cert.RetOutCtxIdeal.τ).loc Cert.RetOutCtxIdeal.main_arg1)
      ∧ r.2.mem ((c.tc : Thread Cert.RetOutCtxIdeal.nD Cert.RetOutCtxIdeal.τ).loc Cert.RetOutCtxIdeal.main_arg2) = m ((c.tc : Thread Cert.RetOutCtxIdeal.nD Cert.RetOutCtxIdeal.τ).loc Cert.RetOutCtxIdeal.main_arg2)
      ∧ r.2.mem ((c.tc : Thread Cert.RetOutCtxIdeal.nD Cert.RetOutCtxIdeal.τ).loc Cert.RetOutCtxIdeal.main_arg3) = m ((c.tc : Thread Cert.RetOutCtxIdeal.nD Cert.RetOutCtxIdeal.τ).loc Cert.RetOutCtxIdeal.main_arg3))
      ∧ r.2.sem = fun _ => 0)

def quiescent_RetOutCtxReferenceIdeal [hRetOutCtxReferenceIdeal : Cert.RetOutCtxReferenceIdeal.Facts] : Prop :=
  ∀ (m : (ℓ : Loc Cert.RetOutCtxReferenceIdeal.nD Cert.RetOutCtxReferenceIdeal.τ Cert.RetOutCtxReferenceIdeal.sig) → Buf (Elt Ideal) ℓ) (g : Dev Cert.RetOutCtxReferenceIdeal.nD → PrngReg), Pre_RetOutCtxReferenceIdeal m →
    θ_run (Cert.RetOutCtxReferenceIdeal.defs (F := Ideal)) (onTc (τ := Cert.RetOutCtxReferenceIdeal.τ) (Cert.RetOutCtxReferenceIdeal.main (F := Ideal))) ⟨m, fun _ => 0, g⟩ (fun r => (∀ c : Dev Cert.RetOutCtxReferenceIdeal.nD,
      r.2.mem ((c.tc : Thread Cert.RetOutCtxReferenceIdeal.nD Cert.RetOutCtxReferenceIdeal.τ).loc Cert.RetOutCtxReferenceIdeal.main_arg0) = m ((c.tc : Thread Cert.RetOutCtxReferenceIdeal.nD Cert.RetOutCtxReferenceIdeal.τ).loc Cert.RetOutCtxReferenceIdeal.main_arg0)
      ∧ r.2.mem ((c.tc : Thread Cert.RetOutCtxReferenceIdeal.nD Cert.RetOutCtxReferenceIdeal.τ).loc Cert.RetOutCtxReferenceIdeal.main_arg1) = m ((c.tc : Thread Cert.RetOutCtxReferenceIdeal.nD Cert.RetOutCtxReferenceIdeal.τ).loc Cert.RetOutCtxReferenceIdeal.main_arg1)
      ∧ r.2.mem ((c.tc : Thread Cert.RetOutCtxReferenceIdeal.nD Cert.RetOutCtxReferenceIdeal.τ).loc Cert.RetOutCtxReferenceIdeal.main_arg2) = m ((c.tc : Thread Cert.RetOutCtxReferenceIdeal.nD Cert.RetOutCtxReferenceIdeal.τ).loc Cert.RetOutCtxReferenceIdeal.main_arg2)
      ∧ r.2.mem ((c.tc : Thread Cert.RetOutCtxReferenceIdeal.nD Cert.RetOutCtxReferenceIdeal.τ).loc Cert.RetOutCtxReferenceIdeal.main_arg3) = m ((c.tc : Thread Cert.RetOutCtxReferenceIdeal.nD Cert.RetOutCtxReferenceIdeal.τ).loc Cert.RetOutCtxReferenceIdeal.main_arg3))
      ∧ r.2.sem = fun _ => 0)

def quiescent_AttnProjCtx [hAttnProjCtx : Cert.AttnProjCtx.Facts] : Prop :=
  ∀ (m : (ℓ : Loc Cert.AttnProjCtx.nD Cert.AttnProjCtx.τ Cert.AttnProjCtx.sig) → Buf (Elt Bits) ℓ) (g : Dev Cert.AttnProjCtx.nD → PrngReg), Pre_AttnProjCtx m →
    θ_run (Cert.AttnProjCtx.defs (F := Bits)) (onTc (τ := Cert.AttnProjCtx.τ) (Cert.AttnProjCtx.main (F := Bits))) ⟨m, fun _ => 0, g⟩ (fun r => (∀ c : Dev Cert.AttnProjCtx.nD,
      r.2.mem ((c.tc : Thread Cert.AttnProjCtx.nD Cert.AttnProjCtx.τ).loc Cert.AttnProjCtx.main_arg0) = m ((c.tc : Thread Cert.AttnProjCtx.nD Cert.AttnProjCtx.τ).loc Cert.AttnProjCtx.main_arg0)
      ∧ r.2.mem ((c.tc : Thread Cert.AttnProjCtx.nD Cert.AttnProjCtx.τ).loc Cert.AttnProjCtx.main_arg1) = m ((c.tc : Thread Cert.AttnProjCtx.nD Cert.AttnProjCtx.τ).loc Cert.AttnProjCtx.main_arg1)
      ∧ r.2.mem ((c.tc : Thread Cert.AttnProjCtx.nD Cert.AttnProjCtx.τ).loc Cert.AttnProjCtx.main_arg2) = m ((c.tc : Thread Cert.AttnProjCtx.nD Cert.AttnProjCtx.τ).loc Cert.AttnProjCtx.main_arg2)
      ∧ r.2.mem ((c.tc : Thread Cert.AttnProjCtx.nD Cert.AttnProjCtx.τ).loc Cert.AttnProjCtx.main_arg3) = m ((c.tc : Thread Cert.AttnProjCtx.nD Cert.AttnProjCtx.τ).loc Cert.AttnProjCtx.main_arg3))
      ∧ r.2.sem = fun _ => 0)

def quiescent_AttnProjCtxIdeal [hAttnProjCtxIdeal : Cert.AttnProjCtxIdeal.Facts] : Prop :=
  ∀ (m : (ℓ : Loc Cert.AttnProjCtxIdeal.nD Cert.AttnProjCtxIdeal.τ Cert.AttnProjCtxIdeal.sig) → Buf (Elt Ideal) ℓ) (g : Dev Cert.AttnProjCtxIdeal.nD → PrngReg), Pre_AttnProjCtxIdeal m →
    θ_run (Cert.AttnProjCtxIdeal.defs (F := Ideal)) (onTc (τ := Cert.AttnProjCtxIdeal.τ) (Cert.AttnProjCtxIdeal.main (F := Ideal))) ⟨m, fun _ => 0, g⟩ (fun r => (∀ c : Dev Cert.AttnProjCtxIdeal.nD,
      r.2.mem ((c.tc : Thread Cert.AttnProjCtxIdeal.nD Cert.AttnProjCtxIdeal.τ).loc Cert.AttnProjCtxIdeal.main_arg0) = m ((c.tc : Thread Cert.AttnProjCtxIdeal.nD Cert.AttnProjCtxIdeal.τ).loc Cert.AttnProjCtxIdeal.main_arg0)
      ∧ r.2.mem ((c.tc : Thread Cert.AttnProjCtxIdeal.nD Cert.AttnProjCtxIdeal.τ).loc Cert.AttnProjCtxIdeal.main_arg1) = m ((c.tc : Thread Cert.AttnProjCtxIdeal.nD Cert.AttnProjCtxIdeal.τ).loc Cert.AttnProjCtxIdeal.main_arg1)
      ∧ r.2.mem ((c.tc : Thread Cert.AttnProjCtxIdeal.nD Cert.AttnProjCtxIdeal.τ).loc Cert.AttnProjCtxIdeal.main_arg2) = m ((c.tc : Thread Cert.AttnProjCtxIdeal.nD Cert.AttnProjCtxIdeal.τ).loc Cert.AttnProjCtxIdeal.main_arg2)
      ∧ r.2.mem ((c.tc : Thread Cert.AttnProjCtxIdeal.nD Cert.AttnProjCtxIdeal.τ).loc Cert.AttnProjCtxIdeal.main_arg3) = m ((c.tc : Thread Cert.AttnProjCtxIdeal.nD Cert.AttnProjCtxIdeal.τ).loc Cert.AttnProjCtxIdeal.main_arg3))
      ∧ r.2.sem = fun _ => 0)

def quiescent_AttnProjCtxReferenceIdeal [hAttnProjCtxReferenceIdeal : Cert.AttnProjCtxReferenceIdeal.Facts] : Prop :=
  ∀ (m : (ℓ : Loc Cert.AttnProjCtxReferenceIdeal.nD Cert.AttnProjCtxReferenceIdeal.τ Cert.AttnProjCtxReferenceIdeal.sig) → Buf (Elt Ideal) ℓ) (g : Dev Cert.AttnProjCtxReferenceIdeal.nD → PrngReg), Pre_AttnProjCtxReferenceIdeal m →
    θ_run (Cert.AttnProjCtxReferenceIdeal.defs (F := Ideal)) (onTc (τ := Cert.AttnProjCtxReferenceIdeal.τ) (Cert.AttnProjCtxReferenceIdeal.main (F := Ideal))) ⟨m, fun _ => 0, g⟩ (fun r => (∀ c : Dev Cert.AttnProjCtxReferenceIdeal.nD,
      r.2.mem ((c.tc : Thread Cert.AttnProjCtxReferenceIdeal.nD Cert.AttnProjCtxReferenceIdeal.τ).loc Cert.AttnProjCtxReferenceIdeal.main_arg0) = m ((c.tc : Thread Cert.AttnProjCtxReferenceIdeal.nD Cert.AttnProjCtxReferenceIdeal.τ).loc Cert.AttnProjCtxReferenceIdeal.main_arg0)
      ∧ r.2.mem ((c.tc : Thread Cert.AttnProjCtxReferenceIdeal.nD Cert.AttnProjCtxReferenceIdeal.τ).loc Cert.AttnProjCtxReferenceIdeal.main_arg1) = m ((c.tc : Thread Cert.AttnProjCtxReferenceIdeal.nD Cert.AttnProjCtxReferenceIdeal.τ).loc Cert.AttnProjCtxReferenceIdeal.main_arg1)
      ∧ r.2.mem ((c.tc : Thread Cert.AttnProjCtxReferenceIdeal.nD Cert.AttnProjCtxReferenceIdeal.τ).loc Cert.AttnProjCtxReferenceIdeal.main_arg2) = m ((c.tc : Thread Cert.AttnProjCtxReferenceIdeal.nD Cert.AttnProjCtxReferenceIdeal.τ).loc Cert.AttnProjCtxReferenceIdeal.main_arg2)
      ∧ r.2.mem ((c.tc : Thread Cert.AttnProjCtxReferenceIdeal.nD Cert.AttnProjCtxReferenceIdeal.τ).loc Cert.AttnProjCtxReferenceIdeal.main_arg3) = m ((c.tc : Thread Cert.AttnProjCtxReferenceIdeal.nD Cert.AttnProjCtxReferenceIdeal.τ).loc Cert.AttnProjCtxReferenceIdeal.main_arg3))
      ∧ r.2.sem = fun _ => 0)

def quiescent_Ada [hAda : Cert.Ada.Facts] : Prop :=
  ∀ (m : (ℓ : Loc Cert.Ada.nD Cert.Ada.τ Cert.Ada.sig) → Buf (Elt Bits) ℓ) (g : Dev Cert.Ada.nD → PrngReg), Pre_Ada m →
    θ_run (Cert.Ada.defs (F := Bits)) (onTc (τ := Cert.Ada.τ) (Cert.Ada.main (F := Bits))) ⟨m, fun _ => 0, g⟩ (fun r => (∀ c : Dev Cert.Ada.nD,
      r.2.mem ((c.tc : Thread Cert.Ada.nD Cert.Ada.τ).loc Cert.Ada.main_arg0) = m ((c.tc : Thread Cert.Ada.nD Cert.Ada.τ).loc Cert.Ada.main_arg0)
      ∧ r.2.mem ((c.tc : Thread Cert.Ada.nD Cert.Ada.τ).loc Cert.Ada.main_arg1) = m ((c.tc : Thread Cert.Ada.nD Cert.Ada.τ).loc Cert.Ada.main_arg1)
      ∧ r.2.mem ((c.tc : Thread Cert.Ada.nD Cert.Ada.τ).loc Cert.Ada.main_arg2) = m ((c.tc : Thread Cert.Ada.nD Cert.Ada.τ).loc Cert.Ada.main_arg2))
      ∧ r.2.sem = fun _ => 0)

def quiescent_AdaIdeal [hAdaIdeal : Cert.AdaIdeal.Facts] : Prop :=
  ∀ (m : (ℓ : Loc Cert.AdaIdeal.nD Cert.AdaIdeal.τ Cert.AdaIdeal.sig) → Buf (Elt Ideal) ℓ) (g : Dev Cert.AdaIdeal.nD → PrngReg), Pre_AdaIdeal m →
    θ_run (Cert.AdaIdeal.defs (F := Ideal)) (onTc (τ := Cert.AdaIdeal.τ) (Cert.AdaIdeal.main (F := Ideal))) ⟨m, fun _ => 0, g⟩ (fun r => (∀ c : Dev Cert.AdaIdeal.nD,
      r.2.mem ((c.tc : Thread Cert.AdaIdeal.nD Cert.AdaIdeal.τ).loc Cert.AdaIdeal.main_arg0) = m ((c.tc : Thread Cert.AdaIdeal.nD Cert.AdaIdeal.τ).loc Cert.AdaIdeal.main_arg0)
      ∧ r.2.mem ((c.tc : Thread Cert.AdaIdeal.nD Cert.AdaIdeal.τ).loc Cert.AdaIdeal.main_arg1) = m ((c.tc : Thread Cert.AdaIdeal.nD Cert.AdaIdeal.τ).loc Cert.AdaIdeal.main_arg1)
      ∧ r.2.mem ((c.tc : Thread Cert.AdaIdeal.nD Cert.AdaIdeal.τ).loc Cert.AdaIdeal.main_arg2) = m ((c.tc : Thread Cert.AdaIdeal.nD Cert.AdaIdeal.τ).loc Cert.AdaIdeal.main_arg2))
      ∧ r.2.sem = fun _ => 0)

def quiescent_AdaReferenceIdeal [hAdaReferenceIdeal : Cert.AdaReferenceIdeal.Facts] : Prop :=
  ∀ (m : (ℓ : Loc Cert.AdaReferenceIdeal.nD Cert.AdaReferenceIdeal.τ Cert.AdaReferenceIdeal.sig) → Buf (Elt Ideal) ℓ) (g : Dev Cert.AdaReferenceIdeal.nD → PrngReg), Pre_AdaReferenceIdeal m →
    θ_run (Cert.AdaReferenceIdeal.defs (F := Ideal)) (onTc (τ := Cert.AdaReferenceIdeal.τ) (Cert.AdaReferenceIdeal.main (F := Ideal))) ⟨m, fun _ => 0, g⟩ (fun r => (∀ c : Dev Cert.AdaReferenceIdeal.nD,
      r.2.mem ((c.tc : Thread Cert.AdaReferenceIdeal.nD Cert.AdaReferenceIdeal.τ).loc Cert.AdaReferenceIdeal.main_arg0) = m ((c.tc : Thread Cert.AdaReferenceIdeal.nD Cert.AdaReferenceIdeal.τ).loc Cert.AdaReferenceIdeal.main_arg0)
      ∧ r.2.mem ((c.tc : Thread Cert.AdaReferenceIdeal.nD Cert.AdaReferenceIdeal.τ).loc Cert.AdaReferenceIdeal.main_arg1) = m ((c.tc : Thread Cert.AdaReferenceIdeal.nD Cert.AdaReferenceIdeal.τ).loc Cert.AdaReferenceIdeal.main_arg1)
      ∧ r.2.mem ((c.tc : Thread Cert.AdaReferenceIdeal.nD Cert.AdaReferenceIdeal.τ).loc Cert.AdaReferenceIdeal.main_arg2) = m ((c.tc : Thread Cert.AdaReferenceIdeal.nD Cert.AdaReferenceIdeal.τ).loc Cert.AdaReferenceIdeal.main_arg2))
      ∧ r.2.sem = fun _ => 0)

def quiescent_RetCtx [hRetCtx : Cert.RetCtx.Facts] : Prop :=
  ∀ (m : (ℓ : Loc Cert.RetCtx.nD Cert.RetCtx.τ Cert.RetCtx.sig) → Buf (Elt Bits) ℓ) (g : Dev Cert.RetCtx.nD → PrngReg), Pre_RetCtx m →
    θ_run (Cert.RetCtx.defs (F := Bits)) (onTc (τ := Cert.RetCtx.τ) (Cert.RetCtx.main (F := Bits))) ⟨m, fun _ => 0, g⟩ (fun r => (∀ c : Dev Cert.RetCtx.nD,
      r.2.mem ((c.tc : Thread Cert.RetCtx.nD Cert.RetCtx.τ).loc Cert.RetCtx.main_arg0) = m ((c.tc : Thread Cert.RetCtx.nD Cert.RetCtx.τ).loc Cert.RetCtx.main_arg0)
      ∧ r.2.mem ((c.tc : Thread Cert.RetCtx.nD Cert.RetCtx.τ).loc Cert.RetCtx.main_arg1) = m ((c.tc : Thread Cert.RetCtx.nD Cert.RetCtx.τ).loc Cert.RetCtx.main_arg1)
      ∧ r.2.mem ((c.tc : Thread Cert.RetCtx.nD Cert.RetCtx.τ).loc Cert.RetCtx.main_arg2) = m ((c.tc : Thread Cert.RetCtx.nD Cert.RetCtx.τ).loc Cert.RetCtx.main_arg2))
      ∧ r.2.sem = fun _ => 0)

def quiescent_RetCtxIdeal [hRetCtxIdeal : Cert.RetCtxIdeal.Facts] : Prop :=
  ∀ (m : (ℓ : Loc Cert.RetCtxIdeal.nD Cert.RetCtxIdeal.τ Cert.RetCtxIdeal.sig) → Buf (Elt Ideal) ℓ) (g : Dev Cert.RetCtxIdeal.nD → PrngReg), Pre_RetCtxIdeal m →
    θ_run (Cert.RetCtxIdeal.defs (F := Ideal)) (onTc (τ := Cert.RetCtxIdeal.τ) (Cert.RetCtxIdeal.main (F := Ideal))) ⟨m, fun _ => 0, g⟩ (fun r => (∀ c : Dev Cert.RetCtxIdeal.nD,
      r.2.mem ((c.tc : Thread Cert.RetCtxIdeal.nD Cert.RetCtxIdeal.τ).loc Cert.RetCtxIdeal.main_arg0) = m ((c.tc : Thread Cert.RetCtxIdeal.nD Cert.RetCtxIdeal.τ).loc Cert.RetCtxIdeal.main_arg0)
      ∧ r.2.mem ((c.tc : Thread Cert.RetCtxIdeal.nD Cert.RetCtxIdeal.τ).loc Cert.RetCtxIdeal.main_arg1) = m ((c.tc : Thread Cert.RetCtxIdeal.nD Cert.RetCtxIdeal.τ).loc Cert.RetCtxIdeal.main_arg1)
      ∧ r.2.mem ((c.tc : Thread Cert.RetCtxIdeal.nD Cert.RetCtxIdeal.τ).loc Cert.RetCtxIdeal.main_arg2) = m ((c.tc : Thread Cert.RetCtxIdeal.nD Cert.RetCtxIdeal.τ).loc Cert.RetCtxIdeal.main_arg2))
      ∧ r.2.sem = fun _ => 0)

def quiescent_RetCtxIdeal_pre_finite [hRetCtxIdeal : Cert.RetCtxIdeal.Facts] [hPre_finite : Cert.Pre_finite.Facts] : Prop :=
  ∀ (m : (ℓ : Loc Cert.RetCtxIdeal.nD Cert.RetCtxIdeal.τ Cert.RetCtxIdeal.sig) → Buf (Elt Ideal) ℓ) (g : Dev Cert.RetCtxIdeal.nD → PrngReg), Pre_RetCtxIdeal_finite m →
    θ_run (Cert.RetCtxIdeal.defs (F := Ideal)) (onTc (τ := Cert.RetCtxIdeal.τ) (Cert.RetCtxIdeal.main (F := Ideal))) ⟨m, fun _ => 0, g⟩ (fun r => (∀ c : Dev Cert.RetCtxIdeal.nD,
      r.2.mem ((c.tc : Thread Cert.RetCtxIdeal.nD Cert.RetCtxIdeal.τ).loc Cert.RetCtxIdeal.main_arg0) = m ((c.tc : Thread Cert.RetCtxIdeal.nD Cert.RetCtxIdeal.τ).loc Cert.RetCtxIdeal.main_arg0)
      ∧ r.2.mem ((c.tc : Thread Cert.RetCtxIdeal.nD Cert.RetCtxIdeal.τ).loc Cert.RetCtxIdeal.main_arg1) = m ((c.tc : Thread Cert.RetCtxIdeal.nD Cert.RetCtxIdeal.τ).loc Cert.RetCtxIdeal.main_arg1)
      ∧ r.2.mem ((c.tc : Thread Cert.RetCtxIdeal.nD Cert.RetCtxIdeal.τ).loc Cert.RetCtxIdeal.main_arg2) = m ((c.tc : Thread Cert.RetCtxIdeal.nD Cert.RetCtxIdeal.τ).loc Cert.RetCtxIdeal.main_arg2))
      ∧ r.2.sem = fun _ => 0)

def quiescent_RetCtxReferenceIdeal [hRetCtxReferenceIdeal : Cert.RetCtxReferenceIdeal.Facts] : Prop :=
  ∀ (m : (ℓ : Loc Cert.RetCtxReferenceIdeal.nD Cert.RetCtxReferenceIdeal.τ Cert.RetCtxReferenceIdeal.sig) → Buf (Elt Ideal) ℓ) (g : Dev Cert.RetCtxReferenceIdeal.nD → PrngReg), Pre_RetCtxReferenceIdeal m →
    θ_run (Cert.RetCtxReferenceIdeal.defs (F := Ideal)) (onTc (τ := Cert.RetCtxReferenceIdeal.τ) (Cert.RetCtxReferenceIdeal.main (F := Ideal))) ⟨m, fun _ => 0, g⟩ (fun r => (∀ c : Dev Cert.RetCtxReferenceIdeal.nD,
      r.2.mem ((c.tc : Thread Cert.RetCtxReferenceIdeal.nD Cert.RetCtxReferenceIdeal.τ).loc Cert.RetCtxReferenceIdeal.main_arg0) = m ((c.tc : Thread Cert.RetCtxReferenceIdeal.nD Cert.RetCtxReferenceIdeal.τ).loc Cert.RetCtxReferenceIdeal.main_arg0)
      ∧ r.2.mem ((c.tc : Thread Cert.RetCtxReferenceIdeal.nD Cert.RetCtxReferenceIdeal.τ).loc Cert.RetCtxReferenceIdeal.main_arg1) = m ((c.tc : Thread Cert.RetCtxReferenceIdeal.nD Cert.RetCtxReferenceIdeal.τ).loc Cert.RetCtxReferenceIdeal.main_arg1)
      ∧ r.2.mem ((c.tc : Thread Cert.RetCtxReferenceIdeal.nD Cert.RetCtxReferenceIdeal.τ).loc Cert.RetCtxReferenceIdeal.main_arg2) = m ((c.tc : Thread Cert.RetCtxReferenceIdeal.nD Cert.RetCtxReferenceIdeal.τ).loc Cert.RetCtxReferenceIdeal.main_arg2))
      ∧ r.2.sem = fun _ => 0)

def quiescent_RetCtxReferenceIdeal_pre_finite [hRetCtxReferenceIdeal : Cert.RetCtxReferenceIdeal.Facts] [hPre_finite : Cert.Pre_finite.Facts] : Prop :=
  ∀ (m : (ℓ : Loc Cert.RetCtxReferenceIdeal.nD Cert.RetCtxReferenceIdeal.τ Cert.RetCtxReferenceIdeal.sig) → Buf (Elt Ideal) ℓ) (g : Dev Cert.RetCtxReferenceIdeal.nD → PrngReg), Pre_RetCtxReferenceIdeal_finite m →
    θ_run (Cert.RetCtxReferenceIdeal.defs (F := Ideal)) (onTc (τ := Cert.RetCtxReferenceIdeal.τ) (Cert.RetCtxReferenceIdeal.main (F := Ideal))) ⟨m, fun _ => 0, g⟩ (fun r => (∀ c : Dev Cert.RetCtxReferenceIdeal.nD,
      r.2.mem ((c.tc : Thread Cert.RetCtxReferenceIdeal.nD Cert.RetCtxReferenceIdeal.τ).loc Cert.RetCtxReferenceIdeal.main_arg0) = m ((c.tc : Thread Cert.RetCtxReferenceIdeal.nD Cert.RetCtxReferenceIdeal.τ).loc Cert.RetCtxReferenceIdeal.main_arg0)
      ∧ r.2.mem ((c.tc : Thread Cert.RetCtxReferenceIdeal.nD Cert.RetCtxReferenceIdeal.τ).loc Cert.RetCtxReferenceIdeal.main_arg1) = m ((c.tc : Thread Cert.RetCtxReferenceIdeal.nD Cert.RetCtxReferenceIdeal.τ).loc Cert.RetCtxReferenceIdeal.main_arg1)
      ∧ r.2.mem ((c.tc : Thread Cert.RetCtxReferenceIdeal.nD Cert.RetCtxReferenceIdeal.τ).loc Cert.RetCtxReferenceIdeal.main_arg2) = m ((c.tc : Thread Cert.RetCtxReferenceIdeal.nD Cert.RetCtxReferenceIdeal.τ).loc Cert.RetCtxReferenceIdeal.main_arg2))
      ∧ r.2.sem = fun _ => 0)

def preserves_Kernel_KernelIdeal : Prop :=
  IdealRules.named_const.Statement Cert.KernelIdeal.κ "mask" .f32 0xF149F2CA#32 ⊥

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v102) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Mlp_MlpIdeal : Prop :=
  True

def algebraic_MlpIdeal_MlpReferenceIdeal [hMlpIdeal : Cert.MlpIdeal.Facts] [hMlpReferenceIdeal : Cert.MlpReferenceIdeal.Facts] : Prop :=
  ∀ (m : (ℓ : Loc Cert.MlpIdeal.nD Cert.MlpIdeal.τ Cert.MlpIdeal.sig) → Buf (Elt Ideal) ℓ) (g : Dev Cert.MlpIdeal.nD → PrngReg)
    (m' : (ℓ : Loc Cert.MlpReferenceIdeal.nD Cert.MlpReferenceIdeal.τ Cert.MlpReferenceIdeal.sig) → Buf (Elt Ideal) ℓ) (g' : Dev Cert.MlpReferenceIdeal.nD → PrngReg), Pre_MlpIdeal m →
    (∀ c : Dev Cert.MlpIdeal.nD,
      m' ((c.tc : Thread Cert.MlpReferenceIdeal.nD Cert.MlpReferenceIdeal.τ).loc Cert.MlpReferenceIdeal.main_arg0) = m ((c.tc : Thread Cert.MlpIdeal.nD Cert.MlpIdeal.τ).loc Cert.MlpIdeal.main_arg0)
      ∧ m' ((c.tc : Thread Cert.MlpReferenceIdeal.nD Cert.MlpReferenceIdeal.τ).loc Cert.MlpReferenceIdeal.main_arg1) = m ((c.tc : Thread Cert.MlpIdeal.nD Cert.MlpIdeal.τ).loc Cert.MlpIdeal.main_arg1)
      ∧ m' ((c.tc : Thread Cert.MlpReferenceIdeal.nD Cert.MlpReferenceIdeal.τ).loc Cert.MlpReferenceIdeal.main_arg2) = m ((c.tc : Thread Cert.MlpIdeal.nD Cert.MlpIdeal.τ).loc Cert.MlpIdeal.main_arg2)
      ∧ m' ((c.tc : Thread Cert.MlpReferenceIdeal.nD Cert.MlpReferenceIdeal.τ).loc Cert.MlpReferenceIdeal.main_arg3) = m ((c.tc : Thread Cert.MlpIdeal.nD Cert.MlpIdeal.τ).loc Cert.MlpIdeal.main_arg3)
      ∧ m' ((c.tc : Thread Cert.MlpReferenceIdeal.nD Cert.MlpReferenceIdeal.τ).loc Cert.MlpReferenceIdeal.main_arg4) = m ((c.tc : Thread Cert.MlpIdeal.nD Cert.MlpIdeal.τ).loc Cert.MlpIdeal.main_arg4)
      ∧ m' ((c.tc : Thread Cert.MlpReferenceIdeal.nD Cert.MlpReferenceIdeal.τ).loc Cert.MlpReferenceIdeal.main_arg5) = m ((c.tc : Thread Cert.MlpIdeal.nD Cert.MlpIdeal.τ).loc Cert.MlpIdeal.main_arg5)) →
    ∃ (v0 : (c : Dev Cert.MlpIdeal.nD) → Buf (Elt Ideal) ((c.tc : Thread Cert.MlpIdeal.nD Cert.MlpIdeal.τ).loc Cert.MlpIdeal.main_v2)),
      θ_run (Cert.MlpIdeal.defs (F := Ideal)) (onTc (τ := Cert.MlpIdeal.τ) (Cert.MlpIdeal.main (F := Ideal))) ⟨m, fun _ => 0, g⟩ (fun r => ∀ c : Dev Cert.MlpIdeal.nD,
          r.2.mem ((c.tc : Thread Cert.MlpIdeal.nD Cert.MlpIdeal.τ).loc Cert.MlpIdeal.main_v2) = v0 c
          ∧ r.2.mem ((c.tc : Thread Cert.MlpIdeal.nD Cert.MlpIdeal.τ).loc Cert.MlpIdeal.main_arg0) = m ((c.tc : Thread Cert.MlpIdeal.nD Cert.MlpIdeal.τ).loc Cert.MlpIdeal.main_arg0)
          ∧ r.2.mem ((c.tc : Thread Cert.MlpIdeal.nD Cert.MlpIdeal.τ).loc Cert.MlpIdeal.main_arg1) = m ((c.tc : Thread Cert.MlpIdeal.nD Cert.MlpIdeal.τ).loc Cert.MlpIdeal.main_arg1)
          ∧ r.2.mem ((c.tc : Thread Cert.MlpIdeal.nD Cert.MlpIdeal.τ).loc Cert.MlpIdeal.main_arg2) = m ((c.tc : Thread Cert.MlpIdeal.nD Cert.MlpIdeal.τ).loc Cert.MlpIdeal.main_arg2)
          ∧ r.2.mem ((c.tc : Thread Cert.MlpIdeal.nD Cert.MlpIdeal.τ).loc Cert.MlpIdeal.main_arg3) = m ((c.tc : Thread Cert.MlpIdeal.nD Cert.MlpIdeal.τ).loc Cert.MlpIdeal.main_arg3)
          ∧ r.2.mem ((c.tc : Thread Cert.MlpIdeal.nD Cert.MlpIdeal.τ).loc Cert.MlpIdeal.main_arg4) = m ((c.tc : Thread Cert.MlpIdeal.nD Cert.MlpIdeal.τ).loc Cert.MlpIdeal.main_arg4)
          ∧ r.2.mem ((c.tc : Thread Cert.MlpIdeal.nD Cert.MlpIdeal.τ).loc Cert.MlpIdeal.main_arg5) = m ((c.tc : Thread Cert.MlpIdeal.nD Cert.MlpIdeal.τ).loc Cert.MlpIdeal.main_arg5))
      ∧ θ_run (Cert.MlpReferenceIdeal.defs (F := Ideal)) (onTc (τ := Cert.MlpReferenceIdeal.τ) (Cert.MlpReferenceIdeal.main (F := Ideal))) ⟨m', fun _ => 0, g'⟩ (fun r => ∀ c : Dev Cert.MlpReferenceIdeal.nD,
          r.2.mem ((c.tc : Thread Cert.MlpReferenceIdeal.nD Cert.MlpReferenceIdeal.τ).loc Cert.MlpReferenceIdeal.main_v50) = v0 c
          ∧ r.2.mem ((c.tc : Thread Cert.MlpReferenceIdeal.nD Cert.MlpReferenceIdeal.τ).loc Cert.MlpReferenceIdeal.main_arg0) = m' ((c.tc : Thread Cert.MlpReferenceIdeal.nD Cert.MlpReferenceIdeal.τ).loc Cert.MlpReferenceIdeal.main_arg0)
          ∧ r.2.mem ((c.tc : Thread Cert.MlpReferenceIdeal.nD Cert.MlpReferenceIdeal.τ).loc Cert.MlpReferenceIdeal.main_arg1) = m' ((c.tc : Thread Cert.MlpReferenceIdeal.nD Cert.MlpReferenceIdeal.τ).loc Cert.MlpReferenceIdeal.main_arg1)
          ∧ r.2.mem ((c.tc : Thread Cert.MlpReferenceIdeal.nD Cert.MlpReferenceIdeal.τ).loc Cert.MlpReferenceIdeal.main_arg2) = m' ((c.tc : Thread Cert.MlpReferenceIdeal.nD Cert.MlpReferenceIdeal.τ).loc Cert.MlpReferenceIdeal.main_arg2)
          ∧ r.2.mem ((c.tc : Thread Cert.MlpReferenceIdeal.nD Cert.MlpReferenceIdeal.τ).loc Cert.MlpReferenceIdeal.main_arg3) = m' ((c.tc : Thread Cert.MlpReferenceIdeal.nD Cert.MlpReferenceIdeal.τ).loc Cert.MlpReferenceIdeal.main_arg3)
          ∧ r.2.mem ((c.tc : Thread Cert.MlpReferenceIdeal.nD Cert.MlpReferenceIdeal.τ).loc Cert.MlpReferenceIdeal.main_arg4) = m' ((c.tc : Thread Cert.MlpReferenceIdeal.nD Cert.MlpReferenceIdeal.τ).loc Cert.MlpReferenceIdeal.main_arg4)
          ∧ r.2.mem ((c.tc : Thread Cert.MlpReferenceIdeal.nD Cert.MlpReferenceIdeal.τ).loc Cert.MlpReferenceIdeal.main_arg5) = m' ((c.tc : Thread Cert.MlpReferenceIdeal.nD Cert.MlpReferenceIdeal.τ).loc Cert.MlpReferenceIdeal.main_arg5))

def preserves_Mlp0_Mlp0Ideal : Prop :=
  True

def algebraic_Mlp0Ideal_Mlp0ReferenceIdeal [hMlp0Ideal : Cert.Mlp0Ideal.Facts] [hMlp0ReferenceIdeal : Cert.Mlp0ReferenceIdeal.Facts] : Prop :=
  ∀ (m : (ℓ : Loc Cert.Mlp0Ideal.nD Cert.Mlp0Ideal.τ Cert.Mlp0Ideal.sig) → Buf (Elt Ideal) ℓ) (g : Dev Cert.Mlp0Ideal.nD → PrngReg)
    (m' : (ℓ : Loc Cert.Mlp0ReferenceIdeal.nD Cert.Mlp0ReferenceIdeal.τ Cert.Mlp0ReferenceIdeal.sig) → Buf (Elt Ideal) ℓ) (g' : Dev Cert.Mlp0ReferenceIdeal.nD → PrngReg), Pre_Mlp0Ideal m →
    (∀ c : Dev Cert.Mlp0Ideal.nD,
      m' ((c.tc : Thread Cert.Mlp0ReferenceIdeal.nD Cert.Mlp0ReferenceIdeal.τ).loc Cert.Mlp0ReferenceIdeal.main_arg0) = m ((c.tc : Thread Cert.Mlp0Ideal.nD Cert.Mlp0Ideal.τ).loc Cert.Mlp0Ideal.main_arg0)
      ∧ m' ((c.tc : Thread Cert.Mlp0ReferenceIdeal.nD Cert.Mlp0ReferenceIdeal.τ).loc Cert.Mlp0ReferenceIdeal.main_arg1) = m ((c.tc : Thread Cert.Mlp0Ideal.nD Cert.Mlp0Ideal.τ).loc Cert.Mlp0Ideal.main_arg1)
      ∧ m' ((c.tc : Thread Cert.Mlp0ReferenceIdeal.nD Cert.Mlp0ReferenceIdeal.τ).loc Cert.Mlp0ReferenceIdeal.main_arg2) = m ((c.tc : Thread Cert.Mlp0Ideal.nD Cert.Mlp0Ideal.τ).loc Cert.Mlp0Ideal.main_arg2)
      ∧ m' ((c.tc : Thread Cert.Mlp0ReferenceIdeal.nD Cert.Mlp0ReferenceIdeal.τ).loc Cert.Mlp0ReferenceIdeal.main_arg3) = m ((c.tc : Thread Cert.Mlp0Ideal.nD Cert.Mlp0Ideal.τ).loc Cert.Mlp0Ideal.main_arg3)
      ∧ m' ((c.tc : Thread Cert.Mlp0ReferenceIdeal.nD Cert.Mlp0ReferenceIdeal.τ).loc Cert.Mlp0ReferenceIdeal.main_arg4) = m ((c.tc : Thread Cert.Mlp0Ideal.nD Cert.Mlp0Ideal.τ).loc Cert.Mlp0Ideal.main_arg4)) →
    ∃ (v0 : (c : Dev Cert.Mlp0Ideal.nD) → Buf (Elt Ideal) ((c.tc : Thread Cert.Mlp0Ideal.nD Cert.Mlp0Ideal.τ).loc Cert.Mlp0Ideal.main_v1)),
      θ_run (Cert.Mlp0Ideal.defs (F := Ideal)) (onTc (τ := Cert.Mlp0Ideal.τ) (Cert.Mlp0Ideal.main (F := Ideal))) ⟨m, fun _ => 0, g⟩ (fun r => ∀ c : Dev Cert.Mlp0Ideal.nD,
          r.2.mem ((c.tc : Thread Cert.Mlp0Ideal.nD Cert.Mlp0Ideal.τ).loc Cert.Mlp0Ideal.main_v1) = v0 c
          ∧ r.2.mem ((c.tc : Thread Cert.Mlp0Ideal.nD Cert.Mlp0Ideal.τ).loc Cert.Mlp0Ideal.main_arg0) = m ((c.tc : Thread Cert.Mlp0Ideal.nD Cert.Mlp0Ideal.τ).loc Cert.Mlp0Ideal.main_arg0)
          ∧ r.2.mem ((c.tc : Thread Cert.Mlp0Ideal.nD Cert.Mlp0Ideal.τ).loc Cert.Mlp0Ideal.main_arg1) = m ((c.tc : Thread Cert.Mlp0Ideal.nD Cert.Mlp0Ideal.τ).loc Cert.Mlp0Ideal.main_arg1)
          ∧ r.2.mem ((c.tc : Thread Cert.Mlp0Ideal.nD Cert.Mlp0Ideal.τ).loc Cert.Mlp0Ideal.main_arg2) = m ((c.tc : Thread Cert.Mlp0Ideal.nD Cert.Mlp0Ideal.τ).loc Cert.Mlp0Ideal.main_arg2)
          ∧ r.2.mem ((c.tc : Thread Cert.Mlp0Ideal.nD Cert.Mlp0Ideal.τ).loc Cert.Mlp0Ideal.main_arg3) = m ((c.tc : Thread Cert.Mlp0Ideal.nD Cert.Mlp0Ideal.τ).loc Cert.Mlp0Ideal.main_arg3)
          ∧ r.2.mem ((c.tc : Thread Cert.Mlp0Ideal.nD Cert.Mlp0Ideal.τ).loc Cert.Mlp0Ideal.main_arg4) = m ((c.tc : Thread Cert.Mlp0Ideal.nD Cert.Mlp0Ideal.τ).loc Cert.Mlp0Ideal.main_arg4))
      ∧ θ_run (Cert.Mlp0ReferenceIdeal.defs (F := Ideal)) (onTc (τ := Cert.Mlp0ReferenceIdeal.τ) (Cert.Mlp0ReferenceIdeal.main (F := Ideal))) ⟨m', fun _ => 0, g'⟩ (fun r => ∀ c : Dev Cert.Mlp0ReferenceIdeal.nD,
          r.2.mem ((c.tc : Thread Cert.Mlp0ReferenceIdeal.nD Cert.Mlp0ReferenceIdeal.τ).loc Cert.Mlp0ReferenceIdeal.main_v37) = v0 c
          ∧ r.2.mem ((c.tc : Thread Cert.Mlp0ReferenceIdeal.nD Cert.Mlp0ReferenceIdeal.τ).loc Cert.Mlp0ReferenceIdeal.main_arg0) = m' ((c.tc : Thread Cert.Mlp0ReferenceIdeal.nD Cert.Mlp0ReferenceIdeal.τ).loc Cert.Mlp0ReferenceIdeal.main_arg0)
          ∧ r.2.mem ((c.tc : Thread Cert.Mlp0ReferenceIdeal.nD Cert.Mlp0ReferenceIdeal.τ).loc Cert.Mlp0ReferenceIdeal.main_arg1) = m' ((c.tc : Thread Cert.Mlp0ReferenceIdeal.nD Cert.Mlp0ReferenceIdeal.τ).loc Cert.Mlp0ReferenceIdeal.main_arg1)
          ∧ r.2.mem ((c.tc : Thread Cert.Mlp0ReferenceIdeal.nD Cert.Mlp0ReferenceIdeal.τ).loc Cert.Mlp0ReferenceIdeal.main_arg2) = m' ((c.tc : Thread Cert.Mlp0ReferenceIdeal.nD Cert.Mlp0ReferenceIdeal.τ).loc Cert.Mlp0ReferenceIdeal.main_arg2)
          ∧ r.2.mem ((c.tc : Thread Cert.Mlp0ReferenceIdeal.nD Cert.Mlp0ReferenceIdeal.τ).loc Cert.Mlp0ReferenceIdeal.main_arg3) = m' ((c.tc : Thread Cert.Mlp0ReferenceIdeal.nD Cert.Mlp0ReferenceIdeal.τ).loc Cert.Mlp0ReferenceIdeal.main_arg3)
          ∧ r.2.mem ((c.tc : Thread Cert.Mlp0ReferenceIdeal.nD Cert.Mlp0ReferenceIdeal.τ).loc Cert.Mlp0ReferenceIdeal.main_arg4) = m' ((c.tc : Thread Cert.Mlp0ReferenceIdeal.nD Cert.Mlp0ReferenceIdeal.τ).loc Cert.Mlp0ReferenceIdeal.main_arg4))

def preserves_RetOut_RetOutIdeal : Prop :=
  True

def algebraic_RetOutIdeal_RetOutReferenceIdeal [hRetOutIdeal : Cert.RetOutIdeal.Facts] [hRetOutReferenceIdeal : Cert.RetOutReferenceIdeal.Facts] : Prop :=
  ∀ (m : (ℓ : Loc Cert.RetOutIdeal.nD Cert.RetOutIdeal.τ Cert.RetOutIdeal.sig) → Buf (Elt Ideal) ℓ) (g : Dev Cert.RetOutIdeal.nD → PrngReg)
    (m' : (ℓ : Loc Cert.RetOutReferenceIdeal.nD Cert.RetOutReferenceIdeal.τ Cert.RetOutReferenceIdeal.sig) → Buf (Elt Ideal) ℓ) (g' : Dev Cert.RetOutReferenceIdeal.nD → PrngReg), Pre_RetOutIdeal m →
    (∀ c : Dev Cert.RetOutIdeal.nD,
      m' ((c.tc : Thread Cert.RetOutReferenceIdeal.nD Cert.RetOutReferenceIdeal.τ).loc Cert.RetOutReferenceIdeal.main_arg0) = m ((c.tc : Thread Cert.RetOutIdeal.nD Cert.RetOutIdeal.τ).loc Cert.RetOutIdeal.main_arg0)
      ∧ m' ((c.tc : Thread Cert.RetOutReferenceIdeal.nD Cert.RetOutReferenceIdeal.τ).loc Cert.RetOutReferenceIdeal.main_arg1) = m ((c.tc : Thread Cert.RetOutIdeal.nD Cert.RetOutIdeal.τ).loc Cert.RetOutIdeal.main_arg1)
      ∧ m' ((c.tc : Thread Cert.RetOutReferenceIdeal.nD Cert.RetOutReferenceIdeal.τ).loc Cert.RetOutReferenceIdeal.main_arg2) = m ((c.tc : Thread Cert.RetOutIdeal.nD Cert.RetOutIdeal.τ).loc Cert.RetOutIdeal.main_arg2)
      ∧ m' ((c.tc : Thread Cert.RetOutReferenceIdeal.nD Cert.RetOutReferenceIdeal.τ).loc Cert.RetOutReferenceIdeal.main_arg3) = m ((c.tc : Thread Cert.RetOutIdeal.nD Cert.RetOutIdeal.τ).loc Cert.RetOutIdeal.main_arg3)) →
    ∃ (v0 : (c : Dev Cert.RetOutIdeal.nD) → Buf (Elt Ideal) ((c.tc : Thread Cert.RetOutIdeal.nD Cert.RetOutIdeal.τ).loc Cert.RetOutIdeal.main_v0)),
      θ_run (Cert.RetOutIdeal.defs (F := Ideal)) (onTc (τ := Cert.RetOutIdeal.τ) (Cert.RetOutIdeal.main (F := Ideal))) ⟨m, fun _ => 0, g⟩ (fun r => ∀ c : Dev Cert.RetOutIdeal.nD,
          r.2.mem ((c.tc : Thread Cert.RetOutIdeal.nD Cert.RetOutIdeal.τ).loc Cert.RetOutIdeal.main_v0) = v0 c
          ∧ r.2.mem ((c.tc : Thread Cert.RetOutIdeal.nD Cert.RetOutIdeal.τ).loc Cert.RetOutIdeal.main_arg0) = m ((c.tc : Thread Cert.RetOutIdeal.nD Cert.RetOutIdeal.τ).loc Cert.RetOutIdeal.main_arg0)
          ∧ r.2.mem ((c.tc : Thread Cert.RetOutIdeal.nD Cert.RetOutIdeal.τ).loc Cert.RetOutIdeal.main_arg1) = m ((c.tc : Thread Cert.RetOutIdeal.nD Cert.RetOutIdeal.τ).loc Cert.RetOutIdeal.main_arg1)
          ∧ r.2.mem ((c.tc : Thread Cert.RetOutIdeal.nD Cert.RetOutIdeal.τ).loc Cert.RetOutIdeal.main_arg2) = m ((c.tc : Thread Cert.RetOutIdeal.nD Cert.RetOutIdeal.τ).loc Cert.RetOutIdeal.main_arg2)
          ∧ r.2.mem ((c.tc : Thread Cert.RetOutIdeal.nD Cert.RetOutIdeal.τ).loc Cert.RetOutIdeal.main_arg3) = m ((c.tc : Thread Cert.RetOutIdeal.nD Cert.RetOutIdeal.τ).loc Cert.RetOutIdeal.main_arg3))
      ∧ θ_run (Cert.RetOutReferenceIdeal.defs (F := Ideal)) (onTc (τ := Cert.RetOutReferenceIdeal.τ) (Cert.RetOutReferenceIdeal.main (F := Ideal))) ⟨m', fun _ => 0, g'⟩ (fun r => ∀ c : Dev Cert.RetOutReferenceIdeal.nD,
          r.2.mem ((c.tc : Thread Cert.RetOutReferenceIdeal.nD Cert.RetOutReferenceIdeal.τ).loc Cert.RetOutReferenceIdeal.main_v16) = v0 c
          ∧ r.2.mem ((c.tc : Thread Cert.RetOutReferenceIdeal.nD Cert.RetOutReferenceIdeal.τ).loc Cert.RetOutReferenceIdeal.main_arg0) = m' ((c.tc : Thread Cert.RetOutReferenceIdeal.nD Cert.RetOutReferenceIdeal.τ).loc Cert.RetOutReferenceIdeal.main_arg0)
          ∧ r.2.mem ((c.tc : Thread Cert.RetOutReferenceIdeal.nD Cert.RetOutReferenceIdeal.τ).loc Cert.RetOutReferenceIdeal.main_arg1) = m' ((c.tc : Thread Cert.RetOutReferenceIdeal.nD Cert.RetOutReferenceIdeal.τ).loc Cert.RetOutReferenceIdeal.main_arg1)
          ∧ r.2.mem ((c.tc : Thread Cert.RetOutReferenceIdeal.nD Cert.RetOutReferenceIdeal.τ).loc Cert.RetOutReferenceIdeal.main_arg2) = m' ((c.tc : Thread Cert.RetOutReferenceIdeal.nD Cert.RetOutReferenceIdeal.τ).loc Cert.RetOutReferenceIdeal.main_arg2)
          ∧ r.2.mem ((c.tc : Thread Cert.RetOutReferenceIdeal.nD Cert.RetOutReferenceIdeal.τ).loc Cert.RetOutReferenceIdeal.main_arg3) = m' ((c.tc : Thread Cert.RetOutReferenceIdeal.nD Cert.RetOutReferenceIdeal.τ).loc Cert.RetOutReferenceIdeal.main_arg3))

def preserves_AttnOut_AttnOutIdeal : Prop :=
  True

def algebraic_AttnOutIdeal_AttnOutReferenceIdeal [hAttnOutIdeal : Cert.AttnOutIdeal.Facts] [hAttnOutReferenceIdeal : Cert.AttnOutReferenceIdeal.Facts] : Prop :=
  ∀ (m : (ℓ : Loc Cert.AttnOutIdeal.nD Cert.AttnOutIdeal.τ Cert.AttnOutIdeal.sig) → Buf (Elt Ideal) ℓ) (g : Dev Cert.AttnOutIdeal.nD → PrngReg)
    (m' : (ℓ : Loc Cert.AttnOutReferenceIdeal.nD Cert.AttnOutReferenceIdeal.τ Cert.AttnOutReferenceIdeal.sig) → Buf (Elt Ideal) ℓ) (g' : Dev Cert.AttnOutReferenceIdeal.nD → PrngReg), Pre_AttnOutIdeal m →
    (∀ c : Dev Cert.AttnOutIdeal.nD,
      m' ((c.tc : Thread Cert.AttnOutReferenceIdeal.nD Cert.AttnOutReferenceIdeal.τ).loc Cert.AttnOutReferenceIdeal.main_arg0) = m ((c.tc : Thread Cert.AttnOutIdeal.nD Cert.AttnOutIdeal.τ).loc Cert.AttnOutIdeal.main_arg0)
      ∧ m' ((c.tc : Thread Cert.AttnOutReferenceIdeal.nD Cert.AttnOutReferenceIdeal.τ).loc Cert.AttnOutReferenceIdeal.main_arg1) = m ((c.tc : Thread Cert.AttnOutIdeal.nD Cert.AttnOutIdeal.τ).loc Cert.AttnOutIdeal.main_arg1)
      ∧ m' ((c.tc : Thread Cert.AttnOutReferenceIdeal.nD Cert.AttnOutReferenceIdeal.τ).loc Cert.AttnOutReferenceIdeal.main_arg2) = m ((c.tc : Thread Cert.AttnOutIdeal.nD Cert.AttnOutIdeal.τ).loc Cert.AttnOutIdeal.main_arg2)
      ∧ m' ((c.tc : Thread Cert.AttnOutReferenceIdeal.nD Cert.AttnOutReferenceIdeal.τ).loc Cert.AttnOutReferenceIdeal.main_arg3) = m ((c.tc : Thread Cert.AttnOutIdeal.nD Cert.AttnOutIdeal.τ).loc Cert.AttnOutIdeal.main_arg3)) →
    ∃ (v0 : (c : Dev Cert.AttnOutIdeal.nD) → Buf (Elt Ideal) ((c.tc : Thread Cert.AttnOutIdeal.nD Cert.AttnOutIdeal.τ).loc Cert.AttnOutIdeal.main_v0)),
      θ_run (Cert.AttnOutIdeal.defs (F := Ideal)) (onTc (τ := Cert.AttnOutIdeal.τ) (Cert.AttnOutIdeal.main (F := Ideal))) ⟨m, fun _ => 0, g⟩ (fun r => ∀ c : Dev Cert.AttnOutIdeal.nD,
          r.2.mem ((c.tc : Thread Cert.AttnOutIdeal.nD Cert.AttnOutIdeal.τ).loc Cert.AttnOutIdeal.main_v0) = v0 c
          ∧ r.2.mem ((c.tc : Thread Cert.AttnOutIdeal.nD Cert.AttnOutIdeal.τ).loc Cert.AttnOutIdeal.main_arg0) = m ((c.tc : Thread Cert.AttnOutIdeal.nD Cert.AttnOutIdeal.τ).loc Cert.AttnOutIdeal.main_arg0)
          ∧ r.2.mem ((c.tc : Thread Cert.AttnOutIdeal.nD Cert.AttnOutIdeal.τ).loc Cert.AttnOutIdeal.main_arg1) = m ((c.tc : Thread Cert.AttnOutIdeal.nD Cert.AttnOutIdeal.τ).loc Cert.AttnOutIdeal.main_arg1)
          ∧ r.2.mem ((c.tc : Thread Cert.AttnOutIdeal.nD Cert.AttnOutIdeal.τ).loc Cert.AttnOutIdeal.main_arg2) = m ((c.tc : Thread Cert.AttnOutIdeal.nD Cert.AttnOutIdeal.τ).loc Cert.AttnOutIdeal.main_arg2)
          ∧ r.2.mem ((c.tc : Thread Cert.AttnOutIdeal.nD Cert.AttnOutIdeal.τ).loc Cert.AttnOutIdeal.main_arg3) = m ((c.tc : Thread Cert.AttnOutIdeal.nD Cert.AttnOutIdeal.τ).loc Cert.AttnOutIdeal.main_arg3))
      ∧ θ_run (Cert.AttnOutReferenceIdeal.defs (F := Ideal)) (onTc (τ := Cert.AttnOutReferenceIdeal.τ) (Cert.AttnOutReferenceIdeal.main (F := Ideal))) ⟨m', fun _ => 0, g'⟩ (fun r => ∀ c : Dev Cert.AttnOutReferenceIdeal.nD,
          r.2.mem ((c.tc : Thread Cert.AttnOutReferenceIdeal.nD Cert.AttnOutReferenceIdeal.τ).loc Cert.AttnOutReferenceIdeal.main_v16) = v0 c
          ∧ r.2.mem ((c.tc : Thread Cert.AttnOutReferenceIdeal.nD Cert.AttnOutReferenceIdeal.τ).loc Cert.AttnOutReferenceIdeal.main_arg0) = m' ((c.tc : Thread Cert.AttnOutReferenceIdeal.nD Cert.AttnOutReferenceIdeal.τ).loc Cert.AttnOutReferenceIdeal.main_arg0)
          ∧ r.2.mem ((c.tc : Thread Cert.AttnOutReferenceIdeal.nD Cert.AttnOutReferenceIdeal.τ).loc Cert.AttnOutReferenceIdeal.main_arg1) = m' ((c.tc : Thread Cert.AttnOutReferenceIdeal.nD Cert.AttnOutReferenceIdeal.τ).loc Cert.AttnOutReferenceIdeal.main_arg1)
          ∧ r.2.mem ((c.tc : Thread Cert.AttnOutReferenceIdeal.nD Cert.AttnOutReferenceIdeal.τ).loc Cert.AttnOutReferenceIdeal.main_arg2) = m' ((c.tc : Thread Cert.AttnOutReferenceIdeal.nD Cert.AttnOutReferenceIdeal.τ).loc Cert.AttnOutReferenceIdeal.main_arg2)
          ∧ r.2.mem ((c.tc : Thread Cert.AttnOutReferenceIdeal.nD Cert.AttnOutReferenceIdeal.τ).loc Cert.AttnOutReferenceIdeal.main_arg3) = m' ((c.tc : Thread Cert.AttnOutReferenceIdeal.nD Cert.AttnOutReferenceIdeal.τ).loc Cert.AttnOutReferenceIdeal.main_arg3))

def preserves_RetProj_RetProjIdeal : Prop :=
  True

def algebraic_RetProjIdeal_RetProjReferenceIdeal [hRetProjIdeal : Cert.RetProjIdeal.Facts] [hRetProjReferenceIdeal : Cert.RetProjReferenceIdeal.Facts] : Prop :=
  ∀ (m : (ℓ : Loc Cert.RetProjIdeal.nD Cert.RetProjIdeal.τ Cert.RetProjIdeal.sig) → Buf (Elt Ideal) ℓ) (g : Dev Cert.RetProjIdeal.nD → PrngReg)
    (m' : (ℓ : Loc Cert.RetProjReferenceIdeal.nD Cert.RetProjReferenceIdeal.τ Cert.RetProjReferenceIdeal.sig) → Buf (Elt Ideal) ℓ) (g' : Dev Cert.RetProjReferenceIdeal.nD → PrngReg), Pre_RetProjIdeal m →
    (∀ c : Dev Cert.RetProjIdeal.nD,
      m' ((c.tc : Thread Cert.RetProjReferenceIdeal.nD Cert.RetProjReferenceIdeal.τ).loc Cert.RetProjReferenceIdeal.main_arg0) = m ((c.tc : Thread Cert.RetProjIdeal.nD Cert.RetProjIdeal.τ).loc Cert.RetProjIdeal.main_arg0)
      ∧ m' ((c.tc : Thread Cert.RetProjReferenceIdeal.nD Cert.RetProjReferenceIdeal.τ).loc Cert.RetProjReferenceIdeal.main_arg1) = m ((c.tc : Thread Cert.RetProjIdeal.nD Cert.RetProjIdeal.τ).loc Cert.RetProjIdeal.main_arg1)
      ∧ m' ((c.tc : Thread Cert.RetProjReferenceIdeal.nD Cert.RetProjReferenceIdeal.τ).loc Cert.RetProjReferenceIdeal.main_arg2) = m ((c.tc : Thread Cert.RetProjIdeal.nD Cert.RetProjIdeal.τ).loc Cert.RetProjIdeal.main_arg2)
      ∧ m' ((c.tc : Thread Cert.RetProjReferenceIdeal.nD Cert.RetProjReferenceIdeal.τ).loc Cert.RetProjReferenceIdeal.main_arg3) = m ((c.tc : Thread Cert.RetProjIdeal.nD Cert.RetProjIdeal.τ).loc Cert.RetProjIdeal.main_arg3)) →
    ∃ (v0 : (c : Dev Cert.RetProjIdeal.nD) → Buf (Elt Ideal) ((c.tc : Thread Cert.RetProjIdeal.nD Cert.RetProjIdeal.τ).loc Cert.RetProjIdeal.main_v20)),
      θ_run (Cert.RetProjIdeal.defs (F := Ideal)) (onTc (τ := Cert.RetProjIdeal.τ) (Cert.RetProjIdeal.main (F := Ideal))) ⟨m, fun _ => 0, g⟩ (fun r => ∀ c : Dev Cert.RetProjIdeal.nD,
          r.2.mem ((c.tc : Thread Cert.RetProjIdeal.nD Cert.RetProjIdeal.τ).loc Cert.RetProjIdeal.main_v20) = v0 c
          ∧ r.2.mem ((c.tc : Thread Cert.RetProjIdeal.nD Cert.RetProjIdeal.τ).loc Cert.RetProjIdeal.main_arg0) = m ((c.tc : Thread Cert.RetProjIdeal.nD Cert.RetProjIdeal.τ).loc Cert.RetProjIdeal.main_arg0)
          ∧ r.2.mem ((c.tc : Thread Cert.RetProjIdeal.nD Cert.RetProjIdeal.τ).loc Cert.RetProjIdeal.main_arg1) = m ((c.tc : Thread Cert.RetProjIdeal.nD Cert.RetProjIdeal.τ).loc Cert.RetProjIdeal.main_arg1)
          ∧ r.2.mem ((c.tc : Thread Cert.RetProjIdeal.nD Cert.RetProjIdeal.τ).loc Cert.RetProjIdeal.main_arg2) = m ((c.tc : Thread Cert.RetProjIdeal.nD Cert.RetProjIdeal.τ).loc Cert.RetProjIdeal.main_arg2)
          ∧ r.2.mem ((c.tc : Thread Cert.RetProjIdeal.nD Cert.RetProjIdeal.τ).loc Cert.RetProjIdeal.main_arg3) = m ((c.tc : Thread Cert.RetProjIdeal.nD Cert.RetProjIdeal.τ).loc Cert.RetProjIdeal.main_arg3))
      ∧ θ_run (Cert.RetProjReferenceIdeal.defs (F := Ideal)) (onTc (τ := Cert.RetProjReferenceIdeal.τ) (Cert.RetProjReferenceIdeal.main (F := Ideal))) ⟨m', fun _ => 0, g'⟩ (fun r => ∀ c : Dev Cert.RetProjReferenceIdeal.nD,
          r.2.mem ((c.tc : Thread Cert.RetProjReferenceIdeal.nD Cert.RetProjReferenceIdeal.τ).loc Cert.RetProjReferenceIdeal.main_v101) = v0 c
          ∧ r.2.mem ((c.tc : Thread Cert.RetProjReferenceIdeal.nD Cert.RetProjReferenceIdeal.τ).loc Cert.RetProjReferenceIdeal.main_arg0) = m' ((c.tc : Thread Cert.RetProjReferenceIdeal.nD Cert.RetProjReferenceIdeal.τ).loc Cert.RetProjReferenceIdeal.main_arg0)
          ∧ r.2.mem ((c.tc : Thread Cert.RetProjReferenceIdeal.nD Cert.RetProjReferenceIdeal.τ).loc Cert.RetProjReferenceIdeal.main_arg1) = m' ((c.tc : Thread Cert.RetProjReferenceIdeal.nD Cert.RetProjReferenceIdeal.τ).loc Cert.RetProjReferenceIdeal.main_arg1)
          ∧ r.2.mem ((c.tc : Thread Cert.RetProjReferenceIdeal.nD Cert.RetProjReferenceIdeal.τ).loc Cert.RetProjReferenceIdeal.main_arg2) = m' ((c.tc : Thread Cert.RetProjReferenceIdeal.nD Cert.RetProjReferenceIdeal.τ).loc Cert.RetProjReferenceIdeal.main_arg2)
          ∧ r.2.mem ((c.tc : Thread Cert.RetProjReferenceIdeal.nD Cert.RetProjReferenceIdeal.τ).loc Cert.RetProjReferenceIdeal.main_arg3) = m' ((c.tc : Thread Cert.RetProjReferenceIdeal.nD Cert.RetProjReferenceIdeal.τ).loc Cert.RetProjReferenceIdeal.main_arg3))

def preserves_AttnProj_AttnProjIdeal : Prop :=
  True

def algebraic_AttnProjIdeal_AttnProjReferenceIdeal [hAttnProjIdeal : Cert.AttnProjIdeal.Facts] [hAttnProjReferenceIdeal : Cert.AttnProjReferenceIdeal.Facts] : Prop :=
  ∀ (m : (ℓ : Loc Cert.AttnProjIdeal.nD Cert.AttnProjIdeal.τ Cert.AttnProjIdeal.sig) → Buf (Elt Ideal) ℓ) (g : Dev Cert.AttnProjIdeal.nD → PrngReg)
    (m' : (ℓ : Loc Cert.AttnProjReferenceIdeal.nD Cert.AttnProjReferenceIdeal.τ Cert.AttnProjReferenceIdeal.sig) → Buf (Elt Ideal) ℓ) (g' : Dev Cert.AttnProjReferenceIdeal.nD → PrngReg), Pre_AttnProjIdeal m →
    (∀ c : Dev Cert.AttnProjIdeal.nD,
      m' ((c.tc : Thread Cert.AttnProjReferenceIdeal.nD Cert.AttnProjReferenceIdeal.τ).loc Cert.AttnProjReferenceIdeal.main_arg0) = m ((c.tc : Thread Cert.AttnProjIdeal.nD Cert.AttnProjIdeal.τ).loc Cert.AttnProjIdeal.main_arg0)
      ∧ m' ((c.tc : Thread Cert.AttnProjReferenceIdeal.nD Cert.AttnProjReferenceIdeal.τ).loc Cert.AttnProjReferenceIdeal.main_arg1) = m ((c.tc : Thread Cert.AttnProjIdeal.nD Cert.AttnProjIdeal.τ).loc Cert.AttnProjIdeal.main_arg1)
      ∧ m' ((c.tc : Thread Cert.AttnProjReferenceIdeal.nD Cert.AttnProjReferenceIdeal.τ).loc Cert.AttnProjReferenceIdeal.main_arg2) = m ((c.tc : Thread Cert.AttnProjIdeal.nD Cert.AttnProjIdeal.τ).loc Cert.AttnProjIdeal.main_arg2)
      ∧ m' ((c.tc : Thread Cert.AttnProjReferenceIdeal.nD Cert.AttnProjReferenceIdeal.τ).loc Cert.AttnProjReferenceIdeal.main_arg3) = m ((c.tc : Thread Cert.AttnProjIdeal.nD Cert.AttnProjIdeal.τ).loc Cert.AttnProjIdeal.main_arg3)) →
    ∃ (v0 : (c : Dev Cert.AttnProjIdeal.nD) → Buf (Elt Ideal) ((c.tc : Thread Cert.AttnProjIdeal.nD Cert.AttnProjIdeal.τ).loc Cert.AttnProjIdeal.main_v49)),
      θ_run (Cert.AttnProjIdeal.defs (F := Ideal)) (onTc (τ := Cert.AttnProjIdeal.τ) (Cert.AttnProjIdeal.main (F := Ideal))) ⟨m, fun _ => 0, g⟩ (fun r => ∀ c : Dev Cert.AttnProjIdeal.nD,
          r.2.mem ((c.tc : Thread Cert.AttnProjIdeal.nD Cert.AttnProjIdeal.τ).loc Cert.AttnProjIdeal.main_v49) = v0 c
          ∧ r.2.mem ((c.tc : Thread Cert.AttnProjIdeal.nD Cert.AttnProjIdeal.τ).loc Cert.AttnProjIdeal.main_arg0) = m ((c.tc : Thread Cert.AttnProjIdeal.nD Cert.AttnProjIdeal.τ).loc Cert.AttnProjIdeal.main_arg0)
          ∧ r.2.mem ((c.tc : Thread Cert.AttnProjIdeal.nD Cert.AttnProjIdeal.τ).loc Cert.AttnProjIdeal.main_arg1) = m ((c.tc : Thread Cert.AttnProjIdeal.nD Cert.AttnProjIdeal.τ).loc Cert.AttnProjIdeal.main_arg1)
          ∧ r.2.mem ((c.tc : Thread Cert.AttnProjIdeal.nD Cert.AttnProjIdeal.τ).loc Cert.AttnProjIdeal.main_arg2) = m ((c.tc : Thread Cert.AttnProjIdeal.nD Cert.AttnProjIdeal.τ).loc Cert.AttnProjIdeal.main_arg2)
          ∧ r.2.mem ((c.tc : Thread Cert.AttnProjIdeal.nD Cert.AttnProjIdeal.τ).loc Cert.AttnProjIdeal.main_arg3) = m ((c.tc : Thread Cert.AttnProjIdeal.nD Cert.AttnProjIdeal.τ).loc Cert.AttnProjIdeal.main_arg3))
      ∧ θ_run (Cert.AttnProjReferenceIdeal.defs (F := Ideal)) (onTc (τ := Cert.AttnProjReferenceIdeal.τ) (Cert.AttnProjReferenceIdeal.main (F := Ideal))) ⟨m', fun _ => 0, g'⟩ (fun r => ∀ c : Dev Cert.AttnProjReferenceIdeal.nD,
          r.2.mem ((c.tc : Thread Cert.AttnProjReferenceIdeal.nD Cert.AttnProjReferenceIdeal.τ).loc Cert.AttnProjReferenceIdeal.main_v198) = v0 c
          ∧ r.2.mem ((c.tc : Thread Cert.AttnProjReferenceIdeal.nD Cert.AttnProjReferenceIdeal.τ).loc Cert.AttnProjReferenceIdeal.main_arg0) = m' ((c.tc : Thread Cert.AttnProjReferenceIdeal.nD Cert.AttnProjReferenceIdeal.τ).loc Cert.AttnProjReferenceIdeal.main_arg0)
          ∧ r.2.mem ((c.tc : Thread Cert.AttnProjReferenceIdeal.nD Cert.AttnProjReferenceIdeal.τ).loc Cert.AttnProjReferenceIdeal.main_arg1) = m' ((c.tc : Thread Cert.AttnProjReferenceIdeal.nD Cert.AttnProjReferenceIdeal.τ).loc Cert.AttnProjReferenceIdeal.main_arg1)
          ∧ r.2.mem ((c.tc : Thread Cert.AttnProjReferenceIdeal.nD Cert.AttnProjReferenceIdeal.τ).loc Cert.AttnProjReferenceIdeal.main_arg2) = m' ((c.tc : Thread Cert.AttnProjReferenceIdeal.nD Cert.AttnProjReferenceIdeal.τ).loc Cert.AttnProjReferenceIdeal.main_arg2)
          ∧ r.2.mem ((c.tc : Thread Cert.AttnProjReferenceIdeal.nD Cert.AttnProjReferenceIdeal.τ).loc Cert.AttnProjReferenceIdeal.main_arg3) = m' ((c.tc : Thread Cert.AttnProjReferenceIdeal.nD Cert.AttnProjReferenceIdeal.τ).loc Cert.AttnProjReferenceIdeal.main_arg3))

def preserves_Mlp0Ctx_Mlp0CtxIdeal : Prop :=
  True

def algebraic_Mlp0CtxIdeal_Mlp0CtxReferenceIdeal [hMlp0CtxIdeal : Cert.Mlp0CtxIdeal.Facts] [hMlp0CtxReferenceIdeal : Cert.Mlp0CtxReferenceIdeal.Facts] : Prop :=
  ∀ (m : (ℓ : Loc Cert.Mlp0CtxIdeal.nD Cert.Mlp0CtxIdeal.τ Cert.Mlp0CtxIdeal.sig) → Buf (Elt Ideal) ℓ) (g : Dev Cert.Mlp0CtxIdeal.nD → PrngReg)
    (m' : (ℓ : Loc Cert.Mlp0CtxReferenceIdeal.nD Cert.Mlp0CtxReferenceIdeal.τ Cert.Mlp0CtxReferenceIdeal.sig) → Buf (Elt Ideal) ℓ) (g' : Dev Cert.Mlp0CtxReferenceIdeal.nD → PrngReg), Pre_Mlp0CtxIdeal m →
    (∀ c : Dev Cert.Mlp0CtxIdeal.nD,
      m' ((c.tc : Thread Cert.Mlp0CtxReferenceIdeal.nD Cert.Mlp0CtxReferenceIdeal.τ).loc Cert.Mlp0CtxReferenceIdeal.main_arg0) = m ((c.tc : Thread Cert.Mlp0CtxIdeal.nD Cert.Mlp0CtxIdeal.τ).loc Cert.Mlp0CtxIdeal.main_arg0)
      ∧ m' ((c.tc : Thread Cert.Mlp0CtxReferenceIdeal.nD Cert.Mlp0CtxReferenceIdeal.τ).loc Cert.Mlp0CtxReferenceIdeal.main_arg1) = m ((c.tc : Thread Cert.Mlp0CtxIdeal.nD Cert.Mlp0CtxIdeal.τ).loc Cert.Mlp0CtxIdeal.main_arg1)
      ∧ m' ((c.tc : Thread Cert.Mlp0CtxReferenceIdeal.nD Cert.Mlp0CtxReferenceIdeal.τ).loc Cert.Mlp0CtxReferenceIdeal.main_arg2) = m ((c.tc : Thread Cert.Mlp0CtxIdeal.nD Cert.Mlp0CtxIdeal.τ).loc Cert.Mlp0CtxIdeal.main_arg2)
      ∧ m' ((c.tc : Thread Cert.Mlp0CtxReferenceIdeal.nD Cert.Mlp0CtxReferenceIdeal.τ).loc Cert.Mlp0CtxReferenceIdeal.main_arg3) = m ((c.tc : Thread Cert.Mlp0CtxIdeal.nD Cert.Mlp0CtxIdeal.τ).loc Cert.Mlp0CtxIdeal.main_arg3)
      ∧ m' ((c.tc : Thread Cert.Mlp0CtxReferenceIdeal.nD Cert.Mlp0CtxReferenceIdeal.τ).loc Cert.Mlp0CtxReferenceIdeal.main_arg4) = m ((c.tc : Thread Cert.Mlp0CtxIdeal.nD Cert.Mlp0CtxIdeal.τ).loc Cert.Mlp0CtxIdeal.main_arg4)) →
    ∃ (v0 : (c : Dev Cert.Mlp0CtxIdeal.nD) → Buf (Elt Ideal) ((c.tc : Thread Cert.Mlp0CtxIdeal.nD Cert.Mlp0CtxIdeal.τ).loc Cert.Mlp0CtxIdeal.main_v1)),
      θ_run (Cert.Mlp0CtxIdeal.defs (F := Ideal)) (onTc (τ := Cert.Mlp0CtxIdeal.τ) (Cert.Mlp0CtxIdeal.main (F := Ideal))) ⟨m, fun _ => 0, g⟩ (fun r => ∀ c : Dev Cert.Mlp0CtxIdeal.nD,
          r.2.mem ((c.tc : Thread Cert.Mlp0CtxIdeal.nD Cert.Mlp0CtxIdeal.τ).loc Cert.Mlp0CtxIdeal.main_v1) = v0 c
          ∧ r.2.mem ((c.tc : Thread Cert.Mlp0CtxIdeal.nD Cert.Mlp0CtxIdeal.τ).loc Cert.Mlp0CtxIdeal.main_arg0) = m ((c.tc : Thread Cert.Mlp0CtxIdeal.nD Cert.Mlp0CtxIdeal.τ).loc Cert.Mlp0CtxIdeal.main_arg0)
          ∧ r.2.mem ((c.tc : Thread Cert.Mlp0CtxIdeal.nD Cert.Mlp0CtxIdeal.τ).loc Cert.Mlp0CtxIdeal.main_arg1) = m ((c.tc : Thread Cert.Mlp0CtxIdeal.nD Cert.Mlp0CtxIdeal.τ).loc Cert.Mlp0CtxIdeal.main_arg1)
          ∧ r.2.mem ((c.tc : Thread Cert.Mlp0CtxIdeal.nD Cert.Mlp0CtxIdeal.τ).loc Cert.Mlp0CtxIdeal.main_arg2) = m ((c.tc : Thread Cert.Mlp0CtxIdeal.nD Cert.Mlp0CtxIdeal.τ).loc Cert.Mlp0CtxIdeal.main_arg2)
          ∧ r.2.mem ((c.tc : Thread Cert.Mlp0CtxIdeal.nD Cert.Mlp0CtxIdeal.τ).loc Cert.Mlp0CtxIdeal.main_arg3) = m ((c.tc : Thread Cert.Mlp0CtxIdeal.nD Cert.Mlp0CtxIdeal.τ).loc Cert.Mlp0CtxIdeal.main_arg3)
          ∧ r.2.mem ((c.tc : Thread Cert.Mlp0CtxIdeal.nD Cert.Mlp0CtxIdeal.τ).loc Cert.Mlp0CtxIdeal.main_arg4) = m ((c.tc : Thread Cert.Mlp0CtxIdeal.nD Cert.Mlp0CtxIdeal.τ).loc Cert.Mlp0CtxIdeal.main_arg4))
      ∧ θ_run (Cert.Mlp0CtxReferenceIdeal.defs (F := Ideal)) (onTc (τ := Cert.Mlp0CtxReferenceIdeal.τ) (Cert.Mlp0CtxReferenceIdeal.main (F := Ideal))) ⟨m', fun _ => 0, g'⟩ (fun r => ∀ c : Dev Cert.Mlp0CtxReferenceIdeal.nD,
          r.2.mem ((c.tc : Thread Cert.Mlp0CtxReferenceIdeal.nD Cert.Mlp0CtxReferenceIdeal.τ).loc Cert.Mlp0CtxReferenceIdeal.main_v37) = v0 c
          ∧ r.2.mem ((c.tc : Thread Cert.Mlp0CtxReferenceIdeal.nD Cert.Mlp0CtxReferenceIdeal.τ).loc Cert.Mlp0CtxReferenceIdeal.main_arg0) = m' ((c.tc : Thread Cert.Mlp0CtxReferenceIdeal.nD Cert.Mlp0CtxReferenceIdeal.τ).loc Cert.Mlp0CtxReferenceIdeal.main_arg0)
          ∧ r.2.mem ((c.tc : Thread Cert.Mlp0CtxReferenceIdeal.nD Cert.Mlp0CtxReferenceIdeal.τ).loc Cert.Mlp0CtxReferenceIdeal.main_arg1) = m' ((c.tc : Thread Cert.Mlp0CtxReferenceIdeal.nD Cert.Mlp0CtxReferenceIdeal.τ).loc Cert.Mlp0CtxReferenceIdeal.main_arg1)
          ∧ r.2.mem ((c.tc : Thread Cert.Mlp0CtxReferenceIdeal.nD Cert.Mlp0CtxReferenceIdeal.τ).loc Cert.Mlp0CtxReferenceIdeal.main_arg2) = m' ((c.tc : Thread Cert.Mlp0CtxReferenceIdeal.nD Cert.Mlp0CtxReferenceIdeal.τ).loc Cert.Mlp0CtxReferenceIdeal.main_arg2)
          ∧ r.2.mem ((c.tc : Thread Cert.Mlp0CtxReferenceIdeal.nD Cert.Mlp0CtxReferenceIdeal.τ).loc Cert.Mlp0CtxReferenceIdeal.main_arg3) = m' ((c.tc : Thread Cert.Mlp0CtxReferenceIdeal.nD Cert.Mlp0CtxReferenceIdeal.τ).loc Cert.Mlp0CtxReferenceIdeal.main_arg3)
          ∧ r.2.mem ((c.tc : Thread Cert.Mlp0CtxReferenceIdeal.nD Cert.Mlp0CtxReferenceIdeal.τ).loc Cert.Mlp0CtxReferenceIdeal.main_arg4) = m' ((c.tc : Thread Cert.Mlp0CtxReferenceIdeal.nD Cert.Mlp0CtxReferenceIdeal.τ).loc Cert.Mlp0CtxReferenceIdeal.main_arg4))

def preserves_RetProjCtx_RetProjCtxIdeal : Prop :=
  True

def algebraic_RetProjCtxIdeal_RetProjCtxReferenceIdeal [hRetProjCtxIdeal : Cert.RetProjCtxIdeal.Facts] [hRetProjCtxReferenceIdeal : Cert.RetProjCtxReferenceIdeal.Facts] : Prop :=
  ∀ (m : (ℓ : Loc Cert.RetProjCtxIdeal.nD Cert.RetProjCtxIdeal.τ Cert.RetProjCtxIdeal.sig) → Buf (Elt Ideal) ℓ) (g : Dev Cert.RetProjCtxIdeal.nD → PrngReg)
    (m' : (ℓ : Loc Cert.RetProjCtxReferenceIdeal.nD Cert.RetProjCtxReferenceIdeal.τ Cert.RetProjCtxReferenceIdeal.sig) → Buf (Elt Ideal) ℓ) (g' : Dev Cert.RetProjCtxReferenceIdeal.nD → PrngReg), Pre_RetProjCtxIdeal m →
    (∀ c : Dev Cert.RetProjCtxIdeal.nD,
      m' ((c.tc : Thread Cert.RetProjCtxReferenceIdeal.nD Cert.RetProjCtxReferenceIdeal.τ).loc Cert.RetProjCtxReferenceIdeal.main_arg0) = m ((c.tc : Thread Cert.RetProjCtxIdeal.nD Cert.RetProjCtxIdeal.τ).loc Cert.RetProjCtxIdeal.main_arg0)
      ∧ m' ((c.tc : Thread Cert.RetProjCtxReferenceIdeal.nD Cert.RetProjCtxReferenceIdeal.τ).loc Cert.RetProjCtxReferenceIdeal.main_arg1) = m ((c.tc : Thread Cert.RetProjCtxIdeal.nD Cert.RetProjCtxIdeal.τ).loc Cert.RetProjCtxIdeal.main_arg1)
      ∧ m' ((c.tc : Thread Cert.RetProjCtxReferenceIdeal.nD Cert.RetProjCtxReferenceIdeal.τ).loc Cert.RetProjCtxReferenceIdeal.main_arg2) = m ((c.tc : Thread Cert.RetProjCtxIdeal.nD Cert.RetProjCtxIdeal.τ).loc Cert.RetProjCtxIdeal.main_arg2)
      ∧ m' ((c.tc : Thread Cert.RetProjCtxReferenceIdeal.nD Cert.RetProjCtxReferenceIdeal.τ).loc Cert.RetProjCtxReferenceIdeal.main_arg3) = m ((c.tc : Thread Cert.RetProjCtxIdeal.nD Cert.RetProjCtxIdeal.τ).loc Cert.RetProjCtxIdeal.main_arg3)) →
    ∃ (v0 : (c : Dev Cert.RetProjCtxIdeal.nD) → Buf (Elt Ideal) ((c.tc : Thread Cert.RetProjCtxIdeal.nD Cert.RetProjCtxIdeal.τ).loc Cert.RetProjCtxIdeal.main_v1)),
      θ_run (Cert.RetProjCtxIdeal.defs (F := Ideal)) (onTc (τ := Cert.RetProjCtxIdeal.τ) (Cert.RetProjCtxIdeal.main (F := Ideal))) ⟨m, fun _ => 0, g⟩ (fun r => ∀ c : Dev Cert.RetProjCtxIdeal.nD,
          r.2.mem ((c.tc : Thread Cert.RetProjCtxIdeal.nD Cert.RetProjCtxIdeal.τ).loc Cert.RetProjCtxIdeal.main_v1) = v0 c
          ∧ r.2.mem ((c.tc : Thread Cert.RetProjCtxIdeal.nD Cert.RetProjCtxIdeal.τ).loc Cert.RetProjCtxIdeal.main_arg0) = m ((c.tc : Thread Cert.RetProjCtxIdeal.nD Cert.RetProjCtxIdeal.τ).loc Cert.RetProjCtxIdeal.main_arg0)
          ∧ r.2.mem ((c.tc : Thread Cert.RetProjCtxIdeal.nD Cert.RetProjCtxIdeal.τ).loc Cert.RetProjCtxIdeal.main_arg1) = m ((c.tc : Thread Cert.RetProjCtxIdeal.nD Cert.RetProjCtxIdeal.τ).loc Cert.RetProjCtxIdeal.main_arg1)
          ∧ r.2.mem ((c.tc : Thread Cert.RetProjCtxIdeal.nD Cert.RetProjCtxIdeal.τ).loc Cert.RetProjCtxIdeal.main_arg2) = m ((c.tc : Thread Cert.RetProjCtxIdeal.nD Cert.RetProjCtxIdeal.τ).loc Cert.RetProjCtxIdeal.main_arg2)
          ∧ r.2.mem ((c.tc : Thread Cert.RetProjCtxIdeal.nD Cert.RetProjCtxIdeal.τ).loc Cert.RetProjCtxIdeal.main_arg3) = m ((c.tc : Thread Cert.RetProjCtxIdeal.nD Cert.RetProjCtxIdeal.τ).loc Cert.RetProjCtxIdeal.main_arg3))
      ∧ θ_run (Cert.RetProjCtxReferenceIdeal.defs (F := Ideal)) (onTc (τ := Cert.RetProjCtxReferenceIdeal.τ) (Cert.RetProjCtxReferenceIdeal.main (F := Ideal))) ⟨m', fun _ => 0, g'⟩ (fun r => ∀ c : Dev Cert.RetProjCtxReferenceIdeal.nD,
          r.2.mem ((c.tc : Thread Cert.RetProjCtxReferenceIdeal.nD Cert.RetProjCtxReferenceIdeal.τ).loc Cert.RetProjCtxReferenceIdeal.main_v40) = v0 c
          ∧ r.2.mem ((c.tc : Thread Cert.RetProjCtxReferenceIdeal.nD Cert.RetProjCtxReferenceIdeal.τ).loc Cert.RetProjCtxReferenceIdeal.main_arg0) = m' ((c.tc : Thread Cert.RetProjCtxReferenceIdeal.nD Cert.RetProjCtxReferenceIdeal.τ).loc Cert.RetProjCtxReferenceIdeal.main_arg0)
          ∧ r.2.mem ((c.tc : Thread Cert.RetProjCtxReferenceIdeal.nD Cert.RetProjCtxReferenceIdeal.τ).loc Cert.RetProjCtxReferenceIdeal.main_arg1) = m' ((c.tc : Thread Cert.RetProjCtxReferenceIdeal.nD Cert.RetProjCtxReferenceIdeal.τ).loc Cert.RetProjCtxReferenceIdeal.main_arg1)
          ∧ r.2.mem ((c.tc : Thread Cert.RetProjCtxReferenceIdeal.nD Cert.RetProjCtxReferenceIdeal.τ).loc Cert.RetProjCtxReferenceIdeal.main_arg2) = m' ((c.tc : Thread Cert.RetProjCtxReferenceIdeal.nD Cert.RetProjCtxReferenceIdeal.τ).loc Cert.RetProjCtxReferenceIdeal.main_arg2)
          ∧ r.2.mem ((c.tc : Thread Cert.RetProjCtxReferenceIdeal.nD Cert.RetProjCtxReferenceIdeal.τ).loc Cert.RetProjCtxReferenceIdeal.main_arg3) = m' ((c.tc : Thread Cert.RetProjCtxReferenceIdeal.nD Cert.RetProjCtxReferenceIdeal.τ).loc Cert.RetProjCtxReferenceIdeal.main_arg3))

def preserves_RetOutCtx_RetOutCtxIdeal : Prop :=
  True

def algebraic_RetOutCtxIdeal_RetOutCtxReferenceIdeal [hRetOutCtxIdeal : Cert.RetOutCtxIdeal.Facts] [hRetOutCtxReferenceIdeal : Cert.RetOutCtxReferenceIdeal.Facts] : Prop :=
  ∀ (m : (ℓ : Loc Cert.RetOutCtxIdeal.nD Cert.RetOutCtxIdeal.τ Cert.RetOutCtxIdeal.sig) → Buf (Elt Ideal) ℓ) (g : Dev Cert.RetOutCtxIdeal.nD → PrngReg)
    (m' : (ℓ : Loc Cert.RetOutCtxReferenceIdeal.nD Cert.RetOutCtxReferenceIdeal.τ Cert.RetOutCtxReferenceIdeal.sig) → Buf (Elt Ideal) ℓ) (g' : Dev Cert.RetOutCtxReferenceIdeal.nD → PrngReg), Pre_RetOutCtxIdeal m →
    (∀ c : Dev Cert.RetOutCtxIdeal.nD,
      m' ((c.tc : Thread Cert.RetOutCtxReferenceIdeal.nD Cert.RetOutCtxReferenceIdeal.τ).loc Cert.RetOutCtxReferenceIdeal.main_arg0) = m ((c.tc : Thread Cert.RetOutCtxIdeal.nD Cert.RetOutCtxIdeal.τ).loc Cert.RetOutCtxIdeal.main_arg0)
      ∧ m' ((c.tc : Thread Cert.RetOutCtxReferenceIdeal.nD Cert.RetOutCtxReferenceIdeal.τ).loc Cert.RetOutCtxReferenceIdeal.main_arg1) = m ((c.tc : Thread Cert.RetOutCtxIdeal.nD Cert.RetOutCtxIdeal.τ).loc Cert.RetOutCtxIdeal.main_arg1)
      ∧ m' ((c.tc : Thread Cert.RetOutCtxReferenceIdeal.nD Cert.RetOutCtxReferenceIdeal.τ).loc Cert.RetOutCtxReferenceIdeal.main_arg2) = m ((c.tc : Thread Cert.RetOutCtxIdeal.nD Cert.RetOutCtxIdeal.τ).loc Cert.RetOutCtxIdeal.main_arg2)
      ∧ m' ((c.tc : Thread Cert.RetOutCtxReferenceIdeal.nD Cert.RetOutCtxReferenceIdeal.τ).loc Cert.RetOutCtxReferenceIdeal.main_arg3) = m ((c.tc : Thread Cert.RetOutCtxIdeal.nD Cert.RetOutCtxIdeal.τ).loc Cert.RetOutCtxIdeal.main_arg3)) →
    ∃ (v0 : (c : Dev Cert.RetOutCtxIdeal.nD) → Buf (Elt Ideal) ((c.tc : Thread Cert.RetOutCtxIdeal.nD Cert.RetOutCtxIdeal.τ).loc Cert.RetOutCtxIdeal.main_v0)),
      θ_run (Cert.RetOutCtxIdeal.defs (F := Ideal)) (onTc (τ := Cert.RetOutCtxIdeal.τ) (Cert.RetOutCtxIdeal.main (F := Ideal))) ⟨m, fun _ => 0, g⟩ (fun r => ∀ c : Dev Cert.RetOutCtxIdeal.nD,
          r.2.mem ((c.tc : Thread Cert.RetOutCtxIdeal.nD Cert.RetOutCtxIdeal.τ).loc Cert.RetOutCtxIdeal.main_v0) = v0 c
          ∧ r.2.mem ((c.tc : Thread Cert.RetOutCtxIdeal.nD Cert.RetOutCtxIdeal.τ).loc Cert.RetOutCtxIdeal.main_arg0) = m ((c.tc : Thread Cert.RetOutCtxIdeal.nD Cert.RetOutCtxIdeal.τ).loc Cert.RetOutCtxIdeal.main_arg0)
          ∧ r.2.mem ((c.tc : Thread Cert.RetOutCtxIdeal.nD Cert.RetOutCtxIdeal.τ).loc Cert.RetOutCtxIdeal.main_arg1) = m ((c.tc : Thread Cert.RetOutCtxIdeal.nD Cert.RetOutCtxIdeal.τ).loc Cert.RetOutCtxIdeal.main_arg1)
          ∧ r.2.mem ((c.tc : Thread Cert.RetOutCtxIdeal.nD Cert.RetOutCtxIdeal.τ).loc Cert.RetOutCtxIdeal.main_arg2) = m ((c.tc : Thread Cert.RetOutCtxIdeal.nD Cert.RetOutCtxIdeal.τ).loc Cert.RetOutCtxIdeal.main_arg2)
          ∧ r.2.mem ((c.tc : Thread Cert.RetOutCtxIdeal.nD Cert.RetOutCtxIdeal.τ).loc Cert.RetOutCtxIdeal.main_arg3) = m ((c.tc : Thread Cert.RetOutCtxIdeal.nD Cert.RetOutCtxIdeal.τ).loc Cert.RetOutCtxIdeal.main_arg3))
      ∧ θ_run (Cert.RetOutCtxReferenceIdeal.defs (F := Ideal)) (onTc (τ := Cert.RetOutCtxReferenceIdeal.τ) (Cert.RetOutCtxReferenceIdeal.main (F := Ideal))) ⟨m', fun _ => 0, g'⟩ (fun r => ∀ c : Dev Cert.RetOutCtxReferenceIdeal.nD,
          r.2.mem ((c.tc : Thread Cert.RetOutCtxReferenceIdeal.nD Cert.RetOutCtxReferenceIdeal.τ).loc Cert.RetOutCtxReferenceIdeal.main_v16) = v0 c
          ∧ r.2.mem ((c.tc : Thread Cert.RetOutCtxReferenceIdeal.nD Cert.RetOutCtxReferenceIdeal.τ).loc Cert.RetOutCtxReferenceIdeal.main_arg0) = m' ((c.tc : Thread Cert.RetOutCtxReferenceIdeal.nD Cert.RetOutCtxReferenceIdeal.τ).loc Cert.RetOutCtxReferenceIdeal.main_arg0)
          ∧ r.2.mem ((c.tc : Thread Cert.RetOutCtxReferenceIdeal.nD Cert.RetOutCtxReferenceIdeal.τ).loc Cert.RetOutCtxReferenceIdeal.main_arg1) = m' ((c.tc : Thread Cert.RetOutCtxReferenceIdeal.nD Cert.RetOutCtxReferenceIdeal.τ).loc Cert.RetOutCtxReferenceIdeal.main_arg1)
          ∧ r.2.mem ((c.tc : Thread Cert.RetOutCtxReferenceIdeal.nD Cert.RetOutCtxReferenceIdeal.τ).loc Cert.RetOutCtxReferenceIdeal.main_arg2) = m' ((c.tc : Thread Cert.RetOutCtxReferenceIdeal.nD Cert.RetOutCtxReferenceIdeal.τ).loc Cert.RetOutCtxReferenceIdeal.main_arg2)
          ∧ r.2.mem ((c.tc : Thread Cert.RetOutCtxReferenceIdeal.nD Cert.RetOutCtxReferenceIdeal.τ).loc Cert.RetOutCtxReferenceIdeal.main_arg3) = m' ((c.tc : Thread Cert.RetOutCtxReferenceIdeal.nD Cert.RetOutCtxReferenceIdeal.τ).loc Cert.RetOutCtxReferenceIdeal.main_arg3))

def preserves_AttnProjCtx_AttnProjCtxIdeal : Prop :=
  True

def algebraic_AttnProjCtxIdeal_AttnProjCtxReferenceIdeal [hAttnProjCtxIdeal : Cert.AttnProjCtxIdeal.Facts] [hAttnProjCtxReferenceIdeal : Cert.AttnProjCtxReferenceIdeal.Facts] : Prop :=
  ∀ (m : (ℓ : Loc Cert.AttnProjCtxIdeal.nD Cert.AttnProjCtxIdeal.τ Cert.AttnProjCtxIdeal.sig) → Buf (Elt Ideal) ℓ) (g : Dev Cert.AttnProjCtxIdeal.nD → PrngReg)
    (m' : (ℓ : Loc Cert.AttnProjCtxReferenceIdeal.nD Cert.AttnProjCtxReferenceIdeal.τ Cert.AttnProjCtxReferenceIdeal.sig) → Buf (Elt Ideal) ℓ) (g' : Dev Cert.AttnProjCtxReferenceIdeal.nD → PrngReg), Pre_AttnProjCtxIdeal m →
    (∀ c : Dev Cert.AttnProjCtxIdeal.nD,
      m' ((c.tc : Thread Cert.AttnProjCtxReferenceIdeal.nD Cert.AttnProjCtxReferenceIdeal.τ).loc Cert.AttnProjCtxReferenceIdeal.main_arg0) = m ((c.tc : Thread Cert.AttnProjCtxIdeal.nD Cert.AttnProjCtxIdeal.τ).loc Cert.AttnProjCtxIdeal.main_arg0)
      ∧ m' ((c.tc : Thread Cert.AttnProjCtxReferenceIdeal.nD Cert.AttnProjCtxReferenceIdeal.τ).loc Cert.AttnProjCtxReferenceIdeal.main_arg1) = m ((c.tc : Thread Cert.AttnProjCtxIdeal.nD Cert.AttnProjCtxIdeal.τ).loc Cert.AttnProjCtxIdeal.main_arg1)
      ∧ m' ((c.tc : Thread Cert.AttnProjCtxReferenceIdeal.nD Cert.AttnProjCtxReferenceIdeal.τ).loc Cert.AttnProjCtxReferenceIdeal.main_arg2) = m ((c.tc : Thread Cert.AttnProjCtxIdeal.nD Cert.AttnProjCtxIdeal.τ).loc Cert.AttnProjCtxIdeal.main_arg2)
      ∧ m' ((c.tc : Thread Cert.AttnProjCtxReferenceIdeal.nD Cert.AttnProjCtxReferenceIdeal.τ).loc Cert.AttnProjCtxReferenceIdeal.main_arg3) = m ((c.tc : Thread Cert.AttnProjCtxIdeal.nD Cert.AttnProjCtxIdeal.τ).loc Cert.AttnProjCtxIdeal.main_arg3)) →
    ∃ (v0 : (c : Dev Cert.AttnProjCtxIdeal.nD) → Buf (Elt Ideal) ((c.tc : Thread Cert.AttnProjCtxIdeal.nD Cert.AttnProjCtxIdeal.τ).loc Cert.AttnProjCtxIdeal.main_v1)),
      θ_run (Cert.AttnProjCtxIdeal.defs (F := Ideal)) (onTc (τ := Cert.AttnProjCtxIdeal.τ) (Cert.AttnProjCtxIdeal.main (F := Ideal))) ⟨m, fun _ => 0, g⟩ (fun r => ∀ c : Dev Cert.AttnProjCtxIdeal.nD,
          r.2.mem ((c.tc : Thread Cert.AttnProjCtxIdeal.nD Cert.AttnProjCtxIdeal.τ).loc Cert.AttnProjCtxIdeal.main_v1) = v0 c
          ∧ r.2.mem ((c.tc : Thread Cert.AttnProjCtxIdeal.nD Cert.AttnProjCtxIdeal.τ).loc Cert.AttnProjCtxIdeal.main_arg0) = m ((c.tc : Thread Cert.AttnProjCtxIdeal.nD Cert.AttnProjCtxIdeal.τ).loc Cert.AttnProjCtxIdeal.main_arg0)
          ∧ r.2.mem ((c.tc : Thread Cert.AttnProjCtxIdeal.nD Cert.AttnProjCtxIdeal.τ).loc Cert.AttnProjCtxIdeal.main_arg1) = m ((c.tc : Thread Cert.AttnProjCtxIdeal.nD Cert.AttnProjCtxIdeal.τ).loc Cert.AttnProjCtxIdeal.main_arg1)
          ∧ r.2.mem ((c.tc : Thread Cert.AttnProjCtxIdeal.nD Cert.AttnProjCtxIdeal.τ).loc Cert.AttnProjCtxIdeal.main_arg2) = m ((c.tc : Thread Cert.AttnProjCtxIdeal.nD Cert.AttnProjCtxIdeal.τ).loc Cert.AttnProjCtxIdeal.main_arg2)
          ∧ r.2.mem ((c.tc : Thread Cert.AttnProjCtxIdeal.nD Cert.AttnProjCtxIdeal.τ).loc Cert.AttnProjCtxIdeal.main_arg3) = m ((c.tc : Thread Cert.AttnProjCtxIdeal.nD Cert.AttnProjCtxIdeal.τ).loc Cert.AttnProjCtxIdeal.main_arg3))
      ∧ θ_run (Cert.AttnProjCtxReferenceIdeal.defs (F := Ideal)) (onTc (τ := Cert.AttnProjCtxReferenceIdeal.τ) (Cert.AttnProjCtxReferenceIdeal.main (F := Ideal))) ⟨m', fun _ => 0, g'⟩ (fun r => ∀ c : Dev Cert.AttnProjCtxReferenceIdeal.nD,
          r.2.mem ((c.tc : Thread Cert.AttnProjCtxReferenceIdeal.nD Cert.AttnProjCtxReferenceIdeal.τ).loc Cert.AttnProjCtxReferenceIdeal.main_v35) = v0 c
          ∧ r.2.mem ((c.tc : Thread Cert.AttnProjCtxReferenceIdeal.nD Cert.AttnProjCtxReferenceIdeal.τ).loc Cert.AttnProjCtxReferenceIdeal.main_arg0) = m' ((c.tc : Thread Cert.AttnProjCtxReferenceIdeal.nD Cert.AttnProjCtxReferenceIdeal.τ).loc Cert.AttnProjCtxReferenceIdeal.main_arg0)
          ∧ r.2.mem ((c.tc : Thread Cert.AttnProjCtxReferenceIdeal.nD Cert.AttnProjCtxReferenceIdeal.τ).loc Cert.AttnProjCtxReferenceIdeal.main_arg1) = m' ((c.tc : Thread Cert.AttnProjCtxReferenceIdeal.nD Cert.AttnProjCtxReferenceIdeal.τ).loc Cert.AttnProjCtxReferenceIdeal.main_arg1)
          ∧ r.2.mem ((c.tc : Thread Cert.AttnProjCtxReferenceIdeal.nD Cert.AttnProjCtxReferenceIdeal.τ).loc Cert.AttnProjCtxReferenceIdeal.main_arg2) = m' ((c.tc : Thread Cert.AttnProjCtxReferenceIdeal.nD Cert.AttnProjCtxReferenceIdeal.τ).loc Cert.AttnProjCtxReferenceIdeal.main_arg2)
          ∧ r.2.mem ((c.tc : Thread Cert.AttnProjCtxReferenceIdeal.nD Cert.AttnProjCtxReferenceIdeal.τ).loc Cert.AttnProjCtxReferenceIdeal.main_arg3) = m' ((c.tc : Thread Cert.AttnProjCtxReferenceIdeal.nD Cert.AttnProjCtxReferenceIdeal.τ).loc Cert.AttnProjCtxReferenceIdeal.main_arg3))

def preserves_Ada_AdaIdeal : Prop :=
  True

def algebraic_AdaIdeal_AdaReferenceIdeal [hAdaIdeal : Cert.AdaIdeal.Facts] [hAdaReferenceIdeal : Cert.AdaReferenceIdeal.Facts] : Prop :=
  ∀ (m : (ℓ : Loc Cert.AdaIdeal.nD Cert.AdaIdeal.τ Cert.AdaIdeal.sig) → Buf (Elt Ideal) ℓ) (g : Dev Cert.AdaIdeal.nD → PrngReg)
    (m' : (ℓ : Loc Cert.AdaReferenceIdeal.nD Cert.AdaReferenceIdeal.τ Cert.AdaReferenceIdeal.sig) → Buf (Elt Ideal) ℓ) (g' : Dev Cert.AdaReferenceIdeal.nD → PrngReg), Pre_AdaIdeal m →
    (∀ c : Dev Cert.AdaIdeal.nD,
      m' ((c.tc : Thread Cert.AdaReferenceIdeal.nD Cert.AdaReferenceIdeal.τ).loc Cert.AdaReferenceIdeal.main_arg0) = m ((c.tc : Thread Cert.AdaIdeal.nD Cert.AdaIdeal.τ).loc Cert.AdaIdeal.main_arg0)
      ∧ m' ((c.tc : Thread Cert.AdaReferenceIdeal.nD Cert.AdaReferenceIdeal.τ).loc Cert.AdaReferenceIdeal.main_arg1) = m ((c.tc : Thread Cert.AdaIdeal.nD Cert.AdaIdeal.τ).loc Cert.AdaIdeal.main_arg1)
      ∧ m' ((c.tc : Thread Cert.AdaReferenceIdeal.nD Cert.AdaReferenceIdeal.τ).loc Cert.AdaReferenceIdeal.main_arg2) = m ((c.tc : Thread Cert.AdaIdeal.nD Cert.AdaIdeal.τ).loc Cert.AdaIdeal.main_arg2)) →
    ∃ (v0 : (c : Dev Cert.AdaIdeal.nD) → Buf (Elt Ideal) ((c.tc : Thread Cert.AdaIdeal.nD Cert.AdaIdeal.τ).loc Cert.AdaIdeal.main_v1)),
      θ_run (Cert.AdaIdeal.defs (F := Ideal)) (onTc (τ := Cert.AdaIdeal.τ) (Cert.AdaIdeal.main (F := Ideal))) ⟨m, fun _ => 0, g⟩ (fun r => ∀ c : Dev Cert.AdaIdeal.nD,
          r.2.mem ((c.tc : Thread Cert.AdaIdeal.nD Cert.AdaIdeal.τ).loc Cert.AdaIdeal.main_v1) = v0 c
          ∧ r.2.mem ((c.tc : Thread Cert.AdaIdeal.nD Cert.AdaIdeal.τ).loc Cert.AdaIdeal.main_arg0) = m ((c.tc : Thread Cert.AdaIdeal.nD Cert.AdaIdeal.τ).loc Cert.AdaIdeal.main_arg0)
          ∧ r.2.mem ((c.tc : Thread Cert.AdaIdeal.nD Cert.AdaIdeal.τ).loc Cert.AdaIdeal.main_arg1) = m ((c.tc : Thread Cert.AdaIdeal.nD Cert.AdaIdeal.τ).loc Cert.AdaIdeal.main_arg1)
          ∧ r.2.mem ((c.tc : Thread Cert.AdaIdeal.nD Cert.AdaIdeal.τ).loc Cert.AdaIdeal.main_arg2) = m ((c.tc : Thread Cert.AdaIdeal.nD Cert.AdaIdeal.τ).loc Cert.AdaIdeal.main_arg2))
      ∧ θ_run (Cert.AdaReferenceIdeal.defs (F := Ideal)) (onTc (τ := Cert.AdaReferenceIdeal.τ) (Cert.AdaReferenceIdeal.main (F := Ideal))) ⟨m', fun _ => 0, g'⟩ (fun r => ∀ c : Dev Cert.AdaReferenceIdeal.nD,
          r.2.mem ((c.tc : Thread Cert.AdaReferenceIdeal.nD Cert.AdaReferenceIdeal.τ).loc Cert.AdaReferenceIdeal.main_v19) = v0 c
          ∧ r.2.mem ((c.tc : Thread Cert.AdaReferenceIdeal.nD Cert.AdaReferenceIdeal.τ).loc Cert.AdaReferenceIdeal.main_arg0) = m' ((c.tc : Thread Cert.AdaReferenceIdeal.nD Cert.AdaReferenceIdeal.τ).loc Cert.AdaReferenceIdeal.main_arg0)
          ∧ r.2.mem ((c.tc : Thread Cert.AdaReferenceIdeal.nD Cert.AdaReferenceIdeal.τ).loc Cert.AdaReferenceIdeal.main_arg1) = m' ((c.tc : Thread Cert.AdaReferenceIdeal.nD Cert.AdaReferenceIdeal.τ).loc Cert.AdaReferenceIdeal.main_arg1)
          ∧ r.2.mem ((c.tc : Thread Cert.AdaReferenceIdeal.nD Cert.AdaReferenceIdeal.τ).loc Cert.AdaReferenceIdeal.main_arg2) = m' ((c.tc : Thread Cert.AdaReferenceIdeal.nD Cert.AdaReferenceIdeal.τ).loc Cert.AdaReferenceIdeal.main_arg2))

def preserves_RetCtx_RetCtxIdeal : Prop :=
  True

def algebraic_RetCtxIdeal_RetCtxReferenceIdeal_pre_finite [hRetCtxIdeal : Cert.RetCtxIdeal.Facts] [hRetCtxReferenceIdeal : Cert.RetCtxReferenceIdeal.Facts] [hPre_finite : Cert.Pre_finite.Facts] : Prop :=
  ∀ (m : (ℓ : Loc Cert.RetCtxIdeal.nD Cert.RetCtxIdeal.τ Cert.RetCtxIdeal.sig) → Buf (Elt Ideal) ℓ) (g : Dev Cert.RetCtxIdeal.nD → PrngReg)
    (m' : (ℓ : Loc Cert.RetCtxReferenceIdeal.nD Cert.RetCtxReferenceIdeal.τ Cert.RetCtxReferenceIdeal.sig) → Buf (Elt Ideal) ℓ) (g' : Dev Cert.RetCtxReferenceIdeal.nD → PrngReg), Pre_RetCtxIdeal_finite m →
    (∀ c : Dev Cert.RetCtxIdeal.nD,
      m' ((c.tc : Thread Cert.RetCtxReferenceIdeal.nD Cert.RetCtxReferenceIdeal.τ).loc Cert.RetCtxReferenceIdeal.main_arg0) = m ((c.tc : Thread Cert.RetCtxIdeal.nD Cert.RetCtxIdeal.τ).loc Cert.RetCtxIdeal.main_arg0)
      ∧ m' ((c.tc : Thread Cert.RetCtxReferenceIdeal.nD Cert.RetCtxReferenceIdeal.τ).loc Cert.RetCtxReferenceIdeal.main_arg1) = m ((c.tc : Thread Cert.RetCtxIdeal.nD Cert.RetCtxIdeal.τ).loc Cert.RetCtxIdeal.main_arg1)
      ∧ m' ((c.tc : Thread Cert.RetCtxReferenceIdeal.nD Cert.RetCtxReferenceIdeal.τ).loc Cert.RetCtxReferenceIdeal.main_arg2) = m ((c.tc : Thread Cert.RetCtxIdeal.nD Cert.RetCtxIdeal.τ).loc Cert.RetCtxIdeal.main_arg2)) →
    ∃ (v0 : (c : Dev Cert.RetCtxIdeal.nD) → Buf (Elt Ideal) ((c.tc : Thread Cert.RetCtxIdeal.nD Cert.RetCtxIdeal.τ).loc Cert.RetCtxIdeal.main_v1_0)) (v1 : (c : Dev Cert.RetCtxIdeal.nD) → Buf (Elt Ideal) ((c.tc : Thread Cert.RetCtxIdeal.nD Cert.RetCtxIdeal.τ).loc Cert.RetCtxIdeal.main_v1_1)) (v2 : (c : Dev Cert.RetCtxIdeal.nD) → Buf (Elt Ideal) ((c.tc : Thread Cert.RetCtxIdeal.nD Cert.RetCtxIdeal.τ).loc Cert.RetCtxIdeal.main_v1_2)),
      θ_run (Cert.RetCtxIdeal.defs (F := Ideal)) (onTc (τ := Cert.RetCtxIdeal.τ) (Cert.RetCtxIdeal.main (F := Ideal))) ⟨m, fun _ => 0, g⟩ (fun r => ∀ c : Dev Cert.RetCtxIdeal.nD,
          r.2.mem ((c.tc : Thread Cert.RetCtxIdeal.nD Cert.RetCtxIdeal.τ).loc Cert.RetCtxIdeal.main_v1_0) = v0 c
          ∧ r.2.mem ((c.tc : Thread Cert.RetCtxIdeal.nD Cert.RetCtxIdeal.τ).loc Cert.RetCtxIdeal.main_v1_1) = v1 c
          ∧ r.2.mem ((c.tc : Thread Cert.RetCtxIdeal.nD Cert.RetCtxIdeal.τ).loc Cert.RetCtxIdeal.main_v1_2) = v2 c
          ∧ r.2.mem ((c.tc : Thread Cert.RetCtxIdeal.nD Cert.RetCtxIdeal.τ).loc Cert.RetCtxIdeal.main_arg0) = m ((c.tc : Thread Cert.RetCtxIdeal.nD Cert.RetCtxIdeal.τ).loc Cert.RetCtxIdeal.main_arg0)
          ∧ r.2.mem ((c.tc : Thread Cert.RetCtxIdeal.nD Cert.RetCtxIdeal.τ).loc Cert.RetCtxIdeal.main_arg1) = m ((c.tc : Thread Cert.RetCtxIdeal.nD Cert.RetCtxIdeal.τ).loc Cert.RetCtxIdeal.main_arg1)
          ∧ r.2.mem ((c.tc : Thread Cert.RetCtxIdeal.nD Cert.RetCtxIdeal.τ).loc Cert.RetCtxIdeal.main_arg2) = m ((c.tc : Thread Cert.RetCtxIdeal.nD Cert.RetCtxIdeal.τ).loc Cert.RetCtxIdeal.main_arg2))
      ∧ θ_run (Cert.RetCtxReferenceIdeal.defs (F := Ideal)) (onTc (τ := Cert.RetCtxReferenceIdeal.τ) (Cert.RetCtxReferenceIdeal.main (F := Ideal))) ⟨m', fun _ => 0, g'⟩ (fun r => ∀ c : Dev Cert.RetCtxReferenceIdeal.nD,
          r.2.mem ((c.tc : Thread Cert.RetCtxReferenceIdeal.nD Cert.RetCtxReferenceIdeal.τ).loc Cert.RetCtxReferenceIdeal.main_v215) = v0 c
          ∧ r.2.mem ((c.tc : Thread Cert.RetCtxReferenceIdeal.nD Cert.RetCtxReferenceIdeal.τ).loc Cert.RetCtxReferenceIdeal.main_v98) = v1 c
          ∧ r.2.mem ((c.tc : Thread Cert.RetCtxReferenceIdeal.nD Cert.RetCtxReferenceIdeal.τ).loc Cert.RetCtxReferenceIdeal.main_v193) = v2 c
          ∧ r.2.mem ((c.tc : Thread Cert.RetCtxReferenceIdeal.nD Cert.RetCtxReferenceIdeal.τ).loc Cert.RetCtxReferenceIdeal.main_arg0) = m' ((c.tc : Thread Cert.RetCtxReferenceIdeal.nD Cert.RetCtxReferenceIdeal.τ).loc Cert.RetCtxReferenceIdeal.main_arg0)
          ∧ r.2.mem ((c.tc : Thread Cert.RetCtxReferenceIdeal.nD Cert.RetCtxReferenceIdeal.τ).loc Cert.RetCtxReferenceIdeal.main_arg1) = m' ((c.tc : Thread Cert.RetCtxReferenceIdeal.nD Cert.RetCtxReferenceIdeal.τ).loc Cert.RetCtxReferenceIdeal.main_arg1)
          ∧ r.2.mem ((c.tc : Thread Cert.RetCtxReferenceIdeal.nD Cert.RetCtxReferenceIdeal.τ).loc Cert.RetCtxReferenceIdeal.main_arg2) = m' ((c.tc : Thread Cert.RetCtxReferenceIdeal.nD Cert.RetCtxReferenceIdeal.τ).loc Cert.RetCtxReferenceIdeal.main_arg2))

def Claim : Prop :=
  ∃ (hKernel : Cert.Kernel.Facts) (hKernelIdeal : Cert.KernelIdeal.Facts) (hReferenceIdeal : Cert.ReferenceIdeal.Facts) (hMlp : Cert.Mlp.Facts) (hMlpIdeal : Cert.MlpIdeal.Facts) (hMlpReferenceIdeal : Cert.MlpReferenceIdeal.Facts) (hMlp0 : Cert.Mlp0.Facts) (hMlp0Ideal : Cert.Mlp0Ideal.Facts) (hMlp0ReferenceIdeal : Cert.Mlp0ReferenceIdeal.Facts) (hRetOut : Cert.RetOut.Facts) (hRetOutIdeal : Cert.RetOutIdeal.Facts) (hRetOutReferenceIdeal : Cert.RetOutReferenceIdeal.Facts) (hAttnOut : Cert.AttnOut.Facts) (hAttnOutIdeal : Cert.AttnOutIdeal.Facts) (hAttnOutReferenceIdeal : Cert.AttnOutReferenceIdeal.Facts) (hRetProj : Cert.RetProj.Facts) (hRetProjIdeal : Cert.RetProjIdeal.Facts) (hRetProjReferenceIdeal : Cert.RetProjReferenceIdeal.Facts) (hAttnProj : Cert.AttnProj.Facts) (hAttnProjIdeal : Cert.AttnProjIdeal.Facts) (hAttnProjReferenceIdeal : Cert.AttnProjReferenceIdeal.Facts) (hMlp0Ctx : Cert.Mlp0Ctx.Facts) (hMlp0CtxIdeal : Cert.Mlp0CtxIdeal.Facts) (hMlp0CtxReferenceIdeal : Cert.Mlp0CtxReferenceIdeal.Facts) (hRetProjCtx : Cert.RetProjCtx.Facts) (hRetProjCtxIdeal : Cert.RetProjCtxIdeal.Facts) (hRetProjCtxReferenceIdeal : Cert.RetProjCtxReferenceIdeal.Facts) (hRetOutCtx : Cert.RetOutCtx.Facts) (hRetOutCtxIdeal : Cert.RetOutCtxIdeal.Facts) (hRetOutCtxReferenceIdeal : Cert.RetOutCtxReferenceIdeal.Facts) (hAttnProjCtx : Cert.AttnProjCtx.Facts) (hAttnProjCtxIdeal : Cert.AttnProjCtxIdeal.Facts) (hAttnProjCtxReferenceIdeal : Cert.AttnProjCtxReferenceIdeal.Facts) (hAda : Cert.Ada.Facts) (hAdaIdeal : Cert.AdaIdeal.Facts) (hAdaReferenceIdeal : Cert.AdaReferenceIdeal.Facts) (hRetCtx : Cert.RetCtx.Facts) (hRetCtxIdeal : Cert.RetCtxIdeal.Facts) (hRetCtxReferenceIdeal : Cert.RetCtxReferenceIdeal.Facts) (hPre_finite : Cert.Pre_finite.Facts),
    quiescent_Kernel (hKernel := hKernel)
    ∧ quiescent_KernelIdeal (hKernelIdeal := hKernelIdeal)
    ∧ quiescent_ReferenceIdeal (hReferenceIdeal := hReferenceIdeal)
    ∧ quiescent_Mlp (hMlp := hMlp)
    ∧ quiescent_MlpIdeal (hMlpIdeal := hMlpIdeal)
    ∧ quiescent_MlpReferenceIdeal (hMlpReferenceIdeal := hMlpReferenceIdeal)
    ∧ quiescent_Mlp0 (hMlp0 := hMlp0)
    ∧ quiescent_Mlp0Ideal (hMlp0Ideal := hMlp0Ideal)
    ∧ quiescent_Mlp0ReferenceIdeal (hMlp0ReferenceIdeal := hMlp0ReferenceIdeal)
    ∧ quiescent_RetOut (hRetOut := hRetOut)
    ∧ quiescent_RetOutIdeal (hRetOutIdeal := hRetOutIdeal)
    ∧ quiescent_RetOutReferenceIdeal (hRetOutReferenceIdeal := hRetOutReferenceIdeal)
    ∧ quiescent_AttnOut (hAttnOut := hAttnOut)
    ∧ quiescent_AttnOutIdeal (hAttnOutIdeal := hAttnOutIdeal)
    ∧ quiescent_AttnOutReferenceIdeal (hAttnOutReferenceIdeal := hAttnOutReferenceIdeal)
    ∧ quiescent_RetProj (hRetProj := hRetProj)
    ∧ quiescent_RetProjIdeal (hRetProjIdeal := hRetProjIdeal)
    ∧ quiescent_RetProjReferenceIdeal (hRetProjReferenceIdeal := hRetProjReferenceIdeal)
    ∧ quiescent_AttnProj (hAttnProj := hAttnProj)
    ∧ quiescent_AttnProjIdeal (hAttnProjIdeal := hAttnProjIdeal)
    ∧ quiescent_AttnProjReferenceIdeal (hAttnProjReferenceIdeal := hAttnProjReferenceIdeal)
    ∧ quiescent_Mlp0Ctx (hMlp0Ctx := hMlp0Ctx)
    ∧ quiescent_Mlp0CtxIdeal (hMlp0CtxIdeal := hMlp0CtxIdeal)
    ∧ quiescent_Mlp0CtxReferenceIdeal (hMlp0CtxReferenceIdeal := hMlp0CtxReferenceIdeal)
    ∧ quiescent_RetProjCtx (hRetProjCtx := hRetProjCtx)
    ∧ quiescent_RetProjCtxIdeal (hRetProjCtxIdeal := hRetProjCtxIdeal)
    ∧ quiescent_RetProjCtxReferenceIdeal (hRetProjCtxReferenceIdeal := hRetProjCtxReferenceIdeal)
    ∧ quiescent_RetOutCtx (hRetOutCtx := hRetOutCtx)
    ∧ quiescent_RetOutCtxIdeal (hRetOutCtxIdeal := hRetOutCtxIdeal)
    ∧ quiescent_RetOutCtxReferenceIdeal (hRetOutCtxReferenceIdeal := hRetOutCtxReferenceIdeal)
    ∧ quiescent_AttnProjCtx (hAttnProjCtx := hAttnProjCtx)
    ∧ quiescent_AttnProjCtxIdeal (hAttnProjCtxIdeal := hAttnProjCtxIdeal)
    ∧ quiescent_AttnProjCtxReferenceIdeal (hAttnProjCtxReferenceIdeal := hAttnProjCtxReferenceIdeal)
    ∧ quiescent_Ada (hAda := hAda)
    ∧ quiescent_AdaIdeal (hAdaIdeal := hAdaIdeal)
    ∧ quiescent_AdaReferenceIdeal (hAdaReferenceIdeal := hAdaReferenceIdeal)
    ∧ quiescent_RetCtx (hRetCtx := hRetCtx)
    ∧ quiescent_RetCtxIdeal (hRetCtxIdeal := hRetCtxIdeal)
    ∧ quiescent_RetCtxIdeal_pre_finite (hRetCtxIdeal := hRetCtxIdeal) (hPre_finite := hPre_finite)
    ∧ quiescent_RetCtxReferenceIdeal (hRetCtxReferenceIdeal := hRetCtxReferenceIdeal)
    ∧ quiescent_RetCtxReferenceIdeal_pre_finite (hRetCtxReferenceIdeal := hRetCtxReferenceIdeal) (hPre_finite := hPre_finite)
    ∧ preserves_Kernel_KernelIdeal
    ∧ algebraic_KernelIdeal_ReferenceIdeal (hKernelIdeal := hKernelIdeal) (hReferenceIdeal := hReferenceIdeal)
    ∧ preserves_Mlp_MlpIdeal
    ∧ algebraic_MlpIdeal_MlpReferenceIdeal (hMlpIdeal := hMlpIdeal) (hMlpReferenceIdeal := hMlpReferenceIdeal)
    ∧ preserves_Mlp0_Mlp0Ideal
    ∧ algebraic_Mlp0Ideal_Mlp0ReferenceIdeal (hMlp0Ideal := hMlp0Ideal) (hMlp0ReferenceIdeal := hMlp0ReferenceIdeal)
    ∧ preserves_RetOut_RetOutIdeal
    ∧ algebraic_RetOutIdeal_RetOutReferenceIdeal (hRetOutIdeal := hRetOutIdeal) (hRetOutReferenceIdeal := hRetOutReferenceIdeal)
    ∧ preserves_AttnOut_AttnOutIdeal
    ∧ algebraic_AttnOutIdeal_AttnOutReferenceIdeal (hAttnOutIdeal := hAttnOutIdeal) (hAttnOutReferenceIdeal := hAttnOutReferenceIdeal)
    ∧ preserves_RetProj_RetProjIdeal
    ∧ algebraic_RetProjIdeal_RetProjReferenceIdeal (hRetProjIdeal := hRetProjIdeal) (hRetProjReferenceIdeal := hRetProjReferenceIdeal)
    ∧ preserves_AttnProj_AttnProjIdeal
    ∧ algebraic_AttnProjIdeal_AttnProjReferenceIdeal (hAttnProjIdeal := hAttnProjIdeal) (hAttnProjReferenceIdeal := hAttnProjReferenceIdeal)
    ∧ preserves_Mlp0Ctx_Mlp0CtxIdeal
    ∧ algebraic_Mlp0CtxIdeal_Mlp0CtxReferenceIdeal (hMlp0CtxIdeal := hMlp0CtxIdeal) (hMlp0CtxReferenceIdeal := hMlp0CtxReferenceIdeal)
    ∧ preserves_RetProjCtx_RetProjCtxIdeal
    ∧ algebraic_RetProjCtxIdeal_RetProjCtxReferenceIdeal (hRetProjCtxIdeal := hRetProjCtxIdeal) (hRetProjCtxReferenceIdeal := hRetProjCtxReferenceIdeal)
    ∧ preserves_RetOutCtx_RetOutCtxIdeal
    ∧ algebraic_RetOutCtxIdeal_RetOutCtxReferenceIdeal (hRetOutCtxIdeal := hRetOutCtxIdeal) (hRetOutCtxReferenceIdeal := hRetOutCtxReferenceIdeal)
    ∧ preserves_AttnProjCtx_AttnProjCtxIdeal
    ∧ algebraic_AttnProjCtxIdeal_AttnProjCtxReferenceIdeal (hAttnProjCtxIdeal := hAttnProjCtxIdeal) (hAttnProjCtxReferenceIdeal := hAttnProjCtxReferenceIdeal)
    ∧ preserves_Ada_AdaIdeal
    ∧ algebraic_AdaIdeal_AdaReferenceIdeal (hAdaIdeal := hAdaIdeal) (hAdaReferenceIdeal := hAdaReferenceIdeal)
    ∧ preserves_RetCtx_RetCtxIdeal
    ∧ algebraic_RetCtxIdeal_RetCtxReferenceIdeal_pre_finite (hRetCtxIdeal := hRetCtxIdeal) (hRetCtxReferenceIdeal := hRetCtxReferenceIdeal) (hPre_finite := hPre_finite)
-- ==== Pre_finite.lean ====
abbrev S1024x12288 : Shape := ⟨2, ![1024, 12288]⟩
abbrev S8 : Shape := ⟨1, ![8]⟩
abbrev S_ : Shape := ⟨0, ![]⟩

class Facts : Prop where
  bitsLt_bf16_f32 : FTy.bits .bf16 < FTy.bits .f32
  bcast_S_S1024x12288 : S_.BroadcastsInDim S1024x12288 (![] : Fin 0 → Fin S1024x12288.rank)

variable [Facts]

def fn {F : FTy → Type} [FloatOps F] (main_arg0 : FVec F S1024x12288 .bf16) (main_arg1 : FVec F S8 .f32) (main_arg2 : FVec F S8 .f32) : IVec S1024x12288 1 :=
  let main_v0 : FVec F S1024x12288 .f32 := (extf .f32 · bitsLt_bf16_f32) main_arg0
  let main_v1 : FVec F S1024x12288 .f32 := Host.absf main_v0
  let main_cst : FVec F S_ .f32 := constant S_ .f32 0x7F800000#32
  let main_v2 : FVec F S1024x12288 .f32 := broadcastInDim S1024x12288 ![] bcast_S_S1024x12288 main_cst
  let main_v3 : IVec S1024x12288 1 := cmpf .olt main_v1 main_v2
  main_v3
-- ==== Kernel.lean ====
abbrev S16384x3072 : Shape := ⟨2, ![16384, 3072]⟩
abbrev S1024x1024 : Shape := ⟨2, ![1024, 1024]⟩
abbrev S16 : Shape := ⟨1, ![16]⟩
abbrev S16384x2048 : Shape := ⟨2, ![16384, 2048]⟩
abbrev S128x2048 : Shape := ⟨2, ![128, 2048]⟩
abbrev S128x512 : Shape := ⟨2, ![128, 512]⟩
abbrev S256x512 : Shape := ⟨2, ![256, 512]⟩
abbrev S512x640 : Shape := ⟨2, ![512, 640]⟩
abbrev S512x1 : Shape := ⟨2, ![512, 1]⟩
abbrev S128x128 : Shape := ⟨2, ![128, 128]⟩
abbrev S512x128 : Shape := ⟨2, ![512, 128]⟩
abbrev S256x128 : Shape := ⟨2, ![256, 128]⟩
abbrev S640x128 : Shape := ⟨2, ![640, 128]⟩
abbrev S1 : Shape := ⟨1, ![1]⟩
abbrev S512 : Shape := ⟨1, ![512]⟩

abbrev nBuf : Space → Nat
  | .hbm => 4
  | .vmem => 20
  | .smem => 1
  | _ => 0

abbrev bufTy : (tb : Table) → Fin (tcTables nBuf tb) → BufTy
  | .hbm, ⟨0, _⟩ => ⟨S16384x3072, .bf16⟩
  | .hbm, ⟨1, _⟩ => ⟨S1024x1024, .bf16⟩
  | .hbm, ⟨2, _⟩ => ⟨S16, .f32⟩
  | .hbm, ⟨3, _⟩ => ⟨S16384x2048, .bf16⟩
  | .local _ .vmem, ⟨0, _⟩ => ⟨S128x2048, .bf16⟩
  | .local _ .vmem, ⟨1, _⟩ => ⟨S128x2048, .bf16⟩
  | .local _ .vmem, ⟨2, _⟩ => ⟨S128x512, .bf16⟩
  | .local _ .vmem, ⟨3, _⟩ => ⟨S128x512, .bf16⟩
  | .local _ .vmem, ⟨4, _⟩ => ⟨S128x512, .bf16⟩
  | .local _ .vmem, ⟨5, _⟩ => ⟨S128x512, .bf16⟩
  | .local _ .vmem, ⟨6, _⟩ => ⟨S128x512, .bf16⟩
  | .local _ .vmem, ⟨7, _⟩ => ⟨S128x512, .bf16⟩
  | .local _ .vmem, ⟨8, _⟩ => ⟨S128x512, .bf16⟩
  | .local _ .vmem, ⟨9, _⟩ => ⟨S128x512, .bf16⟩
  | .local _ .vmem, ⟨10, _⟩ => ⟨S128x512, .bf16⟩
  | .local _ .vmem, ⟨11, _⟩ => ⟨S128x512, .bf16⟩
  | .local _ .vmem, ⟨12, _⟩ => ⟨S128x512, .bf16⟩
  | .local _ .vmem, ⟨13, _⟩ => ⟨S128x512, .bf16⟩
  | .local _ .vmem, ⟨14, _⟩ => ⟨S256x512, .bf16⟩
  | .local _ .vmem, ⟨15, _⟩ => ⟨S256x512, .bf16⟩
  | .local _ .vmem, ⟨16, _⟩ => ⟨S256x512, .bf16⟩
  | .local _ .vmem, ⟨17, _⟩ => ⟨S256x512, .bf16⟩
  | .local _ .vmem, ⟨18, _⟩ => ⟨S128x2048, .bf16⟩
  | .local _ .vmem, ⟨19, _⟩ => ⟨S128x2048, .bf16⟩
  | .local _ .smem, ⟨0, _⟩ => ⟨S16, .f32⟩
  | _, _ => ⟨S16384x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .smem, ⟨0, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20

abbrev nD : Nat := 1
abbrev τ : Topo := Topo.v7x

variable {F : FTy → Type} [FloatOps F]

abbrev grid0 : Pipeline.Grid := ⟨2, ![4, 32], ![false, false]⟩

def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let c1_i32 : BitVec 32 := 1#32
  let v1 : BitVec 32 := Scalar.muli arg1 c1_i32
  let c1_i32_0 : BitVec 32 := 1#32
  let v2 : BitVec 32 := Scalar.subi v1 c1_i32_0
  let c0_i32 : BitVec 32 := 0#32
  let v3 : BitVec 32 := Scalar.maxsi v2 c0_i32
  let v4 : BitVec 32 := Scalar.addi v0 v3
  let c4_i32 : BitVec 32 := 4#32
  let c0_i32_1 : BitVec 32 := 0#32
  ![v4.toNat, c4_i32.toNat]

def cc0_transform_3 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c4_i32 : BitVec 32 := 4#32
  let c0_i32 : BitVec 32 := 0#32
  ![v1.toNat, c4_i32.toNat]

def cc0_transform_4 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let c1_i32 : BitVec 32 := 1#32
  let v1 : BitVec 32 := Scalar.addi arg1 c1_i32
  let c1_i32_0 : BitVec 32 := 1#32
  let v2 : BitVec 32 := Scalar.muli v1 c1_i32_0
  let c31_i32 : BitVec 32 := 31#32
  let v3 : BitVec 32 := Scalar.minsi v2 c31_i32
  let v4 : BitVec 32 := Scalar.addi v0 v3
  let c4_i32 : BitVec 32 := 4#32
  let c0_i32 : BitVec 32 := 0#32
  ![v4.toNat, c4_i32.toNat]

def cc0_transform_5 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let c1_i32 : BitVec 32 := 1#32
  let v1 : BitVec 32 := Scalar.muli arg1 c1_i32
  let c1_i32_0 : BitVec 32 := 1#32
  let v2 : BitVec 32 := Scalar.subi v1 c1_i32_0
  let c0_i32 : BitVec 32 := 0#32
  let v3 : BitVec 32 := Scalar.maxsi v2 c0_i32
  let v4 : BitVec 32 := Scalar.addi v0 v3
  let c5_i32 : BitVec 32 := 5#32
  let c0_i32_1 : BitVec 32 := 0#32
  ![v4.toNat, c5_i32.toNat]

def cc0_transform_6 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c5_i32 : BitVec 32 := 5#32
  let c0_i32 : BitVec 32 := 0#32
  ![v1.toNat, c5_i32.toNat]

def cc0_transform_7 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let c1_i32 : BitVec 32 := 1#32
  let v1 : BitVec 32 := Scalar.addi arg1 c1_i32
  let c1_i32_0 : BitVec 32 := 1#32
  let v2 : BitVec 32 := Scalar.muli v1 c1_i32_0
  let c31_i32 : BitVec 32 := 31#32
  let v3 : BitVec 32 := Scalar.minsi v2 c31_i32
  let v4 : BitVec 32 := Scalar.addi v0 v3
  let c5_i32 : BitVec 32 := 5#32
  let c0_i32 : BitVec 32 := 0#32
  ![v4.toNat, c5_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let arg1 : BitVec 32 := BitVec.ofNat 32 (i 1).val
  let c1_i32 : BitVec 32 := 1#32
  let c0_i32 : BitVec 32 := 0#32
  ![arg0.toNat, c1_i32.toNat]

def cc0_transform_10 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

abbrev stage0_0 : Fin 1 → Memref sig .tc .smem S16 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S128x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S128x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S128x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S128x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S128x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S128x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S128x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S256x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S256x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S128x2048 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== KernelIdeal.lean ====
variable {F : FTy → Type} [FloatOps F] [Named F]
def κ : String → Option EReal := fun
  | "mask" => some ⊥
  | _ => none
-- ==== ReferenceIdeal.lean ====
abbrev S16384x3072 : Shape := ⟨2, ![16384, 3072]⟩
abbrev S1024x1024 : Shape := ⟨2, ![1024, 1024]⟩
abbrev S16 : Shape := ⟨1, ![16]⟩
abbrev S4x4096x3072 : Shape := ⟨3, ![4, 4096, 3072]⟩
abbrev S4x4096x2048 : Shape := ⟨3, ![4, 4096, 2048]⟩
abbrev S4x4096x512 : Shape := ⟨3, ![4, 4096, 512]⟩
abbrev S4x256x1024 : Shape := ⟨3, ![4, 256, 1024]⟩
abbrev S4x256x512 : Shape := ⟨3, ![4, 256, 512]⟩
abbrev S4x4096x16x128 : Shape := ⟨4, ![4, 4096, 16, 128]⟩
abbrev S4x4096x4x128 : Shape := ⟨4, ![4, 4096, 4, 128]⟩
abbrev S4x256x4x128 : Shape := ⟨4, ![4, 256, 4, 128]⟩
abbrev S4x4 : Shape := ⟨2, ![4, 4]⟩
abbrev S4x32x128x4x4x128 : Shape := ⟨6, ![4, 32, 128, 4, 4, 128]⟩
abbrev S_ : Shape := ⟨0, ![]⟩
abbrev S4x4352x4x128 : Shape := ⟨4, ![4, 4352, 4, 128]⟩
abbrev S4x34x128x4x128 : Shape := ⟨5, ![4, 34, 128, 4, 128]⟩
abbrev S4x32x128x4x128 : Shape := ⟨5, ![4, 32, 128, 4, 128]⟩
abbrev S4x32x384x4x128 : Shape := ⟨5, ![4, 32, 384, 4, 128]⟩
abbrev S4x32x4x384x128x4 : Shape := ⟨6, ![4, 32, 4, 384, 128, 4]⟩
abbrev S4x32x4x4x128x384 : Shape := ⟨6, ![4, 32, 4, 4, 128, 384]⟩
abbrev S4x4x256x32x128x4 : Shape := ⟨6, ![4, 4, 256, 32, 128, 4]⟩
abbrev S4x32x4x4x128x256 : Shape := ⟨6, ![4, 32, 4, 4, 128, 256]⟩
abbrev S128 : Shape := ⟨1, ![128]⟩
abbrev S128x1 : Shape := ⟨2, ![128, 1]⟩
abbrev S384 : Shape := ⟨1, ![384]⟩
abbrev S1x384 : Shape := ⟨2, ![1, 384]⟩
abbrev S32 : Shape := ⟨1, ![32]⟩
abbrev S32x1x1 : Shape := ⟨3, ![32, 1, 1]⟩
abbrev S1x1x384 : Shape := ⟨3, ![1, 1, 384]⟩
abbrev S32x1x384 : Shape := ⟨3, ![32, 1, 384]⟩
abbrev S128x384 : Shape := ⟨2, ![128, 384]⟩
abbrev S1x128x384 : Shape := ⟨3, ![1, 128, 384]⟩
abbrev S32x128x384 : Shape := ⟨3, ![32, 128, 384]⟩
abbrev S1x32x1x1x128x384 : Shape := ⟨6, ![1, 32, 1, 1, 128, 384]⟩
abbrev S1x1x4x4x1x1 : Shape := ⟨6, ![1, 1, 4, 4, 1, 1]⟩
abbrev S4x32x4x4x128 : Shape := ⟨5, ![4, 32, 4, 4, 128]⟩
abbrev S4x32x4x4x128x1 : Shape := ⟨6, ![4, 32, 4, 4, 128, 1]⟩
abbrev S4x32x4x128x4x128 : Shape := ⟨6, ![4, 32, 4, 128, 4, 128]⟩
abbrev S4x4x128x32x4x128 : Shape := ⟨6, ![4, 4, 128, 32, 4, 128]⟩
abbrev S4x32x128x4x4x1 : Shape := ⟨6, ![4, 32, 128, 4, 4, 1]⟩
abbrev S16384x2048 : Shape := ⟨2, ![16384, 2048]⟩

abbrev nBuf : Space → Nat
  | .hbm => 126
  | .vmem => 0
  | .smem => 0
  | _ => 0

abbrev bufTy : (tb : Table) → Fin (tcTables nBuf tb) → BufTy
  | .hbm, ⟨0, _⟩ => ⟨S16384x3072, .bf16⟩
  | .hbm, ⟨1, _⟩ => ⟨S1024x1024, .bf16⟩
  | .hbm, ⟨2, _⟩ => ⟨S16, .f32⟩
  | .hbm, ⟨3, _⟩ => ⟨S16384x3072, .f32⟩
  | .hbm, ⟨4, _⟩ => ⟨S4x4096x3072, .f32⟩
  | .hbm, ⟨5, _⟩ => ⟨S4x4096x2048, .f32⟩
  | .hbm, ⟨6, _⟩ => ⟨S4x4096x512, .f32⟩
  | .hbm, ⟨7, _⟩ => ⟨S4x4096x512, .f32⟩
  | .hbm, ⟨8, _⟩ => ⟨S1024x1024, .f32⟩
  | .hbm, ⟨9, _⟩ => ⟨S4x256x1024, .f32⟩
  | .hbm, ⟨10, _⟩ => ⟨S4x256x512, .f32⟩
  | .hbm, ⟨11, _⟩ => ⟨S4x256x512, .f32⟩
  | .hbm, ⟨12, _⟩ => ⟨S4x4096x16x128, .f32⟩
  | .hbm, ⟨13, _⟩ => ⟨S4x4096x4x128, .f32⟩
  | .hbm, ⟨14, _⟩ => ⟨S4x4096x4x128, .f32⟩
  | .hbm, ⟨15, _⟩ => ⟨S4x256x4x128, .f32⟩
  | .hbm, ⟨16, _⟩ => ⟨S4x256x4x128, .f32⟩
  | .hbm, ⟨17, _⟩ => ⟨S4x4, .f32⟩
  | .hbm, ⟨18, _⟩ => ⟨S4x32x128x4x4x128, .f32⟩
  | .hbm, ⟨19, _⟩ => ⟨S_, .i32⟩
  | .hbm, ⟨20, _⟩ => ⟨S_, .f32⟩
  | .hbm, ⟨21, _⟩ => ⟨S4x4352x4x128, .f32⟩
  | .hbm, ⟨22, _⟩ => ⟨S4x34x128x4x128, .f32⟩
  | .hbm, ⟨23, _⟩ => ⟨S4x32x128x4x128, .f32⟩
  | .hbm, ⟨24, _⟩ => ⟨S4x32x128x4x128, .f32⟩
  | .hbm, ⟨25, _⟩ => ⟨S4x32x128x4x128, .f32⟩
  | .hbm, ⟨26, _⟩ => ⟨S4x32x384x4x128, .f32⟩
  | .hbm, ⟨27, _⟩ => ⟨S_, .i32⟩
  | .hbm, ⟨28, _⟩ => ⟨S_, .f32⟩
  | .hbm, ⟨29, _⟩ => ⟨S4x4352x4x128, .f32⟩
  | .hbm, ⟨30, _⟩ => ⟨S4x34x128x4x128, .f32⟩
  | .hbm, ⟨31, _⟩ => ⟨S4x32x128x4x128, .f32⟩
  | .hbm, ⟨32, _⟩ => ⟨S4x32x128x4x128, .f32⟩
  | .hbm, ⟨33, _⟩ => ⟨S4x32x128x4x128, .f32⟩
  | .hbm, ⟨34, _⟩ => ⟨S4x32x384x4x128, .f32⟩
  | .hbm, ⟨35, _⟩ => ⟨S4x32x4x384x128x4, .f32⟩
  | .hbm, ⟨36, _⟩ => ⟨S4x32x4x4x128x384, .f32⟩
  | .hbm, ⟨37, _⟩ => ⟨S_, .f32⟩
  | .hbm, ⟨38, _⟩ => ⟨S4x32x4x4x128x384, .f32⟩
  | .hbm, ⟨39, _⟩ => ⟨S4x32x4x4x128x384, .f32⟩
  | .hbm, ⟨40, _⟩ => ⟨S4x4x256x32x128x4, .f32⟩
  | .hbm, ⟨41, _⟩ => ⟨S4x32x4x4x128x256, .f32⟩
  | .hbm, ⟨42, _⟩ => ⟨S_, .f32⟩
  | .hbm, ⟨43, _⟩ => ⟨S4x32x4x4x128x256, .f32⟩
  | .hbm, ⟨44, _⟩ => ⟨S4x32x4x4x128x256, .f32⟩
  | .hbm, ⟨45, _⟩ => ⟨S128, .i32⟩
  | .hbm, ⟨46, _⟩ => ⟨S128x1, .i32⟩
  | .hbm, ⟨47, _⟩ => ⟨S384, .i32⟩
  | .hbm, ⟨48, _⟩ => ⟨S1x384, .i32⟩
  | .hbm, ⟨49, _⟩ => ⟨S32, .i32⟩
  | .hbm, ⟨50, _⟩ => ⟨S32x1x1, .i32⟩
  | .hbm, ⟨51, _⟩ => ⟨S_, .i32⟩
  | .hbm, ⟨52, _⟩ => ⟨S32x1x1, .i32⟩
  | .hbm, ⟨53, _⟩ => ⟨S32x1x1, .i32⟩
  | .hbm, ⟨54, _⟩ => ⟨S_, .i32⟩
  | .hbm, ⟨55, _⟩ => ⟨S32x1x1, .i32⟩
  | .hbm, ⟨56, _⟩ => ⟨S32x1x1, .i32⟩
  | .hbm, ⟨57, _⟩ => ⟨S1x1x384, .i32⟩
  | .hbm, ⟨58, _⟩ => ⟨S32x1x384, .i32⟩
  | .hbm, ⟨59, _⟩ => ⟨S32x1x384, .i32⟩
  | .hbm, ⟨60, _⟩ => ⟨S32x1x384, .i32⟩
  | .hbm, ⟨61, _⟩ => ⟨S_, .i32⟩
  | .hbm, ⟨62, _⟩ => ⟨S1x384, .i32⟩
  | .hbm, ⟨63, _⟩ => ⟨S1x384, .i32⟩
  | .hbm, ⟨64, _⟩ => ⟨S128x384, .i32⟩
  | .hbm, ⟨65, _⟩ => ⟨S128x384, .i32⟩
  | .hbm, ⟨66, _⟩ => ⟨S128x384, .i32⟩
  | .hbm, ⟨67, _⟩ => ⟨S128x384, .i32⟩
  | .hbm, ⟨68, _⟩ => ⟨S1x128x384, .i32⟩
  | .hbm, ⟨69, _⟩ => ⟨S_, .i32⟩
  | .hbm, ⟨70, _⟩ => ⟨S1x128x384, .i32⟩
  | .hbm, ⟨71, _⟩ => ⟨S1x128x384, .i1⟩
  | .hbm, ⟨72, _⟩ => ⟨S_, .i32⟩
  | .hbm, ⟨73, _⟩ => ⟨S32x1x384, .i32⟩
  | .hbm, ⟨74, _⟩ => ⟨S32x1x384, .i1⟩
  | .hbm, ⟨75, _⟩ => ⟨S32x128x384, .i1⟩
  | .hbm, ⟨76, _⟩ => ⟨S32x128x384, .i1⟩
  | .hbm, ⟨77, _⟩ => ⟨S32x128x384, .i1⟩
  | .hbm, ⟨78, _⟩ => ⟨S_, .i32⟩
  | .hbm, ⟨79, _⟩ => ⟨S32x1x384, .i32⟩
  | .hbm, ⟨80, _⟩ => ⟨S32x1x384, .i1⟩
  | .hbm, ⟨81, _⟩ => ⟨S32x128x384, .i1⟩
  | .hbm, ⟨82, _⟩ => ⟨S32x128x384, .i1⟩
  | .hbm, ⟨83, _⟩ => ⟨S1x32x1x1x128x384, .i1⟩
  | .hbm, ⟨84, _⟩ => ⟨S_, .f32⟩
  | .hbm, ⟨85, _⟩ => ⟨S_, .f32⟩
  | .hbm, ⟨86, _⟩ => ⟨S4x32x4x4x128x384, .i1⟩
  | .hbm, ⟨87, _⟩ => ⟨S4x32x4x4x128x384, .f32⟩
  | .hbm, ⟨88, _⟩ => ⟨S4x32x4x4x128x384, .f32⟩
  | .hbm, ⟨89, _⟩ => ⟨S1x1x4x4x1x1, .f32⟩
  | .hbm, ⟨90, _⟩ => ⟨S_, .f32⟩
  | .hbm, ⟨91, _⟩ => ⟨S4x32x4x4x128, .f32⟩
  | .hbm, ⟨92, _⟩ => ⟨S4x32x4x4x128x1, .f32⟩
  | .hbm, ⟨93, _⟩ => ⟨S_, .f32⟩
  | .hbm, ⟨94, _⟩ => ⟨S4x32x4x4x128, .f32⟩
  | .hbm, ⟨95, _⟩ => ⟨S4x32x4x4x128x1, .f32⟩
  | .hbm, ⟨96, _⟩ => ⟨S4x32x4x4x128x1, .f32⟩
  | .hbm, ⟨97, _⟩ => ⟨S4x32x4x4x128x1, .f32⟩
  | .hbm, ⟨98, _⟩ => ⟨S4x32x4x4x128x1, .f32⟩
  | .hbm, ⟨99, _⟩ => ⟨S4x32x4x4x128x384, .f32⟩
  | .hbm, ⟨100, _⟩ => ⟨S4x32x4x4x128x384, .f32⟩
  | .hbm, ⟨101, _⟩ => ⟨S4x32x4x4x128x384, .f32⟩
  | .hbm, ⟨102, _⟩ => ⟨S4x32x4x4x128x256, .f32⟩
  | .hbm, ⟨103, _⟩ => ⟨S4x32x4x4x128x256, .f32⟩
  | .hbm, ⟨104, _⟩ => ⟨S4x32x4x4x128x256, .f32⟩
  | .hbm, ⟨105, _⟩ => ⟨S_, .f32⟩
  | .hbm, ⟨106, _⟩ => ⟨S4x32x4x4x128, .f32⟩
  | .hbm, ⟨107, _⟩ => ⟨S4x32x4x4x128x1, .f32⟩
  | .hbm, ⟨108, _⟩ => ⟨S_, .f32⟩
  | .hbm, ⟨109, _⟩ => ⟨S4x32x4x4x128, .f32⟩
  | .hbm, ⟨110, _⟩ => ⟨S4x32x4x4x128x1, .f32⟩
  | .hbm, ⟨111, _⟩ => ⟨S4x32x4x4x128x1, .f32⟩
  | .hbm, ⟨112, _⟩ => ⟨S4x32x4x4x128x1, .f32⟩
  | .hbm, ⟨113, _⟩ => ⟨S4x32x4x4x128x1, .f32⟩
  | .hbm, ⟨114, _⟩ => ⟨S4x32x4x4x128x1, .f32⟩
  | .hbm, ⟨115, _⟩ => ⟨S4x32x4x4x128x1, .f32⟩
  | .hbm, ⟨116, _⟩ => ⟨S4x32x4x128x4x128, .f32⟩
  | .hbm, ⟨117, _⟩ => ⟨S4x32x128x4x4x128, .f32⟩
  | .hbm, ⟨118, _⟩ => ⟨S4x4x128x32x4x128, .f32⟩
  | .hbm, ⟨119, _⟩ => ⟨S4x32x128x4x4x128, .f32⟩
  | .hbm, ⟨120, _⟩ => ⟨S4x32x128x4x4x128, .f32⟩
  | .hbm, ⟨121, _⟩ => ⟨S4x32x128x4x4x1, .f32⟩
  | .hbm, ⟨122, _⟩ => ⟨S4x32x128x4x4x128, .f32⟩
  | .hbm, ⟨123, _⟩ => ⟨S4x32x128x4x4x128, .f32⟩
  | .hbm, ⟨124, _⟩ => ⟨S16384x2048, .f32⟩
  | .hbm, ⟨125, _⟩ => ⟨S16384x2048, .bf16⟩
  | _, _ => ⟨S16384x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_c : Ref sig .tc := ⟨.hbm, 19, rfl⟩
abbrev main_call0_v0 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_c_0 : Ref sig .tc := ⟨.hbm, 27, rfl⟩
abbrev main_call1_v0 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_cst : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_cst_1 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_c_2 : Ref sig .tc := ⟨.hbm, 51, rfl⟩
abbrev main_v42 : Ref sig .tc := ⟨.hbm, 52, rfl⟩
abbrev main_v43 : Ref sig .tc := ⟨.hbm, 53, rfl⟩
abbrev main_c_3 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_c_4 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_c_5 : Ref sig .tc := ⟨.hbm, 69, rfl⟩
abbrev main_v57 : Ref sig .tc := ⟨.hbm, 70, rfl⟩
abbrev main_v58 : Ref sig .tc := ⟨.hbm, 71, rfl⟩
abbrev main_c_6 : Ref sig .tc := ⟨.hbm, 72, rfl⟩
abbrev main_v59 : Ref sig .tc := ⟨.hbm, 73, rfl⟩
abbrev main_v60 : Ref sig .tc := ⟨.hbm, 74, rfl⟩
abbrev main_v61 : Ref sig .tc := ⟨.hbm, 75, rfl⟩
abbrev main_v62 : Ref sig .tc := ⟨.hbm, 76, rfl⟩
abbrev main_v63 : Ref sig .tc := ⟨.hbm, 77, rfl⟩
abbrev main_c_7 : Ref sig .tc := ⟨.hbm, 78, rfl⟩
abbrev main_v64 : Ref sig .tc := ⟨.hbm, 79, rfl⟩
abbrev main_v65 : Ref sig .tc := ⟨.hbm, 80, rfl⟩
abbrev main_v66 : Ref sig .tc := ⟨.hbm, 81, rfl⟩
abbrev main_v67 : Ref sig .tc := ⟨.hbm, 82, rfl⟩
abbrev main_v68 : Ref sig .tc := ⟨.hbm, 83, rfl⟩
abbrev main_cst_8 : Ref sig .tc := ⟨.hbm, 84, rfl⟩
abbrev main_call2_v0 : Ref sig .tc := ⟨.hbm, 85, rfl⟩
abbrev main_call2_v1 : Ref sig .tc := ⟨.hbm, 86, rfl⟩
abbrev main_call2_v2 : Ref sig .tc := ⟨.hbm, 87, rfl⟩
abbrev main_v69 : Ref sig .tc := ⟨.hbm, 88, rfl⟩
abbrev main_v70 : Ref sig .tc := ⟨.hbm, 89, rfl⟩
abbrev main_cst_9 : Ref sig .tc := ⟨.hbm, 90, rfl⟩
abbrev main_v71 : Ref sig .tc := ⟨.hbm, 91, rfl⟩
abbrev main_v72 : Ref sig .tc := ⟨.hbm, 92, rfl⟩
abbrev main_cst_10 : Ref sig .tc := ⟨.hbm, 93, rfl⟩
abbrev main_v73 : Ref sig .tc := ⟨.hbm, 94, rfl⟩
abbrev main_v74 : Ref sig .tc := ⟨.hbm, 95, rfl⟩
abbrev main_v75 : Ref sig .tc := ⟨.hbm, 96, rfl⟩
abbrev main_v76 : Ref sig .tc := ⟨.hbm, 97, rfl⟩
abbrev main_v77 : Ref sig .tc := ⟨.hbm, 98, rfl⟩
abbrev main_v78 : Ref sig .tc := ⟨.hbm, 99, rfl⟩
abbrev main_v79 : Ref sig .tc := ⟨.hbm, 100, rfl⟩
abbrev main_v80 : Ref sig .tc := ⟨.hbm, 101, rfl⟩
abbrev main_v81 : Ref sig .tc := ⟨.hbm, 102, rfl⟩
abbrev main_v82 : Ref sig .tc := ⟨.hbm, 103, rfl⟩
abbrev main_v83 : Ref sig .tc := ⟨.hbm, 104, rfl⟩
abbrev main_cst_11 : Ref sig .tc := ⟨.hbm, 105, rfl⟩
abbrev main_v84 : Ref sig .tc := ⟨.hbm, 106, rfl⟩
abbrev main_v85 : Ref sig .tc := ⟨.hbm, 107, rfl⟩
abbrev main_cst_12 : Ref sig .tc := ⟨.hbm, 108, rfl⟩
abbrev main_v86 : Ref sig .tc := ⟨.hbm, 109, rfl⟩
abbrev main_v87 : Ref sig .tc := ⟨.hbm, 110, rfl⟩
abbrev main_v88 : Ref sig .tc := ⟨.hbm, 111, rfl⟩
abbrev main_v89 : Ref sig .tc := ⟨.hbm, 112, rfl⟩
abbrev main_v90 : Ref sig .tc := ⟨.hbm, 113, rfl⟩
abbrev main_v91 : Ref sig .tc := ⟨.hbm, 114, rfl⟩
abbrev main_v92 : Ref sig .tc := ⟨.hbm, 115, rfl⟩
abbrev main_v93 : Ref sig .tc := ⟨.hbm, 116, rfl⟩
abbrev main_v94 : Ref sig .tc := ⟨.hbm, 117, rfl⟩
abbrev main_v95 : Ref sig .tc := ⟨.hbm, 118, rfl⟩
abbrev main_v96 : Ref sig .tc := ⟨.hbm, 119, rfl⟩
abbrev main_v97 : Ref sig .tc := ⟨.hbm, 120, rfl⟩
abbrev main_v98 : Ref sig .tc := ⟨.hbm, 121, rfl⟩
abbrev main_v99 : Ref sig .tc := ⟨.hbm, 122, rfl⟩
abbrev main_v100 : Ref sig .tc := ⟨.hbm, 123, rfl⟩
abbrev main_v101 : Ref sig .tc := ⟨.hbm, 124, rfl⟩
abbrev main_v102 : Ref sig .tc := ⟨.hbm, 125, rfl⟩

abbrev nD : Nat := 1
abbrev τ : Topo := Topo.v7x

variable {F : FTy → Type} [FloatOps F]
-- ==== Mlp.lean ====
abbrev S16384x2048 : Shape := ⟨2, ![16384, 2048]⟩
abbrev S2048 : Shape := ⟨1, ![2048]⟩
abbrev S2x8x1x12288 : Shape := ⟨4, ![2, 8, 1, 12288]⟩
abbrev S2048x8192 : Shape := ⟨2, ![2048, 8192]⟩
abbrev S8192x2048 : Shape := ⟨2, ![8192, 2048]⟩
abbrev S1x2048 : Shape := ⟨2, ![1, 2048]⟩
abbrev S512x2048 : Shape := ⟨2, ![512, 2048]⟩
abbrev S1x1x1x2048 : Shape := ⟨4, ![1, 1, 1, 2048]⟩
abbrev S2048x1024 : Shape := ⟨2, ![2048, 1024]⟩
abbrev S1024x2048 : Shape := ⟨2, ![1024, 2048]⟩
abbrev S512 : Shape := ⟨1, ![512]⟩
abbrev S512x1 : Shape := ⟨2, ![512, 1]⟩
abbrev S512x1024 : Shape := ⟨2, ![512, 1024]⟩

abbrev nBuf : Space → Nat
  | .hbm => 9
  | .vmem => 17
  | .smem => 0
  | _ => 0

abbrev bufTy : (tb : Table) → Fin (tcTables nBuf tb) → BufTy
  | .hbm, ⟨0, _⟩ => ⟨S16384x2048, .f32⟩
  | .hbm, ⟨1, _⟩ => ⟨S2048, .f32⟩
  | .hbm, ⟨2, _⟩ => ⟨S2x8x1x12288, .f32⟩
  | .hbm, ⟨3, _⟩ => ⟨S2048x8192, .bf16⟩
  | .hbm, ⟨4, _⟩ => ⟨S8192x2048, .bf16⟩
  | .hbm, ⟨5, _⟩ => ⟨S2048, .f32⟩
  | .hbm, ⟨6, _⟩ => ⟨S1x2048, .f32⟩
  | .hbm, ⟨7, _⟩ => ⟨S1x2048, .f32⟩
  | .hbm, ⟨8, _⟩ => ⟨S16384x2048, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S1x1x1x2048, .f32⟩
  | .local _ .vmem, ⟨4, _⟩ => ⟨S1x1x1x2048, .f32⟩
  | .local _ .vmem, ⟨5, _⟩ => ⟨S1x1x1x2048, .f32⟩
  | .local _ .vmem, ⟨6, _⟩ => ⟨S1x1x1x2048, .f32⟩
  | .local _ .vmem, ⟨7, _⟩ => ⟨S1x1x1x2048, .f32⟩
  | .local _ .vmem, ⟨8, _⟩ => ⟨S1x1x1x2048, .f32⟩
  | .local _ .vmem, ⟨9, _⟩ => ⟨S2048x1024, .bf16⟩
  | .local _ .vmem, ⟨10, _⟩ => ⟨S2048x1024, .bf16⟩
  | .local _ .vmem, ⟨11, _⟩ => ⟨S1024x2048, .bf16⟩
  | .local _ .vmem, ⟨12, _⟩ => ⟨S1024x2048, .bf16⟩
  | .local _ .vmem, ⟨13, _⟩ => ⟨S1x2048, .f32⟩
  | .local _ .vmem, ⟨14, _⟩ => ⟨S512x2048, .f32⟩
  | .local _ .vmem, ⟨15, _⟩ => ⟨S512x2048, .f32⟩
  | .local _ .vmem, ⟨16, _⟩ => ⟨S512x2048, .bf16⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg8_1 : Ref sig .tc := ⟨.vmem, 15, rfl⟩
abbrev cc0_scratch0 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨2, ![32, 8], ![false, false]⟩

def k0_cond2 (i : grid0.Coords) : BitVec 1 :=
  let arg1 : BitVec 32 := BitVec.ofNat 32 (i 1).val
  let c0_i32_8 : BitVec 32 := 0#32
  let v12 : BitVec 1 := Scalar.cmpi .eq arg1 c0_i32_8
  let v13 : BitVec 32 := Scalar.extui v12
  let c0_i32_9 : BitVec 32 := 0#32
  let v14 : BitVec 1 := Scalar.cmpi .ne v13 c0_i32_9
  v14

def k0_cond3 (i : grid0.Coords) : BitVec 1 :=
  let arg1 : BitVec 32 := BitVec.ofNat 32 (i 1).val
  let c0_i32_10 : BitVec 32 := 0#32
  let v15 : BitVec 1 := Scalar.cmpi .sgt arg1 c0_i32_10
  let v16 : BitVec 32 := Scalar.extui v15
  let c0_i32_11 : BitVec 32 := 0#32
  let v17 : BitVec 1 := Scalar.cmpi .ne v16 c0_i32_11
  v17

def k0_cond4 (i : grid0.Coords) : BitVec 1 :=
  let arg1 : BitVec 32 := BitVec.ofNat 32 (i 1).val
  let c7_i32 : BitVec 32 := 7#32
  let v18 : BitVec 1 := Scalar.cmpi .eq arg1 c7_i32
  let v19 : BitVec 32 := Scalar.extui v18
  let c0_i32_12 : BitVec 32 := 0#32
  let v20 : BitVec 1 := Scalar.cmpi .ne v19 c0_i32_12
  v20

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let v17 : BitVec 32 := Scalar.addi c0_i32_4 v16
  let c1_i32_5 : BitVec 32 := 1#32
  let c0_i32_6 : BitVec 32 := 0#32
  let c3_i32 : BitVec 32 := 3#32
  let c0_i32_7 : BitVec 32 := 0#32
  ![c1_i32_5.toNat, v17.toNat, c0_i32_6.toNat, c3_i32.toNat]

def cc0_transform_3 (i : grid0.Coords) : Fin 4 → Nat :=
  let arg0 : BitVec 32 := BitVec.ofNat 32 (i 0).val
  let arg1 : BitVec 32 := BitVec.ofNat 32 (i 1).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let v17 : BitVec 32 := Scalar.addi c0_i32_4 v16
  let c1_i32_5 : BitVec 32 := 1#32
  let c0_i32_6 : BitVec 32 := 0#32
  let c4_i32 : BitVec 32 := 4#32
  let c0_i32_7 : BitVec 32 := 0#32
  ![c1_i32_5.toNat, v17.toNat, c0_i32_6.toNat, c4_i32.toNat]

def cc0_transform_4 (i : grid0.Coords) : Fin 4 → Nat :=
  let arg0 : BitVec 32 := BitVec.ofNat 32 (i 0).val
  let arg1 : BitVec 32 := BitVec.ofNat 32 (i 1).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let v17 : BitVec 32 := Scalar.addi c0_i32_4 v16
  let c1_i32_5 : BitVec 32 := 1#32
  let c0_i32_6 : BitVec 32 := 0#32
  let c5_i32 : BitVec 32 := 5#32
  let c0_i32_7 : BitVec 32 := 0#32
  ![c1_i32_5.toNat, v17.toNat, c0_i32_6.toNat, c5_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x1x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x1x1x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S2048x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1024x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S512x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]
-- ==== MlpReferenceIdeal.lean ====
abbrev S16384x2048 : Shape := ⟨2, ![16384, 2048]⟩
abbrev S2048 : Shape := ⟨1, ![2048]⟩
abbrev S2x8x1x12288 : Shape := ⟨4, ![2, 8, 1, 12288]⟩
abbrev S2048x8192 : Shape := ⟨2, ![2048, 8192]⟩
abbrev S8192x2048 : Shape := ⟨2, ![8192, 2048]⟩
abbrev S4x4096x2048 : Shape := ⟨3, ![4, 4096, 2048]⟩
abbrev S1x4x1x12288 : Shape := ⟨4, ![1, 4, 1, 12288]⟩
abbrev S4x1x12288 : Shape := ⟨3, ![4, 1, 12288]⟩
abbrev S4x1x2048 : Shape := ⟨3, ![4, 1, 2048]⟩
abbrev S_ : Shape := ⟨0, ![]⟩
abbrev S4x4096 : Shape := ⟨2, ![4, 4096]⟩
abbrev S4x4096x1 : Shape := ⟨3, ![4, 4096, 1]⟩
abbrev S1x1x2048 : Shape := ⟨3, ![1, 1, 2048]⟩
abbrev S4x4096x8192 : Shape := ⟨3, ![4, 4096, 8192]⟩

abbrev nBuf : Space → Nat
  | .hbm => 66
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S2048, .f32⟩
  | .hbm, ⟨2, _⟩ => ⟨S2x8x1x12288, .f32⟩
  | .hbm, ⟨3, _⟩ => ⟨S2048x8192, .bf16⟩
  | .hbm, ⟨4, _⟩ => ⟨S8192x2048, .bf16⟩
  | .hbm, ⟨5, _⟩ => ⟨S2048, .f32⟩
  | .hbm, ⟨6, _⟩ => ⟨S4x4096x2048, .f32⟩
  | .hbm, ⟨7, _⟩ => ⟨S1x4x1x12288, .f32⟩
  | .hbm, ⟨8, _⟩ => ⟨S4x1x12288, .f32⟩
  | .hbm, ⟨9, _⟩ => ⟨S4x1x2048, .f32⟩
  | .hbm, ⟨10, _⟩ => ⟨S4x1x2048, .f32⟩
  | .hbm, ⟨11, _⟩ => ⟨S4x1x2048, .f32⟩
  | .hbm, ⟨12, _⟩ => ⟨S4x1x2048, .f32⟩
  | .hbm, ⟨13, _⟩ => ⟨S4x1x2048, .f32⟩
  | .hbm, ⟨14, _⟩ => ⟨S4x1x2048, .f32⟩
  | .hbm, ⟨15, _⟩ => ⟨S4x4096x2048, .f32⟩
  | .hbm, ⟨16, _⟩ => ⟨S_, .f32⟩
  | .hbm, ⟨17, _⟩ => ⟨S4x4096, .f32⟩
  | .hbm, ⟨18, _⟩ => ⟨S4x4096x1, .f32⟩
  | .hbm, ⟨19, _⟩ => ⟨S_, .f32⟩
  | .hbm, ⟨20, _⟩ => ⟨S4x4096x1, .f32⟩
  | .hbm, ⟨21, _⟩ => ⟨S4x4096x1, .f32⟩
  | .hbm, ⟨22, _⟩ => ⟨S_, .f32⟩
  | .hbm, ⟨23, _⟩ => ⟨S4x4096x1, .f32⟩
  | .hbm, ⟨24, _⟩ => ⟨S4x4096x1, .f32⟩
  | .hbm, ⟨25, _⟩ => ⟨S4x4096x1, .f32⟩
  | .hbm, ⟨26, _⟩ => ⟨S4x4096x2048, .f32⟩
  | .hbm, ⟨27, _⟩ => ⟨S4x4096x2048, .f32⟩
  | .hbm, ⟨28, _⟩ => ⟨S1x1x2048, .f32⟩
  | .hbm, ⟨29, _⟩ => ⟨S4x4096x2048, .f32⟩
  | .hbm, ⟨30, _⟩ => ⟨S4x4096x2048, .f32⟩
  | .hbm, ⟨31, _⟩ => ⟨S_, .f32⟩
  | .hbm, ⟨32, _⟩ => ⟨S4x1x2048, .f32⟩
  | .hbm, ⟨33, _⟩ => ⟨S4x1x2048, .f32⟩
  | .hbm, ⟨34, _⟩ => ⟨S4x4096x2048, .f32⟩
  | .hbm, ⟨35, _⟩ => ⟨S4x4096x2048, .f32⟩
  | .hbm, ⟨36, _⟩ => ⟨S4x4096x2048, .f32⟩
  | .hbm, ⟨37, _⟩ => ⟨S4x4096x2048, .f32⟩
  | .hbm, ⟨38, _⟩ => ⟨S2048x8192, .f32⟩
  | .hbm, ⟨39, _⟩ => ⟨S4x4096x8192, .f32⟩
  | .hbm, ⟨40, _⟩ => ⟨S_, .f32⟩
  | .hbm, ⟨41, _⟩ => ⟨S4x4096x8192, .f32⟩
  | .hbm, ⟨42, _⟩ => ⟨S4x4096x8192, .f32⟩
  | .hbm, ⟨43, _⟩ => ⟨S4x4096x8192, .f32⟩
  | .hbm, ⟨44, _⟩ => ⟨S8192x2048, .f32⟩
  | .hbm, ⟨45, _⟩ => ⟨S4x4096x2048, .f32⟩
  | .hbm, ⟨46, _⟩ => ⟨S4x4096x2048, .f32⟩
  | .hbm, ⟨47, _⟩ => ⟨S4x4096x2048, .f32⟩
  | .hbm, ⟨48, _⟩ => ⟨S4x4096x2048, .f32⟩
  | .hbm, ⟨49, _⟩ => ⟨S4x4096x2048, .f32⟩
  | .hbm, ⟨50, _⟩ => ⟨S_, .f32⟩
  | .hbm, ⟨51, _⟩ => ⟨S4x4096, .f32⟩
  | .hbm, ⟨52, _⟩ => ⟨S4x4096x1, .f32⟩
  | .hbm, ⟨53, _⟩ => ⟨S_, .f32⟩
  | .hbm, ⟨54, _⟩ => ⟨S4x4096x1, .f32⟩
  | .hbm, ⟨55, _⟩ => ⟨S4x4096x1, .f32⟩
  | .hbm, ⟨56, _⟩ => ⟨S_, .f32⟩
  | .hbm, ⟨57, _⟩ => ⟨S4x4096x1, .f32⟩
  | .hbm, ⟨58, _⟩ => ⟨S4x4096x1, .f32⟩
  | .hbm, ⟨59, _⟩ => ⟨S4x4096x1, .f32⟩
  | .hbm, ⟨60, _⟩ => ⟨S4x4096x2048, .f32⟩
  | .hbm, ⟨61, _⟩ => ⟨S4x4096x2048, .f32⟩
  | .hbm, ⟨62, _⟩ => ⟨S1x1x2048, .f32⟩
  | .hbm, ⟨63, _⟩ => ⟨S4x4096x2048, .f32⟩
  | .hbm, ⟨64, _⟩ => ⟨S4x4096x2048, .f32⟩
  | .hbm, ⟨65, _⟩ => ⟨S16384x2048, .f32⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst : Ref sig .tc := ⟨.hbm, 16, rfl⟩
abbrev main_v10 : Ref sig .tc := ⟨.hbm, 17, rfl⟩
abbrev main_v11 : Ref sig .tc := ⟨.hbm, 18, rfl⟩
abbrev main_cst_0 : Ref sig .tc := ⟨.hbm, 19, rfl⟩
abbrev main_v12 : Ref sig .tc := ⟨.hbm, 20, rfl⟩
abbrev main_v13 : Ref sig .tc := ⟨.hbm, 21, rfl⟩
abbrev main_cst_1 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_2 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_call0_cst : Ref sig .tc := ⟨.hbm, 40, rfl⟩
abbrev main_call0_v0 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_cst_3 : Ref sig .tc := ⟨.hbm, 50, rfl⟩
abbrev main_v38 : Ref sig .tc := ⟨.hbm, 51, rfl⟩
abbrev main_v39 : Ref sig .tc := ⟨.hbm, 52, rfl⟩
abbrev main_cst_4 : Ref sig .tc := ⟨.hbm, 53, rfl⟩
abbrev main_v40 : Ref sig .tc := ⟨.hbm, 54, rfl⟩
abbrev main_v41 : Ref sig .tc := ⟨.hbm, 55, rfl⟩
abbrev main_cst_5 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩

abbrev nD : Nat := 1
abbrev τ : Topo := Topo.v7x

variable {F : FTy → Type} [FloatOps F]
-- ==== Mlp0.lean ====
abbrev S16384x2048 : Shape := ⟨2, ![16384, 2048]⟩
abbrev S2048 : Shape := ⟨1, ![2048]⟩
abbrev S2x8x1x12288 : Shape := ⟨4, ![2, 8, 1, 12288]⟩
abbrev S2048x8192 : Shape := ⟨2, ![2048, 8192]⟩
abbrev S8192x2048 : Shape := ⟨2, ![8192, 2048]⟩
abbrev S1x2048 : Shape := ⟨2, ![1, 2048]⟩
abbrev S512x2048 : Shape := ⟨2, ![512, 2048]⟩
abbrev S1x1x1x2048 : Shape := ⟨4, ![1, 1, 1, 2048]⟩
abbrev S2048x1024 : Shape := ⟨2, ![2048, 1024]⟩
abbrev S1024x2048 : Shape := ⟨2, ![1024, 2048]⟩
abbrev S512 : Shape := ⟨1, ![512]⟩
abbrev S512x1 : Shape := ⟨2, ![512, 1]⟩
abbrev S512x1024 : Shape := ⟨2, ![512, 1024]⟩

abbrev nBuf : Space → Nat
  | .hbm => 7
  | .vmem => 16
  | .smem => 0
  | _ => 0

abbrev bufTy : (tb : Table) → Fin (tcTables nBuf tb) → BufTy
  | .hbm, ⟨0, _⟩ => ⟨S16384x2048, .f32⟩
  | .hbm, ⟨1, _⟩ => ⟨S2048, .f32⟩
  | .hbm, ⟨2, _⟩ => ⟨S2x8x1x12288, .f32⟩
  | .hbm, ⟨3, _⟩ => ⟨S2048x8192, .bf16⟩
  | .hbm, ⟨4, _⟩ => ⟨S8192x2048, .bf16⟩
  | .hbm, ⟨5, _⟩ => ⟨S1x2048, .f32⟩
  | .hbm, ⟨6, _⟩ => ⟨S16384x2048, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S1x1x1x2048, .f32⟩
  | .local _ .vmem, ⟨4, _⟩ => ⟨S1x1x1x2048, .f32⟩
  | .local _ .vmem, ⟨5, _⟩ => ⟨S1x1x1x2048, .f32⟩
  | .local _ .vmem, ⟨6, _⟩ => ⟨S1x1x1x2048, .f32⟩
  | .local _ .vmem, ⟨7, _⟩ => ⟨S1x1x1x2048, .f32⟩
  | .local _ .vmem, ⟨8, _⟩ => ⟨S1x1x1x2048, .f32⟩
  | .local _ .vmem, ⟨9, _⟩ => ⟨S2048x1024, .bf16⟩
  | .local _ .vmem, ⟨10, _⟩ => ⟨S2048x1024, .bf16⟩
  | .local _ .vmem, ⟨11, _⟩ => ⟨S1024x2048, .bf16⟩
  | .local _ .vmem, ⟨12, _⟩ => ⟨S1024x2048, .bf16⟩
  | .local _ .vmem, ⟨13, _⟩ => ⟨S512x2048, .f32⟩
  | .local _ .vmem, ⟨14, _⟩ => ⟨S512x2048, .f32⟩
  | .local _ .vmem, ⟨15, _⟩ => ⟨S512x2048, .bf16⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_scratch0 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14

abbrev nD : Nat := 1
abbrev τ : Topo := Topo.v7x

variable {F : FTy → Type} [FloatOps F]

abbrev grid0 : Pipeline.Grid := ⟨2, ![32, 8], ![false, false]⟩

def k0_cond2 (i : grid0.Coords) : BitVec 1 :=
  let arg1 : BitVec 32 := BitVec.ofNat 32 (i 1).val
  let c0_i32_8 : BitVec 32 := 0#32
  let v12 : BitVec 1 := Scalar.cmpi .eq arg1 c0_i32_8
  let v13 : BitVec 32 := Scalar.extui v12
  let c0_i32_9 : BitVec 32 := 0#32
  let v14 : BitVec 1 := Scalar.cmpi .ne v13 c0_i32_9
  v14

def k0_cond3 (i : grid0.Coords) : BitVec 1 :=
  let arg1 : BitVec 32 := BitVec.ofNat 32 (i 1).val
  let c0_i32_10 : BitVec 32 := 0#32
  let v15 : BitVec 1 := Scalar.cmpi .sgt arg1 c0_i32_10
  let v16 : BitVec 32 := Scalar.extui v15
  let c0_i32_11 : BitVec 32 := 0#32
  let v17 : BitVec 1 := Scalar.cmpi .ne v16 c0_i32_11
  v17

def k0_cond4 (i : grid0.Coords) : BitVec 1 :=
  let arg1 : BitVec 32 := BitVec.ofNat 32 (i 1).val
  let c7_i32 : BitVec 32 := 7#32
  let v18 : BitVec 1 := Scalar.cmpi .eq arg1 c7_i32
  let v19 : BitVec 32 := Scalar.extui v18
  let c0_i32_12 : BitVec 32 := 0#32
  let v20 : BitVec 1 := Scalar.cmpi .ne v19 c0_i32_12
  v20

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let v17 : BitVec 32 := Scalar.addi c0_i32_4 v16
  let c0_i32_5 : BitVec 32 := 0#32
  let c0_i32_6 : BitVec 32 := 0#32
  let c3_i32 : BitVec 32 := 3#32
  let c0_i32_7 : BitVec 32 := 0#32
  ![c0_i32_5.toNat, v17.toNat, c0_i32_6.toNat, c3_i32.toNat]

def cc0_transform_3 (i : grid0.Coords) : Fin 4 → Nat :=
  let arg0 : BitVec 32 := BitVec.ofNat 32 (i 0).val
  let arg1 : BitVec 32 := BitVec.ofNat 32 (i 1).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let v17 : BitVec 32 := Scalar.addi c0_i32_4 v16
  let c0_i32_5 : BitVec 32 := 0#32
  let c0_i32_6 : BitVec 32 := 0#32
  let c4_i32 : BitVec 32 := 4#32
  let c0_i32_7 : BitVec 32 := 0#32
  ![c0_i32_5.toNat, v17.toNat, c0_i32_6.toNat, c4_i32.toNat]

def cc0_transform_4 (i : grid0.Coords) : Fin 4 → Nat :=
  let arg0 : BitVec 32 := BitVec.ofNat 32 (i 0).val
  let arg1 : BitVec 32 := BitVec.ofNat 32 (i 1).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let v17 : BitVec 32 := Scalar.addi c0_i32_4 v16
  let c0_i32_5 : BitVec 32 := 0#32
  let c0_i32_6 : BitVec 32 := 0#32
  let c5_i32 : BitVec 32 := 5#32
  let c0_i32_7 : BitVec 32 := 0#32
  ![c0_i32_5.toNat, v17.toNat, c0_i32_6.toNat, c5_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x1x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x1x1x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S2048x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1024x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S512x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]
-- ==== Mlp0ReferenceIdeal.lean ====
abbrev S16384x2048 : Shape := ⟨2, ![16384, 2048]⟩
abbrev S2048 : Shape := ⟨1, ![2048]⟩
abbrev S2x8x1x12288 : Shape := ⟨4, ![2, 8, 1, 12288]⟩
abbrev S2048x8192 : Shape := ⟨2, ![2048, 8192]⟩
abbrev S8192x2048 : Shape := ⟨2, ![8192, 2048]⟩
abbrev S4x4096x2048 : Shape := ⟨3, ![4, 4096, 2048]⟩
abbrev S1x4x1x12288 : Shape := ⟨4, ![1, 4, 1, 12288]⟩
abbrev S4x1x12288 : Shape := ⟨3, ![4, 1, 12288]⟩
abbrev S4x1x2048 : Shape := ⟨3, ![4, 1, 2048]⟩
abbrev S_ : Shape := ⟨0, ![]⟩
abbrev S4x4096 : Shape := ⟨2, ![4, 4096]⟩
abbrev S4x4096x1 : Shape := ⟨3, ![4, 4096, 1]⟩
abbrev S1x1x2048 : Shape := ⟨3, ![1, 1, 2048]⟩
abbrev S4x4096x8192 : Shape := ⟨3, ![4, 4096, 8192]⟩

abbrev nBuf : Space → Nat
  | .hbm => 49
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S2048, .f32⟩
  | .hbm, ⟨2, _⟩ => ⟨S2x8x1x12288, .f32⟩
  | .hbm, ⟨3, _⟩ => ⟨S2048x8192, .bf16⟩
  | .hbm, ⟨4, _⟩ => ⟨S8192x2048, .bf16⟩
  | .hbm, ⟨5, _⟩ => ⟨S4x4096x2048, .f32⟩
  | .hbm, ⟨6, _⟩ => ⟨S1x4x1x12288, .f32⟩
  | .hbm, ⟨7, _⟩ => ⟨S4x1x12288, .f32⟩
  | .hbm, ⟨8, _⟩ => ⟨S4x1x2048, .f32⟩
  | .hbm, ⟨9, _⟩ => ⟨S4x1x2048, .f32⟩
  | .hbm, ⟨10, _⟩ => ⟨S4x1x2048, .f32⟩
  | .hbm, ⟨11, _⟩ => ⟨S4x1x2048, .f32⟩
  | .hbm, ⟨12, _⟩ => ⟨S4x1x2048, .f32⟩
  | .hbm, ⟨13, _⟩ => ⟨S4x1x2048, .f32⟩
  | .hbm, ⟨14, _⟩ => ⟨S4x4096x2048, .f32⟩
  | .hbm, ⟨15, _⟩ => ⟨S_, .f32⟩
  | .hbm, ⟨16, _⟩ => ⟨S4x4096, .f32⟩
  | .hbm, ⟨17, _⟩ => ⟨S4x4096x1, .f32⟩
  | .hbm, ⟨18, _⟩ => ⟨S_, .f32⟩
  | .hbm, ⟨19, _⟩ => ⟨S4x4096x1, .f32⟩
  | .hbm, ⟨20, _⟩ => ⟨S4x4096x1, .f32⟩
  | .hbm, ⟨21, _⟩ => ⟨S_, .f32⟩
  | .hbm, ⟨22, _⟩ => ⟨S4x4096x1, .f32⟩
  | .hbm, ⟨23, _⟩ => ⟨S4x4096x1, .f32⟩
  | .hbm, ⟨24, _⟩ => ⟨S4x4096x1, .f32⟩
  | .hbm, ⟨25, _⟩ => ⟨S4x4096x2048, .f32⟩
  | .hbm, ⟨26, _⟩ => ⟨S4x4096x2048, .f32⟩
  | .hbm, ⟨27, _⟩ => ⟨S1x1x2048, .f32⟩
  | .hbm, ⟨28, _⟩ => ⟨S4x4096x2048, .f32⟩
  | .hbm, ⟨29, _⟩ => ⟨S4x4096x2048, .f32⟩
  | .hbm, ⟨30, _⟩ => ⟨S_, .f32⟩
  | .hbm, ⟨31, _⟩ => ⟨S4x1x2048, .f32⟩
  | .hbm, ⟨32, _⟩ => ⟨S4x1x2048, .f32⟩
  | .hbm, ⟨33, _⟩ => ⟨S4x4096x2048, .f32⟩
  | .hbm, ⟨34, _⟩ => ⟨S4x4096x2048, .f32⟩
  | .hbm, ⟨35, _⟩ => ⟨S4x4096x2048, .f32⟩
  | .hbm, ⟨36, _⟩ => ⟨S4x4096x2048, .f32⟩
  | .hbm, ⟨37, _⟩ => ⟨S2048x8192, .f32⟩
  | .hbm, ⟨38, _⟩ => ⟨S4x4096x8192, .f32⟩
  | .hbm, ⟨39, _⟩ => ⟨S_, .f32⟩
  | .hbm, ⟨40, _⟩ => ⟨S4x4096x8192, .f32⟩
  | .hbm, ⟨41, _⟩ => ⟨S4x4096x8192, .f32⟩
  | .hbm, ⟨42, _⟩ => ⟨S4x4096x8192, .f32⟩
  | .hbm, ⟨43, _⟩ => ⟨S8192x2048, .f32⟩
  | .hbm, ⟨44, _⟩ => ⟨S4x4096x2048, .f32⟩
  | .hbm, ⟨45, _⟩ => ⟨S4x4096x2048, .f32⟩
  | .hbm, ⟨46, _⟩ => ⟨S4x4096x2048, .f32⟩
  | .hbm, ⟨47, _⟩ => ⟨S4x4096x2048, .f32⟩
  | .hbm, ⟨48, _⟩ => ⟨S16384x2048, .f32⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst : Ref sig .tc := ⟨.hbm, 15, rfl⟩
abbrev main_v10 : Ref sig .tc := ⟨.hbm, 16, rfl⟩
abbrev main_v11 : Ref sig .tc := ⟨.hbm, 17, rfl⟩
abbrev main_cst_0 : Ref sig .tc := ⟨.hbm, 18, rfl⟩
abbrev main_v12 : Ref sig .tc := ⟨.hbm, 19, rfl⟩
abbrev main_v13 : Ref sig .tc := ⟨.hbm, 20, rfl⟩
abbrev main_cst_1 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_cst_2 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_call0_cst : Ref sig .tc := ⟨.hbm, 39, rfl⟩
abbrev main_call0_v0 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩

abbrev nD : Nat := 1
abbrev τ : Topo := Topo.v7x

variable {F : FTy → Type} [FloatOps F]
-- ==== RetOut.lean ====
abbrev S16384x4096 : Shape := ⟨2, ![16384, 4096]⟩
abbrev S4096x2048 : Shape := ⟨2, ![4096, 2048]⟩
abbrev S16384x2048 : Shape := ⟨2, ![16384, 2048]⟩
abbrev S2x8x1x12288 : Shape := ⟨4, ![2, 8, 1, 12288]⟩
abbrev S1024x4096 : Shape := ⟨2, ![1024, 4096]⟩
abbrev S4096x512 : Shape := ⟨2, ![4096, 512]⟩
abbrev S1024x512 : Shape := ⟨2, ![1024, 512]⟩
abbrev S1x1x1x512 : Shape := ⟨4, ![1, 1, 1, 512]⟩
abbrev S1x512 : Shape := ⟨2, ![1, 512]⟩

abbrev nBuf : Space → Nat
  | .hbm => 5
  | .vmem => 10
  | .smem => 0
  | _ => 0

abbrev bufTy : (tb : Table) → Fin (tcTables nBuf tb) → BufTy
  | .hbm, ⟨0, _⟩ => ⟨S16384x4096, .bf16⟩
  | .hbm, ⟨1, _⟩ => ⟨S4096x2048, .bf16⟩
  | .hbm, ⟨2, _⟩ => ⟨S16384x2048, .f32⟩
  | .hbm, ⟨3, _⟩ => ⟨S2x8x1x12288, .f32⟩
  | .hbm, ⟨4, _⟩ => ⟨S16384x2048, .f32⟩
  | .local _ .vmem, ⟨0, _⟩ => ⟨S1024x4096, .bf16⟩
  | .local _ .vmem, ⟨1, _⟩ => ⟨S1024x4096, .bf16⟩
  | .local _ .vmem, ⟨2, _⟩ => ⟨S4096x512, .bf16⟩
  | .local _ .vmem, ⟨3, _⟩ => ⟨S4096x512, .bf16⟩
  | .local _ .vmem, ⟨4, _⟩ => ⟨S1024x512, .f32⟩
  | .local _ .vmem, ⟨5, _⟩ => ⟨S1024x512, .f32⟩
  | .local _ .vmem, ⟨6, _⟩ => ⟨S1x1x1x512, .f32⟩
  | .local _ .vmem, ⟨7, _⟩ => ⟨S1x1x1x512, .f32⟩
  | .local _ .vmem, ⟨8, _⟩ => ⟨S1024x512, .f32⟩
  | .local _ .vmem, ⟨9, _⟩ => ⟨S1024x512, .f32⟩
  | _, _ => ⟨S16384x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![16, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 4 → Nat :=
  let arg0 : BitVec 32 := BitVec.ofNat 32 (i 0).val
  let arg1 : BitVec 32 := BitVec.ofNat 32 (i 1).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let v17 : BitVec 32 := Scalar.addi c0_i32_4 v16
  let c8_i32 : BitVec 32 := 8#32
  let v18 : BitVec 32 := Scalar.addi c8_i32 arg1
  let c0_i32_5 : BitVec 32 := 0#32
  let c0_i32_6 : BitVec 32 := 0#32
  let c0_i32_7 : BitVec 32 := 0#32
  ![c0_i32_5.toNat, v17.toNat, c0_i32_6.toNat, v18.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== RetOutReferenceIdeal.lean ====
abbrev S16384x4096 : Shape := ⟨2, ![16384, 4096]⟩
abbrev S4096x2048 : Shape := ⟨2, ![4096, 2048]⟩
abbrev S16384x2048 : Shape := ⟨2, ![16384, 2048]⟩
abbrev S2x8x1x12288 : Shape := ⟨4, ![2, 8, 1, 12288]⟩
abbrev S1x4x1x12288 : Shape := ⟨4, ![1, 4, 1, 12288]⟩
abbrev S4x1x12288 : Shape := ⟨3, ![4, 1, 12288]⟩
abbrev S4x1x2048 : Shape := ⟨3, ![4, 1, 2048]⟩
abbrev S4x4096x4096 : Shape := ⟨3, ![4, 4096, 4096]⟩
abbrev S4x4096x2048 : Shape := ⟨3, ![4, 4096, 2048]⟩

abbrev nBuf : Space → Nat
  | .hbm => 21
  | .vmem => 0
  | .smem => 0
  | _ => 0

abbrev bufTy : (tb : Table) → Fin (tcTables nBuf tb) → BufTy
  | .hbm, ⟨0, _⟩ => ⟨S16384x4096, .bf16⟩
  | .hbm, ⟨1, _⟩ => ⟨S4096x2048, .bf16⟩
  | .hbm, ⟨2, _⟩ => ⟨S16384x2048, .f32⟩
  | .hbm, ⟨3, _⟩ => ⟨S2x8x1x12288, .f32⟩
  | .hbm, ⟨4, _⟩ => ⟨S1x4x1x12288, .f32⟩
  | .hbm, ⟨5, _⟩ => ⟨S4x1x12288, .f32⟩
  | .hbm, ⟨6, _⟩ => ⟨S4x1x2048, .f32⟩
  | .hbm, ⟨7, _⟩ => ⟨S4x1x2048, .f32⟩
  | .hbm, ⟨8, _⟩ => ⟨S4x1x2048, .f32⟩
  | .hbm, ⟨9, _⟩ => ⟨S4x1x2048, .f32⟩
  | .hbm, ⟨10, _⟩ => ⟨S4x1x2048, .f32⟩
  | .hbm, ⟨11, _⟩ => ⟨S4x1x2048, .f32⟩
  | .hbm, ⟨12, _⟩ => ⟨S16384x4096, .f32⟩
  | .hbm, ⟨13, _⟩ => ⟨S4x4096x4096, .f32⟩
  | .hbm, ⟨14, _⟩ => ⟨S4096x2048, .f32⟩
  | .hbm, ⟨15, _⟩ => ⟨S4x4096x2048, .f32⟩
  | .hbm, ⟨16, _⟩ => ⟨S4x4096x2048, .f32⟩
  | .hbm, ⟨17, _⟩ => ⟨S4x4096x2048, .f32⟩
  | .hbm, ⟨18, _⟩ => ⟨S4x4096x2048, .f32⟩
  | .hbm, ⟨19, _⟩ => ⟨S4x4096x2048, .f32⟩
  | .hbm, ⟨20, _⟩ => ⟨S16384x2048, .f32⟩
  | _, _ => ⟨S16384x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩

abbrev nD : Nat := 1
abbrev τ : Topo := Topo.v7x

variable {F : FTy → Type} [FloatOps F]
-- ==== AttnOut.lean ====
abbrev S16384x2048 : Shape := ⟨2, ![16384, 2048]⟩
abbrev S2048x2048 : Shape := ⟨2, ![2048, 2048]⟩
abbrev S2x8x1x12288 : Shape := ⟨4, ![2, 8, 1, 12288]⟩
abbrev S1024x2048 : Shape := ⟨2, ![1024, 2048]⟩
abbrev S2048x512 : Shape := ⟨2, ![2048, 512]⟩
abbrev S1024x512 : Shape := ⟨2, ![1024, 512]⟩
abbrev S1x1x1x512 : Shape := ⟨4, ![1, 1, 1, 512]⟩
abbrev S1x512 : Shape := ⟨2, ![1, 512]⟩

abbrev nBuf : Space → Nat
  | .hbm => 5
  | .vmem => 10
  | .smem => 0
  | _ => 0

abbrev bufTy : (tb : Table) → Fin (tcTables nBuf tb) → BufTy
  | .hbm, ⟨0, _⟩ => ⟨S16384x2048, .bf16⟩
  | .hbm, ⟨1, _⟩ => ⟨S2048x2048, .bf16⟩
  | .hbm, ⟨2, _⟩ => ⟨S16384x2048, .f32⟩
  | .hbm, ⟨3, _⟩ => ⟨S2x8x1x12288, .f32⟩
  | .hbm, ⟨4, _⟩ => ⟨S16384x2048, .f32⟩
  | .local _ .vmem, ⟨0, _⟩ => ⟨S1024x2048, .bf16⟩
  | .local _ .vmem, ⟨1, _⟩ => ⟨S1024x2048, .bf16⟩
  | .local _ .vmem, ⟨2, _⟩ => ⟨S2048x512, .bf16⟩
  | .local _ .vmem, ⟨3, _⟩ => ⟨S2048x512, .bf16⟩
  | .local _ .vmem, ⟨4, _⟩ => ⟨S1024x512, .f32⟩
  | .local _ .vmem, ⟨5, _⟩ => ⟨S1024x512, .f32⟩
  | .local _ .vmem, ⟨6, _⟩ => ⟨S1x1x1x512, .f32⟩
  | .local _ .vmem, ⟨7, _⟩ => ⟨S1x1x1x512, .f32⟩
  | .local _ .vmem, ⟨8, _⟩ => ⟨S1024x512, .f32⟩
  | .local _ .vmem, ⟨9, _⟩ => ⟨S1024x512, .f32⟩
  | _, _ => ⟨S16384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![16, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 4 → Nat :=
  let arg0 : BitVec 32 := BitVec.ofNat 32 (i 0).val
  let arg1 : BitVec 32 := BitVec.ofNat 32 (i 1).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let v17 : BitVec 32 := Scalar.addi c0_i32_4 v16
  let c8_i32 : BitVec 32 := 8#32
  let v18 : BitVec 32 := Scalar.addi c8_i32 arg1
  let c1_i32_5 : BitVec 32 := 1#32
  let c0_i32_6 : BitVec 32 := 0#32
  let c0_i32_7 : BitVec 32 := 0#32
  ![c1_i32_5.toNat, v17.toNat, c0_i32_6.toNat, v18.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== AttnOutReferenceIdeal.lean ====
abbrev S16384x2048 : Shape := ⟨2, ![16384, 2048]⟩
abbrev S2048x2048 : Shape := ⟨2, ![2048, 2048]⟩
abbrev S2x8x1x12288 : Shape := ⟨4, ![2, 8, 1, 12288]⟩
abbrev S1x4x1x12288 : Shape := ⟨4, ![1, 4, 1, 12288]⟩
abbrev S4x1x12288 : Shape := ⟨3, ![4, 1, 12288]⟩
abbrev S4x1x2048 : Shape := ⟨3, ![4, 1, 2048]⟩
abbrev S4x4096x2048 : Shape := ⟨3, ![4, 4096, 2048]⟩

abbrev nBuf : Space → Nat
  | .hbm => 21
  | .vmem => 0
  | .smem => 0
  | _ => 0

abbrev bufTy : (tb : Table) → Fin (tcTables nBuf tb) → BufTy
  | .hbm, ⟨0, _⟩ => ⟨S16384x2048, .bf16⟩
  | .hbm, ⟨1, _⟩ => ⟨S2048x2048, .bf16⟩
  | .hbm, ⟨2, _⟩ => ⟨S16384x2048, .f32⟩
  | .hbm, ⟨3, _⟩ => ⟨S2x8x1x12288, .f32⟩
  | .hbm, ⟨4, _⟩ => ⟨S1x4x1x12288, .f32⟩
  | .hbm, ⟨5, _⟩ => ⟨S4x1x12288, .f32⟩
  | .hbm, ⟨6, _⟩ => ⟨S4x1x2048, .f32⟩
  | .hbm, ⟨7, _⟩ => ⟨S4x1x2048, .f32⟩
  | .hbm, ⟨8, _⟩ => ⟨S4x1x2048, .f32⟩
  | .hbm, ⟨9, _⟩ => ⟨S4x1x2048, .f32⟩
  | .hbm, ⟨10, _⟩ => ⟨S4x1x2048, .f32⟩
  | .hbm, ⟨11, _⟩ => ⟨S4x1x2048, .f32⟩
  | .hbm, ⟨12, _⟩ => ⟨S16384x2048, .f32⟩
  | .hbm, ⟨13, _⟩ => ⟨S4x4096x2048, .f32⟩
  | .hbm, ⟨14, _⟩ => ⟨S2048x2048, .f32⟩
  | .hbm, ⟨15, _⟩ => ⟨S4x4096x2048, .f32⟩
  | .hbm, ⟨16, _⟩ => ⟨S4x4096x2048, .f32⟩
  | .hbm, ⟨17, _⟩ => ⟨S4x4096x2048, .f32⟩
  | .hbm, ⟨18, _⟩ => ⟨S4x4096x2048, .f32⟩
  | .hbm, ⟨19, _⟩ => ⟨S4x4096x2048, .f32⟩
  | .hbm, ⟨20, _⟩ => ⟨S16384x2048, .f32⟩
  | _, _ => ⟨S16384x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩

abbrev nD : Nat := 1
abbrev τ : Topo := Topo.v7x

variable {F : FTy → Type} [FloatOps F]
-- ==== RetProj.lean ====
abbrev S16384x2048 : Shape := ⟨2, ![16384, 2048]⟩
abbrev S2048 : Shape := ⟨1, ![2048]⟩
abbrev S2x8x1x12288 : Shape := ⟨4, ![2, 8, 1, 12288]⟩
abbrev S2048x12288 : Shape := ⟨2, ![2048, 12288]⟩
abbrev S4096 : Shape := ⟨1, ![4096]⟩
abbrev S128 : Shape := ⟨1, ![128]⟩
abbrev S_ : Shape := ⟨0, ![]⟩
abbrev S4096x1 : Shape := ⟨2, ![4096, 1]⟩
abbrev S1x128 : Shape := ⟨2, ![1, 128]⟩
abbrev S4096x128 : Shape := ⟨2, ![4096, 128]⟩
abbrev S1x2048 : Shape := ⟨2, ![1, 2048]⟩
abbrev S16384x12288 : Shape := ⟨2, ![16384, 12288]⟩
abbrev S1024x2048 : Shape := ⟨2, ![1024, 2048]⟩
abbrev S1x1x1x2048 : Shape := ⟨4, ![1, 1, 1, 2048]⟩
abbrev S2048x1024 : Shape := ⟨2, ![2048, 1024]⟩
abbrev S1024x128 : Shape := ⟨2, ![1024, 128]⟩
abbrev S1024x1024 : Shape := ⟨2, ![1024, 1024]⟩
abbrev S1024 : Shape := ⟨1, ![1024]⟩
abbrev S1024x1 : Shape := ⟨2, ![1024, 1]⟩

abbrev nBuf : Space → Nat
  | .hbm => 29
  | .vmem => 16
  | .smem => 0
  | _ => 0

abbrev bufTy : (tb : Table) → Fin (tcTables nBuf tb) → BufTy
  | .hbm, ⟨0, _⟩ => ⟨S16384x2048, .f32⟩
  | .hbm, ⟨1, _⟩ => ⟨S2048, .f32⟩
  | .hbm, ⟨2, _⟩ => ⟨S2x8x1x12288, .f32⟩
  | .hbm, ⟨3, _⟩ => ⟨S2048x12288, .bf16⟩
  | .hbm, ⟨4, _⟩ => ⟨S4096, .i32⟩
  | .hbm, ⟨5, _⟩ => ⟨S128, .f32⟩
  | .hbm, ⟨6, _⟩ => ⟨S_, .f32⟩
  | .hbm, ⟨7, _⟩ => ⟨S128, .f32⟩
  | .hbm, ⟨8, _⟩ => ⟨S128, .f32⟩
  | .hbm, ⟨9, _⟩ => ⟨S_, .f32⟩
  | .hbm, ⟨10, _⟩ => ⟨S128, .f32⟩
  | .hbm, ⟨11, _⟩ => ⟨S128, .f32⟩
  | .hbm, ⟨12, _⟩ => ⟨S128, .f32⟩
  | .hbm, ⟨13, _⟩ => ⟨S_, .f32⟩
  | .hbm, ⟨14, _⟩ => ⟨S128, .f32⟩
  | .hbm, ⟨15, _⟩ => ⟨S128, .f32⟩
  | .hbm, ⟨16, _⟩ => ⟨S_, .f32⟩
  | .hbm, ⟨17, _⟩ => ⟨S128, .f32⟩
  | .hbm, ⟨18, _⟩ => ⟨S128, .f32⟩
  | .hbm, ⟨19, _⟩ => ⟨S4096, .f32⟩
  | .hbm, ⟨20, _⟩ => ⟨S4096x1, .f32⟩
  | .hbm, ⟨21, _⟩ => ⟨S1x128, .f32⟩
  | .hbm, ⟨22, _⟩ => ⟨S4096x128, .f32⟩
  | .hbm, ⟨23, _⟩ => ⟨S4096x128, .f32⟩
  | .hbm, ⟨24, _⟩ => ⟨S4096x128, .f32⟩
  | .hbm, ⟨25, _⟩ => ⟨S4096x128, .f32⟩
  | .hbm, ⟨26, _⟩ => ⟨S4096x128, .f32⟩
  | .hbm, ⟨27, _⟩ => ⟨S1x2048, .f32⟩
  | .hbm, ⟨28, _⟩ => ⟨S16384x12288, .bf16⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S1x1x1x2048, .f32⟩
  | .local _ .vmem, ⟨4, _⟩ => ⟨S1x1x1x2048, .f32⟩
  | .local _ .vmem, ⟨5, _⟩ => ⟨S1x1x1x2048, .f32⟩
  | .local _ .vmem, ⟨6, _⟩ => ⟨S1x1x1x2048, .f32⟩
  | .local _ .vmem, ⟨7, _⟩ => ⟨S2048x1024, .bf16⟩
  | .local _ .vmem, ⟨8, _⟩ => ⟨S2048x1024, .bf16⟩
  | .local _ .vmem, ⟨9, _⟩ => ⟨S1024x128, .f32⟩
  | .local _ .vmem, ⟨10, _⟩ => ⟨S1024x128, .f32⟩
  | .local _ .vmem, ⟨11, _⟩ => ⟨S1024x128, .f32⟩
  | .local _ .vmem, ⟨12, _⟩ => ⟨S1024x128, .f32⟩
  | .local _ .vmem, ⟨13, _⟩ => ⟨S1024x1024, .bf16⟩
  | .local _ .vmem, ⟨14, _⟩ => ⟨S1024x1024, .bf16⟩
  | .local _ .vmem, ⟨15, _⟩ => ⟨S1024x2048, .bf16⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_scratch0 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14

abbrev nD : Nat := 1
abbrev τ : Topo := Topo.v7x

variable {F : FTy → Type} [FloatOps F]

abbrev grid0 : Pipeline.Grid := ⟨2, ![16, 12], ![false, false]⟩

def k0_cond2 (i : grid0.Coords) : BitVec 1 :=
  let arg1 : BitVec 32 := BitVec.ofNat 32 (i 1).val
  let c4_i32_6 : BitVec 32 := 4#32
  let v12 : BitVec 1 := Scalar.cmpi .slt arg1 c4_i32_6
  let v13 : BitVec 32 := Scalar.extui v12
  let c0_i32_7 : BitVec 32 := 0#32
  let v14 : BitVec 1 := Scalar.cmpi .ne v13 c0_i32_7
  v14

def k0_cond3 (i : grid0.Coords) : BitVec 1 :=
  let arg1 : BitVec 32 := BitVec.ofNat 32 (i 1).val
  let c4_i32_8 : BitVec 32 := 4#32
  let v15 : BitVec 1 := Scalar.cmpi .sge arg1 c4_i32_8
  let v16 : BitVec 32 := Scalar.extui v15
  let c0_i32_9 : BitVec 32 := 0#32
  let v17 : BitVec 1 := Scalar.cmpi .ne v16 c0_i32_9
  v17

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let v17 : BitVec 32 := Scalar.addi c0_i32_4 v16
  let c0_i32_5 : BitVec 32 := 0#32
  let c0_i32_6 : BitVec 32 := 0#32
  let c0_i32_7 : BitVec 32 := 0#32
  let c0_i32_8 : BitVec 32 := 0#32
  ![c0_i32_5.toNat, v17.toNat, c0_i32_6.toNat, c0_i32_7.toNat]

def cc0_transform_3 (i : grid0.Coords) : Fin 4 → Nat :=
  let arg0 : BitVec 32 := BitVec.ofNat 32 (i 0).val
  let arg1 : BitVec 32 := BitVec.ofNat 32 (i 1).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let v17 : BitVec 32 := Scalar.addi c0_i32_4 v16
  let c0_i32_5 : BitVec 32 := 0#32
  let c0_i32_6 : BitVec 32 := 0#32
  let c1_i32_7 : BitVec 32 := 1#32
  let c0_i32_8 : BitVec 32 := 0#32
  ![c0_i32_5.toNat, v17.toNat, c0_i32_6.toNat, c1_i32_7.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  ![c0_i32_0.toNat, v0.toNat]

def cc0_transform_5 (i : grid0.Coords) : Fin 2 → Nat :=
  let arg0 : BitVec 32 := BitVec.ofNat 32 (i 0).val
  let arg1 : BitVec 32 := BitVec.ofNat 32 (i 1).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_6 (i : grid0.Coords) : Fin 2 → Nat :=
  let arg0 : BitVec 32 := BitVec.ofNat 32 (i 0).val
  let arg1 : BitVec 32 := BitVec.ofNat 32 (i 1).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x1x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S2048x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1024x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1024x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1024x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== RetProjReferenceIdeal.lean ====
abbrev S16384x2048 : Shape := ⟨2, ![16384, 2048]⟩
abbrev S2048 : Shape := ⟨1, ![2048]⟩
abbrev S2x8x1x12288 : Shape := ⟨4, ![2, 8, 1, 12288]⟩
abbrev S2048x12288 : Shape := ⟨2, ![2048, 12288]⟩
abbrev S1x4x1x12288 : Shape := ⟨4, ![1, 4, 1, 12288]⟩
abbrev S4x1x12288 : Shape := ⟨3, ![4, 1, 12288]⟩
abbrev S4x1x2048 : Shape := ⟨3, ![4, 1, 2048]⟩
abbrev S4x4096x2048 : Shape := ⟨3, ![4, 4096, 2048]⟩
abbrev S_ : Shape := ⟨0, ![]⟩
abbrev S4x4096 : Shape := ⟨2, ![4, 4096]⟩
abbrev S4x4096x1 : Shape := ⟨3, ![4, 4096, 1]⟩
abbrev S1x1x2048 : Shape := ⟨3, ![1, 1, 2048]⟩
abbrev S4x4096x12288 : Shape := ⟨3, ![4, 4096, 12288]⟩
abbrev S4x4096x4096 : Shape := ⟨3, ![4, 4096, 4096]⟩
abbrev S4096 : Shape := ⟨1, ![4096]⟩
abbrev S128 : Shape := ⟨1, ![128]⟩
abbrev S4096x1 : Shape := ⟨2, ![4096, 1]⟩
abbrev S1x128 : Shape := ⟨2, ![1, 128]⟩
abbrev S4096x128 : Shape := ⟨2, ![4096, 128]⟩
abbrev S4x4096x8x256 : Shape := ⟨4, ![4, 4096, 8, 256]⟩
abbrev S4x4096x8x128 : Shape := ⟨4, ![4, 4096, 8, 128]⟩
abbrev S4096x1x128 : Shape := ⟨3, ![4096, 1, 128]⟩
abbrev S1x4096x1x128 : Shape := ⟨4, ![1, 4096, 1, 128]⟩
abbrev S16384x12288 : Shape := ⟨2, ![16384, 12288]⟩

abbrev nBuf : Space → Nat
  | .hbm => 115
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S2048, .f32⟩
  | .hbm, ⟨2, _⟩ => ⟨S2x8x1x12288, .f32⟩
  | .hbm, ⟨3, _⟩ => ⟨S2048x12288, .bf16⟩
  | .hbm, ⟨4, _⟩ => ⟨S1x4x1x12288, .f32⟩
  | .hbm, ⟨5, _⟩ => ⟨S4x1x12288, .f32⟩
  | .hbm, ⟨6, _⟩ => ⟨S4x1x2048, .f32⟩
  | .hbm, ⟨7, _⟩ => ⟨S4x1x2048, .f32⟩
  | .hbm, ⟨8, _⟩ => ⟨S4x1x2048, .f32⟩
  | .hbm, ⟨9, _⟩ => ⟨S4x1x2048, .f32⟩
  | .hbm, ⟨10, _⟩ => ⟨S4x1x2048, .f32⟩
  | .hbm, ⟨11, _⟩ => ⟨S4x1x2048, .f32⟩
  | .hbm, ⟨12, _⟩ => ⟨S4x4096x2048, .f32⟩
  | .hbm, ⟨13, _⟩ => ⟨S4x4096x2048, .f32⟩
  | .hbm, ⟨14, _⟩ => ⟨S_, .f32⟩
  | .hbm, ⟨15, _⟩ => ⟨S4x4096, .f32⟩
  | .hbm, ⟨16, _⟩ => ⟨S4x4096x1, .f32⟩
  | .hbm, ⟨17, _⟩ => ⟨S_, .f32⟩
  | .hbm, ⟨18, _⟩ => ⟨S4x4096x1, .f32⟩
  | .hbm, ⟨19, _⟩ => ⟨S4x4096x1, .f32⟩
  | .hbm, ⟨20, _⟩ => ⟨S_, .f32⟩
  | .hbm, ⟨21, _⟩ => ⟨S4x4096x1, .f32⟩
  | .hbm, ⟨22, _⟩ => ⟨S4x4096x1, .f32⟩
  | .hbm, ⟨23, _⟩ => ⟨S4x4096x1, .f32⟩
  | .hbm, ⟨24, _⟩ => ⟨S4x4096x2048, .f32⟩
  | .hbm, ⟨25, _⟩ => ⟨S4x4096x2048, .f32⟩
  | .hbm, ⟨26, _⟩ => ⟨S1x1x2048, .f32⟩
  | .hbm, ⟨27, _⟩ => ⟨S4x4096x2048, .f32⟩
  | .hbm, ⟨28, _⟩ => ⟨S4x4096x2048, .f32⟩
  | .hbm, ⟨29, _⟩ => ⟨S_, .f32⟩
  | .hbm, ⟨30, _⟩ => ⟨S4x1x2048, .f32⟩
  | .hbm, ⟨31, _⟩ => ⟨S4x1x2048, .f32⟩
  | .hbm, ⟨32, _⟩ => ⟨S4x4096x2048, .f32⟩
  | .hbm, ⟨33, _⟩ => ⟨S4x4096x2048, .f32⟩
  | .hbm, ⟨34, _⟩ => ⟨S4x4096x2048, .f32⟩
  | .hbm, ⟨35, _⟩ => ⟨S4x4096x2048, .f32⟩
  | .hbm, ⟨36, _⟩ => ⟨S2048x12288, .f32⟩
  | .hbm, ⟨37, _⟩ => ⟨S4x4096x12288, .f32⟩
  | .hbm, ⟨38, _⟩ => ⟨S4x4096x2048, .f32⟩
  | .hbm, ⟨39, _⟩ => ⟨S4x4096x2048, .f32⟩
  | .hbm, ⟨40, _⟩ => ⟨S4x4096x4096, .f32⟩
  | .hbm, ⟨41, _⟩ => ⟨S4x4096x4096, .f32⟩
  | .hbm, ⟨42, _⟩ => ⟨S4096, .i32⟩
  | .hbm, ⟨43, _⟩ => ⟨S128, .f32⟩
  | .hbm, ⟨44, _⟩ => ⟨S_, .f32⟩
  | .hbm, ⟨45, _⟩ => ⟨S128, .f32⟩
  | .hbm, ⟨46, _⟩ => ⟨S128, .f32⟩
  | .hbm, ⟨47, _⟩ => ⟨S_, .f32⟩
  | .hbm, ⟨48, _⟩ => ⟨S128, .f32⟩
  | .hbm, ⟨49, _⟩ => ⟨S128, .f32⟩
  | .hbm, ⟨50, _⟩ => ⟨S128, .f32⟩
  | .hbm, ⟨51, _⟩ => ⟨S_, .f32⟩
  | .hbm, ⟨52, _⟩ => ⟨S128, .f32⟩
  | .hbm, ⟨53, _⟩ => ⟨S128, .f32⟩
  | .hbm, ⟨54, _⟩ => ⟨S_, .f32⟩
  | .hbm, ⟨55, _⟩ => ⟨S128, .f32⟩
  | .hbm, ⟨56, _⟩ => ⟨S128, .f32⟩
  | .hbm, ⟨57, _⟩ => ⟨S4096, .f32⟩
  | .hbm, ⟨58, _⟩ => ⟨S4096x1, .f32⟩
  | .hbm, ⟨59, _⟩ => ⟨S1x128, .f32⟩
  | .hbm, ⟨60, _⟩ => ⟨S4096x128, .f32⟩
  | .hbm, ⟨61, _⟩ => ⟨S4096x128, .f32⟩
  | .hbm, ⟨62, _⟩ => ⟨S4096x128, .f32⟩
  | .hbm, ⟨63, _⟩ => ⟨S4x4096x8x256, .f32⟩
  | .hbm, ⟨64, _⟩ => ⟨S4x4096x8x128, .f32⟩
  | .hbm, ⟨65, _⟩ => ⟨S4x4096x8x128, .f32⟩
  | .hbm, ⟨66, _⟩ => ⟨S4096x128, .f32⟩
  | .hbm, ⟨67, _⟩ => ⟨S4096x1x128, .f32⟩
  | .hbm, ⟨68, _⟩ => ⟨S4096x128, .f32⟩
  | .hbm, ⟨69, _⟩ => ⟨S4096x1x128, .f32⟩
  | .hbm, ⟨70, _⟩ => ⟨S1x4096x1x128, .f32⟩
  | .hbm, ⟨71, _⟩ => ⟨S4x4096x8x128, .f32⟩
  | .hbm, ⟨72, _⟩ => ⟨S4x4096x8x128, .f32⟩
  | .hbm, ⟨73, _⟩ => ⟨S1x4096x1x128, .f32⟩
  | .hbm, ⟨74, _⟩ => ⟨S4x4096x8x128, .f32⟩
  | .hbm, ⟨75, _⟩ => ⟨S4x4096x8x128, .f32⟩
  | .hbm, ⟨76, _⟩ => ⟨S4x4096x8x128, .f32⟩
  | .hbm, ⟨77, _⟩ => ⟨S1x4096x1x128, .f32⟩
  | .hbm, ⟨78, _⟩ => ⟨S4x4096x8x128, .f32⟩
  | .hbm, ⟨79, _⟩ => ⟨S4x4096x8x128, .f32⟩
  | .hbm, ⟨80, _⟩ => ⟨S1x4096x1x128, .f32⟩
  | .hbm, ⟨81, _⟩ => ⟨S4x4096x8x128, .f32⟩
  | .hbm, ⟨82, _⟩ => ⟨S4x4096x8x128, .f32⟩
  | .hbm, ⟨83, _⟩ => ⟨S4x4096x8x128, .f32⟩
  | .hbm, ⟨84, _⟩ => ⟨S4x4096x8x256, .f32⟩
  | .hbm, ⟨85, _⟩ => ⟨S4x4096x2048, .f32⟩
  | .hbm, ⟨86, _⟩ => ⟨S4x4096x8x256, .f32⟩
  | .hbm, ⟨87, _⟩ => ⟨S_, .f32⟩
  | .hbm, ⟨88, _⟩ => ⟨S4x4096x8x256, .f32⟩
  | .hbm, ⟨89, _⟩ => ⟨S4x4096x8x256, .f32⟩
  | .hbm, ⟨90, _⟩ => ⟨S4x4096x8x128, .f32⟩
  | .hbm, ⟨91, _⟩ => ⟨S4x4096x8x128, .f32⟩
  | .hbm, ⟨92, _⟩ => ⟨S4096x128, .f32⟩
  | .hbm, ⟨93, _⟩ => ⟨S4096x1x128, .f32⟩
  | .hbm, ⟨94, _⟩ => ⟨S4096x128, .f32⟩
  | .hbm, ⟨95, _⟩ => ⟨S4096x1x128, .f32⟩
  | .hbm, ⟨96, _⟩ => ⟨S1x4096x1x128, .f32⟩
  | .hbm, ⟨97, _⟩ => ⟨S4x4096x8x128, .f32⟩
  | .hbm, ⟨98, _⟩ => ⟨S4x4096x8x128, .f32⟩
  | .hbm, ⟨99, _⟩ => ⟨S1x4096x1x128, .f32⟩
  | .hbm, ⟨100, _⟩ => ⟨S4x4096x8x128, .f32⟩
  | .hbm, ⟨101, _⟩ => ⟨S4x4096x8x128, .f32⟩
  | .hbm, ⟨102, _⟩ => ⟨S4x4096x8x128, .f32⟩
  | .hbm, ⟨103, _⟩ => ⟨S1x4096x1x128, .f32⟩
  | .hbm, ⟨104, _⟩ => ⟨S4x4096x8x128, .f32⟩
  | .hbm, ⟨105, _⟩ => ⟨S4x4096x8x128, .f32⟩
  | .hbm, ⟨106, _⟩ => ⟨S1x4096x1x128, .f32⟩
  | .hbm, ⟨107, _⟩ => ⟨S4x4096x8x128, .f32⟩
  | .hbm, ⟨108, _⟩ => ⟨S4x4096x8x128, .f32⟩
  | .hbm, ⟨109, _⟩ => ⟨S4x4096x8x128, .f32⟩
  | .hbm, ⟨110, _⟩ => ⟨S4x4096x8x256, .f32⟩
  | .hbm, ⟨111, _⟩ => ⟨S4x4096x2048, .f32⟩
  | .hbm, ⟨112, _⟩ => ⟨S4x4096x12288, .f32⟩
  | .hbm, ⟨113, _⟩ => ⟨S16384x12288, .f32⟩
  | .hbm, ⟨114, _⟩ => ⟨S16384x12288, .bf16⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst : Ref sig .tc := ⟨.hbm, 14, rfl⟩
abbrev main_v10 : Ref sig .tc := ⟨.hbm, 15, rfl⟩
abbrev main_v11 : Ref sig .tc := ⟨.hbm, 16, rfl⟩
abbrev main_cst_0 : Ref sig .tc := ⟨.hbm, 17, rfl⟩
abbrev main_v12 : Ref sig .tc := ⟨.hbm, 18, rfl⟩
abbrev main_v13 : Ref sig .tc := ⟨.hbm, 19, rfl⟩
abbrev main_cst_1 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_cst_2 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_cst_3 : Ref sig .tc := ⟨.hbm, 44, rfl⟩
abbrev main_v36 : Ref sig .tc := ⟨.hbm, 45, rfl⟩
abbrev main_v37 : Ref sig .tc := ⟨.hbm, 46, rfl⟩
abbrev main_cst_4 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_cst_5 : Ref sig .tc := ⟨.hbm, 51, rfl⟩
abbrev main_v41 : Ref sig .tc := ⟨.hbm, 52, rfl⟩
abbrev main_v42 : Ref sig .tc := ⟨.hbm, 53, rfl⟩
abbrev main_cst_6 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_v57 : Ref sig .tc := ⟨.hbm, 69, rfl⟩
abbrev main_v58 : Ref sig .tc := ⟨.hbm, 70, rfl⟩
abbrev main_v59 : Ref sig .tc := ⟨.hbm, 71, rfl⟩
abbrev main_v60 : Ref sig .tc := ⟨.hbm, 72, rfl⟩
abbrev main_v61 : Ref sig .tc := ⟨.hbm, 73, rfl⟩
abbrev main_v62 : Ref sig .tc := ⟨.hbm, 74, rfl⟩
abbrev main_v63 : Ref sig .tc := ⟨.hbm, 75, rfl⟩
abbrev main_v64 : Ref sig .tc := ⟨.hbm, 76, rfl⟩
abbrev main_v65 : Ref sig .tc := ⟨.hbm, 77, rfl⟩
abbrev main_v66 : Ref sig .tc := ⟨.hbm, 78, rfl⟩
abbrev main_v67 : Ref sig .tc := ⟨.hbm, 79, rfl⟩
abbrev main_v68 : Ref sig .tc := ⟨.hbm, 80, rfl⟩
abbrev main_v69 : Ref sig .tc := ⟨.hbm, 81, rfl⟩
abbrev main_v70 : Ref sig .tc := ⟨.hbm, 82, rfl⟩
abbrev main_v71 : Ref sig .tc := ⟨.hbm, 83, rfl⟩
abbrev main_v72 : Ref sig .tc := ⟨.hbm, 84, rfl⟩
abbrev main_v73 : Ref sig .tc := ⟨.hbm, 85, rfl⟩
abbrev main_v74 : Ref sig .tc := ⟨.hbm, 86, rfl⟩
abbrev main_cst_7 : Ref sig .tc := ⟨.hbm, 87, rfl⟩
abbrev main_v75 : Ref sig .tc := ⟨.hbm, 88, rfl⟩
abbrev main_v76 : Ref sig .tc := ⟨.hbm, 89, rfl⟩
abbrev main_v77 : Ref sig .tc := ⟨.hbm, 90, rfl⟩
abbrev main_v78 : Ref sig .tc := ⟨.hbm, 91, rfl⟩
abbrev main_v79 : Ref sig .tc := ⟨.hbm, 92, rfl⟩
abbrev main_v80 : Ref sig .tc := ⟨.hbm, 93, rfl⟩
abbrev main_v81 : Ref sig .tc := ⟨.hbm, 94, rfl⟩
abbrev main_v82 : Ref sig .tc := ⟨.hbm, 95, rfl⟩
abbrev main_v83 : Ref sig .tc := ⟨.hbm, 96, rfl⟩
abbrev main_v84 : Ref sig .tc := ⟨.hbm, 97, rfl⟩
abbrev main_v85 : Ref sig .tc := ⟨.hbm, 98, rfl⟩
abbrev main_v86 : Ref sig .tc := ⟨.hbm, 99, rfl⟩
abbrev main_v87 : Ref sig .tc := ⟨.hbm, 100, rfl⟩
abbrev main_v88 : Ref sig .tc := ⟨.hbm, 101, rfl⟩
abbrev main_v89 : Ref sig .tc := ⟨.hbm, 102, rfl⟩
abbrev main_v90 : Ref sig .tc := ⟨.hbm, 103, rfl⟩
abbrev main_v91 : Ref sig .tc := ⟨.hbm, 104, rfl⟩
abbrev main_v92 : Ref sig .tc := ⟨.hbm, 105, rfl⟩
abbrev main_v93 : Ref sig .tc := ⟨.hbm, 106, rfl⟩
abbrev main_v94 : Ref sig .tc := ⟨.hbm, 107, rfl⟩
abbrev main_v95 : Ref sig .tc := ⟨.hbm, 108, rfl⟩
abbrev main_v96 : Ref sig .tc := ⟨.hbm, 109, rfl⟩
abbrev main_v97 : Ref sig .tc := ⟨.hbm, 110, rfl⟩
abbrev main_v98 : Ref sig .tc := ⟨.hbm, 111, rfl⟩
abbrev main_v99 : Ref sig .tc := ⟨.hbm, 112, rfl⟩
abbrev main_v100 : Ref sig .tc := ⟨.hbm, 113, rfl⟩
abbrev main_v101 : Ref sig .tc := ⟨.hbm, 114, rfl⟩

abbrev nD : Nat := 1
abbrev τ : Topo := Topo.v7x

variable {F : FTy → Type} [FloatOps F]
-- ==== AttnProj.lean ====
abbrev S16384x2048 : Shape := ⟨2, ![16384, 2048]⟩
abbrev S2048 : Shape := ⟨1, ![2048]⟩
abbrev S2x8x1x12288 : Shape := ⟨4, ![2, 8, 1, 12288]⟩
abbrev S2048x3072 : Shape := ⟨2, ![2048, 3072]⟩
abbrev S4096 : Shape := ⟨1, ![4096]⟩
abbrev S_ : Shape := ⟨0, ![]⟩
abbrev S32 : Shape := ⟨1, ![32]⟩
abbrev S4096x1 : Shape := ⟨2, ![4096, 1]⟩
abbrev S1x32 : Shape := ⟨2, ![1, 32]⟩
abbrev S4096x32 : Shape := ⟨2, ![4096, 32]⟩
abbrev S4096x128 : Shape := ⟨2, ![4096, 128]⟩
abbrev S1x2048 : Shape := ⟨2, ![1, 2048]⟩
abbrev S16384x3072 : Shape := ⟨2, ![16384, 3072]⟩
abbrev S1024x2048 : Shape := ⟨2, ![1024, 2048]⟩
abbrev S1x1x1x2048 : Shape := ⟨4, ![1, 1, 1, 2048]⟩
abbrev S2048x512 : Shape := ⟨2, ![2048, 512]⟩
abbrev S1024x128 : Shape := ⟨2, ![1024, 128]⟩
abbrev S1024x512 : Shape := ⟨2, ![1024, 512]⟩
abbrev S1024 : Shape := ⟨1, ![1024]⟩
abbrev S1024x1 : Shape := ⟨2, ![1024, 1]⟩

abbrev nBuf : Space → Nat
  | .hbm => 100
  | .vmem => 16
  | .smem => 0
  | _ => 0

abbrev bufTy : (tb : Table) → Fin (tcTables nBuf tb) → BufTy
  | .hbm, ⟨0, _⟩ => ⟨S16384x2048, .f32⟩
  | .hbm, ⟨1, _⟩ => ⟨S2048, .f32⟩
  | .hbm, ⟨2, _⟩ => ⟨S2x8x1x12288, .f32⟩
  | .hbm, ⟨3, _⟩ => ⟨S2048x3072, .bf16⟩
  | .hbm, ⟨4, _⟩ => ⟨S4096, .i32⟩
  | .hbm, ⟨5, _⟩ => ⟨S_, .i32⟩
  | .hbm, ⟨6, _⟩ => ⟨S_, .i32⟩
  | .hbm, ⟨7, _⟩ => ⟨S4096, .i32⟩
  | .hbm, ⟨8, _⟩ => ⟨S4096, .i32⟩
  | .hbm, ⟨9, _⟩ => ⟨S4096, .i32⟩
  | .hbm, ⟨10, _⟩ => ⟨S_, .i32⟩
  | .hbm, ⟨11, _⟩ => ⟨S4096, .i32⟩
  | .hbm, ⟨12, _⟩ => ⟨S4096, .i1⟩
  | .hbm, ⟨13, _⟩ => ⟨S4096, .i32⟩
  | .hbm, ⟨14, _⟩ => ⟨S4096, .i32⟩
  | .hbm, ⟨15, _⟩ => ⟨S_, .i32⟩
  | .hbm, ⟨16, _⟩ => ⟨S4096, .i32⟩
  | .hbm, ⟨17, _⟩ => ⟨S4096, .i1⟩
  | .hbm, ⟨18, _⟩ => ⟨S4096, .i1⟩
  | .hbm, ⟨19, _⟩ => ⟨S_, .i32⟩
  | .hbm, ⟨20, _⟩ => ⟨S4096, .i32⟩
  | .hbm, ⟨21, _⟩ => ⟨S4096, .i32⟩
  | .hbm, ⟨22, _⟩ => ⟨S4096, .i32⟩
  | .hbm, ⟨23, _⟩ => ⟨S4096, .i32⟩
  | .hbm, ⟨24, _⟩ => ⟨S_, .i32⟩
  | .hbm, ⟨25, _⟩ => ⟨S_, .i32⟩
  | .hbm, ⟨26, _⟩ => ⟨S_, .i32⟩
  | .hbm, ⟨27, _⟩ => ⟨S_, .i1⟩
  | .hbm, ⟨28, _⟩ => ⟨S_, .i32⟩
  | .hbm, ⟨29, _⟩ => ⟨S_, .i32⟩
  | .hbm, ⟨30, _⟩ => ⟨S4096, .i32⟩
  | .hbm, ⟨31, _⟩ => ⟨S4096, .i32⟩
  | .hbm, ⟨32, _⟩ => ⟨S_, .i32⟩
  | .hbm, ⟨33, _⟩ => ⟨S4096, .i32⟩
  | .hbm, ⟨34, _⟩ => ⟨S4096, .i1⟩
  | .hbm, ⟨35, _⟩ => ⟨S_, .i32⟩
  | .hbm, ⟨36, _⟩ => ⟨S4096, .i32⟩
  | .hbm, ⟨37, _⟩ => ⟨S4096, .i1⟩
  | .hbm, ⟨38, _⟩ => ⟨S_, .i32⟩
  | .hbm, ⟨39, _⟩ => ⟨S_, .i1⟩
  | .hbm, ⟨40, _⟩ => ⟨S4096, .i1⟩
  | .hbm, ⟨41, _⟩ => ⟨S4096, .i1⟩
  | .hbm, ⟨42, _⟩ => ⟨S4096, .i1⟩
  | .hbm, ⟨43, _⟩ => ⟨S4096, .i32⟩
  | .hbm, ⟨44, _⟩ => ⟨S4096, .i32⟩
  | .hbm, ⟨45, _⟩ => ⟨S4096, .i32⟩
  | .hbm, ⟨46, _⟩ => ⟨S32, .f32⟩
  | .hbm, ⟨47, _⟩ => ⟨S_, .f32⟩
  | .hbm, ⟨48, _⟩ => ⟨S32, .f32⟩
  | .hbm, ⟨49, _⟩ => ⟨S32, .f32⟩
  | .hbm, ⟨50, _⟩ => ⟨S_, .f32⟩
  | .hbm, ⟨51, _⟩ => ⟨S32, .f32⟩
  | .hbm, ⟨52, _⟩ => ⟨S32, .f32⟩
  | .hbm, ⟨53, _⟩ => ⟨S32, .f32⟩
  | .hbm, ⟨54, _⟩ => ⟨S_, .f32⟩
  | .hbm, ⟨55, _⟩ => ⟨S32, .f32⟩
  | .hbm, ⟨56, _⟩ => ⟨S32, .f32⟩
  | .hbm, ⟨57, _⟩ => ⟨S_, .f32⟩
  | .hbm, ⟨58, _⟩ => ⟨S32, .f32⟩
  | .hbm, ⟨59, _⟩ => ⟨S32, .f32⟩
  | .hbm, ⟨60, _⟩ => ⟨S4096, .f32⟩
  | .hbm, ⟨61, _⟩ => ⟨S4096x1, .f32⟩
  | .hbm, ⟨62, _⟩ => ⟨S1x32, .f32⟩
  | .hbm, ⟨63, _⟩ => ⟨S4096x32, .f32⟩
  | .hbm, ⟨64, _⟩ => ⟨S4096x32, .f32⟩
  | .hbm, ⟨65, _⟩ => ⟨S4096x32, .f32⟩
  | .hbm, ⟨66, _⟩ => ⟨S32, .f32⟩
  | .hbm, ⟨67, _⟩ => ⟨S_, .f32⟩
  | .hbm, ⟨68, _⟩ => ⟨S32, .f32⟩
  | .hbm, ⟨69, _⟩ => ⟨S32, .f32⟩
  | .hbm, ⟨70, _⟩ => ⟨S_, .f32⟩
  | .hbm, ⟨71, _⟩ => ⟨S32, .f32⟩
  | .hbm, ⟨72, _⟩ => ⟨S32, .f32⟩
  | .hbm, ⟨73, _⟩ => ⟨S32, .f32⟩
  | .hbm, ⟨74, _⟩ => ⟨S_, .f32⟩
  | .hbm, ⟨75, _⟩ => ⟨S32, .f32⟩
  | .hbm, ⟨76, _⟩ => ⟨S32, .f32⟩
  | .hbm, ⟨77, _⟩ => ⟨S_, .f32⟩
  | .hbm, ⟨78, _⟩ => ⟨S32, .f32⟩
  | .hbm, ⟨79, _⟩ => ⟨S32, .f32⟩
  | .hbm, ⟨80, _⟩ => ⟨S4096, .f32⟩
  | .hbm, ⟨81, _⟩ => ⟨S4096x1, .f32⟩
  | .hbm, ⟨82, _⟩ => ⟨S1x32, .f32⟩
  | .hbm, ⟨83, _⟩ => ⟨S4096x32, .f32⟩
  | .hbm, ⟨84, _⟩ => ⟨S4096x32, .f32⟩
  | .hbm, ⟨85, _⟩ => ⟨S4096x32, .f32⟩
  | .hbm, ⟨86, _⟩ => ⟨S4096x32, .f32⟩
  | .hbm, ⟨87, _⟩ => ⟨S4096x32, .f32⟩
  | .hbm, ⟨88, _⟩ => ⟨S4096x32, .f32⟩
  | .hbm, ⟨89, _⟩ => ⟨S4096x32, .f32⟩
  | .hbm, ⟨90, _⟩ => ⟨S4096x128, .f32⟩
  | .hbm, ⟨91, _⟩ => ⟨S4096x32, .f32⟩
  | .hbm, ⟨92, _⟩ => ⟨S4096x32, .f32⟩
  | .hbm, ⟨93, _⟩ => ⟨S4096x32, .f32⟩
  | .hbm, ⟨94, _⟩ => ⟨S4096x32, .f32⟩
  | .hbm, ⟨95, _⟩ => ⟨S4096x32, .f32⟩
  | .hbm, ⟨96, _⟩ => ⟨S4096x32, .f32⟩
  | .hbm, ⟨97, _⟩ => ⟨S4096x128, .f32⟩
  | .hbm, ⟨98, _⟩ => ⟨S1x2048, .f32⟩
  | .hbm, ⟨99, _⟩ => ⟨S16384x3072, .bf16⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S1x1x1x2048, .f32⟩
  | .local _ .vmem, ⟨4, _⟩ => ⟨S1x1x1x2048, .f32⟩
  | .local _ .vmem, ⟨5, _⟩ => ⟨S1x1x1x2048, .f32⟩
  | .local _ .vmem, ⟨6, _⟩ => ⟨S1x1x1x2048, .f32⟩
  | .local _ .vmem, ⟨7, _⟩ => ⟨S2048x512, .bf16⟩
  | .local _ .vmem, ⟨8, _⟩ => ⟨S2048x512, .bf16⟩
  | .local _ .vmem, ⟨9, _⟩ => ⟨S1024x128, .f32⟩
  | .local _ .vmem, ⟨10, _⟩ => ⟨S1024x128, .f32⟩
  | .local _ .vmem, ⟨11, _⟩ => ⟨S1024x128, .f32⟩
  | .local _ .vmem, ⟨12, _⟩ => ⟨S1024x128, .f32⟩
  | .local _ .vmem, ⟨13, _⟩ => ⟨S1024x512, .bf16⟩
  | .local _ .vmem, ⟨14, _⟩ => ⟨S1024x512, .bf16⟩
  | .local _ .vmem, ⟨15, _⟩ => ⟨S1024x2048, .bf16⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_c : Ref sig .tc := ⟨.hbm, 5, rfl⟩
abbrev main_call0_v0 : Ref sig .tc := ⟨.hbm, 6, rfl⟩
abbrev main_call0_v1 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_call0_v5 : Ref sig .tc := ⟨.hbm, 11, rfl⟩
abbrev main_call0_v6 : Ref sig .tc := ⟨.hbm, 12, rfl⟩
abbrev main_call0_v7 : Ref sig .tc := ⟨.hbm, 13, rfl⟩
abbrev main_call0_v8 : Ref sig .tc := ⟨.hbm, 14, rfl⟩
abbrev main_call0_c : Ref sig .tc := ⟨.hbm, 15, rfl⟩
abbrev main_call0_v9 : Ref sig .tc := ⟨.hbm, 16, rfl⟩
abbrev main_call0_v10 : Ref sig .tc := ⟨.hbm, 17, rfl⟩
abbrev main_call0_v11 : Ref sig .tc := ⟨.hbm, 18, rfl⟩
abbrev main_call0_c_0 : Ref sig .tc := ⟨.hbm, 19, rfl⟩
abbrev main_call0_v12 : Ref sig .tc := ⟨.hbm, 20, rfl⟩
abbrev main_call0_v13 : Ref sig .tc := ⟨.hbm, 21, rfl⟩
abbrev main_v1 : Ref sig .tc := ⟨.hbm, 22, rfl⟩
abbrev main_v2 : Ref sig .tc := ⟨.hbm, 23, rfl⟩
abbrev main_c_0 : Ref sig .tc := ⟨.hbm, 24, rfl⟩
abbrev main_call1_v0 : Ref sig .tc := ⟨.hbm, 25, rfl⟩
abbrev main_call1_c : Ref sig .tc := ⟨.hbm, 26, rfl⟩
abbrev main_call1_v1 : Ref sig .tc := ⟨.hbm, 27, rfl⟩
abbrev main_call1_c_0 : Ref sig .tc := ⟨.hbm, 28, rfl⟩
abbrev main_call1_v2 : Ref sig .tc := ⟨.hbm, 29, rfl⟩
abbrev main_call1_v3 : Ref sig .tc := ⟨.hbm, 30, rfl⟩
abbrev main_call1_v4 : Ref sig .tc := ⟨.hbm, 31, rfl⟩
abbrev main_call1_c_1 : Ref sig .tc := ⟨.hbm, 32, rfl⟩
abbrev main_call1_v5 : Ref sig .tc := ⟨.hbm, 33, rfl⟩
abbrev main_call1_v6 : Ref sig .tc := ⟨.hbm, 34, rfl⟩
abbrev main_call1_c_2 : Ref sig .tc := ⟨.hbm, 35, rfl⟩
abbrev main_call1_v7 : Ref sig .tc := ⟨.hbm, 36, rfl⟩
abbrev main_call1_v8 : Ref sig .tc := ⟨.hbm, 37, rfl⟩
abbrev main_call1_c_3 : Ref sig .tc := ⟨.hbm, 38, rfl⟩
abbrev main_call1_v9 : Ref sig .tc := ⟨.hbm, 39, rfl⟩
abbrev main_call1_v10 : Ref sig .tc := ⟨.hbm, 40, rfl⟩
abbrev main_call1_v11 : Ref sig .tc := ⟨.hbm, 41, rfl⟩
abbrev main_call1_v12 : Ref sig .tc := ⟨.hbm, 42, rfl⟩
abbrev main_call1_v13 : Ref sig .tc := ⟨.hbm, 43, rfl⟩
abbrev main_call1_v14 : Ref sig .tc := ⟨.hbm, 44, rfl⟩
abbrev main_v3 : Ref sig .tc := ⟨.hbm, 45, rfl⟩
abbrev main_v4 : Ref sig .tc := ⟨.hbm, 46, rfl⟩
abbrev main_cst : Ref sig .tc := ⟨.hbm, 47, rfl⟩
abbrev main_v5 : Ref sig .tc := ⟨.hbm, 48, rfl⟩
abbrev main_v6 : Ref sig .tc := ⟨.hbm, 49, rfl⟩
abbrev main_cst_1 : Ref sig .tc := ⟨.hbm, 50, rfl⟩
abbrev main_v7 : Ref sig .tc := ⟨.hbm, 51, rfl⟩
abbrev main_v8 : Ref sig .tc := ⟨.hbm, 52, rfl⟩
abbrev main_v9 : Ref sig .tc := ⟨.hbm, 53, rfl⟩
abbrev main_cst_2 : Ref sig .tc := ⟨.hbm, 54, rfl⟩
abbrev main_v10 : Ref sig .tc := ⟨.hbm, 55, rfl⟩
abbrev main_v11 : Ref sig .tc := ⟨.hbm, 56, rfl⟩
abbrev main_cst_3 : Ref sig .tc := ⟨.hbm, 57, rfl⟩
abbrev main_v12 : Ref sig .tc := ⟨.hbm, 58, rfl⟩
abbrev main_v13 : Ref sig .tc := ⟨.hbm, 59, rfl⟩
abbrev main_v14 : Ref sig .tc := ⟨.hbm, 60, rfl⟩
abbrev main_v15 : Ref sig .tc := ⟨.hbm, 61, rfl⟩
abbrev main_v16 : Ref sig .tc := ⟨.hbm, 62, rfl⟩
abbrev main_v17 : Ref sig .tc := ⟨.hbm, 63, rfl⟩
abbrev main_v18 : Ref sig .tc := ⟨.hbm, 64, rfl⟩
abbrev main_v19 : Ref sig .tc := ⟨.hbm, 65, rfl⟩
abbrev main_v20 : Ref sig .tc := ⟨.hbm, 66, rfl⟩
abbrev main_cst_4 : Ref sig .tc := ⟨.hbm, 67, rfl⟩
abbrev main_v21 : Ref sig .tc := ⟨.hbm, 68, rfl⟩
abbrev main_v22 : Ref sig .tc := ⟨.hbm, 69, rfl⟩
abbrev main_cst_5 : Ref sig .tc := ⟨.hbm, 70, rfl⟩
abbrev main_v23 : Ref sig .tc := ⟨.hbm, 71, rfl⟩
abbrev main_v24 : Ref sig .tc := ⟨.hbm, 72, rfl⟩
abbrev main_v25 : Ref sig .tc := ⟨.hbm, 73, rfl⟩
abbrev main_cst_6 : Ref sig .tc := ⟨.hbm, 74, rfl⟩
abbrev main_v26 : Ref sig .tc := ⟨.hbm, 75, rfl⟩
abbrev main_v27 : Ref sig .tc := ⟨.hbm, 76, rfl⟩
abbrev main_cst_7 : Ref sig .tc := ⟨.hbm, 77, rfl⟩
abbrev main_v28 : Ref sig .tc := ⟨.hbm, 78, rfl⟩
abbrev main_v29 : Ref sig .tc := ⟨.hbm, 79, rfl⟩
abbrev main_v30 : Ref sig .tc := ⟨.hbm, 80, rfl⟩
abbrev main_v31 : Ref sig .tc := ⟨.hbm, 81, rfl⟩
abbrev main_v32 : Ref sig .tc := ⟨.hbm, 82, rfl⟩
abbrev main_v33 : Ref sig .tc := ⟨.hbm, 83, rfl⟩
abbrev main_v34 : Ref sig .tc := ⟨.hbm, 84, rfl⟩
abbrev main_v35 : Ref sig .tc := ⟨.hbm, 85, rfl⟩
abbrev main_v36 : Ref sig .tc := ⟨.hbm, 86, rfl⟩
abbrev main_v37 : Ref sig .tc := ⟨.hbm, 87, rfl⟩
abbrev main_v38 : Ref sig .tc := ⟨.hbm, 88, rfl⟩
abbrev main_v39 : Ref sig .tc := ⟨.hbm, 89, rfl⟩
abbrev main_v40 : Ref sig .tc := ⟨.hbm, 90, rfl⟩
abbrev main_v41 : Ref sig .tc := ⟨.hbm, 91, rfl⟩
abbrev main_v42 : Ref sig .tc := ⟨.hbm, 92, rfl⟩
abbrev main_v43 : Ref sig .tc := ⟨.hbm, 93, rfl⟩
abbrev main_v44 : Ref sig .tc := ⟨.hbm, 94, rfl⟩
abbrev main_v45 : Ref sig .tc := ⟨.hbm, 95, rfl⟩
abbrev main_v46 : Ref sig .tc := ⟨.hbm, 96, rfl⟩
abbrev main_v47 : Ref sig .tc := ⟨.hbm, 97, rfl⟩
abbrev main_v48 : Ref sig .tc := ⟨.hbm, 98, rfl⟩
abbrev main_v49 : Ref sig .tc := ⟨.hbm, 99, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_scratch0 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14

abbrev nD : Nat := 1
abbrev τ : Topo := Topo.v7x

variable {F : FTy → Type} [FloatOps F]

abbrev grid0 : Pipeline.Grid := ⟨2, ![16, 6], ![false, false]⟩

def k0_cond2 (i : grid0.Coords) : BitVec 1 :=
  let arg1 : BitVec 32 := BitVec.ofNat 32 (i 1).val
  let c5_i32 : BitVec 32 := 5#32
  let v6 : BitVec 1 := Scalar.cmpi .slt arg1 c5_i32
  let v7 : BitVec 32 := Scalar.extui v6
  let c0_i32_4 : BitVec 32 := 0#32
  let v8 : BitVec 1 := Scalar.cmpi .ne v7 c0_i32_4
  v8

def k0_cond3 (i : grid0.Coords) : BitVec 1 :=
  let arg1 : BitVec 32 := BitVec.ofNat 32 (i 1).val
  let c5_i32_5 : BitVec 32 := 5#32
  let v9 : BitVec 1 := Scalar.cmpi .sge arg1 c5_i32_5
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let v17 : BitVec 32 := Scalar.addi c0_i32_4 v16
  let c1_i32_5 : BitVec 32 := 1#32
  let c0_i32_6 : BitVec 32 := 0#32
  let c0_i32_7 : BitVec 32 := 0#32
  let c0_i32_8 : BitVec 32 := 0#32
  ![c1_i32_5.toNat, v17.toNat, c0_i32_6.toNat, c0_i32_7.toNat]

def cc0_transform_3 (i : grid0.Coords) : Fin 4 → Nat :=
  let arg0 : BitVec 32 := BitVec.ofNat 32 (i 0).val
  let arg1 : BitVec 32 := BitVec.ofNat 32 (i 1).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let v17 : BitVec 32 := Scalar.addi c0_i32_4 v16
  let c1_i32_5 : BitVec 32 := 1#32
  let c0_i32_6 : BitVec 32 := 0#32
  let c1_i32_7 : BitVec 32 := 1#32
  let c0_i32_8 : BitVec 32 := 0#32
  ![c1_i32_5.toNat, v17.toNat, c0_i32_6.toNat, c1_i32_7.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  ![c0_i32_0.toNat, v0.toNat]

def cc0_transform_5 (i : grid0.Coords) : Fin 2 → Nat :=
  let arg0 : BitVec 32 := BitVec.ofNat 32 (i 0).val
  let arg1 : BitVec 32 := BitVec.ofNat 32 (i 1).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_6 (i : grid0.Coords) : Fin 2 → Nat :=
  let arg0 : BitVec 32 := BitVec.ofNat 32 (i 0).val
  let arg1 : BitVec 32 := BitVec.ofNat 32 (i 1).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x1x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S2048x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1024x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1024x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1024x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== AttnProjReferenceIdeal.lean ====
abbrev S16384x2048 : Shape := ⟨2, ![16384, 2048]⟩
abbrev S2048 : Shape := ⟨1, ![2048]⟩
abbrev S2x8x1x12288 : Shape := ⟨4, ![2, 8, 1, 12288]⟩
abbrev S2048x3072 : Shape := ⟨2, ![2048, 3072]⟩
abbrev S1x4x1x12288 : Shape := ⟨4, ![1, 4, 1, 12288]⟩
abbrev S4x1x12288 : Shape := ⟨3, ![4, 1, 12288]⟩
abbrev S4x1x2048 : Shape := ⟨3, ![4, 1, 2048]⟩
abbrev S4x4096x2048 : Shape := ⟨3, ![4, 4096, 2048]⟩
abbrev S_ : Shape := ⟨0, ![]⟩
abbrev S4x4096 : Shape := ⟨2, ![4, 4096]⟩
abbrev S4x4096x1 : Shape := ⟨3, ![4, 4096, 1]⟩
abbrev S1x1x2048 : Shape := ⟨3, ![1, 1, 2048]⟩
abbrev S4x4096x3072 : Shape := ⟨3, ![4, 4096, 3072]⟩
abbrev S4x4096x512 : Shape := ⟨3, ![4, 4096, 512]⟩
abbrev S64 : Shape := ⟨1, ![64]⟩
abbrev S64x64 : Shape := ⟨2, ![64, 64]⟩
abbrev S4096 : Shape := ⟨1, ![4096]⟩
abbrev S4x4096x16x128 : Shape := ⟨4, ![4, 4096, 16, 128]⟩
abbrev S4x4096x16x64 : Shape := ⟨4, ![4, 4096, 16, 64]⟩
abbrev S32 : Shape := ⟨1, ![32]⟩
abbrev S4096x1 : Shape := ⟨2, ![4096, 1]⟩
abbrev S1x32 : Shape := ⟨2, ![1, 32]⟩
abbrev S4096x32 : Shape := ⟨2, ![4096, 32]⟩
abbrev S4x4096x16x32 : Shape := ⟨4, ![4, 4096, 16, 32]⟩
abbrev S4096x1x32 : Shape := ⟨3, ![4096, 1, 32]⟩
abbrev S1x4096x1x32 : Shape := ⟨4, ![1, 4096, 1, 32]⟩
abbrev S4x4096x4x128 : Shape := ⟨4, ![4, 4096, 4, 128]⟩
abbrev S4x4096x4x64 : Shape := ⟨4, ![4, 4096, 4, 64]⟩
abbrev S4x4096x4x32 : Shape := ⟨4, ![4, 4096, 4, 32]⟩
abbrev S16384x3072 : Shape := ⟨2, ![16384, 3072]⟩

abbrev nBuf : Space → Nat
  | .hbm => 244
  | .vmem => 0
  | .smem => 0
  | _ => 0

abbrev hbmTy0_0 (i : Nat) : BufTy := match i % 128 with
  | 0 => ⟨S16384x2048, .f32⟩
  | 1 => ⟨S2048, .f32⟩
  | 2 => ⟨S2x8x1x12288, .f32⟩
  | 3 => ⟨S2048x3072, .bf16⟩
  | 4 => ⟨S1x4x1x12288, .f32⟩
  | 5 => ⟨S4x1x12288, .f32⟩
  | 6 => ⟨S4x1x2048, .f32⟩
  | 7 => ⟨S4x1x2048, .f32⟩
  | 8 => ⟨S4x1x2048, .f32⟩
  | 9 => ⟨S4x1x2048, .f32⟩
  | 10 => ⟨S4x1x2048, .f32⟩
  | 11 => ⟨S4x1x2048, .f32⟩
  | 12 => ⟨S4x4096x2048, .f32⟩
  | 13 => ⟨S4x4096x2048, .f32⟩
  | 14 => ⟨S_, .f32⟩
  | 15 => ⟨S4x4096, .f32⟩
  | 16 => ⟨S4x4096x1, .f32⟩
  | 17 => ⟨S_, .f32⟩
  | 18 => ⟨S4x4096x1, .f32⟩
  | 19 => ⟨S4x4096x1, .f32⟩
  | 20 => ⟨S_, .f32⟩
  | 21 => ⟨S4x4096x1, .f32⟩
  | 22 => ⟨S4x4096x1, .f32⟩
  | 23 => ⟨S4x4096x1, .f32⟩
  | 24 => ⟨S4x4096x2048, .f32⟩
  | 25 => ⟨S4x4096x2048, .f32⟩
  | 26 => ⟨S1x1x2048, .f32⟩
  | 27 => ⟨S4x4096x2048, .f32⟩
  | 28 => ⟨S4x4096x2048, .f32⟩
  | 29 => ⟨S_, .f32⟩
  | 30 => ⟨S4x1x2048, .f32⟩
  | 31 => ⟨S4x1x2048, .f32⟩
  | 32 => ⟨S4x4096x2048, .f32⟩
  | 33 => ⟨S4x4096x2048, .f32⟩
  | 34 => ⟨S4x4096x2048, .f32⟩
  | 35 => ⟨S4x4096x2048, .f32⟩
  | 36 => ⟨S2048x3072, .f32⟩
  | 37 => ⟨S4x4096x3072, .f32⟩
  | 38 => ⟨S4x4096x2048, .f32⟩
  | 39 => ⟨S4x4096x512, .f32⟩
  | 40 => ⟨S4x4096x512, .f32⟩
  | 41 => ⟨S64, .i32⟩
  | 42 => ⟨S64x64, .i32⟩
  | 43 => ⟨S4096, .i32⟩
  | 44 => ⟨S4096, .i32⟩
  | 45 => ⟨S_, .i32⟩
  | 46 => ⟨S_, .i32⟩
  | 47 => ⟨S_, .i32⟩
  | 48 => ⟨S_, .i1⟩
  | 49 => ⟨S_, .i32⟩
  | 50 => ⟨S_, .i32⟩
  | 51 => ⟨S4096, .i32⟩
  | 52 => ⟨S4096, .i32⟩
  | 53 => ⟨S_, .i32⟩
  | 54 => ⟨S4096, .i32⟩
  | 55 => ⟨S4096, .i1⟩
  | 56 => ⟨S_, .i32⟩
  | 57 => ⟨S4096, .i32⟩
  | 58 => ⟨S4096, .i1⟩
  | 59 => ⟨S_, .i32⟩
  | 60 => ⟨S_, .i1⟩
  | 61 => ⟨S4096, .i1⟩
  | 62 => ⟨S4096, .i1⟩
  | 63 => ⟨S4096, .i1⟩
  | 64 => ⟨S4096, .i32⟩
  | 65 => ⟨S4096, .i32⟩
  | 66 => ⟨S4096, .i32⟩
  | 67 => ⟨S4x4096x16x128, .f32⟩
  | 68 => ⟨S4x4096x16x64, .f32⟩
  | 69 => ⟨S32, .f32⟩
  | 70 => ⟨S_, .f32⟩
  | 71 => ⟨S32, .f32⟩
  | 72 => ⟨S32, .f32⟩
  | 73 => ⟨S_, .f32⟩
  | 74 => ⟨S32, .f32⟩
  | 75 => ⟨S32, .f32⟩
  | 76 => ⟨S32, .f32⟩
  | 77 => ⟨S_, .f32⟩
  | 78 => ⟨S32, .f32⟩
  | 79 => ⟨S32, .f32⟩
  | 80 => ⟨S_, .f32⟩
  | 81 => ⟨S32, .f32⟩
  | 82 => ⟨S32, .f32⟩
  | 83 => ⟨S4096, .f32⟩
  | 84 => ⟨S4096x1, .f32⟩
  | 85 => ⟨S1x32, .f32⟩
  | 86 => ⟨S4096x32, .f32⟩
  | 87 => ⟨S4096x32, .f32⟩
  | 88 => ⟨S4096x32, .f32⟩
  | 89 => ⟨S4x4096x16x32, .f32⟩
  | 90 => ⟨S4x4096x16x32, .f32⟩
  | 91 => ⟨S4096x32, .f32⟩
  | 92 => ⟨S4096x1x32, .f32⟩
  | 93 => ⟨S4096x32, .f32⟩
  | 94 => ⟨S4096x1x32, .f32⟩
  | 95 => ⟨S1x4096x1x32, .f32⟩
  | 96 => ⟨S4x4096x16x32, .f32⟩
  | 97 => ⟨S4x4096x16x32, .f32⟩
  | 98 => ⟨S1x4096x1x32, .f32⟩
  | 99 => ⟨S4x4096x16x32, .f32⟩
  | 100 => ⟨S4x4096x16x32, .f32⟩
  | 101 => ⟨S4x4096x16x32, .f32⟩
  | 102 => ⟨S1x4096x1x32, .f32⟩
  | 103 => ⟨S4x4096x16x32, .f32⟩
  | 104 => ⟨S4x4096x16x32, .f32⟩
  | 105 => ⟨S1x4096x1x32, .f32⟩
  | 106 => ⟨S4x4096x16x32, .f32⟩
  | 107 => ⟨S4x4096x16x32, .f32⟩
  | 108 => ⟨S4x4096x16x32, .f32⟩
  | 109 => ⟨S4x4096x16x64, .f32⟩
  | 110 => ⟨S4x4096x16x64, .f32⟩
  | 111 => ⟨S32, .f32⟩
  | 112 => ⟨S_, .f32⟩
  | 113 => ⟨S32, .f32⟩
  | 114 => ⟨S32, .f32⟩
  | 115 => ⟨S_, .f32⟩
  | 116 => ⟨S32, .f32⟩
  | 117 => ⟨S32, .f32⟩
  | 118 => ⟨S32, .f32⟩
  | 119 => ⟨S_, .f32⟩
  | 120 => ⟨S32, .f32⟩
  | 121 => ⟨S32, .f32⟩
  | 122 => ⟨S_, .f32⟩
  | 123 => ⟨S32, .f32⟩
  | 124 => ⟨S32, .f32⟩
  | 125 => ⟨S4096, .f32⟩
  | 126 => ⟨S4096x1, .f32⟩
  | 127 => ⟨S1x32, .f32⟩
  | _ => ⟨S16384x2048, .f32⟩

abbrev hbmTy0_1 (i : Nat) : BufTy := match i % 128 with
  | 0 => ⟨S4096x32, .f32⟩
  | 1 => ⟨S4096x32, .f32⟩
  | 2 => ⟨S4096x32, .f32⟩
  | 3 => ⟨S4x4096x16x32, .f32⟩
  | 4 => ⟨S4x4096x16x32, .f32⟩
  | 5 => ⟨S4096x32, .f32⟩
  | 6 => ⟨S4096x1x32, .f32⟩
  | 7 => ⟨S4096x32, .f32⟩
  | 8 => ⟨S4096x1x32, .f32⟩
  | 9 => ⟨S1x4096x1x32, .f32⟩
  | 10 => ⟨S4x4096x16x32, .f32⟩
  | 11 => ⟨S4x4096x16x32, .f32⟩
  | 12 => ⟨S1x4096x1x32, .f32⟩
  | 13 => ⟨S4x4096x16x32, .f32⟩
  | 14 => ⟨S4x4096x16x32, .f32⟩
  | 15 => ⟨S4x4096x16x32, .f32⟩
  | 16 => ⟨S1x4096x1x32, .f32⟩
  | 17 => ⟨S4x4096x16x32, .f32⟩
  | 18 => ⟨S4x4096x16x32, .f32⟩
  | 19 => ⟨S1x4096x1x32, .f32⟩
  | 20 => ⟨S4x4096x16x32, .f32⟩
  | 21 => ⟨S4x4096x16x32, .f32⟩
  | 22 => ⟨S4x4096x16x32, .f32⟩
  | 23 => ⟨S4x4096x16x64, .f32⟩
  | 24 => ⟨S4x4096x16x128, .f32⟩
  | 25 => ⟨S4x4096x2048, .f32⟩
  | 26 => ⟨S4x4096x4x128, .f32⟩
  | 27 => ⟨S4x4096x4x64, .f32⟩
  | 28 => ⟨S32, .f32⟩
  | 29 => ⟨S_, .f32⟩
  | 30 => ⟨S32, .f32⟩
  | 31 => ⟨S32, .f32⟩
  | 32 => ⟨S_, .f32⟩
  | 33 => ⟨S32, .f32⟩
  | 34 => ⟨S32, .f32⟩
  | 35 => ⟨S32, .f32⟩
  | 36 => ⟨S_, .f32⟩
  | 37 => ⟨S32, .f32⟩
  | 38 => ⟨S32, .f32⟩
  | 39 => ⟨S_, .f32⟩
  | 40 => ⟨S32, .f32⟩
  | 41 => ⟨S32, .f32⟩
  | 42 => ⟨S4096, .f32⟩
  | 43 => ⟨S4096x1, .f32⟩
  | 44 => ⟨S1x32, .f32⟩
  | 45 => ⟨S4096x32, .f32⟩
  | 46 => ⟨S4096x32, .f32⟩
  | 47 => ⟨S4096x32, .f32⟩
  | 48 => ⟨S4x4096x4x32, .f32⟩
  | 49 => ⟨S4x4096x4x32, .f32⟩
  | 50 => ⟨S4096x32, .f32⟩
  | 51 => ⟨S4096x1x32, .f32⟩
  | 52 => ⟨S4096x32, .f32⟩
  | 53 => ⟨S4096x1x32, .f32⟩
  | 54 => ⟨S1x4096x1x32, .f32⟩
  | 55 => ⟨S4x4096x4x32, .f32⟩
  | 56 => ⟨S4x4096x4x32, .f32⟩
  | 57 => ⟨S1x4096x1x32, .f32⟩
  | 58 => ⟨S4x4096x4x32, .f32⟩
  | 59 => ⟨S4x4096x4x32, .f32⟩
  | 60 => ⟨S4x4096x4x32, .f32⟩
  | 61 => ⟨S1x4096x1x32, .f32⟩
  | 62 => ⟨S4x4096x4x32, .f32⟩
  | 63 => ⟨S4x4096x4x32, .f32⟩
  | 64 => ⟨S1x4096x1x32, .f32⟩
  | 65 => ⟨S4x4096x4x32, .f32⟩
  | 66 => ⟨S4x4096x4x32, .f32⟩
  | 67 => ⟨S4x4096x4x32, .f32⟩
  | 68 => ⟨S4x4096x4x64, .f32⟩
  | 69 => ⟨S4x4096x4x64, .f32⟩
  | 70 => ⟨S32, .f32⟩
  | 71 => ⟨S_, .f32⟩
  | 72 => ⟨S32, .f32⟩
  | 73 => ⟨S32, .f32⟩
  | 74 => ⟨S_, .f32⟩
  | 75 => ⟨S32, .f32⟩
  | 76 => ⟨S32, .f32⟩
  | 77 => ⟨S32, .f32⟩
  | 78 => ⟨S_, .f32⟩
  | 79 => ⟨S32, .f32⟩
  | 80 => ⟨S32, .f32⟩
  | 81 => ⟨S_, .f32⟩
  | 82 => ⟨S32, .f32⟩
  | 83 => ⟨S32, .f32⟩
  | 84 => ⟨S4096, .f32⟩
  | 85 => ⟨S4096x1, .f32⟩
  | 86 => ⟨S1x32, .f32⟩
  | 87 => ⟨S4096x32, .f32⟩
  | 88 => ⟨S4096x32, .f32⟩
  | 89 => ⟨S4096x32, .f32⟩
  | 90 => ⟨S4x4096x4x32, .f32⟩
  | 91 => ⟨S4x4096x4x32, .f32⟩
  | 92 => ⟨S4096x32, .f32⟩
  | 93 => ⟨S4096x1x32, .f32⟩
  | 94 => ⟨S4096x32, .f32⟩
  | 95 => ⟨S4096x1x32, .f32⟩
  | 96 => ⟨S1x4096x1x32, .f32⟩
  | 97 => ⟨S4x4096x4x32, .f32⟩
  | 98 => ⟨S4x4096x4x32, .f32⟩
  | 99 => ⟨S1x4096x1x32, .f32⟩
  | 100 => ⟨S4x4096x4x32, .f32⟩
  | 101 => ⟨S4x4096x4x32, .f32⟩
  | 102 => ⟨S4x4096x4x32, .f32⟩
  | 103 => ⟨S1x4096x1x32, .f32⟩
  | 104 => ⟨S4x4096x4x32, .f32⟩
  | 105 => ⟨S4x4096x4x32, .f32⟩
  | 106 => ⟨S1x4096x1x32, .f32⟩
  | 107 => ⟨S4x4096x4x32, .f32⟩
  | 108 => ⟨S4x4096x4x32, .f32⟩
  | 109 => ⟨S4x4096x4x32, .f32⟩
  | 110 => ⟨S4x4096x4x64, .f32⟩
  | 111 => ⟨S4x4096x4x128, .f32⟩
  | 112 => ⟨S4x4096x512, .f32⟩
  | 113 => ⟨S4x4096x3072, .f32⟩
  | 114 => ⟨S16384x3072, .f32⟩
  | 115 => ⟨S16384x3072, .bf16⟩
  | _ => ⟨S16384x2048, .f32⟩

abbrev hbmTy (i : Nat) : BufTy := match i / 128 with
  | 0 => hbmTy0_0 i
  | 1 => hbmTy0_1 i
  | _ => ⟨S16384x2048, .f32⟩

abbrev bufTy : (tb : Table) → Fin (tcTables nBuf tb) → BufTy
  | .hbm, ⟨i, _⟩ => hbmTy i
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst : Ref sig .tc := ⟨.hbm, 14, rfl⟩
abbrev main_v10 : Ref sig .tc := ⟨.hbm, 15, rfl⟩
abbrev main_v11 : Ref sig .tc := ⟨.hbm, 16, rfl⟩
abbrev main_cst_0 : Ref sig .tc := ⟨.hbm, 17, rfl⟩
abbrev main_v12 : Ref sig .tc := ⟨.hbm, 18, rfl⟩
abbrev main_v13 : Ref sig .tc := ⟨.hbm, 19, rfl⟩
abbrev main_cst_1 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_cst_2 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_c : Ref sig .tc := ⟨.hbm, 45, rfl⟩
abbrev main_call0_v0 : Ref sig .tc := ⟨.hbm, 46, rfl⟩
abbrev main_call0_c : Ref sig .tc := ⟨.hbm, 47, rfl⟩
abbrev main_call0_v1 : Ref sig .tc := ⟨.hbm, 48, rfl⟩
abbrev main_call0_c_0 : Ref sig .tc := ⟨.hbm, 49, rfl⟩
abbrev main_call0_v2 : Ref sig .tc := ⟨.hbm, 50, rfl⟩
abbrev main_call0_v3 : Ref sig .tc := ⟨.hbm, 51, rfl⟩
abbrev main_call0_v4 : Ref sig .tc := ⟨.hbm, 52, rfl⟩
abbrev main_call0_c_1 : Ref sig .tc := ⟨.hbm, 53, rfl⟩
abbrev main_call0_v5 : Ref sig .tc := ⟨.hbm, 54, rfl⟩
abbrev main_call0_v6 : Ref sig .tc := ⟨.hbm, 55, rfl⟩
abbrev main_call0_c_2 : Ref sig .tc := ⟨.hbm, 56, rfl⟩
abbrev main_call0_v7 : Ref sig .tc := ⟨.hbm, 57, rfl⟩
abbrev main_call0_v8 : Ref sig .tc := ⟨.hbm, 58, rfl⟩
abbrev main_call0_c_3 : Ref sig .tc := ⟨.hbm, 59, rfl⟩
abbrev main_call0_v9 : Ref sig .tc := ⟨.hbm, 60, rfl⟩
abbrev main_call0_v10 : Ref sig .tc := ⟨.hbm, 61, rfl⟩
abbrev main_call0_v11 : Ref sig .tc := ⟨.hbm, 62, rfl⟩
abbrev main_call0_v12 : Ref sig .tc := ⟨.hbm, 63, rfl⟩
abbrev main_call0_v13 : Ref sig .tc := ⟨.hbm, 64, rfl⟩
abbrev main_call0_v14 : Ref sig .tc := ⟨.hbm, 65, rfl⟩
abbrev main_v37 : Ref sig .tc := ⟨.hbm, 66, rfl⟩
abbrev main_v38 : Ref sig .tc := ⟨.hbm, 67, rfl⟩
abbrev main_v39 : Ref sig .tc := ⟨.hbm, 68, rfl⟩
abbrev main_v40 : Ref sig .tc := ⟨.hbm, 69, rfl⟩
abbrev main_cst_3 : Ref sig .tc := ⟨.hbm, 70, rfl⟩
abbrev main_v41 : Ref sig .tc := ⟨.hbm, 71, rfl⟩
abbrev main_v42 : Ref sig .tc := ⟨.hbm, 72, rfl⟩
abbrev main_cst_4 : Ref sig .tc := ⟨.hbm, 73, rfl⟩
abbrev main_v43 : Ref sig .tc := ⟨.hbm, 74, rfl⟩
abbrev main_v44 : Ref sig .tc := ⟨.hbm, 75, rfl⟩
abbrev main_v45 : Ref sig .tc := ⟨.hbm, 76, rfl⟩
abbrev main_cst_5 : Ref sig .tc := ⟨.hbm, 77, rfl⟩
abbrev main_v46 : Ref sig .tc := ⟨.hbm, 78, rfl⟩
abbrev main_v47 : Ref sig .tc := ⟨.hbm, 79, rfl⟩
abbrev main_cst_6 : Ref sig .tc := ⟨.hbm, 80, rfl⟩
abbrev main_v48 : Ref sig .tc := ⟨.hbm, 81, rfl⟩
abbrev main_v49 : Ref sig .tc := ⟨.hbm, 82, rfl⟩
abbrev main_v50 : Ref sig .tc := ⟨.hbm, 83, rfl⟩
abbrev main_v51 : Ref sig .tc := ⟨.hbm, 84, rfl⟩
abbrev main_v52 : Ref sig .tc := ⟨.hbm, 85, rfl⟩
abbrev main_v53 : Ref sig .tc := ⟨.hbm, 86, rfl⟩
abbrev main_v54 : Ref sig .tc := ⟨.hbm, 87, rfl⟩
abbrev main_v55 : Ref sig .tc := ⟨.hbm, 88, rfl⟩
abbrev main_v56 : Ref sig .tc := ⟨.hbm, 89, rfl⟩
abbrev main_v57 : Ref sig .tc := ⟨.hbm, 90, rfl⟩
abbrev main_v58 : Ref sig .tc := ⟨.hbm, 91, rfl⟩
abbrev main_v59 : Ref sig .tc := ⟨.hbm, 92, rfl⟩
abbrev main_v60 : Ref sig .tc := ⟨.hbm, 93, rfl⟩
abbrev main_v61 : Ref sig .tc := ⟨.hbm, 94, rfl⟩
abbrev main_v62 : Ref sig .tc := ⟨.hbm, 95, rfl⟩
abbrev main_v63 : Ref sig .tc := ⟨.hbm, 96, rfl⟩
abbrev main_v64 : Ref sig .tc := ⟨.hbm, 97, rfl⟩
abbrev main_v65 : Ref sig .tc := ⟨.hbm, 98, rfl⟩
abbrev main_v66 : Ref sig .tc := ⟨.hbm, 99, rfl⟩
abbrev main_v67 : Ref sig .tc := ⟨.hbm, 100, rfl⟩
abbrev main_v68 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_cst_7 : Ref sig .tc := ⟨.hbm, 112, rfl⟩
abbrev main_v79 : Ref sig .tc := ⟨.hbm, 113, rfl⟩
abbrev main_v80 : Ref sig .tc := ⟨.hbm, 114, rfl⟩
abbrev main_cst_8 : Ref sig .tc := ⟨.hbm, 115, rfl⟩
abbrev main_v81 : Ref sig .tc := ⟨.hbm, 116, rfl⟩
abbrev main_v82 : Ref sig .tc := ⟨.hbm, 117, rfl⟩
abbrev main_v83 : Ref sig .tc := ⟨.hbm, 118, rfl⟩
abbrev main_cst_9 : Ref sig .tc := ⟨.hbm, 119, rfl⟩
abbrev main_v84 : Ref sig .tc := ⟨.hbm, 120, rfl⟩
abbrev main_v85 : Ref sig .tc := ⟨.hbm, 121, rfl⟩
abbrev main_cst_10 : Ref sig .tc := ⟨.hbm, 122, rfl⟩
abbrev main_v86 : Ref sig .tc := ⟨.hbm, 123, rfl⟩
abbrev main_v87 : Ref sig .tc := ⟨.hbm, 124, rfl⟩
abbrev main_v88 : Ref sig .tc := ⟨.hbm, 125, rfl⟩
abbrev main_v89 : Ref sig .tc := ⟨.hbm, 126, rfl⟩
abbrev main_v90 : Ref sig .tc := ⟨.hbm, 127, rfl⟩
abbrev main_v91 : Ref sig .tc := ⟨.hbm, 128, rfl⟩
abbrev main_v92 : Ref sig .tc := ⟨.hbm, 129, rfl⟩
abbrev main_v93 : Ref sig .tc := ⟨.hbm, 130, rfl⟩
abbrev main_v94 : Ref sig .tc := ⟨.hbm, 131, rfl⟩
abbrev main_v95 : Ref sig .tc := ⟨.hbm, 132, rfl⟩
abbrev main_v96 : Ref sig .tc := ⟨.hbm, 133, rfl⟩
abbrev main_v97 : Ref sig .tc := ⟨.hbm, 134, rfl⟩
abbrev main_v98 : Ref sig .tc := ⟨.hbm, 135, rfl⟩
abbrev main_v99 : Ref sig .tc := ⟨.hbm, 136, rfl⟩
abbrev main_v100 : Ref sig .tc := ⟨.hbm, 137, rfl⟩
abbrev main_v101 : Ref sig .tc := ⟨.hbm, 138, rfl⟩
abbrev main_v102 : Ref sig .tc := ⟨.hbm, 139, rfl⟩
abbrev main_v103 : Ref sig .tc := ⟨.hbm, 140, rfl⟩
abbrev main_v104 : Ref sig .tc := ⟨.hbm, 141, rfl⟩
abbrev main_v105 : Ref sig .tc := ⟨.hbm, 142, rfl⟩
abbrev main_v106 : Ref sig .tc := ⟨.hbm, 143, rfl⟩
abbrev main_v107 : Ref sig .tc := ⟨.hbm, 144, rfl⟩
abbrev main_v108 : Ref sig .tc := ⟨.hbm, 145, rfl⟩
abbrev main_v109 : Ref sig .tc := ⟨.hbm, 146, rfl⟩
abbrev main_v110 : Ref sig .tc := ⟨.hbm, 147, rfl⟩
abbrev main_v111 : Ref sig .tc := ⟨.hbm, 148, rfl⟩
abbrev main_v112 : Ref sig .tc := ⟨.hbm, 149, rfl⟩
abbrev main_v113 : Ref sig .tc := ⟨.hbm, 150, rfl⟩
abbrev main_v114 : Ref sig .tc := ⟨.hbm, 151, rfl⟩
abbrev main_v115 : Ref sig .tc := ⟨.hbm, 152, rfl⟩
abbrev main_v116 : Ref sig .tc := ⟨.hbm, 153, rfl⟩
abbrev main_v117 : Ref sig .tc := ⟨.hbm, 154, rfl⟩
abbrev main_v118 : Ref sig .tc := ⟨.hbm, 155, rfl⟩
abbrev main_v119 : Ref sig .tc := ⟨.hbm, 156, rfl⟩
abbrev main_cst_11 : Ref sig .tc := ⟨.hbm, 157, rfl⟩
abbrev main_v120 : Ref sig .tc := ⟨.hbm, 158, rfl⟩
abbrev main_v121 : Ref sig .tc := ⟨.hbm, 159, rfl⟩
abbrev main_cst_12 : Ref sig .tc := ⟨.hbm, 160, rfl⟩
abbrev main_v122 : Ref sig .tc := ⟨.hbm, 161, rfl⟩
abbrev main_v123 : Ref sig .tc := ⟨.hbm, 162, rfl⟩
abbrev main_v124 : Ref sig .tc := ⟨.hbm, 163, rfl⟩
abbrev main_cst_13 : Ref sig .tc := ⟨.hbm, 164, rfl⟩
abbrev main_v125 : Ref sig .tc := ⟨.hbm, 165, rfl⟩
abbrev main_v126 : Ref sig .tc := ⟨.hbm, 166, rfl⟩
abbrev main_cst_14 : Ref sig .tc := ⟨.hbm, 167, rfl⟩
abbrev main_v127 : Ref sig .tc := ⟨.hbm, 168, rfl⟩
abbrev main_v128 : Ref sig .tc := ⟨.hbm, 169, rfl⟩
abbrev main_v129 : Ref sig .tc := ⟨.hbm, 170, rfl⟩
abbrev main_v130 : Ref sig .tc := ⟨.hbm, 171, rfl⟩
abbrev main_v131 : Ref sig .tc := ⟨.hbm, 172, rfl⟩
abbrev main_v132 : Ref sig .tc := ⟨.hbm, 173, rfl⟩
abbrev main_v133 : Ref sig .tc := ⟨.hbm, 174, rfl⟩
abbrev main_v134 : Ref sig .tc := ⟨.hbm, 175, rfl⟩
abbrev main_v135 : Ref sig .tc := ⟨.hbm, 176, rfl⟩
abbrev main_v136 : Ref sig .tc := ⟨.hbm, 177, rfl⟩
abbrev main_v137 : Ref sig .tc := ⟨.hbm, 178, rfl⟩
abbrev main_v138 : Ref sig .tc := ⟨.hbm, 179, rfl⟩
abbrev main_v139 : Ref sig .tc := ⟨.hbm, 180, rfl⟩
abbrev main_v140 : Ref sig .tc := ⟨.hbm, 181, rfl⟩
abbrev main_v141 : Ref sig .tc := ⟨.hbm, 182, rfl⟩
abbrev main_v142 : Ref sig .tc := ⟨.hbm, 183, rfl⟩
abbrev main_v143 : Ref sig .tc := ⟨.hbm, 184, rfl⟩
abbrev main_v144 : Ref sig .tc := ⟨.hbm, 185, rfl⟩
abbrev main_v145 : Ref sig .tc := ⟨.hbm, 186, rfl⟩
abbrev main_v146 : Ref sig .tc := ⟨.hbm, 187, rfl⟩
abbrev main_v147 : Ref sig .tc := ⟨.hbm, 188, rfl⟩
abbrev main_v148 : Ref sig .tc := ⟨.hbm, 189, rfl⟩
abbrev main_v149 : Ref sig .tc := ⟨.hbm, 190, rfl⟩
abbrev main_v150 : Ref sig .tc := ⟨.hbm, 191, rfl⟩
abbrev main_v151 : Ref sig .tc := ⟨.hbm, 192, rfl⟩
abbrev main_v152 : Ref sig .tc := ⟨.hbm, 193, rfl⟩
abbrev main_v153 : Ref sig .tc := ⟨.hbm, 194, rfl⟩
abbrev main_v154 : Ref sig .tc := ⟨.hbm, 195, rfl⟩
abbrev main_v155 : Ref sig .tc := ⟨.hbm, 196, rfl⟩
abbrev main_v156 : Ref sig .tc := ⟨.hbm, 197, rfl⟩
abbrev main_v157 : Ref sig .tc := ⟨.hbm, 198, rfl⟩
abbrev main_cst_15 : Ref sig .tc := ⟨.hbm, 199, rfl⟩
abbrev main_v158 : Ref sig .tc := ⟨.hbm, 200, rfl⟩
abbrev main_v159 : Ref sig .tc := ⟨.hbm, 201, rfl⟩
abbrev main_cst_16 : Ref sig .tc := ⟨.hbm, 202, rfl⟩
abbrev main_v160 : Ref sig .tc := ⟨.hbm, 203, rfl⟩
abbrev main_v161 : Ref sig .tc := ⟨.hbm, 204, rfl⟩
abbrev main_v162 : Ref sig .tc := ⟨.hbm, 205, rfl⟩
abbrev main_cst_17 : Ref sig .tc := ⟨.hbm, 206, rfl⟩
abbrev main_v163 : Ref sig .tc := ⟨.hbm, 207, rfl⟩
abbrev main_v164 : Ref sig .tc := ⟨.hbm, 208, rfl⟩
abbrev main_cst_18 : Ref sig .tc := ⟨.hbm, 209, rfl⟩
abbrev main_v165 : Ref sig .tc := ⟨.hbm, 210, rfl⟩
abbrev main_v166 : Ref sig .tc := ⟨.hbm, 211, rfl⟩
abbrev main_v167 : Ref sig .tc := ⟨.hbm, 212, rfl⟩
abbrev main_v168 : Ref sig .tc := ⟨.hbm, 213, rfl⟩
abbrev main_v169 : Ref sig .tc := ⟨.hbm, 214, rfl⟩
abbrev main_v170 : Ref sig .tc := ⟨.hbm, 215, rfl⟩
abbrev main_v171 : Ref sig .tc := ⟨.hbm, 216, rfl⟩
abbrev main_v172 : Ref sig .tc := ⟨.hbm, 217, rfl⟩
abbrev main_v173 : Ref sig .tc := ⟨.hbm, 218, rfl⟩
abbrev main_v174 : Ref sig .tc := ⟨.hbm, 219, rfl⟩
abbrev main_v175 : Ref sig .tc := ⟨.hbm, 220, rfl⟩
abbrev main_v176 : Ref sig .tc := ⟨.hbm, 221, rfl⟩
abbrev main_v177 : Ref sig .tc := ⟨.hbm, 222, rfl⟩
abbrev main_v178 : Ref sig .tc := ⟨.hbm, 223, rfl⟩
abbrev main_v179 : Ref sig .tc := ⟨.hbm, 224, rfl⟩
abbrev main_v180 : Ref sig .tc := ⟨.hbm, 225, rfl⟩
abbrev main_v181 : Ref sig .tc := ⟨.hbm, 226, rfl⟩
abbrev main_v182 : Ref sig .tc := ⟨.hbm, 227, rfl⟩
abbrev main_v183 : Ref sig .tc := ⟨.hbm, 228, rfl⟩
abbrev main_v184 : Ref sig .tc := ⟨.hbm, 229, rfl⟩
abbrev main_v185 : Ref sig .tc := ⟨.hbm, 230, rfl⟩
abbrev main_v186 : Ref sig .tc := ⟨.hbm, 231, rfl⟩
abbrev main_v187 : Ref sig .tc := ⟨.hbm, 232, rfl⟩
abbrev main_v188 : Ref sig .tc := ⟨.hbm, 233, rfl⟩
abbrev main_v189 : Ref sig .tc := ⟨.hbm, 234, rfl⟩
abbrev main_v190 : Ref sig .tc := ⟨.hbm, 235, rfl⟩
abbrev main_v191 : Ref sig .tc := ⟨.hbm, 236, rfl⟩
abbrev main_v192 : Ref sig .tc := ⟨.hbm, 237, rfl⟩
abbrev main_v193 : Ref sig .tc := ⟨.hbm, 238, rfl⟩
abbrev main_v194 : Ref sig .tc := ⟨.hbm, 239, rfl⟩
abbrev main_v195 : Ref sig .tc := ⟨.hbm, 240, rfl⟩
abbrev main_v196 : Ref sig .tc := ⟨.hbm, 241, rfl⟩
abbrev main_v197 : Ref sig .tc := ⟨.hbm, 242, rfl⟩
abbrev main_v198 : Ref sig .tc := ⟨.hbm, 243, rfl⟩

abbrev nD : Nat := 1
abbrev τ : Topo := Topo.v7x

variable {F : FTy → Type} [FloatOps F]
-- ==== Mlp0Ctx.lean ====
abbrev S1024x2048 : Shape := ⟨2, ![1024, 2048]⟩
abbrev S2048 : Shape := ⟨1, ![2048]⟩
abbrev S2x8x1x12288 : Shape := ⟨4, ![2, 8, 1, 12288]⟩
abbrev S2048x8192 : Shape := ⟨2, ![2048, 8192]⟩
abbrev S8192x2048 : Shape := ⟨2, ![8192, 2048]⟩
abbrev S1x2048 : Shape := ⟨2, ![1, 2048]⟩
abbrev S512x2048 : Shape := ⟨2, ![512, 2048]⟩
abbrev S1x1x1x2048 : Shape := ⟨4, ![1, 1, 1, 2048]⟩
abbrev S2048x1024 : Shape := ⟨2, ![2048, 1024]⟩
abbrev S512 : Shape := ⟨1, ![512]⟩
abbrev S512x1 : Shape := ⟨2, ![512, 1]⟩
abbrev S512x1024 : Shape := ⟨2, ![512, 1024]⟩

abbrev nBuf : Space → Nat
  | .hbm => 7
  | .vmem => 16
  | .smem => 0
  | _ => 0

abbrev bufTy : (tb : Table) → Fin (tcTables nBuf tb) → BufTy
  | .hbm, ⟨0, _⟩ => ⟨S1024x2048, .f32⟩
  | .hbm, ⟨1, _⟩ => ⟨S2048, .f32⟩
  | .hbm, ⟨2, _⟩ => ⟨S2x8x1x12288, .f32⟩
  | .hbm, ⟨3, _⟩ => ⟨S2048x8192, .bf16⟩
  | .hbm, ⟨4, _⟩ => ⟨S8192x2048, .bf16⟩
  | .hbm, ⟨5, _⟩ => ⟨S1x2048, .f32⟩
  | .hbm, ⟨6, _⟩ => ⟨S1024x2048, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S1x1x1x2048, .f32⟩
  | .local _ .vmem, ⟨4, _⟩ => ⟨S1x1x1x2048, .f32⟩
  | .local _ .vmem, ⟨5, _⟩ => ⟨S1x1x1x2048, .f32⟩
  | .local _ .vmem, ⟨6, _⟩ => ⟨S1x1x1x2048, .f32⟩
  | .local _ .vmem, ⟨7, _⟩ => ⟨S1x1x1x2048, .f32⟩
  | .local _ .vmem, ⟨8, _⟩ => ⟨S1x1x1x2048, .f32⟩
  | .local _ .vmem, ⟨9, _⟩ => ⟨S2048x1024, .bf16⟩
  | .local _ .vmem, ⟨10, _⟩ => ⟨S2048x1024, .bf16⟩
  | .local _ .vmem, ⟨11, _⟩ => ⟨S1024x2048, .bf16⟩
  | .local _ .vmem, ⟨12, _⟩ => ⟨S1024x2048, .bf16⟩
  | .local _ .vmem, ⟨13, _⟩ => ⟨S512x2048, .f32⟩
  | .local _ .vmem, ⟨14, _⟩ => ⟨S512x2048, .f32⟩
  | .local _ .vmem, ⟨15, _⟩ => ⟨S512x2048, .bf16⟩
  | _, _ => ⟨S1024x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_scratch0 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14

abbrev nD : Nat := 1
abbrev τ : Topo := Topo.v7x

variable {F : FTy → Type} [FloatOps F]

abbrev grid0 : Pipeline.Grid := ⟨2, ![2, 8], ![false, false]⟩

def k0_cond2 (i : grid0.Coords) : BitVec 1 :=
  let arg1 : BitVec 32 := BitVec.ofNat 32 (i 1).val
  let c0_i32_8 : BitVec 32 := 0#32
  let v12 : BitVec 1 := Scalar.cmpi .eq arg1 c0_i32_8
  let v13 : BitVec 32 := Scalar.extui v12
  let c0_i32_9 : BitVec 32 := 0#32
  let v14 : BitVec 1 := Scalar.cmpi .ne v13 c0_i32_9
  v14

def k0_cond3 (i : grid0.Coords) : BitVec 1 :=
  let arg1 : BitVec 32 := BitVec.ofNat 32 (i 1).val
  let c0_i32_10 : BitVec 32 := 0#32
  let v15 : BitVec 1 := Scalar.cmpi .sgt arg1 c0_i32_10
  let v16 : BitVec 32 := Scalar.extui v15
  let c0_i32_11 : BitVec 32 := 0#32
  let v17 : BitVec 1 := Scalar.cmpi .ne v16 c0_i32_11
  v17

def k0_cond4 (i : grid0.Coords) : BitVec 1 :=
  let arg1 : BitVec 32 := BitVec.ofNat 32 (i 1).val
  let c7_i32 : BitVec 32 := 7#32
  let v18 : BitVec 1 := Scalar.cmpi .eq arg1 c7_i32
  let v19 : BitVec 32 := Scalar.extui v18
  let c0_i32_12 : BitVec 32 := 0#32
  let v20 : BitVec 1 := Scalar.cmpi .ne v19 c0_i32_12
  v20

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32 : BitVec 32 := 4#32
  let v17 : BitVec 32 := Scalar.addi c4_i32 v16
  let c0_i32_4 : BitVec 32 := 0#32
  let c0_i32_5 : BitVec 32 := 0#32
  let c3_i32 : BitVec 32 := 3#32
  let c0_i32_6 : BitVec 32 := 0#32
  ![c0_i32_4.toNat, v17.toNat, c0_i32_5.toNat, c3_i32.toNat]

def cc0_transform_3 (i : grid0.Coords) : Fin 4 → Nat :=
  let arg0 : BitVec 32 := BitVec.ofNat 32 (i 0).val
  let arg1 : BitVec 32 := BitVec.ofNat 32 (i 1).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32 : BitVec 32 := 4#32
  let v17 : BitVec 32 := Scalar.addi c4_i32 v16
  let c0_i32_4 : BitVec 32 := 0#32
  let c0_i32_5 : BitVec 32 := 0#32
  let c4_i32_6 : BitVec 32 := 4#32
  let c0_i32_7 : BitVec 32 := 0#32
  ![c0_i32_4.toNat, v17.toNat, c0_i32_5.toNat, c4_i32_6.toNat]

def cc0_transform_4 (i : grid0.Coords) : Fin 4 → Nat :=
  let arg0 : BitVec 32 := BitVec.ofNat 32 (i 0).val
  let arg1 : BitVec 32 := BitVec.ofNat 32 (i 1).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32 : BitVec 32 := 4#32
  let v17 : BitVec 32 := Scalar.addi c4_i32 v16
  let c0_i32_4 : BitVec 32 := 0#32
  let c0_i32_5 : BitVec 32 := 0#32
  let c5_i32 : BitVec 32 := 5#32
  let c0_i32_6 : BitVec 32 := 0#32
  ![c0_i32_4.toNat, v17.toNat, c0_i32_5.toNat, c5_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x1x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x1x1x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S2048x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1024x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S512x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]
-- ==== Mlp0CtxReferenceIdeal.lean ====
abbrev S1024x2048 : Shape := ⟨2, ![1024, 2048]⟩
abbrev S2048 : Shape := ⟨1, ![2048]⟩
abbrev S2x8x1x12288 : Shape := ⟨4, ![2, 8, 1, 12288]⟩
abbrev S2048x8192 : Shape := ⟨2, ![2048, 8192]⟩
abbrev S8192x2048 : Shape := ⟨2, ![8192, 2048]⟩
abbrev S4x256x2048 : Shape := ⟨3, ![4, 256, 2048]⟩
abbrev S1x1x1x12288 : Shape := ⟨4, ![1, 1, 1, 12288]⟩
abbrev S1x1x12288 : Shape := ⟨3, ![1, 1, 12288]⟩
abbrev S1x1x2048 : Shape := ⟨3, ![1, 1, 2048]⟩
abbrev S_ : Shape := ⟨0, ![]⟩
abbrev S4x256 : Shape := ⟨2, ![4, 256]⟩
abbrev S4x256x1 : Shape := ⟨3, ![4, 256, 1]⟩
abbrev S4x256x8192 : Shape := ⟨3, ![4, 256, 8192]⟩

abbrev nBuf : Space → Nat
  | .hbm => 49
  | .vmem => 0
  | .smem => 0
  | _ => 0

abbrev bufTy : (tb : Table) → Fin (tcTables nBuf tb) → BufTy
  | .hbm, ⟨0, _⟩ => ⟨S1024x2048, .f32⟩
  | .hbm, ⟨1, _⟩ => ⟨S2048, .f32⟩
  | .hbm, ⟨2, _⟩ => ⟨S2x8x1x12288, .f32⟩
  | .hbm, ⟨3, _⟩ => ⟨S2048x8192, .bf16⟩
  | .hbm, ⟨4, _⟩ => ⟨S8192x2048, .bf16⟩
  | .hbm, ⟨5, _⟩ => ⟨S4x256x2048, .f32⟩
  | .hbm, ⟨6, _⟩ => ⟨S1x1x1x12288, .f32⟩
  | .hbm, ⟨7, _⟩ => ⟨S1x1x12288, .f32⟩
  | .hbm, ⟨8, _⟩ => ⟨S1x1x2048, .f32⟩
  | .hbm, ⟨9, _⟩ => ⟨S1x1x2048, .f32⟩
  | .hbm, ⟨10, _⟩ => ⟨S1x1x2048, .f32⟩
  | .hbm, ⟨11, _⟩ => ⟨S1x1x2048, .f32⟩
  | .hbm, ⟨12, _⟩ => ⟨S1x1x2048, .f32⟩
  | .hbm, ⟨13, _⟩ => ⟨S1x1x2048, .f32⟩
  | .hbm, ⟨14, _⟩ => ⟨S4x256x2048, .f32⟩
  | .hbm, ⟨15, _⟩ => ⟨S_, .f32⟩
  | .hbm, ⟨16, _⟩ => ⟨S4x256, .f32⟩
  | .hbm, ⟨17, _⟩ => ⟨S4x256x1, .f32⟩
  | .hbm, ⟨18, _⟩ => ⟨S_, .f32⟩
  | .hbm, ⟨19, _⟩ => ⟨S4x256x1, .f32⟩
  | .hbm, ⟨20, _⟩ => ⟨S4x256x1, .f32⟩
  | .hbm, ⟨21, _⟩ => ⟨S_, .f32⟩
  | .hbm, ⟨22, _⟩ => ⟨S4x256x1, .f32⟩
  | .hbm, ⟨23, _⟩ => ⟨S4x256x1, .f32⟩
  | .hbm, ⟨24, _⟩ => ⟨S4x256x1, .f32⟩
  | .hbm, ⟨25, _⟩ => ⟨S4x256x2048, .f32⟩
  | .hbm, ⟨26, _⟩ => ⟨S4x256x2048, .f32⟩
  | .hbm, ⟨27, _⟩ => ⟨S1x1x2048, .f32⟩
  | .hbm, ⟨28, _⟩ => ⟨S4x256x2048, .f32⟩
  | .hbm, ⟨29, _⟩ => ⟨S4x256x2048, .f32⟩
  | .hbm, ⟨30, _⟩ => ⟨S_, .f32⟩
  | .hbm, ⟨31, _⟩ => ⟨S1x1x2048, .f32⟩
  | .hbm, ⟨32, _⟩ => ⟨S1x1x2048, .f32⟩
  | .hbm, ⟨33, _⟩ => ⟨S4x256x2048, .f32⟩
  | .hbm, ⟨34, _⟩ => ⟨S4x256x2048, .f32⟩
  | .hbm, ⟨35, _⟩ => ⟨S4x256x2048, .f32⟩
  | .hbm, ⟨36, _⟩ => ⟨S4x256x2048, .f32⟩
  | .hbm, ⟨37, _⟩ => ⟨S2048x8192, .f32⟩
  | .hbm, ⟨38, _⟩ => ⟨S4x256x8192, .f32⟩
  | .hbm, ⟨39, _⟩ => ⟨S_, .f32⟩
  | .hbm, ⟨40, _⟩ => ⟨S4x256x8192, .f32⟩
  | .hbm, ⟨41, _⟩ => ⟨S4x256x8192, .f32⟩
  | .hbm, ⟨42, _⟩ => ⟨S4x256x8192, .f32⟩
  | .hbm, ⟨43, _⟩ => ⟨S8192x2048, .f32⟩
  | .hbm, ⟨44, _⟩ => ⟨S4x256x2048, .f32⟩
  | .hbm, ⟨45, _⟩ => ⟨S4x256x2048, .f32⟩
  | .hbm, ⟨46, _⟩ => ⟨S4x256x2048, .f32⟩
  | .hbm, ⟨47, _⟩ => ⟨S4x256x2048, .f32⟩
  | .hbm, ⟨48, _⟩ => ⟨S1024x2048, .f32⟩
  | _, _ => ⟨S1024x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst : Ref sig .tc := ⟨.hbm, 15, rfl⟩
abbrev main_v10 : Ref sig .tc := ⟨.hbm, 16, rfl⟩
abbrev main_v11 : Ref sig .tc := ⟨.hbm, 17, rfl⟩
abbrev main_cst_0 : Ref sig .tc := ⟨.hbm, 18, rfl⟩
abbrev main_v12 : Ref sig .tc := ⟨.hbm, 19, rfl⟩
abbrev main_v13 : Ref sig .tc := ⟨.hbm, 20, rfl⟩
abbrev main_cst_1 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_cst_2 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_call0_cst : Ref sig .tc := ⟨.hbm, 39, rfl⟩
abbrev main_call0_v0 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩

abbrev nD : Nat := 1
abbrev τ : Topo := Topo.v7x

variable {F : FTy → Type} [FloatOps F]
-- ==== RetProjCtx.lean ====
abbrev S1024x2048 : Shape := ⟨2, ![1024, 2048]⟩
abbrev S2048 : Shape := ⟨1, ![2048]⟩
abbrev S2x8x1x12288 : Shape := ⟨4, ![2, 8, 1, 12288]⟩
abbrev S2048x12288 : Shape := ⟨2, ![2048, 12288]⟩
abbrev S1x2048 : Shape := ⟨2, ![1, 2048]⟩
abbrev S1024x12288 : Shape := ⟨2, ![1024, 12288]⟩
abbrev S1x1x1x2048 : Shape := ⟨4, ![1, 1, 1, 2048]⟩
abbrev S2048x1024 : Shape := ⟨2, ![2048, 1024]⟩
abbrev S1024x1024 : Shape := ⟨2, ![1024, 1024]⟩
abbrev S1024 : Shape := ⟨1, ![1024]⟩
abbrev S1024x1 : Shape := ⟨2, ![1024, 1]⟩

abbrev nBuf : Space → Nat
  | .hbm => 6
  | .vmem => 9
  | .smem => 0
  | _ => 0

abbrev bufTy : (tb : Table) → Fin (tcTables nBuf tb) → BufTy
  | .hbm, ⟨0, _⟩ => ⟨S1024x2048, .f32⟩
  | .hbm, ⟨1, _⟩ => ⟨S2048, .f32⟩
  | .hbm, ⟨2, _⟩ => ⟨S2x8x1x12288, .f32⟩
  | .hbm, ⟨3, _⟩ => ⟨S2048x12288, .bf16⟩
  | .hbm, ⟨4, _⟩ => ⟨S1x2048, .f32⟩
  | .hbm, ⟨5, _⟩ => ⟨S1024x12288, .bf16⟩
  | .local _ .vmem, ⟨0, _⟩ => ⟨S1024x2048, .f32⟩
  | .local _ .vmem, ⟨1, _⟩ => ⟨S1x2048, .f32⟩
  | .local _ .vmem, ⟨2, _⟩ => ⟨S1x1x1x2048, .f32⟩
  | .local _ .vmem, ⟨3, _⟩ => ⟨S1x1x1x2048, .f32⟩
  | .local _ .vmem, ⟨4, _⟩ => ⟨S2048x1024, .bf16⟩
  | .local _ .vmem, ⟨5, _⟩ => ⟨S2048x1024, .bf16⟩
  | .local _ .vmem, ⟨6, _⟩ => ⟨S1024x1024, .bf16⟩
  | .local _ .vmem, ⟨7, _⟩ => ⟨S1024x1024, .bf16⟩
  | .local _ .vmem, ⟨8, _⟩ => ⟨S1024x2048, .bf16⟩
  | _, _ => ⟨S1024x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg4_1 : Ref sig .tc := ⟨.vmem, 5, rfl⟩
abbrev cc0_stg5_0 : Ref sig .tc := ⟨.vmem, 6, rfl⟩
abbrev cc0_stg5_1 : Ref sig .tc := ⟨.vmem, 7, rfl⟩
abbrev cc0_scratch0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem4_1 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨2, ![1, 12], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c4_i32 : BitVec 32 := 4#32
  let v17 : BitVec 32 := Scalar.addi c4_i32 v16
  let c0_i32_5 : BitVec 32 := 0#32
  let c0_i32_6 : BitVec 32 := 0#32
  let c0_i32_7 : BitVec 32 := 0#32
  let c0_i32_8 : BitVec 32 := 0#32
  ![c0_i32_5.toNat, v17.toNat, c0_i32_6.toNat, c0_i32_7.toNat]

def cc0_transform_3 (i : grid0.Coords) : Fin 4 → Nat :=
  let arg0 : BitVec 32 := BitVec.ofNat 32 (i 0).val
  let arg1 : BitVec 32 := BitVec.ofNat 32 (i 1).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c4_i32 : BitVec 32 := 4#32
  let v17 : BitVec 32 := Scalar.addi c4_i32 v16
  let c0_i32_5 : BitVec 32 := 0#32
  let c0_i32_6 : BitVec 32 := 0#32
  let c1_i32_7 : BitVec 32 := 1#32
  let c0_i32_8 : BitVec 32 := 0#32
  ![c0_i32_5.toNat, v17.toNat, c0_i32_6.toNat, c1_i32_7.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  ![c0_i32_0.toNat, v0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S1024x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x1x1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]

abbrev stage0_3 : Fin 1 → Memref sig .tc .vmem S1x1x1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, false]

abbrev stage0_4 : Fin 2 → Memref sig .tc .vmem S2048x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== RetProjCtxReferenceIdeal.lean ====
abbrev S1024x2048 : Shape := ⟨2, ![1024, 2048]⟩
abbrev S2048 : Shape := ⟨1, ![2048]⟩
abbrev S2x8x1x12288 : Shape := ⟨4, ![2, 8, 1, 12288]⟩
abbrev S2048x12288 : Shape := ⟨2, ![2048, 12288]⟩
abbrev S1x1x1x12288 : Shape := ⟨4, ![1, 1, 1, 12288]⟩
abbrev S1x1x12288 : Shape := ⟨3, ![1, 1, 12288]⟩
abbrev S1x1x2048 : Shape := ⟨3, ![1, 1, 2048]⟩
abbrev S4x256x2048 : Shape := ⟨3, ![4, 256, 2048]⟩
abbrev S_ : Shape := ⟨0, ![]⟩
abbrev S4x256 : Shape := ⟨2, ![4, 256]⟩
abbrev S4x256x1 : Shape := ⟨3, ![4, 256, 1]⟩
abbrev S4x256x12288 : Shape := ⟨3, ![4, 256, 12288]⟩
abbrev S4x256x4096 : Shape := ⟨3, ![4, 256, 4096]⟩
abbrev S4x256x8x256 : Shape := ⟨4, ![4, 256, 8, 256]⟩
abbrev S1024x12288 : Shape := ⟨2, ![1024, 12288]⟩

abbrev nBuf : Space → Nat
  | .hbm => 50
  | .vmem => 0
  | .smem => 0
  | _ => 0

abbrev bufTy : (tb : Table) → Fin (tcTables nBuf tb) → BufTy
  | .hbm, ⟨0, _⟩ => ⟨S1024x2048, .f32⟩
  | .hbm, ⟨1, _⟩ => ⟨S2048, .f32⟩
  | .hbm, ⟨2, _⟩ => ⟨S2x8x1x12288, .f32⟩
  | .hbm, ⟨3, _⟩ => ⟨S2048x12288, .bf16⟩
  | .hbm, ⟨4, _⟩ => ⟨S1x1x1x12288, .f32⟩
  | .hbm, ⟨5, _⟩ => ⟨S1x1x12288, .f32⟩
  | .hbm, ⟨6, _⟩ => ⟨S1x1x2048, .f32⟩
  | .hbm, ⟨7, _⟩ => ⟨S1x1x2048, .f32⟩
  | .hbm, ⟨8, _⟩ => ⟨S1x1x2048, .f32⟩
  | .hbm, ⟨9, _⟩ => ⟨S1x1x2048, .f32⟩
  | .hbm, ⟨10, _⟩ => ⟨S1x1x2048, .f32⟩
  | .hbm, ⟨11, _⟩ => ⟨S1x1x2048, .f32⟩
  | .hbm, ⟨12, _⟩ => ⟨S4x256x2048, .f32⟩
  | .hbm, ⟨13, _⟩ => ⟨S4x256x2048, .f32⟩
  | .hbm, ⟨14, _⟩ => ⟨S_, .f32⟩
  | .hbm, ⟨15, _⟩ => ⟨S4x256, .f32⟩
  | .hbm, ⟨16, _⟩ => ⟨S4x256x1, .f32⟩
  | .hbm, ⟨17, _⟩ => ⟨S_, .f32⟩
  | .hbm, ⟨18, _⟩ => ⟨S4x256x1, .f32⟩
  | .hbm, ⟨19, _⟩ => ⟨S4x256x1, .f32⟩
  | .hbm, ⟨20, _⟩ => ⟨S_, .f32⟩
  | .hbm, ⟨21, _⟩ => ⟨S4x256x1, .f32⟩
  | .hbm, ⟨22, _⟩ => ⟨S4x256x1, .f32⟩
  | .hbm, ⟨23, _⟩ => ⟨S4x256x1, .f32⟩
  | .hbm, ⟨24, _⟩ => ⟨S4x256x2048, .f32⟩
  | .hbm, ⟨25, _⟩ => ⟨S4x256x2048, .f32⟩
  | .hbm, ⟨26, _⟩ => ⟨S1x1x2048, .f32⟩
  | .hbm, ⟨27, _⟩ => ⟨S4x256x2048, .f32⟩
  | .hbm, ⟨28, _⟩ => ⟨S4x256x2048, .f32⟩
  | .hbm, ⟨29, _⟩ => ⟨S_, .f32⟩
  | .hbm, ⟨30, _⟩ => ⟨S1x1x2048, .f32⟩
  | .hbm, ⟨31, _⟩ => ⟨S1x1x2048, .f32⟩
  | .hbm, ⟨32, _⟩ => ⟨S4x256x2048, .f32⟩
  | .hbm, ⟨33, _⟩ => ⟨S4x256x2048, .f32⟩
  | .hbm, ⟨34, _⟩ => ⟨S4x256x2048, .f32⟩
  | .hbm, ⟨35, _⟩ => ⟨S4x256x2048, .f32⟩
  | .hbm, ⟨36, _⟩ => ⟨S2048x12288, .f32⟩
  | .hbm, ⟨37, _⟩ => ⟨S4x256x12288, .f32⟩
  | .hbm, ⟨38, _⟩ => ⟨S4x256x2048, .f32⟩
  | .hbm, ⟨39, _⟩ => ⟨S4x256x2048, .f32⟩
  | .hbm, ⟨40, _⟩ => ⟨S4x256x4096, .f32⟩
  | .hbm, ⟨41, _⟩ => ⟨S4x256x4096, .f32⟩
  | .hbm, ⟨42, _⟩ => ⟨S4x256x8x256, .f32⟩
  | .hbm, ⟨43, _⟩ => ⟨S_, .f32⟩
  | .hbm, ⟨44, _⟩ => ⟨S4x256x8x256, .f32⟩
  | .hbm, ⟨45, _⟩ => ⟨S4x256x8x256, .f32⟩
  | .hbm, ⟨46, _⟩ => ⟨S4x256x2048, .f32⟩
  | .hbm, ⟨47, _⟩ => ⟨S4x256x12288, .f32⟩
  | .hbm, ⟨48, _⟩ => ⟨S1024x12288, .f32⟩
  | .hbm, ⟨49, _⟩ => ⟨S1024x12288, .bf16⟩
  | _, _ => ⟨S1024x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst : Ref sig .tc := ⟨.hbm, 14, rfl⟩
abbrev main_v10 : Ref sig .tc := ⟨.hbm, 15, rfl⟩
abbrev main_v11 : Ref sig .tc := ⟨.hbm, 16, rfl⟩
abbrev main_cst_0 : Ref sig .tc := ⟨.hbm, 17, rfl⟩
abbrev main_v12 : Ref sig .tc := ⟨.hbm, 18, rfl⟩
abbrev main_v13 : Ref sig .tc := ⟨.hbm, 19, rfl⟩
abbrev main_cst_1 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_cst_2 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_cst_3 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩

abbrev nD : Nat := 1
abbrev τ : Topo := Topo.v7x

variable {F : FTy → Type} [FloatOps F]
-- ==== RetOutCtx.lean ====
abbrev S1024x4096 : Shape := ⟨2, ![1024, 4096]⟩
abbrev S4096x2048 : Shape := ⟨2, ![4096, 2048]⟩
abbrev S1024x2048 : Shape := ⟨2, ![1024, 2048]⟩
abbrev S2x8x1x12288 : Shape := ⟨4, ![2, 8, 1, 12288]⟩
abbrev S4096x512 : Shape := ⟨2, ![4096, 512]⟩
abbrev S1024x512 : Shape := ⟨2, ![1024, 512]⟩
abbrev S1x1x1x512 : Shape := ⟨4, ![1, 1, 1, 512]⟩
abbrev S1x512 : Shape := ⟨2, ![1, 512]⟩

abbrev nBuf : Space → Nat
  | .hbm => 5
  | .vmem => 9
  | .smem => 0
  | _ => 0

abbrev bufTy : (tb : Table) → Fin (tcTables nBuf tb) → BufTy
  | .hbm, ⟨0, _⟩ => ⟨S1024x4096, .bf16⟩
  | .hbm, ⟨1, _⟩ => ⟨S4096x2048, .bf16⟩
  | .hbm, ⟨2, _⟩ => ⟨S1024x2048, .f32⟩
  | .hbm, ⟨3, _⟩ => ⟨S2x8x1x12288, .f32⟩
  | .hbm, ⟨4, _⟩ => ⟨S1024x2048, .f32⟩
  | .local _ .vmem, ⟨0, _⟩ => ⟨S1024x4096, .bf16⟩
  | .local _ .vmem, ⟨1, _⟩ => ⟨S4096x512, .bf16⟩
  | .local _ .vmem, ⟨2, _⟩ => ⟨S4096x512, .bf16⟩
  | .local _ .vmem, ⟨3, _⟩ => ⟨S1024x512, .f32⟩
  | .local _ .vmem, ⟨4, _⟩ => ⟨S1024x512, .f32⟩
  | .local _ .vmem, ⟨5, _⟩ => ⟨S1x1x1x512, .f32⟩
  | .local _ .vmem, ⟨6, _⟩ => ⟨S1x1x1x512, .f32⟩
  | .local _ .vmem, ⟨7, _⟩ => ⟨S1024x512, .f32⟩
  | .local _ .vmem, ⟨8, _⟩ => ⟨S1024x512, .f32⟩
  | _, _ => ⟨S1024x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![1, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 4 → Nat :=
  let arg0 : BitVec 32 := BitVec.ofNat 32 (i 0).val
  let arg1 : BitVec 32 := BitVec.ofNat 32 (i 1).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c4_i32 : BitVec 32 := 4#32
  let v17 : BitVec 32 := Scalar.addi c4_i32 v16
  let c8_i32 : BitVec 32 := 8#32
  let v18 : BitVec 32 := Scalar.addi c8_i32 arg1
  let c0_i32_5 : BitVec 32 := 0#32
  let c0_i32_6 : BitVec 32 := 0#32
  let c0_i32_7 : BitVec 32 := 0#32
  ![c0_i32_5.toNat, v17.toNat, c0_i32_6.toNat, v18.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S1024x4096 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== RetOutCtxReferenceIdeal.lean ====
abbrev S1024x4096 : Shape := ⟨2, ![1024, 4096]⟩
abbrev S4096x2048 : Shape := ⟨2, ![4096, 2048]⟩
abbrev S1024x2048 : Shape := ⟨2, ![1024, 2048]⟩
abbrev S2x8x1x12288 : Shape := ⟨4, ![2, 8, 1, 12288]⟩
abbrev S1x1x1x12288 : Shape := ⟨4, ![1, 1, 1, 12288]⟩
abbrev S1x1x12288 : Shape := ⟨3, ![1, 1, 12288]⟩
abbrev S1x1x2048 : Shape := ⟨3, ![1, 1, 2048]⟩
abbrev S4x256x4096 : Shape := ⟨3, ![4, 256, 4096]⟩
abbrev S4x256x2048 : Shape := ⟨3, ![4, 256, 2048]⟩

abbrev nBuf : Space → Nat
  | .hbm => 21
  | .vmem => 0
  | .smem => 0
  | _ => 0

abbrev bufTy : (tb : Table) → Fin (tcTables nBuf tb) → BufTy
  | .hbm, ⟨0, _⟩ => ⟨S1024x4096, .bf16⟩
  | .hbm, ⟨1, _⟩ => ⟨S4096x2048, .bf16⟩
  | .hbm, ⟨2, _⟩ => ⟨S1024x2048, .f32⟩
  | .hbm, ⟨3, _⟩ => ⟨S2x8x1x12288, .f32⟩
  | .hbm, ⟨4, _⟩ => ⟨S1x1x1x12288, .f32⟩
  | .hbm, ⟨5, _⟩ => ⟨S1x1x12288, .f32⟩
  | .hbm, ⟨6, _⟩ => ⟨S1x1x2048, .f32⟩
  | .hbm, ⟨7, _⟩ => ⟨S1x1x2048, .f32⟩
  | .hbm, ⟨8, _⟩ => ⟨S1x1x2048, .f32⟩
  | .hbm, ⟨9, _⟩ => ⟨S1x1x2048, .f32⟩
  | .hbm, ⟨10, _⟩ => ⟨S1x1x2048, .f32⟩
  | .hbm, ⟨11, _⟩ => ⟨S1x1x2048, .f32⟩
  | .hbm, ⟨12, _⟩ => ⟨S1024x4096, .f32⟩
  | .hbm, ⟨13, _⟩ => ⟨S4x256x4096, .f32⟩
  | .hbm, ⟨14, _⟩ => ⟨S4096x2048, .f32⟩
  | .hbm, ⟨15, _⟩ => ⟨S4x256x2048, .f32⟩
  | .hbm, ⟨16, _⟩ => ⟨S4x256x2048, .f32⟩
  | .hbm, ⟨17, _⟩ => ⟨S4x256x2048, .f32⟩
  | .hbm, ⟨18, _⟩ => ⟨S4x256x2048, .f32⟩
  | .hbm, ⟨19, _⟩ => ⟨S4x256x2048, .f32⟩
  | .hbm, ⟨20, _⟩ => ⟨S1024x2048, .f32⟩
  | _, _ => ⟨S1024x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩

abbrev nD : Nat := 1
abbrev τ : Topo := Topo.v7x

variable {F : FTy → Type} [FloatOps F]
-- ==== AttnProjCtx.lean ====
abbrev S1024x2048 : Shape := ⟨2, ![1024, 2048]⟩
abbrev S2048 : Shape := ⟨1, ![2048]⟩
abbrev S2x8x1x12288 : Shape := ⟨4, ![2, 8, 1, 12288]⟩
abbrev S2048x3072 : Shape := ⟨2, ![2048, 3072]⟩
abbrev S1x2048 : Shape := ⟨2, ![1, 2048]⟩
abbrev S1024x1024 : Shape := ⟨2, ![1024, 1024]⟩
abbrev S1x1x1x2048 : Shape := ⟨4, ![1, 1, 1, 2048]⟩
abbrev S2048x512 : Shape := ⟨2, ![2048, 512]⟩
abbrev S1024x512 : Shape := ⟨2, ![1024, 512]⟩
abbrev S1024 : Shape := ⟨1, ![1024]⟩
abbrev S1024x1 : Shape := ⟨2, ![1024, 1]⟩

abbrev nBuf : Space → Nat
  | .hbm => 6
  | .vmem => 9
  | .smem => 0
  | _ => 0

abbrev bufTy : (tb : Table) → Fin (tcTables nBuf tb) → BufTy
  | .hbm, ⟨0, _⟩ => ⟨S1024x2048, .f32⟩
  | .hbm, ⟨1, _⟩ => ⟨S2048, .f32⟩
  | .hbm, ⟨2, _⟩ => ⟨S2x8x1x12288, .f32⟩
  | .hbm, ⟨3, _⟩ => ⟨S2048x3072, .bf16⟩
  | .hbm, ⟨4, _⟩ => ⟨S1x2048, .f32⟩
  | .hbm, ⟨5, _⟩ => ⟨S1024x1024, .bf16⟩
  | .local _ .vmem, ⟨0, _⟩ => ⟨S1024x2048, .f32⟩
  | .local _ .vmem, ⟨1, _⟩ => ⟨S1x2048, .f32⟩
  | .local _ .vmem, ⟨2, _⟩ => ⟨S1x1x1x2048, .f32⟩
  | .local _ .vmem, ⟨3, _⟩ => ⟨S1x1x1x2048, .f32⟩
  | .local _ .vmem, ⟨4, _⟩ => ⟨S2048x512, .bf16⟩
  | .local _ .vmem, ⟨5, _⟩ => ⟨S2048x512, .bf16⟩
  | .local _ .vmem, ⟨6, _⟩ => ⟨S1024x512, .bf16⟩
  | .local _ .vmem, ⟨7, _⟩ => ⟨S1024x512, .bf16⟩
  | .local _ .vmem, ⟨8, _⟩ => ⟨S1024x2048, .bf16⟩
  | _, _ => ⟨S1024x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg4_1 : Ref sig .tc := ⟨.vmem, 5, rfl⟩
abbrev cc0_stg5_0 : Ref sig .tc := ⟨.vmem, 6, rfl⟩
abbrev cc0_stg5_1 : Ref sig .tc := ⟨.vmem, 7, rfl⟩
abbrev cc0_scratch0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem4_1 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨2, ![1, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c4_i32 : BitVec 32 := 4#32
  let v17 : BitVec 32 := Scalar.addi c4_i32 v16
  let c1_i32_5 : BitVec 32 := 1#32
  let c0_i32_6 : BitVec 32 := 0#32
  let c0_i32_7 : BitVec 32 := 0#32
  let c0_i32_8 : BitVec 32 := 0#32
  ![c1_i32_5.toNat, v17.toNat, c0_i32_6.toNat, c0_i32_7.toNat]

def cc0_transform_3 (i : grid0.Coords) : Fin 4 → Nat :=
  let arg0 : BitVec 32 := BitVec.ofNat 32 (i 0).val
  let arg1 : BitVec 32 := BitVec.ofNat 32 (i 1).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c4_i32 : BitVec 32 := 4#32
  let v17 : BitVec 32 := Scalar.addi c4_i32 v16
  let c1_i32_5 : BitVec 32 := 1#32
  let c0_i32_6 : BitVec 32 := 0#32
  let c1_i32_7 : BitVec 32 := 1#32
  let c0_i32_8 : BitVec 32 := 0#32
  ![c1_i32_5.toNat, v17.toNat, c0_i32_6.toNat, c1_i32_7.toNat]

def cc0_transform_4 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg1
  let c0_i32 : BitVec 32 := 0#32
  let c0_i32_0 : BitVec 32 := 0#32
  ![c0_i32.toNat, v0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S1024x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x1x1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]

abbrev stage0_3 : Fin 1 → Memref sig .tc .vmem S1x1x1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, false]

abbrev stage0_4 : Fin 2 → Memref sig .tc .vmem S2048x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1024x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== AttnProjCtxReferenceIdeal.lean ====
abbrev S1024x2048 : Shape := ⟨2, ![1024, 2048]⟩
abbrev S2048 : Shape := ⟨1, ![2048]⟩
abbrev S2x8x1x12288 : Shape := ⟨4, ![2, 8, 1, 12288]⟩
abbrev S2048x3072 : Shape := ⟨2, ![2048, 3072]⟩
abbrev S1x1x1x12288 : Shape := ⟨4, ![1, 1, 1, 12288]⟩
abbrev S1x1x12288 : Shape := ⟨3, ![1, 1, 12288]⟩
abbrev S1x1x2048 : Shape := ⟨3, ![1, 1, 2048]⟩
abbrev S4x256x2048 : Shape := ⟨3, ![4, 256, 2048]⟩
abbrev S_ : Shape := ⟨0, ![]⟩
abbrev S4x256 : Shape := ⟨2, ![4, 256]⟩
abbrev S4x256x1 : Shape := ⟨3, ![4, 256, 1]⟩
abbrev S4x256x3072 : Shape := ⟨3, ![4, 256, 3072]⟩
abbrev S4x256x512 : Shape := ⟨3, ![4, 256, 512]⟩
abbrev S4x256x1024 : Shape := ⟨3, ![4, 256, 1024]⟩
abbrev S1024x1024 : Shape := ⟨2, ![1024, 1024]⟩

abbrev nBuf : Space → Nat
  | .hbm => 44
  | .vmem => 0
  | .smem => 0
  | _ => 0

abbrev bufTy : (tb : Table) → Fin (tcTables nBuf tb) → BufTy
  | .hbm, ⟨0, _⟩ => ⟨S1024x2048, .f32⟩
  | .hbm, ⟨1, _⟩ => ⟨S2048, .f32⟩
  | .hbm, ⟨2, _⟩ => ⟨S2x8x1x12288, .f32⟩
  | .hbm, ⟨3, _⟩ => ⟨S2048x3072, .bf16⟩
  | .hbm, ⟨4, _⟩ => ⟨S1x1x1x12288, .f32⟩
  | .hbm, ⟨5, _⟩ => ⟨S1x1x12288, .f32⟩
  | .hbm, ⟨6, _⟩ => ⟨S1x1x2048, .f32⟩
  | .hbm, ⟨7, _⟩ => ⟨S1x1x2048, .f32⟩
  | .hbm, ⟨8, _⟩ => ⟨S1x1x2048, .f32⟩
  | .hbm, ⟨9, _⟩ => ⟨S1x1x2048, .f32⟩
  | .hbm, ⟨10, _⟩ => ⟨S1x1x2048, .f32⟩
  | .hbm, ⟨11, _⟩ => ⟨S1x1x2048, .f32⟩
  | .hbm, ⟨12, _⟩ => ⟨S4x256x2048, .f32⟩
  | .hbm, ⟨13, _⟩ => ⟨S4x256x2048, .f32⟩
  | .hbm, ⟨14, _⟩ => ⟨S_, .f32⟩
  | .hbm, ⟨15, _⟩ => ⟨S4x256, .f32⟩
  | .hbm, ⟨16, _⟩ => ⟨S4x256x1, .f32⟩
  | .hbm, ⟨17, _⟩ => ⟨S_, .f32⟩
  | .hbm, ⟨18, _⟩ => ⟨S4x256x1, .f32⟩
  | .hbm, ⟨19, _⟩ => ⟨S4x256x1, .f32⟩
  | .hbm, ⟨20, _⟩ => ⟨S_, .f32⟩
  | .hbm, ⟨21, _⟩ => ⟨S4x256x1, .f32⟩
  | .hbm, ⟨22, _⟩ => ⟨S4x256x1, .f32⟩
  | .hbm, ⟨23, _⟩ => ⟨S4x256x1, .f32⟩
  | .hbm, ⟨24, _⟩ => ⟨S4x256x2048, .f32⟩
  | .hbm, ⟨25, _⟩ => ⟨S4x256x2048, .f32⟩
  | .hbm, ⟨26, _⟩ => ⟨S1x1x2048, .f32⟩
  | .hbm, ⟨27, _⟩ => ⟨S4x256x2048, .f32⟩
  | .hbm, ⟨28, _⟩ => ⟨S4x256x2048, .f32⟩
  | .hbm, ⟨29, _⟩ => ⟨S_, .f32⟩
  | .hbm, ⟨30, _⟩ => ⟨S1x1x2048, .f32⟩
  | .hbm, ⟨31, _⟩ => ⟨S1x1x2048, .f32⟩
  | .hbm, ⟨32, _⟩ => ⟨S4x256x2048, .f32⟩
  | .hbm, ⟨33, _⟩ => ⟨S4x256x2048, .f32⟩
  | .hbm, ⟨34, _⟩ => ⟨S4x256x2048, .f32⟩
  | .hbm, ⟨35, _⟩ => ⟨S4x256x2048, .f32⟩
  | .hbm, ⟨36, _⟩ => ⟨S2048x3072, .f32⟩
  | .hbm, ⟨37, _⟩ => ⟨S4x256x3072, .f32⟩
  | .hbm, ⟨38, _⟩ => ⟨S4x256x2048, .f32⟩
  | .hbm, ⟨39, _⟩ => ⟨S4x256x512, .f32⟩
  | .hbm, ⟨40, _⟩ => ⟨S4x256x512, .f32⟩
  | .hbm, ⟨41, _⟩ => ⟨S4x256x1024, .f32⟩
  | .hbm, ⟨42, _⟩ => ⟨S1024x1024, .f32⟩
  | .hbm, ⟨43, _⟩ => ⟨S1024x1024, .bf16⟩
  | _, _ => ⟨S1024x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst : Ref sig .tc := ⟨.hbm, 14, rfl⟩
abbrev main_v10 : Ref sig .tc := ⟨.hbm, 15, rfl⟩
abbrev main_v11 : Ref sig .tc := ⟨.hbm, 16, rfl⟩
abbrev main_cst_0 : Ref sig .tc := ⟨.hbm, 17, rfl⟩
abbrev main_v12 : Ref sig .tc := ⟨.hbm, 18, rfl⟩
abbrev main_v13 : Ref sig .tc := ⟨.hbm, 19, rfl⟩
abbrev main_cst_1 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_cst_2 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩

abbrev nD : Nat := 1
abbrev τ : Topo := Topo.v7x

variable {F : FTy → Type} [FloatOps F]
-- ==== Ada.lean ====
abbrev S8x2048 : Shape := ⟨2, ![8, 2048]⟩
abbrev S2x2048x12288 : Shape := ⟨3, ![2, 2048, 12288]⟩
abbrev S2x12288 : Shape := ⟨2, ![2, 12288]⟩
abbrev S2x1x12288 : Shape := ⟨3, ![2, 1, 12288]⟩
abbrev S2x8x12288 : Shape := ⟨3, ![2, 8, 12288]⟩
abbrev S1x2048x1024 : Shape := ⟨3, ![1, 2048, 1024]⟩
abbrev S1x1x1024 : Shape := ⟨3, ![1, 1, 1024]⟩
abbrev S1x8x1024 : Shape := ⟨3, ![1, 8, 1024]⟩
abbrev S2048x1024 : Shape := ⟨2, ![2048, 1024]⟩
abbrev S8x1024 : Shape := ⟨2, ![8, 1024]⟩
abbrev S1x1024 : Shape := ⟨2, ![1, 1024]⟩

abbrev nBuf : Space → Nat
  | .hbm => 5
  | .vmem => 7
  | .smem => 0
  | _ => 0

abbrev bufTy : (tb : Table) → Fin (tcTables nBuf tb) → BufTy
  | .hbm, ⟨0, _⟩ => ⟨S8x2048, .f32⟩
  | .hbm, ⟨1, _⟩ => ⟨S2x2048x12288, .f32⟩
  | .hbm, ⟨2, _⟩ => ⟨S2x12288, .f32⟩
  | .hbm, ⟨3, _⟩ => ⟨S2x1x12288, .f32⟩
  | .hbm, ⟨4, _⟩ => ⟨S2x8x12288, .f32⟩
  | .local _ .vmem, ⟨0, _⟩ => ⟨S8x2048, .f32⟩
  | .local _ .vmem, ⟨1, _⟩ => ⟨S1x2048x1024, .f32⟩
  | .local _ .vmem, ⟨2, _⟩ => ⟨S1x2048x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x8x1024, .f32⟩
  | .local _ .vmem, ⟨6, _⟩ => ⟨S1x8x1024, .f32⟩
  | _, _ => ⟨S8x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![2, 12], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 1 → Memref sig .tc .vmem S8x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x8x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== AdaReferenceIdeal.lean ====
abbrev S8x2048 : Shape := ⟨2, ![8, 2048]⟩
abbrev S2x2048x12288 : Shape := ⟨3, ![2, 2048, 12288]⟩
abbrev S2x12288 : Shape := ⟨2, ![2, 12288]⟩
abbrev S_ : Shape := ⟨0, ![]⟩
abbrev S1x2048x12288 : Shape := ⟨3, ![1, 2048, 12288]⟩
abbrev S2048x12288 : Shape := ⟨2, ![2048, 12288]⟩
abbrev S8x12288 : Shape := ⟨2, ![8, 12288]⟩
abbrev S1x12288 : Shape := ⟨2, ![1, 12288]⟩
abbrev S12288 : Shape := ⟨1, ![12288]⟩
abbrev S1x8x12288 : Shape := ⟨3, ![1, 8, 12288]⟩
abbrev S2x8x12288 : Shape := ⟨3, ![2, 8, 12288]⟩

abbrev nBuf : Space → Nat
  | .hbm => 31
  | .vmem => 0
  | .smem => 0
  | _ => 0

abbrev bufTy : (tb : Table) → Fin (tcTables nBuf tb) → BufTy
  | .hbm, ⟨0, _⟩ => ⟨S8x2048, .f32⟩
  | .hbm, ⟨1, _⟩ => ⟨S2x2048x12288, .f32⟩
  | .hbm, ⟨2, _⟩ => ⟨S2x12288, .f32⟩
  | .hbm, ⟨3, _⟩ => ⟨S8x2048, .f32⟩
  | .hbm, ⟨4, _⟩ => ⟨S8x2048, .f32⟩
  | .hbm, ⟨5, _⟩ => ⟨S_, .f32⟩
  | .hbm, ⟨6, _⟩ => ⟨S8x2048, .f32⟩
  | .hbm, ⟨7, _⟩ => ⟨S8x2048, .f32⟩
  | .hbm, ⟨8, _⟩ => ⟨S_, .f32⟩
  | .hbm, ⟨9, _⟩ => ⟨S8x2048, .f32⟩
  | .hbm, ⟨10, _⟩ => ⟨S8x2048, .f32⟩
  | .hbm, ⟨11, _⟩ => ⟨S8x2048, .f32⟩
  | .hbm, ⟨12, _⟩ => ⟨S1x2048x12288, .f32⟩
  | .hbm, ⟨13, _⟩ => ⟨S2048x12288, .f32⟩
  | .hbm, ⟨14, _⟩ => ⟨S8x12288, .f32⟩
  | .hbm, ⟨15, _⟩ => ⟨S1x12288, .f32⟩
  | .hbm, ⟨16, _⟩ => ⟨S12288, .f32⟩
  | .hbm, ⟨17, _⟩ => ⟨S1x12288, .f32⟩
  | .hbm, ⟨18, _⟩ => ⟨S8x12288, .f32⟩
  | .hbm, ⟨19, _⟩ => ⟨S8x12288, .f32⟩
  | .hbm, ⟨20, _⟩ => ⟨S1x2048x12288, .f32⟩
  | .hbm, ⟨21, _⟩ => ⟨S2048x12288, .f32⟩
  | .hbm, ⟨22, _⟩ => ⟨S8x12288, .f32⟩
  | .hbm, ⟨23, _⟩ => ⟨S1x12288, .f32⟩
  | .hbm, ⟨24, _⟩ => ⟨S12288, .f32⟩
  | .hbm, ⟨25, _⟩ => ⟨S1x12288, .f32⟩
  | .hbm, ⟨26, _⟩ => ⟨S8x12288, .f32⟩
  | .hbm, ⟨27, _⟩ => ⟨S8x12288, .f32⟩
  | .hbm, ⟨28, _⟩ => ⟨S1x8x12288, .f32⟩
  | .hbm, ⟨29, _⟩ => ⟨S1x8x12288, .f32⟩
  | .hbm, ⟨30, _⟩ => ⟨S2x8x12288, .f32⟩
  | _, _ => ⟨S8x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩

abbrev nD : Nat := 1
abbrev τ : Topo := Topo.v7x

variable {F : FTy → Type} [FloatOps F]
-- ==== RetCtx.lean ====
abbrev S1024x12288 : Shape := ⟨2, ![1024, 12288]⟩
abbrev S8 : Shape := ⟨1, ![8]⟩
abbrev S_ : Shape := ⟨0, ![]⟩
abbrev S4x8x256x512 : Shape := ⟨4, ![4, 8, 256, 512]⟩
abbrev S1024x4096 : Shape := ⟨2, ![1024, 4096]⟩
abbrev S256x256 : Shape := ⟨2, ![256, 256]⟩
abbrev S256x512 : Shape := ⟨2, ![256, 512]⟩
abbrev S1x1x256x512 : Shape := ⟨4, ![1, 1, 256, 512]⟩
abbrev S1 : Shape := ⟨1, ![1]⟩
abbrev S256x1 : Shape := ⟨2, ![256, 1]⟩
abbrev S1x1 : Shape := ⟨2, ![1, 1]⟩
abbrev S256 : Shape := ⟨1, ![256]⟩

abbrev nBuf : Space → Nat
  | .hbm => 8
  | .vmem => 21
  | .smem => 2
  | _ => 0

abbrev bufTy : (tb : Table) → Fin (tcTables nBuf tb) → BufTy
  | .hbm, ⟨0, _⟩ => ⟨S1024x12288, .bf16⟩
  | .hbm, ⟨1, _⟩ => ⟨S8, .f32⟩
  | .hbm, ⟨2, _⟩ => ⟨S8, .f32⟩
  | .hbm, ⟨3, _⟩ => ⟨S_, .f32⟩
  | .hbm, ⟨4, _⟩ => ⟨S4x8x256x512, .f32⟩
  | .hbm, ⟨5, _⟩ => ⟨S1024x4096, .bf16⟩
  | .hbm, ⟨6, _⟩ => ⟨S4x8x256x512, .f32⟩
  | .hbm, ⟨7, _⟩ => ⟨S4x8x256x512, .f32⟩
  | .local _ .vmem, ⟨0, _⟩ => ⟨S256x256, .bf16⟩
  | .local _ .vmem, ⟨1, _⟩ => ⟨S256x256, .bf16⟩
  | .local _ .vmem, ⟨2, _⟩ => ⟨S256x256, .bf16⟩
  | .local _ .vmem, ⟨3, _⟩ => ⟨S256x256, .bf16⟩
  | .local _ .vmem, ⟨4, _⟩ => ⟨S256x512, .bf16⟩
  | .local _ .vmem, ⟨5, _⟩ => ⟨S256x512, .bf16⟩
  | .local _ .vmem, ⟨6, _⟩ => ⟨S256x512, .bf16⟩
  | .local _ .vmem, ⟨7, _⟩ => ⟨S256x512, .bf16⟩
  | .local _ .vmem, ⟨8, _⟩ => ⟨S1x1x256x512, .f32⟩
  | .local _ .vmem, ⟨9, _⟩ => ⟨S1x1x256x512, .f32⟩
  | .local _ .vmem, ⟨10, _⟩ => ⟨S1x1x256x512, .f32⟩
  | .local _ .vmem, ⟨11, _⟩ => ⟨S1x1x256x512, .f32⟩
  | .local _ .vmem, ⟨12, _⟩ => ⟨S256x512, .bf16⟩
  | .local _ .vmem, ⟨13, _⟩ => ⟨S256x512, .bf16⟩
  | .local _ .vmem, ⟨14, _⟩ => ⟨S1x1x256x512, .f32⟩
  | .local _ .vmem, ⟨15, _⟩ => ⟨S1x1x256x512, .f32⟩
  | .local _ .vmem, ⟨16, _⟩ => ⟨S1x1x256x512, .f32⟩
  | .local _ .vmem, ⟨17, _⟩ => ⟨S1x1x256x512, .f32⟩
  | .local _ .vmem, ⟨18, _⟩ => ⟨S256x512, .f32⟩
  | .local _ .vmem, ⟨19, _⟩ => ⟨S256x512, .f32⟩
  | .local _ .vmem, ⟨20, _⟩ => ⟨S256x512, .f32⟩
  | .local _ .smem, ⟨0, _⟩ => ⟨S8, .f32⟩
  | .local _ .smem, ⟨1, _⟩ => ⟨S8, .f32⟩
  | _, _ => ⟨S1024x12288, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev cc0_stg2_0 : Ref sig .tc := ⟨.vmem, 0, rfl⟩
abbrev cc0_stg2_1 : Ref sig .tc := ⟨.vmem, 1, rfl⟩
abbrev cc0_stg3_0 : Ref sig .tc := ⟨.vmem, 2, rfl⟩
abbrev cc0_stg3_1 : Ref sig .tc := ⟨.vmem, 3, rfl⟩
abbrev cc0_stg4_0 : Ref sig .tc := ⟨.vmem, 4, rfl⟩
abbrev cc0_stg4_1 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_scratch0 : Ref sig .tc := ⟨.vmem, 18, rfl⟩
abbrev cc0_scratch1 : Ref sig .tc := ⟨.vmem, 19, rfl⟩
abbrev cc0_scratch2 : Ref sig .tc := ⟨.vmem, 20, rfl⟩
abbrev cc0_stg0_0 : Ref sig .tc := ⟨.smem, 0, rfl⟩
abbrev cc0_stg1_0 : Ref sig .tc := ⟨.smem, 1, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19

abbrev nD : Nat := 1
abbrev τ : Topo := Topo.v7x

variable {F : FTy → Type} [FloatOps F]

abbrev grid0 : Pipeline.Grid := ⟨2, ![4, 8], ![false, false]⟩

def k0_off1 (i : grid0.Coords) : Fin 1 → Nat :=
  let arg1 : BitVec 32 := BitVec.ofNat 32 (i 1).val
  let v0 : Index := Scalar.indexCast arg1
  ![v0.toNat]
def k0_mult1 : BitVec 32 :=
  let c0_i32 : BitVec 32 := 0#32
  let c256_i32 : BitVec 32 := 256#32
  let v116 : BitVec 32 := Scalar.muli c0_i32 c256_i32
  v116
def k0_off2 : Fin 2 → Nat :=
  let c0_i32 : BitVec 32 := 0#32
  let c256_i32 : BitVec 32 := 256#32
  let v116 : BitVec 32 := Scalar.muli c0_i32 c256_i32
  let v117 : BitVec 32 := v116
  let v118 : Index := Scalar.indexCast v117
  let c0_28 : Index := 0#32
  ![v118.toNat, 0]
def k0_off3 : Fin 2 → Nat :=
  let c0_i32 : BitVec 32 := 0#32
  let c256_i32 : BitVec 32 := 256#32
  let v116 : BitVec 32 := Scalar.muli c0_i32 c256_i32
  let v117 : BitVec 32 := v116
  let v122 : Index := Scalar.indexCast v117
  let c0_30 : Index := 0#32
  ![v122.toNat, 0]
def k0_mult2 : BitVec 32 :=
  let c0_i32_51 : BitVec 32 := 0#32
  let c0_i32_50 : BitVec 32 := 0#32
  let v153 : BitVec 32 := Scalar.subi c0_i32_51 c0_i32_50
  let c256_i32_52 : BitVec 32 := 256#32
  let v154 : BitVec 32 := Scalar.muli v153 c256_i32_52
  v154
def k0_off4 : Fin 2 → Nat :=
  let c0_i32_51 : BitVec 32 := 0#32
  let c0_i32_50 : BitVec 32 := 0#32
  let v153 : BitVec 32 := Scalar.subi c0_i32_51 c0_i32_50
  let c256_i32_52 : BitVec 32 := 256#32
  let v154 : BitVec 32 := Scalar.muli v153 c256_i32_52
  let v155 : BitVec 32 := v154
  let v156 : Index := Scalar.indexCast v155
  let c0_53 : Index := 0#32
  ![v156.toNat, 0]
def k0_off5 : Fin 2 → Nat :=
  let c0_i32_51 : BitVec 32 := 0#32
  let c0_i32_50 : BitVec 32 := 0#32
  let v153 : BitVec 32 := Scalar.subi c0_i32_51 c0_i32_50
  let c256_i32_52 : BitVec 32 := 256#32
  let v154 : BitVec 32 := Scalar.muli v153 c256_i32_52
  let v155 : BitVec 32 := v154
  let v160 : Index := Scalar.indexCast v155
  let c0_55 : Index := 0#32
  ![v160.toNat, 0]
def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg1
  let c0_i32 : BitVec 32 := 0#32
  ![arg0.toNat, v0.toNat]

def cc0_transform_4 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg1
  let c0_i32 : BitVec 32 := 0#32
  ![arg0.toNat, v0.toNat]

def cc0_transform_5 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg1
  let c0_i32 : BitVec 32 := 0#32
  ![arg0.toNat, v0.toNat]

def cc0_transform_6 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_7 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_9 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_10 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 1 → Memref sig .tc .smem S8 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 1 → Memref sig .tc .smem S8 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S256x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S256x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x1x256x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x1x256x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S256x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x1x256x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x1x256x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== RetCtxReferenceIdeal.lean ====
abbrev S1024x12288 : Shape := ⟨2, ![1024, 12288]⟩
abbrev S8 : Shape := ⟨1, ![8]⟩
abbrev S4x256x12288 : Shape := ⟨3, ![4, 256, 12288]⟩
abbrev S4x256x2048 : Shape := ⟨3, ![4, 256, 2048]⟩
abbrev S4x256x4096 : Shape := ⟨3, ![4, 256, 4096]⟩
abbrev S4x256x8x256 : Shape := ⟨4, ![4, 256, 8, 256]⟩
abbrev S4x256x8x512 : Shape := ⟨4, ![4, 256, 8, 512]⟩
abbrev S_ : Shape := ⟨0, ![]⟩
abbrev S4x8x256x512 : Shape := ⟨4, ![4, 8, 256, 512]⟩
abbrev S128 : Shape := ⟨1, ![128]⟩
abbrev S128x1 : Shape := ⟨2, ![128, 1]⟩
abbrev S1x128 : Shape := ⟨2, ![1, 128]⟩
abbrev S128x128 : Shape := ⟨2, ![128, 128]⟩
abbrev S8x1x1 : Shape := ⟨3, ![8, 1, 1]⟩
abbrev S1x128x128 : Shape := ⟨3, ![1, 128, 128]⟩
abbrev S8x128x128 : Shape := ⟨3, ![8, 128, 128]⟩
abbrev S8x1 : Shape := ⟨2, ![8, 1]⟩
abbrev S8x128 : Shape := ⟨2, ![8, 128]⟩
abbrev S1x8x128x1 : Shape := ⟨4, ![1, 8, 128, 1]⟩
abbrev S1x8x1x1 : Shape := ⟨4, ![1, 8, 1, 1]⟩
abbrev S4x2x128x8x256 : Shape := ⟨5, ![4, 2, 128, 8, 256]⟩
abbrev S2x4x8x128x256 : Shape := ⟨5, ![2, 4, 8, 128, 256]⟩
abbrev S4x2x128x8x512 : Shape := ⟨5, ![4, 2, 128, 8, 512]⟩
abbrev S2x4x8x128x512 : Shape := ⟨5, ![2, 4, 8, 128, 512]⟩
abbrev S1x4x8x128x256 : Shape := ⟨5, ![1, 4, 8, 128, 256]⟩
abbrev S4x8x128x256 : Shape := ⟨4, ![4, 8, 128, 256]⟩
abbrev S1x4x8x128x512 : Shape := ⟨5, ![1, 4, 8, 128, 512]⟩
abbrev S4x8x128x512 : Shape := ⟨4, ![4, 8, 128, 512]⟩
abbrev S4x8x128x128 : Shape := ⟨4, ![4, 8, 128, 128]⟩
abbrev S1x8x128x128 : Shape := ⟨4, ![1, 8, 128, 128]⟩
abbrev S4x256x8 : Shape := ⟨3, ![4, 256, 8]⟩
abbrev S4x256x8x1 : Shape := ⟨4, ![4, 256, 8, 1]⟩
abbrev S1024x4096 : Shape := ⟨2, ![1024, 4096]⟩

abbrev nBuf : Space → Nat
  | .hbm => 279
  | .vmem => 0
  | .smem => 0
  | _ => 0

abbrev hbmTy0_0 (i : Nat) : BufTy := match i % 128 with
  | 0 => ⟨S1024x12288, .bf16⟩
  | 1 => ⟨S8, .f32⟩
  | 2 => ⟨S8, .f32⟩
  | 3 => ⟨S1024x12288, .f32⟩
  | 4 => ⟨S4x256x12288, .f32⟩
  | 5 => ⟨S4x256x2048, .f32⟩
  | 6 => ⟨S4x256x2048, .f32⟩
  | 7 => ⟨S4x256x4096, .f32⟩
  | 8 => ⟨S4x256x4096, .f32⟩
  | 9 => ⟨S4x256x8x256, .f32⟩
  | 10 => ⟨S4x256x8x256, .f32⟩
  | 11 => ⟨S4x256x8x512, .f32⟩
  | 12 => ⟨S8, .f32⟩
  | 13 => ⟨S_, .f32⟩
  | 14 => ⟨S8, .f32⟩
  | 15 => ⟨S8, .f32⟩
  | 16 => ⟨S8, .f32⟩
  | 17 => ⟨S8, .f32⟩
  | 18 => ⟨S8, .i1⟩
  | 19 => ⟨S8, .f32⟩
  | 20 => ⟨S8, .f32⟩
  | 21 => ⟨S8, .f32⟩
  | 22 => ⟨S8, .f32⟩
  | 23 => ⟨S8, .f32⟩
  | 24 => ⟨S8, .f32⟩
  | 25 => ⟨S8, .f32⟩
  | 26 => ⟨S8, .f32⟩
  | 27 => ⟨S8, .f32⟩
  | 28 => ⟨S8, .f32⟩
  | 29 => ⟨S_, .f32⟩
  | 30 => ⟨S8, .f32⟩
  | 31 => ⟨S8, .f32⟩
  | 32 => ⟨S8, .f32⟩
  | 33 => ⟨S8, .f32⟩
  | 34 => ⟨S8, .i1⟩
  | 35 => ⟨S8, .f32⟩
  | 36 => ⟨S8, .f32⟩
  | 37 => ⟨S8, .f32⟩
  | 38 => ⟨S8, .f32⟩
  | 39 => ⟨S8, .f32⟩
  | 40 => ⟨S8, .f32⟩
  | 41 => ⟨S8, .f32⟩
  | 42 => ⟨S8, .f32⟩
  | 43 => ⟨S8, .f32⟩
  | 44 => ⟨S_, .f32⟩
  | 45 => ⟨S4x8x256x512, .f32⟩
  | 46 => ⟨S128, .f32⟩
  | 47 => ⟨S128x1, .f32⟩
  | 48 => ⟨S1x128, .f32⟩
  | 49 => ⟨S128x128, .f32⟩
  | 50 => ⟨S128x128, .f32⟩
  | 51 => ⟨S128x128, .f32⟩
  | 52 => ⟨S_, .f32⟩
  | 53 => ⟨S128x128, .f32⟩
  | 54 => ⟨S128x128, .i1⟩
  | 55 => ⟨S8x1x1, .f32⟩
  | 56 => ⟨S_, .f32⟩
  | 57 => ⟨S128x128, .f32⟩
  | 58 => ⟨S128x128, .f32⟩
  | 59 => ⟨S1x128x128, .f32⟩
  | 60 => ⟨S8x128x128, .f32⟩
  | 61 => ⟨S8x128x128, .f32⟩
  | 62 => ⟨S8x128x128, .f32⟩
  | 63 => ⟨S8x128x128, .f32⟩
  | 64 => ⟨S_, .f32⟩
  | 65 => ⟨S_, .f32⟩
  | 66 => ⟨S8x128x128, .i1⟩
  | 67 => ⟨S8x128x128, .f32⟩
  | 68 => ⟨S8x128x128, .f32⟩
  | 69 => ⟨S8x1, .f32⟩
  | 70 => ⟨S_, .f32⟩
  | 71 => ⟨S128, .f32⟩
  | 72 => ⟨S128, .f32⟩
  | 73 => ⟨S1x128, .f32⟩
  | 74 => ⟨S8x128, .f32⟩
  | 75 => ⟨S8x128, .f32⟩
  | 76 => ⟨S8x128, .f32⟩
  | 77 => ⟨S8x128, .f32⟩
  | 78 => ⟨S1x8x128x1, .f32⟩
  | 79 => ⟨S8x1, .f32⟩
  | 80 => ⟨S_, .f32⟩
  | 81 => ⟨S128, .f32⟩
  | 82 => ⟨S128, .f32⟩
  | 83 => ⟨S1x128, .f32⟩
  | 84 => ⟨S8x128, .f32⟩
  | 85 => ⟨S8x128, .f32⟩
  | 86 => ⟨S8x128, .f32⟩
  | 87 => ⟨S8x128, .f32⟩
  | 88 => ⟨S1x8x128x1, .f32⟩
  | 89 => ⟨S_, .f32⟩
  | 90 => ⟨S8, .f32⟩
  | 91 => ⟨S8, .f32⟩
  | 92 => ⟨S8, .f32⟩
  | 93 => ⟨S1x8x1x1, .f32⟩
  | 94 => ⟨S4x2x128x8x256, .f32⟩
  | 95 => ⟨S2x4x8x128x256, .f32⟩
  | 96 => ⟨S4x2x128x8x256, .f32⟩
  | 97 => ⟨S2x4x8x128x256, .f32⟩
  | 98 => ⟨S4x2x128x8x512, .f32⟩
  | 99 => ⟨S2x4x8x128x512, .f32⟩
  | 100 => ⟨S1x4x8x128x256, .f32⟩
  | 101 => ⟨S4x8x128x256, .f32⟩
  | 102 => ⟨S1x4x8x128x256, .f32⟩
  | 103 => ⟨S4x8x128x256, .f32⟩
  | 104 => ⟨S1x4x8x128x512, .f32⟩
  | 105 => ⟨S4x8x128x512, .f32⟩
  | 106 => ⟨S4x8x128x128, .f32⟩
  | 107 => ⟨S1x8x128x128, .f32⟩
  | 108 => ⟨S4x8x128x128, .f32⟩
  | 109 => ⟨S4x8x128x128, .f32⟩
  | 110 => ⟨S4x8x128x512, .f32⟩
  | 111 => ⟨S4x8x128x512, .f32⟩
  | 112 => ⟨S4x8x128x512, .f32⟩
  | 113 => ⟨S4x8x128x512, .f32⟩
  | 114 => ⟨S4x8x128x512, .f32⟩
  | 115 => ⟨S4x8x256x512, .f32⟩
  | 116 => ⟨S4x8x256x512, .f32⟩
  | 117 => ⟨S4x8x128x256, .f32⟩
  | 118 => ⟨S4x8x128x256, .f32⟩
  | 119 => ⟨S4x8x256x512, .f32⟩
  | 120 => ⟨S4x8x256x512, .f32⟩
  | 121 => ⟨S1x4x8x128x256, .f32⟩
  | 122 => ⟨S4x8x128x256, .f32⟩
  | 123 => ⟨S1x4x8x128x256, .f32⟩
  | 124 => ⟨S4x8x128x256, .f32⟩
  | 125 => ⟨S1x4x8x128x512, .f32⟩
  | 126 => ⟨S4x8x128x512, .f32⟩
  | 127 => ⟨S4x8x128x128, .f32⟩
  | _ => ⟨S1024x12288, .bf16⟩

abbrev hbmTy0_1 (i : Nat) : BufTy := match i % 128 with
  | 0 => ⟨S1x8x128x128, .f32⟩
  | 1 => ⟨S4x8x128x128, .f32⟩
  | 2 => ⟨S4x8x128x128, .f32⟩
  | 3 => ⟨S4x8x128x512, .f32⟩
  | 4 => ⟨S4x8x128x512, .f32⟩
  | 5 => ⟨S4x8x128x512, .f32⟩
  | 6 => ⟨S4x8x128x512, .f32⟩
  | 7 => ⟨S4x8x128x512, .f32⟩
  | 8 => ⟨S4x8x256x512, .f32⟩
  | 9 => ⟨S4x8x256x512, .f32⟩
  | 10 => ⟨S4x8x128x256, .f32⟩
  | 11 => ⟨S4x8x128x256, .f32⟩
  | 12 => ⟨S4x8x256x512, .f32⟩
  | 13 => ⟨S4x8x256x512, .f32⟩
  | 14 => ⟨S1x4x8x128x512, .f32⟩
  | 15 => ⟨S1x4x8x128x512, .f32⟩
  | 16 => ⟨S2x4x8x128x512, .f32⟩
  | 17 => ⟨S4x2x128x8x512, .f32⟩
  | 18 => ⟨S4x256x8x512, .f32⟩
  | 19 => ⟨S4x256x8x256, .f32⟩
  | 20 => ⟨S4x256x8x256, .f32⟩
  | 21 => ⟨S4x256x8x512, .f32⟩
  | 22 => ⟨S128, .f32⟩
  | 23 => ⟨S128x1, .f32⟩
  | 24 => ⟨S1x128, .f32⟩
  | 25 => ⟨S128x128, .f32⟩
  | 26 => ⟨S128x128, .f32⟩
  | 27 => ⟨S128x128, .f32⟩
  | 28 => ⟨S_, .f32⟩
  | 29 => ⟨S128x128, .f32⟩
  | 30 => ⟨S128x128, .i1⟩
  | 31 => ⟨S8x1x1, .f32⟩
  | 32 => ⟨S_, .f32⟩
  | 33 => ⟨S128x128, .f32⟩
  | 34 => ⟨S128x128, .f32⟩
  | 35 => ⟨S1x128x128, .f32⟩
  | 36 => ⟨S8x128x128, .f32⟩
  | 37 => ⟨S8x128x128, .f32⟩
  | 38 => ⟨S8x128x128, .f32⟩
  | 39 => ⟨S8x128x128, .f32⟩
  | 40 => ⟨S_, .f32⟩
  | 41 => ⟨S_, .f32⟩
  | 42 => ⟨S8x128x128, .i1⟩
  | 43 => ⟨S8x128x128, .f32⟩
  | 44 => ⟨S8x128x128, .f32⟩
  | 45 => ⟨S8x1, .f32⟩
  | 46 => ⟨S_, .f32⟩
  | 47 => ⟨S128, .f32⟩
  | 48 => ⟨S128, .f32⟩
  | 49 => ⟨S1x128, .f32⟩
  | 50 => ⟨S8x128, .f32⟩
  | 51 => ⟨S8x128, .f32⟩
  | 52 => ⟨S8x128, .f32⟩
  | 53 => ⟨S8x128, .f32⟩
  | 54 => ⟨S1x8x128x1, .f32⟩
  | 55 => ⟨S8x1, .f32⟩
  | 56 => ⟨S_, .f32⟩
  | 57 => ⟨S128, .f32⟩
  | 58 => ⟨S128, .f32⟩
  | 59 => ⟨S1x128, .f32⟩
  | 60 => ⟨S8x128, .f32⟩
  | 61 => ⟨S8x128, .f32⟩
  | 62 => ⟨S8x128, .f32⟩
  | 63 => ⟨S8x128, .f32⟩
  | 64 => ⟨S1x8x128x1, .f32⟩
  | 65 => ⟨S_, .f32⟩
  | 66 => ⟨S8, .f32⟩
  | 67 => ⟨S8, .f32⟩
  | 68 => ⟨S8, .f32⟩
  | 69 => ⟨S1x8x1x1, .f32⟩
  | 70 => ⟨S4x2x128x8x256, .f32⟩
  | 71 => ⟨S2x4x8x128x256, .f32⟩
  | 72 => ⟨S4x2x128x8x256, .f32⟩
  | 73 => ⟨S2x4x8x128x256, .f32⟩
  | 74 => ⟨S4x2x128x8x512, .f32⟩
  | 75 => ⟨S2x4x8x128x512, .f32⟩
  | 76 => ⟨S1x4x8x128x256, .f32⟩
  | 77 => ⟨S4x8x128x256, .f32⟩
  | 78 => ⟨S1x4x8x128x256, .f32⟩
  | 79 => ⟨S4x8x128x256, .f32⟩
  | 80 => ⟨S1x4x8x128x512, .f32⟩
  | 81 => ⟨S4x8x128x512, .f32⟩
  | 82 => ⟨S4x8x128x128, .f32⟩
  | 83 => ⟨S1x8x128x128, .f32⟩
  | 84 => ⟨S4x8x128x128, .f32⟩
  | 85 => ⟨S4x8x128x128, .f32⟩
  | 86 => ⟨S4x8x128x512, .f32⟩
  | 87 => ⟨S4x8x128x512, .f32⟩
  | 88 => ⟨S4x8x128x512, .f32⟩
  | 89 => ⟨S4x8x128x512, .f32⟩
  | 90 => ⟨S4x8x128x512, .f32⟩
  | 91 => ⟨S4x8x256x512, .f32⟩
  | 92 => ⟨S4x8x256x512, .f32⟩
  | 93 => ⟨S4x8x128x256, .f32⟩
  | 94 => ⟨S4x8x128x256, .f32⟩
  | 95 => ⟨S4x8x256x512, .f32⟩
  | 96 => ⟨S4x8x256x512, .f32⟩
  | 97 => ⟨S1x4x8x128x256, .f32⟩
  | 98 => ⟨S4x8x128x256, .f32⟩
  | 99 => ⟨S1x4x8x128x256, .f32⟩
  | 100 => ⟨S4x8x128x256, .f32⟩
  | 101 => ⟨S1x4x8x128x512, .f32⟩
  | 102 => ⟨S4x8x128x512, .f32⟩
  | 103 => ⟨S4x8x128x128, .f32⟩
  | 104 => ⟨S1x8x128x128, .f32⟩
  | 105 => ⟨S4x8x128x128, .f32⟩
  | 106 => ⟨S4x8x128x128, .f32⟩
  | 107 => ⟨S4x8x128x512, .f32⟩
  | 108 => ⟨S4x8x128x512, .f32⟩
  | 109 => ⟨S4x8x128x512, .f32⟩
  | 110 => ⟨S4x8x128x512, .f32⟩
  | 111 => ⟨S4x8x128x512, .f32⟩
  | 112 => ⟨S4x8x256x512, .f32⟩
  | 113 => ⟨S4x8x256x512, .f32⟩
  | 114 => ⟨S4x8x128x256, .f32⟩
  | 115 => ⟨S4x8x128x256, .f32⟩
  | 116 => ⟨S4x8x256x512, .f32⟩
  | 117 => ⟨S4x8x256x512, .f32⟩
  | 118 => ⟨S1x4x8x128x512, .f32⟩
  | 119 => ⟨S1x4x8x128x512, .f32⟩
  | 120 => ⟨S2x4x8x128x512, .f32⟩
  | 121 => ⟨S4x2x128x8x512, .f32⟩
  | 122 => ⟨S4x256x8x512, .f32⟩
  | 123 => ⟨S4x256x8x512, .f32⟩
  | 124 => ⟨S4x256x8x512, .f32⟩
  | 125 => ⟨S4x256x8x512, .f32⟩
  | 126 => ⟨S_, .f32⟩
  | 127 => ⟨S4x256x8, .f32⟩
  | _ => ⟨S1024x12288, .bf16⟩

abbrev hbmTy0_2 (i : Nat) : BufTy := match i % 128 with
  | 0 => ⟨S4x256x8x1, .f32⟩
  | 1 => ⟨S_, .f32⟩
  | 2 => ⟨S4x256x8x1, .f32⟩
  | 3 => ⟨S4x256x8x1, .f32⟩
  | 4 => ⟨S_, .f32⟩
  | 5 => ⟨S4x256x8x1, .f32⟩
  | 6 => ⟨S4x256x8x1, .f32⟩
  | 7 => ⟨S4x256x8x1, .f32⟩
  | 8 => ⟨S4x256x8x512, .f32⟩
  | 9 => ⟨S4x256x8x512, .f32⟩
  | 10 => ⟨S4x256x4096, .f32⟩
  | 11 => ⟨S4x256x4096, .f32⟩
  | 12 => ⟨S_, .f32⟩
  | 13 => ⟨S4x256x4096, .f32⟩
  | 14 => ⟨S4x256x4096, .f32⟩
  | 15 => ⟨S_, .f32⟩
  | 16 => ⟨S4x256x4096, .f32⟩
  | 17 => ⟨S4x256x4096, .f32⟩
  | 18 => ⟨S4x256x4096, .f32⟩
  | 19 => ⟨S4x256x4096, .f32⟩
  | 20 => ⟨S4x256x4096, .f32⟩
  | 21 => ⟨S1024x4096, .f32⟩
  | 22 => ⟨S1024x4096, .bf16⟩
  | _ => ⟨S1024x12288, .bf16⟩

abbrev hbmTy (i : Nat) : BufTy := match i / 128 with
  | 0 => hbmTy0_0 i
  | 1 => hbmTy0_1 i
  | 2 => hbmTy0_2 i
  | _ => ⟨S1024x12288, .bf16⟩

abbrev bufTy : (tb : Table) → Fin (tcTables nBuf tb) → BufTy
  | .hbm, ⟨i, _⟩ => hbmTy i
  | _, _ => ⟨S1024x12288, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_call0_v0 : Ref sig .tc := ⟨.hbm, 12, rfl⟩
abbrev main_call0_call0_cst : Ref sig .tc := ⟨.hbm, 13, rfl⟩
abbrev main_call0_call0_v0 : Ref sig .tc := ⟨.hbm, 14, rfl⟩
abbrev main_call0_call0_v1 : Ref sig .tc := ⟨.hbm, 15, rfl⟩
abbrev main_call0_call0_v2 : Ref sig .tc := ⟨.hbm, 16, rfl⟩
abbrev main_call0_call0_v3 : Ref sig .tc := ⟨.hbm, 17, rfl⟩
abbrev main_call0_call0_v4 : Ref sig .tc := ⟨.hbm, 18, rfl⟩
abbrev main_call0_call0_v5 : Ref sig .tc := ⟨.hbm, 19, rfl⟩
abbrev main_call0_call0_v6 : Ref sig .tc := ⟨.hbm, 20, rfl⟩
abbrev main_call0_call0_v7 : Ref sig .tc := ⟨.hbm, 21, rfl⟩
abbrev main_call0_call0_v8 : Ref sig .tc := ⟨.hbm, 22, rfl⟩
abbrev main_call0_call0_v9 : Ref sig .tc := ⟨.hbm, 23, rfl⟩
abbrev main_call0_call0_v10 : Ref sig .tc := ⟨.hbm, 24, rfl⟩
abbrev main_call0_call0_v11 : Ref sig .tc := ⟨.hbm, 25, rfl⟩
abbrev main_call0_v1 : Ref sig .tc := ⟨.hbm, 26, rfl⟩
abbrev main_v9 : Ref sig .tc := ⟨.hbm, 27, rfl⟩
abbrev main_call1_v0 : Ref sig .tc := ⟨.hbm, 28, rfl⟩
abbrev main_call1_call0_cst : Ref sig .tc := ⟨.hbm, 29, rfl⟩
abbrev main_call1_call0_v0 : Ref sig .tc := ⟨.hbm, 30, rfl⟩
abbrev main_call1_call0_v1 : Ref sig .tc := ⟨.hbm, 31, rfl⟩
abbrev main_call1_call0_v2 : Ref sig .tc := ⟨.hbm, 32, rfl⟩
abbrev main_call1_call0_v3 : Ref sig .tc := ⟨.hbm, 33, rfl⟩
abbrev main_call1_call0_v4 : Ref sig .tc := ⟨.hbm, 34, rfl⟩
abbrev main_call1_call0_v5 : Ref sig .tc := ⟨.hbm, 35, rfl⟩
abbrev main_call1_call0_v6 : Ref sig .tc := ⟨.hbm, 36, rfl⟩
abbrev main_call1_call0_v7 : Ref sig .tc := ⟨.hbm, 37, rfl⟩
abbrev main_call1_call0_v8 : Ref sig .tc := ⟨.hbm, 38, rfl⟩
abbrev main_call1_call0_v9 : Ref sig .tc := ⟨.hbm, 39, rfl⟩
abbrev main_call1_call0_v10 : Ref sig .tc := ⟨.hbm, 40, rfl⟩
abbrev main_call1_call0_v11 : Ref sig .tc := ⟨.hbm, 41, rfl⟩
abbrev main_call1_v1 : Ref sig .tc := ⟨.hbm, 42, rfl⟩
abbrev main_v10 : Ref sig .tc := ⟨.hbm, 43, rfl⟩
abbrev main_cst : Ref sig .tc := ⟨.hbm, 44, rfl⟩
abbrev main_v11 : Ref sig .tc := ⟨.hbm, 45, rfl⟩
abbrev main_v12 : Ref sig .tc := ⟨.hbm, 46, rfl⟩
abbrev main_v13 : Ref sig .tc := ⟨.hbm, 47, rfl⟩
abbrev main_v14 : Ref sig .tc := ⟨.hbm, 48, rfl⟩
abbrev main_v15 : Ref sig .tc := ⟨.hbm, 49, rfl⟩
abbrev main_v16 : Ref sig .tc := ⟨.hbm, 50, rfl⟩
abbrev main_v17 : Ref sig .tc := ⟨.hbm, 51, rfl⟩
abbrev main_cst_0 : Ref sig .tc := ⟨.hbm, 52, rfl⟩
abbrev main_v18 : Ref sig .tc := ⟨.hbm, 53, rfl⟩
abbrev main_v19 : Ref sig .tc := ⟨.hbm, 54, rfl⟩
abbrev main_v20 : Ref sig .tc := ⟨.hbm, 55, rfl⟩
abbrev main_cst_1 : Ref sig .tc := ⟨.hbm, 56, rfl⟩
abbrev main_v21 : Ref sig .tc := ⟨.hbm, 57, rfl⟩
abbrev main_v22 : Ref sig .tc := ⟨.hbm, 58, rfl⟩
abbrev main_v23 : Ref sig .tc := ⟨.hbm, 59, rfl⟩
abbrev main_v24 : Ref sig .tc := ⟨.hbm, 60, rfl⟩
abbrev main_v25 : Ref sig .tc := ⟨.hbm, 61, rfl⟩
abbrev main_v26 : Ref sig .tc := ⟨.hbm, 62, rfl⟩
abbrev main_v27 : Ref sig .tc := ⟨.hbm, 63, rfl⟩
abbrev main_cst_2 : Ref sig .tc := ⟨.hbm, 64, rfl⟩
abbrev main_call2_v0 : Ref sig .tc := ⟨.hbm, 65, rfl⟩
abbrev main_call2_v1 : Ref sig .tc := ⟨.hbm, 66, rfl⟩
abbrev main_call2_v2 : Ref sig .tc := ⟨.hbm, 67, rfl⟩
abbrev main_v28 : Ref sig .tc := ⟨.hbm, 68, rfl⟩
abbrev main_v29 : Ref sig .tc := ⟨.hbm, 69, rfl⟩
abbrev main_cst_3 : Ref sig .tc := ⟨.hbm, 70, rfl⟩
abbrev main_v30 : Ref sig .tc := ⟨.hbm, 71, rfl⟩
abbrev main_v31 : Ref sig .tc := ⟨.hbm, 72, rfl⟩
abbrev main_v32 : Ref sig .tc := ⟨.hbm, 73, rfl⟩
abbrev main_v33 : Ref sig .tc := ⟨.hbm, 74, rfl⟩
abbrev main_v34 : Ref sig .tc := ⟨.hbm, 75, rfl⟩
abbrev main_v35 : Ref sig .tc := ⟨.hbm, 76, rfl⟩
abbrev main_v36 : Ref sig .tc := ⟨.hbm, 77, rfl⟩
abbrev main_v37 : Ref sig .tc := ⟨.hbm, 78, rfl⟩
abbrev main_v38 : Ref sig .tc := ⟨.hbm, 79, rfl⟩
abbrev main_cst_4 : Ref sig .tc := ⟨.hbm, 80, rfl⟩
abbrev main_v39 : Ref sig .tc := ⟨.hbm, 81, rfl⟩
abbrev main_v40 : Ref sig .tc := ⟨.hbm, 82, rfl⟩
abbrev main_v41 : Ref sig .tc := ⟨.hbm, 83, rfl⟩
abbrev main_v42 : Ref sig .tc := ⟨.hbm, 84, rfl⟩
abbrev main_v43 : Ref sig .tc := ⟨.hbm, 85, rfl⟩
abbrev main_v44 : Ref sig .tc := ⟨.hbm, 86, rfl⟩
abbrev main_v45 : Ref sig .tc := ⟨.hbm, 87, rfl⟩
abbrev main_v46 : Ref sig .tc := ⟨.hbm, 88, rfl⟩
abbrev main_cst_5 : Ref sig .tc := ⟨.hbm, 89, rfl⟩
abbrev main_v47 : Ref sig .tc := ⟨.hbm, 90, rfl⟩
abbrev main_v48 : Ref sig .tc := ⟨.hbm, 91, rfl⟩
abbrev main_v49 : Ref sig .tc := ⟨.hbm, 92, rfl⟩
abbrev main_v50 : Ref sig .tc := ⟨.hbm, 93, rfl⟩
abbrev main_v51 : Ref sig .tc := ⟨.hbm, 94, rfl⟩
abbrev main_v52 : Ref sig .tc := ⟨.hbm, 95, rfl⟩
abbrev main_v53 : Ref sig .tc := ⟨.hbm, 96, rfl⟩
abbrev main_v54 : Ref sig .tc := ⟨.hbm, 97, rfl⟩
abbrev main_v55 : Ref sig .tc := ⟨.hbm, 98, rfl⟩
abbrev main_v56 : Ref sig .tc := ⟨.hbm, 99, rfl⟩
abbrev main_v57 : Ref sig .tc := ⟨.hbm, 100, rfl⟩
abbrev main_v58 : Ref sig .tc := ⟨.hbm, 101, rfl⟩
abbrev main_v59 : Ref sig .tc := ⟨.hbm, 102, rfl⟩
abbrev main_v60 : Ref sig .tc := ⟨.hbm, 103, rfl⟩
abbrev main_v61 : Ref sig .tc := ⟨.hbm, 104, rfl⟩
abbrev main_v62 : Ref sig .tc := ⟨.hbm, 105, rfl⟩
abbrev main_v63 : Ref sig .tc := ⟨.hbm, 106, rfl⟩
abbrev main_v64 : Ref sig .tc := ⟨.hbm, 107, rfl⟩
abbrev main_v65 : Ref sig .tc := ⟨.hbm, 108, rfl⟩
abbrev main_v66 : Ref sig .tc := ⟨.hbm, 109, rfl⟩
abbrev main_v67 : Ref sig .tc := ⟨.hbm, 110, rfl⟩
abbrev main_v68 : Ref sig .tc := ⟨.hbm, 111, rfl⟩
abbrev main_v69 : Ref sig .tc := ⟨.hbm, 112, rfl⟩
abbrev main_v70 : Ref sig .tc := ⟨.hbm, 113, rfl⟩
abbrev main_v71 : Ref sig .tc := ⟨.hbm, 114, rfl⟩
abbrev main_v72 : Ref sig .tc := ⟨.hbm, 115, rfl⟩
abbrev main_v73 : Ref sig .tc := ⟨.hbm, 116, rfl⟩
abbrev main_v74 : Ref sig .tc := ⟨.hbm, 117, rfl⟩
abbrev main_v75 : Ref sig .tc := ⟨.hbm, 118, rfl⟩
abbrev main_v76 : Ref sig .tc := ⟨.hbm, 119, rfl⟩
abbrev main_v77 : Ref sig .tc := ⟨.hbm, 120, rfl⟩
abbrev main_v78 : Ref sig .tc := ⟨.hbm, 121, rfl⟩
abbrev main_v79 : Ref sig .tc := ⟨.hbm, 122, rfl⟩
abbrev main_v80 : Ref sig .tc := ⟨.hbm, 123, rfl⟩
abbrev main_v81 : Ref sig .tc := ⟨.hbm, 124, rfl⟩
abbrev main_v82 : Ref sig .tc := ⟨.hbm, 125, rfl⟩
abbrev main_v83 : Ref sig .tc := ⟨.hbm, 126, rfl⟩
abbrev main_v84 : Ref sig .tc := ⟨.hbm, 127, rfl⟩
abbrev main_v85 : Ref sig .tc := ⟨.hbm, 128, rfl⟩
abbrev main_v86 : Ref sig .tc := ⟨.hbm, 129, rfl⟩
abbrev main_v87 : Ref sig .tc := ⟨.hbm, 130, rfl⟩
abbrev main_v88 : Ref sig .tc := ⟨.hbm, 131, rfl⟩
abbrev main_v89 : Ref sig .tc := ⟨.hbm, 132, rfl⟩
abbrev main_v90 : Ref sig .tc := ⟨.hbm, 133, rfl⟩
abbrev main_v91 : Ref sig .tc := ⟨.hbm, 134, rfl⟩
abbrev main_v92 : Ref sig .tc := ⟨.hbm, 135, rfl⟩
abbrev main_v93 : Ref sig .tc := ⟨.hbm, 136, rfl⟩
abbrev main_v94 : Ref sig .tc := ⟨.hbm, 137, rfl⟩
abbrev main_v95 : Ref sig .tc := ⟨.hbm, 138, rfl⟩
abbrev main_v96 : Ref sig .tc := ⟨.hbm, 139, rfl⟩
abbrev main_v97 : Ref sig .tc := ⟨.hbm, 140, rfl⟩
abbrev main_v98 : Ref sig .tc := ⟨.hbm, 141, rfl⟩
abbrev main_v99 : Ref sig .tc := ⟨.hbm, 142, rfl⟩
abbrev main_v100 : Ref sig .tc := ⟨.hbm, 143, rfl⟩
abbrev main_v101 : Ref sig .tc := ⟨.hbm, 144, rfl⟩
abbrev main_v102 : Ref sig .tc := ⟨.hbm, 145, rfl⟩
abbrev main_v103 : Ref sig .tc := ⟨.hbm, 146, rfl⟩
abbrev main_v104 : Ref sig .tc := ⟨.hbm, 147, rfl⟩
abbrev main_v105 : Ref sig .tc := ⟨.hbm, 148, rfl⟩
abbrev main_v106 : Ref sig .tc := ⟨.hbm, 149, rfl⟩
abbrev main_v107 : Ref sig .tc := ⟨.hbm, 150, rfl⟩
abbrev main_v108 : Ref sig .tc := ⟨.hbm, 151, rfl⟩
abbrev main_v109 : Ref sig .tc := ⟨.hbm, 152, rfl⟩
abbrev main_v110 : Ref sig .tc := ⟨.hbm, 153, rfl⟩
abbrev main_v111 : Ref sig .tc := ⟨.hbm, 154, rfl⟩
abbrev main_v112 : Ref sig .tc := ⟨.hbm, 155, rfl⟩
abbrev main_cst_6 : Ref sig .tc := ⟨.hbm, 156, rfl⟩
abbrev main_v113 : Ref sig .tc := ⟨.hbm, 157, rfl⟩
abbrev main_v114 : Ref sig .tc := ⟨.hbm, 158, rfl⟩
abbrev main_v115 : Ref sig .tc := ⟨.hbm, 159, rfl⟩
abbrev main_cst_7 : Ref sig .tc := ⟨.hbm, 160, rfl⟩
abbrev main_v116 : Ref sig .tc := ⟨.hbm, 161, rfl⟩
abbrev main_v117 : Ref sig .tc := ⟨.hbm, 162, rfl⟩
abbrev main_v118 : Ref sig .tc := ⟨.hbm, 163, rfl⟩
abbrev main_v119 : Ref sig .tc := ⟨.hbm, 164, rfl⟩
abbrev main_v120 : Ref sig .tc := ⟨.hbm, 165, rfl⟩
abbrev main_v121 : Ref sig .tc := ⟨.hbm, 166, rfl⟩
abbrev main_v122 : Ref sig .tc := ⟨.hbm, 167, rfl⟩
abbrev main_cst_8 : Ref sig .tc := ⟨.hbm, 168, rfl⟩
abbrev main_call6_v0 : Ref sig .tc := ⟨.hbm, 169, rfl⟩
abbrev main_call6_v1 : Ref sig .tc := ⟨.hbm, 170, rfl⟩
abbrev main_call6_v2 : Ref sig .tc := ⟨.hbm, 171, rfl⟩
abbrev main_v123 : Ref sig .tc := ⟨.hbm, 172, rfl⟩
abbrev main_v124 : Ref sig .tc := ⟨.hbm, 173, rfl⟩
abbrev main_cst_9 : Ref sig .tc := ⟨.hbm, 174, rfl⟩
abbrev main_v125 : Ref sig .tc := ⟨.hbm, 175, rfl⟩
abbrev main_v126 : Ref sig .tc := ⟨.hbm, 176, rfl⟩
abbrev main_v127 : Ref sig .tc := ⟨.hbm, 177, rfl⟩
abbrev main_v128 : Ref sig .tc := ⟨.hbm, 178, rfl⟩
abbrev main_v129 : Ref sig .tc := ⟨.hbm, 179, rfl⟩
abbrev main_v130 : Ref sig .tc := ⟨.hbm, 180, rfl⟩
abbrev main_v131 : Ref sig .tc := ⟨.hbm, 181, rfl⟩
abbrev main_v132 : Ref sig .tc := ⟨.hbm, 182, rfl⟩
abbrev main_v133 : Ref sig .tc := ⟨.hbm, 183, rfl⟩
abbrev main_cst_10 : Ref sig .tc := ⟨.hbm, 184, rfl⟩
abbrev main_v134 : Ref sig .tc := ⟨.hbm, 185, rfl⟩
abbrev main_v135 : Ref sig .tc := ⟨.hbm, 186, rfl⟩
abbrev main_v136 : Ref sig .tc := ⟨.hbm, 187, rfl⟩
abbrev main_v137 : Ref sig .tc := ⟨.hbm, 188, rfl⟩
abbrev main_v138 : Ref sig .tc := ⟨.hbm, 189, rfl⟩
abbrev main_v139 : Ref sig .tc := ⟨.hbm, 190, rfl⟩
abbrev main_v140 : Ref sig .tc := ⟨.hbm, 191, rfl⟩
abbrev main_v141 : Ref sig .tc := ⟨.hbm, 192, rfl⟩
abbrev main_cst_11 : Ref sig .tc := ⟨.hbm, 193, rfl⟩
abbrev main_v142 : Ref sig .tc := ⟨.hbm, 194, rfl⟩
abbrev main_v143 : Ref sig .tc := ⟨.hbm, 195, rfl⟩
abbrev main_v144 : Ref sig .tc := ⟨.hbm, 196, rfl⟩
abbrev main_v145 : Ref sig .tc := ⟨.hbm, 197, rfl⟩
abbrev main_v146 : Ref sig .tc := ⟨.hbm, 198, rfl⟩
abbrev main_v147 : Ref sig .tc := ⟨.hbm, 199, rfl⟩
abbrev main_v148 : Ref sig .tc := ⟨.hbm, 200, rfl⟩
abbrev main_v149 : Ref sig .tc := ⟨.hbm, 201, rfl⟩
abbrev main_v150 : Ref sig .tc := ⟨.hbm, 202, rfl⟩
abbrev main_v151 : Ref sig .tc := ⟨.hbm, 203, rfl⟩
abbrev main_v152 : Ref sig .tc := ⟨.hbm, 204, rfl⟩
abbrev main_v153 : Ref sig .tc := ⟨.hbm, 205, rfl⟩
abbrev main_v154 : Ref sig .tc := ⟨.hbm, 206, rfl⟩
abbrev main_v155 : Ref sig .tc := ⟨.hbm, 207, rfl⟩
abbrev main_v156 : Ref sig .tc := ⟨.hbm, 208, rfl⟩
abbrev main_v157 : Ref sig .tc := ⟨.hbm, 209, rfl⟩
abbrev main_v158 : Ref sig .tc := ⟨.hbm, 210, rfl⟩
abbrev main_v159 : Ref sig .tc := ⟨.hbm, 211, rfl⟩
abbrev main_v160 : Ref sig .tc := ⟨.hbm, 212, rfl⟩
abbrev main_v161 : Ref sig .tc := ⟨.hbm, 213, rfl⟩
abbrev main_v162 : Ref sig .tc := ⟨.hbm, 214, rfl⟩
abbrev main_v163 : Ref sig .tc := ⟨.hbm, 215, rfl⟩
abbrev main_v164 : Ref sig .tc := ⟨.hbm, 216, rfl⟩
abbrev main_v165 : Ref sig .tc := ⟨.hbm, 217, rfl⟩
abbrev main_v166 : Ref sig .tc := ⟨.hbm, 218, rfl⟩
abbrev main_v167 : Ref sig .tc := ⟨.hbm, 219, rfl⟩
abbrev main_v168 : Ref sig .tc := ⟨.hbm, 220, rfl⟩
abbrev main_v169 : Ref sig .tc := ⟨.hbm, 221, rfl⟩
abbrev main_v170 : Ref sig .tc := ⟨.hbm, 222, rfl⟩
abbrev main_v171 : Ref sig .tc := ⟨.hbm, 223, rfl⟩
abbrev main_v172 : Ref sig .tc := ⟨.hbm, 224, rfl⟩
abbrev main_v173 : Ref sig .tc := ⟨.hbm, 225, rfl⟩
abbrev main_v174 : Ref sig .tc := ⟨.hbm, 226, rfl⟩
abbrev main_v175 : Ref sig .tc := ⟨.hbm, 227, rfl⟩
abbrev main_v176 : Ref sig .tc := ⟨.hbm, 228, rfl⟩
abbrev main_v177 : Ref sig .tc := ⟨.hbm, 229, rfl⟩
abbrev main_v178 : Ref sig .tc := ⟨.hbm, 230, rfl⟩
abbrev main_v179 : Ref sig .tc := ⟨.hbm, 231, rfl⟩
abbrev main_v180 : Ref sig .tc := ⟨.hbm, 232, rfl⟩
abbrev main_v181 : Ref sig .tc := ⟨.hbm, 233, rfl⟩
abbrev main_v182 : Ref sig .tc := ⟨.hbm, 234, rfl⟩
abbrev main_v183 : Ref sig .tc := ⟨.hbm, 235, rfl⟩
abbrev main_v184 : Ref sig .tc := ⟨.hbm, 236, rfl⟩
abbrev main_v185 : Ref sig .tc := ⟨.hbm, 237, rfl⟩
abbrev main_v186 : Ref sig .tc := ⟨.hbm, 238, rfl⟩
abbrev main_v187 : Ref sig .tc := ⟨.hbm, 239, rfl⟩
abbrev main_v188 : Ref sig .tc := ⟨.hbm, 240, rfl⟩
abbrev main_v189 : Ref sig .tc := ⟨.hbm, 241, rfl⟩
abbrev main_v190 : Ref sig .tc := ⟨.hbm, 242, rfl⟩
abbrev main_v191 : Ref sig .tc := ⟨.hbm, 243, rfl⟩
abbrev main_v192 : Ref sig .tc := ⟨.hbm, 244, rfl⟩
abbrev main_v193 : Ref sig .tc := ⟨.hbm, 245, rfl⟩
abbrev main_v194 : Ref sig .tc := ⟨.hbm, 246, rfl⟩
abbrev main_v195 : Ref sig .tc := ⟨.hbm, 247, rfl⟩
abbrev main_v196 : Ref sig .tc := ⟨.hbm, 248, rfl⟩
abbrev main_v197 : Ref sig .tc := ⟨.hbm, 249, rfl⟩
abbrev main_v198 : Ref sig .tc := ⟨.hbm, 250, rfl⟩
abbrev main_v199 : Ref sig .tc := ⟨.hbm, 251, rfl⟩
abbrev main_v200 : Ref sig .tc := ⟨.hbm, 252, rfl⟩
abbrev main_v201 : Ref sig .tc := ⟨.hbm, 253, rfl⟩
abbrev main_cst_12 : Ref sig .tc := ⟨.hbm, 254, rfl⟩
abbrev main_v202 : Ref sig .tc := ⟨.hbm, 255, rfl⟩
abbrev main_v203 : Ref sig .tc := ⟨.hbm, 256, rfl⟩
abbrev main_cst_13 : Ref sig .tc := ⟨.hbm, 257, rfl⟩
abbrev main_v204 : Ref sig .tc := ⟨.hbm, 258, rfl⟩
abbrev main_v205 : Ref sig .tc := ⟨.hbm, 259, rfl⟩
abbrev main_cst_14 : Ref sig .tc := ⟨.hbm, 260, rfl⟩
abbrev main_v206 : Ref sig .tc := ⟨.hbm, 261, rfl⟩
abbrev main_v207 : Ref sig .tc := ⟨.hbm, 262, rfl⟩
abbrev main_v208 : Ref sig .tc := ⟨.hbm, 263, rfl⟩
abbrev main_v209 : Ref sig .tc := ⟨.hbm, 264, rfl⟩
abbrev main_v210 : Ref sig .tc := ⟨.hbm, 265, rfl⟩
abbrev main_call8_v0 : Ref sig .tc := ⟨.hbm, 266, rfl⟩
abbrev main_call8_v1 : Ref sig .tc := ⟨.hbm, 267, rfl⟩
abbrev main_call8_cst : Ref sig .tc := ⟨.hbm, 268, rfl⟩
abbrev main_call8_v2 : Ref sig .tc := ⟨.hbm, 269, rfl⟩
abbrev main_call8_v3 : Ref sig .tc := ⟨.hbm, 270, rfl⟩
abbrev main_call8_cst_0 : Ref sig .tc := ⟨.hbm, 271, rfl⟩
abbrev main_call8_v4 : Ref sig .tc := ⟨.hbm, 272, rfl⟩
abbrev main_call8_v5 : Ref sig .tc := ⟨.hbm, 273, rfl⟩
abbrev main_v211 : Ref sig .tc := ⟨.hbm, 274, rfl⟩
abbrev main_v212 : Ref sig .tc := ⟨.hbm, 275, rfl⟩
abbrev main_v213 : Ref sig .tc := ⟨.hbm, 276, rfl⟩
abbrev main_v214 : Ref sig .tc := ⟨.hbm, 277, rfl⟩
abbrev main_v215 : Ref sig .tc := ⟨.hbm, 278, rfl⟩

abbrev nD : Nat := 1
abbrev τ : Topo := Topo.v7x

variable {F : FTy → Type} [FloatOps F]
-- ==== Proof.Core.lean ====
module

public import Idealize.ShloMosaic.Lib.Pointwise

@[expose] public section

/-! Softmax attention of one query over finitely many keys, with a sink, on the extended reals. -/

set_option maxRecDepth 16384

noncomputable section

namespace Cert.Core

open Idealize.ShloMosaic

/-- The largest of the scores and the sink's score. -/
def top {n : ℕ} (s : Fin n → EReal) (z : EReal) : EReal := max (Finset.univ.fold max ⊥ s) z

/-- The attention of one query: scores `s`, one column of the values `v`, sink score `z`. -/
def att {n : ℕ} (s v : Fin n → EReal) (z : EReal) : EReal :=
  Ideal.div (∑ k, Ideal.exp (s k - top s z) * v k)
    ((∑ k, Ideal.exp (s k - top s z)) + Ideal.exp (z - top s z))

/-- A score of `-∞` weighs nothing. -/
theorem exp_bot_sub (x : EReal) : Ideal.exp (⊥ - x) = 0 := by
  rw [EReal.bot_sub, Ideal.exp_bot]

/-- The values of masked keys do not matter. -/
theorem att_congr {n : ℕ} {s s' v v' : Fin n → EReal} {z z' : EReal} (hs : ∀ k, s k = s' k) (hz : z = z')
    (hv : ∀ k, s' k ≠ ⊥ → v k = v' k) : att s v z = att s' v' z' := by
  obtain rfl : s = s' := funext hs
  subst hz
  unfold att
  refine congrArg₂ _ (Finset.sum_congr rfl fun k _ => ?_) rfl
  by_cases h : s k = ⊥
  · rw [h, exp_bot_sub, zero_mul, zero_mul]
  · rw [hv k h]

/-- The largest score over two runs of keys is the larger of the two runs' largest. -/
theorem fold_split (a b : ℕ) (s : Fin (a + b) → EReal) :
    Finset.univ.fold max ⊥ s
      = max (Finset.univ.fold max ⊥ fun k : Fin a => s (Fin.castAdd b k))
          (Finset.univ.fold max ⊥ fun k : Fin b => s (Fin.natAdd a k)) := by
  have key : ∀ {n : ℕ} (f : Fin n → EReal), Finset.univ.fold max ⊥ f = Finset.univ.sup f := fun f => rfl
  rw [key, key, key]
  apply le_antisymm
  · refine Finset.sup_le fun k _ => ?_
    refine Fin.addCases (fun i => ?_) (fun i => ?_) k
    · exact le_max_of_le_left (Finset.le_sup (f := fun k : Fin a => s (Fin.castAdd b k)) (Finset.mem_univ i))
    · exact le_max_of_le_right (Finset.le_sup (f := fun k : Fin b => s (Fin.natAdd a k)) (Finset.mem_univ i))
  · refine max_le (Finset.sup_le fun k _ => ?_) (Finset.sup_le fun k _ => ?_) <;>
      exact Finset.le_sup (f := s) (Finset.mem_univ _)

/-- Attention over two runs of keys kept apart: one maximum and one denominator for both, two sums of values. -/
theorem att_split (a b : ℕ) (s v : Fin (a + b) → EReal) (z : EReal) (s₁ v₁ : Fin a → EReal) (s₂ v₂ : Fin b → EReal)
    (h₁ : ∀ k, s (Fin.castAdd b k) = s₁ k) (h₂ : ∀ k, s (Fin.natAdd a k) = s₂ k)
    (w₁ : ∀ k, v (Fin.castAdd b k) = v₁ k) (w₂ : ∀ k, v (Fin.natAdd a k) = v₂ k) (M : EReal)
    (hM : M = max (max (Finset.univ.fold max ⊥ s₁) (Finset.univ.fold max ⊥ s₂)) z) :
    att s v z = Ideal.div ((∑ k, Ideal.exp (s₁ k - M) * v₁ k) + ∑ k, Ideal.exp (s₂ k - M) * v₂ k)
      (((∑ k, Ideal.exp (s₁ k - M)) + ∑ k, Ideal.exp (s₂ k - M)) + Ideal.exp (z - M)) := by
  have hT : top s z = M := by
    rw [hM, top, fold_split a b s]
    simp only [h₁, h₂]
  unfold att
  rw [hT, Fin.sum_univ_add, Fin.sum_univ_add]
  simp only [h₁, h₂, w₁, w₂]

/-- Key `j` of the 640 of block `n` is seen by query `q` of the block: the band of the three blocks around, inside
the sequence, and every context key. -/
def seen (n q j : ℕ) : Prop := ((q ≤ j ∧ j ≤ q + 256) ∧ (128 ≤ j ∨ 0 < n) ∧ (j < 256 ∨ n < 31)) ∨ 384 ≤ j

instance (n q j : ℕ) : Decidable (seen n q j) := by unfold seen; infer_instance

/-- The projected rows: queries, keys and values side by side. -/
abbrev SA : Shape := ⟨2, ![16384, 3072]⟩
/-- The projected context rows: keys and values side by side. -/
abbrev SC : Shape := ⟨2, ![1024, 1024]⟩
/-- The sinks, one per head. -/
abbrev SZ : Shape := ⟨1, ![16]⟩

/-- The row holding key `j < 384` of block `n` of sequence `b`. -/
def krow (b n j : ℕ) : Fin 16384 := ⟨(b * 4096 + (n * 128 + j - 128)) % 16384, Nat.mod_lt _ (by decide)⟩

/-- The context row holding key `j ≥ 384` of sequence `b`. -/
def crow (b j : ℕ) : Fin 1024 := ⟨(b * 256 + (j - 384)) % 1024, Nat.mod_lt _ (by decide)⟩

/-- One entry of the keys (or values) the block `n` of sequence `b` attends to. -/
def kv (A : SA.Idx → EReal) (C : SC.Idx → EReal) (b n j : ℕ) (ca : Fin 3072) (cc : Fin 1024) : EReal :=
  if j < 384 then A (ix2 (krow b n j) ca) else C (ix2 (crow b j) cc)

/-- A key of the three blocks, under any spelling of its place. -/
theorem kv_row (A : SA.Idx → EReal) (C : SC.Idx → EReal) (b n j : ℕ) (ca : Fin 3072) (cc : Fin 1024) (j' : ℕ) (ca' : Fin 3072)
    (h : j < 384) (hj : j' = j) (hc : ca'.val = ca.val) : A (ix2 (krow b n j') ca') = kv A C b n j ca cc := by
  obtain rfl := hj
  obtain rfl := Fin.ext hc
  exact (if_pos h).symm

/-- A context key, under any spelling of its place. -/
theorem kv_ctx (A : SA.Idx → EReal) (C : SC.Idx → EReal) (b n j : ℕ) (ca : Fin 3072) (cc : Fin 1024) (j' : ℕ) (cc' : Fin 1024)
    (h : ¬ j < 384) (hj : j' = j) (hc : cc'.val = cc.val) : C (ix2 (crow b j') cc') = kv A C b n j ca cc := by
  obtain rfl := hj
  obtain rfl := Fin.ext hc
  exact (if_neg h).symm

/-- The scores' factor. -/
def scale : EReal := Ideal.ofBits .f32 0x3DB504F3#32

/-- The attention's result in row `r`, head `h`, lane `d`. -/
def cell (A : SA.Idx → EReal) (C : SC.Idx → EReal) (Z : SZ.Idx → EReal) (r : Fin 16384) (h : Fin 16) (d : Fin 128) : EReal :=
  att (fun j : Fin 640 => if seen (r.val % 4096 / 128) (r.val % 128) j.val then
      (∑ e : Fin 128, A (ix2 r ⟨h.val * 128 + e.val, by omega⟩)
        * kv A C (r.val / 4096) (r.val % 4096 / 128) j.val ⟨2048 + (h.val / 4 * 128 + e.val), by omega⟩
            ⟨h.val / 4 * 128 + e.val, by omega⟩) * scale
      else ⊥)
    (fun j => kv A C (r.val / 4096) (r.val % 4096 / 128) j.val ⟨2560 + (h.val / 4 * 128 + d.val), by omega⟩
      ⟨512 + (h.val / 4 * 128 + d.val), by omega⟩)
    (Z (ix1 h))

end Cert.Core

end

end
-- ==== Proof.Words.lean ====
module

public import proofs.«01_k».proof.Proof.Core

@[expose] public section

/-! The comparisons of words a window's mask is built from. -/

set_option maxRecDepth 16384

namespace Cert.Core

open Idealize.ShloMosaic

/-- The distance test on one offset word. -/
theorem dist_word : ∀ e : Fin 768, IntOp.cmpi .sle (IntOp.absi (BitVec.ofNat 32 e.val - 256#32)) 128#32
    = BitVec.ofBool (decide (128 ≤ e.val ∧ e.val ≤ 384)) := by decide +kernel

/-- The distance test of key `j` and query `q`. -/
theorem near_word (j : Fin 640) (q : ℕ) (hq : q < 128) :
    IntOp.cmpi .sle (IntOp.absi (IntOp.subi (IntOp.subi (BitVec.ofNat 32 j.val) 128#32) (BitVec.ofNat 32 q))) 128#32
      = BitVec.ofBool (decide (q ≤ j.val ∧ j.val ≤ q + 256)) := by
  have hw : IntOp.subi (IntOp.subi (BitVec.ofNat 32 j.val) 128#32) (BitVec.ofNat 32 q)
      = BitVec.ofNat 32 (j.val + 128 - q) - 256#32 := by
    have hj := j.isLt
    show BitVec.ofNat 32 j.val - 128#32 - BitVec.ofNat 32 q = _
    apply BitVec.eq_of_toNat_eq
    simp only [BitVec.toNat_sub, BitVec.toNat_ofNat]
    omega
  rw [hw]
  have h := dist_word ⟨j.val + 128 - q, by omega⟩
  rw [h]
  congr 2
  refine propext ⟨fun h => ?_, fun h => ?_⟩ <;> (dsimp only at h ⊢; omega)

/-- Conjunction of condition bits. -/
theorem andi_bool (a b : Bool) : IntOp.andi (BitVec.ofBool a) (BitVec.ofBool b) = BitVec.ofBool (a && b) := by
  cases a <;> cases b <;> rfl

/-- Disjunction of condition bits. -/
theorem ori_bool (a b : Bool) : IntOp.ori (BitVec.ofBool a) (BitVec.ofBool b) = BitVec.ofBool (a || b) := by
  cases a <;> cases b <;> rfl

/-- A choice by a condition bit. -/
theorem select_bool (a : Bool) (x y : EReal) : Scalar.select (BitVec.ofBool a) x y = if a = true then x else y := by
  cases a <;> rfl

/-- The tests whether a key's position, counted from one block early, lies in the sequence. -/
theorem inside_word : ∀ p : Fin 4480,
    IntOp.cmpi .sge (BitVec.ofNat 32 p.val - 128#32) 0#32 = BitVec.ofBool (decide (128 ≤ p.val))
    ∧ IntOp.cmpi .slt (BitVec.ofNat 32 p.val - 128#32) 4096#32 = BitVec.ofBool (decide (p.val < 4224)) := by decide +kernel

/-- The position word of key `j` of block `n`. -/
theorem position_word (n j : ℕ) (hn : n < 32) (hj : j < 384) :
    IntOp.addi (IntOp.muli (IntOp.subi (BitVec.ofNat 32 n) 1#32) 128#32) (BitVec.ofNat 32 j) = BitVec.ofNat 32 (n * 128 + j) - 128#32 := by
  show (BitVec.ofNat 32 n - 1#32) * 128#32 + BitVec.ofNat 32 j = _
  apply BitVec.eq_of_toNat_eq
  simp only [BitVec.toNat_sub, BitVec.toNat_ofNat, BitVec.toNat_add, BitVec.toNat_mul]
  omega

end Cert.Core

end
-- ==== Proof.Pay.lean ====
module

public import proofs.«01_k».proof.Proof.Words
public import proofs.«01_k».proof.Proof.Gen.KernelIdeal.Skeleton

@[expose] public section

/-! What one head group's computation stores, read at one row and one column. -/

set_option maxRecDepth 16384

noncomputable section

namespace Cert.KernelIdeal.Value

open Cert.KernelIdeal Cert.KernelIdeal.Gen Idealize.ShloMosaic Idealize.ShloMosaic.TcCoe Idealize.SL.Sem

/-- The mask's constant is `-∞`. -/
theorem mask_bot : Named.named (F := Ideal) κ "mask" (φ := .f32) 0xF149F2CA#32 = (⊥ : EReal) :=
  (IdealRules.named_const.statement κ "mask" .f32 0xF149F2CA#32 ⊥ rfl).2.2

/-- The word of `-∞`. -/
theorem neg_inf : Ideal.ofBits .f32 0xFF800000#32 = (⊥ : EReal) := by
  simp [Ideal.ofBits, Ideal.ieee]

/-- One head group's result at one row and one lane: the attention of that row's query. -/
theorem grp_read (b : IVec S512x640 1) (rc : IVec S512x1 32) (q : FVec Ideal S512x128 .bf16) (k : FVec Ideal S640x128 .bf16)
    (v0 v1 v2 : FVec Ideal S128x128 .bf16) (v3 : FVec Ideal S256x128 .bf16) (z0 z1 z2 z3 : EReal) (r : Fin 512) (d : Fin 128) :
    k0_pay23 (F := Ideal) b rc q k v0 v1 v2 v3 z0 z1 z2 z3 (ix2 r d)
      = Core.att (fun j : Fin 640 => Scalar.select (b (ix2 r j)) ((∑ e : Fin 128, q (ix2 r e) * k (ix2 j e)) * Ideal.ofBits .f32 0x3DB504F3#32) ⊥)
          (fun j => k0_pay9 (F := Ideal) v0 v1 v2 v3 (ix2 j d)) (k0_pay11 (F := Ideal) rc z0 z1 z2 z3 (ix2 r 0)) := by
  unfold Core.att Core.top
  pointwise [k0_pay23, k0_pay9, k0_pay11, mask_bot, neg_inf]

/-- The third head group computes what the second does. -/
theorem pay30_eq : k0_pay30 (F := Ideal) = k0_pay23 := rfl

/-- The fourth head group computes what the second does. -/
theorem pay38_eq : k0_pay38 (F := Ideal) = k0_pay23 := rfl

/-- The first head group's numerator over its denominator is what the second computes. -/
theorem pay16_eq (b : IVec S512x640 1) (rc : IVec S512x1 32) (q : FVec Ideal S512x128 .bf16) (k : FVec Ideal S640x128 .bf16)
    (v0 v1 v2 : FVec Ideal S128x128 .bf16) (v3 : FVec Ideal S256x128 .bf16) (z0 z1 z2 z3 : EReal) :
    k0_pay16 (F := Ideal) (k0_pay14 b rc q k v0 v1 v2 v3 z0 z1 z2 z3) (k0_pay15 b rc q k z0 z1 z2 z3)
      = k0_pay23 b rc q k v0 v1 v2 v3 z0 z1 z2 z3 := rfl

/-- A row's place inside its block, as the kernel's remainder computes it. -/
theorem row_word : ∀ r : Fin 512, Scalar.select
      (IntOp.andi
        (IntOp.xori (IntOp.cmpi .slt (IntOp.remsi .vector (BitVec.ofNat 32 r.val)
            (Scalar.select (Scalar.cmpi .eq 128#32 0#32) 1#32 128#32)) 0#32)
          (Scalar.cmpi .slt (Scalar.select (Scalar.cmpi .eq 128#32 0#32) 1#32 128#32) 0#32))
        (IntOp.cmpi .ne (IntOp.remsi .vector (BitVec.ofNat 32 r.val)
          (Scalar.select (Scalar.cmpi .eq 128#32 0#32) 1#32 128#32)) 0#32))
      (IntOp.addi (IntOp.remsi .vector (BitVec.ofNat 32 r.val) (Scalar.select (Scalar.cmpi .eq 128#32 0#32) 1#32 128#32))
        (Scalar.select (Scalar.cmpi .eq 128#32 0#32) 1#32 128#32))
      (IntOp.remsi .vector (BitVec.ofNat 32 r.val) (Scalar.select (Scalar.cmpi .eq 128#32 0#32) 1#32 128#32))
    = BitVec.ofNat 32 (r.val % 128) := by decide +kernel

/-- The comparisons of a key's word with the ends of the block. -/
theorem ends_word : ∀ j : Fin 640,
    IntOp.cmpi .sge (IntOp.subi (BitVec.ofNat 32 j.val) 128#32) 0#32 = BitVec.ofBool (decide (128 ≤ j.val))
    ∧ IntOp.cmpi .slt (IntOp.subi (BitVec.ofNat 32 j.val) 128#32) 128#32 = BitVec.ofBool (decide (j.val < 256))
    ∧ IntOp.cmpi .sge (BitVec.ofNat 32 j.val) 384#32 = BitVec.ofBool (decide (384 ≤ j.val)) := by decide +kernel

/-- The comparisons of a block's number with the first and the last. -/
theorem block_word : ∀ n : Fin 32, Scalar.cmpi .sgt (BitVec.ofNat 32 n.val) 0#32 = BitVec.ofBool (decide (0 < n.val))
    ∧ Scalar.cmpi .slt (BitVec.ofNat 32 n.val) 31#32 = BitVec.ofBool (decide (n.val < 31)) := by decide +kernel

/-- The kernel's mask at one row and one key: whether the key is seen. -/
theorem mask_read (i : grid0.Coords) (r : Fin 512) (j : Fin 640) (x y : EReal) :
    Scalar.select (k0_pay4 i (ix2 r j)) x y = if Core.seen (i 1).val (r.val % 128) j.val then x else y := by
  pointwise [k0_pay4]
  rw [row_word r, Core.near_word j _ (by omega), (ends_word j).1, (ends_word j).2.1, (ends_word j).2.2,
    (block_word (i 1)).1, (block_word (i 1)).2]
  simp only [Core.andi_bool, Core.ori_bool]
  rw [Core.select_bool]
  refine if_congr ?_ rfl rfl
  simp only [Core.seen, Bool.or_eq_true, Bool.and_eq_true, decide_eq_true_eq, and_assoc]

/-- A row's head inside its group, as the kernel's floor division computes it. -/
theorem head_word : ∀ r : Fin 512, k0_pay7 (iota .tc S512x1 32 [0] iota_S512x1_d0_w32) 128#32 k0_pay5 k0_pay6 (ix2 r 0)
    = BitVec.ofNat 32 (r.val / 128) := by
  intro r
  pointwise [k0_pay7, k0_pay5, k0_pay6]
  revert r
  decide +kernel

/-- The sink's score of a row: that of its head. -/
theorem sink_read (z0 z1 z2 z3 : EReal) (g : Fin 4) (q : Fin 128) :
    k0_pay11 (F := Ideal) (k0_pay7 (iota .tc S512x1 32 [0] iota_S512x1_d0_w32) 128#32 k0_pay5 k0_pay6) z0 z1 z2 z3
        (ix2 ⟨g.val * 128 + q.val, by omega⟩ 0)
      = ![z0, z1, z2, z3] g := by
  pointwise [k0_pay11]
  rw [head_word]
  have hg : (g.val * 128 + q.val) / 128 = g.val := by omega
  simp only [hg]
  fin_cases g <;> rfl

end Cert.KernelIdeal.Value

end

end
-- ==== Proof.Tile.lean ====
module

public import proofs.«01_k».proof.Proof.Pay

@[expose] public section

/-! One head group's result over the blocks of one grid point. -/

set_option maxRecDepth 16384

noncomputable section

namespace Cert.KernelIdeal.Value

open Cert.KernelIdeal Cert.KernelIdeal.Gen Idealize.ShloMosaic Idealize.ShloMosaic.TcCoe Idealize.SL.Sem

/-- Four blocks of 512 lanes hold the keys (or the values) around block `n` of sequence `b`: lane `l` of them is
lane `oa + l` of the rows and lane `oc + l` of the context rows. The blocks before the first and after the last are
not asked for. -/
structure Around (A : Core.SA.Idx → EReal) (C : Core.SC.Idx → EReal) (b n oa oc : ℕ) (ha : oa + 512 ≤ 3072) (hc : oc + 512 ≤ 1024)
    (X0 X1 X2 : FVec Ideal S128x512 .bf16) (X3 : FVec Ideal S256x512 .bf16) : Prop where
  before : 0 < n → ∀ (j : Fin 128) (l : Fin 512), X0 (ix2 j l) = A (ix2 (Core.krow b n j.val) ⟨oa + l.val, by omega⟩)
  here : ∀ (j : Fin 128) (l : Fin 512), X1 (ix2 j l) = A (ix2 (Core.krow b n (128 + j.val)) ⟨oa + l.val, by omega⟩)
  after : n < 31 → ∀ (j : Fin 128) (l : Fin 512), X2 (ix2 j l) = A (ix2 (Core.krow b n (256 + j.val)) ⟨oa + l.val, by omega⟩)
  context : ∀ (j : Fin 256) (l : Fin 512), X3 (ix2 j l) = C (ix2 (Core.crow b (384 + j.val)) ⟨oc + l.val, by omega⟩)

/-- A seen key (or value) of the stacked pieces of one head group. -/
theorem stack_read {A : Core.SA.Idx → EReal} {C : Core.SC.Idx → EReal} {b n oa oc : ℕ} {ha : oa + 512 ≤ 3072} {hc : oc + 512 ≤ 1024}
    {X0 X1 X2 : FVec Ideal S128x512 .bf16} {X3 : FVec Ideal S256x512 .bf16} (H : Around A C b n oa oc ha hc X0 X1 X2 X3)
    (kh : Fin 4) (v0 v1 v2 : FVec Ideal S128x128 .bf16) (v3 : FVec Ideal S256x128 .bf16)
    (h0 : ∀ (j e : Fin 128), v0 (ix2 j e) = X0 (ix2 j ⟨kh.val * 128 + e.val, by omega⟩))
    (h1 : ∀ (j e : Fin 128), v1 (ix2 j e) = X1 (ix2 j ⟨kh.val * 128 + e.val, by omega⟩))
    (h2 : ∀ (j e : Fin 128), v2 (ix2 j e) = X2 (ix2 j ⟨kh.val * 128 + e.val, by omega⟩))
    (h3 : ∀ (j : Fin 256) (e : Fin 128), v3 (ix2 j e) = X3 (ix2 j ⟨kh.val * 128 + e.val, by omega⟩))
    (q : ℕ) (j : Fin 640) (e : Fin 128) (hs : Core.seen n q j.val) :
    k0_pay9 (F := Ideal) v0 v1 v2 v3 (ix2 j e)
      = Core.kv A C b n j.val ⟨oa + (kh.val * 128 + e.val), by omega⟩ ⟨oc + (kh.val * 128 + e.val), by omega⟩ := by
  have hj := j.isLt
  unfold Core.seen at hs
  pointwise [k0_pay9]
  split
  · exact ((h0 _ _).trans (H.before (by omega) _ _)).trans (Core.kv_row A C b n j.val _ _ _ _ (by omega) rfl rfl)
  · split
    · exact ((h1 _ _).trans (H.here _ _)).trans (Core.kv_row A C b n j.val _ _ _ _ (by omega) (by dsimp only; omega) rfl)
    · split
      · exact ((h2 _ _).trans (H.after (by omega) _ _)).trans (Core.kv_row A C b n j.val _ _ _ _ (by omega) (by dsimp only; omega) rfl)
      · exact ((h3 _ _).trans (H.context _ _)).trans (Core.kv_ctx A C b n j.val _ _ _ _ (by omega) (by dsimp only; omega) rfl)

/-- A row of the four stacked query pieces. -/
theorem query_read (q0 q1 q2 q3 : FVec Ideal S128x128 .bf16) (g : Fin 4) (q e : Fin 128) :
    k0_pay8 (F := Ideal) q0 q1 q2 q3 (ix2 ⟨g.val * 128 + q.val, by omega⟩ e)
      = (![q0, q1, q2, q3] : Fin 4 → FVec Ideal S128x128 .bf16) g (ix2 q e) := by
  pointwise [k0_pay8]
  have hq := q.isLt
  have hg := g.isLt
  split
  · obtain rfl : g = 0 := Fin.ext (by show g.val = 0; omega)
    exact congrArg (fun x => q0 (ix2 x e)) (Fin.ext (by show 0 * 128 + q.val = q.val; omega))
  · split
    · obtain rfl : g = 1 := Fin.ext (by show g.val = 1; omega)
      exact congrArg (fun x => q1 (ix2 x e)) (Fin.ext (by show 1 * 128 + q.val - 128 = q.val; omega))
    · split
      · obtain rfl : g = 2 := Fin.ext (by show g.val = 2; omega)
        exact congrArg (fun x => q2 (ix2 x e)) (Fin.ext (by show 2 * 128 + q.val - 128 - 128 = q.val; omega))
      · obtain rfl : g = 3 := Fin.ext (by show g.val = 3; omega)
        exact congrArg (fun x => q3 (ix2 x e)) (Fin.ext (by show 3 * 128 + q.val - 128 - 128 - 128 = q.val; omega))

/-- One head's tile: the group's result at its rows is the attention of the block's rows. -/
theorem tile (i : grid0.Coords) {A : Core.SA.Idx → EReal} {C : Core.SC.Idx → EReal} {Z : Core.SZ.Idx → EReal}
    {K0 K1 K2 V0 V1 V2 : FVec Ideal S128x512 .bf16} {K3 V3 : FVec Ideal S256x512 .bf16}
    {ha hc ha' hc'} (HK : Around A C (i 0).val (i 1).val 2048 0 ha hc K0 K1 K2 K3)
    (HV : Around A C (i 0).val (i 1).val 2560 512 ha' hc' V0 V1 V2 V3)
    (kh g : Fin 4) (q d : Fin 128) (q0 q1 q2 q3 k0 k1 k2 v0 v1 v2 : FVec Ideal S128x128 .bf16)
    (k3 v3 : FVec Ideal S256x128 .bf16) (z0 z1 z2 z3 : EReal) (r : Fin 16384)
    (hr : r.val = (i 0).val * 4096 + (i 1).val * 128 + q.val) (h : Fin 16) (hh : h.val = kh.val * 4 + g.val)
    (hq : ∀ e : Fin 128, (![q0, q1, q2, q3] : Fin 4 → FVec Ideal S128x128 .bf16) g (ix2 q e)
      = A (ix2 r ⟨h.val * 128 + e.val, by omega⟩))
    (hk0 : ∀ (j e : Fin 128), k0 (ix2 j e) = K0 (ix2 j ⟨kh.val * 128 + e.val, by omega⟩))
    (hk1 : ∀ (j e : Fin 128), k1 (ix2 j e) = K1 (ix2 j ⟨kh.val * 128 + e.val, by omega⟩))
    (hk2 : ∀ (j e : Fin 128), k2 (ix2 j e) = K2 (ix2 j ⟨kh.val * 128 + e.val, by omega⟩))
    (hk3 : ∀ (j : Fin 256) (e : Fin 128), k3 (ix2 j e) = K3 (ix2 j ⟨kh.val * 128 + e.val, by omega⟩))
    (hv0 : ∀ (j e : Fin 128), v0 (ix2 j e) = V0 (ix2 j ⟨kh.val * 128 + e.val, by omega⟩))
    (hv1 : ∀ (j e : Fin 128), v1 (ix2 j e) = V1 (ix2 j ⟨kh.val * 128 + e.val, by omega⟩))
    (hv2 : ∀ (j e : Fin 128), v2 (ix2 j e) = V2 (ix2 j ⟨kh.val * 128 + e.val, by omega⟩))
    (hv3 : ∀ (j : Fin 256) (e : Fin 128), v3 (ix2 j e) = V3 (ix2 j ⟨kh.val * 128 + e.val, by omega⟩))
    (hz : (![z0, z1, z2, z3] : Fin 4 → EReal) g = Z (ix1 h)) :
    k0_pay23 (F := Ideal) (k0_pay4 i) (k0_pay7 (iota .tc S512x1 32 [0] iota_S512x1_d0_w32) 128#32 k0_pay5 k0_pay6)
        (k0_pay8 q0 q1 q2 q3) (k0_pay9 k0 k1 k2 k3) v0 v1 v2 v3 z0 z1 z2 z3 (ix2 ⟨g.val * 128 + q.val, by omega⟩ d)
      = Core.cell A C Z r h d := by
  have hi1 : (i 1).val < 32 := (i 1).isLt
  have hn : r.val % 4096 / 128 = (i 1).val := by omega
  have hb : r.val / 4096 = (i 0).val := by omega
  have hm : r.val % 128 = q.val := by omega
  have hg : h.val / 4 = kh.val := by omega
  have hmod : (g.val * 128 + q.val) % 128 = q.val := by omega
  rw [grp_read, sink_read]
  unfold Core.cell
  simp only [hn, hb, hm, hg]
  refine Core.att_congr (fun j => ?_) hz fun j hj => ?_
  · rw [mask_read]
    simp only [hmod]
    by_cases hs : Core.seen (i 1).val q.val j.val
    · rw [if_pos hs, if_pos hs]
      refine congrArg₂ (· * ·) (Finset.sum_congr rfl fun e _ => ?_) rfl
      refine congrArg₂ (· * ·) ((query_read q0 q1 q2 q3 g q e).trans (hq e))
        ((stack_read HK kh k0 k1 k2 k3 hk0 hk1 hk2 hk3 q.val j e hs).trans ?_)
      simp only [Nat.zero_add]
    · rw [if_neg hs, if_neg hs]
  · have hs : Core.seen (i 1).val q.val j.val := by
      by_contra hs
      exact hj (if_neg hs)
    exact stack_read HV kh v0 v1 v2 v3 hv0 hv1 hv2 hv3 q.val j d hs

end Cert.KernelIdeal.Value

end

end
-- ==== Proof.Blocks.lean ====
module

public import proofs.«01_k».proof.Proof.Tile
public import proofs.«01_k».proof.Proof.Gen.KernelIdeal.Value
public import Idealize.ShloMosaic.Lib.Pipeline.ValueKit

@[expose] public section

/-! The blocks one grid point reads, as parts of the argument arrays. -/

set_option maxRecDepth 16384

noncomputable section

namespace Cert.KernelIdeal.Value

open Cert.KernelIdeal Cert.KernelIdeal.Gen Idealize.ShloMosaic Idealize.ShloMosaic.TcCoe Idealize.SL.Sem
open Idealize.ShloMosaic.Pipeline (Dat)

variable (m : (ℓ : Loc nD τ sig) → Buf (Elt Ideal) ℓ)

/-- Where the windows stand at each grid point. -/
theorem idx_val : ∀ t : Fin cfg0.N,
    (grid0.coords t 0).val = t.val / 32 ∧ (grid0.coords t 1).val = t.val % 32
    ∧ win0_0.index t = ![0]
    ∧ win0_1.index t = ![t.val, 0]
    ∧ win0_2.index t = ![t.val / 32 * 32 + (t.val % 32 - 1), 4]
    ∧ win0_3.index t = ![t.val, 4]
    ∧ win0_4.index t = ![t.val / 32 * 32 + min (t.val % 32 + 1) 31, 4]
    ∧ win0_5.index t = ![t.val / 32 * 32 + (t.val % 32 - 1), 5]
    ∧ win0_6.index t = ![t.val, 5]
    ∧ win0_7.index t = ![t.val / 32 * 32 + min (t.val % 32 + 1) 31, 5]
    ∧ win0_8.index t = ![t.val / 32, 0]
    ∧ win0_9.index t = ![t.val / 32, 1]
    ∧ win0_10.index t = ![t.val, 0] :=
  (by decide +kernel : ∀ t : Fin grid0.N, _)

/-- Window 0: the sinks. -/
theorem blk0 (c : Dev nD) (t : Fin cfg0.N) (h : Fin 16) : iblk m c 0 t (ix1 h) = m ((c : Thread nD τ).loc main_arg2) (ix1 h) := by
  blk_point [iblk, V, idx_val t]

/-- Window 1: the queries of the point's block. -/
theorem blk1 (c : Dev nD) (t : Fin cfg0.N) (j : Fin 128) (l : Fin 2048) :
    X0_1 m c t (ix2 j l) = m ((c : Thread nD τ).loc main_arg0)
      (ix2 ⟨t.val * 128 + j.val, by have : t.val < 128 := lt_of_lt_of_eq t.isLt N_0; omega⟩ ⟨l.val, by omega⟩) := by
  unfold X0_1 Pipeline.Window.fill
  rw [dif_pos (moved0_1 t _)]
  blk_point [iblk, V, idx_val t]

/-- Window 2: the keys before the point's block. -/
theorem blk2 (c : Dev nD) (t : Fin cfg0.N) (h0 : 0 < t.val % 32) (j : Fin 128) (l : Fin 512) :
    iblk m c 2 t (ix2 j l) = m ((c : Thread nD τ).loc main_arg0)
      (ix2 (Core.krow (t.val / 32) (t.val % 32) j.val) ⟨2048 + l.val, by omega⟩) := by
  have ht : t.val < 128 := lt_of_lt_of_eq t.isLt N_0
  unfold Core.krow
  blk_point [iblk, V, idx_val t]

/-- Window 3: the keys of the point's block. -/
theorem blk3 (c : Dev nD) (t : Fin cfg0.N) (j : Fin 128) (l : Fin 512) :
    iblk m c 3 t (ix2 j l) = m ((c : Thread nD τ).loc main_arg0)
      (ix2 (Core.krow (t.val / 32) (t.val % 32) (128 + j.val)) ⟨2048 + l.val, by omega⟩) := by
  have ht : t.val < 128 := lt_of_lt_of_eq t.isLt N_0
  unfold Core.krow
  blk_point [iblk, V, idx_val t]

/-- Window 4: the keys after the point's block. -/
theorem blk4 (c : Dev nD) (t : Fin cfg0.N) (h0 : t.val % 32 < 31) (j : Fin 128) (l : Fin 512) :
    iblk m c 4 t (ix2 j l) = m ((c : Thread nD τ).loc main_arg0)
      (ix2 (Core.krow (t.val / 32) (t.val % 32) (256 + j.val)) ⟨2048 + l.val, by omega⟩) := by
  have ht : t.val < 128 := lt_of_lt_of_eq t.isLt N_0
  unfold Core.krow
  blk_point [iblk, V, idx_val t]

/-- Window 5: the values before the point's block. -/
theorem blk5 (c : Dev nD) (t : Fin cfg0.N) (h0 : 0 < t.val % 32) (j : Fin 128) (l : Fin 512) :
    iblk m c 5 t (ix2 j l) = m ((c : Thread nD τ).loc main_arg0)
      (ix2 (Core.krow (t.val / 32) (t.val % 32) j.val) ⟨2560 + l.val, by omega⟩) := by
  have ht : t.val < 128 := lt_of_lt_of_eq t.isLt N_0
  unfold Core.krow
  blk_point [iblk, V, idx_val t]

/-- Window 6: the values of the point's block. -/
theorem blk6 (c : Dev nD) (t : Fin cfg0.N) (j : Fin 128) (l : Fin 512) :
    iblk m c 6 t (ix2 j l) = m ((c : Thread nD τ).loc main_arg0)
      (ix2 (Core.krow (t.val / 32) (t.val % 32) (128 + j.val)) ⟨2560 + l.val, by omega⟩) := by
  have ht : t.val < 128 := lt_of_lt_of_eq t.isLt N_0
  unfold Core.krow
  blk_point [iblk, V, idx_val t]

/-- Window 7: the values after the point's block. -/
theorem blk7 (c : Dev nD) (t : Fin cfg0.N) (h0 : t.val % 32 < 31) (j : Fin 128) (l : Fin 512) :
    iblk m c 7 t (ix2 j l) = m ((c : Thread nD τ).loc main_arg0)
      (ix2 (Core.krow (t.val / 32) (t.val % 32) (256 + j.val)) ⟨2560 + l.val, by omega⟩) := by
  have ht : t.val < 128 := lt_of_lt_of_eq t.isLt N_0
  unfold Core.krow
  blk_point [iblk, V, idx_val t]

/-- Window 8: the context's keys. -/
theorem blk8 (c : Dev nD) (t : Fin cfg0.N) (j : Fin 256) (l : Fin 512) :
    iblk m c 8 t (ix2 j l) = m ((c : Thread nD τ).loc main_arg1)
      (ix2 (Core.crow (t.val / 32) (384 + j.val)) ⟨0 + l.val, by omega⟩) := by
  have ht : t.val < 128 := lt_of_lt_of_eq t.isLt N_0
  unfold Core.crow
  blk_point [iblk, V, idx_val t]

/-- Window 9: the context's values. -/
theorem blk9 (c : Dev nD) (t : Fin cfg0.N) (j : Fin 256) (l : Fin 512) :
    iblk m c 9 t (ix2 j l) = m ((c : Thread nD τ).loc main_arg1)
      (ix2 (Core.crow (t.val / 32) (384 + j.val)) ⟨512 + l.val, by omega⟩) := by
  have ht : t.val < 128 := lt_of_lt_of_eq t.isLt N_0
  unfold Core.crow
  blk_point [iblk, V, idx_val t]

/-- The keys' blocks of one point are the keys around its block. -/
theorem around_keys (c : Dev nD) (t : Fin cfg0.N) :
    Around (m ((c : Thread nD τ).loc main_arg0)) (m ((c : Thread nD τ).loc main_arg1)) (grid0.coords t 0).val (grid0.coords t 1).val
      2048 0 (by decide) (by decide) (iblk m c 2 t) (iblk m c 3 t) (iblk m c 4 t) (iblk m c 8 t) := by
  rw [(idx_val t).1, (idx_val t).2.1]
  exact ⟨fun h => blk2 m c t h, blk3 m c t, fun h => blk4 m c t h, blk8 m c t⟩

/-- The values' blocks of one point are the values around its block. -/
theorem around_values (c : Dev nD) (t : Fin cfg0.N) :
    Around (m ((c : Thread nD τ).loc main_arg0)) (m ((c : Thread nD τ).loc main_arg1)) (grid0.coords t 0).val (grid0.coords t 1).val
      2560 512 (by decide) (by decide) (iblk m c 5 t) (iblk m c 6 t) (iblk m c 7 t) (iblk m c 9 t) := by
  rw [(idx_val t).1, (idx_val t).2.1]
  exact ⟨fun h => blk5 m c t h, blk6 m c t, fun h => blk7 m c t h, blk9 m c t⟩

/-- The attention's result over the argument arrays. -/
def G (A : Core.SA.Idx → EReal) (C : Core.SC.Idx → EReal) (Z : Core.SZ.Idx → EReal) (j : S16384x2048.Idx) : EReal :=
  Core.cell A C Z (j 0) ⟨(j 1).val / 128, by have h : (j 1).val < 2048 := (j 1).isLt; omega⟩ ⟨(j 1).val % 128, by omega⟩

/-- One head's tile at one point, over the loads the point makes: the result's entries there. -/
theorem tile_at (c : Dev nD) (t : Fin cfg0.N) (kh g : Fin 4) (q d : Fin 128)
    {q0 q1 q2 q3 k0 k1 k2 v0 v1 v2 : FVec Ideal S128x128 .bf16} {k3 v3 : FVec Ideal S256x128 .bf16} {z0 z1 z2 z3 : EReal}
    (r : Fin 512) (j : S16384x2048.Idx) (hr : r.val = g.val * 128 + q.val)
    (hj0 : (j 0).val = t.val * 128 + q.val) (hj1 : (j 1).val = (kh.val * 4 + g.val) * 128 + d.val)
    (hq : ∀ e : Fin 128, (![q0, q1, q2, q3] : Fin 4 → FVec Ideal S128x128 .bf16) g (ix2 q e)
      = X0_1 m c t (ix2 q ⟨(kh.val * 4 + g.val) * 128 + e.val, by omega⟩))
    (hk0 : ∀ (j e : Fin 128), k0 (ix2 j e) = iblk m c 2 t (ix2 j ⟨kh.val * 128 + e.val, by omega⟩))
    (hk1 : ∀ (j e : Fin 128), k1 (ix2 j e) = iblk m c 3 t (ix2 j ⟨kh.val * 128 + e.val, by omega⟩))
    (hk2 : ∀ (j e : Fin 128), k2 (ix2 j e) = iblk m c 4 t (ix2 j ⟨kh.val * 128 + e.val, by omega⟩))
    (hk3 : ∀ (j : Fin 256) (e : Fin 128), k3 (ix2 j e) = iblk m c 8 t (ix2 j ⟨kh.val * 128 + e.val, by omega⟩))
    (hv0 : ∀ (j e : Fin 128), v0 (ix2 j e) = iblk m c 5 t (ix2 j ⟨kh.val * 128 + e.val, by omega⟩))
    (hv1 : ∀ (j e : Fin 128), v1 (ix2 j e) = iblk m c 6 t (ix2 j ⟨kh.val * 128 + e.val, by omega⟩))
    (hv2 : ∀ (j e : Fin 128), v2 (ix2 j e) = iblk m c 7 t (ix2 j ⟨kh.val * 128 + e.val, by omega⟩))
    (hv3 : ∀ (j : Fin 256) (e : Fin 128), v3 (ix2 j e) = iblk m c 9 t (ix2 j ⟨kh.val * 128 + e.val, by omega⟩))
    (hz : (![z0, z1, z2, z3] : Fin 4 → EReal) g = iblk m c 0 t (ix1 ⟨kh.val * 4 + g.val, by omega⟩)) :
    k0_pay23 (F := Ideal) (k0_pay4 (grid0.coords t)) (k0_pay7 (iota .tc S512x1 32 [0] iota_S512x1_d0_w32) 128#32 k0_pay5 k0_pay6)
        (k0_pay8 q0 q1 q2 q3) (k0_pay9 k0 k1 k2 k3) v0 v1 v2 v3 z0 z1 z2 z3 (ix2 r d)
      = G (m ((c : Thread nD τ).loc main_arg0)) (m ((c : Thread nD τ).loc main_arg1)) (m ((c : Thread nD τ).loc main_arg2)) j := by
  have ht : t.val < 128 := lt_of_lt_of_eq t.isLt N_0
  have h0 := (idx_val t).1
  have h1 := (idx_val t).2.1
  have hh : (⟨(j 1).val / 128, by have h : (j 1).val < 2048 := (j 1).isLt; omega⟩ : Fin 16) = ⟨kh.val * 4 + g.val, by omega⟩ :=
    Fin.ext (by dsimp only; omega)
  have hd : (⟨(j 1).val % 128, by omega⟩ : Fin 128) = d := Fin.ext (by dsimp only; omega)
  rw [show r = ⟨g.val * 128 + q.val, by omega⟩ from Fin.ext hr]
  unfold G
  rw [hh, hd]
  refine tile (grid0.coords t) (around_keys m c t) (around_values m c t) kh g q d q0 q1 q2 q3 k0 k1 k2 v0 v1 v2 k3 v3
    z0 z1 z2 z3 (j 0) (by omega) _ rfl (fun e => ?_) hk0 hk1 hk2 hk3 hv0 hv1 hv2 hv3 (hz.trans (blk0 m c t _))
  refine (hq e).trans ((blk1 m c t q _).trans (congrArg _ ?_))
  exact congrArg (fun r => ix2 r _) (Fin.ext hj0.symm)

set_option maxHeartbeats 2000000 in
/-- The result array after the run. -/
theorem final (c : Dev nD) : (dats m 0 c).arrAt 10 (cfgs 0).N
    = G (m ((c : Thread nD τ).loc main_arg0)) (m ((c : Thread nD τ).loc main_arg1)) (m ((c : Thread nD τ).loc main_arg2)) := by
  refine (dats m 0 c).arrAt_eq_of_covers 10 _ (by decide +kernel) fun t _ y => ?_
  blk_simp
  rw [after0_10]
  unfold outsAt0
  frame_out
  canon_tiles x h
  all_goals
    pointwise [k0_pay1, k0_pay2, k0_pay3, k0_pay39, k0_pay17, k0_pay18, k0_pay19, k0_pay20, k0_pay24, k0_pay25, k0_pay26, k0_pay27,
      k0_pay31, k0_pay32, k0_pay33, k0_pay34, k0_pay35, pay16_eq, pay30_eq, pay38_eq]
  case' piece0 => refine tile_at m c t 3 3 (x 0) (x 1) _ _ ?_ ?_ ?_ ?_ ?_ ?_ ?_ ?_ ?_ ?_ ?_ ?_ ?_
  case' piece1 => refine tile_at m c t 3 2 (x 0) (x 1) _ _ ?_ ?_ ?_ ?_ ?_ ?_ ?_ ?_ ?_ ?_ ?_ ?_ ?_
  case' piece2 => refine tile_at m c t 3 1 (x 0) (x 1) _ _ ?_ ?_ ?_ ?_ ?_ ?_ ?_ ?_ ?_ ?_ ?_ ?_ ?_
  case' piece3 => refine tile_at m c t 3 0 (x 0) (x 1) _ _ ?_ ?_ ?_ ?_ ?_ ?_ ?_ ?_ ?_ ?_ ?_ ?_ ?_
  case' piece4 => refine tile_at m c t 2 3 (x 0) (x 1) _ _ ?_ ?_ ?_ ?_ ?_ ?_ ?_ ?_ ?_ ?_ ?_ ?_ ?_
  case' piece5 => refine tile_at m c t 2 2 (x 0) (x 1) _ _ ?_ ?_ ?_ ?_ ?_ ?_ ?_ ?_ ?_ ?_ ?_ ?_ ?_
  case' piece6 => refine tile_at m c t 2 1 (x 0) (x 1) _ _ ?_ ?_ ?_ ?_ ?_ ?_ ?_ ?_ ?_ ?_ ?_ ?_ ?_
  case' piece7 => refine tile_at m c t 2 0 (x 0) (x 1) _ _ ?_ ?_ ?_ ?_ ?_ ?_ ?_ ?_ ?_ ?_ ?_ ?_ ?_
  case' piece8 => refine tile_at m c t 1 3 (x 0) (x 1) _ _ ?_ ?_ ?_ ?_ ?_ ?_ ?_ ?_ ?_ ?_ ?_ ?_ ?_
  case' piece9 => refine tile_at m c t 1 2 (x 0) (x 1) _ _ ?_ ?_ ?_ ?_ ?_ ?_ ?_ ?_ ?_ ?_ ?_ ?_ ?_
  case' piece10 => refine tile_at m c t 1 1 (x 0) (x 1) _ _ ?_ ?_ ?_ ?_ ?_ ?_ ?_ ?_ ?_ ?_ ?_ ?_ ?_
  case' piece11 => refine tile_at m c t 1 0 (x 0) (x 1) _ _ ?_ ?_ ?_ ?_ ?_ ?_ ?_ ?_ ?_ ?_ ?_ ?_ ?_
  case' piece12 => refine tile_at m c t 0 3 (x 0) (x 1) _ _ ?_ ?_ ?_ ?_ ?_ ?_ ?_ ?_ ?_ ?_ ?_ ?_ ?_
  case' piece13 => refine tile_at m c t 0 2 (x 0) (x 1) _ _ ?_ ?_ ?_ ?_ ?_ ?_ ?_ ?_ ?_ ?_ ?_ ?_ ?_
  case' piece14 => refine tile_at m c t 0 1 (x 0) (x 1) _ _ ?_ ?_ ?_ ?_ ?_ ?_ ?_ ?_ ?_ ?_ ?_ ?_ ?_
  case' piece15 => refine tile_at m c t 0 0 (x 0) (x 1) _ _ ?_ ?_ ?_ ?_ ?_ ?_ ?_ ?_ ?_ ?_ ?_ ?_ ?_
  all_goals first
    | (intro j e; pointwise; blk_ext; done)
    | (intro e; simp only [Matrix.cons_val]; pointwise; blk_ext; done)
    | (blk_simp [idx_val t]; omega)
    | (dsimp only; simp; done)
    | (simp only [Matrix.cons_val]; blk_ext; done)

end Cert.KernelIdeal.Value

end

end
-- ==== Proof.Ref.lean ====
module

public import proofs.«01_k».proof.Proof.Words
public import proofs.«01_k».proof.Proof.Gen.ReferenceIdeal

@[expose] public section

/-! The reference's steps, each a definition over its inputs, and each read at an index. -/

set_option maxRecDepth 16384

noncomputable section

namespace Cert.ReferenceIdeal.Value

open Cert.ReferenceIdeal Cert.ReferenceIdeal.Gen Idealize.ShloMosaic Idealize.ShloMosaic.TcCoe Idealize.SL.Sem

/-- The projected rows, by sequence. -/
def rows (A : FVec Ideal S16384x3072 .bf16) : FVec Ideal S4x4096x3072 .f32 :=
  shapeCast _ (extf .f32 A bitsLt_bf16_f32) shapeCasts_S16384x3072_S4x4096x3072

/-- The projected context rows, by sequence. -/
def crows (C : FVec Ideal S1024x1024 .bf16) : FVec Ideal S4x256x1024 .f32 :=
  shapeCast _ (extf .f32 C bitsLt_bf16_f32) shapeCasts_S1024x1024_S4x256x1024

/-- The queries, by block, group and head. -/
def qb (A : FVec Ideal S16384x3072 .bf16) : FVec Ideal S4x32x128x4x4x128 .f32 :=
  shapeCast _ (shapeCast S4x4096x16x128 (extractStridedSlice S4x4096x2048 ![0, 0, 0] (rows A) slices_S4x4096x3072_S4x4096x2048_0_0_0)
    shapeCasts_S4x4096x2048_S4x4096x16x128) shapeCasts_S4x4096x16x128_S4x32x128x4x4x128

/-- The keys, by group. -/
def kl (A : FVec Ideal S16384x3072 .bf16) : FVec Ideal S4x4096x4x128 .f32 :=
  shapeCast _ (extractStridedSlice S4x4096x512 ![0, 0, 2048] (rows A) slices_S4x4096x3072_S4x4096x512_0_0_2048) shapeCasts_S4x4096x512_S4x4096x4x128

/-- The values, by group. -/
def vl (A : FVec Ideal S16384x3072 .bf16) : FVec Ideal S4x4096x4x128 .f32 :=
  shapeCast _ (extractStridedSlice S4x4096x512 ![0, 0, 2560] (rows A) slices_S4x4096x3072_S4x4096x512_0_0_2560) shapeCasts_S4x4096x512_S4x4096x4x128

/-- The context's keys, by group. -/
def kc (C : FVec Ideal S1024x1024 .bf16) : FVec Ideal S4x256x4x128 .f32 :=
  shapeCast _ (extractStridedSlice S4x256x512 ![0, 0, 0] (crows C) slices_S4x256x1024_S4x256x512_0_0_0) shapeCasts_S4x256x512_S4x256x4x128

/-- The context's values, by group. -/
def vc (C : FVec Ideal S1024x1024 .bf16) : FVec Ideal S4x256x4x128 .f32 :=
  shapeCast _ (extractStridedSlice S4x256x512 ![0, 0, 512] (crows C) slices_S4x256x1024_S4x256x512_0_0_512) shapeCasts_S4x256x512_S4x256x4x128

/-- Keys or values with a block of zeros at both ends, cut into blocks. -/
def padded (X : FVec Ideal S4x4096x4x128 .f32) : FVec Ideal S4x34x128x4x128 .f32 :=
  shapeCast _ (pad S4x4352x4x128 ![0, 128, 0, 0] ![0, 128, 0, 0] ![0, 0, 0, 0] X (sitofp .f32 (constantI S_ 32 0#32) : FVec Ideal S_ .f32)
    pads_S4x4096x4x128_S4x4352x4x128_000_1281280_000_000 h_S_) shapeCasts_S4x4352x4x128_S4x34x128x4x128

/-- The three blocks around each block. -/
def band (X : FVec Ideal S4x4096x4x128 .f32) : FVec Ideal S4x32x384x4x128 .f32 :=
  concatenate S4x32x384x4x128 2 [⟨S4x32x128x4x128, extractStridedSlice S4x32x128x4x128 ![0, 0, 0, 0, 0] (padded X) slices_S4x34x128x4x128_S4x32x128x4x128_0_0_0_0_0⟩,
    ⟨S4x32x128x4x128, extractStridedSlice S4x32x128x4x128 ![0, 1, 0, 0, 0] (padded X) slices_S4x34x128x4x128_S4x32x128x4x128_0_1_0_0_0⟩,
    ⟨S4x32x128x4x128, extractStridedSlice S4x32x128x4x128 ![0, 2, 0, 0, 0] (padded X) slices_S4x34x128x4x128_S4x32x128x4x128_0_2_0_0_0⟩]
    concatenates_S4x32x128x4x128_S4x32x128x4x128_S4x32x128x4x128_S4x32x384x4x128_d2

/-- The scores against the blocks around, before the mask. -/
def sraw (Q : FVec Ideal S4x32x128x4x4x128 .f32) (K : FVec Ideal S4x32x384x4x128 .f32) : FVec Ideal S4x32x4x4x128x384 .f32 :=
  mulf (transpose S4x32x4x4x128x384 [0, 1, 2, 5, 4, 3] (Host.dotGeneral dot_S4x32x384x4x128_S4x32x128x4x4x128_S4x32x4x384x128x4_4_5_2_24_013_013 none K Q)
    transposes_S4x32x4x384x128x4_S4x32x4x4x128x384_0_1_2_5_4_3)
    (broadcastInDim S4x32x4x4x128x384 ![] bcast_S_S4x32x4x4x128x384 (constant S_ .f32 0x3DB504F3#32))

/-- The scores against the context. -/
def sctx (Q : FVec Ideal S4x32x128x4x4x128 .f32) (K : FVec Ideal S4x256x4x128 .f32) : FVec Ideal S4x32x4x4x128x256 .f32 :=
  mulf (transpose S4x32x4x4x128x256 [0, 3, 1, 5, 4, 2] (Host.dotGeneral dot_S4x256x4x128_S4x32x128x4x4x128_S4x4x256x32x128x4_3_5_1_124_02_03 none K Q)
    transposes_S4x4x256x32x128x4_S4x32x4x4x128x256_0_3_1_5_4_2)
    (broadcastInDim S4x32x4x4x128x256 ![] bcast_S_S4x32x4x4x128x256 (constant S_ .f32 0x3DB504F3#32))

theorem qb_read (A : FVec Ideal S16384x3072 .bf16) (b : Fin 4) (n : Fin 32) (q : Fin 128) (k g : Fin 4) (e : Fin 128) :
    qb A (ix6 b n q k g e) = A (ix2 ⟨b.val * 4096 + n.val * 128 + q.val, by omega⟩ ⟨(k.val * 4 + g.val) * 128 + e.val, by omega⟩) := by
  pointwise [qb, rows]
  exact congrArg A (congrArg₂ ix2 (Fin.ext (Nat.add_assoc _ _ _).symm) (Fin.ext (by show _ = (k.val * 4 + g.val) * 128 + e.val; simp only; omega)))

theorem kl_read (A : FVec Ideal S16384x3072 .bf16) (b : Fin 4) (l : Fin 4096) (k : Fin 4) (e : Fin 128) :
    kl A (ix4 b l k e) = A (ix2 ⟨b.val * 4096 + l.val, by omega⟩ ⟨2048 + (k.val * 128 + e.val), by omega⟩) := by
  pointwise [kl, rows]

theorem kc_read (C : FVec Ideal S1024x1024 .bf16) (b : Fin 4) (l : Fin 256) (k : Fin 4) (e : Fin 128) :
    kc C (ix4 b l k e) = C (ix2 ⟨b.val * 256 + l.val, by omega⟩ ⟨k.val * 128 + e.val, by omega⟩) := by
  pointwise [kc, crows]

theorem vl_read (A : FVec Ideal S16384x3072 .bf16) (b : Fin 4) (l : Fin 4096) (k : Fin 4) (e : Fin 128) :
    vl A (ix4 b l k e) = A (ix2 ⟨b.val * 4096 + l.val, by omega⟩ ⟨2560 + (k.val * 128 + e.val), by omega⟩) := by
  pointwise [vl, rows]

theorem vc_read (C : FVec Ideal S1024x1024 .bf16) (b : Fin 4) (l : Fin 256) (k : Fin 4) (e : Fin 128) :
    vc C (ix4 b l k e) = C (ix2 ⟨b.val * 256 + l.val, by omega⟩ ⟨512 + (k.val * 128 + e.val), by omega⟩) := by
  pointwise [vc, crows]

theorem band_read (X : FVec Ideal S4x4096x4x128 .f32) (b : Fin 4) (n : Fin 32) (j : Fin 384) (k : Fin 4) (e : Fin 128)
    (h0 : 128 ≤ n.val * 128 + j.val) (h1 : n.val * 128 + j.val - 128 < 4096) :
    band X (ix5 b n j k e) = X (ix4 b ⟨n.val * 128 + j.val - 128, h1⟩ k e) := by
  pointwise [band, padded]
  split
  · rw [dif_pos ⟨h0, h1⟩]
  · split
    · exact (dif_pos ⟨by omega, by omega⟩).trans (congrArg (fun l => X (ix4 b l k e)) (Fin.ext (by simp only; omega)))
    · exact (dif_pos ⟨by omega, by omega⟩).trans (congrArg (fun l => X (ix4 b l k e)) (Fin.ext (by simp only; omega)))

theorem sraw_read (Q : FVec Ideal S4x32x128x4x4x128 .f32) (K : FVec Ideal S4x32x384x4x128 .f32) (b : Fin 4) (n : Fin 32) (k g : Fin 4)
    (q : Fin 128) (j : Fin 384) :
    sraw Q K (ix6 b n k g q j) = (∑ e : Fin 128, Q (ix6 b n q k g e) * K (ix5 b n j k e)) * Core.scale := by
  pointwise [sraw, Core.scale]
  exact congrArg (· * _) (Finset.sum_congr rfl fun _ _ => mul_comm _ _)

theorem sctx_read (Q : FVec Ideal S4x32x128x4x4x128 .f32) (K : FVec Ideal S4x256x4x128 .f32) (b : Fin 4) (n : Fin 32) (k g : Fin 4)
    (q : Fin 128) (j : Fin 256) :
    sctx Q K (ix6 b n k g q j) = (∑ e : Fin 128, Q (ix6 b n q k g e) * K (ix4 b j k e)) * Core.scale := by
  pointwise [sctx, Core.scale]
  exact congrArg (· * _) (Finset.sum_congr rfl fun _ _ => mul_comm _ _)

/-- Dropping the last of six axes: the indices over one of the kept five. -/
theorem drop_last {n0 n1 n2 n3 n4 n5 : Nat} (h : (⟨6, ![n0, n1, n2, n3, n4, n5]⟩ : Shape).ReducesTo [5] ⟨5, ![n0, n1, n2, n3, n4]⟩)
    (a : Fin n0) (b : Fin n1) (c : Fin n2) (d : Fin n3) (e : Fin n4) (i : (⟨6, ![n0, n1, n2, n3, n4, n5]⟩ : Shape).Idx) :
    h.drop i = ix5 a b c d e ↔ ∃ k : Fin n5, ix6 a b c d e k = i := by
  constructor
  · intro E
    refine ⟨i 5, funext fun x => Fin.ext ?_⟩
    match x with
    | ⟨0, _⟩ => exact (congrArg Fin.val (congrFun E 0)).symm
    | ⟨1, _⟩ => exact (congrArg Fin.val (congrFun E 1)).symm
    | ⟨2, _⟩ => exact (congrArg Fin.val (congrFun E 2)).symm
    | ⟨3, _⟩ => exact (congrArg Fin.val (congrFun E 3)).symm
    | ⟨4, _⟩ => exact (congrArg Fin.val (congrFun E 4)).symm
    | ⟨5, _⟩ => rfl
  · rintro ⟨k, rfl⟩
    refine funext fun x => Fin.ext ?_
    match x with
    | ⟨0, _⟩ => rfl
    | ⟨1, _⟩ => rfl
    | ⟨2, _⟩ => rfl
    | ⟨3, _⟩ => rfl
    | ⟨4, _⟩ => rfl

/-- The greatest along the last of six axes. -/
theorem max_last {n5 : Nat} (h : (⟨6, ![4, 32, 4, 4, 128, n5]⟩ : Shape).ReducesTo [5] S4x32x4x4x128)
    (s : FVec Ideal ⟨6, ![4, 32, 4, 4, 128, n5]⟩ .f32) (b : Fin 4) (n : Fin 32) (k g : Fin 4) (q : Fin 128) :
    Host.reduce FloatOps.maximumf s (constant S_ .f32 0xFF800000#32) h h_S_ (ix5 b n k g q)
      = Finset.univ.fold max ⊥ fun j : Fin n5 => s (ix6 b n k g q j) := by
  have hb : Ideal.ofBits .f32 0xFF800000#32 = ⊥ := by simp [Ideal.ofBits, Ideal.ieee]
  pointwise []
  rw [hb]
  exact Finset.fold_filter_eq_fold_of_fiber max _ (fun j : Fin n5 => ix6 b n k g q j) (fun _ _ e => congrFun e 5) (drop_last h b n k g q) ⊥ s

/-- The sum along the last of six axes. -/
theorem sum_last {n5 : Nat} (h : (⟨6, ![4, 32, 4, 4, 128, n5]⟩ : Shape).ReducesTo [5] S4x32x4x4x128)
    (s : FVec Ideal ⟨6, ![4, 32, 4, 4, 128, n5]⟩ .f32) (b : Fin 4) (n : Fin 32) (k g : Fin 4) (q : Fin 128) :
    Host.reduceAdd s (constant S_ .f32 0x00000000#32) h h_S_ (ix5 b n k g q) = ∑ j : Fin n5, s (ix6 b n k g q j) := by
  pointwise [Ideal.hostReduceAdd]
  exact Finset.sum_filter_eq_sum_of_fiber _ (fun j : Fin n5 => ix6 b n k g q j) (fun _ _ e => congrFun e 5) (drop_last h b n k g q) s

/-- Which scores of the blocks around are kept. -/
def msk : IVec S32x128x384 1 :=
  let qi : IVec S128x1 32 := broadcastInDim S128x1 ![0] bcast_S128_S128x1_0 (iotaInDim S128 32 0)
  let kj : IVec S1x384 32 := broadcastInDim S1x384 ![1] bcast_S384_S1x384_1 (iotaInDim S384 32 0)
  let at0 : IVec S32x1x1 32 := muli (subi (broadcastInDim S32x1x1 ![0] bcast_S32_S32x1x1_0 (iotaInDim S32 32 0))
    (broadcastInDim S32x1x1 ![] bcast_S_S32x1x1 (constantI S_ 32 1#32))) (broadcastInDim S32x1x1 ![] bcast_S_S32x1x1 (constantI S_ 32 128#32))
  let kpos : IVec S32x1x384 32 := addi (broadcastInDim S32x1x384 ![0, 1, 2] bcast_S32x1x1_S32x1x384_0_1_2 at0)
    (broadcastInDim S32x1x384 ![0, 1, 2] bcast_S1x1x384_S32x1x384_0_1_2 (broadcastInDim S1x1x384 ![1, 2] bcast_S1x384_S1x1x384_1_2 kj))
  let far : IVec S128x384 32 := absi (subi (broadcastInDim S128x384 ![0, 1] bcast_S1x384_S128x384_0_1
    (subi kj (broadcastInDim S1x384 ![] bcast_S_S1x384 (constantI S_ 32 128#32)))) (broadcastInDim S128x384 ![0, 1] bcast_S128x1_S128x384_0_1 qi))
  andi (andi (broadcastInDim S32x128x384 ![0, 1, 2] bcast_S1x128x384_S32x128x384_0_1_2
      (cmpi .sle (broadcastInDim S1x128x384 ![1, 2] bcast_S128x384_S1x128x384_1_2 far) (broadcastInDim S1x128x384 ![] bcast_S_S1x128x384 (constantI S_ 32 128#32))))
    (broadcastInDim S32x128x384 ![0, 1, 2] bcast_S32x1x384_S32x128x384_0_1_2
      (cmpi .sge kpos (broadcastInDim S32x1x384 ![] bcast_S_S32x1x384 (constantI S_ 32 0#32)))))
    (broadcastInDim S32x128x384 ![0, 1, 2] bcast_S32x1x384_S32x128x384_0_1_2
      (cmpi .slt kpos (broadcastInDim S32x1x384 ![] bcast_S_S32x1x384 (constantI S_ 32 4096#32))))

theorem msk_read (n : Fin 32) (q : Fin 128) (j : Fin 384) :
    msk (ix3 n q j) = BitVec.ofBool (decide (Core.seen n.val q.val j.val)) := by
  pointwise [msk]
  rw [Core.position_word n.val j.val n.isLt j.isLt, Core.near_word ⟨j.val, by omega⟩ q.val q.isLt,
    (Core.inside_word ⟨n.val * 128 + j.val, by omega⟩).1, (Core.inside_word ⟨n.val * 128 + j.val, by omega⟩).2]
  simp only [Core.andi_bool]
  refine congrArg BitVec.ofBool (Bool.eq_iff_iff.mpr ?_)
  simp only [Bool.and_eq_true, decide_eq_true_eq]
  unfold Core.seen
  have hn := n.isLt
  have hj := j.isLt
  constructor
  · rintro ⟨⟨h1, h2⟩, h3⟩
    refine Or.inl ⟨h1, ?_, ?_⟩ <;> omega
  · rintro (⟨h1, h2, h3⟩ | h)
    · refine ⟨⟨h1, ?_⟩, ?_⟩ <;> omega
    · omega

/-- The masked scores. -/
def sloc (S : FVec Ideal S4x32x4x4x128x384 .f32) : FVec Ideal S4x32x4x4x128x384 .f32 :=
  select (broadcastInDim S4x32x4x4x128x384 ![0, 1, 2, 3, 4, 5] bcast_S1x32x1x1x128x384_S4x32x4x4x128x384_0_1_2_3_4_5
    (broadcastInDim S1x32x1x1x128x384 ![1, 4, 5] bcast_S32x128x384_S1x32x1x1x128x384_1_4_5 msk)) S
    (broadcastInDim S4x32x4x4x128x384 ![] bcast_S_S4x32x4x4x128x384 (constant S_ .f32 0xFF800000#32))

theorem sloc_read (S : FVec Ideal S4x32x4x4x128x384 .f32) (b : Fin 4) (n : Fin 32) (k g : Fin 4) (q : Fin 128) (j : Fin 384) :
    sloc S (ix6 b n k g q j) = if Core.seen n.val q.val j.val then S (ix6 b n k g q j) else ⊥ := by
  have hb : Ideal.ofBits .f32 0xFF800000#32 = ⊥ := by simp [Ideal.ofBits, Ideal.ieee]
  pointwise [sloc, msk_read]
  rw [hb]

/-- The sink of every head. -/
def sink (Z : FVec Ideal S16 .f32) : FVec Ideal S4x32x4x4x128x1 .f32 :=
  broadcastInDim S4x32x4x4x128x1 ![0, 1, 2, 3, 4, 5] bcast_S1x1x4x4x1x1_S4x32x4x4x128x1_0_1_2_3_4_5
    (broadcastInDim S1x1x4x4x1x1 ![2, 3] bcast_S4x4_S1x1x4x4x1x1_2_3 (shapeCast _ Z shapeCasts_S16_S4x4))

theorem sink_read (Z : FVec Ideal S16 .f32) (b : Fin 4) (n : Fin 32) (k g : Fin 4) (q : Fin 128) (o : Fin 1) :
    sink Z (ix6 b n k g q o) = Z (ix1 ⟨k.val * 4 + g.val, by omega⟩) := by
  pointwise [sink]

/-- The greatest of two maxima and a sink. -/
def top3 (S T : FVec Ideal S4x32x4x4x128 .f32) (z : FVec Ideal S4x32x4x4x128x1 .f32) : FVec Ideal S4x32x4x4x128x1 .f32 :=
  maximumf (maximumf
    (broadcastInDim S4x32x4x4x128x1 ![0, 1, 2, 3, 4] bcast_S4x32x4x4x128_S4x32x4x4x128x1_0_1_2_3_4 S)
    (broadcastInDim S4x32x4x4x128x1 ![0, 1, 2, 3, 4] bcast_S4x32x4x4x128_S4x32x4x4x128x1_0_1_2_3_4 T)) z

theorem top3_read (S T : FVec Ideal S4x32x4x4x128 .f32) (z : FVec Ideal S4x32x4x4x128x1 .f32)
    (b : Fin 4) (n : Fin 32) (k g : Fin 4) (q : Fin 128) (o : Fin 1) :
    top3 S T z (ix6 b n k g q o) = max (max (S (ix5 b n k g q)) (T (ix5 b n k g q))) (z (ix6 b n k g q o)) := by
  pointwise [top3]

/-- The maximum each query's exponentials are shifted by. -/
def top (s : FVec Ideal S4x32x4x4x128x384 .f32) (t : FVec Ideal S4x32x4x4x128x256 .f32) (z : FVec Ideal S4x32x4x4x128x1 .f32) :
    FVec Ideal S4x32x4x4x128x1 .f32 :=
  top3 (Host.reduce FloatOps.maximumf s (constant S_ .f32 0xFF800000#32) reducesTo_S4x32x4x4x128x384_S4x32x4x4x128_d5 h_S_)
    (Host.reduce FloatOps.maximumf t (constant S_ .f32 0xFF800000#32) reducesTo_S4x32x4x4x128x256_S4x32x4x4x128_d5 h_S_) z

/-- The exponentials of the scores around. -/
def ploc (s : FVec Ideal S4x32x4x4x128x384 .f32) (M : FVec Ideal S4x32x4x4x128x1 .f32) : FVec Ideal S4x32x4x4x128x384 .f32 :=
  Host.exp (subf s (broadcastInDim S4x32x4x4x128x384 ![0, 1, 2, 3, 4, 5] bcast_S4x32x4x4x128x1_S4x32x4x4x128x384_0_1_2_3_4_5 M))

/-- The exponentials of the context's scores. -/
def pctx (t : FVec Ideal S4x32x4x4x128x256 .f32) (M : FVec Ideal S4x32x4x4x128x1 .f32) : FVec Ideal S4x32x4x4x128x256 .f32 :=
  Host.exp (subf t (broadcastInDim S4x32x4x4x128x256 ![0, 1, 2, 3, 4, 5] bcast_S4x32x4x4x128x1_S4x32x4x4x128x256_0_1_2_3_4_5 M))

/-- Two sums and the sink's exponential, added. -/
def den3 (S T : FVec Ideal S4x32x4x4x128 .f32) (z M : FVec Ideal S4x32x4x4x128x1 .f32) : FVec Ideal S4x32x4x4x128x1 .f32 :=
  addf (addf
    (broadcastInDim S4x32x4x4x128x1 ![0, 1, 2, 3, 4] bcast_S4x32x4x4x128_S4x32x4x4x128x1_0_1_2_3_4 S)
    (broadcastInDim S4x32x4x4x128x1 ![0, 1, 2, 3, 4] bcast_S4x32x4x4x128_S4x32x4x4x128x1_0_1_2_3_4 T)) (Host.exp (subf z M))

theorem den3_read (S T : FVec Ideal S4x32x4x4x128 .f32) (z M : FVec Ideal S4x32x4x4x128x1 .f32)
    (b : Fin 4) (n : Fin 32) (k g : Fin 4) (q : Fin 128) (o : Fin 1) :
    den3 S T z M (ix6 b n k g q o) = (S (ix5 b n k g q) + T (ix5 b n k g q)) + Ideal.exp (z (ix6 b n k g q o) - M (ix6 b n k g q o)) := by
  pointwise [den3]

/-- The denominators. -/
def den (p : FVec Ideal S4x32x4x4x128x384 .f32) (r : FVec Ideal S4x32x4x4x128x256 .f32) (z M : FVec Ideal S4x32x4x4x128x1 .f32) :
    FVec Ideal S4x32x4x4x128x1 .f32 :=
  den3 (Host.reduceAdd p (constant S_ .f32 0x00000000#32) reducesTo_S4x32x4x4x128x384_S4x32x4x4x128_d5 h_S_)
    (Host.reduceAdd r (constant S_ .f32 0x00000000#32) reducesTo_S4x32x4x4x128x256_S4x32x4x4x128_d5 h_S_) z M

/-- The weighted values. -/
def num (V : FVec Ideal S4x32x384x4x128 .f32) (p : FVec Ideal S4x32x4x4x128x384 .f32) (W : FVec Ideal S4x256x4x128 .f32)
    (r : FVec Ideal S4x32x4x4x128x256 .f32) : FVec Ideal S4x32x128x4x4x128 .f32 :=
  addf
    (transpose S4x32x128x4x4x128 [0, 1, 5, 2, 4, 3] (Host.dotGeneral dot_S4x32x384x4x128_S4x32x4x4x128x384_S4x32x4x128x4x128_2_5_4_34_013_012 none V p)
      transposes_S4x32x4x128x4x128_S4x32x128x4x4x128_0_1_5_2_4_3)
    (transpose S4x32x128x4x4x128 [0, 3, 5, 1, 4, 2] (Host.dotGeneral dot_S4x256x4x128_S4x32x4x4x128x256_S4x4x128x32x4x128_1_5_3_134_02_02 none W r)
      transposes_S4x4x128x32x4x128_S4x32x128x4x4x128_0_3_5_1_4_2)

/-- The rows the attention leaves. -/
def res (N : FVec Ideal S4x32x128x4x4x128 .f32) (D : FVec Ideal S4x32x4x4x128x1 .f32) : FVec Ideal S16384x2048 .bf16 :=
  truncf .bf16 (shapeCast S16384x2048 (Host.divf N (broadcastInDim S4x32x128x4x4x128 ![0, 1, 2, 3, 4, 5] bcast_S4x32x128x4x4x1_S4x32x128x4x4x128_0_1_2_3_4_5
    (transpose S4x32x128x4x4x1 [0, 1, 4, 2, 3, 5] D transposes_S4x32x4x4x128x1_S4x32x128x4x4x1_0_1_4_2_3_5))) shapeCasts_S4x32x128x4x4x128_S16384x2048)
    bitsLt_bf16_f32

theorem top_read (s : FVec Ideal S4x32x4x4x128x384 .f32) (t : FVec Ideal S4x32x4x4x128x256 .f32) (z : FVec Ideal S4x32x4x4x128x1 .f32)
    (b : Fin 4) (n : Fin 32) (k g : Fin 4) (q : Fin 128) (o : Fin 1) :
    top s t z (ix6 b n k g q o) = max (max (Finset.univ.fold max ⊥ fun j : Fin 384 => s (ix6 b n k g q j))
      (Finset.univ.fold max ⊥ fun j : Fin 256 => t (ix6 b n k g q j))) (z (ix6 b n k g q o)) := by
  exact (top3_read _ _ z b n k g q o).trans (congrArg (fun x => max x (z (ix6 b n k g q o))) (congrArg₂ max (max_last _ s b n k g q) (max_last _ t b n k g q)))

theorem ploc_read (s : FVec Ideal S4x32x4x4x128x384 .f32) (M : FVec Ideal S4x32x4x4x128x1 .f32)
    (b : Fin 4) (n : Fin 32) (k g : Fin 4) (q : Fin 128) (j : Fin 384) :
    ploc s M (ix6 b n k g q j) = Ideal.exp (s (ix6 b n k g q j) - M (ix6 b n k g q 0)) := by
  pointwise [ploc]

theorem pctx_read (s : FVec Ideal S4x32x4x4x128x256 .f32) (M : FVec Ideal S4x32x4x4x128x1 .f32)
    (b : Fin 4) (n : Fin 32) (k g : Fin 4) (q : Fin 128) (j : Fin 256) :
    pctx s M (ix6 b n k g q j) = Ideal.exp (s (ix6 b n k g q j) - M (ix6 b n k g q 0)) := by
  pointwise [pctx]

theorem den_read (p : FVec Ideal S4x32x4x4x128x384 .f32) (r : FVec Ideal S4x32x4x4x128x256 .f32) (z M : FVec Ideal S4x32x4x4x128x1 .f32)
    (b : Fin 4) (n : Fin 32) (k g : Fin 4) (q : Fin 128) (o : Fin 1) :
    den p r z M (ix6 b n k g q o) = ((∑ j : Fin 384, p (ix6 b n k g q j)) + ∑ j : Fin 256, r (ix6 b n k g q j))
      + Ideal.exp (z (ix6 b n k g q o) - M (ix6 b n k g q o)) := by
  exact (den3_read _ _ z M b n k g q o).trans (congrArg (fun x => x + Ideal.exp (z (ix6 b n k g q o) - M (ix6 b n k g q o))) (congrArg₂ (· + ·) (sum_last _ p b n k g q) (sum_last _ r b n k g q)))

theorem num_read (V : FVec Ideal S4x32x384x4x128 .f32) (p : FVec Ideal S4x32x4x4x128x384 .f32) (W : FVec Ideal S4x256x4x128 .f32)
    (r : FVec Ideal S4x32x4x4x128x256 .f32) (b : Fin 4) (n : Fin 32) (k g : Fin 4) (q : Fin 128) (d : Fin 128) :
    num V p W r (ix6 b n q k g d) = (∑ j : Fin 384, p (ix6 b n k g q j) * V (ix5 b n j k d)) + ∑ j : Fin 256, r (ix6 b n k g q j) * W (ix4 b j k d) := by
  pointwise [num]
  exact congrArg₂ (· + ·) (Finset.sum_congr rfl fun _ _ => mul_comm _ _) (Finset.sum_congr rfl fun _ _ => mul_comm _ _)

theorem res_read (N : FVec Ideal S4x32x128x4x4x128 .f32) (D : FVec Ideal S4x32x4x4x128x1 .f32)
    (b : Fin 4) (n : Fin 32) (q : Fin 128) (k g : Fin 4) (d : Fin 128) (r : Fin 16384) (c : Fin 2048)
    (hr : r.val = b.val * 4096 + n.val * 128 + q.val) (hc : c.val = (k.val * 4 + g.val) * 128 + d.val) :
    res N D (ix2 r c) = Ideal.div (N (ix6 b n q k g d)) (D (ix6 b n k g q 0)) := by
  pointwise [res]
  have e1 : (⟨r.val / 4096, by omega⟩ : Fin 4) = b := Fin.ext (by simp only; omega)
  have e2 : (⟨r.val / 128 % 32, by omega⟩ : Fin 32) = n := Fin.ext (by simp only; omega)
  have e3 : (⟨r.val % 128, by omega⟩ : Fin 128) = q := Fin.ext (by simp only; omega)
  have e4 : (⟨c.val / 512, by omega⟩ : Fin 4) = k := Fin.ext (by simp only; omega)
  have e5 : (⟨c.val / 128 % 4, by omega⟩ : Fin 4) = g := Fin.ext (by simp only; omega)
  have e6 : (⟨c.val % 128, by omega⟩ : Fin 128) = d := Fin.ext (by simp only; omega)
  exact congrArg₂ Ideal.div (by rw [e1, e2, e3, e4, e5, e6]) (by rw [e1, e2, e3, e4, e5])

/-- A row of the blocks around a block, as the attention's row of keys or values. -/
theorem around_read (A : FVec Ideal S16384x3072 .bf16) (C : FVec Ideal S1024x1024 .bf16) (b : Fin 4) (n : Fin 32) (j : Fin 384)
    (h0 : 128 ≤ n.val * 128 + j.val) (h1 : n.val * 128 + j.val - 128 < 4096) (col ca : Fin 3072) (cc : Fin 1024) (hc : col.val = ca.val) :
    A (ix2 ⟨b.val * 4096 + (n.val * 128 + j.val - 128), by omega⟩ col) = Core.kv A C b.val n.val j.val ca cc :=
  (congrArg A (congrArg (fun x : Fin 16384 => ix2 x col) (Fin.ext (Nat.mod_eq_of_lt (by omega)).symm))).trans
    (Core.kv_row A C b.val n.val j.val ca cc j.val col j.isLt rfl hc)

/-- A context row, as the attention's row of keys or values. -/
theorem behind_read (A : FVec Ideal S16384x3072 .bf16) (C : FVec Ideal S1024x1024 .bf16) (b : Fin 4) (n : ℕ) (j : Fin 256)
    (col cc : Fin 1024) (ca : Fin 3072) (hc : col.val = cc.val) :
    C (ix2 ⟨b.val * 256 + j.val, by omega⟩ col) = Core.kv A C b.val n (384 + j.val) ca cc :=
  (congrArg C (congrArg (fun x : Fin 1024 => ix2 x col) (Fin.ext (by
    show b.val * 256 + j.val = (b.val * 256 + (384 + j.val - 384)) % 1024
    omega)))).trans
    (Core.kv_ctx A C b.val n (384 + j.val) ca cc (384 + j.val) col (by omega) rfl hc)

/-- A key of the blocks around that is seen lies in the sequence. -/
theorem seen_inside {n q j : ℕ} (hn : n < 32) (hj : j < 384) (h : Core.seen n q j) : 128 ≤ n * 128 + j ∧ n * 128 + j - 128 < 4096 := by
  unfold Core.seen at h
  omega

/-- The attention of the reference, over its three arguments. -/
def att (A : FVec Ideal S16384x3072 .bf16) (C : FVec Ideal S1024x1024 .bf16) (Z : FVec Ideal S16 .f32) : FVec Ideal S16384x2048 .bf16 :=
  let s := sloc (sraw (qb A) (band (kl A)))
  let t := sctx (qb A) (kc C)
  let M := top s t (sink Z)
  res (num (band (vl A)) (ploc s M) (vc C) (pctx t M)) (den (ploc s M) (pctx t M) (sink Z) M)

/-- What it stores at row `b*4096 + n*128 + q` and head `k*4 + g` is the attention of that query. -/
theorem att_read (A : FVec Ideal S16384x3072 .bf16) (C : FVec Ideal S1024x1024 .bf16) (Z : FVec Ideal S16 .f32)
    (b : Fin 4) (n : Fin 32) (q : Fin 128) (k g : Fin 4) (d : Fin 128) (r : Fin 16384) (c : Fin 2048) (h : Fin 16)
    (hr : r.val = b.val * 4096 + n.val * 128 + q.val) (hc : c.val = (k.val * 4 + g.val) * 128 + d.val) (hh : h.val = k.val * 4 + g.val) :
    att A C Z (ix2 r c) = Core.cell A C Z r h d := by
  have hb : r.val / 4096 = b.val := by omega
  have hn : r.val % 4096 / 128 = n.val := by omega
  have hq : r.val % 128 = q.val := by omega
  have hk : h.val / 4 = k.val := by omega
  have hz : (⟨k.val * 4 + g.val, by omega⟩ : Fin 16) = h := Fin.ext hh.symm
  unfold att Core.cell
  rw [hb, hn, hq]
  rw [res_read _ _ b n q k g d r c hr hc, num_read, den_read]
  simp only [ploc_read, pctx_read, sink_read]
  refine Eq.symm ((Core.att_congr (n := 384 + 256) (s' := Fin.append (fun j => sloc (sraw (qb A) (band (kl A))) (ix6 b n k g q j))
      (fun j => sctx (qb A) (kc C) (ix6 b n k g q j)))
      (v' := Fin.append (fun j => band (vl A) (ix5 b n j k d)) (fun j => vc C (ix4 b j k d))) ?_ (congrArg (fun x => Z (ix1 x)) hz.symm) ?_).trans
    (Core.att_split 384 256 _ _ _ (fun j => sloc (sraw (qb A) (band (kl A))) (ix6 b n k g q j)) (fun j => band (vl A) (ix5 b n j k d))
    (fun j => sctx (qb A) (kc C) (ix6 b n k g q j)) (fun j => vc C (ix4 b j k d)) (fun j => Fin.append_left _ _ j) (fun j => Fin.append_right _ _ j)
    (fun j => Fin.append_left _ _ j) (fun j => Fin.append_right _ _ j) _ ?_))
  · intro j
    refine Fin.addCases (fun j => ?_) (fun j => ?_) j
    · rw [Fin.append_left, sloc_read, sraw_read]
      refine if_ctx_congr Iff.rfl (fun hs => ?_) fun _ => rfl
      obtain ⟨h0, h1⟩ := seen_inside n.isLt j.isLt hs
      refine congrArg (· * Core.scale) (Finset.sum_congr rfl fun e _ => congrArg₂ (· * ·) ?_ ?_)
      · exact ((qb_read A b n q k g e).trans (congrArg A (congrArg₂ ix2 (Fin.ext hr.symm) (Fin.ext (by simp only; rw [hh]))))).symm
      · exact ((band_read _ b n j k e h0 h1).trans ((kl_read A b _ k e).trans
          (around_read A C b n j h0 h1 _ _ _ (by simp only; rw [hk])))).symm
    · rw [Fin.append_right, sctx_read]
      refine (if_pos (Or.inr (Nat.le_add_right 384 j.val))).trans ?_
      refine congrArg (· * Core.scale) (Finset.sum_congr rfl fun e _ => congrArg₂ (· * ·) ?_ ?_)
      · exact ((qb_read A b n q k g e).trans (congrArg A (congrArg₂ ix2 (Fin.ext hr.symm) (Fin.ext (by simp only; rw [hh]))))).symm
      · exact ((kc_read C b j k e).trans (behind_read A C b n.val j _ _ _ (by simp only; rw [hk]))).symm
  · intro j
    refine Fin.addCases (fun j => ?_) (fun j => ?_) j
    · rw [Fin.append_left, sloc_read, Fin.append_left]
      intro hs
      have hw : Core.seen n.val q.val j.val := by
        by_contra hw
        exact hs (if_neg hw)
      obtain ⟨h0, h1⟩ := seen_inside n.isLt j.isLt hw
      exact ((band_read _ b n j k d h0 h1).trans ((vl_read A b _ k d).trans
          (around_read A C b n j h0 h1 _ _ _ (by simp only; rw [hk])))).symm
    · rw [Fin.append_right, Fin.append_right]
      intro _
      exact ((vc_read C b j k d).trans (behind_read A C b n.val j _ _ _ (by simp only; rw [hk]))).symm
  · exact (top_read _ _ _ b n k g q 0).trans (congrArg (max _) (sink_read Z b n k g q 0))

end Cert.ReferenceIdeal.Value

end

end
-- ==== Proof.RefRun.lean ====
module

public import proofs.«01_k».proof.Proof.Ref
public import proofs.«01_k».proof.Proof.Gen.ReferenceIdeal.Run

@[expose] public section

/-! The reference's result array is the attention of its three arguments. -/

set_option maxRecDepth 16384

noncomputable section

namespace Cert.ReferenceIdeal.Value

open Cert.ReferenceIdeal Cert.ReferenceIdeal.Gen Idealize.ShloMosaic Idealize.ShloMosaic.TcCoe Idealize.SL.Sem

/-- The run's result term is the staged attention. -/
theorem res_eq (m : (ℓ : Loc nD τ sig) → Buf (Elt Ideal) ℓ) (c : Dev nD) :
    res_out0 (F := Ideal) m c = att (m ((c.tc : Thread nD τ).loc main_arg0)) (m ((c.tc : Thread nD τ).loc main_arg1)) (m ((c.tc : Thread nD τ).loc main_arg2)) := rfl

end Cert.ReferenceIdeal.Value

end

end
-- ==== Proof.MlpCore.lean ====
module

public import Idealize.ShloMosaic.Lib.Pointwise
public import Idealize.ShloMosaic.Lib.Pipeline.ValueKit

@[expose] public section

/-! A squared-ReLU layer of one row, with the norms around it, on the extended reals. -/

set_option maxRecDepth 16384

noncomputable section

namespace Cert.MlpCore

open Idealize.ShloMosaic

/-- One row scaled to unit mean square, times the gain. -/
def norm (x g : Fin 2048 → EReal) (d : Fin 2048) : EReal :=
  x d * Ideal.rsqrt (Ideal.div (∑ e, x e * x e) (Ideal.ofBits .f32 0x45000000#32) + Ideal.ofBits .f32 0x358637BD#32) * g d

/-- The normed row, scaled and shifted. -/
def modnorm (x g sh sc : Fin 2048 → EReal) (d : Fin 2048) : EReal :=
  norm x g d * (Ideal.ofBits .f32 0x3F800000#32 + sc d) + sh d

/-- One hidden unit: the square of the positive part of the row's product with its weights. -/
def unit (a w : Fin 2048 → EReal) : EReal := max (∑ d, a d * w d) 0 * max (∑ d, a d * w d) 0

/-- One run of 1024 hidden units' part of one output. -/
def part (a : Fin 2048 → EReal) (w1 : Fin 2048 → Fin 8192 → EReal) (w2 : Fin 8192 → EReal) (s : ℕ) : EReal :=
  ∑ l : Fin 1024, unit a (fun d => w1 d ⟨(s * 1024 + l.val) % 8192, Nat.mod_lt _ (by decide)⟩)
    * w2 ⟨(s * 1024 + l.val) % 8192, Nat.mod_lt _ (by decide)⟩

/-- One output of the two products. -/
def prod (a : Fin 2048 → EReal) (w1 : Fin 2048 → Fin 8192 → EReal) (w2 : Fin 8192 → EReal) : EReal :=
  ∑ f : Fin 8192, unit a (fun d => w1 d f) * w2 f

/-- The eight runs of hidden units are all of them. -/
theorem sum_part (a : Fin 2048 → EReal) (w1 : Fin 2048 → Fin 8192 → EReal) (w2 : Fin 8192 → EReal) :
    ∑ s ∈ Finset.range 8, part a w1 w2 s = prod a w1 w2 := by
  rw [Finset.sum_range]
  unfold part prod
  refine Fin.sum_mul_add_congr fun s k hl => ?_
  have e : (⟨(s.val * 1024 + k.val) % 8192, Nat.mod_lt _ (by decide)⟩ : Fin 8192) = ⟨s.val * 1024 + k.val, hl⟩ :=
    Fin.ext (Nat.mod_eq_of_lt hl)
  simp only [e]

/-- What a block revisited eight times holds: the parts of the runs so far, and at the last the finished rows; beside it the
    rows prepared at the first visit. -/
theorem sweep {N : ℕ} {ι : Type*} (O A : (n : ℕ) → n < N → ι → EReal) (P : ℕ → ℕ → ι → EReal) (R : ℕ → ι → EReal)
    (L : ℕ → (ι → EReal) → ι → EReal)
    (first : ∀ n h, n % 8 = 0 → A n h = R (n / 8) ∧ (A n h = R (n / 8) → O n h = P (n / 8) 0))
    (next : ∀ n (h : n + 1 < N), (n + 1) % 8 ≠ 0 → A (n + 1) h = A n (Nat.lt_of_succ_lt h)
      ∧ (A (n + 1) h = R ((n + 1) / 8) → ∀ p : ι → EReal, p = (fun i => O n (Nat.lt_of_succ_lt h) i + P ((n + 1) / 8) ((n + 1) % 8) i) →
        ((n + 1) % 8 ≠ 7 → O (n + 1) h = p) ∧ ((n + 1) % 8 = 7 → O (n + 1) h = L ((n + 1) / 8) p))) :
    ∀ n h, A n h = R (n / 8) ∧ (n % 8 ≠ 7 → O n h = fun i => ∑ s ∈ Finset.range (n % 8 + 1), P (n / 8) s i)
      ∧ (n % 8 = 7 → O n h = L (n / 8) fun i => ∑ s ∈ Finset.range 8, P (n / 8) s i) := by
  intro n
  induction n with
  | zero =>
    intro h
    obtain ⟨a, o⟩ := first 0 h rfl
    refine ⟨a, fun _ => (o a).trans (funext fun i => ?_), fun h => absurd h (by decide)⟩
    simp
  | succ n ih =>
    intro h
    by_cases h0 : (n + 1) % 8 = 0
    · obtain ⟨a, o⟩ := first (n + 1) h h0
      refine ⟨a, fun _ => (o a).trans (funext fun i => ?_), fun h => absurd h (by omega)⟩
      rw [h0]; simp
    · obtain ⟨a, o⟩ := next n h h0
      obtain ⟨ia, io, -⟩ := ih (Nat.lt_of_succ_lt h)
      have hd : (n + 1) / 8 = n / 8 := by omega
      have hm : (n + 1) % 8 = n % 8 + 1 := by omega
      have a' : A (n + 1) h = R ((n + 1) / 8) := by rw [a, ia, hd]
      have hp : (fun i => ∑ s ∈ Finset.range ((n + 1) % 8 + 1), P ((n + 1) / 8) s i)
          = fun i => O n (Nat.lt_of_succ_lt h) i + P ((n + 1) / 8) ((n + 1) % 8) i := by
        rw [io (by omega)]
        funext i
        rw [Finset.sum_range_succ, hd, hm]
      obtain ⟨o1, o2⟩ := o a' _ hp
      exact ⟨a', o1, fun h7 => by rw [o2 h7, h7]⟩

/-- The row `q` of the block of rows `k`. -/
def rowAt (k : ℕ) (q : Fin 512) : Fin 16384 := ⟨(k * 512 + q.val) % 16384, Nat.mod_lt _ (by decide)⟩

/-- The `2048`-wide part of layer `i`'s modulation from place `p` on, for the sequence holding row `r`. -/
def modAt (M : (⟨4, ![2, 8, 1, 12288]⟩ : Shape).Idx → EReal) (i : Fin 2) (p : ℕ) (hp : p ≤ 10240) (r : Fin 16384) (e : Fin 2048) : EReal :=
  M (ix4 i ⟨r.val / 4096, by omega⟩ 0 ⟨p + e.val, by omega⟩)

/-- The prepared row `r` of layer `i`. -/
def prep (X : (⟨2, ![16384, 2048]⟩ : Shape).Idx → EReal) (g : (⟨1, ![2048]⟩ : Shape).Idx → EReal)
    (M : (⟨4, ![2, 8, 1, 12288]⟩ : Shape).Idx → EReal) (i : Fin 2) (r : Fin 16384) : Fin 2048 → EReal :=
  modnorm (fun e => X (ix2 r e)) (fun e => g (ix1 e)) (modAt M i 6144 (by decide) r) (modAt M i 8192 (by decide) r)

/-- The row `r` with layer `i`'s gated outputs `p` added. -/
def residual (X : (⟨2, ![16384, 2048]⟩ : Shape).Idx → EReal) (M : (⟨4, ![2, 8, 1, 12288]⟩ : Shape).Idx → EReal) (i : Fin 2) (r : Fin 16384)
    (p : Fin 2048 → EReal) (e : Fin 2048) : EReal :=
  X (ix2 r e) + modAt M i 10240 (by decide) r e * p e

/-- The layer's result at row `r`, its residual added. -/
def layer (X : (⟨2, ![16384, 2048]⟩ : Shape).Idx → EReal) (g : (⟨1, ![2048]⟩ : Shape).Idx → EReal)
    (M : (⟨4, ![2, 8, 1, 12288]⟩ : Shape).Idx → EReal) (W1 : (⟨2, ![2048, 8192]⟩ : Shape).Idx → EReal)
    (W2 : (⟨2, ![8192, 2048]⟩ : Shape).Idx → EReal) (i : Fin 2) (r : Fin 16384) : Fin 2048 → EReal :=
  residual X M i r fun e => prod (prep X g M i r) (fun d f => W1 (ix2 d f)) (fun f => W2 (ix2 f e))

end Cert.MlpCore

end

end
-- ==== Proof.MlpPay.lean ====
module

public import proofs.«01_k».proof.Proof.MlpCore
public import proofs.«01_k».proof.Proof.Gen.MlpIdeal.Skeleton

@[expose] public section

/-! The second layer's MLP: each value the kernel computes, read at an index. -/

set_option maxRecDepth 16384

noncomputable section

namespace Cert.MlpIdeal.Value

open Cert.MlpIdeal Cert.MlpIdeal.Gen Idealize.ShloMosaic Idealize.ShloMosaic.TcCoe Idealize.SL.Sem

/-- The prepared rows. -/
theorem pay1_read (x : FVec Ideal S512x2048 .f32) (g : FVec Ideal S1x2048 .f32) (sh sc : FVec Ideal S1x1x1x2048 .f32) (q : Fin 512) (d : Fin 2048) :
    k0_pay1 (F := Ideal) x g sh sc (ix2 q d)
      = MlpCore.modnorm (fun e => x (ix2 q e)) (fun e => g (ix2 0 e)) (fun e => sh (ix4 0 0 0 e)) (fun e => sc (ix4 0 0 0 e)) d := by
  pointwise [k0_pay1, MlpCore.modnorm, MlpCore.norm]

/-- One run of hidden units' part of the rows' outputs. -/
theorem pay2_read (a : FVec Ideal S512x2048 .bf16) (w1 : FVec Ideal S2048x1024 .bf16) (w2 : FVec Ideal S1024x2048 .bf16) (q : Fin 512) (d : Fin 2048) :
    k0_pay2 (F := Ideal) a w1 w2 (ix2 q d)
      = ∑ l : Fin 1024, MlpCore.unit (fun e => a (ix2 q e)) (fun e => w1 (ix2 e l)) * w2 (ix2 l d) := by
  pointwise [k0_pay2, MlpCore.unit]

/-- A run's part added to what stood there. -/
theorem pay3_read (a : FVec Ideal S512x2048 .bf16) (w1 : FVec Ideal S2048x1024 .bf16) (w2 : FVec Ideal S1024x2048 .bf16) (o : FVec Ideal S512x2048 .f32)
    (q : Fin 512) (d : Fin 2048) :
    k0_pay3 (F := Ideal) a w1 w2 o (ix2 q d) = o (ix2 q d) + k0_pay2 (F := Ideal) a w1 w2 (ix2 q d) := by
  pointwise [k0_pay3]

/-- The finished rows. -/
theorem pay4_read (x : FVec Ideal S512x2048 .f32) (gt : FVec Ideal S1x1x1x2048 .f32) (o : FVec Ideal S512x2048 .f32) (fg : FVec Ideal S1x2048 .f32)
    (q : Fin 512) (d : Fin 2048) :
    k0_pay4 (F := Ideal) x gt o fg (ix2 q d)
      = MlpCore.norm (fun e => x (ix2 q e) + gt (ix4 0 0 0 e) * o (ix2 q e)) (fun e => fg (ix2 0 e)) d := by
  pointwise [k0_pay4, MlpCore.norm]

end Cert.MlpIdeal.Value

end

end
-- ==== Proof.MlpBlocks.lean ====
module

public import proofs.«01_k».proof.Proof.MlpPay
public import proofs.«01_k».proof.Proof.Gen.MlpIdeal.Value
public import Idealize.ShloMosaic.Lib.Pipeline.ValueKit

@[expose] public section

/-! The second layer's MLP: the blocks one grid point reads, and the result array. -/

set_option maxRecDepth 16384

noncomputable section

namespace Cert.MlpIdeal.Value

open Cert.MlpIdeal Cert.MlpIdeal.Gen Idealize.ShloMosaic Idealize.ShloMosaic.TcCoe Idealize.SL.Sem
open Idealize.ShloMosaic.Pipeline (Dat)

variable (m : (ℓ : Loc nD τ sig) → Buf (Elt Ideal) ℓ)

/-- Where the windows stand at each grid point. -/
theorem idx_val : ∀ t : Fin cfg0.N,
    win0_0.index t = ![t.val / 8, 0]
    ∧ win0_1.index t = ![0, 0]
    ∧ win0_2.index t = ![1, t.val / 64, 0, 3]
    ∧ win0_3.index t = ![1, t.val / 64, 0, 4]
    ∧ win0_4.index t = ![1, t.val / 64, 0, 5]
    ∧ win0_5.index t = ![0, t.val % 8]
    ∧ win0_6.index t = ![t.val % 8, 0]
    ∧ win0_7.index t = ![0, 0]
    ∧ win0_8.index t = ![t.val / 8, 0] :=
  (by decide +kernel : ∀ t : Fin grid0.N, _)

/-- Window 0: the point's rows. -/
theorem blk0 (c : Dev nD) (t : Fin cfg0.N) (q : Fin 512) (e : Fin 2048) :
    iblk m c 0 t (ix2 q e) = m ((c : Thread nD τ).loc main_arg0) (ix2 (MlpCore.rowAt (t.val / 8) q) e) := by
  have ht : t.val < 256 := lt_of_lt_of_eq t.isLt N_0
  unfold MlpCore.rowAt
  blk_point [iblk, V, idx_val t]

/-- Window 1: the gain. -/
theorem blk1 (c : Dev nD) (t : Fin cfg0.N) (e : Fin 2048) :
    iblk m c 1 t (ix2 0 e) = m ((c : Thread nD τ).loc main_arg1) (ix1 e) := by
  blk_point [iblk, V, idx_val t]

/-- Window 2: the shift. -/
theorem blk2 (c : Dev nD) (t : Fin cfg0.N) (q : Fin 512) (e : Fin 2048) :
    iblk m c 2 t (ix4 0 0 0 e) = MlpCore.modAt (m ((c : Thread nD τ).loc main_arg2)) 1 6144 (by decide) (MlpCore.rowAt (t.val / 8) q) e := by
  have ht : t.val < 256 := lt_of_lt_of_eq t.isLt N_0
  unfold MlpCore.modAt MlpCore.rowAt
  blk_point [iblk, V, idx_val t]

/-- Window 3: the scale. -/
theorem blk3 (c : Dev nD) (t : Fin cfg0.N) (q : Fin 512) (e : Fin 2048) :
    iblk m c 3 t (ix4 0 0 0 e) = MlpCore.modAt (m ((c : Thread nD τ).loc main_arg2)) 1 8192 (by decide) (MlpCore.rowAt (t.val / 8) q) e := by
  have ht : t.val < 256 := lt_of_lt_of_eq t.isLt N_0
  unfold MlpCore.modAt MlpCore.rowAt
  blk_point [iblk, V, idx_val t]

/-- Window 4: the gate. -/
theorem blk4 (c : Dev nD) (t : Fin cfg0.N) (q : Fin 512) (e : Fin 2048) :
    iblk m c 4 t (ix4 0 0 0 e) = MlpCore.modAt (m ((c : Thread nD τ).loc main_arg2)) 1 10240 (by decide) (MlpCore.rowAt (t.val / 8) q) e := by
  have ht : t.val < 256 := lt_of_lt_of_eq t.isLt N_0
  unfold MlpCore.modAt MlpCore.rowAt
  blk_point [iblk, V, idx_val t]

/-- Window 5: the run's columns of the first weights. -/
theorem blk5 (c : Dev nD) (t : Fin cfg0.N) (e : Fin 2048) (l : Fin 1024) :
    iblk m c 5 t (ix2 e l) = m ((c : Thread nD τ).loc main_arg3) (ix2 e ⟨(t.val % 8 * 1024 + l.val) % 8192, Nat.mod_lt _ (by decide)⟩) := by
  blk_point [iblk, V, idx_val t]

/-- Window 6: the run's rows of the second weights. -/
theorem blk6 (c : Dev nD) (t : Fin cfg0.N) (l : Fin 1024) (d : Fin 2048) :
    iblk m c 6 t (ix2 l d) = m ((c : Thread nD τ).loc main_arg4) (ix2 ⟨(t.val % 8 * 1024 + l.val) % 8192, Nat.mod_lt _ (by decide)⟩ d) := by
  blk_point [iblk, V, idx_val t]

/-- Window 7: the final gain. -/
theorem blk7 (c : Dev nD) (t : Fin cfg0.N) (e : Fin 2048) :
    iblk m c 7 t (ix2 0 e) = m ((c : Thread nD τ).loc main_arg5) (ix1 e) := by
  blk_point [iblk, V, idx_val t]

/-- The prepared rows of the block of rows `k`. -/
def preps (c : Dev nD) (k : ℕ) (j : S512x2048.Idx) : EReal :=
  MlpCore.prep (m ((c : Thread nD τ).loc main_arg0)) (m ((c : Thread nD τ).loc main_arg1)) (m ((c : Thread nD τ).loc main_arg2)) 1
    (MlpCore.rowAt k (j 0)) (j 1)

/-- The part of the block of rows `k` that the run of hidden units `s` gives. -/
def parts (c : Dev nD) (k s : ℕ) (j : S512x2048.Idx) : EReal :=
  MlpCore.part (fun e => preps m c k (ix2 (j 0) e)) (fun d f => m ((c : Thread nD τ).loc main_arg3) (ix2 d f))
    (fun f => m ((c : Thread nD τ).loc main_arg4) (ix2 f (j 1))) s

/-- The finished rows of the block of rows `k`, from the products' outputs. -/
def ends (c : Dev nD) (k : ℕ) (p : S512x2048.Idx → EReal) (j : S512x2048.Idx) : EReal :=
  MlpCore.norm (MlpCore.residual (m ((c : Thread nD τ).loc main_arg0)) (m ((c : Thread nD τ).loc main_arg2)) 1 (MlpCore.rowAt k (j 0))
    fun e => p (ix2 (j 0) e)) (fun e => m ((c : Thread nD τ).loc main_arg5) (ix1 e)) (j 1)

/-- The prepared rows at a first visit. -/
theorem pay1_at (c : Dev nD) (t : Fin cfg0.N) :
    k0_pay1 (F := Ideal) (iblk m c 0 t) (iblk m c 1 t) (iblk m c 2 t) (iblk m c 3 t) = preps m c (t.val / 8) := by
  funext j
  obtain ⟨q, d, rfl⟩ : ∃ q d, j = ix2 q d := ⟨j 0, j 1, eq_ix2 j⟩
  refine (pay1_read _ _ _ _ q d).trans ?_
  unfold preps MlpCore.prep
  simp only [blk0 m c t, blk1 m c t, blk2 m c t q, blk3 m c t q]
  rfl

/-- A run's part at any visit, over the prepared rows. -/
theorem pay2_at (c : Dev nD) (t : Fin cfg0.N) (a : FVec Ideal S512x2048 .bf16) (ha : a = preps m c (t.val / 8)) :
    k0_pay2 (F := Ideal) a (iblk m c 5 t) (iblk m c 6 t) = parts m c (t.val / 8) (t.val % 8) := by
  subst ha
  funext j
  obtain ⟨q, d, rfl⟩ : ∃ q d, j = ix2 q d := ⟨j 0, j 1, eq_ix2 j⟩
  refine (pay2_read _ _ _ q d).trans ?_
  simp only [blk5 m c t, blk6 m c t]
  rfl

/-- The finished rows at a last visit. -/
theorem pay4_at (c : Dev nD) (t : Fin cfg0.N) (o : FVec Ideal S512x2048 .f32) :
    k0_pay4 (F := Ideal) (iblk m c 0 t) (iblk m c 4 t) o (iblk m c 7 t) = ends m c (t.val / 8) o := by
  funext j
  obtain ⟨q, d, rfl⟩ : ∃ q d, j = ix2 q d := ⟨j 0, j 1, eq_ix2 j⟩
  refine (pay4_read _ _ _ _ q d).trans ?_
  simp only [blk0 m c t, blk4 m c t q, blk7 m c t]
  rfl

/-- What a first visit prepares. -/
theorem prep_first (c : Dev nD) (t : Fin cfg0.N) (h : t.val % 8 = 0) :
    (outsAt0 m c t.val t.isLt).2 = k0_pay1 (F := Ideal) (iblk m c 0 t) (iblk m c 1 t) (iblk m c 2 t) (iblk m c 3 t) := by
  rw [outsAt0_A m c t h h (by omega) (by omega)]
  funext j
  frame_out

/-- What a first visit leaves in the block. -/
theorem out_first (c : Dev nD) (t : Fin cfg0.N) (h : t.val % 8 = 0) :
    (outsAt0 m c t.val t.isLt).1 = k0_pay2 (F := Ideal)
      (k0_pay1 (F := Ideal) (iblk m c 0 t) (iblk m c 1 t) (iblk m c 2 t) (iblk m c 3 t)) (iblk m c 5 t) (iblk m c 6 t) := by
  rw [outsAt0_A m c t h h (by omega) (by omega)]
  funext j
  frame_out

/-- A later visit leaves the prepared rows. -/
theorem prep_next (c : Dev nD) (n : ℕ) (hn : n + 1 < cfg0.N) (h : (n + 1) % 8 ≠ 0) :
    (outsAt0 m c (n + 1) hn).2 = (outsAt0 m c n (Nat.lt_of_succ_lt hn)).2 := by
  by_cases h7 : (n + 1) % 8 = 7
  · rw [outsAt0_C m c ⟨n + 1, hn⟩ h h (by simp only; omega) h7]
    rfl
  · rw [outsAt0_B m c ⟨n + 1, hn⟩ h h (by simp only; omega) h7]
    rfl

/-- A middle visit adds its part to the block. -/
theorem out_next (c : Dev nD) (n : ℕ) (hn : n + 1 < cfg0.N) (h : (n + 1) % 8 ≠ 0) (h7 : (n + 1) % 8 ≠ 7) :
    (outsAt0 m c (n + 1) hn).1 = k0_pay3 (F := Ideal) (outsAt0 m c n (Nat.lt_of_succ_lt hn)).2
      (iblk m c 5 ⟨n + 1, hn⟩) (iblk m c 6 ⟨n + 1, hn⟩) (outsAt0 m c n (Nat.lt_of_succ_lt hn)).1 := by
  rw [outsAt0_B m c ⟨n + 1, hn⟩ h h (by simp only; omega) h7]
  funext j
  frame_out
  erw [Memref.IsWhole.read_unread]
  rfl

/-- The last visit adds its part and finishes the rows. -/
theorem out_last (c : Dev nD) (n : ℕ) (hn : n + 1 < cfg0.N) (h : (n + 1) % 8 ≠ 0) (h7 : (n + 1) % 8 = 7) :
    (outsAt0 m c (n + 1) hn).1 = k0_pay4 (F := Ideal) (iblk m c 0 ⟨n + 1, hn⟩) (iblk m c 4 ⟨n + 1, hn⟩)
      (k0_pay3 (F := Ideal) (outsAt0 m c n (Nat.lt_of_succ_lt hn)).2
        (iblk m c 5 ⟨n + 1, hn⟩) (iblk m c 6 ⟨n + 1, hn⟩) (outsAt0 m c n (Nat.lt_of_succ_lt hn)).1) (iblk m c 7 ⟨n + 1, hn⟩) := by
  rw [outsAt0_C m c ⟨n + 1, hn⟩ h h (by simp only; omega) h7]
  funext j
  frame_out
  erw [Memref.IsWhole.read_unread]
  rfl

/-- What the block and the prepared rows hold after every visit. -/
theorem swept (c : Dev nD) : ∀ n (h : n < cfg0.N), (outsAt0 m c n h).2 = preps m c (n / 8)
    ∧ (n % 8 ≠ 7 → (outsAt0 m c n h).1 = fun i => ∑ s ∈ Finset.range (n % 8 + 1), parts m c (n / 8) s i)
    ∧ (n % 8 = 7 → (outsAt0 m c n h).1 = ends m c (n / 8) fun i => ∑ s ∈ Finset.range 8, parts m c (n / 8) s i) :=
  MlpCore.sweep (N := cfg0.N) (ι := S512x2048.Idx) (fun n h => (outsAt0 m c n h).1) (fun n h => (outsAt0 m c n h).2)
    (parts m c) (preps m c) (ends m c)
    (fun n h h0 => ⟨(prep_first m c ⟨n, h⟩ h0).trans (pay1_at m c ⟨n, h⟩), fun _ =>
      (out_first m c ⟨n, h⟩ h0).trans ((pay2_at m c ⟨n, h⟩ _ (pay1_at m c ⟨n, h⟩)).trans (congrArg (parts m c (n / 8)) h0))⟩)
    (fun n h h0 => ⟨prep_next m c n h h0, fun a p hp => by
      have e3 : k0_pay3 (F := Ideal) (outsAt0 m c n (Nat.lt_of_succ_lt h)).2 (iblk m c 5 ⟨n + 1, h⟩) (iblk m c 6 ⟨n + 1, h⟩)
          (outsAt0 m c n (Nat.lt_of_succ_lt h)).1 = p := by
        rw [hp]
        funext j
        obtain ⟨q, d, rfl⟩ : ∃ q d, j = ix2 q d := ⟨j 0, j 1, eq_ix2 j⟩
        refine (pay3_read _ _ _ _ q d).trans (congrArg _ ?_)
        exact congrFun (pay2_at m c ⟨n + 1, h⟩ _ ((prep_next m c n h h0).symm.trans a)) _
      refine ⟨fun h7 => (out_next m c n h h0 h7).trans e3, fun h7 => (out_last m c n h h0 h7).trans ?_⟩
      rw [e3]
      exact pay4_at m c ⟨n + 1, h⟩ p⟩)

/-- The result over the argument arrays. -/
def G (X : (⟨2, ![16384, 2048]⟩ : Shape).Idx → EReal) (g : (⟨1, ![2048]⟩ : Shape).Idx → EReal)
    (M : (⟨4, ![2, 8, 1, 12288]⟩ : Shape).Idx → EReal) (W1 : (⟨2, ![2048, 8192]⟩ : Shape).Idx → EReal)
    (W2 : (⟨2, ![8192, 2048]⟩ : Shape).Idx → EReal) (fg : (⟨1, ![2048]⟩ : Shape).Idx → EReal) (j : S16384x2048.Idx) : EReal :=
  MlpCore.norm (MlpCore.layer X g M W1 W2 1 (j 0)) (fun e => fg (ix1 e)) (j 1)

/-- The result array after the run. -/
theorem final (c : Dev nD) : (dats m 0 c).arrAt 8 (cfgs 0).N
    = G (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5)) := by
  refine (dats m 0 c).arrAt_eq_of_covers 8 _ (by decide +kernel) fun t hf y => ?_
  have ht : t.val < 256 := lt_of_lt_of_eq t.isLt N_0
  blk_simp
  rw [after0_8]
  have h7 := (flush0_8 t).mp hf
  refine (congrFun ((swept m c t.val t.isLt).2.2 h7) _).trans ?_
  have hr : (win0_8.blk t).view.emb y 0 = MlpCore.rowAt (t.val / 8) (y 0) := by
    unfold MlpCore.rowAt
    refine Fin.ext ?_
    have hy : (y 0).val < 512 := (y 0).isLt
    blk_simp [idx_val t]
    dsimp only
    omega
  have hc : (win0_8.blk t).view.emb y 1 = y 1 := by
    refine Fin.ext ?_
    blk_simp [idx_val t]
  unfold ends G
  rw [hr, hc]
  unfold MlpCore.layer
  simp only [parts, MlpCore.sum_part]
  rfl

end Cert.MlpIdeal.Value

end

end
-- ==== Proof.MlpRef.lean ====
module

public import proofs.«01_k».proof.Proof.MlpCore
public import proofs.«01_k».proof.Proof.Gen.MlpReferenceIdeal

@[expose] public section

/-! The second layer's MLP: the reference's steps, each a definition over its inputs, and each read at an index. -/

set_option maxRecDepth 16384

noncomputable section

namespace Cert.MlpReferenceIdeal.Value

open Cert.MlpReferenceIdeal Cert.MlpReferenceIdeal.Gen Idealize.ShloMosaic Idealize.ShloMosaic.TcCoe Idealize.SL.Sem

/-- The rows, by sequence. -/
def rows (X : FVec Ideal S16384x2048 .f32) : FVec Ideal S4x4096x2048 .f32 :=
  shapeCast _ X shapeCasts_S16384x2048_S4x4096x2048

/-- The layer's modulation, by sequence. -/
def mods (M : FVec Ideal S2x8x1x12288 .f32) : FVec Ideal S4x1x12288 .f32 :=
  shapeCast _ (extractStridedSlice S1x4x1x12288 ![1, 0, 0, 0] M slices_S2x8x1x12288_S1x4x1x12288_1_0_0_0) shapeCasts_S1x4x1x12288_S4x1x12288

/-- The rows scaled to unit mean square, times a gain. -/
def normed (X : FVec Ideal S4x4096x2048 .f32) (g : FVec Ideal S2048 .f32) : FVec Ideal S4x4096x2048 .f32 :=
  mulf (mulf X (broadcastInDim S4x4096x2048 ![0, 1, 2] bcast_S4x4096x1_S4x4096x2048_0_1_2 (Host.rsqrt (addf (Host.divf
    (broadcastInDim S4x4096x1 ![0, 1] bcast_S4x4096_S4x4096x1_0_1 (Host.reduceAdd (mulf X X) (constant S_ .f32 0x00000000#32) reducesTo_S4x4096x2048_S4x4096_d2 h_S_))
    (broadcastInDim S4x4096x1 ![] bcast_S_S4x4096x1 (constant S_ .f32 0x45000000#32))) (broadcastInDim S4x4096x1 ![] bcast_S_S4x4096x1 (constant S_ .f32 0x358637BD#32))))))
    (broadcastInDim S4x4096x2048 ![0, 1, 2] bcast_S1x1x2048_S4x4096x2048_0_1_2 (broadcastInDim S1x1x2048 ![2] bcast_S2048_S1x1x2048_2 g))

/-- The normed rows scaled and shifted. -/
def prepared (N : FVec Ideal S4x4096x2048 .f32) (M : FVec Ideal S4x1x12288 .f32) : FVec Ideal S4x4096x2048 .f32 :=
  addf (mulf N (broadcastInDim S4x4096x2048 ![0, 1, 2] bcast_S4x1x2048_S4x4096x2048_0_1_2
      (addf (broadcastInDim S4x1x2048 ![] bcast_S_S4x1x2048 (constant S_ .f32 0x3F800000#32)) (extractStridedSlice S4x1x2048 ![0, 0, 8192] M slices_S4x1x12288_S4x1x2048_0_0_8192))))
    (broadcastInDim S4x4096x2048 ![0, 1, 2] bcast_S4x1x2048_S4x4096x2048_0_1_2 (extractStridedSlice S4x1x2048 ![0, 0, 6144] M slices_S4x1x12288_S4x1x2048_0_0_6144))

/-- The positive parts of the hidden units. -/
def hidden (A : FVec Ideal S4x4096x2048 .f32) (W : FVec Ideal S2048x8192 .bf16) : FVec Ideal S4x4096x8192 .f32 :=
  maximumf (Host.dotGeneral dot_S4x4096x2048_S2048x8192_S4x4096x8192_2_0_01_1_n_n none A (extf .f32 W bitsLt_bf16_f32))
    (broadcastInDim S4x4096x8192 ![] bcast_S_S4x4096x8192 (constant S_ .f32 0x00000000#32))

/-- The second product. -/
def output (H : FVec Ideal S4x4096x8192 .f32) (W : FVec Ideal S8192x2048 .bf16) : FVec Ideal S4x4096x2048 .f32 :=
  Host.dotGeneral dot_S4x4096x8192_S8192x2048_S4x4096x2048_2_0_01_1_n_n none (mulf H H) (extf .f32 W bitsLt_bf16_f32)

/-- The rows with the gated outputs added. -/
def added (X O : FVec Ideal S4x4096x2048 .f32) (M : FVec Ideal S4x1x12288 .f32) : FVec Ideal S4x4096x2048 .f32 :=
  addf X (mulf (broadcastInDim S4x4096x2048 ![0, 1, 2] bcast_S4x1x2048_S4x4096x2048_0_1_2 (extractStridedSlice S4x1x2048 ![0, 0, 10240] M slices_S4x1x12288_S4x1x2048_0_0_10240)) O)

/-- The whole layer, by sequence. -/
def layer (X : FVec Ideal S16384x2048 .f32) (g : FVec Ideal S2048 .f32) (M : FVec Ideal S2x8x1x12288 .f32) (W1 : FVec Ideal S2048x8192 .bf16)
    (W2 : FVec Ideal S8192x2048 .bf16) : FVec Ideal S4x4096x2048 .f32 :=
  added (rows X) (output (hidden (prepared (normed (rows X) g) (mods M)) W1) W2) (mods M)

/-- The reference's result. -/
def result (X : FVec Ideal S16384x2048 .f32) (g : FVec Ideal S2048 .f32) (M : FVec Ideal S2x8x1x12288 .f32) (W1 : FVec Ideal S2048x8192 .bf16)
    (W2 : FVec Ideal S8192x2048 .bf16) (fg : FVec Ideal S2048 .f32) : FVec Ideal S16384x2048 .f32 :=
  shapeCast _ (normed (layer X g M W1 W2) fg) shapeCasts_S4x4096x2048_S16384x2048

theorem normed_read (X : FVec Ideal S4x4096x2048 .f32) (g : FVec Ideal S2048 .f32) (b : Fin 4) (l : Fin 4096) (d : Fin 2048) :
    normed X g (ix3 b l d) = MlpCore.norm (fun e => X (ix3 b l e)) (fun e => g (ix1 e)) d := by
  pointwise [normed, MlpCore.norm]

theorem prepared_read (N : FVec Ideal S4x4096x2048 .f32) (M : FVec Ideal S4x1x12288 .f32) (b : Fin 4) (l : Fin 4096) (d : Fin 2048) :
    prepared N M (ix3 b l d) = N (ix3 b l d) * (Ideal.ofBits .f32 0x3F800000#32 + M (ix3 b 0 ⟨8192 + d.val, by omega⟩)) + M (ix3 b 0 ⟨6144 + d.val, by omega⟩) := by
  pointwise [prepared]

theorem hidden_read (A : FVec Ideal S4x4096x2048 .f32) (W : FVec Ideal S2048x8192 .bf16) (b : Fin 4) (l : Fin 4096) (f : Fin 8192) :
    hidden A W (ix3 b l f) = max (∑ d : Fin 2048, A (ix3 b l d) * W (ix2 d f)) 0 := by
  pointwise [hidden]

theorem output_read (H : FVec Ideal S4x4096x8192 .f32) (W : FVec Ideal S8192x2048 .bf16) (b : Fin 4) (l : Fin 4096) (d : Fin 2048) :
    output H W (ix3 b l d) = ∑ f : Fin 8192, H (ix3 b l f) * H (ix3 b l f) * W (ix2 f d) := by
  pointwise [output]

theorem added_read (X O : FVec Ideal S4x4096x2048 .f32) (M : FVec Ideal S4x1x12288 .f32) (b : Fin 4) (l : Fin 4096) (d : Fin 2048) :
    added X O M (ix3 b l d) = X (ix3 b l d) + M (ix3 b 0 ⟨10240 + d.val, by omega⟩) * O (ix3 b l d) := by
  pointwise [added]

theorem rows_read (X : FVec Ideal S16384x2048 .f32) (b : Fin 4) (l : Fin 4096) (d : Fin 2048) (r : Fin 16384) (hr : r.val = b.val * 4096 + l.val) :
    rows X (ix3 b l d) = X (ix2 r d) := by
  pointwise [rows]
  exact congrArg X (congrArg (fun r => ix2 r d) (Fin.ext hr.symm))

theorem mods_read (M : FVec Ideal S2x8x1x12288 .f32) (p : ℕ) (hp : p ≤ 10240) (b : Fin 4) (l : Fin 4096) (e : Fin 2048) (r : Fin 16384)
    (hr : r.val = b.val * 4096 + l.val) :
    mods M (ix3 b 0 ⟨p + e.val, by omega⟩) = MlpCore.modAt M 1 p hp r e := by
  unfold MlpCore.modAt
  pointwise [mods]
  exact congrArg M (congrArg (fun b => ix4 1 b 0 _) (Fin.ext (by simp only; omega)))

/-- The layer at row `r`. -/
theorem layer_read (X : FVec Ideal S16384x2048 .f32) (g : FVec Ideal S2048 .f32) (M : FVec Ideal S2x8x1x12288 .f32) (W1 : FVec Ideal S2048x8192 .bf16)
    (W2 : FVec Ideal S8192x2048 .bf16) (b : Fin 4) (l : Fin 4096) (d : Fin 2048) (r : Fin 16384) (hr : r.val = b.val * 4096 + l.val) :
    layer X g M W1 W2 (ix3 b l d) = MlpCore.layer X g M W1 W2 1 r d := by
  unfold layer
  simp only [added_read, output_read, hidden_read, prepared_read, normed_read, rows_read X b l _ r hr, mods_read M 6144 (by decide) b l _ r hr,
    mods_read M 8192 (by decide) b l _ r hr, mods_read M 10240 (by decide) b l _ r hr]
  rfl

/-- The rows by sequence laid out in one run. -/
theorem flat_read (Y : FVec Ideal S4x4096x2048 .f32) (r : Fin 16384) (d : Fin 2048) :
    (shapeCast S16384x2048 Y shapeCasts_S4x4096x2048_S16384x2048 : FVec Ideal S16384x2048 .f32) (ix2 r d)
      = Y (ix3 ⟨r.val / 4096, by omega⟩ ⟨r.val % 4096, by omega⟩ d) := by
  pointwise []

/-- The result at row `r`. -/
theorem result_read (X : FVec Ideal S16384x2048 .f32) (g : FVec Ideal S2048 .f32) (M : FVec Ideal S2x8x1x12288 .f32) (W1 : FVec Ideal S2048x8192 .bf16)
    (W2 : FVec Ideal S8192x2048 .bf16) (fg : FVec Ideal S2048 .f32) (r : Fin 16384) (d : Fin 2048) :
    result X g M W1 W2 fg (ix2 r d) = MlpCore.norm (MlpCore.layer X g M W1 W2 1 r) (fun e => fg (ix1 e)) d := by
  unfold result
  rw [flat_read, normed_read]
  exact congrArg (fun x => MlpCore.norm x (fun e => fg (ix1 e)) d)
    (funext fun e => layer_read X g M W1 W2 ⟨r.val / 4096, by omega⟩ ⟨r.val % 4096, by omega⟩ e r (by dsimp only; omega))

end Cert.MlpReferenceIdeal.Value

end

end
-- ==== Proof.MlpRun.lean ====
module

public import proofs.«01_k».proof.Proof.MlpRef
public import proofs.«01_k».proof.Proof.Gen.MlpReferenceIdeal.Run

@[expose] public section

/-! The second layer's MLP: the reference's result array, over its arguments. -/

set_option maxRecDepth 16384

noncomputable section

namespace Cert.MlpReferenceIdeal.Value

open Cert.MlpReferenceIdeal Cert.MlpReferenceIdeal.Gen Idealize.ShloMosaic Idealize.ShloMosaic.TcCoe Idealize.SL.Sem

/-- The run's result term is the staged layer. -/
theorem res_eq (m : (ℓ : Loc nD τ sig) → Buf (Elt Ideal) ℓ) (c : Dev nD) :
    res_out0 (F := Ideal) m c = result (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) (m ((c.tc : Thread nD τ).loc main_arg5)) := rfl

end Cert.MlpReferenceIdeal.Value

end

end
-- ==== Proof.Mlp0Pay.lean ====
module

public import proofs.«01_k».proof.Proof.MlpPay
public import proofs.«01_k».proof.Proof.Gen.Mlp0Ideal.Skeleton

@[expose] public section

/-! The first layer's MLP: each value the kernel computes, read at an index. -/

set_option maxRecDepth 16384

noncomputable section

namespace Cert.Mlp0Ideal.Value

open Cert.Mlp0Ideal Cert.Mlp0Ideal.Gen Idealize.ShloMosaic Idealize.ShloMosaic.TcCoe Idealize.SL.Sem

/-- The prepared rows. -/
theorem pay1_read (x : FVec Ideal S512x2048 .f32) (g : FVec Ideal S1x2048 .f32) (sh sc : FVec Ideal S1x1x1x2048 .f32) (q : Fin 512) (d : Fin 2048) :
    k0_pay1 (F := Ideal) x g sh sc (ix2 q d)
      = MlpCore.modnorm (fun e => x (ix2 q e)) (fun e => g (ix2 0 e)) (fun e => sh (ix4 0 0 0 e)) (fun e => sc (ix4 0 0 0 e)) d :=
  MlpIdeal.Value.pay1_read x g sh sc q d

/-- One run of hidden units' part of the rows' outputs. -/
theorem pay2_read (a : FVec Ideal S512x2048 .bf16) (w1 : FVec Ideal S2048x1024 .bf16) (w2 : FVec Ideal S1024x2048 .bf16) (q : Fin 512) (d : Fin 2048) :
    k0_pay2 (F := Ideal) a w1 w2 (ix2 q d)
      = ∑ l : Fin 1024, MlpCore.unit (fun e => a (ix2 q e)) (fun e => w1 (ix2 e l)) * w2 (ix2 l d) :=
  MlpIdeal.Value.pay2_read a w1 w2 q d

/-- A run's part added to what stood there. -/
theorem pay3_read (a : FVec Ideal S512x2048 .bf16) (w1 : FVec Ideal S2048x1024 .bf16) (w2 : FVec Ideal S1024x2048 .bf16) (o : FVec Ideal S512x2048 .f32)
    (q : Fin 512) (d : Fin 2048) :
    k0_pay3 (F := Ideal) a w1 w2 o (ix2 q d) = o (ix2 q d) + k0_pay2 (F := Ideal) a w1 w2 (ix2 q d) :=
  MlpIdeal.Value.pay3_read a w1 w2 o q d

/-- The finished rows: the residual alone, with no norm after it. -/
theorem pay4_read (x : FVec Ideal S512x2048 .f32) (gt : FVec Ideal S1x1x1x2048 .f32) (o : FVec Ideal S512x2048 .f32) (q : Fin 512) (d : Fin 2048) :
    k0_pay4 (F := Ideal) x gt o (ix2 q d) = x (ix2 q d) + gt (ix4 0 0 0 d) * o (ix2 q d) := by
  pointwise [k0_pay4]

end Cert.Mlp0Ideal.Value

end

end
-- ==== Proof.Mlp0Blocks.lean ====
module

public import proofs.«01_k».proof.Proof.Mlp0Pay
public import proofs.«01_k».proof.Proof.Gen.Mlp0Ideal.Value
public import Idealize.ShloMosaic.Lib.Pipeline.ValueKit

@[expose] public section

/-! The first layer's MLP: the blocks one grid point reads, and the result array. -/

set_option maxRecDepth 16384

noncomputable section

namespace Cert.Mlp0Ideal.Value

open Cert.Mlp0Ideal Cert.Mlp0Ideal.Gen Idealize.ShloMosaic Idealize.ShloMosaic.TcCoe Idealize.SL.Sem
open Idealize.ShloMosaic.Pipeline (Dat)

variable (m : (ℓ : Loc nD τ sig) → Buf (Elt Ideal) ℓ)

/-- Where the windows stand at each grid point. -/
theorem idx_val : ∀ t : Fin cfg0.N,
    win0_0.index t = ![t.val / 8, 0]
    ∧ win0_1.index t = ![0, 0]
    ∧ win0_2.index t = ![0, t.val / 64, 0, 3]
    ∧ win0_3.index t = ![0, t.val / 64, 0, 4]
    ∧ win0_4.index t = ![0, t.val / 64, 0, 5]
    ∧ win0_5.index t = ![0, t.val % 8]
    ∧ win0_6.index t = ![t.val % 8, 0]
    ∧ win0_7.index t = ![t.val / 8, 0] :=
  (by decide +kernel : ∀ t : Fin grid0.N, _)

/-- Window 0: the point's rows. -/
theorem blk0 (c : Dev nD) (t : Fin cfg0.N) (q : Fin 512) (e : Fin 2048) :
    iblk m c 0 t (ix2 q e) = m ((c : Thread nD τ).loc main_arg0) (ix2 (MlpCore.rowAt (t.val / 8) q) e) := by
  have ht : t.val < 256 := lt_of_lt_of_eq t.isLt N_0
  unfold MlpCore.rowAt
  blk_point [iblk, V, idx_val t]

/-- Window 1: the gain. -/
theorem blk1 (c : Dev nD) (t : Fin cfg0.N) (e : Fin 2048) :
    iblk m c 1 t (ix2 0 e) = m ((c : Thread nD τ).loc main_arg1) (ix1 e) := by
  blk_point [iblk, V, idx_val t]

/-- Window 2: the shift. -/
theorem blk2 (c : Dev nD) (t : Fin cfg0.N) (q : Fin 512) (e : Fin 2048) :
    iblk m c 2 t (ix4 0 0 0 e) = MlpCore.modAt (m ((c : Thread nD τ).loc main_arg2)) 0 6144 (by decide) (MlpCore.rowAt (t.val / 8) q) e := by
  have ht : t.val < 256 := lt_of_lt_of_eq t.isLt N_0
  unfold MlpCore.modAt MlpCore.rowAt
  blk_point [iblk, V, idx_val t]

/-- Window 3: the scale. -/
theorem blk3 (c : Dev nD) (t : Fin cfg0.N) (q : Fin 512) (e : Fin 2048) :
    iblk m c 3 t (ix4 0 0 0 e) = MlpCore.modAt (m ((c : Thread nD τ).loc main_arg2)) 0 8192 (by decide) (MlpCore.rowAt (t.val / 8) q) e := by
  have ht : t.val < 256 := lt_of_lt_of_eq t.isLt N_0
  unfold MlpCore.modAt MlpCore.rowAt
  blk_point [iblk, V, idx_val t]

/-- Window 4: the gate. -/
theorem blk4 (c : Dev nD) (t : Fin cfg0.N) (q : Fin 512) (e : Fin 2048) :
    iblk m c 4 t (ix4 0 0 0 e) = MlpCore.modAt (m ((c : Thread nD τ).loc main_arg2)) 0 10240 (by decide) (MlpCore.rowAt (t.val / 8) q) e := by
  have ht : t.val < 256 := lt_of_lt_of_eq t.isLt N_0
  unfold MlpCore.modAt MlpCore.rowAt
  blk_point [iblk, V, idx_val t]

/-- Window 5: the run's columns of the first weights. -/
theorem blk5 (c : Dev nD) (t : Fin cfg0.N) (e : Fin 2048) (l : Fin 1024) :
    iblk m c 5 t (ix2 e l) = m ((c : Thread nD τ).loc main_arg3) (ix2 e ⟨(t.val % 8 * 1024 + l.val) % 8192, Nat.mod_lt _ (by decide)⟩) := by
  blk_point [iblk, V, idx_val t]

/-- Window 6: the run's rows of the second weights. -/
theorem blk6 (c : Dev nD) (t : Fin cfg0.N) (l : Fin 1024) (d : Fin 2048) :
    iblk m c 6 t (ix2 l d) = m ((c : Thread nD τ).loc main_arg4) (ix2 ⟨(t.val % 8 * 1024 + l.val) % 8192, Nat.mod_lt _ (by decide)⟩ d) := by
  blk_point [iblk, V, idx_val t]

/-- The prepared rows of the block of rows `k`. -/
def preps (c : Dev nD) (k : ℕ) (j : S512x2048.Idx) : EReal :=
  MlpCore.prep (m ((c : Thread nD τ).loc main_arg0)) (m ((c : Thread nD τ).loc main_arg1)) (m ((c : Thread nD τ).loc main_arg2)) 0
    (MlpCore.rowAt k (j 0)) (j 1)

/-- The part of the block of rows `k` that the run of hidden units `s` gives. -/
def parts (c : Dev nD) (k s : ℕ) (j : S512x2048.Idx) : EReal :=
  MlpCore.part (fun e => preps m c k (ix2 (j 0) e)) (fun d f => m ((c : Thread nD τ).loc main_arg3) (ix2 d f))
    (fun f => m ((c : Thread nD τ).loc main_arg4) (ix2 f (j 1))) s

/-- The finished rows of the block of rows `k`, from the products' outputs. -/
def ends (c : Dev nD) (k : ℕ) (p : S512x2048.Idx → EReal) (j : S512x2048.Idx) : EReal :=
  MlpCore.residual (m ((c : Thread nD τ).loc main_arg0)) (m ((c : Thread nD τ).loc main_arg2)) 0 (MlpCore.rowAt k (j 0))
    (fun e => p (ix2 (j 0) e)) (j 1)

/-- The prepared rows at a first visit. -/
theorem pay1_at (c : Dev nD) (t : Fin cfg0.N) :
    k0_pay1 (F := Ideal) (iblk m c 0 t) (iblk m c 1 t) (iblk m c 2 t) (iblk m c 3 t) = preps m c (t.val / 8) := by
  funext j
  obtain ⟨q, d, rfl⟩ : ∃ q d, j = ix2 q d := ⟨j 0, j 1, eq_ix2 j⟩
  refine (pay1_read _ _ _ _ q d).trans ?_
  unfold preps MlpCore.prep
  simp only [blk0 m c t, blk1 m c t, blk2 m c t q, blk3 m c t q]
  rfl

/-- A run's part at any visit, over the prepared rows. -/
theorem pay2_at (c : Dev nD) (t : Fin cfg0.N) (a : FVec Ideal S512x2048 .bf16) (ha : a = preps m c (t.val / 8)) :
    k0_pay2 (F := Ideal) a (iblk m c 5 t) (iblk m c 6 t) = parts m c (t.val / 8) (t.val % 8) := by
  subst ha
  funext j
  obtain ⟨q, d, rfl⟩ : ∃ q d, j = ix2 q d := ⟨j 0, j 1, eq_ix2 j⟩
  refine (pay2_read _ _ _ q d).trans ?_
  simp only [blk5 m c t, blk6 m c t]
  rfl

/-- The finished rows at a last visit. -/
theorem pay4_at (c : Dev nD) (t : Fin cfg0.N) (o : FVec Ideal S512x2048 .f32) :
    k0_pay4 (F := Ideal) (iblk m c 0 t) (iblk m c 4 t) o = ends m c (t.val / 8) o := by
  funext j
  obtain ⟨q, d, rfl⟩ : ∃ q d, j = ix2 q d := ⟨j 0, j 1, eq_ix2 j⟩
  refine (pay4_read _ _ _ q d).trans ?_
  simp only [blk0 m c t, blk4 m c t q]
  rfl

/-- What a first visit prepares. -/
theorem prep_first (c : Dev nD) (t : Fin cfg0.N) (h : t.val % 8 = 0) :
    (outsAt0 m c t.val t.isLt).2 = k0_pay1 (F := Ideal) (iblk m c 0 t) (iblk m c 1 t) (iblk m c 2 t) (iblk m c 3 t) := by
  rw [outsAt0_A m c t h h (by omega) (by omega)]
  funext j
  frame_out

/-- What a first visit leaves in the block. -/
theorem out_first (c : Dev nD) (t : Fin cfg0.N) (h : t.val % 8 = 0) :
    (outsAt0 m c t.val t.isLt).1 = k0_pay2 (F := Ideal)
      (k0_pay1 (F := Ideal) (iblk m c 0 t) (iblk m c 1 t) (iblk m c 2 t) (iblk m c 3 t)) (iblk m c 5 t) (iblk m c 6 t) := by
  rw [outsAt0_A m c t h h (by omega) (by omega)]
  funext j
  frame_out

/-- A later visit leaves the prepared rows. -/
theorem prep_next (c : Dev nD) (n : ℕ) (hn : n + 1 < cfg0.N) (h : (n + 1) % 8 ≠ 0) :
    (outsAt0 m c (n + 1) hn).2 = (outsAt0 m c n (Nat.lt_of_succ_lt hn)).2 := by
  by_cases h7 : (n + 1) % 8 = 7
  · rw [outsAt0_C m c ⟨n + 1, hn⟩ h h (by simp only; omega) h7]
    rfl
  · rw [outsAt0_B m c ⟨n + 1, hn⟩ h h (by simp only; omega) h7]
    rfl

/-- A middle visit adds its part to the block. -/
theorem out_next (c : Dev nD) (n : ℕ) (hn : n + 1 < cfg0.N) (h : (n + 1) % 8 ≠ 0) (h7 : (n + 1) % 8 ≠ 7) :
    (outsAt0 m c (n + 1) hn).1 = k0_pay3 (F := Ideal) (outsAt0 m c n (Nat.lt_of_succ_lt hn)).2
      (iblk m c 5 ⟨n + 1, hn⟩) (iblk m c 6 ⟨n + 1, hn⟩) (outsAt0 m c n (Nat.lt_of_succ_lt hn)).1 := by
  rw [outsAt0_B m c ⟨n + 1, hn⟩ h h (by simp only; omega) h7]
  funext j
  frame_out
  erw [Memref.IsWhole.read_unread]
  rfl

/-- The last visit adds its part and finishes the rows. -/
theorem out_last (c : Dev nD) (n : ℕ) (hn : n + 1 < cfg0.N) (h : (n + 1) % 8 ≠ 0) (h7 : (n + 1) % 8 = 7) :
    (outsAt0 m c (n + 1) hn).1 = k0_pay4 (F := Ideal) (iblk m c 0 ⟨n + 1, hn⟩) (iblk m c 4 ⟨n + 1, hn⟩)
      (k0_pay3 (F := Ideal) (outsAt0 m c n (Nat.lt_of_succ_lt hn)).2
        (iblk m c 5 ⟨n + 1, hn⟩) (iblk m c 6 ⟨n + 1, hn⟩) (outsAt0 m c n (Nat.lt_of_succ_lt hn)).1) := by
  rw [outsAt0_C m c ⟨n + 1, hn⟩ h h (by simp only; omega) h7]
  funext j
  frame_out
  erw [Memref.IsWhole.read_unread]
  rfl

/-- What the block and the prepared rows hold after every visit. -/
theorem swept (c : Dev nD) : ∀ n (h : n < cfg0.N), (outsAt0 m c n h).2 = preps m c (n / 8)
    ∧ (n % 8 ≠ 7 → (outsAt0 m c n h).1 = fun i => ∑ s ∈ Finset.range (n % 8 + 1), parts m c (n / 8) s i)
    ∧ (n % 8 = 7 → (outsAt0 m c n h).1 = ends m c (n / 8) fun i => ∑ s ∈ Finset.range 8, parts m c (n / 8) s i) :=
  MlpCore.sweep (N := cfg0.N) (ι := S512x2048.Idx) (fun n h => (outsAt0 m c n h).1) (fun n h => (outsAt0 m c n h).2)
    (parts m c) (preps m c) (ends m c)
    (fun n h h0 => ⟨(prep_first m c ⟨n, h⟩ h0).trans (pay1_at m c ⟨n, h⟩), fun _ =>
      (out_first m c ⟨n, h⟩ h0).trans ((pay2_at m c ⟨n, h⟩ _ (pay1_at m c ⟨n, h⟩)).trans (congrArg (parts m c (n / 8)) h0))⟩)
    (fun n h h0 => ⟨prep_next m c n h h0, fun a p hp => by
      have e3 : k0_pay3 (F := Ideal) (outsAt0 m c n (Nat.lt_of_succ_lt h)).2 (iblk m c 5 ⟨n + 1, h⟩) (iblk m c 6 ⟨n + 1, h⟩)
          (outsAt0 m c n (Nat.lt_of_succ_lt h)).1 = p := by
        rw [hp]
        funext j
        obtain ⟨q, d, rfl⟩ : ∃ q d, j = ix2 q d := ⟨j 0, j 1, eq_ix2 j⟩
        refine (pay3_read _ _ _ _ q d).trans (congrArg _ ?_)
        exact congrFun (pay2_at m c ⟨n + 1, h⟩ _ ((prep_next m c n h h0).symm.trans a)) _
      refine ⟨fun h7 => (out_next m c n h h0 h7).trans e3, fun h7 => (out_last m c n h h0 h7).trans ?_⟩
      rw [e3]
      exact pay4_at m c ⟨n + 1, h⟩ p⟩)

/-- The result over the argument arrays. -/
def G (X : (⟨2, ![16384, 2048]⟩ : Shape).Idx → EReal) (g : (⟨1, ![2048]⟩ : Shape).Idx → EReal)
    (M : (⟨4, ![2, 8, 1, 12288]⟩ : Shape).Idx → EReal) (W1 : (⟨2, ![2048, 8192]⟩ : Shape).Idx → EReal)
    (W2 : (⟨2, ![8192, 2048]⟩ : Shape).Idx → EReal) (j : S16384x2048.Idx) : EReal :=
  MlpCore.layer X g M W1 W2 0 (j 0) (j 1)

/-- The result array after the run. -/
theorem final (c : Dev nD) : (dats m 0 c).arrAt 7 (cfgs 0).N
    = G (m ((c : Thread nD τ).loc main_arg0)) (m ((c : Thread nD τ).loc main_arg1)) (m ((c : Thread nD τ).loc main_arg2))
      (m ((c : Thread nD τ).loc main_arg3)) (m ((c : Thread nD τ).loc main_arg4)) := by
  refine (dats m 0 c).arrAt_eq_of_covers 7 _ (by decide +kernel) fun t hf y => ?_
  have ht : t.val < 256 := lt_of_lt_of_eq t.isLt N_0
  blk_simp
  rw [after0_7]
  have h7 := (flush0_7 t).mp hf
  refine (congrFun ((swept m c t.val t.isLt).2.2 h7) _).trans ?_
  have hr : (win0_7.blk t).view.emb y 0 = MlpCore.rowAt (t.val / 8) (y 0) := by
    unfold MlpCore.rowAt
    refine Fin.ext ?_
    have hy : (y 0).val < 512 := (y 0).isLt
    blk_simp [idx_val t]
    dsimp only
    omega
  have hc : (win0_7.blk t).view.emb y 1 = y 1 := by
    refine Fin.ext ?_
    blk_simp [idx_val t]
  unfold ends G
  rw [hr, hc]
  unfold MlpCore.layer
  simp only [parts, MlpCore.sum_part]
  rfl

end Cert.Mlp0Ideal.Value

end

end
-- ==== Proof.Mlp0Ref.lean ====
module

public import proofs.«01_k».proof.Proof.MlpRef
public import proofs.«01_k».proof.Proof.Gen.Mlp0ReferenceIdeal

@[expose] public section

/-! The first layer's MLP: the reference's steps, over those it shares with the second layer's. -/

set_option maxRecDepth 16384

noncomputable section

namespace Cert.Mlp0ReferenceIdeal.Value

open Cert.Mlp0ReferenceIdeal Cert.Mlp0ReferenceIdeal.Gen Idealize.ShloMosaic Idealize.ShloMosaic.TcCoe Idealize.SL.Sem

/-- The layer's modulation, by sequence. -/
def mods (M : FVec Ideal S2x8x1x12288 .f32) : FVec Ideal S4x1x12288 .f32 :=
  shapeCast _ (extractStridedSlice S1x4x1x12288 ![0, 0, 0, 0] M slices_S2x8x1x12288_S1x4x1x12288_0_0_0_0) shapeCasts_S1x4x1x12288_S4x1x12288

/-- The whole layer, by sequence. -/
def layer (X : FVec Ideal S16384x2048 .f32) (g : FVec Ideal S2048 .f32) (M : FVec Ideal S2x8x1x12288 .f32) (W1 : FVec Ideal S2048x8192 .bf16)
    (W2 : FVec Ideal S8192x2048 .bf16) : FVec Ideal S4x4096x2048 .f32 :=
  MlpReferenceIdeal.Value.added (MlpReferenceIdeal.Value.rows X) (MlpReferenceIdeal.Value.output (MlpReferenceIdeal.Value.hidden
    (MlpReferenceIdeal.Value.prepared (MlpReferenceIdeal.Value.normed (MlpReferenceIdeal.Value.rows X) g) (mods M)) W1) W2) (mods M)

/-- The reference's result. -/
def result (X : FVec Ideal S16384x2048 .f32) (g : FVec Ideal S2048 .f32) (M : FVec Ideal S2x8x1x12288 .f32) (W1 : FVec Ideal S2048x8192 .bf16)
    (W2 : FVec Ideal S8192x2048 .bf16) : FVec Ideal S16384x2048 .f32 :=
  shapeCast _ (layer X g M W1 W2) shapeCasts_S4x4096x2048_S16384x2048

/-- A 2048-wide part of the layer's modulation. -/
theorem mods_read (M : FVec Ideal S2x8x1x12288 .f32) (p : ℕ) (hp : p ≤ 10240) (b : Fin 4) (l : Fin 4096) (e : Fin 2048) (r : Fin 16384)
    (hr : r.val = b.val * 4096 + l.val) :
    mods M (ix3 b 0 ⟨p + e.val, by omega⟩) = MlpCore.modAt M 0 p hp r e := by
  unfold MlpCore.modAt
  pointwise [mods]
  exact congrArg M (congrArg (fun b => ix4 0 b 0 _) (Fin.ext (by simp only; omega)))

/-- The layer at row `r`. -/
theorem layer_read (X : FVec Ideal S16384x2048 .f32) (g : FVec Ideal S2048 .f32) (M : FVec Ideal S2x8x1x12288 .f32) (W1 : FVec Ideal S2048x8192 .bf16)
    (W2 : FVec Ideal S8192x2048 .bf16) (b : Fin 4) (l : Fin 4096) (d : Fin 2048) (r : Fin 16384) (hr : r.val = b.val * 4096 + l.val) :
    layer X g M W1 W2 (ix3 b l d) = MlpCore.layer X g M W1 W2 0 r d := by
  unfold layer
  simp only [MlpReferenceIdeal.Value.added_read, MlpReferenceIdeal.Value.output_read, MlpReferenceIdeal.Value.hidden_read,
    MlpReferenceIdeal.Value.prepared_read, MlpReferenceIdeal.Value.normed_read, MlpReferenceIdeal.Value.rows_read X b l _ r hr,
    mods_read M 6144 (by decide) b l _ r hr, mods_read M 8192 (by decide) b l _ r hr, mods_read M 10240 (by decide) b l _ r hr]
  rfl

/-- The result at row `r`. -/
theorem result_read (X : FVec Ideal S16384x2048 .f32) (g : FVec Ideal S2048 .f32) (M : FVec Ideal S2x8x1x12288 .f32) (W1 : FVec Ideal S2048x8192 .bf16)
    (W2 : FVec Ideal S8192x2048 .bf16) (r : Fin 16384) (d : Fin 2048) :
    result X g M W1 W2 (ix2 r d) = MlpCore.layer X g M W1 W2 0 r d :=
  (MlpReferenceIdeal.Value.flat_read (layer X g M W1 W2) r d).trans
    (layer_read X g M W1 W2 ⟨r.val / 4096, by omega⟩ ⟨r.val % 4096, by omega⟩ d r (by dsimp only; omega))

end Cert.Mlp0ReferenceIdeal.Value

end

end
-- ==== Proof.Mlp0Run.lean ====
module

public import proofs.«01_k».proof.Proof.Mlp0Ref
public import proofs.«01_k».proof.Proof.Gen.Mlp0ReferenceIdeal.Run

@[expose] public section

/-! The first layer's MLP: the reference's result array, over its arguments. -/

set_option maxRecDepth 16384

noncomputable section

namespace Cert.Mlp0ReferenceIdeal.Value

open Cert.Mlp0ReferenceIdeal Cert.Mlp0ReferenceIdeal.Gen Idealize.ShloMosaic Idealize.ShloMosaic.TcCoe Idealize.SL.Sem

/-- The run's result term is the staged layer. -/
theorem res_eq (m : (ℓ : Loc nD τ sig) → Buf (Elt Ideal) ℓ) (c : Dev nD) :
    res_out0 (F := Ideal) m c = result (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := rfl

end Cert.Mlp0ReferenceIdeal.Value

end

end
-- ==== Proof.OutCore.lean ====
module

public import proofs.«01_k».proof.Proof.MlpCore

@[expose] public section

/-! A mixer's output projected, gated and added to the rows, on the extended reals. -/

set_option maxRecDepth 16384

noncomputable section

namespace Cert.OutCore

open Idealize.ShloMosaic

/-- The row `q` of the block of 1024 rows `k`. -/
def rowAt (k : ℕ) (q : Fin 1024) : Fin 16384 := ⟨(k * 1024 + q.val) % 16384, Nat.mod_lt _ (by decide)⟩

/-- The column `e` of the block of 512 columns `k`. -/
def colAt (k : ℕ) (e : Fin 512) : Fin 2048 := ⟨(k * 512 + e.val) % 2048, Nat.mod_lt _ (by decide)⟩

/-- The rows with layer `i`'s gated projection added. -/
def gated {n : ℕ} (Y : (⟨2, ![16384, n]⟩ : Shape).Idx → EReal) (W : (⟨2, ![n, 2048]⟩ : Shape).Idx → EReal)
    (X : (⟨2, ![16384, 2048]⟩ : Shape).Idx → EReal) (M : (⟨4, ![2, 8, 1, 12288]⟩ : Shape).Idx → EReal) (i : Fin 2) (r : Fin 16384) (d : Fin 2048) : EReal :=
  X (ix2 r d) + MlpCore.modAt M i 4096 (by decide) r d * ∑ e : Fin n, Y (ix2 r e) * W (ix2 e d)

end Cert.OutCore

end

end
-- ==== Proof.RetOutBlocks.lean ====
module

public import proofs.«01_k».proof.Proof.OutCore
public import proofs.«01_k».proof.Proof.Gen.RetOutIdeal.Skeleton
public import proofs.«01_k».proof.Proof.Gen.RetOutIdeal.Value
public import Idealize.ShloMosaic.Lib.Pipeline.ValueKit

@[expose] public section

/-! The first layer's output projection: the kernel's value, the blocks one grid point reads, and the result array. -/

set_option maxRecDepth 16384

noncomputable section

namespace Cert.RetOutIdeal.Value

open Cert.RetOutIdeal Cert.RetOutIdeal.Gen Idealize.ShloMosaic Idealize.ShloMosaic.TcCoe Idealize.SL.Sem
open Idealize.ShloMosaic.Pipeline (Dat)

/-- The rows of one block with their gated projection added. -/
theorem pay1_read (y : FVec Ideal S1024x4096 .bf16) (w : FVec Ideal S4096x512 .bf16) (x : FVec Ideal S1024x512 .f32) (gt : FVec Ideal S1x1x1x512 .f32)
    (q : Fin 1024) (d : Fin 512) :
    k0_pay1 (F := Ideal) y w x gt (ix2 q d) = x (ix2 q d) + gt (ix4 0 0 0 d) * ∑ e : Fin 4096, y (ix2 q e) * w (ix2 e d) := by
  pointwise [k0_pay1]

variable (m : (ℓ : Loc nD τ sig) → Buf (Elt Ideal) ℓ)

/-- Where the windows stand at each grid point. -/
theorem idx_val : ∀ t : Fin cfg0.N,
    win0_0.index t = ![t.val / 4, 0]
    ∧ win0_1.index t = ![0, t.val % 4]
    ∧ win0_2.index t = ![t.val / 4, t.val % 4]
    ∧ win0_3.index t = ![0, t.val / 16, 0, 8 + t.val % 4]
    ∧ win0_4.index t = ![t.val / 4, t.val % 4] :=
  (by decide +kernel : ∀ t : Fin grid0.N, _)

/-- Window 0: the mixer's rows. -/
theorem blk0 (c : Dev nD) (t : Fin cfg0.N) (q : Fin 1024) (e : Fin 4096) :
    iblk m c 0 t (ix2 q e) = m ((c : Thread nD τ).loc main_arg0) (ix2 (OutCore.rowAt (t.val / 4) q) e) := by
  have ht : t.val < 64 := lt_of_lt_of_eq t.isLt N_0
  unfold OutCore.rowAt
  blk_point [iblk, V, idx_val t]

/-- Window 1: the columns of the weights. -/
theorem blk1 (c : Dev nD) (t : Fin cfg0.N) (e : Fin 4096) (d : Fin 512) :
    iblk m c 1 t (ix2 e d) = m ((c : Thread nD τ).loc main_arg1) (ix2 e (OutCore.colAt (t.val % 4) d)) := by
  unfold OutCore.colAt
  blk_point [iblk, V, idx_val t]

/-- Window 2: the rows added to. -/
theorem blk2 (c : Dev nD) (t : Fin cfg0.N) (q : Fin 1024) (d : Fin 512) :
    iblk m c 2 t (ix2 q d) = m ((c : Thread nD τ).loc main_arg2) (ix2 (OutCore.rowAt (t.val / 4) q) (OutCore.colAt (t.val % 4) d)) := by
  have ht : t.val < 64 := lt_of_lt_of_eq t.isLt N_0
  unfold OutCore.rowAt OutCore.colAt
  blk_point [iblk, V, idx_val t]

/-- Window 3: the gate. -/
theorem blk3 (c : Dev nD) (t : Fin cfg0.N) (q : Fin 1024) (d : Fin 512) :
    iblk m c 3 t (ix4 0 0 0 d) = MlpCore.modAt (m ((c : Thread nD τ).loc main_arg3)) 0 4096 (by decide) (OutCore.rowAt (t.val / 4) q) (OutCore.colAt (t.val % 4) d) := by
  have ht : t.val < 64 := lt_of_lt_of_eq t.isLt N_0
  unfold MlpCore.modAt OutCore.rowAt OutCore.colAt
  blk_point [iblk, V, idx_val t]

/-- The result over the argument arrays. -/
def G (Y : (⟨2, ![16384, 4096]⟩ : Shape).Idx → EReal) (W : (⟨2, ![4096, 2048]⟩ : Shape).Idx → EReal)
    (X : (⟨2, ![16384, 2048]⟩ : Shape).Idx → EReal) (M : (⟨4, ![2, 8, 1, 12288]⟩ : Shape).Idx → EReal) (j : S16384x2048.Idx) : EReal :=
  OutCore.gated Y W X M 0 (j 0) (j 1)

/-- What one visit leaves in its block. -/
theorem block_at (c : Dev nD) (t : Fin cfg0.N) (q : Fin 1024) (d : Fin 512) :
    k0_pay1 (F := Ideal) (iblk m c 0 t) (iblk m c 1 t) (iblk m c 2 t) (iblk m c 3 t) (ix2 q d)
      = G (m ((c : Thread nD τ).loc main_arg0)) (m ((c : Thread nD τ).loc main_arg1)) (m ((c : Thread nD τ).loc main_arg2))
        (m ((c : Thread nD τ).loc main_arg3)) (ix2 (OutCore.rowAt (t.val / 4) q) (OutCore.colAt (t.val % 4) d)) := by
  refine (pay1_read _ _ _ _ q d).trans ?_
  simp only [blk0 m c t, blk1 m c t, blk2 m c t, blk3 m c t q]
  rfl

/-- The result array after the run. -/
theorem final (c : Dev nD) : (dats m 0 c).arrAt 4 (cfgs 0).N
    = G (m ((c : Thread nD τ).loc main_arg0)) (m ((c : Thread nD τ).loc main_arg1)) (m ((c : Thread nD τ).loc main_arg2))
      (m ((c : Thread nD τ).loc main_arg3)) := by
  refine (dats m 0 c).arrAt_eq_of_covers 4 _ (by decide +kernel) fun t _ y => ?_
  have ht : t.val < 64 := lt_of_lt_of_eq t.isLt N_0
  blk_simp
  rw [after0_4]
  unfold out0_4
  frame_out
  have hy : (y 0).val < 1024 := (y 0).isLt
  have hz : (y 1).val < 512 := (y 1).isLt
  have hr : (win0_4.blk t).view.emb y = ix2 (OutCore.rowAt (t.val / 4) (y 0)) (OutCore.colAt (t.val % 4) (y 1)) := by
    unfold OutCore.rowAt OutCore.colAt
    blk_ext [idx_val t]
  rw [hr]
  refine Eq.trans ?_ (block_at m c t (y 0) (y 1))
  rw [← eq_ix2 y]

end Cert.RetOutIdeal.Value

end

end
-- ==== Proof.RetOutRef.lean ====
module

public import proofs.«01_k».proof.Proof.OutCore
public import proofs.«01_k».proof.Proof.Mlp0Ref
public import proofs.«01_k».proof.Proof.Gen.RetOutReferenceIdeal

@[expose] public section

/-! The first layer's output projection: the reference's steps, and its result read at an index. -/

set_option maxRecDepth 16384

noncomputable section

namespace Cert.RetOutReferenceIdeal.Value

open Cert.RetOutReferenceIdeal Cert.RetOutReferenceIdeal.Gen Idealize.ShloMosaic Idealize.ShloMosaic.TcCoe Idealize.SL.Sem

/-- The mixer's rows projected, by sequence. -/
def projected (Y : FVec Ideal S16384x4096 .bf16) (W : FVec Ideal S4096x2048 .bf16) : FVec Ideal S4x4096x2048 .f32 :=
  Host.dotGeneral dot_S4x4096x4096_S4096x2048_S4x4096x2048_2_0_01_1_n_n none
    (shapeCast S4x4096x4096 (extf .f32 Y bitsLt_bf16_f32 : FVec Ideal S16384x4096 .f32) shapeCasts_S16384x4096_S4x4096x4096) (extf .f32 W bitsLt_bf16_f32)

/-- The rows with the gated projection added. -/
def added (X O : FVec Ideal S4x4096x2048 .f32) (M : FVec Ideal S4x1x12288 .f32) : FVec Ideal S4x4096x2048 .f32 :=
  addf X (mulf (broadcastInDim S4x4096x2048 ![0, 1, 2] bcast_S4x1x2048_S4x4096x2048_0_1_2 (extractStridedSlice S4x1x2048 ![0, 0, 4096] M slices_S4x1x12288_S4x1x2048_0_0_4096)) O)

/-- The reference's result. -/
def result (Y : FVec Ideal S16384x4096 .bf16) (W : FVec Ideal S4096x2048 .bf16) (X : FVec Ideal S16384x2048 .f32) (M : FVec Ideal S2x8x1x12288 .f32) :
    FVec Ideal S16384x2048 .f32 :=
  shapeCast _ (added (MlpReferenceIdeal.Value.rows X) (projected Y W) (Mlp0ReferenceIdeal.Value.mods M)) shapeCasts_S4x4096x2048_S16384x2048

/-- The projection at row `r`. -/
theorem projected_read (Y : FVec Ideal S16384x4096 .bf16) (W : FVec Ideal S4096x2048 .bf16) (b : Fin 4) (l : Fin 4096) (d : Fin 2048) (r : Fin 16384)
    (hr : r.val = b.val * 4096 + l.val) :
    projected Y W (ix3 b l d) = ∑ e : Fin 4096, Y (ix2 r e) * W (ix2 e d) := by
  pointwise [projected]
  exact Finset.sum_congr rfl fun e _ => congrArg (· * W (ix2 e d)) (congrArg Y (congrArg (fun r => ix2 r e) (Fin.ext hr.symm)))

/-- The sum at a row. -/
theorem added_read (X O : FVec Ideal S4x4096x2048 .f32) (M : FVec Ideal S4x1x12288 .f32) (b : Fin 4) (l : Fin 4096) (d : Fin 2048) :
    added X O M (ix3 b l d) = X (ix3 b l d) + M (ix3 b 0 ⟨4096 + d.val, by omega⟩) * O (ix3 b l d) := by
  pointwise [added]

/-- The sum at row `r`, over the argument arrays. -/
theorem gated_read (Y : FVec Ideal S16384x4096 .bf16) (W : FVec Ideal S4096x2048 .bf16) (X : FVec Ideal S16384x2048 .f32) (M : FVec Ideal S2x8x1x12288 .f32)
    (b : Fin 4) (l : Fin 4096) (d : Fin 2048) (r : Fin 16384) (hr : r.val = b.val * 4096 + l.val) :
    added (MlpReferenceIdeal.Value.rows X) (projected Y W) (Mlp0ReferenceIdeal.Value.mods M) (ix3 b l d) = OutCore.gated Y W X M 0 r d := by
  rw [added_read, projected_read Y W b l d r hr, MlpReferenceIdeal.Value.rows_read X b l d r hr,
    Mlp0ReferenceIdeal.Value.mods_read M 4096 (by decide) b l d r hr]
  rfl

/-- The result at row `r`. -/
theorem result_read (Y : FVec Ideal S16384x4096 .bf16) (W : FVec Ideal S4096x2048 .bf16) (X : FVec Ideal S16384x2048 .f32) (M : FVec Ideal S2x8x1x12288 .f32)
    (r : Fin 16384) (d : Fin 2048) :
    result Y W X M (ix2 r d) = OutCore.gated Y W X M 0 r d :=
  (MlpReferenceIdeal.Value.flat_read (added (MlpReferenceIdeal.Value.rows X) (projected Y W) (Mlp0ReferenceIdeal.Value.mods M)) r d).trans
    (gated_read Y W X M ⟨r.val / 4096, by omega⟩ ⟨r.val % 4096, by omega⟩ d r (by dsimp only; omega))

end Cert.RetOutReferenceIdeal.Value

end

end
-- ==== Proof.RetOutRun.lean ====
module

public import proofs.«01_k».proof.Proof.RetOutRef
public import proofs.«01_k».proof.Proof.Gen.RetOutReferenceIdeal.Run

@[expose] public section

/-! The first layer's output projection: the reference's result array, over its arguments. -/

set_option maxRecDepth 16384

noncomputable section

namespace Cert.RetOutReferenceIdeal.Value

open Cert.RetOutReferenceIdeal Cert.RetOutReferenceIdeal.Gen Idealize.ShloMosaic Idealize.ShloMosaic.TcCoe Idealize.SL.Sem

/-- The run leaves the staged projection in its result, and its arguments as they were. -/
theorem run_result (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v16) = result (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  run (F := Ideal) m ρ

end Cert.RetOutReferenceIdeal.Value

end

end
-- ==== Proof.AttnOutBlocks.lean ====
module

public import proofs.«01_k».proof.Proof.OutCore
public import proofs.«01_k».proof.Proof.Gen.AttnOutIdeal.Skeleton
public import proofs.«01_k».proof.Proof.Gen.AttnOutIdeal.Value
public import Idealize.ShloMosaic.Lib.Pipeline.ValueKit

@[expose] public section

/-! The second layer's output projection: the kernel's value, the blocks one grid point reads, and the result array. -/

set_option maxRecDepth 16384

noncomputable section

namespace Cert.AttnOutIdeal.Value

open Cert.AttnOutIdeal Cert.AttnOutIdeal.Gen Idealize.ShloMosaic Idealize.ShloMosaic.TcCoe Idealize.SL.Sem
open Idealize.ShloMosaic.Pipeline (Dat)

/-- The rows of one block with their gated projection added. -/
theorem pay1_read (y : FVec Ideal S1024x2048 .bf16) (w : FVec Ideal S2048x512 .bf16) (x : FVec Ideal S1024x512 .f32) (gt : FVec Ideal S1x1x1x512 .f32)
    (q : Fin 1024) (d : Fin 512) :
    k0_pay1 (F := Ideal) y w x gt (ix2 q d) = x (ix2 q d) + gt (ix4 0 0 0 d) * ∑ e : Fin 2048, y (ix2 q e) * w (ix2 e d) := by
  pointwise [k0_pay1]

variable (m : (ℓ : Loc nD τ sig) → Buf (Elt Ideal) ℓ)

/-- Where the windows stand at each grid point. -/
theorem idx_val : ∀ t : Fin cfg0.N,
    win0_0.index t = ![t.val / 4, 0]
    ∧ win0_1.index t = ![0, t.val % 4]
    ∧ win0_2.index t = ![t.val / 4, t.val % 4]
    ∧ win0_3.index t = ![1, t.val / 16, 0, 8 + t.val % 4]
    ∧ win0_4.index t = ![t.val / 4, t.val % 4] :=
  (by decide +kernel : ∀ t : Fin grid0.N, _)

/-- Window 0: the mixer's rows. -/
theorem blk0 (c : Dev nD) (t : Fin cfg0.N) (q : Fin 1024) (e : Fin 2048) :
    iblk m c 0 t (ix2 q e) = m ((c : Thread nD τ).loc main_arg0) (ix2 (OutCore.rowAt (t.val / 4) q) e) := by
  have ht : t.val < 64 := lt_of_lt_of_eq t.isLt N_0
  unfold OutCore.rowAt
  blk_point [iblk, V, idx_val t]

/-- Window 1: the columns of the weights. -/
theorem blk1 (c : Dev nD) (t : Fin cfg0.N) (e : Fin 2048) (d : Fin 512) :
    iblk m c 1 t (ix2 e d) = m ((c : Thread nD τ).loc main_arg1) (ix2 e (OutCore.colAt (t.val % 4) d)) := by
  unfold OutCore.colAt
  blk_point [iblk, V, idx_val t]

/-- Window 2: the rows added to. -/
theorem blk2 (c : Dev nD) (t : Fin cfg0.N) (q : Fin 1024) (d : Fin 512) :
    iblk m c 2 t (ix2 q d) = m ((c : Thread nD τ).loc main_arg2) (ix2 (OutCore.rowAt (t.val / 4) q) (OutCore.colAt (t.val % 4) d)) := by
  have ht : t.val < 64 := lt_of_lt_of_eq t.isLt N_0
  unfold OutCore.rowAt OutCore.colAt
  blk_point [iblk, V, idx_val t]

/-- Window 3: the gate. -/
theorem blk3 (c : Dev nD) (t : Fin cfg0.N) (q : Fin 1024) (d : Fin 512) :
    iblk m c 3 t (ix4 0 0 0 d) = MlpCore.modAt (m ((c : Thread nD τ).loc main_arg3)) 1 4096 (by decide) (OutCore.rowAt (t.val / 4) q) (OutCore.colAt (t.val % 4) d) := by
  have ht : t.val < 64 := lt_of_lt_of_eq t.isLt N_0
  unfold MlpCore.modAt OutCore.rowAt OutCore.colAt
  blk_point [iblk, V, idx_val t]

/-- The result over the argument arrays. -/
def G (Y : (⟨2, ![16384, 2048]⟩ : Shape).Idx → EReal) (W : (⟨2, ![2048, 2048]⟩ : Shape).Idx → EReal)
    (X : (⟨2, ![16384, 2048]⟩ : Shape).Idx → EReal) (M : (⟨4, ![2, 8, 1, 12288]⟩ : Shape).Idx → EReal) (j : S16384x2048.Idx) : EReal :=
  OutCore.gated Y W X M 1 (j 0) (j 1)

/-- What one visit leaves in its block. -/
theorem block_at (c : Dev nD) (t : Fin cfg0.N) (q : Fin 1024) (d : Fin 512) :
    k0_pay1 (F := Ideal) (iblk m c 0 t) (iblk m c 1 t) (iblk m c 2 t) (iblk m c 3 t) (ix2 q d)
      = G (m ((c : Thread nD τ).loc main_arg0)) (m ((c : Thread nD τ).loc main_arg1)) (m ((c : Thread nD τ).loc main_arg2))
        (m ((c : Thread nD τ).loc main_arg3)) (ix2 (OutCore.rowAt (t.val / 4) q) (OutCore.colAt (t.val % 4) d)) := by
  refine (pay1_read _ _ _ _ q d).trans ?_
  simp only [blk0 m c t, blk1 m c t, blk2 m c t, blk3 m c t q]
  rfl

/-- The result array after the run. -/
theorem final (c : Dev nD) : (dats m 0 c).arrAt 4 (cfgs 0).N
    = G (m ((c : Thread nD τ).loc main_arg0)) (m ((c : Thread nD τ).loc main_arg1)) (m ((c : Thread nD τ).loc main_arg2))
      (m ((c : Thread nD τ).loc main_arg3)) := by
  refine (dats m 0 c).arrAt_eq_of_covers 4 _ (by decide +kernel) fun t _ y => ?_
  have ht : t.val < 64 := lt_of_lt_of_eq t.isLt N_0
  blk_simp
  rw [after0_4]
  unfold out0_4
  frame_out
  have hy : (y 0).val < 1024 := (y 0).isLt
  have hz : (y 1).val < 512 := (y 1).isLt
  have hr : (win0_4.blk t).view.emb y = ix2 (OutCore.rowAt (t.val / 4) (y 0)) (OutCore.colAt (t.val % 4) (y 1)) := by
    unfold OutCore.rowAt OutCore.colAt
    blk_ext [idx_val t]
  rw [hr]
  refine Eq.trans ?_ (block_at m c t (y 0) (y 1))
  rw [← eq_ix2 y]

end Cert.AttnOutIdeal.Value

end

end
-- ==== Proof.AttnOutRef.lean ====
module

public import proofs.«01_k».proof.Proof.OutCore
public import proofs.«01_k».proof.Proof.MlpRef
public import proofs.«01_k».proof.Proof.Gen.AttnOutReferenceIdeal

@[expose] public section

/-! The second layer's output projection: the reference's steps, and its result read at an index. -/

set_option maxRecDepth 16384

noncomputable section

namespace Cert.AttnOutReferenceIdeal.Value

open Cert.AttnOutReferenceIdeal Cert.AttnOutReferenceIdeal.Gen Idealize.ShloMosaic Idealize.ShloMosaic.TcCoe Idealize.SL.Sem

/-- The mixer's rows projected, by sequence. -/
def projected (Y : FVec Ideal S16384x2048 .bf16) (W : FVec Ideal S2048x2048 .bf16) : FVec Ideal S4x4096x2048 .f32 :=
  Host.dotGeneral dot_S4x4096x2048_S2048x2048_S4x4096x2048_2_0_01_1_n_n none
    (shapeCast S4x4096x2048 (extf .f32 Y bitsLt_bf16_f32 : FVec Ideal S16384x2048 .f32) shapeCasts_S16384x2048_S4x4096x2048) (extf .f32 W bitsLt_bf16_f32)

/-- The rows with the gated projection added. -/
def added (X O : FVec Ideal S4x4096x2048 .f32) (M : FVec Ideal S4x1x12288 .f32) : FVec Ideal S4x4096x2048 .f32 :=
  addf X (mulf (broadcastInDim S4x4096x2048 ![0, 1, 2] bcast_S4x1x2048_S4x4096x2048_0_1_2 (extractStridedSlice S4x1x2048 ![0, 0, 4096] M slices_S4x1x12288_S4x1x2048_0_0_4096)) O)

/-- The reference's result. -/
def result (Y : FVec Ideal S16384x2048 .bf16) (W : FVec Ideal S2048x2048 .bf16) (X : FVec Ideal S16384x2048 .f32) (M : FVec Ideal S2x8x1x12288 .f32) :
    FVec Ideal S16384x2048 .f32 :=
  shapeCast _ (added (MlpReferenceIdeal.Value.rows X) (projected Y W) (MlpReferenceIdeal.Value.mods M)) shapeCasts_S4x4096x2048_S16384x2048

/-- The projection at row `r`. -/
theorem projected_read (Y : FVec Ideal S16384x2048 .bf16) (W : FVec Ideal S2048x2048 .bf16) (b : Fin 4) (l : Fin 4096) (d : Fin 2048) (r : Fin 16384)
    (hr : r.val = b.val * 4096 + l.val) :
    projected Y W (ix3 b l d) = ∑ e : Fin 2048, Y (ix2 r e) * W (ix2 e d) := by
  pointwise [projected]
  exact Finset.sum_congr rfl fun e _ => congrArg (· * W (ix2 e d)) (congrArg Y (congrArg (fun r => ix2 r e) (Fin.ext hr.symm)))

/-- The sum at a row. -/
theorem added_read (X O : FVec Ideal S4x4096x2048 .f32) (M : FVec Ideal S4x1x12288 .f32) (b : Fin 4) (l : Fin 4096) (d : Fin 2048) :
    added X O M (ix3 b l d) = X (ix3 b l d) + M (ix3 b 0 ⟨4096 + d.val, by omega⟩) * O (ix3 b l d) := by
  pointwise [added]

/-- The sum at row `r`, over the argument arrays. -/
theorem gated_read (Y : FVec Ideal S16384x2048 .bf16) (W : FVec Ideal S2048x2048 .bf16) (X : FVec Ideal S16384x2048 .f32) (M : FVec Ideal S2x8x1x12288 .f32)
    (b : Fin 4) (l : Fin 4096) (d : Fin 2048) (r : Fin 16384) (hr : r.val = b.val * 4096 + l.val) :
    added (MlpReferenceIdeal.Value.rows X) (projected Y W) (MlpReferenceIdeal.Value.mods M) (ix3 b l d) = OutCore.gated Y W X M 1 r d := by
  rw [added_read, projected_read Y W b l d r hr, MlpReferenceIdeal.Value.rows_read X b l d r hr,
    MlpReferenceIdeal.Value.mods_read M 4096 (by decide) b l d r hr]
  rfl

/-- The result at row `r`. -/
theorem result_read (Y : FVec Ideal S16384x2048 .bf16) (W : FVec Ideal S2048x2048 .bf16) (X : FVec Ideal S16384x2048 .f32) (M : FVec Ideal S2x8x1x12288 .f32)
    (r : Fin 16384) (d : Fin 2048) :
    result Y W X M (ix2 r d) = OutCore.gated Y W X M 1 r d :=
  (MlpReferenceIdeal.Value.flat_read (added (MlpReferenceIdeal.Value.rows X) (projected Y W) (MlpReferenceIdeal.Value.mods M)) r d).trans
    (gated_read Y W X M ⟨r.val / 4096, by omega⟩ ⟨r.val % 4096, by omega⟩ d r (by dsimp only; omega))

end Cert.AttnOutReferenceIdeal.Value

end

end
-- ==== Proof.AttnOutRun.lean ====
module

public import proofs.«01_k».proof.Proof.AttnOutRef
public import proofs.«01_k».proof.Proof.Gen.AttnOutReferenceIdeal.Run

@[expose] public section

/-! The second layer's output projection: the reference's result array, over its arguments. -/

set_option maxRecDepth 16384

noncomputable section

namespace Cert.AttnOutReferenceIdeal.Value

open Cert.AttnOutReferenceIdeal Cert.AttnOutReferenceIdeal.Gen Idealize.ShloMosaic Idealize.ShloMosaic.TcCoe Idealize.SL.Sem

/-- The run leaves the staged projection in its result, and its arguments as they were. -/
theorem run_result (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v16) = result (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  run (F := Ideal) m ρ

end Cert.AttnOutReferenceIdeal.Value

end

end
-- ==== Proof.ProjCore.lean ====
module

public import proofs.«01_k».proof.Proof.OutCore
public import Idealize.ShloMosaic.Lib.IdealHost

@[expose] public section

/-! The projection into a mixer, with its rotated columns, on the extended reals. -/

set_option maxRecDepth 16384

noncomputable section

namespace Cert.ProjCore

open Idealize.ShloMosaic

/-- The prepared row `r` of layer `i`. -/
def prep (X : (⟨2, ![16384, 2048]⟩ : Shape).Idx → EReal) (g : (⟨1, ![2048]⟩ : Shape).Idx → EReal)
    (M : (⟨4, ![2, 8, 1, 12288]⟩ : Shape).Idx → EReal) (i : Fin 2) (r : Fin 16384) : Fin 2048 → EReal :=
  MlpCore.modnorm (fun e => X (ix2 r e)) (fun e => g (ix1 e)) (MlpCore.modAt M i 0 (by decide) r) (MlpCore.modAt M i 2048 (by decide) r)

/-- The prepared row's product with a column of the weights. -/
def proj {n : ℕ} (X : (⟨2, ![16384, 2048]⟩ : Shape).Idx → EReal) (g : (⟨1, ![2048]⟩ : Shape).Idx → EReal)
    (M : (⟨4, ![2, 8, 1, 12288]⟩ : Shape).Idx → EReal) (W : (⟨2, ![2048, n]⟩ : Shape).Idx → EReal) (i : Fin 2) (r : Fin 16384) (c : Fin n) : EReal :=
  ∑ d, prep X g M i r d * W (ix2 d c)

/-- The first of a rotated pair. -/
def lo (x y cs sn : EReal) : EReal := x * cs - y * sn

/-- The second of a rotated pair. -/
def hi (x y cs sn : EReal) : EReal := y * cs + x * sn

/-- The first mixer's columns from 2048 on to 4096, its keys, are scaled. -/
def scaled (a : Fin 12288 → EReal) (c : Fin 12288) : EReal :=
  a c * if 2048 ≤ c.val ∧ c.val < 4096 then Ideal.ofBits .f32 0x3D800000#32 else Ideal.ofBits .f32 0x3F800000#32

/-- The column of the `e`-th place of the half `s` of head `h`. -/
def col (h s : ℕ) (e : Fin 128) : Fin 12288 := ⟨(h * 256 + s * 128 + e.val) % 12288, Nat.mod_lt _ (by decide)⟩

/-- The first mixer's row: queries and scaled keys rotated, values and gates as they are. -/
def mixed (a : Fin 12288 → EReal) (cs sn : Fin 128 → EReal) (c : Fin 12288) : EReal :=
  if c.val < 4096 then
    if c.val % 256 < 128 then
      lo (scaled a (col (c.val / 256) 0 ⟨c.val % 128, Nat.mod_lt _ (by decide)⟩)) (scaled a (col (c.val / 256) 1 ⟨c.val % 128, Nat.mod_lt _ (by decide)⟩))
        (cs ⟨c.val % 128, Nat.mod_lt _ (by decide)⟩) (sn ⟨c.val % 128, Nat.mod_lt _ (by decide)⟩)
    else
      hi (scaled a (col (c.val / 256) 0 ⟨c.val % 128, Nat.mod_lt _ (by decide)⟩)) (scaled a (col (c.val / 256) 1 ⟨c.val % 128, Nat.mod_lt _ (by decide)⟩))
        (cs ⟨c.val % 128, Nat.mod_lt _ (by decide)⟩) (sn ⟨c.val % 128, Nat.mod_lt _ (by decide)⟩)
  else a c

/-- A rotated column in the first half of its head. -/
theorem mixed_lo (a : Fin 12288 → EReal) (cs sn : Fin 128 → EReal) (h : ℕ) (hh : h < 16) (e : Fin 128) (c x y : Fin 12288)
    (hc : c.val = h * 256 + e.val) (hx : x.val = h * 256 + e.val) (hy : y.val = h * 256 + 128 + e.val) :
    mixed a cs sn c = lo (scaled a x) (scaled a y) (cs e) (sn e) := by
  have he : (⟨c.val % 128, Nat.mod_lt _ (by decide)⟩ : Fin 128) = e := Fin.ext (by simp only; omega)
  have ex : col (c.val / 256) 0 e = x := Fin.ext (by simp only [col]; omega)
  have ey : col (c.val / 256) 1 e = y := Fin.ext (by simp only [col]; omega)
  unfold mixed
  rw [if_pos (by omega), if_pos (by omega), he, ex, ey]

/-- A rotated column in the second half of its head. -/
theorem mixed_hi (a : Fin 12288 → EReal) (cs sn : Fin 128 → EReal) (h : ℕ) (hh : h < 16) (e : Fin 128) (c x y : Fin 12288)
    (hc : c.val = h * 256 + 128 + e.val) (hx : x.val = h * 256 + e.val) (hy : y.val = h * 256 + 128 + e.val) :
    mixed a cs sn c = hi (scaled a x) (scaled a y) (cs e) (sn e) := by
  have he : (⟨c.val % 128, Nat.mod_lt _ (by decide)⟩ : Fin 128) = e := Fin.ext (by simp only; omega)
  have ex : col (c.val / 256) 0 e = x := Fin.ext (by simp only [col]; omega)
  have ey : col (c.val / 256) 1 e = y := Fin.ext (by simp only [col]; omega)
  unfold mixed
  rw [if_pos (by omega), if_neg (by omega), he, ex, ey]

/-- A column past the rotated ones. -/
theorem mixed_plain (a : Fin 12288 → EReal) (cs sn : Fin 128 → EReal) (c : Fin 12288) (hc : 4096 ≤ c.val) : mixed a cs sn c = a c :=
  if_neg (by omega)

/-- A query's column, not scaled. -/
theorem scaled_one (a : Fin 12288 → EReal) (c : Fin 12288) (h : ¬(2048 ≤ c.val ∧ c.val < 4096)) : scaled a c = a c := by
  unfold scaled
  rw [if_neg h, Ideal.ofBits_one_f32, mul_one]

/-- A key's column, scaled. -/
theorem scaled_key (a : Fin 12288 → EReal) (c : Fin 12288) (h : 2048 ≤ c.val ∧ c.val < 4096) : scaled a c = a c * Ideal.ofBits .f32 0x3D800000#32 := by
  unfold scaled
  rw [if_pos h]

end Cert.ProjCore

end

end
-- ==== Proof.RetProjPay.lean ====
module

public import proofs.«01_k».proof.Proof.ProjCore
public import proofs.«01_k».proof.Proof.Gen.RetProjIdeal.Skeleton

@[expose] public section

/-! The first layer's input projection: each value the kernel computes, read at an index. -/

set_option maxRecDepth 16384

noncomputable section

namespace Cert.RetProjIdeal.Value

open Cert.RetProjIdeal Cert.RetProjIdeal.Gen Idealize.ShloMosaic Idealize.ShloMosaic.TcCoe Idealize.SL.Sem

/-- The prepared rows. -/
theorem pay1_read (x : FVec Ideal S1024x2048 .f32) (g : FVec Ideal S1x2048 .f32) (sh sc : FVec Ideal S1x1x1x2048 .f32) (q : Fin 1024) (d : Fin 2048) :
    k0_pay1 (F := Ideal) x g sh sc (ix2 q d)
      = MlpCore.modnorm (fun e => x (ix2 q e)) (fun e => g (ix2 0 e)) (fun e => sh (ix4 0 0 0 e)) (fun e => sc (ix4 0 0 0 e)) d := by
  pointwise [k0_pay1, MlpCore.modnorm, MlpCore.norm]

/-- The factor of a block of columns. -/
def factor (j : ℕ) : EReal := if 2 ≤ j ∧ j < 4 then Ideal.ofBits .f32 0x3D800000#32 else Ideal.ofBits .f32 0x3F800000#32

/-- The kernel's test on the block of columns. -/
theorem test_val : ∀ j : Fin 12, Scalar.andi (Scalar.cmpi .sge (BitVec.ofNat 32 j.val) 2#32) (Scalar.cmpi .slt (BitVec.ofNat 32 j.val) 4#32)
    = if 2 ≤ j.val ∧ j.val < 4 then 1#1 else 0#1 := by decide

/-- The rows' products with a block of columns, times the block's factor. -/
theorem pay2_read (i : grid0.Coords) (a : FVec Ideal S1024x2048 .bf16) (w : FVec Ideal S2048x1024 .bf16) (q e : Fin 1024) :
    k0_pay2 (F := Ideal) i a w (ix2 q e) = (∑ d : Fin 2048, a (ix2 q d) * w (ix2 d e)) * factor (i 1).val := by
  pointwise [k0_pay2, factor]
  refine congrArg _ ?_
  rw [test_val (i 1)]
  split <;> rfl

end Cert.RetProjIdeal.Value

end

end
-- ==== Proof.RetProjRef.lean ====
module

public import proofs.«01_k».proof.Proof.ProjCore
public import proofs.«01_k».proof.Proof.Mlp0Ref
public import proofs.«01_k».proof.Proof.Gen.RetProjReferenceIdeal

@[expose] public section

/-! The first layer's input projection: the reference's steps, each a definition over its inputs, and each read at an index. -/

set_option maxRecDepth 16384

noncomputable section

namespace Cert.RetProjReferenceIdeal.Value

open Cert.RetProjReferenceIdeal Cert.RetProjReferenceIdeal.Gen Idealize.ShloMosaic Idealize.ShloMosaic.TcCoe Idealize.SL.Sem

/-- The angle of each position and frequency. -/
def angles : FVec Ideal S4096x128 .f32 :=
  mulf (broadcastInDim S4096x128 ![0, 1] bcast_S4096x1_S4096x128_0_1 (broadcastInDim S4096x1 ![0] bcast_S4096_S4096x1_0 (sitofp .f32 (iotaInDim S4096 32 0))))
    (broadcastInDim S4096x128 ![0, 1] bcast_S1x128_S4096x128_0_1 (broadcastInDim S1x128 ![1] bcast_S128_S1x128_1 (Host.powf
      (broadcastInDim S128 ![] bcast_S_S128 (constant S_ .f32 0x461C4000#32)) (Host.divf (Host.negf (addf (broadcastInDim S128 ![] bcast_S_S128 (constant S_ .f32 0x00000000#32))
        (mulf (broadcastInDim S128 ![] bcast_S_S128 (constant S_ .f32 0x40000000#32)) (sitofp .f32 (iotaInDim S128 32 0)))))
        (broadcastInDim S128 ![] bcast_S_S128 (constant S_ .f32 0x43800000#32))))))

/-- The normed rows scaled and shifted. -/
def prepared (N : FVec Ideal S4x4096x2048 .f32) (M : FVec Ideal S4x1x12288 .f32) : FVec Ideal S4x4096x2048 .f32 :=
  addf (mulf N (broadcastInDim S4x4096x2048 ![0, 1, 2] bcast_S4x1x2048_S4x4096x2048_0_1_2
      (addf (broadcastInDim S4x1x2048 ![] bcast_S_S4x1x2048 (constant S_ .f32 0x3F800000#32)) (extractStridedSlice S4x1x2048 ![0, 0, 2048] M slices_S4x1x12288_S4x1x2048_0_0_2048))))
    (broadcastInDim S4x4096x2048 ![0, 1, 2] bcast_S4x1x2048_S4x4096x2048_0_1_2 (extractStridedSlice S4x1x2048 ![0, 0, 0] M slices_S4x1x12288_S4x1x2048_0_0_0))

/-- The prepared rows projected. -/
def projected (A : FVec Ideal S4x4096x2048 .f32) (W : FVec Ideal S2048x12288 .bf16) : FVec Ideal S4x4096x12288 .f32 :=
  Host.dotGeneral dot_S4x4096x2048_S2048x12288_S4x4096x12288_2_0_01_1_n_n none A (extf .f32 W bitsLt_bf16_f32)

/-- One table, one row of it per position. -/
def spread (T : FVec Ideal S4096x128 .f32) : FVec Ideal S4x4096x8x128 .f32 :=
  broadcastInDim S4x4096x8x128 ![0, 1, 2, 3] bcast_S1x4096x1x128_S4x4096x8x128_0_1_2_3 (broadcastInDim S1x4096x1x128 ![1, 2, 3] bcast_S4096x1x128_S1x4096x1x128_1_2_3
    (broadcastInDim S4096x1x128 ![0, 2] bcast_S4096x128_S4096x1x128_0_2 T))

/-- The heads rotated by the angles. -/
def turned (H : FVec Ideal S4x4096x8x256 .f32) (A : FVec Ideal S4096x128 .f32) : FVec Ideal S4x4096x8x256 .f32 :=
  concatenate S4x4096x8x256 3
    [⟨S4x4096x8x128, subf (mulf (extractStridedSlice S4x4096x8x128 ![0, 0, 0, 0] H slices_S4x4096x8x256_S4x4096x8x128_0_0_0_0) (spread (Host.cos A)))
        (mulf (extractStridedSlice S4x4096x8x128 ![0, 0, 0, 128] H slices_S4x4096x8x256_S4x4096x8x128_0_0_0_128) (spread (Host.sin A)))⟩,
     ⟨S4x4096x8x128, addf (mulf (extractStridedSlice S4x4096x8x128 ![0, 0, 0, 128] H slices_S4x4096x8x256_S4x4096x8x128_0_0_0_128) (spread (Host.cos A)))
        (mulf (extractStridedSlice S4x4096x8x128 ![0, 0, 0, 0] H slices_S4x4096x8x256_S4x4096x8x128_0_0_0_0) (spread (Host.sin A)))⟩]
    concatenates_S4x4096x8x128_S4x4096x8x128_S4x4096x8x256_d3

/-- The queries, by head. -/
def queries (P : FVec Ideal S4x4096x12288 .f32) : FVec Ideal S4x4096x8x256 .f32 :=
  shapeCast _ (extractStridedSlice S4x4096x2048 ![0, 0, 0] P slices_S4x4096x12288_S4x4096x2048_0_0_0) shapeCasts_S4x4096x2048_S4x4096x8x256

/-- The scaled keys, by head. -/
def keys (P : FVec Ideal S4x4096x12288 .f32) : FVec Ideal S4x4096x8x256 .f32 :=
  mulf (shapeCast _ (extractStridedSlice S4x4096x2048 ![0, 0, 2048] P slices_S4x4096x12288_S4x4096x2048_0_0_2048) shapeCasts_S4x4096x2048_S4x4096x8x256)
    (broadcastInDim S4x4096x8x256 ![] bcast_S_S4x4096x8x256 (constant S_ .f32 0x3D800000#32))

/-- Queries, keys, values and gates side by side. -/
def joined (Q K : FVec Ideal S4x4096x8x256 .f32) (P : FVec Ideal S4x4096x12288 .f32) : FVec Ideal S4x4096x12288 .f32 :=
  concatenate S4x4096x12288 2
    [⟨S4x4096x2048, shapeCast _ Q shapeCasts_S4x4096x8x256_S4x4096x2048⟩, ⟨S4x4096x2048, shapeCast _ K shapeCasts_S4x4096x8x256_S4x4096x2048⟩,
     ⟨S4x4096x4096, extractStridedSlice S4x4096x4096 ![0, 0, 4096] P slices_S4x4096x12288_S4x4096x4096_0_0_4096⟩,
     ⟨S4x4096x4096, extractStridedSlice S4x4096x4096 ![0, 0, 8192] P slices_S4x4096x12288_S4x4096x4096_0_0_8192⟩]
    concatenates_S4x4096x2048_S4x4096x2048_S4x4096x4096_S4x4096x4096_S4x4096x12288_d2

/-- The projection over the argument arrays, by sequence. -/
def projs (X : FVec Ideal S16384x2048 .f32) (g : FVec Ideal S2048 .f32) (M : FVec Ideal S2x8x1x12288 .f32) (W : FVec Ideal S2048x12288 .bf16) :
    FVec Ideal S4x4096x12288 .f32 :=
  projected (prepared (MlpReferenceIdeal.Value.normed (MlpReferenceIdeal.Value.rows X) g) (Mlp0ReferenceIdeal.Value.mods M)) W

/-- The reference's result. -/
def result (X : FVec Ideal S16384x2048 .f32) (g : FVec Ideal S2048 .f32) (M : FVec Ideal S2x8x1x12288 .f32) (W : FVec Ideal S2048x12288 .bf16) :
    FVec Ideal S16384x12288 .bf16 :=
  truncf .bf16 (shapeCast S16384x12288 (joined (turned (queries (projs X g M W)) angles) (turned (keys (projs X g M W)) angles) (projs X g M W))
    shapeCasts_S4x4096x12288_S16384x12288) bitsLt_bf16_f32

theorem prepared_read (N : FVec Ideal S4x4096x2048 .f32) (M : FVec Ideal S4x1x12288 .f32) (b : Fin 4) (l : Fin 4096) (d : Fin 2048) :
    prepared N M (ix3 b l d) = N (ix3 b l d) * (Ideal.ofBits .f32 0x3F800000#32 + M (ix3 b 0 ⟨2048 + d.val, by omega⟩)) + M (ix3 b 0 ⟨0 + d.val, by omega⟩) := by
  pointwise [prepared]

theorem projected_read (A : FVec Ideal S4x4096x2048 .f32) (W : FVec Ideal S2048x12288 .bf16) (b : Fin 4) (l : Fin 4096) (c : Fin 12288) :
    projected A W (ix3 b l c) = ∑ d : Fin 2048, A (ix3 b l d) * W (ix2 d c) := by
  pointwise [projected]

/-- The projection at row `r`. -/
theorem projs_read (X : FVec Ideal S16384x2048 .f32) (g : FVec Ideal S2048 .f32) (M : FVec Ideal S2x8x1x12288 .f32) (W : FVec Ideal S2048x12288 .bf16)
    (b : Fin 4) (l : Fin 4096) (c : Fin 12288) (r : Fin 16384) (hr : r.val = b.val * 4096 + l.val) :
    projs X g M W (ix3 b l c) = ProjCore.proj X g M W 0 r c := by
  unfold projs
  simp only [projected_read, prepared_read, MlpReferenceIdeal.Value.normed_read, MlpReferenceIdeal.Value.rows_read X b l _ r hr,
    Mlp0ReferenceIdeal.Value.mods_read M 0 (by decide) b l _ r hr, Mlp0ReferenceIdeal.Value.mods_read M 2048 (by decide) b l _ r hr]
  rfl

theorem spread_read (T : FVec Ideal S4096x128 .f32) (b : Fin 4) (l : Fin 4096) (h : Fin 8) (e : Fin 128) : spread T (ix4 b l h e) = T (ix2 l e) := by
  pointwise [spread]

/-- The first half of a rotated head. -/
theorem turned_lo (H : FVec Ideal S4x4096x8x256 .f32) (A : FVec Ideal S4096x128 .f32) (b : Fin 4) (l : Fin 4096) (h : Fin 8) (e : Fin 128) :
    turned H A (ix4 b l h ⟨e.val, by omega⟩) = ProjCore.lo (H (ix4 b l h ⟨e.val, by omega⟩)) (H (ix4 b l h ⟨128 + e.val, by omega⟩))
      (Host.cos A (ix2 l e)) (Host.sin A (ix2 l e)) := by
  pointwise [turned, ProjCore.lo, spread_read]

/-- The second half of a rotated head. -/
theorem turned_hi (H : FVec Ideal S4x4096x8x256 .f32) (A : FVec Ideal S4096x128 .f32) (b : Fin 4) (l : Fin 4096) (h : Fin 8) (e : Fin 128) :
    turned H A (ix4 b l h ⟨128 + e.val, by omega⟩) = ProjCore.hi (H (ix4 b l h ⟨e.val, by omega⟩)) (H (ix4 b l h ⟨128 + e.val, by omega⟩))
      (Host.cos A (ix2 l e)) (Host.sin A (ix2 l e)) := by
  pointwise [turned, ProjCore.hi, spread_read]

theorem queries_read (P : FVec Ideal S4x4096x12288 .f32) (b : Fin 4) (l : Fin 4096) (h : Fin 8) (e : Fin 256) :
    queries P (ix4 b l h e) = P (ix3 b l ⟨h.val * 256 + e.val, by omega⟩) := by
  pointwise [queries]

theorem keys_read (P : FVec Ideal S4x4096x12288 .f32) (b : Fin 4) (l : Fin 4096) (h : Fin 8) (e : Fin 256) :
    keys P (ix4 b l h e) = P (ix3 b l ⟨2048 + (h.val * 256 + e.val), by omega⟩) * Ideal.ofBits .f32 0x3D800000#32 := by
  pointwise [keys]

/-- A query's column. -/
theorem joined_query (Q K : FVec Ideal S4x4096x8x256 .f32) (P : FVec Ideal S4x4096x12288 .f32) (b : Fin 4) (l : Fin 4096) (h : Fin 8) (e : Fin 256) :
    joined Q K P (ix3 b l ⟨h.val * 256 + e.val, by omega⟩) = Q (ix4 b l h e) := by
  pointwise [joined]
  exact dif_pos (by omega)

/-- A key's column. -/
theorem joined_key (Q K : FVec Ideal S4x4096x8x256 .f32) (P : FVec Ideal S4x4096x12288 .f32) (b : Fin 4) (l : Fin 4096) (h : Fin 8) (e : Fin 256) :
    joined Q K P (ix3 b l ⟨2048 + (h.val * 256 + e.val), by omega⟩) = K (ix4 b l h e) := by
  pointwise [joined]
  exact dif_pos (by omega)

/-- A value's or a gate's column. -/
theorem joined_rest (Q K : FVec Ideal S4x4096x8x256 .f32) (P : FVec Ideal S4x4096x12288 .f32) (b : Fin 4) (l : Fin 4096) (c : Fin 12288) (hc : 4096 ≤ c.val) :
    joined Q K P (ix3 b l c) = P (ix3 b l c) := by
  pointwise [joined]
  rw [dif_neg (by omega), dif_neg (by omega)]
  split
  · exact congrArg P (congrArg (fun c => ix3 b l c) (Fin.ext (by simp only; omega)))
  · exact congrArg P (congrArg (fun c => ix3 b l c) (Fin.ext (by simp only; omega)))

section columns

variable (P : FVec Ideal S4x4096x12288 .f32) (A : FVec Ideal S4096x128 .f32) (b : Fin 4) (l : Fin 4096) (h : Fin 8) (e : Fin 128)

/-- The mixer's row over a projection and its angles. -/
def mixedAt (c : Fin 12288) : EReal :=
  ProjCore.mixed (fun c => P (ix3 b l c)) (fun e => Host.cos A (ix2 l e)) (fun e => Host.sin A (ix2 l e)) c

/-- The first half of a query. -/
theorem query_lo : joined (turned (queries P) A) (turned (keys P) A) P (ix3 b l ⟨h.val * 256 + e.val, by omega⟩) = mixedAt P A b l ⟨h.val * 256 + e.val, by omega⟩ := by
  refine ((joined_query _ _ P b l h ⟨e.val, by omega⟩).trans (turned_lo (queries P) A b l h e)).trans ?_
  rw [queries_read, queries_read]
  unfold mixedAt
  rw [ProjCore.mixed_lo _ _ _ h.val (by omega) e _ ⟨h.val * 256 + e.val, by omega⟩ ⟨h.val * 256 + (128 + e.val), by omega⟩ rfl rfl (by simp only; omega),
    ProjCore.scaled_one _ _ (by simp only; omega), ProjCore.scaled_one _ _ (by simp only; omega)]

/-- The second half of a query. -/
theorem query_hi : joined (turned (queries P) A) (turned (keys P) A) P (ix3 b l ⟨h.val * 256 + (128 + e.val), by omega⟩) = mixedAt P A b l ⟨h.val * 256 + (128 + e.val), by omega⟩ := by
  refine ((joined_query _ _ P b l h ⟨128 + e.val, by omega⟩).trans (turned_hi (queries P) A b l h e)).trans ?_
  rw [queries_read, queries_read]
  unfold mixedAt
  rw [ProjCore.mixed_hi _ _ _ h.val (by omega) e _ ⟨h.val * 256 + e.val, by omega⟩ ⟨h.val * 256 + (128 + e.val), by omega⟩ (by simp only; omega) rfl (by simp only; omega),
    ProjCore.scaled_one _ _ (by simp only; omega), ProjCore.scaled_one _ _ (by simp only; omega)]

/-- The first half of a key. -/
theorem key_lo : joined (turned (queries P) A) (turned (keys P) A) P (ix3 b l ⟨2048 + (h.val * 256 + e.val), by omega⟩) = mixedAt P A b l ⟨2048 + (h.val * 256 + e.val), by omega⟩ := by
  refine ((joined_key _ _ P b l h ⟨e.val, by omega⟩).trans (turned_lo (keys P) A b l h e)).trans ?_
  rw [keys_read, keys_read]
  unfold mixedAt
  rw [ProjCore.mixed_lo _ _ _ (8 + h.val) (by omega) e _ ⟨2048 + (h.val * 256 + e.val), by omega⟩ ⟨2048 + (h.val * 256 + (128 + e.val)), by omega⟩
      (by simp only; omega) (by simp only; omega) (by simp only; omega),
    ProjCore.scaled_key _ _ (by simp only; omega), ProjCore.scaled_key _ _ (by simp only; omega)]

/-- The second half of a key. -/
theorem key_hi : joined (turned (queries P) A) (turned (keys P) A) P (ix3 b l ⟨2048 + (h.val * 256 + (128 + e.val)), by omega⟩) = mixedAt P A b l ⟨2048 + (h.val * 256 + (128 + e.val)), by omega⟩ := by
  refine ((joined_key _ _ P b l h ⟨128 + e.val, by omega⟩).trans (turned_hi (keys P) A b l h e)).trans ?_
  rw [keys_read, keys_read]
  unfold mixedAt
  rw [ProjCore.mixed_hi _ _ _ (8 + h.val) (by omega) e _ ⟨2048 + (h.val * 256 + e.val), by omega⟩ ⟨2048 + (h.val * 256 + (128 + e.val)), by omega⟩
      (by simp only; omega) (by simp only; omega) (by simp only; omega),
    ProjCore.scaled_key _ _ (by simp only; omega), ProjCore.scaled_key _ _ (by simp only; omega)]

/-- Every column of the joined row. -/
theorem joined_read (c : Fin 12288) : joined (turned (queries P) A) (turned (keys P) A) P (ix3 b l c) = mixedAt P A b l c := by
  by_cases hc : 4096 ≤ c.val
  · exact (joined_rest _ _ P b l c hc).trans (ProjCore.mixed_plain (fun c => P (ix3 b l c)) _ _ c hc).symm
  · by_cases hq : c.val < 2048 <;> by_cases hl : c.val % 256 < 128
    · have hn : c.val = c.val / 256 * 256 + c.val % 128 := by omega
      exact (Fin.ext hn : c = ⟨_, hn ▸ c.isLt⟩) ▸ query_lo P A b l ⟨c.val / 256, by omega⟩ ⟨c.val % 128, by omega⟩
    · have hn : c.val = c.val / 256 * 256 + (128 + c.val % 128) := by omega
      exact (Fin.ext hn : c = ⟨_, hn ▸ c.isLt⟩) ▸ query_hi P A b l ⟨c.val / 256, by omega⟩ ⟨c.val % 128, by omega⟩
    · have hn : c.val = 2048 + ((c.val / 256 - 8) * 256 + c.val % 128) := by omega
      exact (Fin.ext hn : c = ⟨_, hn ▸ c.isLt⟩) ▸ key_lo P A b l ⟨c.val / 256 - 8, by omega⟩ ⟨c.val % 128, by omega⟩
    · have hn : c.val = 2048 + ((c.val / 256 - 8) * 256 + (128 + c.val % 128)) := by omega
      exact (Fin.ext hn : c = ⟨_, hn ▸ c.isLt⟩) ▸ key_hi P A b l ⟨c.val / 256 - 8, by omega⟩ ⟨c.val % 128, by omega⟩

end columns

/-- The rows by sequence laid out in one run. -/
theorem flat_read (Y : FVec Ideal S4x4096x12288 .f32) (r : Fin 16384) (c : Fin 12288) :
    (truncf .bf16 (shapeCast S16384x12288 Y shapeCasts_S4x4096x12288_S16384x12288 : FVec Ideal S16384x12288 .f32) bitsLt_bf16_f32 : FVec Ideal S16384x12288 .bf16) (ix2 r c)
      = Y (ix3 ⟨r.val / 4096, by omega⟩ ⟨r.val % 4096, by omega⟩ c) := by
  pointwise []

/-- The result at row `r`, over the two tables. -/
theorem result_read (X : FVec Ideal S16384x2048 .f32) (g : FVec Ideal S2048 .f32) (M : FVec Ideal S2x8x1x12288 .f32) (W : FVec Ideal S2048x12288 .bf16)
    (r : Fin 16384) (c : Fin 12288) :
    result X g M W (ix2 r c) = ProjCore.mixed (ProjCore.proj X g M W 0 r) (fun e => Host.cos angles (ix2 ⟨r.val % 4096, by omega⟩ e))
      (fun e => Host.sin angles (ix2 ⟨r.val % 4096, by omega⟩ e)) c := by
  unfold result
  rw [flat_read, joined_read]
  exact congrArg (fun a => ProjCore.mixed a _ _ c)
    (funext fun c => projs_read X g M W ⟨r.val / 4096, by omega⟩ ⟨r.val % 4096, by omega⟩ c r (by dsimp only; omega))

end Cert.RetProjReferenceIdeal.Value

end

end
-- ==== Proof.RetProjBlocks.lean ====
module

public import proofs.«01_k».proof.Proof.RetProjPay
public import proofs.«01_k».proof.Proof.RetProjRef
public import proofs.«01_k».proof.Proof.Gen.RetProjIdeal.Value
public import Idealize.ShloMosaic.Lib.Pipeline.ValueKit

@[expose] public section

/-! The first layer's input projection: the blocks one grid point reads, and the result array. -/

set_option maxRecDepth 16384

noncomputable section

namespace Cert.RetProjIdeal.Value

open Cert.RetProjIdeal Cert.RetProjIdeal.Gen Idealize.ShloMosaic Idealize.ShloMosaic.TcCoe Idealize.SL.Sem
open Idealize.ShloMosaic.Pipeline (Dat)

variable (m : (ℓ : Loc nD τ sig) → Buf (Elt Ideal) ℓ)

/-- Where the windows stand at each grid point. -/
theorem idx_val : ∀ t : Fin cfg0.N,
    (grid0.coords t 1).val = t.val % 12
    ∧ win0_0.index t = ![t.val / 12, 0]
    ∧ win0_1.index t = ![0, 0]
    ∧ win0_2.index t = ![0, t.val / 48, 0, 0]
    ∧ win0_3.index t = ![0, t.val / 48, 0, 1]
    ∧ win0_4.index t = ![0, t.val % 12]
    ∧ win0_5.index t = ![t.val / 12 % 4, 0]
    ∧ win0_6.index t = ![t.val / 12 % 4, 0]
    ∧ win0_7.index t = ![t.val / 12, t.val % 12] :=
  (by decide +kernel : ∀ t : Fin grid0.N, _)

/-- The cosines' table is the reference's. -/
theorem V_cos (c : Dev nD) : V m c main_v17 = Host.cos RetProjReferenceIdeal.Value.angles := by
  dsimp only [V, hostOps0]
  after_results_simp <;> rfl

/-- The sines' table is the reference's. -/
theorem V_sin (c : Dev nD) : V m c main_v18 = Host.sin RetProjReferenceIdeal.Value.angles := by
  dsimp only [V, hostOps0]
  after_results_simp <;> rfl

/-- The column `e` of the block of 1024 columns `k`. -/
def colAt (k : ℕ) (e : Fin 1024) : Fin 12288 := ⟨(k * 1024 + e.val) % 12288, Nat.mod_lt _ (by decide)⟩

/-- Window 0: the point's rows. -/
theorem blk0 (c : Dev nD) (t : Fin cfg0.N) (q : Fin 1024) (e : Fin 2048) :
    iblk m c 0 t (ix2 q e) = m ((c : Thread nD τ).loc main_arg0) (ix2 (OutCore.rowAt (t.val / 12) q) e) := by
  have ht : t.val < 192 := lt_of_lt_of_eq t.isLt N_0
  unfold OutCore.rowAt
  blk_point [iblk, V, idx_val t]

/-- Window 1: the gain. -/
theorem blk1 (c : Dev nD) (t : Fin cfg0.N) (e : Fin 2048) :
    iblk m c 1 t (ix2 0 e) = m ((c : Thread nD τ).loc main_arg1) (ix1 e) := by
  blk_point [iblk, V, idx_val t]

/-- Window 2: the shift. -/
theorem blk2 (c : Dev nD) (t : Fin cfg0.N) (q : Fin 1024) (e : Fin 2048) :
    iblk m c 2 t (ix4 0 0 0 e) = MlpCore.modAt (m ((c : Thread nD τ).loc main_arg2)) 0 0 (by decide) (OutCore.rowAt (t.val / 12) q) e := by
  have ht : t.val < 192 := lt_of_lt_of_eq t.isLt N_0
  unfold MlpCore.modAt OutCore.rowAt
  blk_point [iblk, V, idx_val t]

/-- Window 3: the scale. -/
theorem blk3 (c : Dev nD) (t : Fin cfg0.N) (q : Fin 1024) (e : Fin 2048) :
    iblk m c 3 t (ix4 0 0 0 e) = MlpCore.modAt (m ((c : Thread nD τ).loc main_arg2)) 0 2048 (by decide) (OutCore.rowAt (t.val / 12) q) e := by
  have ht : t.val < 192 := lt_of_lt_of_eq t.isLt N_0
  unfold MlpCore.modAt OutCore.rowAt
  blk_point [iblk, V, idx_val t]

/-- Window 4: the block of columns of the weights. -/
theorem blk4 (c : Dev nD) (t : Fin cfg0.N) (d : Fin 2048) (e : Fin 1024) :
    iblk m c 4 t (ix2 d e) = m ((c : Thread nD τ).loc main_arg3) (ix2 d (colAt (t.val % 12) e)) := by
  unfold colAt
  blk_point [iblk, V, idx_val t]

/-- The position within its sequence of the row `q` of the block of 1024 rows `k`. -/
def posAt (k : ℕ) (q : Fin 1024) : Fin 4096 := ⟨(k * 1024 + q.val) % 4096, Nat.mod_lt _ (by decide)⟩

/-- Window 5: the positions' cosines. -/
theorem blk5 (c : Dev nD) (t : Fin cfg0.N) (q : Fin 1024) (e : Fin 128) :
    iblk m c 5 t (ix2 q e) = Host.cos RetProjReferenceIdeal.Value.angles (ix2 (posAt (t.val / 12) q) e) := by
  unfold posAt
  blk_point [iblk, V_cos, idx_val t]

/-- Window 6: the positions' sines. -/
theorem blk6 (c : Dev nD) (t : Fin cfg0.N) (q : Fin 1024) (e : Fin 128) :
    iblk m c 6 t (ix2 q e) = Host.sin RetProjReferenceIdeal.Value.angles (ix2 (posAt (t.val / 12) q) e) := by
  unfold posAt
  blk_point [iblk, V_sin, idx_val t]

/-- The prepared rows of the block of rows `k`. -/
def preps (c : Dev nD) (k : ℕ) (j : S1024x2048.Idx) : EReal :=
  ProjCore.prep (m ((c : Thread nD τ).loc main_arg0)) (m ((c : Thread nD τ).loc main_arg1)) (m ((c : Thread nD τ).loc main_arg2)) 0
    (OutCore.rowAt k (j 0)) (j 1)

/-- The prepared rows at a first visit. -/
theorem pay1_at (c : Dev nD) (t : Fin cfg0.N) :
    k0_pay1 (F := Ideal) (iblk m c 0 t) (iblk m c 1 t) (iblk m c 2 t) (iblk m c 3 t) = preps m c (t.val / 12) := by
  funext j
  obtain ⟨q, d, rfl⟩ : ∃ q d, j = ix2 q d := ⟨j 0, j 1, eq_ix2 j⟩
  refine (pay1_read _ _ _ _ q d).trans ?_
  unfold preps ProjCore.prep
  simp only [blk0 m c t, blk1 m c t, blk2 m c t q, blk3 m c t q]
  rfl

/-- The prepared rows' products with the argument's weights. -/
def dots (c : Dev nD) (r : Fin 16384) : Fin 12288 → EReal :=
  ProjCore.proj (m ((c : Thread nD τ).loc main_arg0)) (m ((c : Thread nD τ).loc main_arg1)) (m ((c : Thread nD τ).loc main_arg2))
    (m ((c : Thread nD τ).loc main_arg3)) 0 r

/-- The block of products at any visit, over the prepared rows. -/
theorem pay2_at (c : Dev nD) (t : Fin cfg0.N) (a : FVec Ideal S1024x2048 .bf16) (ha : a = preps m c (t.val / 12)) (q e : Fin 1024) :
    k0_pay2 (F := Ideal) (grid0.coords t) a (iblk m c 4 t) (ix2 q e)
      = ProjCore.scaled (dots m c (OutCore.rowAt (t.val / 12) q)) (colAt (t.val % 12) e) := by
  subst ha
  have hi : (grid0.coords t 1).val = t.val % 12 := (idx_val t).1
  refine (pay2_read _ _ _ q e).trans ?_
  simp only [blk4 m c t, hi]
  refine congrArg _ ?_
  have hj : t.val % 12 < 12 := Nat.mod_lt _ (by decide)
  unfold factor
  refine if_congr ?_ rfl rfl
  simp only [colAt]
  omega

/-- A first visit leaves the prepared rows. -/
theorem prep_first (c : Dev nD) (t : Fin cfg0.N) (h : t.val % 12 = 0) :
    (outsAt0 m c t.val t.isLt).2 = k0_pay1 (F := Ideal) (iblk m c 0 t) (iblk m c 1 t) (iblk m c 2 t) (iblk m c 3 t) := by
  rw [outsAt0_A m c t h (by omega) (by omega)]
  funext j
  frame_out

/-- A later visit keeps the prepared rows. -/
theorem prep_next (c : Dev nD) (n : ℕ) (hn : n + 1 < cfg0.N) (h : (n + 1) % 12 ≠ 0) :
    (outsAt0 m c (n + 1) hn).2 = (outsAt0 m c n (Nat.lt_of_succ_lt hn)).2 := by
  by_cases h4 : 4 ≤ (n + 1) % 12
  · rw [outsAt0_C m c ⟨n + 1, hn⟩ h (by simp only; omega) h4]
    rfl
  · rw [outsAt0_B m c ⟨n + 1, hn⟩ h (by simp only; omega) h4]
    rfl

/-- Every visit holds its rows prepared. -/
theorem held (c : Dev nD) : ∀ n (h : n < cfg0.N), (outsAt0 m c n h).2 = preps m c (n / 12) := by
  intro n
  induction n with
  | zero => exact fun h => (prep_first m c ⟨0, h⟩ rfl).trans (pay1_at m c ⟨0, h⟩)
  | succ n ih =>
    intro h
    by_cases h0 : (n + 1) % 12 = 0
    · exact (prep_first m c ⟨n + 1, h⟩ h0).trans (pay1_at m c ⟨n + 1, h⟩)
    · rw [prep_next m c n h h0, ih (Nat.lt_of_succ_lt h)]
      exact congrArg (preps m c) (by omega)

/-- A visit past the rotated columns leaves the products. -/
theorem out_plain (c : Dev nD) (n : ℕ) (hn : n + 1 < cfg0.N) (h : 4 ≤ (n + 1) % 12) :
    (outsAt0 m c (n + 1) hn).1 = k0_pay7 (F := Ideal) (grid0.coords ⟨n + 1, hn⟩) (outsAt0 m c n (Nat.lt_of_succ_lt hn)).2 (iblk m c 4 ⟨n + 1, hn⟩) := by
  rw [outsAt0_C m c ⟨n + 1, hn⟩ (by simp only; omega) (by simp only; omega) h]
  funext j
  frame_out
  erw [Memref.IsWhole.read_unread]
  rfl

/-- The row at one position, over the argument arrays. -/
def mixedAt (c : Dev nD) (r : Fin 16384) (p : Fin 4096) (e : Fin 12288) : EReal :=
  ProjCore.mixed (dots m c r) (fun e => Host.cos RetProjReferenceIdeal.Value.angles (ix2 p e)) (fun e => Host.sin RetProjReferenceIdeal.Value.angles (ix2 p e)) e

/-- A tile holding the first half of a head. -/
theorem tile_lo (c : Dev nD) (t : Fin cfg0.N) (h : t.val % 12 ≤ 3) (a : FVec Ideal S1024x2048 .bf16) (ha : a = preps m c (t.val / 12)) (q : Fin 1024)
    (e : Fin 128) (s : ℕ) (u v z : Fin 1024) (hu : u.val = s * 256 + e.val) (hv : v.val = s * 256 + 128 + e.val) (hz : z.val = s * 256 + e.val) :
    ProjCore.lo (k0_pay2 (F := Ideal) (grid0.coords t) a (iblk m c 4 t) (ix2 q u)) (k0_pay2 (F := Ideal) (grid0.coords t) a (iblk m c 4 t) (ix2 q v))
        (iblk m c 5 t (ix2 q e)) (iblk m c 6 t (ix2 q e))
      = mixedAt m c (OutCore.rowAt (t.val / 12) q) (posAt (t.val / 12) q) (colAt (t.val % 12) z) := by
  rw [pay2_at m c t a ha, pay2_at m c t a ha, blk5, blk6]
  unfold mixedAt
  exact (ProjCore.mixed_lo (dots m c (OutCore.rowAt (t.val / 12) q)) (fun e => Host.cos RetProjReferenceIdeal.Value.angles (ix2 (posAt (t.val / 12) q) e)) (fun e => Host.sin RetProjReferenceIdeal.Value.angles (ix2 (posAt (t.val / 12) q) e)) (t.val % 12 * 4 + s) (by omega) e (colAt (t.val % 12) z) (colAt (t.val % 12) u) (colAt (t.val % 12) v) (by simp only [colAt]; omega) (by simp only [colAt]; omega)
    (by simp only [colAt]; omega)).symm

/-- A tile holding the second half of a head. -/
theorem tile_hi (c : Dev nD) (t : Fin cfg0.N) (h : t.val % 12 ≤ 3) (a : FVec Ideal S1024x2048 .bf16) (ha : a = preps m c (t.val / 12)) (q : Fin 1024)
    (e : Fin 128) (s : ℕ) (u v z : Fin 1024) (hu : u.val = s * 256 + e.val) (hv : v.val = s * 256 + 128 + e.val) (hz : z.val = s * 256 + 128 + e.val) :
    ProjCore.hi (k0_pay2 (F := Ideal) (grid0.coords t) a (iblk m c 4 t) (ix2 q u)) (k0_pay2 (F := Ideal) (grid0.coords t) a (iblk m c 4 t) (ix2 q v))
        (iblk m c 5 t (ix2 q e)) (iblk m c 6 t (ix2 q e))
      = mixedAt m c (OutCore.rowAt (t.val / 12) q) (posAt (t.val / 12) q) (colAt (t.val % 12) z) := by
  rw [pay2_at m c t a ha, pay2_at m c t a ha, blk5, blk6]
  unfold mixedAt
  exact (ProjCore.mixed_hi (dots m c (OutCore.rowAt (t.val / 12) q)) (fun e => Host.cos RetProjReferenceIdeal.Value.angles (ix2 (posAt (t.val / 12) q) e)) (fun e => Host.sin RetProjReferenceIdeal.Value.angles (ix2 (posAt (t.val / 12) q) e)) (t.val % 12 * 4 + s) (by omega) e (colAt (t.val % 12) z) (colAt (t.val % 12) u) (colAt (t.val % 12) v) (by simp only [colAt]; omega) (by simp only [colAt]; omega)
    (by simp only [colAt]; omega)).symm

/-- The prepared rows a later visit finds. -/
theorem held_before (c : Dev nD) (t : Fin cfg0.N) (h : ¬t.val % 12 = 0) (hn : t.val - 1 < cfg0.N) : (outsAt0 m c (t.val - 1) hn).2 = preps m c (t.val / 12) :=
  (held m c (t.val - 1) hn).trans (congrArg (preps m c) (by omega))

/-- The eight tiles of a block of rotated columns. -/
def tiles (i : grid0.Coords) (a : FVec Ideal S1024x2048 .bf16) (w : FVec Ideal S2048x1024 .bf16) (cs sn : FVec Ideal S1024x128 .f32) : S1024x1024.Idx → Elt Ideal .bf16 :=
  View.canon (Val := Elt Ideal) (s := S1024x1024) (e := .bf16)
    [⟨Rect.unit ![0, 896] ![1024, 128] inb_S1024x1024_S1024x128_0_896, k0_pay6 (F := Ideal) i a w (k0_pay8 cs) (k0_pay9 sn)⟩,
     ⟨Rect.unit ![0, 768] ![1024, 128] inb_S1024x1024_S1024x128_0_768, k0_pay5 (F := Ideal) i a w (k0_pay8 cs) (k0_pay9 sn)⟩,
     ⟨Rect.unit ![0, 640] ![1024, 128] inb_S1024x1024_S1024x128_0_640, k0_pay21 (F := Ideal) (k0_pay2 i a w) cs sn⟩,
     ⟨Rect.unit ![0, 512] ![1024, 128] inb_S1024x1024_S1024x128_0_512, k0_pay20 (F := Ideal) (k0_pay2 i a w) cs sn⟩,
     ⟨Rect.unit ![0, 384] ![1024, 128] inb_S1024x1024_S1024x128_0_384, k0_pay17 (F := Ideal) (k0_pay2 i a w) cs sn⟩,
     ⟨Rect.unit ![0, 256] ![1024, 128] inb_S1024x1024_S1024x128_0_256, k0_pay16 (F := Ideal) (k0_pay2 i a w) cs sn⟩,
     ⟨Rect.unit ![0, 128] ![1024, 128] inb_S1024x1024_S1024x128_0_128, k0_pay13 (F := Ideal) (k0_pay2 i a w) cs sn⟩,
     ⟨Rect.unit ![0, 0] ![1024, 128] inb_S1024x1024_S1024x128_0_0, k0_pay12 (F := Ideal) (k0_pay2 i a w) cs sn⟩]

/-- Every place of the tiles is a rotated column. -/
theorem tiles_at (c : Dev nD) (t : Fin cfg0.N) (h : t.val % 12 ≤ 3) (a : FVec Ideal S1024x2048 .bf16) (ha : a = preps m c (t.val / 12)) (q z : Fin 1024) :
    tiles (grid0.coords t) a (iblk m c 4 t) (iblk m c 5 t) (iblk m c 6 t) (ix2 q z)
      = mixedAt m c (OutCore.rowAt (t.val / 12) q) (posAt (t.val / 12) q) (colAt (t.val % 12) z) := by
  unfold tiles
  canon_tiles x h
  all_goals
    pointwise [k0_pay3, k0_pay4, k0_pay5, k0_pay6, k0_pay8, k0_pay9, k0_pay10, k0_pay11, k0_pay12, k0_pay13, k0_pay14, k0_pay15, k0_pay16, k0_pay17,
      k0_pay18, k0_pay19, k0_pay20, k0_pay21]
    have hz : z.val = (ix2 q z 1).val := rfl
    have hp : x 0 = q := Fin.ext h0.symm
    have hx : x = ix2 q (x 1) := (eq_ix2 x).trans (congrArg (fun p => ix2 p (x 1)) hp)
    have h5 : iblk m c 5 t x = iblk m c 5 t (ix2 q (x 1)) := congrArg _ hx
    have h6 : iblk m c 6 t x = iblk m c 6 t (ix2 q (x 1)) := congrArg _ hx
    rw [h5, h6, hp]
    first
    | exact tile_lo m c t h a ha q (x 1) (z.val / 256) _ _ z (by simp only; omega) (by simp only; omega) (by omega)
    | exact tile_hi m c t h a ha q (x 1) (z.val / 256) _ _ z (by simp only; omega) (by simp only; omega) (by omega)

/-- A visit to the rotated columns leaves its tiles, over the prepared rows. -/
theorem out_turned (c : Dev nD) (t : Fin cfg0.N) (h : t.val % 12 ≤ 3) :
    (outsAt0 m c t.val t.isLt).1 = tiles (grid0.coords t) (preps m c (t.val / 12)) (iblk m c 4 t) (iblk m c 5 t) (iblk m c 6 t) := by
  funext y
  by_cases h0 : t.val % 12 = 0
  · rw [outsAt0_A m c t h0 (by omega) (by omega)]
    frame_out
    rw [pay1_at m c t]
  · rw [outsAt0_B m c t h0 (by omega) (by omega)]
    frame_out
    erw [Memref.IsWhole.read_unread]
    rw [held_before m c t h0]

/-- The result over the argument arrays. -/
def G (X : (⟨2, ![16384, 2048]⟩ : Shape).Idx → EReal) (g : (⟨1, ![2048]⟩ : Shape).Idx → EReal) (M : (⟨4, ![2, 8, 1, 12288]⟩ : Shape).Idx → EReal)
    (W : (⟨2, ![2048, 12288]⟩ : Shape).Idx → EReal) (j : S16384x12288.Idx) : EReal :=
  ProjCore.mixed (ProjCore.proj X g M W 0 (j 0))
    (fun e => Host.cos RetProjReferenceIdeal.Value.angles (ix2 ⟨(j 0).val % 4096, Nat.mod_lt _ (by decide)⟩ e))
    (fun e => Host.sin RetProjReferenceIdeal.Value.angles (ix2 ⟨(j 0).val % 4096, Nat.mod_lt _ (by decide)⟩ e)) (j 1)

/-- The row at one position, at the row its block holds. -/
theorem mixedAt_eq (c : Dev nD) (k : ℕ) (q : Fin 1024) (e : Fin 12288) :
    mixedAt m c (OutCore.rowAt k q) (posAt k q) e
      = G (m ((c : Thread nD τ).loc main_arg0)) (m ((c : Thread nD τ).loc main_arg1)) (m ((c : Thread nD τ).loc main_arg2))
        (m ((c : Thread nD τ).loc main_arg3)) (ix2 (OutCore.rowAt k q) e) := by
  have hp : posAt k q = ⟨(OutCore.rowAt k q).val % 4096, Nat.mod_lt _ (by decide)⟩ := Fin.ext (by simp only [posAt, OutCore.rowAt]; omega)
  rw [hp]
  rfl

/-- What one visit leaves in its block. -/
theorem block_at (c : Dev nD) (t : Fin cfg0.N) (q z : Fin 1024) :
    (outsAt0 m c t.val t.isLt).1 (ix2 q z)
      = G (m ((c : Thread nD τ).loc main_arg0)) (m ((c : Thread nD τ).loc main_arg1)) (m ((c : Thread nD τ).loc main_arg2))
        (m ((c : Thread nD τ).loc main_arg3)) (ix2 (OutCore.rowAt (t.val / 12) q) (colAt (t.val % 12) z)) := by
  rw [← mixedAt_eq]
  by_cases h : t.val % 12 ≤ 3
  · rw [out_turned m c t h]
    exact tiles_at m c t h _ rfl q z
  · obtain ⟨n, hn⟩ := t
    cases n with
    | zero => exact absurd (Nat.zero_le 3) h
    | succ n =>
      have h4 : 4 ≤ (n + 1) % 12 := by simp only at h; omega
      have hz : 4096 ≤ (colAt ((n + 1) % 12) z).val := by simp only [colAt]; omega
      rw [out_plain m c n hn h4]
      refine (pay2_at m c ⟨n + 1, hn⟩ _ ((held m c n (Nat.lt_of_succ_lt hn)).trans (congrArg (preps m c) (by simp only; omega))) q z).trans ?_
      refine (ProjCore.scaled_one _ _ (by simp only; omega)).trans ?_
      exact (ProjCore.mixed_plain _ _ _ _ hz).symm

/-- The result array after the run. -/
theorem final (c : Dev nD) : (dats m 0 c).arrAt 7 (cfgs 0).N
    = G (m ((c : Thread nD τ).loc main_arg0)) (m ((c : Thread nD τ).loc main_arg1)) (m ((c : Thread nD τ).loc main_arg2))
      (m ((c : Thread nD τ).loc main_arg3)) := by
  refine (dats m 0 c).arrAt_eq_of_covers 7 _ (by decide +kernel) fun t _ y => ?_
  have ht : t.val < 192 := lt_of_lt_of_eq t.isLt N_0
  blk_simp
  rw [after0_7]
  have hy : (y 0).val < 1024 := (y 0).isLt
  have hz : (y 1).val < 1024 := (y 1).isLt
  have hr : (win0_7.blk t).view.emb y = ix2 (OutCore.rowAt (t.val / 12) (y 0)) (colAt (t.val % 12) (y 1)) := by
    unfold OutCore.rowAt colAt
    blk_ext [idx_val t]
  rw [hr]
  refine Eq.trans ?_ (block_at m c t (y 0) (y 1))
  rw [← eq_ix2 y]

end Cert.RetProjIdeal.Value

end

end
-- ==== Proof.RetProjRun.lean ====
module

public import proofs.«01_k».proof.Proof.RetProjRef
public import proofs.«01_k».proof.Proof.Gen.RetProjReferenceIdeal.Run

@[expose] public section

/-! The first layer's input projection: the reference's result array, over its arguments. -/

set_option maxRecDepth 16384

noncomputable section

namespace Cert.RetProjReferenceIdeal.Value

open Cert.RetProjReferenceIdeal Cert.RetProjReferenceIdeal.Gen Idealize.ShloMosaic Idealize.ShloMosaic.TcCoe Idealize.SL.Sem

/-- The run's result term is the staged projection. -/
theorem res_eq (m : (ℓ : Loc nD τ sig) → Buf (Elt Ideal) ℓ) (c : Dev nD) :
    res_out0 (F := Ideal) m c = result (m ((c.tc : Thread nD τ).loc main_arg0)) (m ((c.tc : Thread nD τ).loc main_arg1)) (m ((c.tc : Thread nD τ).loc main_arg2)) (m ((c.tc : Thread nD τ).loc main_arg3)) := rfl

end Cert.RetProjReferenceIdeal.Value

end

end
-- ==== Proof.AxialCore.lean ====
module

public import proofs.«01_k».proof.Proof.ProjCore

@[expose] public section

/-! The second layer's input projection, with its rotated columns, on the extended reals. -/

set_option maxRecDepth 16384

noncomputable section

namespace Cert.AxialCore

open Idealize.ShloMosaic

/-- The second mixer's row: in each group of 64 of the queries' and keys' columns, the two halves are rotated against each other, by the row's angles
in a head's first group and by the column's in its second; the values are as they are. -/
def axial (a : Fin 3072 → EReal) (cs sn : Fin 2 → Fin 32 → EReal) (c : Fin 3072) : EReal :=
  if c.val < 2560 then
    if c.val % 64 < 32 then
      ProjCore.lo (a c) (a ⟨(c.val + 32) % 3072, Nat.mod_lt _ (by decide)⟩) (cs ⟨c.val / 64 % 2, Nat.mod_lt _ (by decide)⟩ ⟨c.val % 32, Nat.mod_lt _ (by decide)⟩)
        (sn ⟨c.val / 64 % 2, Nat.mod_lt _ (by decide)⟩ ⟨c.val % 32, Nat.mod_lt _ (by decide)⟩)
    else
      ProjCore.hi (a ⟨c.val - 32, lt_of_le_of_lt (Nat.sub_le _ _) c.isLt⟩) (a c) (cs ⟨c.val / 64 % 2, Nat.mod_lt _ (by decide)⟩ ⟨c.val % 32, Nat.mod_lt _ (by decide)⟩)
        (sn ⟨c.val / 64 % 2, Nat.mod_lt _ (by decide)⟩ ⟨c.val % 32, Nat.mod_lt _ (by decide)⟩)
  else a c

variable (a : Fin 3072 → EReal) (cs sn : Fin 2 → Fin 32 → EReal) (h : ℕ) (hh : h < 20) (s : Fin 2) (e : Fin 32) (x y : Fin 3072)

include hh

/-- A rotated column in the first half of its group. -/
theorem axial_lo (hx : x.val = h * 128 + s.val * 64 + e.val) (hy : y.val = h * 128 + s.val * 64 + 32 + e.val) :
    axial a cs sn x = ProjCore.lo (a x) (a y) (cs s e) (sn s e) := by
  have he : (⟨x.val % 32, Nat.mod_lt _ (by decide)⟩ : Fin 32) = e := Fin.ext (by simp only; omega)
  have hs : (⟨x.val / 64 % 2, Nat.mod_lt _ (by decide)⟩ : Fin 2) = s := Fin.ext (by simp only; omega)
  have ey : (⟨(x.val + 32) % 3072, Nat.mod_lt _ (by decide)⟩ : Fin 3072) = y := Fin.ext (by simp only; omega)
  unfold axial
  rw [if_pos (by omega), if_pos (by omega), he, hs, ey]

/-- A rotated column in the second half of its group. -/
theorem axial_hi (hx : x.val = h * 128 + s.val * 64 + e.val) (hy : y.val = h * 128 + s.val * 64 + 32 + e.val) :
    axial a cs sn y = ProjCore.hi (a x) (a y) (cs s e) (sn s e) := by
  have he : (⟨y.val % 32, Nat.mod_lt _ (by decide)⟩ : Fin 32) = e := Fin.ext (by simp only; omega)
  have hs : (⟨y.val / 64 % 2, Nat.mod_lt _ (by decide)⟩ : Fin 2) = s := Fin.ext (by simp only; omega)
  have ex : (⟨y.val - 32, lt_of_le_of_lt (Nat.sub_le _ _) y.isLt⟩ : Fin 3072) = x := Fin.ext (by simp only; omega)
  unfold axial
  rw [if_pos (by omega), if_neg (by omega), he, hs, ex]

omit hh

/-- A value's column. -/
theorem axial_plain (c : Fin 3072) (hc : 2560 ≤ c.val) : axial a cs sn c = a c :=
  if_neg (by omega)

/-- One of two things, by a group's number. -/
def pick {α : Type} (u v : α) (s : Fin 2) : α := if s.val = 0 then u else v

end Cert.AxialCore

end

end
-- ==== Proof.AttnProjPay.lean ====
module

public import proofs.«01_k».proof.Proof.AxialCore
public import proofs.«01_k».proof.Proof.Gen.AttnProjIdeal.Skeleton

@[expose] public section

/-! The second layer's input projection: each value the kernel computes, read at an index. -/

set_option maxRecDepth 16384

noncomputable section

namespace Cert.AttnProjIdeal.Value

open Cert.AttnProjIdeal Cert.AttnProjIdeal.Gen Idealize.ShloMosaic Idealize.ShloMosaic.TcCoe Idealize.SL.Sem

/-- The prepared rows. -/
theorem pay1_read (x : FVec Ideal S1024x2048 .f32) (g : FVec Ideal S1x2048 .f32) (sh sc : FVec Ideal S1x1x1x2048 .f32) (q : Fin 1024) (d : Fin 2048) :
    k0_pay1 (F := Ideal) x g sh sc (ix2 q d)
      = MlpCore.modnorm (fun e => x (ix2 q e)) (fun e => g (ix2 0 e)) (fun e => sh (ix4 0 0 0 e)) (fun e => sc (ix4 0 0 0 e)) d := by
  pointwise [k0_pay1, MlpCore.modnorm, MlpCore.norm]

/-- The rows' products with a block of columns. -/
theorem pay2_read (a : FVec Ideal S1024x2048 .bf16) (w : FVec Ideal S2048x512 .bf16) (q : Fin 1024) (e : Fin 512) :
    k0_pay2 (F := Ideal) a w (ix2 q e) = ∑ d : Fin 2048, a (ix2 q d) * w (ix2 d e) := by
  pointwise [k0_pay2]

/-- The kernel's test on a column. -/
theorem test_val : ∀ j : Fin 128, IntOp.cmpi .eq (IntOp.andi (BitVec.ofNat 32 j.val) 32#32) 0#32 = if j.val % 64 < 32 then 1#1 else 0#1 := by decide

/-- The swap of the two halves of each group of 64 columns, times one table, added to the columns times another. -/
def swapped (x cs sn : FVec Ideal S1024x128 .f32) : FVec Ideal S1024x128 .bf16 :=
  k0_pay3 (F := Ideal) sn x (mulf x cs) k0_pay12 96#32

/-- A column in the first half of its group. -/
theorem swapped_lo (x cs sn : FVec Ideal S1024x128 .f32) (q : Fin 1024) (u v : Fin 128) (hu : u.val % 64 < 32) (hv : v.val = u.val + 32) :
    swapped x cs sn (ix2 q u) = x (ix2 q u) * cs (ix2 q u) + x (ix2 q v) * sn (ix2 q u) := by
  pointwise [swapped, k0_pay3, k0_pay12]
  have hi : (⟨(u.val + 128 - 96) % 128, Nat.mod_lt _ (by decide)⟩ : Fin 128) = v := Fin.ext (by simp only; omega)
  rw [test_val u, if_pos hu, hi]
  rfl

/-- A column in the second half of its group. -/
theorem swapped_hi (x cs sn : FVec Ideal S1024x128 .f32) (q : Fin 1024) (u v : Fin 128) (hu : u.val % 64 < 32) (hv : v.val = u.val + 32) :
    swapped x cs sn (ix2 q v) = x (ix2 q v) * cs (ix2 q v) + x (ix2 q u) * sn (ix2 q v) := by
  pointwise [swapped, k0_pay3, k0_pay12]
  have hi : (⟨(v.val + 128 - 32) % 128, Nat.mod_lt _ (by decide)⟩ : Fin 128) = u := Fin.ext (by simp only; omega)
  rw [test_val v, if_neg (by omega), hi]
  rfl

section tiles

variable (v : FVec Ideal S1024x512 .f32) (cs sn : FVec Ideal S1024x128 .f32)

theorem pay8_eq : k0_pay8 (F := Ideal) v cs sn = swapped (extractStridedSlice S1024x128 ![0, 0] v slices_S1024x512_o0_0_S1024x128) (k0_pay6 cs) (k0_pay7 sn) := rfl

theorem pay9_eq : k0_pay9 (F := Ideal) v cs sn = swapped (extractStridedSlice S1024x128 ![0, 128] v slices_S1024x512_o0_128_S1024x128) (k0_pay6 cs) (k0_pay7 sn) := rfl

theorem pay3_eq : k0_pay3 (F := Ideal) (k0_pay7 sn) (k0_pay10 v) (k0_pay11 v cs) k0_pay12 96#32
    = swapped (extractStridedSlice S1024x128 ![0, 256] v slices_S1024x512_o0_256_S1024x128) (k0_pay6 cs) (k0_pay7 sn) := rfl

theorem pay4_eq (a : FVec Ideal S1024x2048 .bf16) (w : FVec Ideal S2048x512 .bf16) : k0_pay4 (F := Ideal) a w (k0_pay6 cs) (k0_pay7 sn)
    = swapped (extractStridedSlice S1024x128 ![0, 384] (k0_pay2 a w) slices_S1024x512_o0_384_S1024x128) (k0_pay6 cs) (k0_pay7 sn) := rfl

end tiles

end Cert.AttnProjIdeal.Value

end

end
-- ==== Proof.AttnProjRef.lean ====
module

public import proofs.«01_k».proof.Proof.AxialCore
public import proofs.«01_k».proof.Proof.RetProjRef
public import proofs.«01_k».proof.Proof.MlpRef
public import proofs.«01_k».proof.Proof.Gen.AttnProjReferenceIdeal

@[expose] public section

/-! The second layer's input projection: the reference's steps, each a definition over its inputs, and each read at an index. -/

set_option maxRecDepth 16384

noncomputable section

namespace Cert.AttnProjReferenceIdeal.Value

open Cert.AttnProjReferenceIdeal Cert.AttnProjReferenceIdeal.Gen Idealize.ShloMosaic Idealize.ShloMosaic.TcCoe Idealize.SL.Sem

/-- The angle of each position and frequency, over the positions' numbers along one axis. -/
def anglesOf (n : IVec S4096 32) : FVec Ideal S4096x32 .f32 :=
  mulf (broadcastInDim S4096x32 ![0, 1] bcast_S4096x1_S4096x32_0_1 (broadcastInDim S4096x1 ![0] bcast_S4096_S4096x1_0 (sitofp .f32 n)))
    (broadcastInDim S4096x32 ![0, 1] bcast_S1x32_S4096x32_0_1 (broadcastInDim S1x32 ![1] bcast_S32_S1x32_1 (Host.powf
      (broadcastInDim S32 ![] bcast_S_S32 (constant S_ .f32 0x461C4000#32)) (Host.divf (Host.negf (addf (broadcastInDim S32 ![] bcast_S_S32 (constant S_ .f32 0x00000000#32))
        (mulf (broadcastInDim S32 ![] bcast_S_S32 (constant S_ .f32 0x40000000#32)) (sitofp .f32 (iotaInDim S32 32 0)))))
        (broadcastInDim S32 ![] bcast_S_S32 (constant S_ .f32 0x42800000#32))))))

/-- Each position's row. -/
def rowNo : IVec S4096 32 := shapeCast _ (broadcastInDim S64x64 ![0] bcast_S64_S64x64_0 (iotaInDim S64 32 0)) shapeCasts_S64x64_S4096

/-- The divisor of a position's column. -/
def width : IVec S_ 32 := select (cmpi .eq (id (constantI S_ 32 64#32)) (constantI S_ 32 0#32)) (constantI S_ 32 1#32) (id (constantI S_ 32 64#32))

/-- Each position's truncated remainder. -/
def rest : IVec S4096 32 := Host.remsi (iotaInDim S4096 32 0) (broadcastInDim S4096 ![] bcast_S_S4096 width)

/-- Each position's column. -/
def colNo : IVec S4096 32 :=
  select (andi (cmpi .ne (cmpi .slt rest (broadcastInDim S4096 ![] bcast_S_S4096 (constantI S_ 32 0#32))) (broadcastInDim S4096 ![] bcast_S_S4096 (cmpi .slt width (constantI S_ 32 0#32))))
    (cmpi .ne rest (broadcastInDim S4096 ![] bcast_S_S4096 (constantI S_ 32 0#32)))) (addi rest (broadcastInDim S4096 ![] bcast_S_S4096 width)) rest

/-- The angles of the rows and of the columns. -/
def angles (s : Fin 2) : FVec Ideal S4096x32 .f32 := AxialCore.pick (anglesOf rowNo) (anglesOf colNo) s

/-- The prepared rows projected. -/
def projected (A : FVec Ideal S4x4096x2048 .f32) (W : FVec Ideal S2048x3072 .bf16) : FVec Ideal S4x4096x3072 .f32 :=
  Host.dotGeneral dot_S4x4096x2048_S2048x3072_S4x4096x3072_2_0_01_1_n_n none A (extf .f32 W bitsLt_bf16_f32)

/-- The queries, by head. -/
def queries (P : FVec Ideal S4x4096x3072 .f32) : FVec Ideal S4x4096x16x128 .f32 :=
  shapeCast _ (extractStridedSlice S4x4096x2048 ![0, 0, 0] P slices_S4x4096x3072_S4x4096x2048_0_0_0) shapeCasts_S4x4096x2048_S4x4096x16x128

/-- The keys, by head. -/
def keys (P : FVec Ideal S4x4096x3072 .f32) : FVec Ideal S4x4096x4x128 .f32 :=
  shapeCast _ (extractStridedSlice S4x4096x512 ![0, 0, 2048] P slices_S4x4096x3072_S4x4096x512_0_0_2048) shapeCasts_S4x4096x512_S4x4096x4x128

/-- Queries, keys and values side by side. -/
def joined (Q : FVec Ideal S4x4096x16x128 .f32) (K : FVec Ideal S4x4096x4x128 .f32) (P : FVec Ideal S4x4096x3072 .f32) : FVec Ideal S4x4096x3072 .f32 :=
  concatenate S4x4096x3072 2
    [⟨S4x4096x2048, shapeCast _ Q shapeCasts_S4x4096x16x128_S4x4096x2048⟩, ⟨S4x4096x512, shapeCast _ K shapeCasts_S4x4096x4x128_S4x4096x512⟩,
     ⟨S4x4096x512, extractStridedSlice S4x4096x512 ![0, 0, 2560] P slices_S4x4096x3072_S4x4096x512_0_0_2560⟩]
    concatenates_S4x4096x2048_S4x4096x512_S4x4096x512_S4x4096x3072_d2

/-- One table, one row of it per position, under the queries' heads. -/
def spreadQ (T : FVec Ideal S4096x32 .f32) : FVec Ideal S4x4096x16x32 .f32 :=
  broadcastInDim S4x4096x16x32 ![0, 1, 2, 3] bcast_S1x4096x1x32_S4x4096x16x32_0_1_2_3 (broadcastInDim S1x4096x1x32 ![1, 2, 3] bcast_S4096x1x32_S1x4096x1x32_1_2_3
    (broadcastInDim S4096x1x32 ![0, 2] bcast_S4096x32_S4096x1x32_0_2 T))

/-- One group of each of the queries' heads rotated by the angles. -/
def groupQ (H : FVec Ideal S4x4096x16x64 .f32) (A : FVec Ideal S4096x32 .f32) : FVec Ideal S4x4096x16x64 .f32 :=
  concatenate S4x4096x16x64 3
    [⟨S4x4096x16x32, subf (mulf (extractStridedSlice S4x4096x16x32 ![0, 0, 0, 0] H slices_S4x4096x16x64_S4x4096x16x32_0_0_0_0) (spreadQ (Host.cos A)))
        (mulf (extractStridedSlice S4x4096x16x32 ![0, 0, 0, 32] H slices_S4x4096x16x64_S4x4096x16x32_0_0_0_32) (spreadQ (Host.sin A)))⟩,
     ⟨S4x4096x16x32, addf (mulf (extractStridedSlice S4x4096x16x32 ![0, 0, 0, 32] H slices_S4x4096x16x64_S4x4096x16x32_0_0_0_32) (spreadQ (Host.cos A)))
        (mulf (extractStridedSlice S4x4096x16x32 ![0, 0, 0, 0] H slices_S4x4096x16x64_S4x4096x16x32_0_0_0_0) (spreadQ (Host.sin A)))⟩]
    concatenates_S4x4096x16x32_S4x4096x16x32_S4x4096x16x64_d3

/-- The queries' heads, the first group rotated by the row's angles and the second by the column's. -/
def turnedQ (H : FVec Ideal S4x4096x16x128 .f32) (R C : FVec Ideal S4096x32 .f32) : FVec Ideal S4x4096x16x128 .f32 :=
  concatenate S4x4096x16x128 3
    [⟨S4x4096x16x64, groupQ (extractStridedSlice S4x4096x16x64 ![0, 0, 0, 0] H slices_S4x4096x16x128_S4x4096x16x64_0_0_0_0) R⟩,
     ⟨S4x4096x16x64, groupQ (extractStridedSlice S4x4096x16x64 ![0, 0, 0, 64] H slices_S4x4096x16x128_S4x4096x16x64_0_0_0_64) C⟩]
    concatenates_S4x4096x16x64_S4x4096x16x64_S4x4096x16x128_d3

theorem spreadQ_read (T : FVec Ideal S4096x32 .f32) (b : Fin 4) (l : Fin 4096) (h : Fin 16) (e : Fin 32) : spreadQ T (ix4 b l h e) = T (ix2 l e) := by
  pointwise [spreadQ]

/-- The first half of a rotated group. -/
theorem turnedQ_lo (H : FVec Ideal S4x4096x16x128 .f32) (R C : FVec Ideal S4096x32 .f32) (b : Fin 4) (l : Fin 4096) (h : Fin 16) (s : Fin 2) (e : Fin 32) :
    turnedQ H R C (ix4 b l h ⟨s.val * 64 + e.val, by omega⟩)
      = ProjCore.lo (H (ix4 b l h ⟨s.val * 64 + e.val, by omega⟩)) (H (ix4 b l h ⟨s.val * 64 + (32 + e.val), by omega⟩))
        (Host.cos (AxialCore.pick R C s) (ix2 l e)) (Host.sin (AxialCore.pick R C s) (ix2 l e)) := by
  match s with
  | 0 =>
    pointwise [turnedQ, groupQ, ProjCore.lo, spreadQ_read]
    exact dif_pos (by omega)
  | 1 =>
    pointwise [turnedQ, groupQ, ProjCore.lo, spreadQ_read]
    rfl

/-- The second half of a rotated group. -/
theorem turnedQ_hi (H : FVec Ideal S4x4096x16x128 .f32) (R C : FVec Ideal S4096x32 .f32) (b : Fin 4) (l : Fin 4096) (h : Fin 16) (s : Fin 2) (e : Fin 32) :
    turnedQ H R C (ix4 b l h ⟨s.val * 64 + (32 + e.val), by omega⟩)
      = ProjCore.hi (H (ix4 b l h ⟨s.val * 64 + e.val, by omega⟩)) (H (ix4 b l h ⟨s.val * 64 + (32 + e.val), by omega⟩))
        (Host.cos (AxialCore.pick R C s) (ix2 l e)) (Host.sin (AxialCore.pick R C s) (ix2 l e)) := by
  match s with
  | 0 =>
    pointwise [turnedQ, groupQ, ProjCore.hi, spreadQ_read]
    exact dif_pos (by omega)
  | 1 =>
    pointwise [turnedQ, groupQ, ProjCore.hi, spreadQ_read]
    rfl

/-- One table, one row of it per position, under the keys' heads. -/
def spreadK (T : FVec Ideal S4096x32 .f32) : FVec Ideal S4x4096x4x32 .f32 :=
  broadcastInDim S4x4096x4x32 ![0, 1, 2, 3] bcast_S1x4096x1x32_S4x4096x4x32_0_1_2_3 (broadcastInDim S1x4096x1x32 ![1, 2, 3] bcast_S4096x1x32_S1x4096x1x32_1_2_3
    (broadcastInDim S4096x1x32 ![0, 2] bcast_S4096x32_S4096x1x32_0_2 T))

/-- One group of each of the keys' heads rotated by the angles. -/
def groupK (H : FVec Ideal S4x4096x4x64 .f32) (A : FVec Ideal S4096x32 .f32) : FVec Ideal S4x4096x4x64 .f32 :=
  concatenate S4x4096x4x64 3
    [⟨S4x4096x4x32, subf (mulf (extractStridedSlice S4x4096x4x32 ![0, 0, 0, 0] H slices_S4x4096x4x64_S4x4096x4x32_0_0_0_0) (spreadK (Host.cos A)))
        (mulf (extractStridedSlice S4x4096x4x32 ![0, 0, 0, 32] H slices_S4x4096x4x64_S4x4096x4x32_0_0_0_32) (spreadK (Host.sin A)))⟩,
     ⟨S4x4096x4x32, addf (mulf (extractStridedSlice S4x4096x4x32 ![0, 0, 0, 32] H slices_S4x4096x4x64_S4x4096x4x32_0_0_0_32) (spreadK (Host.cos A)))
        (mulf (extractStridedSlice S4x4096x4x32 ![0, 0, 0, 0] H slices_S4x4096x4x64_S4x4096x4x32_0_0_0_0) (spreadK (Host.sin A)))⟩]
    concatenates_S4x4096x4x32_S4x4096x4x32_S4x4096x4x64_d3

/-- The keys' heads, the first group rotated by the row's angles and the second by the column's. -/
def turnedK (H : FVec Ideal S4x4096x4x128 .f32) (R C : FVec Ideal S4096x32 .f32) : FVec Ideal S4x4096x4x128 .f32 :=
  concatenate S4x4096x4x128 3
    [⟨S4x4096x4x64, groupK (extractStridedSlice S4x4096x4x64 ![0, 0, 0, 0] H slices_S4x4096x4x128_S4x4096x4x64_0_0_0_0) R⟩,
     ⟨S4x4096x4x64, groupK (extractStridedSlice S4x4096x4x64 ![0, 0, 0, 64] H slices_S4x4096x4x128_S4x4096x4x64_0_0_0_64) C⟩]
    concatenates_S4x4096x4x64_S4x4096x4x64_S4x4096x4x128_d3

theorem spreadK_read (T : FVec Ideal S4096x32 .f32) (b : Fin 4) (l : Fin 4096) (h : Fin 4) (e : Fin 32) : spreadK T (ix4 b l h e) = T (ix2 l e) := by
  pointwise [spreadK]

/-- The first half of a rotated group. -/
theorem turnedK_lo (H : FVec Ideal S4x4096x4x128 .f32) (R C : FVec Ideal S4096x32 .f32) (b : Fin 4) (l : Fin 4096) (h : Fin 4) (s : Fin 2) (e : Fin 32) :
    turnedK H R C (ix4 b l h ⟨s.val * 64 + e.val, by omega⟩)
      = ProjCore.lo (H (ix4 b l h ⟨s.val * 64 + e.val, by omega⟩)) (H (ix4 b l h ⟨s.val * 64 + (32 + e.val), by omega⟩))
        (Host.cos (AxialCore.pick R C s) (ix2 l e)) (Host.sin (AxialCore.pick R C s) (ix2 l e)) := by
  match s with
  | 0 =>
    pointwise [turnedK, groupK, ProjCore.lo, spreadK_read]
    exact dif_pos (by omega)
  | 1 =>
    pointwise [turnedK, groupK, ProjCore.lo, spreadK_read]
    rfl

/-- The second half of a rotated group. -/
theorem turnedK_hi (H : FVec Ideal S4x4096x4x128 .f32) (R C : FVec Ideal S4096x32 .f32) (b : Fin 4) (l : Fin 4096) (h : Fin 4) (s : Fin 2) (e : Fin 32) :
    turnedK H R C (ix4 b l h ⟨s.val * 64 + (32 + e.val), by omega⟩)
      = ProjCore.hi (H (ix4 b l h ⟨s.val * 64 + e.val, by omega⟩)) (H (ix4 b l h ⟨s.val * 64 + (32 + e.val), by omega⟩))
        (Host.cos (AxialCore.pick R C s) (ix2 l e)) (Host.sin (AxialCore.pick R C s) (ix2 l e)) := by
  match s with
  | 0 =>
    pointwise [turnedK, groupK, ProjCore.hi, spreadK_read]
    exact dif_pos (by omega)
  | 1 =>
    pointwise [turnedK, groupK, ProjCore.hi, spreadK_read]
    rfl

/-- The projection over the argument arrays, by sequence. -/
def projs (X : FVec Ideal S16384x2048 .f32) (g : FVec Ideal S2048 .f32) (M : FVec Ideal S2x8x1x12288 .f32) (W : FVec Ideal S2048x3072 .bf16) :
    FVec Ideal S4x4096x3072 .f32 :=
  projected (RetProjReferenceIdeal.Value.prepared (MlpReferenceIdeal.Value.normed (MlpReferenceIdeal.Value.rows X) g) (MlpReferenceIdeal.Value.mods M)) W

/-- The mixer's rows over a projection. -/
def mixer (P : FVec Ideal S4x4096x3072 .f32) (R C : FVec Ideal S4096x32 .f32) : FVec Ideal S4x4096x3072 .f32 :=
  joined (turnedQ (queries P) R C) (turnedK (keys P) R C) P

/-- The reference's result. -/
def result (X : FVec Ideal S16384x2048 .f32) (g : FVec Ideal S2048 .f32) (M : FVec Ideal S2x8x1x12288 .f32) (W : FVec Ideal S2048x3072 .bf16) :
    FVec Ideal S16384x3072 .bf16 :=
  truncf .bf16 (shapeCast S16384x3072 (mixer (projs X g M W) (anglesOf rowNo) (anglesOf colNo)) shapeCasts_S4x4096x3072_S16384x3072) bitsLt_bf16_f32

theorem projected_read (A : FVec Ideal S4x4096x2048 .f32) (W : FVec Ideal S2048x3072 .bf16) (b : Fin 4) (l : Fin 4096) (c : Fin 3072) :
    projected A W (ix3 b l c) = ∑ d : Fin 2048, A (ix3 b l d) * W (ix2 d c) := by
  pointwise [projected]

/-- The projection at row `r`. -/
theorem projs_read (X : FVec Ideal S16384x2048 .f32) (g : FVec Ideal S2048 .f32) (M : FVec Ideal S2x8x1x12288 .f32) (W : FVec Ideal S2048x3072 .bf16)
    (b : Fin 4) (l : Fin 4096) (c : Fin 3072) (r : Fin 16384) (hr : r.val = b.val * 4096 + l.val) :
    projs X g M W (ix3 b l c) = ProjCore.proj X g M W 1 r c := by
  unfold projs
  simp only [projected_read, RetProjReferenceIdeal.Value.prepared_read, MlpReferenceIdeal.Value.normed_read, MlpReferenceIdeal.Value.rows_read X b l _ r hr,
    MlpReferenceIdeal.Value.mods_read M 0 (by decide) b l _ r hr, MlpReferenceIdeal.Value.mods_read M 2048 (by decide) b l _ r hr]
  rfl

theorem queries_read (P : FVec Ideal S4x4096x3072 .f32) (b : Fin 4) (l : Fin 4096) (h : Fin 16) (e : Fin 128) :
    queries P (ix4 b l h e) = P (ix3 b l ⟨h.val * 128 + e.val, by omega⟩) := by
  pointwise [queries]

theorem keys_read (P : FVec Ideal S4x4096x3072 .f32) (b : Fin 4) (l : Fin 4096) (h : Fin 4) (e : Fin 128) :
    keys P (ix4 b l h e) = P (ix3 b l ⟨2048 + (h.val * 128 + e.val), by omega⟩) := by
  pointwise [keys]

/-- A query's column. -/
theorem joined_query (Q : FVec Ideal S4x4096x16x128 .f32) (K : FVec Ideal S4x4096x4x128 .f32) (P : FVec Ideal S4x4096x3072 .f32) (b : Fin 4) (l : Fin 4096)
    (h : Fin 16) (e : Fin 128) : joined Q K P (ix3 b l ⟨h.val * 128 + e.val, by omega⟩) = Q (ix4 b l h e) := by
  pointwise [joined]
  exact dif_pos (by omega)

/-- A key's column. -/
theorem joined_key (Q : FVec Ideal S4x4096x16x128 .f32) (K : FVec Ideal S4x4096x4x128 .f32) (P : FVec Ideal S4x4096x3072 .f32) (b : Fin 4) (l : Fin 4096)
    (h : Fin 4) (e : Fin 128) : joined Q K P (ix3 b l ⟨2048 + (h.val * 128 + e.val), by omega⟩) = K (ix4 b l h e) := by
  pointwise [joined]
  exact dif_pos (by omega)

/-- A value's column. -/
theorem joined_rest (Q : FVec Ideal S4x4096x16x128 .f32) (K : FVec Ideal S4x4096x4x128 .f32) (P : FVec Ideal S4x4096x3072 .f32) (b : Fin 4) (l : Fin 4096)
    (c : Fin 3072) (hc : 2560 ≤ c.val) : joined Q K P (ix3 b l c) = P (ix3 b l c) := by
  pointwise [joined]
  rw [dif_neg (by omega), dif_neg (by omega)]
  exact congrArg P (congrArg (fun c => ix3 b l c) (Fin.ext (by simp only; omega)))

section columns

variable (P : FVec Ideal S4x4096x3072 .f32) (R C : FVec Ideal S4096x32 .f32) (b : Fin 4) (l : Fin 4096)

/-- The mixer's row over a projection and its angles. -/
def axialAt (c : Fin 3072) : EReal :=
  AxialCore.axial (fun c => P (ix3 b l c)) (fun s e => Host.cos (AxialCore.pick R C s) (ix2 l e)) (fun s e => Host.sin (AxialCore.pick R C s) (ix2 l e)) c

/-- The first half of a query's group. -/
theorem query_lo (h : Fin 16) (s : Fin 2) (e : Fin 32) : mixer P R C (ix3 b l ⟨h.val * 128 + (s.val * 64 + e.val), by omega⟩) = axialAt P R C b l ⟨h.val * 128 + (s.val * 64 + e.val), by omega⟩ := by
  refine ((joined_query _ _ P b l h ⟨s.val * 64 + e.val, by omega⟩).trans (turnedQ_lo (queries P) R C b l h s e)).trans ?_
  rw [queries_read, queries_read]
  unfold axialAt
  exact (AxialCore.axial_lo (fun c => P (ix3 b l c)) (fun s e => Host.cos (AxialCore.pick R C s) (ix2 l e)) (fun s e => Host.sin (AxialCore.pick R C s) (ix2 l e))
    (h.val) (by omega) s e ⟨h.val * 128 + (s.val * 64 + e.val), by omega⟩ ⟨h.val * 128 + (s.val * 64 + (32 + e.val)), by omega⟩ (by simp only; omega) (by simp only; omega)).symm

/-- The second half of a query's group. -/
theorem query_hi (h : Fin 16) (s : Fin 2) (e : Fin 32) : mixer P R C (ix3 b l ⟨h.val * 128 + (s.val * 64 + (32 + e.val)), by omega⟩) = axialAt P R C b l ⟨h.val * 128 + (s.val * 64 + (32 + e.val)), by omega⟩ := by
  refine ((joined_query _ _ P b l h ⟨s.val * 64 + (32 + e.val), by omega⟩).trans (turnedQ_hi (queries P) R C b l h s e)).trans ?_
  rw [queries_read, queries_read]
  unfold axialAt
  exact (AxialCore.axial_hi (fun c => P (ix3 b l c)) (fun s e => Host.cos (AxialCore.pick R C s) (ix2 l e)) (fun s e => Host.sin (AxialCore.pick R C s) (ix2 l e))
    (h.val) (by omega) s e ⟨h.val * 128 + (s.val * 64 + e.val), by omega⟩ ⟨h.val * 128 + (s.val * 64 + (32 + e.val)), by omega⟩ (by simp only; omega) (by simp only; omega)).symm

/-- The first half of a key's group. -/
theorem key_lo (h : Fin 4) (s : Fin 2) (e : Fin 32) : mixer P R C (ix3 b l ⟨2048 + (h.val * 128 + (s.val * 64 + e.val)), by omega⟩) = axialAt P R C b l ⟨2048 + (h.val * 128 + (s.val * 64 + e.val)), by omega⟩ := by
  refine ((joined_key _ _ P b l h ⟨s.val * 64 + e.val, by omega⟩).trans (turnedK_lo (keys P) R C b l h s e)).trans ?_
  rw [keys_read, keys_read]
  unfold axialAt
  exact (AxialCore.axial_lo (fun c => P (ix3 b l c)) (fun s e => Host.cos (AxialCore.pick R C s) (ix2 l e)) (fun s e => Host.sin (AxialCore.pick R C s) (ix2 l e))
    (16 + h.val) (by omega) s e ⟨2048 + (h.val * 128 + (s.val * 64 + e.val)), by omega⟩ ⟨2048 + (h.val * 128 + (s.val * 64 + (32 + e.val))), by omega⟩ (by simp only; omega) (by simp only; omega)).symm

/-- The second half of a key's group. -/
theorem key_hi (h : Fin 4) (s : Fin 2) (e : Fin 32) : mixer P R C (ix3 b l ⟨2048 + (h.val * 128 + (s.val * 64 + (32 + e.val))), by omega⟩) = axialAt P R C b l ⟨2048 + (h.val * 128 + (s.val * 64 + (32 + e.val))), by omega⟩ := by
  refine ((joined_key _ _ P b l h ⟨s.val * 64 + (32 + e.val), by omega⟩).trans (turnedK_hi (keys P) R C b l h s e)).trans ?_
  rw [keys_read, keys_read]
  unfold axialAt
  exact (AxialCore.axial_hi (fun c => P (ix3 b l c)) (fun s e => Host.cos (AxialCore.pick R C s) (ix2 l e)) (fun s e => Host.sin (AxialCore.pick R C s) (ix2 l e))
    (16 + h.val) (by omega) s e ⟨2048 + (h.val * 128 + (s.val * 64 + e.val)), by omega⟩ ⟨2048 + (h.val * 128 + (s.val * 64 + (32 + e.val))), by omega⟩ (by simp only; omega) (by simp only; omega)).symm

/-- Every column of the mixer's row. -/
theorem mixer_read (c : Fin 3072) : mixer P R C (ix3 b l c) = axialAt P R C b l c := by
  by_cases hc : 2560 ≤ c.val
  · exact (joined_rest _ _ P b l c hc).trans (AxialCore.axial_plain (fun c => P (ix3 b l c)) _ _ c hc).symm
  · by_cases hq : c.val < 2048 <;> by_cases hl : c.val % 64 < 32
    · have hn : c.val = c.val / 128 * 128 + (c.val / 64 % 2 * 64 + c.val % 32) := by omega
      exact (Fin.ext hn : c = ⟨_, hn ▸ c.isLt⟩) ▸ query_lo P R C b l ⟨c.val / 128, by omega⟩ ⟨c.val / 64 % 2, by omega⟩ ⟨c.val % 32, by omega⟩
    · have hn : c.val = c.val / 128 * 128 + (c.val / 64 % 2 * 64 + (32 + c.val % 32)) := by omega
      exact (Fin.ext hn : c = ⟨_, hn ▸ c.isLt⟩) ▸ query_hi P R C b l ⟨c.val / 128, by omega⟩ ⟨c.val / 64 % 2, by omega⟩ ⟨c.val % 32, by omega⟩
    · have hn : c.val = 2048 + ((c.val / 128 - 16) * 128 + (c.val / 64 % 2 * 64 + c.val % 32)) := by omega
      exact (Fin.ext hn : c = ⟨_, hn ▸ c.isLt⟩) ▸ key_lo P R C b l ⟨c.val / 128 - 16, by omega⟩ ⟨c.val / 64 % 2, by omega⟩ ⟨c.val % 32, by omega⟩
    · have hn : c.val = 2048 + ((c.val / 128 - 16) * 128 + (c.val / 64 % 2 * 64 + (32 + c.val % 32))) := by omega
      exact (Fin.ext hn : c = ⟨_, hn ▸ c.isLt⟩) ▸ key_hi P R C b l ⟨c.val / 128 - 16, by omega⟩ ⟨c.val / 64 % 2, by omega⟩ ⟨c.val % 32, by omega⟩

end columns

/-- The rows of the sequences, one below another. -/
theorem flat_read (Y : FVec Ideal S4x4096x3072 .f32) (r : Fin 16384) (c : Fin 3072) :
    (truncf .bf16 (shapeCast S16384x3072 Y shapeCasts_S4x4096x3072_S16384x3072) bitsLt_bf16_f32 : FVec Ideal S16384x3072 .bf16) (ix2 r c)
      = Y (ix3 ⟨r.val / 4096, by omega⟩ ⟨r.val % 4096, by omega⟩ c) := by
  pointwise

/-- The result, read at an index. -/
theorem result_read (X : FVec Ideal S16384x2048 .f32) (g : FVec Ideal S2048 .f32) (M : FVec Ideal S2x8x1x12288 .f32) (W : FVec Ideal S2048x3072 .bf16)
    (r : Fin 16384) (c : Fin 3072) :
    result X g M W (ix2 r c) = AxialCore.axial (ProjCore.proj X g M W 1 r) (fun s e => Host.cos (angles s) (ix2 ⟨r.val % 4096, by omega⟩ e))
      (fun s e => Host.sin (angles s) (ix2 ⟨r.val % 4096, by omega⟩ e)) c := by
  unfold result
  rw [flat_read, mixer_read]
  exact congrArg (fun a => AxialCore.axial a _ _ c)
    (funext fun c => projs_read X g M W ⟨r.val / 4096, by omega⟩ ⟨r.val % 4096, by omega⟩ c r (by dsimp only; omega))

end Cert.AttnProjReferenceIdeal.Value

end

end
-- ==== Proof.AttnProjTables.lean ====
module

public import proofs.«01_k».proof.Proof.AttnProjPay
public import proofs.«01_k».proof.Proof.AttnProjRef
public import proofs.«01_k».proof.Proof.Gen.AttnProjIdeal.Frame

@[expose] public section

/-! The second layer's input projection: the kernel's two tables, over the reference's angles. -/

set_option maxRecDepth 16384

noncomputable section

namespace Cert.AttnProjIdeal.Value

open Cert.AttnProjIdeal Cert.AttnProjIdeal.Gen Idealize.ShloMosaic Idealize.ShloMosaic.TcCoe Idealize.SL.Sem Idealize.ShloMosaic.StableHlo

variable (m : (ℓ : Loc nD τ sig) → Buf (Elt Ideal) ℓ)

/-- The kernel's quotient of each position by the width of the grid, not yet rounded down. -/
def quot : IVec S4096 32 := Host.divsi (iotaInDim S4096 32 0) (broadcastInDim S4096 ![] bcast_S_S4096 (id (constantI S_ 32 64#32)))

/-- Each position's row, as the kernel computes it. -/
def rowNo : IVec S4096 32 :=
  select (andi (cmpi .ne (signi (iotaInDim S4096 32 0)) (broadcastInDim S4096 ![] bcast_S_S4096 (signi (id (constantI S_ 32 64#32)))))
      (cmpi .ne (Host.remsi (iotaInDim S4096 32 0) (broadcastInDim S4096 ![] bcast_S_S4096 (id (constantI S_ 32 64#32)))) (broadcastInDim S4096 ![] bcast_S_S4096 (constantI S_ 32 0#32))))
    (subi quot (broadcastInDim S4096 ![] bcast_S_S4096 (constantI S_ 32 1#32))) quot

/-- The cosines' table, over the angles of the rows and of the columns. -/
def cosTab (R C : FVec Ideal S4096x32 .f32) : FVec Ideal S4096x128 .f32 :=
  concatenate S4096x128 1 [⟨S4096x32, Host.cos R⟩, ⟨S4096x32, Host.cos R⟩, ⟨S4096x32, Host.cos C⟩, ⟨S4096x32, Host.cos C⟩]
    concatenates_S4096x32_S4096x32_S4096x32_S4096x32_S4096x128_d1

/-- The signed sines' table, over the angles of the rows and of the columns. -/
def sinTab (R C : FVec Ideal S4096x32 .f32) : FVec Ideal S4096x128 .f32 :=
  concatenate S4096x128 1 [⟨S4096x32, Host.negf (Host.sin R)⟩, ⟨S4096x32, Host.sin R⟩, ⟨S4096x32, Host.negf (Host.sin C)⟩, ⟨S4096x32, Host.sin C⟩]
    concatenates_S4096x32_S4096x32_S4096x32_S4096x32_S4096x128_d1

/-- The cosines' table as the kernel finds it. -/
theorem V_cos (c : Dev nD) : V m c main_v40 = cosTab (AttnProjReferenceIdeal.Value.anglesOf rowNo) (AttnProjReferenceIdeal.Value.anglesOf AttnProjReferenceIdeal.Value.colNo) := by
  dsimp only [V, List.flatten_cons, List.flatten_nil, List.append_nil, List.cons_append, List.nil_append]
  simp only [hostOps0, hostOps0_1, hostOps0_2, hostOps0_3, hostOps0_4, List.flatten_cons, List.flatten_nil, List.append_nil, List.cons_append, List.nil_append,
    TRef.binary, TRef.nullary, TRef.ternary, TRef.unary, TRef.toBuf, TRef.ofBuf, cast_eq]
  after_results_simp
  rfl

/-- The signed sines' table as the kernel finds it. -/
theorem V_sin (c : Dev nD) : V m c main_v47 = sinTab (AttnProjReferenceIdeal.Value.anglesOf rowNo) (AttnProjReferenceIdeal.Value.anglesOf AttnProjReferenceIdeal.Value.colNo) := by
  dsimp only [V, List.flatten_cons, List.flatten_nil, List.append_nil, List.cons_append, List.nil_append]
  simp only [hostOps0, hostOps0_1, hostOps0_2, hostOps0_3, hostOps0_4, List.flatten_cons, List.flatten_nil, List.append_nil, List.cons_append, List.nil_append,
    TRef.binary, TRef.nullary, TRef.ternary, TRef.unary, TRef.toBuf, TRef.ofBuf, cast_eq]
  after_results_simp
  rfl

/-- The gain as the kernel finds it. -/
theorem V_gain (c : Dev nD) : V m c main_v48 = shapeCast S1x2048 (m ((c : Thread nD τ).loc main_arg1)) shapeCasts_S2048_S1x2048 := by
  dsimp only [V, List.flatten_cons, List.flatten_nil, List.append_nil, List.cons_append, List.nil_append]
  simp only [hostOps0, hostOps0_1, hostOps0_2, hostOps0_3, hostOps0_4, List.flatten_cons, List.flatten_nil, List.append_nil, List.cons_append, List.nil_append,
    TRef.binary, TRef.nullary, TRef.ternary, TRef.unary, TRef.toBuf, TRef.ofBuf, cast_eq]
  after_results_simp
  rfl

/-- The kernel's row at each position. -/
theorem rowNo_read : ∀ l : Fin 4096, rowNo (ix1 l) = BitVec.ofNat 32 (l.val / 64) := by decide +kernel

/-- The reference's row at each position. -/
theorem refRow_read (l : Fin 4096) : AttnProjReferenceIdeal.Value.rowNo (ix1 l) = BitVec.ofNat 32 (l.val / 64) := by
  pointwise [AttnProjReferenceIdeal.Value.rowNo]

/-- Both count a position's row alike. -/
theorem rowNo_eq : rowNo = AttnProjReferenceIdeal.Value.rowNo := by
  funext i
  obtain ⟨l, rfl⟩ : ∃ l, i = ix1 l := ⟨i 0, eq_ix1 i⟩
  exact (rowNo_read l).trans (refRow_read l).symm

section read

variable (R C : FVec Ideal S4096x32 .f32) (l : Fin 4096) (s : Fin 2) (e : Fin 32)

/-- The cosines' table in the first half of a group. -/
theorem cosTab_lo : cosTab R C (ix2 l ⟨s.val * 64 + e.val, by omega⟩) = Host.cos (AxialCore.pick R C s) (ix2 l e) := by
  match s with
  | 0 =>
    pointwise [cosTab]
    rfl
  | 1 =>
    pointwise [cosTab]
    have he : (⟨64 + e.val - 32 - 32, by omega⟩ : Fin 32) = e := Fin.ext (by simp only; omega)
    rw [dif_neg (by omega), dif_neg (by omega), dif_pos (by omega), he]
    rfl

/-- The cosines' table in the second half of a group. -/
theorem cosTab_hi : cosTab R C (ix2 l ⟨s.val * 64 + (32 + e.val), by omega⟩) = Host.cos (AxialCore.pick R C s) (ix2 l e) := by
  match s with
  | 0 =>
    pointwise [cosTab]
    rfl
  | 1 =>
    pointwise [cosTab]
    have he : (⟨64 + (32 + e.val) - 32 - 32 - 32, by omega⟩ : Fin 32) = e := Fin.ext (by simp only; omega)
    rw [dif_neg (by omega), dif_neg (by omega), dif_neg (by omega), he]
    rfl

/-- The signed sines' table in the first half of a group. -/
theorem sinTab_lo : sinTab R C (ix2 l ⟨s.val * 64 + e.val, by omega⟩) = -Host.sin (AxialCore.pick R C s) (ix2 l e) := by
  match s with
  | 0 =>
    pointwise [sinTab]
    rfl
  | 1 =>
    pointwise [sinTab]
    have he : (⟨64 + e.val - 32 - 32, by omega⟩ : Fin 32) = e := Fin.ext (by simp only; omega)
    rw [dif_neg (by omega), dif_neg (by omega), dif_pos (by omega), he]
    rfl

/-- The signed sines' table in the second half of a group. -/
theorem sinTab_hi : sinTab R C (ix2 l ⟨s.val * 64 + (32 + e.val), by omega⟩) = Host.sin (AxialCore.pick R C s) (ix2 l e) := by
  match s with
  | 0 =>
    pointwise [sinTab]
    rfl
  | 1 =>
    pointwise [sinTab]
    have he : (⟨64 + (32 + e.val) - 32 - 32 - 32, by omega⟩ : Fin 32) = e := Fin.ext (by simp only; omega)
    rw [dif_neg (by omega), dif_neg (by omega), dif_neg (by omega), he]
    rfl

end read

end Cert.AttnProjIdeal.Value

end

end
-- ==== Proof.AttnProjBlocks.lean ====
module

public import proofs.«01_k».proof.Proof.AttnProjTables
public import proofs.«01_k».proof.Proof.RetProjBlocks
public import proofs.«01_k».proof.Proof.Gen.AttnProjIdeal.Value
public import Idealize.ShloMosaic.Lib.Pipeline.ValueKit

@[expose] public section

/-! The second layer's input projection: the blocks one grid point reads, and the result array. -/

set_option maxRecDepth 16384

noncomputable section

namespace Cert.AttnProjIdeal.Value

open Cert.AttnProjIdeal Cert.AttnProjIdeal.Gen Idealize.ShloMosaic Idealize.ShloMosaic.TcCoe Idealize.SL.Sem
open Idealize.ShloMosaic.Pipeline (Dat)

variable (m : (ℓ : Loc nD τ sig) → Buf (Elt Ideal) ℓ)

/-- Where the windows stand at each grid point. -/
theorem idx_val : ∀ t : Fin cfg0.N,
    win0_0.index t = ![t.val / 6, 0]
    ∧ win0_1.index t = ![0, 0]
    ∧ win0_2.index t = ![1, t.val / 24, 0, 0]
    ∧ win0_3.index t = ![1, t.val / 24, 0, 1]
    ∧ win0_4.index t = ![0, t.val % 6]
    ∧ win0_5.index t = ![t.val / 6 % 4, 0]
    ∧ win0_6.index t = ![t.val / 6 % 4, 0]
    ∧ win0_7.index t = ![t.val / 6, t.val % 6] :=
  (by decide +kernel : ∀ t : Fin grid0.N, _)

/-- The column `e` of the block of 512 columns `k`. -/
def colAt (k : ℕ) (e : Fin 512) : Fin 3072 := ⟨(k * 512 + e.val) % 3072, Nat.mod_lt _ (by decide)⟩

/-- Window 0: the point's rows. -/
theorem blk0 (c : Dev nD) (t : Fin cfg0.N) (q : Fin 1024) (e : Fin 2048) :
    iblk m c 0 t (ix2 q e) = m ((c : Thread nD τ).loc main_arg0) (ix2 (OutCore.rowAt (t.val / 6) q) e) := by
  have ht : t.val < 96 := lt_of_lt_of_eq t.isLt N_0
  unfold OutCore.rowAt
  blk_point [iblk, V_main_arg0, idx_val t]

/-- The block of window 1 in any array. -/
theorem read1 (T : FVec Ideal S1x2048 .f32) (t : Fin cfg0.N) (e : Fin 2048) : ((cfg0.win 1).blk t).view.read (Elt Ideal) T (ix2 0 e) = T (ix2 0 e) := by
  blk_point [idx_val t]

/-- The block of window 5 in any table. -/
theorem read5 (T : FVec Ideal S4096x128 .f32) (t : Fin cfg0.N) (q : Fin 1024) (e : Fin 128) :
    ((cfg0.win 5).blk t).view.read (Elt Ideal) T (ix2 q e) = T (ix2 (RetProjIdeal.Value.posAt (t.val / 6) q) e) := by
  unfold RetProjIdeal.Value.posAt
  blk_point [idx_val t]

/-- The block of window 6 in any table. -/
theorem read6 (T : FVec Ideal S4096x128 .f32) (t : Fin cfg0.N) (q : Fin 1024) (e : Fin 128) :
    ((cfg0.win 6).blk t).view.read (Elt Ideal) T (ix2 q e) = T (ix2 (RetProjIdeal.Value.posAt (t.val / 6) q) e) := by
  unfold RetProjIdeal.Value.posAt
  blk_point [idx_val t]

/-- The gain's row, read at an index. -/
theorem gain_read (T : FVec Ideal S2048 .f32) (e : Fin 2048) : shapeCast S1x2048 T shapeCasts_S2048_S1x2048 (ix2 0 e) = T (ix1 e) := by
  pointwise

/-- Window 1: the gain. -/
theorem blk1 (c : Dev nD) (t : Fin cfg0.N) (e : Fin 2048) :
    iblk m c 1 t (ix2 0 e) = m ((c : Thread nD τ).loc main_arg1) (ix1 e) :=
  ((congrArg (fun T : FVec Ideal S1x2048 .f32 => ((cfg0.win 1).blk t).view.read (Elt Ideal) T (ix2 0 e)) (V_gain m c)).trans (read1 _ t e)).trans (gain_read _ e)

/-- Window 2: the shift. -/
theorem blk2 (c : Dev nD) (t : Fin cfg0.N) (q : Fin 1024) (e : Fin 2048) :
    iblk m c 2 t (ix4 0 0 0 e) = MlpCore.modAt (m ((c : Thread nD τ).loc main_arg2)) 1 0 (by decide) (OutCore.rowAt (t.val / 6) q) e := by
  have ht : t.val < 96 := lt_of_lt_of_eq t.isLt N_0
  unfold MlpCore.modAt OutCore.rowAt
  blk_point [iblk, V_main_arg2, idx_val t]

/-- Window 3: the scale. -/
theorem blk3 (c : Dev nD) (t : Fin cfg0.N) (q : Fin 1024) (e : Fin 2048) :
    iblk m c 3 t (ix4 0 0 0 e) = MlpCore.modAt (m ((c : Thread nD τ).loc main_arg2)) 1 2048 (by decide) (OutCore.rowAt (t.val / 6) q) e := by
  have ht : t.val < 96 := lt_of_lt_of_eq t.isLt N_0
  unfold MlpCore.modAt OutCore.rowAt
  blk_point [iblk, V_main_arg2, idx_val t]

/-- Window 4: the block of columns of the weights. -/
theorem blk4 (c : Dev nD) (t : Fin cfg0.N) (d : Fin 2048) (e : Fin 512) :
    iblk m c 4 t (ix2 d e) = m ((c : Thread nD τ).loc main_arg3) (ix2 d (colAt (t.val % 6) e)) := by
  unfold colAt
  blk_point [iblk, V_main_arg3, idx_val t]

/-- The reference's angles of the rows. -/
abbrev rowAngles : FVec Ideal S4096x32 .f32 := AttnProjReferenceIdeal.Value.anglesOf AttnProjReferenceIdeal.Value.rowNo

/-- The reference's angles of the columns. -/
abbrev colAngles : FVec Ideal S4096x32 .f32 := AttnProjReferenceIdeal.Value.anglesOf AttnProjReferenceIdeal.Value.colNo

/-- Window 5: the positions' cosines. -/
theorem blk5 (c : Dev nD) (t : Fin cfg0.N) (q : Fin 1024) (e : Fin 128) :
    iblk m c 5 t (ix2 q e) = cosTab rowAngles colAngles (ix2 (RetProjIdeal.Value.posAt (t.val / 6) q) e) :=
  ((congrArg (fun T : FVec Ideal S4096x128 .f32 => ((cfg0.win 5).blk t).view.read (Elt Ideal) T (ix2 q e)) (V_cos m c)).trans (read5 _ t q e)).trans
    (congrArg (fun n => cosTab (AttnProjReferenceIdeal.Value.anglesOf n) colAngles (ix2 (RetProjIdeal.Value.posAt (t.val / 6) q) e)) rowNo_eq)

/-- Window 6: the positions' signed sines. -/
theorem blk6 (c : Dev nD) (t : Fin cfg0.N) (q : Fin 1024) (e : Fin 128) :
    iblk m c 6 t (ix2 q e) = sinTab rowAngles colAngles (ix2 (RetProjIdeal.Value.posAt (t.val / 6) q) e) :=
  ((congrArg (fun T : FVec Ideal S4096x128 .f32 => ((cfg0.win 6).blk t).view.read (Elt Ideal) T (ix2 q e)) (V_sin m c)).trans (read6 _ t q e)).trans
    (congrArg (fun n => sinTab (AttnProjReferenceIdeal.Value.anglesOf n) colAngles (ix2 (RetProjIdeal.Value.posAt (t.val / 6) q) e)) rowNo_eq)

/-- The prepared rows of the block of rows `k`. -/
def preps (c : Dev nD) (k : ℕ) (j : S1024x2048.Idx) : EReal :=
  ProjCore.prep (m ((c : Thread nD τ).loc main_arg0)) (m ((c : Thread nD τ).loc main_arg1)) (m ((c : Thread nD τ).loc main_arg2)) 1
    (OutCore.rowAt k (j 0)) (j 1)

/-- The prepared rows at a first visit. -/
theorem pay1_at (c : Dev nD) (t : Fin cfg0.N) :
    k0_pay1 (F := Ideal) (iblk m c 0 t) (iblk m c 1 t) (iblk m c 2 t) (iblk m c 3 t) = preps m c (t.val / 6) := by
  funext j
  obtain ⟨q, d, rfl⟩ : ∃ q d, j = ix2 q d := ⟨j 0, j 1, eq_ix2 j⟩
  refine (pay1_read _ _ _ _ q d).trans ?_
  unfold preps ProjCore.prep
  simp only [blk0 m c t, blk1 m c t, blk2 m c t q, blk3 m c t q]
  rfl

/-- The prepared rows' products with the argument's weights. -/
def dots (c : Dev nD) (r : Fin 16384) : Fin 3072 → EReal :=
  ProjCore.proj (m ((c : Thread nD τ).loc main_arg0)) (m ((c : Thread nD τ).loc main_arg1)) (m ((c : Thread nD τ).loc main_arg2))
    (m ((c : Thread nD τ).loc main_arg3)) 1 r

/-- The block of products at any visit, over the prepared rows. -/
theorem pay2_at (c : Dev nD) (t : Fin cfg0.N) (a : FVec Ideal S1024x2048 .bf16) (ha : a = preps m c (t.val / 6)) (q : Fin 1024) (e : Fin 512) :
    k0_pay2 (F := Ideal) a (iblk m c 4 t) (ix2 q e) = dots m c (OutCore.rowAt (t.val / 6) q) (colAt (t.val % 6) e) := by
  subst ha
  refine (pay2_read _ _ q e).trans ?_
  simp only [blk4 m c t]
  rfl

/-- A first visit leaves the prepared rows. -/
theorem prep_first (c : Dev nD) (t : Fin cfg0.N) (h : t.val % 6 = 0) :
    (outsAt0 m c t.val t.isLt).2 = k0_pay1 (F := Ideal) (iblk m c 0 t) (iblk m c 1 t) (iblk m c 2 t) (iblk m c 3 t) := by
  rw [outsAt0_A m c t h (by omega) (by omega)]
  funext j
  frame_out

/-- A later visit keeps the prepared rows. -/
theorem prep_next (c : Dev nD) (n : ℕ) (hn : n + 1 < cfg0.N) (h : (n + 1) % 6 ≠ 0) :
    (outsAt0 m c (n + 1) hn).2 = (outsAt0 m c n (Nat.lt_of_succ_lt hn)).2 := by
  by_cases h5 : (n + 1) % 6 = 5
  · rw [outsAt0_C m c ⟨n + 1, hn⟩ h (by simp only; omega) h5]
    rfl
  · rw [outsAt0_B m c ⟨n + 1, hn⟩ h (by simp only; omega) h5]
    rfl

/-- Every visit holds its rows prepared. -/
theorem held (c : Dev nD) : ∀ n (h : n < cfg0.N), (outsAt0 m c n h).2 = preps m c (n / 6) := by
  intro n
  induction n with
  | zero => exact fun h => (prep_first m c ⟨0, h⟩ rfl).trans (pay1_at m c ⟨0, h⟩)
  | succ n ih =>
    intro h
    by_cases h0 : (n + 1) % 6 = 0
    · exact (prep_first m c ⟨n + 1, h⟩ h0).trans (pay1_at m c ⟨n + 1, h⟩)
    · rw [prep_next m c n h h0, ih (Nat.lt_of_succ_lt h)]
      exact congrArg (preps m c) (by omega)

/-- A visit to the values' columns leaves the products. -/
theorem out_plain (c : Dev nD) (n : ℕ) (hn : n + 1 < cfg0.N) (h : (n + 1) % 6 = 5) :
    (outsAt0 m c (n + 1) hn).1 = k0_pay5 (F := Ideal) (outsAt0 m c n (Nat.lt_of_succ_lt hn)).2 (iblk m c 4 ⟨n + 1, hn⟩) := by
  rw [outsAt0_C m c ⟨n + 1, hn⟩ (by simp only; omega) (by simp only; omega) h]
  funext j
  frame_out
  erw [Memref.IsWhole.read_unread]
  rfl

/-- The row at one position, over the argument arrays. -/
def axialAt (c : Dev nD) (r : Fin 16384) (p : Fin 4096) (e : Fin 3072) : EReal :=
  AxialCore.axial (dots m c r) (fun s e => Host.cos (AttnProjReferenceIdeal.Value.angles s) (ix2 p e)) (fun s e => Host.sin (AttnProjReferenceIdeal.Value.angles s) (ix2 p e)) e

/-- A product with a sine of the other sign. -/
theorem lo_signed (x y cs sn : EReal) : x * cs + y * -sn = ProjCore.lo x y cs sn := by
  unfold ProjCore.lo
  rw [mul_neg, sub_eq_add_neg]

/-- A tile of rotated columns: the head `k` of its block. -/
theorem tile (c : Dev nD) (t : Fin cfg0.N) (h : t.val % 6 ≤ 4) (q : Fin 1024) (k : ℕ) (hk : k < 4) (x : FVec Ideal S1024x128 .f32)
    (hx : ∀ (e : Fin 128) (z : Fin 512), z.val = k * 128 + e.val → x (ix2 q e) = dots m c (OutCore.rowAt (t.val / 6) q) (colAt (t.val % 6) z))
    (e : Fin 128) (z : Fin 512) (hz : z.val = k * 128 + e.val) :
    swapped x (iblk m c 5 t) (iblk m c 6 t) (ix2 q e) = axialAt m c (OutCore.rowAt (t.val / 6) q) (RetProjIdeal.Value.posAt (t.val / 6) q) (colAt (t.val % 6) z) := by
  unfold axialAt
  obtain ⟨s, hs⟩ : ∃ s : Fin 2, s.val = e.val / 64 := ⟨⟨e.val / 64, by omega⟩, rfl⟩
  obtain ⟨f, hf⟩ : ∃ f : Fin 32, f.val = e.val % 32 := ⟨⟨e.val % 32, by omega⟩, rfl⟩
  obtain ⟨u, hu⟩ : ∃ u : Fin 128, u.val = s.val * 64 + f.val := ⟨⟨s.val * 64 + f.val, by omega⟩, rfl⟩
  obtain ⟨v, hv⟩ : ∃ v : Fin 128, v.val = s.val * 64 + (32 + f.val) := ⟨⟨s.val * 64 + (32 + f.val), by omega⟩, rfl⟩
  obtain ⟨zu, hzu⟩ : ∃ z : Fin 512, z.val = k * 128 + u.val := ⟨⟨k * 128 + u.val, by omega⟩, rfl⟩
  obtain ⟨zv, hzv⟩ : ∃ z : Fin 512, z.val = k * 128 + v.val := ⟨⟨k * 128 + v.val, by omega⟩, rfl⟩
  have eu : u = ⟨s.val * 64 + f.val, by omega⟩ := Fin.ext hu
  have ev : v = ⟨s.val * 64 + (32 + f.val), by omega⟩ := Fin.ext hv
  by_cases hl : e.val % 64 < 32
  · have he : e = u := Fin.ext (by omega)
    have hzz : z = zu := Fin.ext (by omega)
    rw [he, hzz, swapped_lo _ _ _ q u v (by omega) (by omega), hx u zu hzu, hx v zv hzv, blk5, blk6, eu, cosTab_lo, sinTab_lo, lo_signed]
    exact (AxialCore.axial_lo (dots m c (OutCore.rowAt (t.val / 6) q)) (fun s e => Host.cos (AttnProjReferenceIdeal.Value.angles s) (ix2 (RetProjIdeal.Value.posAt (t.val / 6) q) e))
      (fun s e => Host.sin (AttnProjReferenceIdeal.Value.angles s) (ix2 (RetProjIdeal.Value.posAt (t.val / 6) q) e)) (t.val % 6 * 4 + k) (by omega) s f
      (colAt (t.val % 6) zu) (colAt (t.val % 6) zv) (by simp only [colAt]; omega) (by simp only [colAt]; omega)).symm
  · have he : e = v := Fin.ext (by omega)
    have hzz : z = zv := Fin.ext (by omega)
    rw [he, hzz, swapped_hi _ _ _ q u v (by omega) (by omega), hx u zu hzu, hx v zv hzv, blk5, blk6, ev, cosTab_hi, sinTab_hi]
    exact (AxialCore.axial_hi (dots m c (OutCore.rowAt (t.val / 6) q)) (fun s e => Host.cos (AttnProjReferenceIdeal.Value.angles s) (ix2 (RetProjIdeal.Value.posAt (t.val / 6) q) e))
      (fun s e => Host.sin (AttnProjReferenceIdeal.Value.angles s) (ix2 (RetProjIdeal.Value.posAt (t.val / 6) q) e)) (t.val % 6 * 4 + k) (by omega) s f
      (colAt (t.val % 6) zu) (colAt (t.val % 6) zv) (by simp only [colAt]; omega) (by simp only [colAt]; omega)).symm

/-- The prepared rows a later visit finds. -/
theorem held_before (c : Dev nD) (t : Fin cfg0.N) (h : ¬t.val % 6 = 0) (hn : t.val - 1 < cfg0.N) : (outsAt0 m c (t.val - 1) hn).2 = preps m c (t.val / 6) :=
  (held m c (t.val - 1) hn).trans (congrArg (preps m c) (by omega))

/-- The four tiles of a block of rotated columns. -/
def tiles (a : FVec Ideal S1024x2048 .bf16) (w : FVec Ideal S2048x512 .bf16) (cs sn : FVec Ideal S1024x128 .f32) : S1024x512.Idx → Elt Ideal .bf16 :=
  View.canon (Val := Elt Ideal) (s := S1024x512) (e := .bf16)
    [⟨Rect.unit ![0, 384] ![1024, 128] inb_S1024x512_S1024x128_0_384, k0_pay4 (F := Ideal) a w (k0_pay6 cs) (k0_pay7 sn)⟩,
     ⟨Rect.unit ![0, 256] ![1024, 128] inb_S1024x512_S1024x128_0_256, k0_pay3 (F := Ideal) (k0_pay7 sn) (k0_pay10 (k0_pay2 a w)) (k0_pay11 (k0_pay2 a w) cs) k0_pay12 96#32⟩,
     ⟨Rect.unit ![0, 128] ![1024, 128] inb_S1024x512_S1024x128_0_128, k0_pay9 (F := Ideal) (k0_pay2 a w) cs sn⟩,
     ⟨Rect.unit ![0, 0] ![1024, 128] inb_S1024x512_S1024x128_0_0, k0_pay8 (F := Ideal) (k0_pay2 a w) cs sn⟩]

/-- A table as it is loaded. -/
theorem pay6_eq (v : FVec Ideal S1024x128 .f32) : k0_pay6 (F := Ideal) v = v := by
  funext j
  obtain ⟨q, e, rfl⟩ : ∃ q e, j = ix2 q e := ⟨j 0, j 1, eq_ix2 j⟩
  pointwise [k0_pay6]

/-- Every place of the tiles is a rotated column. -/
theorem tiles_at (c : Dev nD) (t : Fin cfg0.N) (h : t.val % 6 ≤ 4) (a : FVec Ideal S1024x2048 .bf16) (ha : a = preps m c (t.val / 6)) (q : Fin 1024) (z : Fin 512) :
    tiles a (iblk m c 4 t) (iblk m c 5 t) (iblk m c 6 t) (ix2 q z)
      = axialAt m c (OutCore.rowAt (t.val / 6) q) (RetProjIdeal.Value.posAt (t.val / 6) q) (colAt (t.val % 6) z) := by
  have h7 : k0_pay7 (F := Ideal) (iblk m c 6 t) = iblk m c 6 t := pay6_eq _
  unfold tiles
  rw [pay4_eq, pay3_eq, pay9_eq, pay8_eq, pay6_eq, h7]
  canon_tiles x h
  all_goals
    have hz : z.val = (ix2 q z 1).val := rfl
    have hp : x 0 = q := Fin.ext h0.symm
    have hx : x = ix2 q (x 1) := (eq_ix2 x).trans (congrArg (fun p => ix2 p (x 1)) hp)
    rw [hx]
    refine tile m c t h q (z.val / 128) (by omega) _ (fun e z' hz' => ?_) (x 1) z (by omega)
    refine Eq.trans ?_ (pay2_at m c t a ha q z')
    pointwise
    exact congrArg _ (congrArg (fun e => ix2 q e) (Fin.ext (by simp only; omega)))

/-- A visit to the rotated columns leaves its tiles, over the prepared rows. -/
theorem out_turned (c : Dev nD) (t : Fin cfg0.N) (h : t.val % 6 ≤ 4) :
    (outsAt0 m c t.val t.isLt).1 = tiles (preps m c (t.val / 6)) (iblk m c 4 t) (iblk m c 5 t) (iblk m c 6 t) := by
  funext y
  by_cases h0 : t.val % 6 = 0
  · rw [outsAt0_A m c t h0 (by omega) (by omega)]
    frame_out
    rw [pay1_at m c t]
  · rw [outsAt0_B m c t h0 (by omega) (by omega)]
    frame_out
    erw [Memref.IsWhole.read_unread]
    rw [held_before m c t h0]

/-- The result over the argument arrays. -/
def G (X : (⟨2, ![16384, 2048]⟩ : Shape).Idx → EReal) (g : (⟨1, ![2048]⟩ : Shape).Idx → EReal) (M : (⟨4, ![2, 8, 1, 12288]⟩ : Shape).Idx → EReal)
    (W : (⟨2, ![2048, 3072]⟩ : Shape).Idx → EReal) (j : S16384x3072.Idx) : EReal :=
  AxialCore.axial (ProjCore.proj X g M W 1 (j 0))
    (fun s e => Host.cos (AttnProjReferenceIdeal.Value.angles s) (ix2 ⟨(j 0).val % 4096, Nat.mod_lt _ (by decide)⟩ e))
    (fun s e => Host.sin (AttnProjReferenceIdeal.Value.angles s) (ix2 ⟨(j 0).val % 4096, Nat.mod_lt _ (by decide)⟩ e)) (j 1)

/-- The row at one position, at the row its block holds. -/
theorem axialAt_eq (c : Dev nD) (k : ℕ) (q : Fin 1024) (e : Fin 3072) :
    axialAt m c (OutCore.rowAt k q) (RetProjIdeal.Value.posAt k q) e
      = G (m ((c : Thread nD τ).loc main_arg0)) (m ((c : Thread nD τ).loc main_arg1)) (m ((c : Thread nD τ).loc main_arg2))
        (m ((c : Thread nD τ).loc main_arg3)) (ix2 (OutCore.rowAt k q) e) := by
  have hp : RetProjIdeal.Value.posAt k q = ⟨(OutCore.rowAt k q).val % 4096, Nat.mod_lt _ (by decide)⟩ :=
    Fin.ext (by simp only [RetProjIdeal.Value.posAt, OutCore.rowAt]; omega)
  rw [hp]
  rfl

/-- What one visit leaves in its block. -/
theorem block_at (c : Dev nD) (t : Fin cfg0.N) (q : Fin 1024) (z : Fin 512) :
    (outsAt0 m c t.val t.isLt).1 (ix2 q z)
      = G (m ((c : Thread nD τ).loc main_arg0)) (m ((c : Thread nD τ).loc main_arg1)) (m ((c : Thread nD τ).loc main_arg2))
        (m ((c : Thread nD τ).loc main_arg3)) (ix2 (OutCore.rowAt (t.val / 6) q) (colAt (t.val % 6) z)) := by
  rw [← axialAt_eq]
  by_cases h : t.val % 6 ≤ 4
  · rw [out_turned m c t h]
    exact tiles_at m c t h _ rfl q z
  · obtain ⟨n, hn⟩ := t
    cases n with
    | zero => exact absurd (Nat.zero_le 4) h
    | succ n =>
      have h5 : (n + 1) % 6 = 5 := by simp only at h; omega
      have hz : 2560 ≤ (colAt ((n + 1) % 6) z).val := by simp only [colAt]; omega
      rw [out_plain m c n hn h5]
      refine (pay2_at m c ⟨n + 1, hn⟩ _ ((held m c n (Nat.lt_of_succ_lt hn)).trans (congrArg (preps m c) (by simp only; omega))) q z).trans ?_
      exact (AxialCore.axial_plain _ _ _ _ hz).symm

/-- The result array after the run. -/
theorem final (c : Dev nD) : (dats m 0 c).arrAt 7 (cfgs 0).N
    = G (m ((c : Thread nD τ).loc main_arg0)) (m ((c : Thread nD τ).loc main_arg1)) (m ((c : Thread nD τ).loc main_arg2))
        (m ((c : Thread nD τ).loc main_arg3)) := by
  refine (dats m 0 c).arrAt_eq_of_covers 7 _ (by decide +kernel) fun t _ y => ?_
  have ht : t.val < 96 := lt_of_lt_of_eq t.isLt N_0
  blk_simp
  rw [after0_7]
  have hy : (y 0).val < 1024 := (y 0).isLt
  have hz : (y 1).val < 512 := (y 1).isLt
  have hr : (win0_7.blk t).view.emb y = ix2 (OutCore.rowAt (t.val / 6) (y 0)) (colAt (t.val % 6) (y 1)) := by
    unfold OutCore.rowAt colAt
    blk_ext [idx_val t]
  rw [hr]
  refine Eq.trans ?_ (block_at m c t (y 0) (y 1))
  rw [← eq_ix2 y]

end Cert.AttnProjIdeal.Value

end

end
-- ==== Proof.AttnProjRun.lean ====
module

public import proofs.«01_k».proof.Proof.AttnProjRef
public import proofs.«01_k».proof.Proof.Gen.AttnProjReferenceIdeal.Run

@[expose] public section

/-! The second layer's input projection: the reference's result array, over its arguments. -/

set_option maxRecDepth 16384

noncomputable section

namespace Cert.AttnProjReferenceIdeal.Value

open Cert.AttnProjReferenceIdeal Cert.AttnProjReferenceIdeal.Gen Idealize.ShloMosaic Idealize.ShloMosaic.TcCoe Idealize.SL.Sem Idealize.ShloMosaic.StableHlo

/-- The run's result term is the staged projection. -/
theorem res_eq (m : (ℓ : Loc nD τ sig) → Buf (Elt Ideal) ℓ) (c : Dev nD) :
    (truncf .bf16 (shapeCast _ (res_main_v196 (F := Ideal) (launchContents m c)) shapeCasts_S4x4096x3072_S16384x3072) bitsLt_bf16_f32 : FVec Ideal S16384x3072 .bf16)
      = result (m ((c.tc : Thread nD τ).loc main_arg0)) (m ((c.tc : Thread nD τ).loc main_arg1)) (m ((c.tc : Thread nD τ).loc main_arg2)) (m ((c.tc : Thread nD τ).loc main_arg3)) := rfl

end Cert.AttnProjReferenceIdeal.Value

end

end
-- ==== Proof.Mlp0CtxPay.lean ====
module

public import proofs.«01_k».proof.Proof.Mlp0Pay
public import proofs.«01_k».proof.Proof.Gen.Mlp0CtxIdeal.Skeleton

@[expose] public section

/-! The first layer's MLP on the context: each value the kernel computes, read at an index. -/

set_option maxRecDepth 16384

noncomputable section

namespace Cert.Mlp0CtxIdeal.Value

open Cert.Mlp0CtxIdeal Cert.Mlp0CtxIdeal.Gen Idealize.ShloMosaic Idealize.ShloMosaic.TcCoe Idealize.SL.Sem

/-- The prepared rows. -/
theorem pay1_read (x : FVec Ideal S512x2048 .f32) (g : FVec Ideal S1x2048 .f32) (sh sc : FVec Ideal S1x1x1x2048 .f32) (q : Fin 512) (d : Fin 2048) :
    k0_pay1 (F := Ideal) x g sh sc (ix2 q d)
      = MlpCore.modnorm (fun e => x (ix2 q e)) (fun e => g (ix2 0 e)) (fun e => sh (ix4 0 0 0 e)) (fun e => sc (ix4 0 0 0 e)) d :=
  Mlp0Ideal.Value.pay1_read x g sh sc q d

/-- One run of hidden units' part of the rows' outputs. -/
theorem pay2_read (a : FVec Ideal S512x2048 .bf16) (w1 : FVec Ideal S2048x1024 .bf16) (w2 : FVec Ideal S1024x2048 .bf16) (q : Fin 512) (d : Fin 2048) :
    k0_pay2 (F := Ideal) a w1 w2 (ix2 q d)
      = ∑ l : Fin 1024, MlpCore.unit (fun e => a (ix2 q e)) (fun e => w1 (ix2 e l)) * w2 (ix2 l d) :=
  Mlp0Ideal.Value.pay2_read a w1 w2 q d

/-- A run's part added to what stood there. -/
theorem pay3_read (a : FVec Ideal S512x2048 .bf16) (w1 : FVec Ideal S2048x1024 .bf16) (w2 : FVec Ideal S1024x2048 .bf16) (o : FVec Ideal S512x2048 .f32)
    (q : Fin 512) (d : Fin 2048) :
    k0_pay3 (F := Ideal) a w1 w2 o (ix2 q d) = o (ix2 q d) + k0_pay2 (F := Ideal) a w1 w2 (ix2 q d) :=
  Mlp0Ideal.Value.pay3_read a w1 w2 o q d

/-- The finished rows: the residual alone, with no norm after it. -/
theorem pay4_read (x : FVec Ideal S512x2048 .f32) (gt : FVec Ideal S1x1x1x2048 .f32) (o : FVec Ideal S512x2048 .f32) (q : Fin 512) (d : Fin 2048) :
    k0_pay4 (F := Ideal) x gt o (ix2 q d) = x (ix2 q d) + gt (ix4 0 0 0 d) * o (ix2 q d) :=
  Mlp0Ideal.Value.pay4_read x gt o q d

end Cert.Mlp0CtxIdeal.Value

end

end
-- ==== Proof.CtxCore.lean ====
module

public import proofs.«01_k».proof.Proof.ProjCore

@[expose] public section

/-! The context's rows through the layers, on the extended reals: every row is modulated alike. -/

set_option maxRecDepth 16384

noncomputable section

namespace Cert.CtxCore

open Idealize.ShloMosaic

/-- The row `q` of the block of 512 rows `k`. -/
def rowAt (k : ℕ) (q : Fin 512) : Fin 1024 := ⟨(k * 512 + q.val) % 1024, Nat.mod_lt _ (by decide)⟩

/-- The `2048`-wide part of layer `i`'s modulation of the context from place `p` on. -/
def modAt (M : (⟨4, ![2, 8, 1, 12288]⟩ : Shape).Idx → EReal) (i : Fin 2) (p : ℕ) (hp : p ≤ 10240) (e : Fin 2048) : EReal :=
  M (ix4 i 4 0 ⟨p + e.val, by omega⟩)

/-- The row `r` of layer `i` prepared with the shift at place `s` and the scale at place `c`. -/
def prep (X : (⟨2, ![1024, 2048]⟩ : Shape).Idx → EReal) (g : (⟨1, ![2048]⟩ : Shape).Idx → EReal)
    (M : (⟨4, ![2, 8, 1, 12288]⟩ : Shape).Idx → EReal) (i : Fin 2) (s c : ℕ) (hs : s ≤ 10240) (hc : c ≤ 10240) (r : Fin 1024) : Fin 2048 → EReal :=
  MlpCore.modnorm (fun e => X (ix2 r e)) (fun e => g (ix1 e)) (modAt M i s hs) (modAt M i c hc)

/-- The row `r` with layer `i`'s outputs `p` added, gated at place `q`. -/
def residual (X : (⟨2, ![1024, 2048]⟩ : Shape).Idx → EReal) (M : (⟨4, ![2, 8, 1, 12288]⟩ : Shape).Idx → EReal) (i : Fin 2) (q : ℕ) (hq : q ≤ 10240)
    (r : Fin 1024) (p : Fin 2048 → EReal) (e : Fin 2048) : EReal :=
  X (ix2 r e) + modAt M i q hq e * p e

/-- The first layer's MLP at row `r`, its residual added. -/
def layer (X : (⟨2, ![1024, 2048]⟩ : Shape).Idx → EReal) (g : (⟨1, ![2048]⟩ : Shape).Idx → EReal)
    (M : (⟨4, ![2, 8, 1, 12288]⟩ : Shape).Idx → EReal) (W1 : (⟨2, ![2048, 8192]⟩ : Shape).Idx → EReal)
    (W2 : (⟨2, ![8192, 2048]⟩ : Shape).Idx → EReal) (r : Fin 1024) : Fin 2048 → EReal :=
  residual X M 0 10240 (by decide) r fun e =>
    MlpCore.prod (prep X g M 0 6144 8192 (by decide) (by decide) r) (fun d f => W1 (ix2 d f)) (fun f => W2 (ix2 f e))

/-- The rows with the first layer's gated projection added. -/
def gated (Y : (⟨2, ![1024, 4096]⟩ : Shape).Idx → EReal) (W : (⟨2, ![4096, 2048]⟩ : Shape).Idx → EReal)
    (X : (⟨2, ![1024, 2048]⟩ : Shape).Idx → EReal) (M : (⟨4, ![2, 8, 1, 12288]⟩ : Shape).Idx → EReal) (r : Fin 1024) : Fin 2048 → EReal :=
  residual X M 0 4096 (by decide) r fun d => ∑ e : Fin 4096, Y (ix2 r e) * W (ix2 e d)

/-- The prepared row's product with a column of the weights. -/
def proj {n : ℕ} (X : (⟨2, ![1024, 2048]⟩ : Shape).Idx → EReal) (g : (⟨1, ![2048]⟩ : Shape).Idx → EReal)
    (M : (⟨4, ![2, 8, 1, 12288]⟩ : Shape).Idx → EReal) (W : (⟨2, ![2048, n]⟩ : Shape).Idx → EReal) (i : Fin 2) (r : Fin 1024) (c : Fin n) : EReal :=
  ∑ d, prep X g M i 0 2048 (by decide) (by decide) r d * W (ix2 d c)

end Cert.CtxCore

end

end
-- ==== Proof.Mlp0CtxBlocks.lean ====
module

public import proofs.«01_k».proof.Proof.Mlp0CtxPay
public import proofs.«01_k».proof.Proof.CtxCore
public import proofs.«01_k».proof.Proof.Gen.Mlp0CtxIdeal.Value
public import Idealize.ShloMosaic.Lib.Pipeline.ValueKit

@[expose] public section

/-! The first layer's MLP on the context: the blocks one grid point reads, and the result array. -/

set_option maxRecDepth 16384

noncomputable section

namespace Cert.Mlp0CtxIdeal.Value

open Cert.Mlp0CtxIdeal Cert.Mlp0CtxIdeal.Gen Idealize.ShloMosaic Idealize.ShloMosaic.TcCoe Idealize.SL.Sem
open Idealize.ShloMosaic.Pipeline (Dat)

variable (m : (ℓ : Loc nD τ sig) → Buf (Elt Ideal) ℓ)

/-- Where the windows stand at each grid point. -/
theorem idx_val : ∀ t : Fin cfg0.N,
    win0_0.index t = ![t.val / 8, 0]
    ∧ win0_1.index t = ![0, 0]
    ∧ win0_2.index t = ![0, 4, 0, 3]
    ∧ win0_3.index t = ![0, 4, 0, 4]
    ∧ win0_4.index t = ![0, 4, 0, 5]
    ∧ win0_5.index t = ![0, t.val % 8]
    ∧ win0_6.index t = ![t.val % 8, 0]
    ∧ win0_7.index t = ![t.val / 8, 0] :=
  (by decide +kernel : ∀ t : Fin grid0.N, _)

/-- Window 0: the point's rows. -/
theorem blk0 (c : Dev nD) (t : Fin cfg0.N) (q : Fin 512) (e : Fin 2048) :
    iblk m c 0 t (ix2 q e) = m ((c : Thread nD τ).loc main_arg0) (ix2 (CtxCore.rowAt (t.val / 8) q) e) := by
  have ht : t.val < 16 := lt_of_lt_of_eq t.isLt N_0
  unfold CtxCore.rowAt
  blk_point [iblk, V, idx_val t]

/-- Window 1: the gain. -/
theorem blk1 (c : Dev nD) (t : Fin cfg0.N) (e : Fin 2048) :
    iblk m c 1 t (ix2 0 e) = m ((c : Thread nD τ).loc main_arg1) (ix1 e) := by
  blk_point [iblk, V, idx_val t]

/-- Window 2: the shift. -/
theorem blk2 (c : Dev nD) (t : Fin cfg0.N) (e : Fin 2048) :
    iblk m c 2 t (ix4 0 0 0 e) = CtxCore.modAt (m ((c : Thread nD τ).loc main_arg2)) 0 6144 (by decide) e := by
  unfold CtxCore.modAt
  blk_point [iblk, V, idx_val t]

/-- Window 3: the scale. -/
theorem blk3 (c : Dev nD) (t : Fin cfg0.N) (e : Fin 2048) :
    iblk m c 3 t (ix4 0 0 0 e) = CtxCore.modAt (m ((c : Thread nD τ).loc main_arg2)) 0 8192 (by decide) e := by
  unfold CtxCore.modAt
  blk_point [iblk, V, idx_val t]

/-- Window 4: the gate. -/
theorem blk4 (c : Dev nD) (t : Fin cfg0.N) (e : Fin 2048) :
    iblk m c 4 t (ix4 0 0 0 e) = CtxCore.modAt (m ((c : Thread nD τ).loc main_arg2)) 0 10240 (by decide) e := by
  unfold CtxCore.modAt
  blk_point [iblk, V, idx_val t]

/-- Window 5: the run's columns of the first weights. -/
theorem blk5 (c : Dev nD) (t : Fin cfg0.N) (e : Fin 2048) (l : Fin 1024) :
    iblk m c 5 t (ix2 e l) = m ((c : Thread nD τ).loc main_arg3) (ix2 e ⟨(t.val % 8 * 1024 + l.val) % 8192, Nat.mod_lt _ (by decide)⟩) := by
  blk_point [iblk, V, idx_val t]

/-- Window 6: the run's rows of the second weights. -/
theorem blk6 (c : Dev nD) (t : Fin cfg0.N) (l : Fin 1024) (d : Fin 2048) :
    iblk m c 6 t (ix2 l d) = m ((c : Thread nD τ).loc main_arg4) (ix2 ⟨(t.val % 8 * 1024 + l.val) % 8192, Nat.mod_lt _ (by decide)⟩ d) := by
  blk_point [iblk, V, idx_val t]

/-- The prepared rows of the block of rows `k`. -/
def preps (c : Dev nD) (k : ℕ) (j : S512x2048.Idx) : EReal :=
  CtxCore.prep (m ((c : Thread nD τ).loc main_arg0)) (m ((c : Thread nD τ).loc main_arg1)) (m ((c : Thread nD τ).loc main_arg2)) 0 6144 8192 (by decide) (by decide)
    (CtxCore.rowAt k (j 0)) (j 1)

/-- The part of the block of rows `k` that the run of hidden units `s` gives. -/
def parts (c : Dev nD) (k s : ℕ) (j : S512x2048.Idx) : EReal :=
  MlpCore.part (fun e => preps m c k (ix2 (j 0) e)) (fun d f => m ((c : Thread nD τ).loc main_arg3) (ix2 d f))
    (fun f => m ((c : Thread nD τ).loc main_arg4) (ix2 f (j 1))) s

/-- The finished rows of the block of rows `k`, from the products' outputs. -/
def ends (c : Dev nD) (k : ℕ) (p : S512x2048.Idx → EReal) (j : S512x2048.Idx) : EReal :=
  CtxCore.residual (m ((c : Thread nD τ).loc main_arg0)) (m ((c : Thread nD τ).loc main_arg2)) 0 10240 (by decide) (CtxCore.rowAt k (j 0))
    (fun e => p (ix2 (j 0) e)) (j 1)

/-- The prepared rows at a first visit. -/
theorem pay1_at (c : Dev nD) (t : Fin cfg0.N) :
    k0_pay1 (F := Ideal) (iblk m c 0 t) (iblk m c 1 t) (iblk m c 2 t) (iblk m c 3 t) = preps m c (t.val / 8) := by
  funext j
  obtain ⟨q, d, rfl⟩ : ∃ q d, j = ix2 q d := ⟨j 0, j 1, eq_ix2 j⟩
  refine (pay1_read _ _ _ _ q d).trans ?_
  unfold preps CtxCore.prep
  simp only [blk0 m c t, blk1 m c t, blk2 m c t, blk3 m c t]
  rfl

/-- A run's part at any visit, over the prepared rows. -/
theorem pay2_at (c : Dev nD) (t : Fin cfg0.N) (a : FVec Ideal S512x2048 .bf16) (ha : a = preps m c (t.val / 8)) :
    k0_pay2 (F := Ideal) a (iblk m c 5 t) (iblk m c 6 t) = parts m c (t.val / 8) (t.val % 8) := by
  subst ha
  funext j
  obtain ⟨q, d, rfl⟩ : ∃ q d, j = ix2 q d := ⟨j 0, j 1, eq_ix2 j⟩
  refine (pay2_read _ _ _ q d).trans ?_
  simp only [blk5 m c t, blk6 m c t]
  rfl

/-- The finished rows at a last visit. -/
theorem pay4_at (c : Dev nD) (t : Fin cfg0.N) (o : FVec Ideal S512x2048 .f32) :
    k0_pay4 (F := Ideal) (iblk m c 0 t) (iblk m c 4 t) o = ends m c (t.val / 8) o := by
  funext j
  obtain ⟨q, d, rfl⟩ : ∃ q d, j = ix2 q d := ⟨j 0, j 1, eq_ix2 j⟩
  refine (pay4_read _ _ _ q d).trans ?_
  simp only [blk0 m c t, blk4 m c t]
  rfl

/-- What a first visit prepares. -/
theorem prep_first (c : Dev nD) (t : Fin cfg0.N) (h : t.val % 8 = 0) :
    (outsAt0 m c t.val t.isLt).2 = k0_pay1 (F := Ideal) (iblk m c 0 t) (iblk m c 1 t) (iblk m c 2 t) (iblk m c 3 t) := by
  rw [outsAt0_A m c t h h (by omega) (by omega)]
  funext j
  frame_out

/-- What a first visit leaves in the block. -/
theorem out_first (c : Dev nD) (t : Fin cfg0.N) (h : t.val % 8 = 0) :
    (outsAt0 m c t.val t.isLt).1 = k0_pay2 (F := Ideal)
      (k0_pay1 (F := Ideal) (iblk m c 0 t) (iblk m c 1 t) (iblk m c 2 t) (iblk m c 3 t)) (iblk m c 5 t) (iblk m c 6 t) := by
  rw [outsAt0_A m c t h h (by omega) (by omega)]
  funext j
  frame_out

/-- A later visit leaves the prepared rows. -/
theorem prep_next (c : Dev nD) (n : ℕ) (hn : n + 1 < cfg0.N) (h : (n + 1) % 8 ≠ 0) :
    (outsAt0 m c (n + 1) hn).2 = (outsAt0 m c n (Nat.lt_of_succ_lt hn)).2 := by
  by_cases h7 : (n + 1) % 8 = 7
  · rw [outsAt0_C m c ⟨n + 1, hn⟩ h h (by simp only; omega) h7]
    rfl
  · rw [outsAt0_B m c ⟨n + 1, hn⟩ h h (by simp only; omega) h7]
    rfl

/-- A middle visit adds its part to the block. -/
theorem out_next (c : Dev nD) (n : ℕ) (hn : n + 1 < cfg0.N) (h : (n + 1) % 8 ≠ 0) (h7 : (n + 1) % 8 ≠ 7) :
    (outsAt0 m c (n + 1) hn).1 = k0_pay3 (F := Ideal) (outsAt0 m c n (Nat.lt_of_succ_lt hn)).2
      (iblk m c 5 ⟨n + 1, hn⟩) (iblk m c 6 ⟨n + 1, hn⟩) (outsAt0 m c n (Nat.lt_of_succ_lt hn)).1 := by
  rw [outsAt0_B m c ⟨n + 1, hn⟩ h h (by simp only; omega) h7]
  funext j
  frame_out
  erw [Memref.IsWhole.read_unread]
  rfl

/-- The last visit adds its part and finishes the rows. -/
theorem out_last (c : Dev nD) (n : ℕ) (hn : n + 1 < cfg0.N) (h : (n + 1) % 8 ≠ 0) (h7 : (n + 1) % 8 = 7) :
    (outsAt0 m c (n + 1) hn).1 = k0_pay4 (F := Ideal) (iblk m c 0 ⟨n + 1, hn⟩) (iblk m c 4 ⟨n + 1, hn⟩)
      (k0_pay3 (F := Ideal) (outsAt0 m c n (Nat.lt_of_succ_lt hn)).2
        (iblk m c 5 ⟨n + 1, hn⟩) (iblk m c 6 ⟨n + 1, hn⟩) (outsAt0 m c n (Nat.lt_of_succ_lt hn)).1) := by
  rw [outsAt0_C m c ⟨n + 1, hn⟩ h h (by simp only; omega) h7]
  funext j
  frame_out
  erw [Memref.IsWhole.read_unread]
  rfl

/-- What the block and the prepared rows hold after every visit. -/
theorem swept (c : Dev nD) : ∀ n (h : n < cfg0.N), (outsAt0 m c n h).2 = preps m c (n / 8)
    ∧ (n % 8 ≠ 7 → (outsAt0 m c n h).1 = fun i => ∑ s ∈ Finset.range (n % 8 + 1), parts m c (n / 8) s i)
    ∧ (n % 8 = 7 → (outsAt0 m c n h).1 = ends m c (n / 8) fun i => ∑ s ∈ Finset.range 8, parts m c (n / 8) s i) :=
  MlpCore.sweep (N := cfg0.N) (ι := S512x2048.Idx) (fun n h => (outsAt0 m c n h).1) (fun n h => (outsAt0 m c n h).2)
    (parts m c) (preps m c) (ends m c)
    (fun n h h0 => ⟨(prep_first m c ⟨n, h⟩ h0).trans (pay1_at m c ⟨n, h⟩), fun _ =>
      (out_first m c ⟨n, h⟩ h0).trans ((pay2_at m c ⟨n, h⟩ _ (pay1_at m c ⟨n, h⟩)).trans (congrArg (parts m c (n / 8)) h0))⟩)
    (fun n h h0 => ⟨prep_next m c n h h0, fun a p hp => by
      have e3 : k0_pay3 (F := Ideal) (outsAt0 m c n (Nat.lt_of_succ_lt h)).2 (iblk m c 5 ⟨n + 1, h⟩) (iblk m c 6 ⟨n + 1, h⟩)
          (outsAt0 m c n (Nat.lt_of_succ_lt h)).1 = p := by
        rw [hp]
        funext j
        obtain ⟨q, d, rfl⟩ : ∃ q d, j = ix2 q d := ⟨j 0, j 1, eq_ix2 j⟩
        refine (pay3_read _ _ _ _ q d).trans (congrArg _ ?_)
        exact congrFun (pay2_at m c ⟨n + 1, h⟩ _ ((prep_next m c n h h0).symm.trans a)) _
      refine ⟨fun h7 => (out_next m c n h h0 h7).trans e3, fun h7 => (out_last m c n h h0 h7).trans ?_⟩
      rw [e3]
      exact pay4_at m c ⟨n + 1, h⟩ p⟩)

/-- The result over the argument arrays. -/
def G (X : (⟨2, ![1024, 2048]⟩ : Shape).Idx → EReal) (g : (⟨1, ![2048]⟩ : Shape).Idx → EReal)
    (M : (⟨4, ![2, 8, 1, 12288]⟩ : Shape).Idx → EReal) (W1 : (⟨2, ![2048, 8192]⟩ : Shape).Idx → EReal)
    (W2 : (⟨2, ![8192, 2048]⟩ : Shape).Idx → EReal) (j : S1024x2048.Idx) : EReal :=
  CtxCore.layer X g M W1 W2 (j 0) (j 1)

/-- The result array after the run. -/
theorem final (c : Dev nD) : (dats m 0 c).arrAt 7 (cfgs 0).N
    = G (m ((c : Thread nD τ).loc main_arg0)) (m ((c : Thread nD τ).loc main_arg1)) (m ((c : Thread nD τ).loc main_arg2))
      (m ((c : Thread nD τ).loc main_arg3)) (m ((c : Thread nD τ).loc main_arg4)) := by
  refine (dats m 0 c).arrAt_eq_of_covers 7 _ (by decide +kernel) fun t hf y => ?_
  have ht : t.val < 16 := lt_of_lt_of_eq t.isLt N_0
  blk_simp
  rw [after0_7]
  have h7 := (flush0_7 t).mp hf
  refine (congrFun ((swept m c t.val t.isLt).2.2 h7) _).trans ?_
  have hr : (win0_7.blk t).view.emb y 0 = CtxCore.rowAt (t.val / 8) (y 0) := by
    unfold CtxCore.rowAt
    refine Fin.ext ?_
    have hy : (y 0).val < 512 := (y 0).isLt
    blk_simp [idx_val t]
    dsimp only
    omega
  have hc : (win0_7.blk t).view.emb y 1 = y 1 := by
    refine Fin.ext ?_
    blk_simp [idx_val t]
  unfold ends G
  rw [hr, hc]
  unfold CtxCore.layer
  simp only [parts, MlpCore.sum_part]
  rfl

end Cert.Mlp0CtxIdeal.Value

end

end
-- ==== Proof.Mlp0CtxRef.lean ====
module

public import proofs.«01_k».proof.Proof.CtxCore
public import proofs.«01_k».proof.Proof.Gen.Mlp0CtxReferenceIdeal

@[expose] public section

/-! The first layer's MLP on the context: the reference's steps, each a definition over its inputs, and each read at an index. -/

set_option maxRecDepth 16384

noncomputable section

namespace Cert.Mlp0CtxReferenceIdeal.Value

open Cert.Mlp0CtxReferenceIdeal Cert.Mlp0CtxReferenceIdeal.Gen Idealize.ShloMosaic Idealize.ShloMosaic.TcCoe Idealize.SL.Sem

/-- The rows, by sequence. -/
def rows (X : FVec Ideal S1024x2048 .f32) : FVec Ideal S4x256x2048 .f32 :=
  shapeCast _ X shapeCasts_S1024x2048_S4x256x2048

/-- The context's modulation. -/
def mods (M : FVec Ideal S2x8x1x12288 .f32) : FVec Ideal S1x1x12288 .f32 :=
  shapeCast _ (extractStridedSlice S1x1x1x12288 ![0, 4, 0, 0] M slices_S2x8x1x12288_S1x1x1x12288_0_4_0_0) shapeCasts_S1x1x1x12288_S1x1x12288

/-- The rows scaled to unit mean square, times a gain. -/
def normed (X : FVec Ideal S4x256x2048 .f32) (g : FVec Ideal S2048 .f32) : FVec Ideal S4x256x2048 .f32 :=
  mulf (mulf X (broadcastInDim S4x256x2048 ![0, 1, 2] bcast_S4x256x1_S4x256x2048_0_1_2 (Host.rsqrt (addf (Host.divf
    (broadcastInDim S4x256x1 ![0, 1] bcast_S4x256_S4x256x1_0_1 (Host.reduceAdd (mulf X X) (constant S_ .f32 0x00000000#32) reducesTo_S4x256x2048_S4x256_d2 h_S_))
    (broadcastInDim S4x256x1 ![] bcast_S_S4x256x1 (constant S_ .f32 0x45000000#32))) (broadcastInDim S4x256x1 ![] bcast_S_S4x256x1 (constant S_ .f32 0x358637BD#32))))))
    (broadcastInDim S4x256x2048 ![0, 1, 2] bcast_S1x1x2048_S4x256x2048_0_1_2 (broadcastInDim S1x1x2048 ![2] bcast_S2048_S1x1x2048_2 g))

/-- One row over every row of every sequence. -/
def spread (v : FVec Ideal S1x1x2048 .f32) : FVec Ideal S4x256x2048 .f32 :=
  broadcastInDim S4x256x2048 ![0, 1, 2] bcast_S1x1x2048_S4x256x2048_0_1_2 v

/-- The normed rows scaled and shifted. -/
def prepared (N : FVec Ideal S4x256x2048 .f32) (sh sc : FVec Ideal S1x1x2048 .f32) : FVec Ideal S4x256x2048 .f32 :=
  addf (mulf N (spread (addf (broadcastInDim S1x1x2048 ![] bcast_S_S1x1x2048 (constant S_ .f32 0x3F800000#32)) sc))) (spread sh)

/-- The positive parts of the hidden units. -/
def hidden (A : FVec Ideal S4x256x2048 .f32) (W : FVec Ideal S2048x8192 .bf16) : FVec Ideal S4x256x8192 .f32 :=
  maximumf (Host.dotGeneral dot_S4x256x2048_S2048x8192_S4x256x8192_2_0_01_1_n_n none A (extf .f32 W bitsLt_bf16_f32))
    (broadcastInDim S4x256x8192 ![] bcast_S_S4x256x8192 (constant S_ .f32 0x00000000#32))

/-- The second product. -/
def output (H : FVec Ideal S4x256x8192 .f32) (W : FVec Ideal S8192x2048 .bf16) : FVec Ideal S4x256x2048 .f32 :=
  Host.dotGeneral dot_S4x256x8192_S8192x2048_S4x256x2048_2_0_01_1_n_n none (mulf H H) (extf .f32 W bitsLt_bf16_f32)

/-- The rows with the gated outputs added. -/
def added (X O : FVec Ideal S4x256x2048 .f32) (gt : FVec Ideal S1x1x2048 .f32) : FVec Ideal S4x256x2048 .f32 :=
  addf X (mulf (spread gt) O)

/-- The whole layer, by sequence. -/
def layer (X : FVec Ideal S1024x2048 .f32) (g : FVec Ideal S2048 .f32) (M : FVec Ideal S2x8x1x12288 .f32) (W1 : FVec Ideal S2048x8192 .bf16)
    (W2 : FVec Ideal S8192x2048 .bf16) : FVec Ideal S4x256x2048 .f32 :=
  added (rows X) (output (hidden (prepared (normed (rows X) g)
      (extractStridedSlice S1x1x2048 ![0, 0, 6144] (mods M) slices_S1x1x12288_S1x1x2048_0_0_6144)
      (extractStridedSlice S1x1x2048 ![0, 0, 8192] (mods M) slices_S1x1x12288_S1x1x2048_0_0_8192)) W1) W2)
    (extractStridedSlice S1x1x2048 ![0, 0, 10240] (mods M) slices_S1x1x12288_S1x1x2048_0_0_10240)

/-- The reference's result. -/
def result (X : FVec Ideal S1024x2048 .f32) (g : FVec Ideal S2048 .f32) (M : FVec Ideal S2x8x1x12288 .f32) (W1 : FVec Ideal S2048x8192 .bf16)
    (W2 : FVec Ideal S8192x2048 .bf16) : FVec Ideal S1024x2048 .f32 :=
  shapeCast _ (layer X g M W1 W2) shapeCasts_S4x256x2048_S1024x2048

/-- A normed row. -/
theorem normed_read (X : FVec Ideal S4x256x2048 .f32) (g : FVec Ideal S2048 .f32) (b : Fin 4) (l : Fin 256) (d : Fin 2048) :
    normed X g (ix3 b l d) = MlpCore.norm (fun e => X (ix3 b l e)) (fun e => g (ix1 e)) d := by
  pointwise [normed, MlpCore.norm]

/-- A prepared row. -/
theorem prepared_read (N : FVec Ideal S4x256x2048 .f32) (sh sc : FVec Ideal S1x1x2048 .f32) (b : Fin 4) (l : Fin 256) (d : Fin 2048) :
    prepared N sh sc (ix3 b l d) = N (ix3 b l d) * (Ideal.ofBits .f32 0x3F800000#32 + sc (ix3 0 0 d)) + sh (ix3 0 0 d) := by
  pointwise [prepared, spread]

/-- A hidden unit. -/
theorem hidden_read (A : FVec Ideal S4x256x2048 .f32) (W : FVec Ideal S2048x8192 .bf16) (b : Fin 4) (l : Fin 256) (f : Fin 8192) :
    hidden A W (ix3 b l f) = max (∑ d : Fin 2048, A (ix3 b l d) * W (ix2 d f)) 0 := by
  pointwise [hidden]

/-- An output. -/
theorem output_read (H : FVec Ideal S4x256x8192 .f32) (W : FVec Ideal S8192x2048 .bf16) (b : Fin 4) (l : Fin 256) (d : Fin 2048) :
    output H W (ix3 b l d) = ∑ f : Fin 8192, H (ix3 b l f) * H (ix3 b l f) * W (ix2 f d) := by
  pointwise [output]

/-- A row with its gated output. -/
theorem added_read (X O : FVec Ideal S4x256x2048 .f32) (gt : FVec Ideal S1x1x2048 .f32) (b : Fin 4) (l : Fin 256) (d : Fin 2048) :
    added X O gt (ix3 b l d) = X (ix3 b l d) + gt (ix3 0 0 d) * O (ix3 b l d) := by
  pointwise [added, spread]

/-- A row of a sequence among all rows. -/
theorem rows_read (X : FVec Ideal S1024x2048 .f32) (b : Fin 4) (l : Fin 256) (d : Fin 2048) (r : Fin 1024) (hr : r.val = b.val * 256 + l.val) :
    rows X (ix3 b l d) = X (ix2 r d) := by
  pointwise [rows]
  exact congrArg X (congrArg (fun r => ix2 r d) (Fin.ext hr.symm))

/-- A place of the context's modulation. -/
theorem mods_read (M : FVec Ideal S2x8x1x12288 .f32) (c : Fin 12288) : mods M (ix3 0 0 c) = M (ix4 0 4 0 c) := by
  pointwise [mods]

/-- The shift. -/
theorem shift_read (M : FVec Ideal S2x8x1x12288 .f32) (e : Fin 2048) :
    (extractStridedSlice S1x1x2048 ![0, 0, 6144] (mods M) slices_S1x1x12288_S1x1x2048_0_0_6144 : FVec Ideal S1x1x2048 .f32) (ix3 0 0 e)
      = CtxCore.modAt M 0 6144 (by decide) e := by
  unfold CtxCore.modAt
  pointwise [mods_read]

/-- The scale. -/
theorem scale_read (M : FVec Ideal S2x8x1x12288 .f32) (e : Fin 2048) :
    (extractStridedSlice S1x1x2048 ![0, 0, 8192] (mods M) slices_S1x1x12288_S1x1x2048_0_0_8192 : FVec Ideal S1x1x2048 .f32) (ix3 0 0 e)
      = CtxCore.modAt M 0 8192 (by decide) e := by
  unfold CtxCore.modAt
  pointwise [mods_read]

/-- The gate. -/
theorem gate_read (M : FVec Ideal S2x8x1x12288 .f32) (e : Fin 2048) :
    (extractStridedSlice S1x1x2048 ![0, 0, 10240] (mods M) slices_S1x1x12288_S1x1x2048_0_0_10240 : FVec Ideal S1x1x2048 .f32) (ix3 0 0 e)
      = CtxCore.modAt M 0 10240 (by decide) e := by
  unfold CtxCore.modAt
  pointwise [mods_read]

/-- The layer at row `r`. -/
theorem layer_read (X : FVec Ideal S1024x2048 .f32) (g : FVec Ideal S2048 .f32) (M : FVec Ideal S2x8x1x12288 .f32) (W1 : FVec Ideal S2048x8192 .bf16)
    (W2 : FVec Ideal S8192x2048 .bf16) (b : Fin 4) (l : Fin 256) (d : Fin 2048) (r : Fin 1024) (hr : r.val = b.val * 256 + l.val) :
    layer X g M W1 W2 (ix3 b l d) = CtxCore.layer X g M W1 W2 r d := by
  unfold layer
  simp only [added_read, output_read, hidden_read, prepared_read, normed_read, rows_read X b l _ r hr, shift_read, scale_read, gate_read]
  rfl

/-- The rows by sequence laid out in one run. -/
theorem flat_read (Y : FVec Ideal S4x256x2048 .f32) (r : Fin 1024) (d : Fin 2048) :
    (shapeCast S1024x2048 Y shapeCasts_S4x256x2048_S1024x2048 : FVec Ideal S1024x2048 .f32) (ix2 r d)
      = Y (ix3 ⟨r.val / 256, by omega⟩ ⟨r.val % 256, by omega⟩ d) := by
  pointwise []

/-- The result at row `r`. -/
theorem result_read (X : FVec Ideal S1024x2048 .f32) (g : FVec Ideal S2048 .f32) (M : FVec Ideal S2x8x1x12288 .f32) (W1 : FVec Ideal S2048x8192 .bf16)
    (W2 : FVec Ideal S8192x2048 .bf16) (r : Fin 1024) (d : Fin 2048) :
    result X g M W1 W2 (ix2 r d) = CtxCore.layer X g M W1 W2 r d :=
  (flat_read (layer X g M W1 W2) r d).trans
    (layer_read X g M W1 W2 ⟨r.val / 256, by omega⟩ ⟨r.val % 256, by omega⟩ d r (by dsimp only; omega))

end Cert.Mlp0CtxReferenceIdeal.Value

end

end
-- ==== Proof.Mlp0CtxRun.lean ====
module

public import proofs.«01_k».proof.Proof.Mlp0CtxRef
public import proofs.«01_k».proof.Proof.Gen.Mlp0CtxReferenceIdeal.Run

@[expose] public section

/-! The first layer's MLP on the context: the reference's result array, over its arguments. -/

set_option maxRecDepth 16384

noncomputable section

namespace Cert.Mlp0CtxReferenceIdeal.Value

open Cert.Mlp0CtxReferenceIdeal Cert.Mlp0CtxReferenceIdeal.Gen Idealize.ShloMosaic Idealize.ShloMosaic.TcCoe Idealize.SL.Sem

/-- The run's result term is the staged one. -/
theorem res_eq (m : (ℓ : Loc nD τ sig) → Buf (Elt Ideal) ℓ) (c : Dev nD) :
    res_out0 (F := Ideal) m c = result (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := rfl

end Cert.Mlp0CtxReferenceIdeal.Value

end

end
-- ==== Proof.RetProjCtxBlocks.lean ====
module

public import proofs.«01_k».proof.Proof.CtxCore
public import proofs.«01_k».proof.Proof.RetProjPay
public import proofs.«01_k».proof.Proof.Gen.RetProjCtxIdeal.Skeleton
public import proofs.«01_k».proof.Proof.Gen.RetProjCtxIdeal.Value
public import Idealize.ShloMosaic.Lib.Pipeline.ValueKit

@[expose] public section

/-! The first layer's input projection on the context: the kernel's values, the blocks one grid point reads, and the result array. -/

set_option maxRecDepth 16384

noncomputable section

namespace Cert.RetProjCtxIdeal.Value

open Cert.RetProjCtxIdeal Cert.RetProjCtxIdeal.Gen Idealize.ShloMosaic Idealize.ShloMosaic.TcCoe Idealize.SL.Sem
open Idealize.ShloMosaic.Pipeline (Dat)

/-- The prepared rows. -/
theorem pay1_read (x : FVec Ideal S1024x2048 .f32) (g : FVec Ideal S1x2048 .f32) (sh sc : FVec Ideal S1x1x1x2048 .f32) (q : Fin 1024) (d : Fin 2048) :
    k0_pay1 (F := Ideal) x g sh sc (ix2 q d)
      = MlpCore.modnorm (fun e => x (ix2 q e)) (fun e => g (ix2 0 e)) (fun e => sh (ix4 0 0 0 e)) (fun e => sc (ix4 0 0 0 e)) d :=
  RetProjIdeal.Value.pay1_read x g sh sc q d

/-- The rows' products with a block of columns, times the block's factor. -/
theorem pay2_read (i : grid0.Coords) (a : FVec Ideal S1024x2048 .bf16) (w : FVec Ideal S2048x1024 .bf16) (q e : Fin 1024) :
    k0_pay2 (F := Ideal) i a w (ix2 q e) = (∑ d : Fin 2048, a (ix2 q d) * w (ix2 d e)) * RetProjIdeal.Value.factor (i 1).val := by
  pointwise [k0_pay2, RetProjIdeal.Value.factor]
  refine congrArg _ ?_
  rw [RetProjIdeal.Value.test_val (i 1)]
  split <;> rfl

variable (m : (ℓ : Loc nD τ sig) → Buf (Elt Ideal) ℓ)

/-- Where the windows stand at each grid point. -/
theorem idx_val : ∀ t : Fin cfg0.N,
    (grid0.coords t 1).val = t.val
    ∧ win0_0.index t = ![0, 0]
    ∧ win0_1.index t = ![0, 0]
    ∧ win0_2.index t = ![0, 4, 0, 0]
    ∧ win0_3.index t = ![0, 4, 0, 1]
    ∧ win0_4.index t = ![0, t.val]
    ∧ win0_5.index t = ![0, t.val] :=
  (by decide +kernel : ∀ t : Fin grid0.N, _)

/-- The column `e` of the block of 1024 columns `k` of the weights. -/
def colAt (k : ℕ) (e : Fin 1024) : Fin 12288 := ⟨(k * 1024 + e.val) % 12288, Nat.mod_lt _ (by decide)⟩

/-- Window 0: all the rows. -/
theorem blk0 (c : Dev nD) (t : Fin cfg0.N) (q : Fin 1024) (e : Fin 2048) :
    iblk m c 0 t (ix2 q e) = m ((c : Thread nD τ).loc main_arg0) (ix2 q e) := by
  blk_point [iblk, V, idx_val t]

/-- Window 1: the gain. -/
theorem blk1 (c : Dev nD) (t : Fin cfg0.N) (e : Fin 2048) :
    iblk m c 1 t (ix2 0 e) = m ((c : Thread nD τ).loc main_arg1) (ix1 e) := by
  blk_point [iblk, V, idx_val t]

/-- Window 2: the shift. -/
theorem blk2 (c : Dev nD) (t : Fin cfg0.N) (e : Fin 2048) :
    iblk m c 2 t (ix4 0 0 0 e) = CtxCore.modAt (m ((c : Thread nD τ).loc main_arg2)) 0 0 (by decide) e := by
  unfold CtxCore.modAt
  blk_point [iblk, V, idx_val t]

/-- Window 3: the scale. -/
theorem blk3 (c : Dev nD) (t : Fin cfg0.N) (e : Fin 2048) :
    iblk m c 3 t (ix4 0 0 0 e) = CtxCore.modAt (m ((c : Thread nD τ).loc main_arg2)) 0 2048 (by decide) e := by
  unfold CtxCore.modAt
  blk_point [iblk, V, idx_val t]

/-- Window 4: the block of columns of the weights. -/
theorem blk4 (c : Dev nD) (t : Fin cfg0.N) (d : Fin 2048) (e : Fin 1024) :
    iblk m c 4 t (ix2 d e) = m ((c : Thread nD τ).loc main_arg3) (ix2 d (colAt t.val e)) := by
  have ht : t.val < 12 := lt_of_lt_of_eq t.isLt N_0
  unfold colAt
  blk_point [iblk, V, idx_val t]

/-- The prepared rows. -/
def preps (c : Dev nD) (j : S1024x2048.Idx) : EReal :=
  CtxCore.prep (m ((c : Thread nD τ).loc main_arg0)) (m ((c : Thread nD τ).loc main_arg1)) (m ((c : Thread nD τ).loc main_arg2)) 0 0 2048 (by decide) (by decide) (j 0) (j 1)

/-- The prepared rows, computed at any visit. -/
theorem pay1_at (c : Dev nD) (t : Fin cfg0.N) :
    k0_pay1 (F := Ideal) (iblk m c 0 t) (iblk m c 1 t) (iblk m c 2 t) (iblk m c 3 t) = preps m c := by
  funext j
  obtain ⟨q, d, rfl⟩ : ∃ q d, j = ix2 q d := ⟨j 0, j 1, eq_ix2 j⟩
  refine (pay1_read _ _ _ _ q d).trans ?_
  unfold preps CtxCore.prep
  simp only [blk0 m c t, blk1 m c t, blk2 m c t, blk3 m c t]
  rfl

/-- Every visit holds the rows prepared. -/
theorem held (c : Dev nD) : ∀ n (h : n < cfg0.N), (outsAt0 m c n h).2 = preps m c := by
  have hN : cfg0.N = 12 := N_0
  intro n
  induction n with
  | zero =>
    intro h
    refine Eq.trans ?_ (pay1_at m c ⟨0, h⟩)
    rw [outsAt0_A m c ⟨0, h⟩ rfl]
    funext j
    frame_out
  | succ n ih =>
    intro h
    rw [outsAt0_B m c ⟨n + 1, h⟩ (by simp only; omega)]
    exact ih (Nat.lt_of_succ_lt h)

/-- The block every visit leaves, over the prepared rows. -/
theorem out_at (c : Dev nD) (t : Fin cfg0.N) :
    (outsAt0 m c t.val t.isLt).1 = k0_pay2 (F := Ideal) (grid0.coords t) (preps m c) (iblk m c 4 t) := by
  have ht : t.val < 12 := lt_of_lt_of_eq t.isLt N_0
  by_cases h0 : t.val % 12 = 0
  · rw [outsAt0_A m c t h0]
    funext j
    frame_out
    rw [pay1_at m c t]
  · rw [outsAt0_B m c t h0]
    funext j
    frame_out
    erw [Memref.IsWhole.read_unread]
    rw [held m c (t.val - 1)]

/-- The result over the argument arrays. -/
def G (X : (⟨2, ![1024, 2048]⟩ : Shape).Idx → EReal) (g : (⟨1, ![2048]⟩ : Shape).Idx → EReal) (M : (⟨4, ![2, 8, 1, 12288]⟩ : Shape).Idx → EReal)
    (W : (⟨2, ![2048, 12288]⟩ : Shape).Idx → EReal) (j : S1024x12288.Idx) : EReal :=
  ProjCore.scaled (CtxCore.proj X g M W 0 (j 0)) (j 1)

/-- The column `e` of the block of 1024 columns `k` of the result. -/
def outAt (k : ℕ) (e : Fin 1024) : Fin 12288 := ⟨(k * 1024 + e.val) % 12288, Nat.mod_lt _ (by decide)⟩

/-- What one visit leaves in its block. -/
theorem block_at (c : Dev nD) (t : Fin cfg0.N) (q : Fin 1024) (e : Fin 1024) :
    (outsAt0 m c t.val t.isLt).1 (ix2 q e)
      = G (m ((c : Thread nD τ).loc main_arg0)) (m ((c : Thread nD τ).loc main_arg1)) (m ((c : Thread nD τ).loc main_arg2)) (m ((c : Thread nD τ).loc main_arg3)) (ix2 q (outAt t.val e)) := by
  have ht : t.val < 12 := lt_of_lt_of_eq t.isLt N_0
  rw [out_at m c t]
  have hi : (grid0.coords t 1).val = t.val := (idx_val t).1
  refine (pay2_read _ _ _ q e).trans ?_
  simp only [blk4 m c t, hi]
  refine congrArg _ ?_
  unfold RetProjIdeal.Value.factor
  refine if_congr ?_ rfl rfl
  show _ ↔ 2048 ≤ (outAt t.val e).val ∧ (outAt t.val e).val < 4096
  simp only [outAt]
  omega

/-- The result array after the run. -/
theorem final (c : Dev nD) : (dats m 0 c).arrAt 5 (cfgs 0).N
    = G (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t _ y => ?_
  have ht : t.val < 12 := lt_of_lt_of_eq t.isLt N_0
  blk_simp
  rw [after0_5]
  have hy : (y 0).val < 1024 := (y 0).isLt
  have hz : (y 1).val < 1024 := (y 1).isLt
  have hr : (win0_5.blk t).view.emb y = ix2 (y 0) (outAt t.val (y 1)) := by
    unfold outAt
    blk_ext [idx_val t]
  rw [hr]
  refine Eq.trans ?_ (block_at m c t (y 0) (y 1))
  rw [← eq_ix2 y]

end Cert.RetProjCtxIdeal.Value

end

end
-- ==== Proof.RetProjCtxRef.lean ====
module

public import proofs.«01_k».proof.Proof.Mlp0CtxRef
public import proofs.«01_k».proof.Proof.Gen.RetProjCtxReferenceIdeal

@[expose] public section

/-! The first layer's input projection on the context: the reference's steps, each a definition over its inputs, and each read at an index. -/

set_option maxRecDepth 16384

noncomputable section

namespace Cert.RetProjCtxReferenceIdeal.Value

open Cert.RetProjCtxReferenceIdeal Cert.RetProjCtxReferenceIdeal.Gen Idealize.ShloMosaic Idealize.ShloMosaic.TcCoe Idealize.SL.Sem

/-- The prepared rows projected. -/
def projected (A : FVec Ideal S4x256x2048 .f32) (W : FVec Ideal S2048x12288 .bf16) : FVec Ideal S4x256x12288 .f32 :=
  Host.dotGeneral dot_S4x256x2048_S2048x12288_S4x256x12288_2_0_01_1_n_n none A (extf .f32 W bitsLt_bf16_f32)

/-- The projection over the argument arrays, by sequence. -/
def projs (X : FVec Ideal S1024x2048 .f32) (g : FVec Ideal S2048 .f32) (M : FVec Ideal S2x8x1x12288 .f32) (W : FVec Ideal S2048x12288 .bf16) :
    FVec Ideal S4x256x12288 .f32 :=
  projected (Mlp0CtxReferenceIdeal.Value.prepared (Mlp0CtxReferenceIdeal.Value.normed (Mlp0CtxReferenceIdeal.Value.rows X) g)
    (extractStridedSlice S1x1x2048 ![0, 0, 0] (Mlp0CtxReferenceIdeal.Value.mods M) slices_S1x1x12288_S1x1x2048_0_0_0)
    (extractStridedSlice S1x1x2048 ![0, 0, 2048] (Mlp0CtxReferenceIdeal.Value.mods M) slices_S1x1x12288_S1x1x2048_0_0_2048)) W

/-- The shift. -/
theorem shift_read (M : FVec Ideal S2x8x1x12288 .f32) (e : Fin 2048) :
    (extractStridedSlice S1x1x2048 ![0, 0, 0] (Mlp0CtxReferenceIdeal.Value.mods M) slices_S1x1x12288_S1x1x2048_0_0_0 : FVec Ideal S1x1x2048 .f32) (ix3 0 0 e)
      = CtxCore.modAt M 0 0 (by decide) e := by
  unfold CtxCore.modAt
  pointwise [Mlp0CtxReferenceIdeal.Value.mods_read]

/-- The scale. -/
theorem scale_read (M : FVec Ideal S2x8x1x12288 .f32) (e : Fin 2048) :
    (extractStridedSlice S1x1x2048 ![0, 0, 2048] (Mlp0CtxReferenceIdeal.Value.mods M) slices_S1x1x12288_S1x1x2048_0_0_2048 : FVec Ideal S1x1x2048 .f32) (ix3 0 0 e)
      = CtxCore.modAt M 0 2048 (by decide) e := by
  unfold CtxCore.modAt
  pointwise [Mlp0CtxReferenceIdeal.Value.mods_read]

/-- A row's product with a column. -/
theorem projected_read (A : FVec Ideal S4x256x2048 .f32) (W : FVec Ideal S2048x12288 .bf16) (b : Fin 4) (l : Fin 256) (c : Fin 12288) :
    projected A W (ix3 b l c) = ∑ d : Fin 2048, A (ix3 b l d) * W (ix2 d c) := by
  pointwise [projected]

/-- The projection at row `r`. -/
theorem projs_read (X : FVec Ideal S1024x2048 .f32) (g : FVec Ideal S2048 .f32) (M : FVec Ideal S2x8x1x12288 .f32) (W : FVec Ideal S2048x12288 .bf16)
    (b : Fin 4) (l : Fin 256) (c : Fin 12288) (r : Fin 1024) (hr : r.val = b.val * 256 + l.val) :
    projs X g M W (ix3 b l c) = CtxCore.proj X g M W 0 r c := by
  unfold projs
  simp only [projected_read, Mlp0CtxReferenceIdeal.Value.prepared_read, Mlp0CtxReferenceIdeal.Value.normed_read, Mlp0CtxReferenceIdeal.Value.rows_read X b l _ r hr, shift_read, scale_read]
  rfl

/-- The scaled keys. -/
def keys (P : FVec Ideal S4x256x12288 .f32) : FVec Ideal S4x256x2048 .f32 :=
  shapeCast _ (mulf (shapeCast S4x256x8x256 (extractStridedSlice S4x256x2048 ![0, 0, 2048] P slices_S4x256x12288_S4x256x2048_0_0_2048) shapeCasts_S4x256x2048_S4x256x8x256)
    (broadcastInDim S4x256x8x256 ![] bcast_S_S4x256x8x256 (constant S_ .f32 0x3D800000#32)) : FVec Ideal S4x256x8x256 .f32) shapeCasts_S4x256x8x256_S4x256x2048

/-- Queries, keys, values and gates side by side. -/
def joined (K : FVec Ideal S4x256x2048 .f32) (P : FVec Ideal S4x256x12288 .f32) : FVec Ideal S4x256x12288 .f32 :=
  concatenate S4x256x12288 2
    [⟨S4x256x2048, extractStridedSlice S4x256x2048 ![0, 0, 0] P slices_S4x256x12288_S4x256x2048_0_0_0⟩, ⟨S4x256x2048, K⟩,
     ⟨S4x256x4096, extractStridedSlice S4x256x4096 ![0, 0, 4096] P slices_S4x256x12288_S4x256x4096_0_0_4096⟩,
     ⟨S4x256x4096, extractStridedSlice S4x256x4096 ![0, 0, 8192] P slices_S4x256x12288_S4x256x4096_0_0_8192⟩]
    concatenates_S4x256x2048_S4x256x2048_S4x256x4096_S4x256x4096_S4x256x12288_d2

/-- The reference's result. -/
def result (X : FVec Ideal S1024x2048 .f32) (g : FVec Ideal S2048 .f32) (M : FVec Ideal S2x8x1x12288 .f32) (W : FVec Ideal S2048x12288 .bf16) : FVec Ideal S1024x12288 .bf16 :=
  truncf .bf16 (shapeCast S1024x12288 (joined (keys (projs X g M W)) (projs X g M W)) shapeCasts_S4x256x12288_S1024x12288) bitsLt_bf16_f32

/-- A scaled key's column. -/
theorem keys_read (P : FVec Ideal S4x256x12288 .f32) (b : Fin 4) (l : Fin 256) (e : Fin 2048) :
    keys P (ix3 b l e) = P (ix3 b l ⟨2048 + e.val, by omega⟩) * Ideal.ofBits .f32 0x3D800000#32 := by
  pointwise [keys]

/-- Every column of the joined row: the keys scaled, the rest as they are. -/
theorem joined_read (P : FVec Ideal S4x256x12288 .f32) (b : Fin 4) (l : Fin 256) (c : Fin 12288) :
    joined (keys P) P (ix3 b l c) = ProjCore.scaled (fun c => P (ix3 b l c)) c := by
  by_cases hk : 2048 ≤ c.val ∧ c.val < 4096
  · rw [ProjCore.scaled_key _ _ hk]
    pointwise [joined]
    rw [dif_neg (by omega), dif_pos (by omega)]
    refine (keys_read P b l ⟨c.val - 2048, by omega⟩).trans ?_
    exact congrArg (· * Ideal.ofBits .f32 0x3D800000#32) (congrArg P (congrArg (fun c => ix3 b l c) (Fin.ext (by simp only; omega))))
  · rw [ProjCore.scaled_one _ _ hk]
    pointwise [joined]
    by_cases hq : c.val < 2048
    · rw [dif_pos (by omega)]
    · rw [dif_neg (by omega), dif_neg (by omega)]
      split
      · exact congrArg P (congrArg (fun c => ix3 b l c) (Fin.ext (by simp only; omega)))
      · exact congrArg P (congrArg (fun c => ix3 b l c) (Fin.ext (by simp only; omega)))

/-- The rows by sequence laid out in one run. -/
theorem flat_read (Y : FVec Ideal S4x256x12288 .f32) (r : Fin 1024) (c : Fin 12288) :
    (truncf .bf16 (shapeCast S1024x12288 Y shapeCasts_S4x256x12288_S1024x12288 : FVec Ideal S1024x12288 .f32) bitsLt_bf16_f32 : FVec Ideal S1024x12288 .bf16) (ix2 r c)
      = Y (ix3 ⟨r.val / 256, by omega⟩ ⟨r.val % 256, by omega⟩ c) := by
  pointwise []

/-- The result at row `r`. -/
theorem result_read (X : FVec Ideal S1024x2048 .f32) (g : FVec Ideal S2048 .f32) (M : FVec Ideal S2x8x1x12288 .f32) (W : FVec Ideal S2048x12288 .bf16) (r : Fin 1024) (c : Fin 12288) :
    result X g M W (ix2 r c) = ProjCore.scaled (CtxCore.proj X g M W 0 r) c := by
  unfold result
  rw [flat_read, joined_read]
  exact congrArg (fun a => ProjCore.scaled a c)
    (funext fun c => projs_read X g M W ⟨r.val / 256, by omega⟩ ⟨r.val % 256, by omega⟩ c r (by dsimp only; omega))

end Cert.RetProjCtxReferenceIdeal.Value

end

end
-- ==== Proof.RetProjCtxRun.lean ====
module

public import proofs.«01_k».proof.Proof.RetProjCtxRef
public import proofs.«01_k».proof.Proof.Gen.RetProjCtxReferenceIdeal.Run

@[expose] public section

/-! The first layer's input projection on the context: the reference's result array, over its arguments. -/

set_option maxRecDepth 16384

noncomputable section

namespace Cert.RetProjCtxReferenceIdeal.Value

open Cert.RetProjCtxReferenceIdeal Cert.RetProjCtxReferenceIdeal.Gen Idealize.ShloMosaic Idealize.ShloMosaic.TcCoe Idealize.SL.Sem

/-- The run's result term is the staged one. -/
theorem res_eq (m : (ℓ : Loc nD τ sig) → Buf (Elt Ideal) ℓ) (c : Dev nD) :
    res_out0 (F := Ideal) m c = result (m ((c.tc : Thread nD τ).loc main_arg0)) (m ((c.tc : Thread nD τ).loc main_arg1)) (m ((c.tc : Thread nD τ).loc main_arg2)) (m ((c.tc : Thread nD τ).loc main_arg3)) := rfl

end Cert.RetProjCtxReferenceIdeal.Value

end

end
-- ==== Proof.RetOutCtxBlocks.lean ====
module

public import proofs.«01_k».proof.Proof.CtxCore
public import proofs.«01_k».proof.Proof.RetOutBlocks
public import proofs.«01_k».proof.Proof.Gen.RetOutCtxIdeal.Skeleton
public import proofs.«01_k».proof.Proof.Gen.RetOutCtxIdeal.Value
public import Idealize.ShloMosaic.Lib.Pipeline.ValueKit

@[expose] public section

/-! The first layer's output projection on the context: the blocks one grid point reads, and the result array. -/

set_option maxRecDepth 16384

noncomputable section

namespace Cert.RetOutCtxIdeal.Value

open Cert.RetOutCtxIdeal Cert.RetOutCtxIdeal.Gen Idealize.ShloMosaic Idealize.ShloMosaic.TcCoe Idealize.SL.Sem
open Idealize.ShloMosaic.Pipeline (Dat)

variable (m : (ℓ : Loc nD τ sig) → Buf (Elt Ideal) ℓ)

/-- Where the windows stand at each grid point. -/
theorem idx_val : ∀ t : Fin cfg0.N,
    win0_0.index t = ![0, 0]
    ∧ win0_1.index t = ![0, t.val]
    ∧ win0_2.index t = ![0, t.val]
    ∧ win0_3.index t = ![0, 4, 0, 8 + t.val]
    ∧ win0_4.index t = ![0, t.val] :=
  (by decide +kernel : ∀ t : Fin grid0.N, _)

/-- Window 0: the mixer's rows. -/
theorem blk0 (c : Dev nD) (t : Fin cfg0.N) (q : Fin 1024) (e : Fin 4096) :
    iblk m c 0 t (ix2 q e) = m ((c : Thread nD τ).loc main_arg0) (ix2 q e) := by
  blk_point [iblk, V, idx_val t]

/-- Window 1: the columns of the weights. -/
theorem blk1 (c : Dev nD) (t : Fin cfg0.N) (e : Fin 4096) (d : Fin 512) :
    iblk m c 1 t (ix2 e d) = m ((c : Thread nD τ).loc main_arg1) (ix2 e (OutCore.colAt t.val d)) := by
  have ht : t.val < 4 := lt_of_lt_of_eq t.isLt N_0
  unfold OutCore.colAt
  blk_point [iblk, V, idx_val t]

/-- Window 2: the rows added to. -/
theorem blk2 (c : Dev nD) (t : Fin cfg0.N) (q : Fin 1024) (d : Fin 512) :
    iblk m c 2 t (ix2 q d) = m ((c : Thread nD τ).loc main_arg2) (ix2 q (OutCore.colAt t.val d)) := by
  have ht : t.val < 4 := lt_of_lt_of_eq t.isLt N_0
  unfold OutCore.colAt
  blk_point [iblk, V, idx_val t]

/-- Window 3: the gate. -/
theorem blk3 (c : Dev nD) (t : Fin cfg0.N) (d : Fin 512) :
    iblk m c 3 t (ix4 0 0 0 d) = CtxCore.modAt (m ((c : Thread nD τ).loc main_arg3)) 0 4096 (by decide) (OutCore.colAt t.val d) := by
  have ht : t.val < 4 := lt_of_lt_of_eq t.isLt N_0
  unfold CtxCore.modAt OutCore.colAt
  blk_point [iblk, V, idx_val t]

/-- The result over the argument arrays. -/
def G (Y : (⟨2, ![1024, 4096]⟩ : Shape).Idx → EReal) (W : (⟨2, ![4096, 2048]⟩ : Shape).Idx → EReal)
    (X : (⟨2, ![1024, 2048]⟩ : Shape).Idx → EReal) (M : (⟨4, ![2, 8, 1, 12288]⟩ : Shape).Idx → EReal) (j : S1024x2048.Idx) : EReal :=
  CtxCore.gated Y W X M (j 0) (j 1)

/-- What one visit leaves in its block. -/
theorem block_at (c : Dev nD) (t : Fin cfg0.N) (q : Fin 1024) (d : Fin 512) :
    k0_pay1 (F := Ideal) (iblk m c 0 t) (iblk m c 1 t) (iblk m c 2 t) (iblk m c 3 t) (ix2 q d)
      = G (m ((c : Thread nD τ).loc main_arg0)) (m ((c : Thread nD τ).loc main_arg1)) (m ((c : Thread nD τ).loc main_arg2)) (m ((c : Thread nD τ).loc main_arg3)) (ix2 q (OutCore.colAt t.val d)) := by
  refine (RetOutIdeal.Value.pay1_read _ _ _ _ q d).trans ?_
  simp only [blk0 m c t, blk1 m c t, blk2 m c t, blk3 m c t]
  rfl

/-- The result array after the run. -/
theorem final (c : Dev nD) : (dats m 0 c).arrAt 4 (cfgs 0).N
    = G (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t _ y => ?_
  have ht : t.val < 4 := lt_of_lt_of_eq t.isLt N_0
  blk_simp
  rw [after0_4]
  unfold out0_4
  frame_out
  have hy : (y 0).val < 1024 := (y 0).isLt
  have hz : (y 1).val < 512 := (y 1).isLt
  have hr : (win0_4.blk t).view.emb y = ix2 (y 0) (OutCore.colAt t.val (y 1)) := by
    unfold OutCore.colAt
    blk_ext [idx_val t]
  rw [hr]
  refine Eq.trans ?_ (block_at m c t (y 0) (y 1))
  rw [← eq_ix2 y]

end Cert.RetOutCtxIdeal.Value

end

end
-- ==== Proof.RetOutCtxRef.lean ====
module

public import proofs.«01_k».proof.Proof.Mlp0CtxRef
public import proofs.«01_k».proof.Proof.Gen.RetOutCtxReferenceIdeal

@[expose] public section

/-! The first layer's output projection on the context: the reference's steps, and its result read at an index. -/

set_option maxRecDepth 16384

noncomputable section

namespace Cert.RetOutCtxReferenceIdeal.Value

open Cert.RetOutCtxReferenceIdeal Cert.RetOutCtxReferenceIdeal.Gen Idealize.ShloMosaic Idealize.ShloMosaic.TcCoe Idealize.SL.Sem

/-- The mixer's rows projected, by sequence. -/
def projected (Y : FVec Ideal S1024x4096 .bf16) (W : FVec Ideal S4096x2048 .bf16) : FVec Ideal S4x256x2048 .f32 :=
  Host.dotGeneral dot_S4x256x4096_S4096x2048_S4x256x2048_2_0_01_1_n_n none
    (shapeCast S4x256x4096 (extf .f32 Y bitsLt_bf16_f32 : FVec Ideal S1024x4096 .f32) shapeCasts_S1024x4096_S4x256x4096) (extf .f32 W bitsLt_bf16_f32)

/-- The rows with the gated projection added, by sequence. -/
def sums (Y : FVec Ideal S1024x4096 .bf16) (W : FVec Ideal S4096x2048 .bf16) (X : FVec Ideal S1024x2048 .f32) (M : FVec Ideal S2x8x1x12288 .f32) : FVec Ideal S4x256x2048 .f32 :=
  Mlp0CtxReferenceIdeal.Value.added (Mlp0CtxReferenceIdeal.Value.rows X) (projected Y W)
    (extractStridedSlice S1x1x2048 ![0, 0, 4096] (Mlp0CtxReferenceIdeal.Value.mods M) slices_S1x1x12288_S1x1x2048_0_0_4096)

/-- The reference's result. -/
def result (Y : FVec Ideal S1024x4096 .bf16) (W : FVec Ideal S4096x2048 .bf16) (X : FVec Ideal S1024x2048 .f32) (M : FVec Ideal S2x8x1x12288 .f32) :
    FVec Ideal S1024x2048 .f32 :=
  shapeCast _ (sums Y W X M) shapeCasts_S4x256x2048_S1024x2048

/-- The projection at row `r`. -/
theorem projected_read (Y : FVec Ideal S1024x4096 .bf16) (W : FVec Ideal S4096x2048 .bf16) (b : Fin 4) (l : Fin 256) (d : Fin 2048) (r : Fin 1024)
    (hr : r.val = b.val * 256 + l.val) :
    projected Y W (ix3 b l d) = ∑ e : Fin 4096, Y (ix2 r e) * W (ix2 e d) := by
  pointwise [projected]
  exact Finset.sum_congr rfl fun e _ => congrArg (· * W (ix2 e d)) (congrArg Y (congrArg (fun r => ix2 r e) (Fin.ext hr.symm)))

/-- The gate. -/
theorem gate_read (M : FVec Ideal S2x8x1x12288 .f32) (e : Fin 2048) :
    (extractStridedSlice S1x1x2048 ![0, 0, 4096] (Mlp0CtxReferenceIdeal.Value.mods M) slices_S1x1x12288_S1x1x2048_0_0_4096 : FVec Ideal S1x1x2048 .f32) (ix3 0 0 e)
      = CtxCore.modAt M 0 4096 (by decide) e := by
  unfold CtxCore.modAt
  pointwise [Mlp0CtxReferenceIdeal.Value.mods_read]

/-- The sum at row `r`, over the argument arrays. -/
theorem sums_read (Y : FVec Ideal S1024x4096 .bf16) (W : FVec Ideal S4096x2048 .bf16) (X : FVec Ideal S1024x2048 .f32) (M : FVec Ideal S2x8x1x12288 .f32)
    (b : Fin 4) (l : Fin 256) (d : Fin 2048) (r : Fin 1024) (hr : r.val = b.val * 256 + l.val) :
    sums Y W X M (ix3 b l d) = CtxCore.gated Y W X M r d := by
  unfold sums
  rw [Mlp0CtxReferenceIdeal.Value.added_read, projected_read Y W b l d r hr, Mlp0CtxReferenceIdeal.Value.rows_read X b l d r hr, gate_read]
  rfl

/-- The result at row `r`. -/
theorem result_read (Y : FVec Ideal S1024x4096 .bf16) (W : FVec Ideal S4096x2048 .bf16) (X : FVec Ideal S1024x2048 .f32) (M : FVec Ideal S2x8x1x12288 .f32)
    (r : Fin 1024) (d : Fin 2048) :
    result Y W X M (ix2 r d) = CtxCore.gated Y W X M r d :=
  (Mlp0CtxReferenceIdeal.Value.flat_read (sums Y W X M) r d).trans
    (sums_read Y W X M ⟨r.val / 256, by omega⟩ ⟨r.val % 256, by omega⟩ d r (by dsimp only; omega))

end Cert.RetOutCtxReferenceIdeal.Value

end

end
-- ==== Proof.RetOutCtxRun.lean ====
module

public import proofs.«01_k».proof.Proof.RetOutCtxRef
public import proofs.«01_k».proof.Proof.Gen.RetOutCtxReferenceIdeal.Run

@[expose] public section

/-! The first layer's output projection on the context: the reference's result array, over its arguments. -/

set_option maxRecDepth 16384

noncomputable section

namespace Cert.RetOutCtxReferenceIdeal.Value

open Cert.RetOutCtxReferenceIdeal Cert.RetOutCtxReferenceIdeal.Gen Idealize.ShloMosaic Idealize.ShloMosaic.TcCoe Idealize.SL.Sem

/-- The run leaves the staged projection in its result, and its arguments as they were. -/
theorem run_result (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v16) = result (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  run (F := Ideal) m ρ

end Cert.RetOutCtxReferenceIdeal.Value

end

end
-- ==== Proof.AttnProjCtxBlocks.lean ====
module

public import proofs.«01_k».proof.Proof.CtxCore
public import proofs.«01_k».proof.Proof.RetProjPay
public import proofs.«01_k».proof.Proof.Gen.AttnProjCtxIdeal.Skeleton
public import proofs.«01_k».proof.Proof.Gen.AttnProjCtxIdeal.Value
public import Idealize.ShloMosaic.Lib.Pipeline.ValueKit

@[expose] public section

/-! The second layer's keys and values on the context: the kernel's values, the blocks one grid point reads, and the result array. -/

set_option maxRecDepth 16384

noncomputable section

namespace Cert.AttnProjCtxIdeal.Value

open Cert.AttnProjCtxIdeal Cert.AttnProjCtxIdeal.Gen Idealize.ShloMosaic Idealize.ShloMosaic.TcCoe Idealize.SL.Sem
open Idealize.ShloMosaic.Pipeline (Dat)

/-- The prepared rows. -/
theorem pay1_read (x : FVec Ideal S1024x2048 .f32) (g : FVec Ideal S1x2048 .f32) (sh sc : FVec Ideal S1x1x1x2048 .f32) (q : Fin 1024) (d : Fin 2048) :
    k0_pay1 (F := Ideal) x g sh sc (ix2 q d)
      = MlpCore.modnorm (fun e => x (ix2 q e)) (fun e => g (ix2 0 e)) (fun e => sh (ix4 0 0 0 e)) (fun e => sc (ix4 0 0 0 e)) d :=
  RetProjIdeal.Value.pay1_read x g sh sc q d

/-- The rows' products with a block of columns. -/
theorem pay2_read (a : FVec Ideal S1024x2048 .bf16) (w : FVec Ideal S2048x512 .bf16) (q : Fin 1024) (e : Fin 512) :
    k0_pay2 (F := Ideal) a w (ix2 q e) = ∑ d : Fin 2048, a (ix2 q d) * w (ix2 d e) := by
  pointwise [k0_pay2]

variable (m : (ℓ : Loc nD τ sig) → Buf (Elt Ideal) ℓ)

/-- Where the windows stand at each grid point. -/
theorem idx_val : ∀ t : Fin cfg0.N,
    (grid0.coords t 1).val = t.val
    ∧ win0_0.index t = ![0, 0]
    ∧ win0_1.index t = ![0, 0]
    ∧ win0_2.index t = ![1, 4, 0, 0]
    ∧ win0_3.index t = ![1, 4, 0, 1]
    ∧ win0_4.index t = ![0, 4 + t.val]
    ∧ win0_5.index t = ![0, t.val] :=
  (by decide +kernel : ∀ t : Fin grid0.N, _)

/-- The column `e` of the block of 512 columns `k` of the weights. -/
def colAt (k : ℕ) (e : Fin 512) : Fin 3072 := ⟨((4 + k) * 512 + e.val) % 3072, Nat.mod_lt _ (by decide)⟩

/-- Window 0: all the rows. -/
theorem blk0 (c : Dev nD) (t : Fin cfg0.N) (q : Fin 1024) (e : Fin 2048) :
    iblk m c 0 t (ix2 q e) = m ((c : Thread nD τ).loc main_arg0) (ix2 q e) := by
  blk_point [iblk, V, idx_val t]

/-- Window 1: the gain. -/
theorem blk1 (c : Dev nD) (t : Fin cfg0.N) (e : Fin 2048) :
    iblk m c 1 t (ix2 0 e) = m ((c : Thread nD τ).loc main_arg1) (ix1 e) := by
  blk_point [iblk, V, idx_val t]

/-- Window 2: the shift. -/
theorem blk2 (c : Dev nD) (t : Fin cfg0.N) (e : Fin 2048) :
    iblk m c 2 t (ix4 0 0 0 e) = CtxCore.modAt (m ((c : Thread nD τ).loc main_arg2)) 1 0 (by decide) e := by
  unfold CtxCore.modAt
  blk_point [iblk, V, idx_val t]

/-- Window 3: the scale. -/
theorem blk3 (c : Dev nD) (t : Fin cfg0.N) (e : Fin 2048) :
    iblk m c 3 t (ix4 0 0 0 e) = CtxCore.modAt (m ((c : Thread nD τ).loc main_arg2)) 1 2048 (by decide) e := by
  unfold CtxCore.modAt
  blk_point [iblk, V, idx_val t]

/-- Window 4: the block of columns of the weights. -/
theorem blk4 (c : Dev nD) (t : Fin cfg0.N) (d : Fin 2048) (e : Fin 512) :
    iblk m c 4 t (ix2 d e) = m ((c : Thread nD τ).loc main_arg3) (ix2 d (colAt t.val e)) := by
  have ht : t.val < 2 := lt_of_lt_of_eq t.isLt N_0
  unfold colAt
  blk_point [iblk, V, idx_val t]

/-- The prepared rows. -/
def preps (c : Dev nD) (j : S1024x2048.Idx) : EReal :=
  CtxCore.prep (m ((c : Thread nD τ).loc main_arg0)) (m ((c : Thread nD τ).loc main_arg1)) (m ((c : Thread nD τ).loc main_arg2)) 1 0 2048 (by decide) (by decide) (j 0) (j 1)

/-- The prepared rows, computed at any visit. -/
theorem pay1_at (c : Dev nD) (t : Fin cfg0.N) :
    k0_pay1 (F := Ideal) (iblk m c 0 t) (iblk m c 1 t) (iblk m c 2 t) (iblk m c 3 t) = preps m c := by
  funext j
  obtain ⟨q, d, rfl⟩ : ∃ q d, j = ix2 q d := ⟨j 0, j 1, eq_ix2 j⟩
  refine (pay1_read _ _ _ _ q d).trans ?_
  unfold preps CtxCore.prep
  simp only [blk0 m c t, blk1 m c t, blk2 m c t, blk3 m c t]
  rfl

/-- Every visit holds the rows prepared. -/
theorem held (c : Dev nD) : ∀ n (h : n < cfg0.N), (outsAt0 m c n h).2 = preps m c := by
  have hN : cfg0.N = 2 := N_0
  intro n
  induction n with
  | zero =>
    intro h
    refine Eq.trans ?_ (pay1_at m c ⟨0, h⟩)
    rw [outsAt0_A m c ⟨0, h⟩ rfl]
    funext j
    frame_out
  | succ n ih =>
    intro h
    rw [outsAt0_B m c ⟨n + 1, h⟩ (by simp only; omega)]
    exact ih (Nat.lt_of_succ_lt h)

/-- The block every visit leaves, over the prepared rows. -/
theorem out_at (c : Dev nD) (t : Fin cfg0.N) :
    (outsAt0 m c t.val t.isLt).1 = k0_pay2 (F := Ideal) (preps m c) (iblk m c 4 t) := by
  have ht : t.val < 2 := lt_of_lt_of_eq t.isLt N_0
  by_cases h0 : t.val % 2 = 0
  · rw [outsAt0_A m c t h0]
    funext j
    frame_out
    rw [pay1_at m c t]
  · rw [outsAt0_B m c t h0]
    funext j
    frame_out
    erw [Memref.IsWhole.read_unread]
    rw [held m c (t.val - 1)]

/-- The result over the argument arrays. -/
def G (X : (⟨2, ![1024, 2048]⟩ : Shape).Idx → EReal) (g : (⟨1, ![2048]⟩ : Shape).Idx → EReal) (M : (⟨4, ![2, 8, 1, 12288]⟩ : Shape).Idx → EReal)
    (W : (⟨2, ![2048, 3072]⟩ : Shape).Idx → EReal) (j : S1024x1024.Idx) : EReal :=
  CtxCore.proj X g M W 1 (j 0) ⟨2048 + (j 1).val, lt_of_lt_of_le (Nat.add_lt_add_left (j 1).isLt 2048) (by decide)⟩

/-- The column `e` of the block of 512 columns `k` of the result. -/
def outAt (k : ℕ) (e : Fin 512) : Fin 1024 := ⟨(k * 512 + e.val) % 1024, Nat.mod_lt _ (by decide)⟩

/-- What one visit leaves in its block. -/
theorem block_at (c : Dev nD) (t : Fin cfg0.N) (q : Fin 1024) (e : Fin 512) :
    (outsAt0 m c t.val t.isLt).1 (ix2 q e)
      = G (m ((c : Thread nD τ).loc main_arg0)) (m ((c : Thread nD τ).loc main_arg1)) (m ((c : Thread nD τ).loc main_arg2)) (m ((c : Thread nD τ).loc main_arg3)) (ix2 q (outAt t.val e)) := by
  have ht : t.val < 2 := lt_of_lt_of_eq t.isLt N_0
  rw [out_at m c t]
  have hc : colAt t.val e = ⟨2048 + (outAt t.val e).val, lt_of_lt_of_le (Nat.add_lt_add_left (outAt t.val e).isLt 2048) (by decide)⟩ :=
    Fin.ext (by simp only [colAt, outAt]; omega)
  refine (pay2_read _ _ q e).trans ?_
  simp only [blk4 m c t, hc]
  rfl

/-- The result array after the run. -/
theorem final (c : Dev nD) : (dats m 0 c).arrAt 5 (cfgs 0).N
    = G (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t _ y => ?_
  have ht : t.val < 2 := lt_of_lt_of_eq t.isLt N_0
  blk_simp
  rw [after0_5]
  have hy : (y 0).val < 1024 := (y 0).isLt
  have hz : (y 1).val < 512 := (y 1).isLt
  have hr : (win0_5.blk t).view.emb y = ix2 (y 0) (outAt t.val (y 1)) := by
    unfold outAt
    blk_ext [idx_val t]
  rw [hr]
  refine Eq.trans ?_ (block_at m c t (y 0) (y 1))
  rw [← eq_ix2 y]

end Cert.AttnProjCtxIdeal.Value

end

end
-- ==== Proof.AttnProjCtxRef.lean ====
module

public import proofs.«01_k».proof.Proof.Mlp0CtxRef
public import proofs.«01_k».proof.Proof.Gen.AttnProjCtxReferenceIdeal

@[expose] public section

/-! The second layer's keys and values on the context: the reference's steps, each a definition over its inputs, and each read at an index. -/

set_option maxRecDepth 16384

noncomputable section

namespace Cert.AttnProjCtxReferenceIdeal.Value

open Cert.AttnProjCtxReferenceIdeal Cert.AttnProjCtxReferenceIdeal.Gen Idealize.ShloMosaic Idealize.ShloMosaic.TcCoe Idealize.SL.Sem

/-- The layer's modulation of the context. -/
def mods (M : FVec Ideal S2x8x1x12288 .f32) : FVec Ideal S1x1x12288 .f32 :=
  shapeCast _ (extractStridedSlice S1x1x1x12288 ![1, 4, 0, 0] M slices_S2x8x1x12288_S1x1x1x12288_1_4_0_0) shapeCasts_S1x1x1x12288_S1x1x12288

/-- A place of the layer's modulation of the context. -/
theorem mods_read (M : FVec Ideal S2x8x1x12288 .f32) (c : Fin 12288) : mods M (ix3 0 0 c) = M (ix4 1 4 0 c) := by
  pointwise [mods]

/-- The prepared rows projected. -/
def projected (A : FVec Ideal S4x256x2048 .f32) (W : FVec Ideal S2048x3072 .bf16) : FVec Ideal S4x256x3072 .f32 :=
  Host.dotGeneral dot_S4x256x2048_S2048x3072_S4x256x3072_2_0_01_1_n_n none A (extf .f32 W bitsLt_bf16_f32)

/-- The projection over the argument arrays, by sequence. -/
def projs (X : FVec Ideal S1024x2048 .f32) (g : FVec Ideal S2048 .f32) (M : FVec Ideal S2x8x1x12288 .f32) (W : FVec Ideal S2048x3072 .bf16) :
    FVec Ideal S4x256x3072 .f32 :=
  projected (Mlp0CtxReferenceIdeal.Value.prepared (Mlp0CtxReferenceIdeal.Value.normed (Mlp0CtxReferenceIdeal.Value.rows X) g)
    (extractStridedSlice S1x1x2048 ![0, 0, 0] (mods M) slices_S1x1x12288_S1x1x2048_0_0_0)
    (extractStridedSlice S1x1x2048 ![0, 0, 2048] (mods M) slices_S1x1x12288_S1x1x2048_0_0_2048)) W

/-- The shift. -/
theorem shift_read (M : FVec Ideal S2x8x1x12288 .f32) (e : Fin 2048) :
    (extractStridedSlice S1x1x2048 ![0, 0, 0] (mods M) slices_S1x1x12288_S1x1x2048_0_0_0 : FVec Ideal S1x1x2048 .f32) (ix3 0 0 e)
      = CtxCore.modAt M 1 0 (by decide) e := by
  unfold CtxCore.modAt
  pointwise [mods_read]

/-- The scale. -/
theorem scale_read (M : FVec Ideal S2x8x1x12288 .f32) (e : Fin 2048) :
    (extractStridedSlice S1x1x2048 ![0, 0, 2048] (mods M) slices_S1x1x12288_S1x1x2048_0_0_2048 : FVec Ideal S1x1x2048 .f32) (ix3 0 0 e)
      = CtxCore.modAt M 1 2048 (by decide) e := by
  unfold CtxCore.modAt
  pointwise [mods_read]

/-- A row's product with a column. -/
theorem projected_read (A : FVec Ideal S4x256x2048 .f32) (W : FVec Ideal S2048x3072 .bf16) (b : Fin 4) (l : Fin 256) (c : Fin 3072) :
    projected A W (ix3 b l c) = ∑ d : Fin 2048, A (ix3 b l d) * W (ix2 d c) := by
  pointwise [projected]

/-- The projection at row `r`. -/
theorem projs_read (X : FVec Ideal S1024x2048 .f32) (g : FVec Ideal S2048 .f32) (M : FVec Ideal S2x8x1x12288 .f32) (W : FVec Ideal S2048x3072 .bf16)
    (b : Fin 4) (l : Fin 256) (c : Fin 3072) (r : Fin 1024) (hr : r.val = b.val * 256 + l.val) :
    projs X g M W (ix3 b l c) = CtxCore.proj X g M W 1 r c := by
  unfold projs
  simp only [projected_read, Mlp0CtxReferenceIdeal.Value.prepared_read, Mlp0CtxReferenceIdeal.Value.normed_read, Mlp0CtxReferenceIdeal.Value.rows_read X b l _ r hr, shift_read, scale_read]
  rfl

/-- Keys and values side by side. -/
def joined (P : FVec Ideal S4x256x3072 .f32) : FVec Ideal S4x256x1024 .f32 :=
  concatenate S4x256x1024 2
    [⟨S4x256x512, extractStridedSlice S4x256x512 ![0, 0, 2048] P slices_S4x256x3072_S4x256x512_0_0_2048⟩,
     ⟨S4x256x512, extractStridedSlice S4x256x512 ![0, 0, 2560] P slices_S4x256x3072_S4x256x512_0_0_2560⟩]
    concatenates_S4x256x512_S4x256x512_S4x256x1024_d2

/-- The reference's result. -/
def result (X : FVec Ideal S1024x2048 .f32) (g : FVec Ideal S2048 .f32) (M : FVec Ideal S2x8x1x12288 .f32) (W : FVec Ideal S2048x3072 .bf16) : FVec Ideal S1024x1024 .bf16 :=
  truncf .bf16 (shapeCast S1024x1024 (joined (projs X g M W)) shapeCasts_S4x256x1024_S1024x1024) bitsLt_bf16_f32

/-- Every column of the joined row. -/
theorem joined_read (P : FVec Ideal S4x256x3072 .f32) (b : Fin 4) (l : Fin 256) (c : Fin 1024) :
    joined P (ix3 b l c) = P (ix3 b l ⟨2048 + c.val, by omega⟩) := by
  pointwise [joined]
  split
  · rfl
  · exact congrArg P (congrArg (fun c => ix3 b l c) (Fin.ext (by simp only; omega)))

/-- The rows by sequence laid out in one run. -/
theorem flat_read (Y : FVec Ideal S4x256x1024 .f32) (r : Fin 1024) (c : Fin 1024) :
    (truncf .bf16 (shapeCast S1024x1024 Y shapeCasts_S4x256x1024_S1024x1024 : FVec Ideal S1024x1024 .f32) bitsLt_bf16_f32 : FVec Ideal S1024x1024 .bf16) (ix2 r c)
      = Y (ix3 ⟨r.val / 256, by omega⟩ ⟨r.val % 256, by omega⟩ c) := by
  pointwise []

/-- The result at row `r`. -/
theorem result_read (X : FVec Ideal S1024x2048 .f32) (g : FVec Ideal S2048 .f32) (M : FVec Ideal S2x8x1x12288 .f32) (W : FVec Ideal S2048x3072 .bf16) (r : Fin 1024) (c : Fin 1024) :
    result X g M W (ix2 r c) = CtxCore.proj X g M W 1 r ⟨2048 + c.val, by omega⟩ := by
  unfold result
  rw [flat_read, joined_read]
  exact projs_read X g M W ⟨r.val / 256, by omega⟩ ⟨r.val % 256, by omega⟩ ⟨2048 + c.val, by omega⟩ r (by dsimp only; omega)

end Cert.AttnProjCtxReferenceIdeal.Value

end

end
-- ==== Proof.AttnProjCtxRun.lean ====
module

public import proofs.«01_k».proof.Proof.AttnProjCtxRef
public import proofs.«01_k».proof.Proof.Gen.AttnProjCtxReferenceIdeal.Run

@[expose] public section

/-! The second layer's keys and values on the context: the reference's result array, over its arguments. -/

set_option maxRecDepth 16384

noncomputable section

namespace Cert.AttnProjCtxReferenceIdeal.Value

open Cert.AttnProjCtxReferenceIdeal Cert.AttnProjCtxReferenceIdeal.Gen Idealize.ShloMosaic Idealize.ShloMosaic.TcCoe Idealize.SL.Sem

/-- The run leaves the staged projection in its result, and its arguments as they were. -/
theorem run_result (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v35) = result (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  run (F := Ideal) m ρ

end Cert.AttnProjCtxReferenceIdeal.Value

end

end
-- ==== Proof.AdaCore.lean ====
module

public import proofs.«01_k».proof.Proof.ProjCore

@[expose] public section

/-! The modulation's product, on the extended reals. -/

set_option maxRecDepth 16384

noncomputable section

namespace Cert.AdaCore

open Idealize.ShloMosaic

/-- The activation of a condition's place. -/
def act (x : EReal) : EReal := x * Ideal.logistic x

/-- The place `n` of layer `i`'s modulation for the condition `r`. -/
def entry (C : (⟨2, ![8, 2048]⟩ : Shape).Idx → EReal) (W : (⟨3, ![2, 2048, 12288]⟩ : Shape).Idx → EReal) (B : (⟨2, ![2, 12288]⟩ : Shape).Idx → EReal)
    (i : Fin 2) (r : Fin 8) (n : Fin 12288) : EReal :=
  (∑ d : Fin 2048, act (C (ix2 r d)) * W (ix3 i d n)) + B (ix2 i n)

end Cert.AdaCore

end

end
-- ==== Proof.AdaBlocks.lean ====
module

public import proofs.«01_k».proof.Proof.AdaCore
public import proofs.«01_k».proof.Proof.Gen.AdaIdeal.Skeleton
public import proofs.«01_k».proof.Proof.Gen.AdaIdeal.Value
public import Idealize.ShloMosaic.Lib.Pipeline.ValueKit

@[expose] public section

/-! The modulation's product: the kernel's value, the blocks one grid point reads, and the result array. -/

set_option maxRecDepth 16384

noncomputable section

namespace Cert.AdaIdeal.Value

open Cert.AdaIdeal Cert.AdaIdeal.Gen Idealize.ShloMosaic Idealize.ShloMosaic.TcCoe Idealize.SL.Sem
open Idealize.ShloMosaic.Pipeline (Dat)

/-- The conditions' products with a block of columns, the bias added. -/
theorem pay1_read (x : FVec Ideal S8x2048 .f32) (w : FVec Ideal S1x2048x1024 .f32) (b : FVec Ideal S1x1x1024 .f32) (r : Fin 8) (e : Fin 1024) :
    k0_pay1 (F := Ideal) x w b (ix3 0 r e) = (∑ d : Fin 2048, AdaCore.act (x (ix2 r d)) * w (ix3 0 d e)) + b (ix3 0 0 e) := by
  unfold AdaCore.act
  pointwise [k0_pay1]

variable (m : (ℓ : Loc nD τ sig) → Buf (Elt Ideal) ℓ)

/-- Where the windows stand at each grid point. -/
theorem idx_val : ∀ t : Fin cfg0.N,
    win0_0.index t = ![0, 0]
    ∧ win0_1.index t = ![t.val / 12, 0, t.val % 12]
    ∧ win0_2.index t = ![t.val / 12, 0, t.val % 12]
    ∧ win0_3.index t = ![t.val / 12, 0, t.val % 12] :=
  (by decide +kernel : ∀ t : Fin grid0.N, _)

/-- The column `e` of the block of 1024 columns `k`. -/
def colAt (k : ℕ) (e : Fin 1024) : Fin 12288 := ⟨(k * 1024 + e.val) % 12288, Nat.mod_lt _ (by decide)⟩

/-- The layer of the grid point `t`. -/
def layerAt (t : ℕ) : Fin 2 := ⟨t / 12 % 2, Nat.mod_lt _ (by decide)⟩

/-- Window 0: the conditions. -/
theorem blk0 (c : Dev nD) (t : Fin cfg0.N) (r : Fin 8) (d : Fin 2048) :
    iblk m c 0 t (ix2 r d) = m ((c : Thread nD τ).loc main_arg0) (ix2 r d) := by
  blk_point [iblk, V, idx_val t]

/-- Window 1: the block of columns of the layer's weights. -/
theorem blk1 (c : Dev nD) (t : Fin cfg0.N) (d : Fin 2048) (e : Fin 1024) :
    iblk m c 1 t (ix3 0 d e) = m ((c : Thread nD τ).loc main_arg1) (ix3 (layerAt t.val) d (colAt (t.val % 12) e)) := by
  have ht : t.val < 24 := lt_of_lt_of_eq t.isLt N_0
  unfold layerAt colAt
  blk_point [iblk, V, idx_val t]

/-- Window 2: the block of columns of the layer's bias. -/
theorem blk2 (c : Dev nD) (t : Fin cfg0.N) (e : Fin 1024) :
    iblk m c 2 t (ix3 0 0 e) = m ((c : Thread nD τ).loc main_arg2) (ix2 (layerAt t.val) (colAt (t.val % 12) e)) := by
  have ht : t.val < 24 := lt_of_lt_of_eq t.isLt N_0
  unfold layerAt colAt
  blk_point [iblk, V, idx_val t]

/-- The result over the argument arrays. -/
def G (C : (⟨2, ![8, 2048]⟩ : Shape).Idx → EReal) (W : (⟨3, ![2, 2048, 12288]⟩ : Shape).Idx → EReal) (B : (⟨2, ![2, 12288]⟩ : Shape).Idx → EReal)
    (j : S2x8x12288.Idx) : EReal :=
  AdaCore.entry C W B (j 0) (j 1) (j 2)

/-- What one visit leaves in its block. -/
theorem block_at (c : Dev nD) (t : Fin cfg0.N) (r : Fin 8) (e : Fin 1024) :
    k0_pay1 (F := Ideal) (iblk m c 0 t) (iblk m c 1 t) (iblk m c 2 t) (ix3 0 r e)
      = G (m ((c : Thread nD τ).loc main_arg0)) (m ((c : Thread nD τ).loc main_arg1)) (m ((c : Thread nD τ).loc main_arg2)) (ix3 (layerAt t.val) r (colAt (t.val % 12) e)) := by
  refine (pay1_read _ _ _ r e).trans ?_
  simp only [blk0 m c t, blk1 m c t, blk2 m c t]
  rfl

/-- The result array after the run. -/
theorem final (c : Dev nD) : (dats m 0 c).arrAt 3 (cfgs 0).N = G (m ((c : Thread nD τ).loc main_arg0)) (m ((c : Thread nD τ).loc main_arg1)) (m ((c : Thread nD τ).loc main_arg2)) := by
  refine (dats m 0 c).arrAt_eq_of_covers 3 _ (by decide +kernel) fun t _ y => ?_
  have ht : t.val < 24 := lt_of_lt_of_eq t.isLt N_0
  blk_simp
  rw [after0_3]
  unfold out0_3
  frame_out
  have hx : y 0 = (0 : Fin 1) := Subsingleton.elim (α := Fin 1) _ _
  have hx0 : (y 0).val < 1 := (y 0).isLt
  have hy : (y 1).val < 8 := (y 1).isLt
  have hz : (y 2).val < 1024 := (y 2).isLt
  have hr : (win0_3.blk t).view.emb y = ix3 (layerAt t.val) (y 1) (colAt (t.val % 12) (y 2)) := by
    unfold layerAt colAt
    blk_ext [idx_val t]
  rw [hr]
  refine Eq.trans ?_ (block_at m c t (y 1) (y 2))
  have hyy : y = ix3 (0 : Fin 1) (y 1) (y 2) := (eq_ix3 y).trans (congrArg (fun a => ix3 a (y 1) (y 2)) hx)
  exact congrArg _ hyy

end Cert.AdaIdeal.Value

end

end
-- ==== Proof.AdaRef.lean ====
module

public import proofs.«01_k».proof.Proof.AdaCore
public import proofs.«01_k».proof.Proof.Gen.AdaReferenceIdeal

@[expose] public section

/-! The modulation's product: the reference's steps, and its result read at an index. -/

set_option maxRecDepth 16384

noncomputable section

namespace Cert.AdaReferenceIdeal.Value

open Cert.AdaReferenceIdeal Cert.AdaReferenceIdeal.Gen Idealize.ShloMosaic Idealize.ShloMosaic.TcCoe Idealize.SL.Sem

/-- The conditions' activation. -/
def silu (C : FVec Ideal S8x2048 .f32) : FVec Ideal S8x2048 .f32 :=
  mulf C (Host.divf (broadcastInDim S8x2048 ![] bcast_S_S8x2048 (constant S_ .f32 0x3F800000#32))
    (addf (broadcastInDim S8x2048 ![] bcast_S_S8x2048 (constant S_ .f32 0x3F800000#32)) (Host.exp (Host.negf C))))

/-- One layer's product with its bias, as one slab. -/
def product (A : FVec Ideal S8x2048 .f32) (W : FVec Ideal S2048x12288 .f32) (B : FVec Ideal S12288 .f32) : FVec Ideal S1x8x12288 .f32 :=
  broadcastInDim S1x8x12288 ![1, 2] bcast_S8x12288_S1x8x12288_1_2
    (addf (Host.dotGeneral dot_S8x2048_S2048x12288_S8x12288_1_0_0_1_n_n none A W)
      (broadcastInDim S8x12288 ![0, 1] bcast_S1x12288_S8x12288_0_1 (broadcastInDim S1x12288 ![1] bcast_S12288_S1x12288_1 B)))

/-- The first layer's slab. -/
def layer0 (C : FVec Ideal S8x2048 .f32) (W : FVec Ideal S2x2048x12288 .f32) (B : FVec Ideal S2x12288 .f32) : FVec Ideal S1x8x12288 .f32 :=
  product (silu C)
    (shapeCast _ (extractStridedSlice S1x2048x12288 ![0, 0, 0] W slices_S2x2048x12288_S1x2048x12288_0_0_0) shapeCasts_S1x2048x12288_S2048x12288)
    (shapeCast _ (extractStridedSlice S1x12288 ![0, 0] B slices_S2x12288_S1x12288_0_0) shapeCasts_S1x12288_S12288)

/-- The second layer's slab. -/
def layer1 (C : FVec Ideal S8x2048 .f32) (W : FVec Ideal S2x2048x12288 .f32) (B : FVec Ideal S2x12288 .f32) : FVec Ideal S1x8x12288 .f32 :=
  product (silu C)
    (shapeCast _ (extractStridedSlice S1x2048x12288 ![1, 0, 0] W slices_S2x2048x12288_S1x2048x12288_1_0_0) shapeCasts_S1x2048x12288_S2048x12288)
    (shapeCast _ (extractStridedSlice S1x12288 ![1, 0] B slices_S2x12288_S1x12288_1_0) shapeCasts_S1x12288_S12288)

/-- The reference's result: the two slabs. -/
def result (C : FVec Ideal S8x2048 .f32) (W : FVec Ideal S2x2048x12288 .f32) (B : FVec Ideal S2x12288 .f32) : FVec Ideal S2x8x12288 .f32 :=
  concatenate S2x8x12288 0 [⟨S1x8x12288, layer0 C W B⟩, ⟨S1x8x12288, layer1 C W B⟩] concatenates_S1x8x12288_S1x8x12288_S2x8x12288_d0

/-- The activation, read at an index. -/
theorem silu_read (C : FVec Ideal S8x2048 .f32) (r : Fin 8) (d : Fin 2048) : silu C (ix2 r d) = AdaCore.act (C (ix2 r d)) := by
  pointwise [silu]
  rfl

/-- A product with its bias, read at an index. -/
theorem product_read (A : FVec Ideal S8x2048 .f32) (W : FVec Ideal S2048x12288 .f32) (B : FVec Ideal S12288 .f32) (r : Fin 8) (n : Fin 12288) :
    product A W B (ix3 0 r n) = (∑ d : Fin 2048, A (ix2 r d) * W (ix2 d n)) + B (ix1 n) := by
  pointwise [product]

/-- Layer 0's modulation, read at an index. -/
theorem layer0_read (C : FVec Ideal S8x2048 .f32) (W : FVec Ideal S2x2048x12288 .f32) (B : FVec Ideal S2x12288 .f32) (r : Fin 8) (n : Fin 12288) :
    layer0 C W B (ix3 0 r n) = AdaCore.entry C W B 0 r n := by
  unfold layer0 AdaCore.entry
  simp only [product_read, silu_read]
  pointwise []

/-- Layer 1's modulation, read at an index. -/
theorem layer1_read (C : FVec Ideal S8x2048 .f32) (W : FVec Ideal S2x2048x12288 .f32) (B : FVec Ideal S2x12288 .f32) (r : Fin 8) (n : Fin 12288) :
    layer1 C W B (ix3 0 r n) = AdaCore.entry C W B 1 r n := by
  unfold layer1 AdaCore.entry
  simp only [product_read, silu_read]
  pointwise []

/-- The result, read at an index. -/
theorem result_read (C : FVec Ideal S8x2048 .f32) (W : FVec Ideal S2x2048x12288 .f32) (B : FVec Ideal S2x12288 .f32) (i : Fin 2) (r : Fin 8) (n : Fin 12288) :
    result C W B (ix3 i r n) = AdaCore.entry C W B i r n := by
  fin_cases i
  · refine Eq.trans ?_ (layer0_read C W B r n)
    pointwise [result]
  · refine Eq.trans ?_ (layer1_read C W B r n)
    pointwise [result]

end Cert.AdaReferenceIdeal.Value

end

end
-- ==== Proof.AdaRun.lean ====
module

public import proofs.«01_k».proof.Proof.AdaRef
public import proofs.«01_k».proof.Proof.Gen.AdaReferenceIdeal.Run

@[expose] public section

/-! The modulation's product: the reference's result array, over its arguments. -/

set_option maxRecDepth 16384

noncomputable section

namespace Cert.AdaReferenceIdeal.Value

open Cert.AdaReferenceIdeal Cert.AdaReferenceIdeal.Gen Idealize.ShloMosaic Idealize.ShloMosaic.TcCoe Idealize.SL.Sem

/-- The run leaves the staged projection in its result, and its arguments as they were. -/
theorem run_result (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v19) = result (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  run (F := Ideal) m ρ

end Cert.AdaReferenceIdeal.Value

end

end
-- ==== Proof.RetCore.lean ====
module

public import Idealize.ShloMosaic.PureOps
public import Idealize.ShloMosaic.Lib.IdealHost
public import proofs.«01_k».proof.Proof.CtxCore

@[expose] public section

/-! Retention over 256 rows: the decay, the chunked recurrence against the whole sum, and the gated norm. -/

noncomputable section

namespace Cert.RetCore

open Idealize.ShloMosaic

/-- The log of the logistic function, as the kernel forms it. -/
def lsk (x : EReal) : EReal := min x 0 - Ideal.log1p (Ideal.exp (0 - max x (-x)))

/-- The log of the logistic function, as the reference forms it. -/
def lsr (x : EReal) : EReal := -(max (-x) 0 + Ideal.log1p (Ideal.exp (-max (-x) (-(-x)))))

/-- The larger of two reals. -/
theorem coe_max (a b : ℝ) : ((max a b : ℝ) : EReal) = max (a : EReal) (b : EReal) := EReal.coe_strictMono.monotone.map_max

/-- The smaller of two reals. -/
theorem coe_min (a b : ℝ) : ((min a b : ℝ) : EReal) = min (a : EReal) (b : EReal) := EReal.coe_strictMono.monotone.map_min

/-- The logarithm term is a real number. -/
theorem log1p_real (r : ℝ) : ∃ l : ℝ, Ideal.log1p (Ideal.exp (r : EReal)) = (l : EReal) := by
  refine ⟨Real.log (1 + Real.exp r), ?_⟩
  have h : ¬ (1 + Real.exp r ≤ 0) := by have := Real.exp_pos r; linarith
  rw [Ideal.log1p, Ideal.exp_coe, ← EReal.coe_one, ← EReal.coe_add, Ideal.log_coe, if_neg h]

/-- The two forms agree. -/
theorem lsk_eq (x : EReal) : lsk x = lsr x := by
  induction x using EReal.rec with
  | bot => simp [lsk, lsr, Ideal.log1p, ← EReal.coe_one]
  | top => simp [lsk, lsr, Ideal.log1p, ← EReal.coe_one]
  | coe r =>
    have e : (0 : EReal) - max (r : EReal) (-(r : EReal)) = ((-|r| : ℝ) : EReal) := by
      rw [zero_sub, ← EReal.coe_neg, ← coe_max, ← EReal.coe_neg]; rfl
    have e' : -max (-(r : EReal)) (-(-(r : EReal))) = ((-|r| : ℝ) : EReal) := by
      rw [neg_neg, max_comm, ← EReal.coe_neg, ← coe_max, ← EReal.coe_neg]; rfl
    obtain ⟨l, hl⟩ := log1p_real (-|r|)
    rw [lsk, lsr, e, e', hl, ← EReal.coe_neg, ← EReal.coe_zero, ← coe_max, ← coe_min, ← EReal.coe_add, ← EReal.coe_neg,
      ← EReal.coe_sub]
    refine congrArg _ ?_
    have : max (-r) 0 = -min r 0 := by rw [min_def, max_def]; split <;> split <;> linarith
    rw [this]; ring

/-- It is never plus infinity. -/
theorem lsk_ne_top (x : EReal) : lsk x ≠ ⊤ := by
  induction x using EReal.rec with
  | bot => simp [lsk, Ideal.log1p, ← EReal.coe_one]
  | top => simp [lsk, Ideal.log1p, ← EReal.coe_one]
  | coe r =>
    have e : (0 : EReal) - max (r : EReal) (-(r : EReal)) = ((-|r| : ℝ) : EReal) := by
      rw [zero_sub, ← EReal.coe_neg, ← coe_max, ← EReal.coe_neg]; rfl
    obtain ⟨l, hl⟩ := log1p_real (-|r|)
    rw [lsk, e, hl, ← EReal.coe_zero, ← coe_min, ← EReal.coe_sub]
    exact EReal.coe_ne_top _

/-- The decay's powers: over a whole number of steps the exponential is a power of one real number. -/
theorem power (x : EReal) : ∃ γ : ℝ, ∀ n : ℕ, Ideal.exp (lsk x * ((n : ℝ) : EReal)) = ((γ ^ n : ℝ) : EReal) := by
  have h := lsk_ne_top x
  generalize lsk x = l at h
  induction l using EReal.rec with
  | top => exact absurd rfl h
  | bot =>
    refine ⟨0, fun n => ?_⟩
    rcases Nat.eq_zero_or_pos n with rfl | hn
    · rw [Nat.cast_zero, EReal.coe_zero, mul_zero, pow_zero, ← EReal.coe_zero, Ideal.exp_coe, Real.exp_zero]
    · rw [EReal.bot_mul_coe_of_pos (by exact_mod_cast hn), Ideal.exp_bot, zero_pow hn.ne', EReal.coe_zero]
  | coe r =>
    refine ⟨Real.exp r, fun n => ?_⟩
    rw [← EReal.coe_mul, Ideal.exp_coe, ← Real.exp_nat_mul, mul_comm]

/-- The decay of one step. -/
def gam (x : EReal) : ℝ := (power x).choose

/-- Its powers. -/
theorem gam_pow (x : EReal) (n : ℕ) : Ideal.exp (lsk x * ((n : ℝ) : EReal)) = ((gam x ^ n : ℝ) : EReal) := (power x).choose_spec n

/-- The first half's row. -/
def lo (i : Fin 128) : Fin 256 := ⟨i.val, by omega⟩

/-- The second half's row. -/
def hi (i : Fin 128) : Fin 256 := ⟨128 + i.val, by omega⟩

/-- A sum over all rows by halves. -/
theorem sum_halves {M : Type*} [AddCommMonoid M] (f : Fin 256 → M) : ∑ j, f j = (∑ j, f (lo j)) + ∑ j, f (hi j) :=
  Fin.sum_univ_add (a := 128) (b := 128) f

/-- The state after the first chunk of 128 rows. -/
def S1 (γ : ℝ) (k v : Fin 256 → EReal) : EReal :=
  0 * ((γ ^ 128 : ℝ) : EReal) + ∑ j : Fin 128, (k (lo j) * ((γ ^ (127 - j.val) : ℝ) : EReal)) * v (lo j)

/-- The state after both. -/
def S2 (γ : ℝ) (k v : Fin 256 → EReal) : EReal :=
  S1 γ k v * ((γ ^ 128 : ℝ) : EReal) + ∑ j : Fin 128, (k (hi j) * ((γ ^ (127 - j.val) : ℝ) : EReal)) * v (hi j)

/-- The first chunk's decayed scores on the values, beside the query on the zero state. -/
def O1 (γ : ℝ) (q k : Fin 256 → Fin 256 → EReal) (v : Fin 256 → EReal) (i : Fin 128) : EReal :=
  (∑ j : Fin 128, ((∑ d, q (lo i) d * k (lo j) d) * (if j ≤ i then ((γ ^ (i.val - j.val) : ℝ) : EReal) else 0)) * v (lo j))
    + (∑ d, q (lo i) d * 0) * ((γ ^ (i.val + 1) : ℝ) : EReal)

/-- The second chunk's decayed scores on the values, beside the query on the state so far. -/
def O2 (γ : ℝ) (q k : Fin 256 → Fin 256 → EReal) (v : Fin 256 → EReal) (i : Fin 128) : EReal :=
  (∑ j : Fin 128, ((∑ d, q (hi i) d * k (hi j) d) * (if j ≤ i then ((γ ^ (i.val - j.val) : ℝ) : EReal) else 0)) * v (hi j))
    + (∑ d : Fin 256, q (hi i) d * S1 γ (fun j => k j d) v) * ((γ ^ (i.val + 1) : ℝ) : EReal)

/-- Sums of reals. -/
theorem coe_sum {ι : Type*} [Fintype ι] (f : ι → ℝ) : ∑ i, ((f i : ℝ) : EReal) = ((∑ i, f i : ℝ) : EReal) := by
  classical
  induction (Finset.univ : Finset ι) using Finset.induction_on with
  | empty => simp
  | insert a s ha ih => rw [Finset.sum_insert ha, Finset.sum_insert ha, ih, EReal.coe_add]

/-- The whole sum that the first chunk's row equals. -/
theorem O1_eq (γ : ℝ) (q k : Fin 256 → Fin 256 → ℝ) (v : Fin 256 → ℝ) (i : Fin 128) :
    O1 γ (fun a b => (q a b : EReal)) (fun a b => (k a b : EReal)) (fun a => (v a : EReal)) i
      = ((∑ j : Fin 256, ((∑ d, q (lo i) d * k j d) * (if j ≤ lo i then γ ^ ((lo i).val - j.val) else 0)) * v j : ℝ) : EReal) := by
  unfold O1
  simp only [← EReal.coe_zero, ← apply_ite (fun r : ℝ => (r : EReal)), ← EReal.coe_mul, coe_sum, ← EReal.coe_add]
  refine congrArg _ ?_
  refine Eq.trans ?_ (sum_halves _).symm
  refine congrArg₂ _ rfl ?_
  rw [Finset.sum_eq_zero (fun d _ => mul_zero _), zero_mul]
  refine (Finset.sum_eq_zero fun j _ => ?_).symm
  rw [if_neg (by simp only [lo, hi, Fin.le_def]; omega), mul_zero, zero_mul]

/-- The whole sum that the second chunk's row equals. -/
theorem O2_eq (γ : ℝ) (q k : Fin 256 → Fin 256 → ℝ) (v : Fin 256 → ℝ) (i : Fin 128) :
    O2 γ (fun a b => (q a b : EReal)) (fun a b => (k a b : EReal)) (fun a => (v a : EReal)) i
      = ((∑ j : Fin 256, ((∑ d, q (hi i) d * k j d) * (if j ≤ hi i then γ ^ ((hi i).val - j.val) else 0)) * v j : ℝ) : EReal) := by
  unfold O2 S1
  simp only [← EReal.coe_zero, ← apply_ite (fun r : ℝ => (r : EReal)), ← EReal.coe_mul, coe_sum, ← EReal.coe_add]
  refine congrArg _ ?_
  refine Eq.trans ?_ (sum_halves _).symm
  rw [add_comm]
  refine congrArg₂ _ ?_ (Finset.sum_congr rfl fun j _ => ?_)
  · simp only [zero_mul, zero_add, Finset.mul_sum, Finset.sum_mul]
    rw [Finset.sum_comm]
    refine Finset.sum_congr rfl fun j _ => Finset.sum_congr rfl fun d _ => ?_
    rw [if_pos (by simp only [lo, hi, Fin.le_def]; omega)]
    have e : (hi i).val - (lo j).val = (127 - j.val) + (i.val + 1) := by simp only [lo, hi]; omega
    rw [e, pow_add]; ring
  · refine congrArg (· * _) (congrArg _ ?_)
    refine if_congr ?_ ?_ rfl
    · simp only [hi, Fin.le_def]; omega
    · exact congrArg _ (by simp only [hi]; omega)

/-- A sum times a nonnegative real number. -/
theorem sum_mul_real {ι : Type*} (s : Finset ι) (f : ι → EReal) (c : ℝ) (hc : 0 ≤ c) : (∑ i ∈ s, f i) * (c : EReal) = ∑ i ∈ s, f i * (c : EReal) := by
  classical
  induction s using Finset.induction_on with
  | empty => simp
  | insert a s ha ih =>
    rw [Finset.sum_insert ha, Finset.sum_insert ha, ← ih,
      EReal.right_distrib_of_nonneg_of_ne_top (by exact_mod_cast hc) (EReal.coe_ne_top c)]

/-- The decay of one step is not negative. -/
theorem gam_nonneg (x : EReal) : 0 ≤ gam x := by
  have h := gam_pow x 1
  rw [pow_one] at h
  have : (0 : EReal) ≤ Ideal.exp (lsk x * (((1 : ℕ) : ℝ) : EReal)) := by
    generalize lsk x * (((1 : ℕ) : ℝ) : EReal) = y
    induction y using EReal.rec with
    | bot => simp
    | top => simp
    | coe r => rw [Ideal.exp_coe]; exact_mod_cast (Real.exp_pos r).le
  rw [h] at this
  exact_mod_cast this

/-- The state after both chunks is the whole decayed sum. -/
theorem S2_eq (γ : ℝ) (hγ : 0 ≤ γ) (k v : Fin 256 → EReal) :
    S2 γ k v = ∑ j : Fin 256, (k j * ((γ ^ (255 - j.val) : ℝ) : EReal)) * v j := by
  unfold S2 S1
  rw [sum_halves, zero_mul, zero_add, sum_mul_real _ _ _ (pow_nonneg hγ 128)]
  refine congrArg₂ _ (Finset.sum_congr rfl fun j _ => ?_) (Finset.sum_congr rfl fun j _ => ?_)
  · have e : 255 - (lo j).val = (127 - j.val) + 128 := by simp only [lo]; omega
    rw [e, pow_add, EReal.coe_mul]
    simp only [mul_assoc, mul_comm, mul_left_comm]
  · have e : 255 - (hi j).val = 127 - j.val := by simp only [hi]; omega
    rw [e]

/-- Over the rows in reverse, the state is the sum with the decay counted from the start. -/
theorem S2_rev (γ : ℝ) (hγ : 0 ≤ γ) (k v : Fin 256 → EReal) :
    S2 γ (fun j => k j.rev) (fun j => v j.rev) = ∑ j : Fin 256, (k j * ((γ ^ j.val : ℝ) : EReal)) * v j := by
  rw [S2_eq γ hγ]
  refine Fintype.sum_equiv Fin.revPerm _ _ fun j => ?_
  simp only [Fin.revPerm_apply]
  rw [show (Fin.rev j).val = 255 - j.val by simp only [Fin.val_rev]; omega]

/-- Row `i` of the chunked recurrence. -/
def O (γ : ℝ) (q k : Fin 256 → Fin 256 → EReal) (v : Fin 256 → EReal) (i : Fin 256) : EReal :=
  if h : i.val < 128 then O1 γ q k v ⟨i.val, h⟩ else O2 γ q k v ⟨i.val - 128, by omega⟩

/-- It is the whole decayed sum. -/
theorem O_eq (γ : ℝ) (q k : Fin 256 → Fin 256 → ℝ) (v : Fin 256 → ℝ) (i : Fin 256) :
    O γ (fun a b => (q a b : EReal)) (fun a b => (k a b : EReal)) (fun a => (v a : EReal)) i
      = ((∑ j : Fin 256, ((∑ d, q i d * k j d) * (if j ≤ i then γ ^ (i.val - j.val) else 0)) * v j : ℝ) : EReal) := by
  unfold O
  split
  · rename_i h
    exact O1_eq γ q k v ⟨i.val, h⟩
  · rename_i h
    have e : hi ⟨i.val - 128, by omega⟩ = i := Fin.ext (by simp only [hi]; omega)
    rw [O2_eq, e]

/-- The whole form: the scores with both decays, on the values, and the query on the two zero states. -/
def whole (γ δ : ℝ) (q k : Fin 256 → Fin 256 → EReal) (v : Fin 256 → EReal) (e e' : EReal) (i : Fin 256) : EReal :=
  ((∑ j : Fin 256, ((∑ d, q i d * k j d) * ((if j ≤ i then ((γ ^ (i.val - j.val) : ℝ) : EReal) else 0)
      + (if i ≤ j then ((δ ^ (j.val - i.val) : ℝ) : EReal) else 0))) * v j)
    + (∑ d, q i d * 0) * e) + (∑ d, q i d * 0) * e'

/-- The whole form is the sum of the recurrence forwards and the recurrence over the rows in reverse. -/
theorem whole_eq (γ δ : ℝ) (q k : Fin 256 → Fin 256 → ℝ) (v : Fin 256 → ℝ) (e e' : EReal) (i : Fin 256) :
    whole γ δ (fun a b => (q a b : EReal)) (fun a b => (k a b : EReal)) (fun a => (v a : EReal)) e e' i
      = O γ (fun a b => (q a b : EReal)) (fun a b => (k a b : EReal)) (fun a => (v a : EReal)) i
        + O δ (fun a b => (q a.rev b : EReal)) (fun a b => (k a.rev b : EReal)) (fun a => (v a.rev : EReal)) i.rev := by
  rw [O_eq γ q k v i, O_eq δ (fun a => q a.rev) (fun a => k a.rev) (fun a => v a.rev) i.rev]
  unfold whole
  have z : (∑ d : Fin 256, (q i d : EReal) * 0) = 0 := Finset.sum_eq_zero fun d _ => mul_zero _
  simp only [z, zero_mul, add_zero]
  simp only [← EReal.coe_zero, ← apply_ite (fun r : ℝ => (r : EReal)), ← EReal.coe_mul, coe_sum, ← EReal.coe_add]
  refine congrArg _ ?_
  have r : (∑ j : Fin 256, ((∑ d, q i.rev.rev d * k j.rev d) * (if j ≤ i.rev then δ ^ (i.rev.val - j.val) else 0)) * v j.rev)
      = ∑ j : Fin 256, ((∑ d, q i d * k j d) * (if i ≤ j then δ ^ (j.val - i.val) else 0)) * v j := by
    refine Fintype.sum_equiv Fin.revPerm _ _ fun j => ?_
    simp only [Fin.revPerm_apply, Fin.rev_rev]
    refine congrArg (· * _) (congrArg _ (if_congr ?_ (congrArg _ ?_) rfl))
    · simp only [Fin.le_def, Fin.val_rev]; omega
    · simp only [Fin.val_rev]; omega
  rw [r, ← Finset.sum_add_distrib]
  exact Finset.sum_congr rfl fun j _ => by ring

/-- The pattern of 127. -/
theorem c127 : Ideal.ofBits .f32 0x42FE0000#32 = ((127 : ℝ) : EReal) := by
  simp [Ideal.ofBits, Ideal.ieee, -EReal.coe_mul]; norm_num

/-- The pattern of 128. -/
theorem c128 : Ideal.ofBits .f32 0x43000000#32 = ((128 : ℝ) : EReal) := by
  simp [Ideal.ofBits, Ideal.ieee, -EReal.coe_mul]; norm_num

/-- The pattern of 255. -/
theorem c255 : Ideal.ofBits .f32 0x437F0000#32 = ((255 : ℝ) : EReal) := by
  simp [Ideal.ofBits, Ideal.ieee, -EReal.coe_mul]; norm_num

/-- The pattern of infinity. -/
theorem cinf : Ideal.ofBits .f32 0x7F800000#32 = ⊤ := by
  simp [Ideal.ofBits, Ideal.ieee]

/-- The larger of a difference of whole numbers and zero. -/
theorem max_gap (i j : ℕ) : max (((i : ℝ) : EReal) - ((j : ℝ) : EReal)) 0 = (((i - j : ℕ) : ℝ) : EReal) := by
  rw [← EReal.coe_sub, ← EReal.coe_zero, ← coe_max]
  refine congrArg _ ?_
  rcases le_total j i with h | h
  · rw [Nat.cast_sub h, max_eq_left (by have : (j : ℝ) ≤ i := by exact_mod_cast h
                                        linarith)]
  · rw [Nat.sub_eq_zero_of_le h, Nat.cast_zero, max_eq_right (by have : (i : ℝ) ≤ j := by exact_mod_cast h
                                                                 linarith)]

/-- A difference of whole numbers is nonnegative when they are in order. -/
theorem gap_nonneg (i j : ℕ) : 0 ≤ ((i : ℝ) : EReal) - ((j : ℝ) : EReal) ↔ j ≤ i := by
  rw [← EReal.coe_sub, ← EReal.coe_zero, EReal.coe_le_coe_iff, sub_nonneg, Nat.cast_le]

/-- A difference of whole numbers is at most zero when they are in the other order. -/
theorem gap_nonpos (i j : ℕ) : ((i : ℝ) : EReal) - ((j : ℝ) : EReal) ≤ 0 ↔ i ≤ j := by
  rw [← EReal.coe_sub, ← EReal.coe_zero, EReal.coe_le_coe_iff, sub_nonpos, Nat.cast_le]

/-- A difference of whole numbers turned round. -/
theorem gap_neg (i j : ℕ) : 0 - (((i : ℝ) : EReal) - ((j : ℝ) : EReal)) = ((j : ℝ) : EReal) - ((i : ℝ) : EReal) := by
  rw [← EReal.coe_sub, ← EReal.coe_sub, ← EReal.coe_zero, ← EReal.coe_sub]
  exact congrArg _ (by ring)

/-- A whole number less another below it. -/
theorem gap_coe (n i : ℕ) (h : i ≤ n) : ((n : ℝ) : EReal) - ((i : ℝ) : EReal) = (((n - i : ℕ) : ℝ) : EReal) := by
  rw [← EReal.coe_sub, Nat.cast_sub h]

/-- A word of a small number, read as a number. -/
theorem word_int (i : ℕ) (h : i < 256) : (BitVec.ofNat 32 i).toInt = (i : ℤ) := by
  rw [BitVec.toInt_eq_toNat_bmod, BitVec.toNat_ofNat, Int.bmod_def]
  split <;> omega

/-- A word of a small number, read as a real. -/
theorem word_real (i : ℕ) (h : i < 256) : (((BitVec.ofNat 32 i).toInt : ℝ) : EReal) = ((i : ℝ) : EReal) := by
  rw [word_int i h, Int.cast_natCast]

/-- A difference of words of small numbers, read as a real. -/
theorem words_real (i j : ℕ) (hi : i < 256) (hj : j < 256) :
    (((BitVec.ofNat 32 i - BitVec.ofNat 32 j).toInt : ℝ) : EReal) = ((i : ℝ) : EReal) - ((j : ℝ) : EReal) := by
  have e : (BitVec.ofNat 32 i - BitVec.ofNat 32 j).toInt = (i : ℤ) - j := by
    rw [BitVec.toInt_sub, word_int i hi, word_int j hj, Int.bmod_def]
    split <;> omega
  rw [e, Int.cast_sub, Int.cast_natCast, Int.cast_natCast, EReal.coe_sub]

/-- The query entry of sequence `b`, head `h`, row `i`. -/
def qAt (X : (⟨2, ![1024, 12288]⟩ : Shape).Idx → EReal) (b : Fin 4) (h : Fin 8) (i : Fin 256) (d : Fin 256) : EReal :=
  X (ix2 ⟨b.val * 256 + i.val, by omega⟩ ⟨h.val * 256 + d.val, by omega⟩)

/-- The key entry. -/
def kAt (X : (⟨2, ![1024, 12288]⟩ : Shape).Idx → EReal) (b : Fin 4) (h : Fin 8) (i : Fin 256) (d : Fin 256) : EReal :=
  X (ix2 ⟨b.val * 256 + i.val, by omega⟩ ⟨2048 + (h.val * 256 + d.val), by omega⟩)

/-- The value entry. -/
def vAt (X : (⟨2, ![1024, 12288]⟩ : Shape).Idx → EReal) (b : Fin 4) (h : Fin 8) (i : Fin 256) (e : Fin 512) : EReal :=
  X (ix2 ⟨b.val * 256 + i.val, by omega⟩ ⟨4096 + (h.val * 512 + e.val), by omega⟩)

/-- The gate entry. -/
def gAt (X : (⟨2, ![1024, 12288]⟩ : Shape).Idx → EReal) (b : Fin 4) (h : Fin 8) (i : Fin 256) (e : Fin 512) : EReal :=
  X (ix2 ⟨b.val * 256 + i.val, by omega⟩ ⟨8192 + (h.val * 512 + e.val), by omega⟩)

/-- A row's output by the chunked recurrences, forwards and over the rows in reverse. -/
def both (X : (⟨2, ![1024, 12288]⟩ : Shape).Idx → EReal) (A B : (⟨1, ![8]⟩ : Shape).Idx → EReal) (b : Fin 4) (h : Fin 8) (i : Fin 256) (e : Fin 512) : EReal :=
  O (gam (A (ix1 h))) (fun i d => qAt X b h i d) (fun j d => kAt X b h j d) (fun j => vAt X b h j e) i
    + O (gam (B (ix1 h))) (fun i d => qAt X b h i.rev d) (fun j d => kAt X b h j.rev d) (fun j => vAt X b h j.rev e) i.rev

/-- Over finite entries the whole form is the recurrences' sum. -/
theorem whole_both (X : (⟨2, ![1024, 12288]⟩ : Shape).Idx → EReal) (A B : (⟨1, ![8]⟩ : Shape).Idx → EReal) (hX : ∀ j, ∃ r : ℝ, X j = (r : EReal))
    (b : Fin 4) (h : Fin 8) (i : Fin 256) (e : Fin 512) (u u' : EReal) :
    whole (gam (A (ix1 h))) (gam (B (ix1 h))) (fun i d => qAt X b h i d) (fun j d => kAt X b h j d) (fun j => vAt X b h j e) u u' i = both X A B b h i e := by
  choose x hx using hX
  unfold both qAt kAt vAt
  simp only [hx]
  exact whole_eq _ _ (fun i d => x (ix2 ⟨b.val * 256 + i.val, by omega⟩ ⟨h.val * 256 + d.val, by omega⟩))
    (fun i d => x (ix2 ⟨b.val * 256 + i.val, by omega⟩ ⟨2048 + (h.val * 256 + d.val), by omega⟩))
    (fun i => x (ix2 ⟨b.val * 256 + i.val, by omega⟩ ⟨4096 + (h.val * 512 + e.val), by omega⟩)) u u' i

/-- The gated norm of a row. -/
def gated (o : Fin 512 → EReal) (g : EReal) (e : Fin 512) : EReal :=
  g * Ideal.logistic g * (o e * Ideal.rsqrt (Ideal.div (∑ x, o x * o x) (Ideal.ofBits .f32 0x44000000#32) + Ideal.ofBits .f32 0x358637BD#32))

end Cert.RetCore

end

end
-- ==== Proof.RetCtxBlocks.lean ====
module

public import proofs.«01_k».proof.Proof.RetCore
public import proofs.«01_k».proof.Proof.Gen.RetCtxIdeal.Skeleton
public import proofs.«01_k».proof.Proof.Gen.RetCtxIdeal.Value
public import Idealize.ShloMosaic.Lib.Pipeline.ValueKit

@[expose] public section

/-! The context's retention: the kernel's values, the blocks one grid point reads, and the result arrays. -/

set_option maxRecDepth 16384

noncomputable section

namespace Cert.RetCtxIdeal.Value

open Cert.RetCtxIdeal Cert.RetCtxIdeal.Gen Idealize.ShloMosaic Idealize.ShloMosaic.TcCoe Idealize.SL.Sem
open Idealize.ShloMosaic.Pipeline (Dat)
open Cert.RetCore

/-- The decay between two rows, from both sides. -/
theorem pay1_read (x y : EReal) (i j : Fin 256) :
    k0_pay1 (F := Ideal) x y (ix2 i j) = (if j ≤ i then ((gam x ^ (i.val - j.val) : ℝ) : EReal) else 0) + (if i ≤ j then ((gam y ^ (j.val - i.val) : ℝ) : EReal) else 0) := by
  simp only [← gam_pow, ← max_gap]
  pointwise [k0_pay1]
  show ((if 0 ≤ (((BitVec.ofNat 32 i.val - BitVec.ofNat 32 j.val).toInt : ℝ) : EReal) then
        Ideal.exp (lsk x * max (((BitVec.ofNat 32 i.val - BitVec.ofNat 32 j.val).toInt : ℝ) : EReal) 0) else 0) +
      if (((BitVec.ofNat 32 i.val - BitVec.ofNat 32 j.val).toInt : ℝ) : EReal) ≤ 0 then
        Ideal.exp (lsk y * max (0 - (((BitVec.ofNat 32 i.val - BitVec.ofNat 32 j.val).toInt : ℝ) : EReal)) 0) else 0) = _
  rw [words_real i.val j.val i.isLt j.isLt, gap_neg]
  simp only [gap_nonneg, gap_nonpos]
  rfl

/-- A row's place. -/
theorem pay2_read (i : Fin 256) : k0_pay2 (F := Ideal) (ix2 i 0) = ((i.val : ℝ) : EReal) := by
  pointwise [k0_pay2]
  exact word_real i.val i.isLt

/-- The log of a decay. -/
theorem pay3_read (x : EReal) (i : Fin 256) : k0_pay3 (F := Ideal) x (ix2 i 0) = lsk x := by
  unfold lsk
  pointwise [k0_pay3]
  rfl

/-- The log of a decay. -/
theorem pay4_read (x : EReal) (i : Fin 256) : k0_pay4 (F := Ideal) x (ix2 i 0) = lsk x := by
  unfold lsk
  pointwise [k0_pay4]
  rfl

/-- The decay to the forward state. -/
theorem pay6_read (x : EReal) (i : Fin 256) : k0_pay6 (F := Ideal) k0_pay2 x (ix2 i 0) = ((gam x ^ (255 - i.val) : ℝ) : EReal) := by
  rw [← gam_pow, ← gap_coe 255 i.val (by omega)]
  pointwise [k0_pay6, pay3_read, pay2_read]
  rw [c255]
  norm_num

/-- The decay to the backward state. -/
theorem pay9_read (x : EReal) (i : Fin 256) : k0_pay9 (F := Ideal) k0_pay2 x (ix2 i 0) = ((gam x ^ i.val : ℝ) : EReal) := by
  rw [← gam_pow]
  pointwise [k0_pay9, pay4_read, pay2_read]

/-- The zero state held. -/
theorem pay11_read (s : FVec Ideal S1x1x256x512 .f32) (d : Fin 256) (e : Fin 512) : k0_pay11 (F := Ideal) s (ix2 d e) = s (ix4 0 0 d e) := by
  pointwise [k0_pay11]

/-- The zero state held. -/
theorem pay16_read (s : FVec Ideal S1x1x256x512 .f32) (d : Fin 256) (e : Fin 512) : k0_pay16 (F := Ideal) s (ix2 d e) = s (ix4 0 0 d e) := by
  pointwise [k0_pay16]

/-- The queries on the state. -/
theorem pay12_read (w : FVec Ideal S256x1 .f32) (q : FVec Ideal S256x256 .bf16) (s : FVec Ideal S256x512 .f32) (i : Fin 256) (e : Fin 512) :
    k0_pay12 (F := Ideal) w q s (ix2 i e) = (∑ d : Fin 256, q (ix2 i d) * s (ix2 d e)) * w (ix2 i 0) := by
  pointwise [k0_pay12]

/-- The decayed keys. -/
theorem pay13_read (w : FVec Ideal S256x1 .f32) (k : FVec Ideal S256x256 .bf16) (j d : Fin 256) :
    k0_pay13 (F := Ideal) w k (ix2 j d) = k (ix2 j d) * w (ix2 j 0) := by
  pointwise [k0_pay13]

/-- The forward state. -/
theorem pay14_read (u : FVec Ideal S1x1 .f32) (v : FVec Ideal S256x512 .bf16) (s : FVec Ideal S256x512 .f32) (k : FVec Ideal S256x256 .bf16) (d : Fin 256) (e : Fin 512) :
    k0_pay14 (F := Ideal) u v s k (ix2 d e) = s (ix2 d e) * u (ix2 0 0) + ∑ j : Fin 256, k (ix2 j d) * v (ix2 j e) := by
  pointwise [k0_pay14]

/-- The forward state laid out. -/
theorem pay15_read (s : FVec Ideal S256x512 .f32) (d : Fin 256) (e : Fin 512) : k0_pay15 (F := Ideal) s (ix4 0 0 d e) = s (ix2 d e) := by
  pointwise [k0_pay15]

/-- The backward state laid out. -/
theorem pay21_read (s : FVec Ideal S256x512 .f32) (d : Fin 256) (e : Fin 512) : k0_pay21 (F := Ideal) s (ix4 0 0 d e) = s (ix2 d e) := by
  pointwise [k0_pay21]

/-- The decayed scores on the values. -/
theorem pay17_read (D : FVec Ideal S256x256 .f32) (q k : FVec Ideal S256x256 .bf16) (v : FVec Ideal S256x512 .bf16) (i : Fin 256) (e : Fin 512) :
    k0_pay17 (F := Ideal) D q k v (ix2 i e) = ∑ j : Fin 256, ((∑ d : Fin 256, q (ix2 i d) * k (ix2 j d)) * D (ix2 i j)) * v (ix2 j e) := by
  pointwise [k0_pay17]

/-- The gated norm of the summed outputs. -/
theorem pay19_read (w : FVec Ideal S256x1 .f32) (q : FVec Ideal S256x256 .bf16) (p : FVec Ideal S256x512 .f32) (s : FVec Ideal S256x512 .bf16)
    (o : FVec Ideal S256x512 .f32) (g : FVec Ideal S256x512 .bf16) (i : Fin 256) (e : Fin 512) :
    k0_pay19 (F := Ideal) w q p s o g (ix2 i e)
      = gated (fun e => (p (ix2 i e) + (∑ d : Fin 256, q (ix2 i d) * s (ix2 d e)) * w (ix2 i 0)) + o (ix2 i e)) (g (ix2 i e)) e := by
  unfold gated
  pointwise [k0_pay19]

/-- The backward state. -/
theorem pay20_read (w : FVec Ideal S256x1 .f32) (u : FVec Ideal S1x1 .f32) (k : FVec Ideal S256x256 .bf16) (v : FVec Ideal S256x512 .bf16) (s : FVec Ideal S256x512 .f32) (d : Fin 256) (e : Fin 512) :
    k0_pay20 (F := Ideal) w u k v s (ix2 d e) = s (ix2 d e) * u (ix2 0 0) + ∑ j : Fin 256, (k (ix2 j d) * w (ix2 j 0)) * v (ix2 j e) := by
  pointwise [k0_pay20]

variable (m : (ℓ : Loc nD τ sig) → Buf (Elt Ideal) ℓ)

/-- Where the windows stand at each grid point. -/
theorem idx_val : ∀ t : Fin cfg0.N,
    (grid0.coords t 0).val = t.val / 8
    ∧ (grid0.coords t 1).val = t.val % 8
    ∧ win0_0.index t = ![0]
    ∧ win0_1.index t = ![0]
    ∧ win0_2.index t = ![t.val / 8, t.val % 8]
    ∧ win0_3.index t = ![t.val / 8, 8 + t.val % 8]
    ∧ win0_4.index t = ![t.val / 8, 8 + t.val % 8]
    ∧ win0_5.index t = ![t.val / 8, 16 + t.val % 8]
    ∧ win0_6.index t = ![t.val / 8, t.val % 8, 0, 0]
    ∧ win0_7.index t = ![t.val / 8, t.val % 8, 0, 0]
    ∧ win0_8.index t = ![t.val / 8, t.val % 8]
    ∧ win0_9.index t = ![t.val / 8, t.val % 8, 0, 0]
    ∧ win0_10.index t = ![t.val / 8, t.val % 8, 0, 0] :=
  (by decide +kernel : ∀ t : Fin grid0.N, _)

/-- The sequence of a grid point. -/
def bAt (k : ℕ) : Fin 4 := ⟨k / 8 % 4, Nat.mod_lt _ (by decide)⟩

/-- The head of a grid point. -/
def hAt (k : ℕ) : Fin 8 := ⟨k % 8, Nat.mod_lt _ (by decide)⟩

/-- Window 0: the forward decays. -/
theorem blk0 (c : Dev nD) (t : Fin cfg0.N) (h : Fin 8) : iblk m c 0 t (ix1 h) = m ((c : Thread nD τ).loc main_arg1) (ix1 h) := by
  blk_point [iblk, V, idx_val t]

/-- Window 1: the backward decays. -/
theorem blk1 (c : Dev nD) (t : Fin cfg0.N) (h : Fin 8) : iblk m c 1 t (ix1 h) = m ((c : Thread nD τ).loc main_arg2) (ix1 h) := by
  blk_point [iblk, V, idx_val t]

/-- Window 2: the queries. -/
theorem blk2 (c : Dev nD) (t : Fin cfg0.N) (i d : Fin 256) :
    iblk m c 2 t (ix2 i d) = qAt (m ((c : Thread nD τ).loc main_arg0)) (bAt t.val) (hAt t.val) i d := by
  have ht : t.val < 32 := lt_of_lt_of_eq t.isLt N_0
  unfold qAt bAt hAt
  blk_point [iblk, V, idx_val t]

/-- Window 3: the keys. -/
theorem blk3 (c : Dev nD) (t : Fin cfg0.N) (i d : Fin 256) :
    iblk m c 3 t (ix2 i d) = kAt (m ((c : Thread nD τ).loc main_arg0)) (bAt t.val) (hAt t.val) i d := by
  have ht : t.val < 32 := lt_of_lt_of_eq t.isLt N_0
  unfold kAt bAt hAt
  blk_point [iblk, V, idx_val t]

/-- Window 4: the values. -/
theorem blk4 (c : Dev nD) (t : Fin cfg0.N) (i : Fin 256) (e : Fin 512) :
    iblk m c 4 t (ix2 i e) = vAt (m ((c : Thread nD τ).loc main_arg0)) (bAt t.val) (hAt t.val) i e := by
  have ht : t.val < 32 := lt_of_lt_of_eq t.isLt N_0
  unfold vAt bAt hAt
  blk_point [iblk, V, idx_val t]

/-- Window 5: the gates. -/
theorem blk5 (c : Dev nD) (t : Fin cfg0.N) (i : Fin 256) (e : Fin 512) :
    iblk m c 5 t (ix2 i e) = gAt (m ((c : Thread nD τ).loc main_arg0)) (bAt t.val) (hAt t.val) i e := by
  have ht : t.val < 32 := lt_of_lt_of_eq t.isLt N_0
  unfold gAt bAt hAt
  blk_point [iblk, V, idx_val t]

/-- The state passed in: zero everywhere. -/
theorem V_zero (c : Dev nD) : V m c main_v0 = fun _ => (0 : EReal) := by
  refine Eq.trans (b := (broadcastInDim S4x8x256x512 ![] bcast_S_S4x8x256x512 (constant (F := Ideal) S_ .f32 0x00000000#32) : FVec Ideal S4x8x256x512 .f32)) rfl ?_
  funext j
  pointwise

/-- Window 6: the zero state. -/
theorem blk6 (c : Dev nD) (t : Fin cfg0.N) (d : Fin 256) (e : Fin 512) : iblk m c 6 t (ix4 0 0 d e) = (0 : EReal) := by
  exact congrFun (V_zero m c) _

/-- Window 7: the zero state. -/
theorem blk7 (c : Dev nD) (t : Fin cfg0.N) (d : Fin 256) (e : Fin 512) : iblk m c 7 t (ix4 0 0 d e) = (0 : EReal) := by
  exact congrFun (V_zero m c) _

/-- Where a head's decay is read at each grid point. -/
theorem off_val : ∀ t : Fin cfg0.N, k0_off1 (grid0.coords t) 0 = t.val % 8 :=
  (by decide +kernel : ∀ t : Fin grid0.N, _)

/-- A head's forward decay. -/
theorem ld0 (c : Dev nD) (t : Fin cfg0.N) (hb : ∀ a, k0_off1 (grid0.coords t) a + ![1] a ≤ S8.size a) (hp : 0 < (Rect.unit (s := S8) (k0_off1 (grid0.coords t)) ![1] hb).toLoadRect.shape.numel) :
    View.ld (iblk m c 0 t : S8.Idx → EReal) (Rect.unit (s := S8) (k0_off1 (grid0.coords t)) ![1] hb) (Shape.Idx.first hp) = m ((c : Thread nD τ).loc main_arg1) (ix1 (hAt t.val)) := by
  refine Eq.trans (congrArg (iblk m c 0 t : S8.Idx → EReal) (a₂ := ix1 (hAt t.val)) ?_) (blk0 m c t (hAt t.val))
  funext a
  fin_cases a
  exact Fin.ext (off_val t)

/-- A head's backward decay. -/
theorem ld1 (c : Dev nD) (t : Fin cfg0.N) (hb : ∀ a, k0_off1 (grid0.coords t) a + ![1] a ≤ S8.size a) (hp : 0 < (Rect.unit (s := S8) (k0_off1 (grid0.coords t)) ![1] hb).toLoadRect.shape.numel) :
    View.ld (iblk m c 1 t : S8.Idx → EReal) (Rect.unit (s := S8) (k0_off1 (grid0.coords t)) ![1] hb) (Shape.Idx.first hp) = m ((c : Thread nD τ).loc main_arg2) (ix1 (hAt t.val)) := by
  refine Eq.trans (congrArg (iblk m c 1 t : S8.Idx → EReal) (a₂ := ix1 (hAt t.val)) ?_) (blk1 m c t (hAt t.val))
  funext a
  fin_cases a
  exact Fin.ext (off_val t)

/-- The block of the outputs a grid point leaves, over the blocks it reads. -/
theorem out8 (c : Dev nD) (t : Fin cfg0.N) : (outsAt0 m c t).1
    = k0_pay19 (F := Ideal) (k0_pay8 k0_pay2 (m ((c : Thread nD τ).loc main_arg2) (ix1 (hAt t.val)))) (iblk m c 2 t)
        (k0_pay17 (k0_pay1 (m ((c : Thread nD τ).loc main_arg1) (ix1 (hAt t.val))) (m ((c : Thread nD τ).loc main_arg2) (ix1 (hAt t.val)))) (iblk m c 2 t) (iblk m c 3 t) (iblk m c 4 t))
        (k0_pay18 (k0_pay16 (iblk m c 7 t)))
        (k0_pay12 (k0_pay5 k0_pay2 (m ((c : Thread nD τ).loc main_arg1) (ix1 (hAt t.val)))) (iblk m c 2 t) (k0_pay11 (iblk m c 6 t)))
        (iblk m c 5 t) := by
  funext j
  unfold outsAt0
  dsimp only
  frame_out
  erw [ld0 m c t, ld1 m c t]

/-- The block of the forward state a grid point leaves, over the blocks it reads. -/
theorem out9 (c : Dev nD) (t : Fin cfg0.N) : (outsAt0 m c t).2.1
    = k0_pay15 (F := Ideal) (k0_pay14 (k0_pay7 (m ((c : Thread nD τ).loc main_arg1) (ix1 (hAt t.val)))) (iblk m c 4 t) (k0_pay11 (iblk m c 6 t))
        (k0_pay13 (k0_pay6 k0_pay2 (m ((c : Thread nD τ).loc main_arg1) (ix1 (hAt t.val)))) (iblk m c 3 t))) := by
  funext j
  unfold outsAt0
  dsimp only
  frame_out
  erw [ld0 m c t]

/-- The block of the backward state a grid point leaves, over the blocks it reads. -/
theorem out10 (c : Dev nD) (t : Fin cfg0.N) : (outsAt0 m c t).2.2
    = k0_pay21 (F := Ideal) (k0_pay20 (k0_pay9 k0_pay2 (m ((c : Thread nD τ).loc main_arg2) (ix1 (hAt t.val)))) (k0_pay10 (m ((c : Thread nD τ).loc main_arg2) (ix1 (hAt t.val))))
        (iblk m c 3 t) (iblk m c 4 t) (k0_pay16 (iblk m c 7 t))) := by
  funext j
  unfold outsAt0
  dsimp only
  frame_out
  erw [ld1 m c t]

/-- The outputs over the argument arrays. -/
def G8 (X : (⟨2, ![1024, 12288]⟩ : Shape).Idx → EReal) (A B : (⟨1, ![8]⟩ : Shape).Idx → EReal) (j : S1024x4096.Idx) : EReal :=
  gated (both X A B ⟨(j 0).val / 256, Nat.div_lt_of_lt_mul (show (j 0).val < 256 * 4 from (j 0).isLt)⟩ ⟨(j 1).val / 512, Nat.div_lt_of_lt_mul (show (j 1).val < 512 * 8 from (j 1).isLt)⟩ ⟨(j 0).val % 256, Nat.mod_lt _ (by decide)⟩)
    (gAt X ⟨(j 0).val / 256, Nat.div_lt_of_lt_mul (show (j 0).val < 256 * 4 from (j 0).isLt)⟩ ⟨(j 1).val / 512, Nat.div_lt_of_lt_mul (show (j 1).val < 512 * 8 from (j 1).isLt)⟩ ⟨(j 0).val % 256, Nat.mod_lt _ (by decide)⟩ ⟨(j 1).val % 512, Nat.mod_lt _ (by decide)⟩)
    ⟨(j 1).val % 512, Nat.mod_lt _ (by decide)⟩

/-- The forward state over the argument arrays. -/
def G9 (X : (⟨2, ![1024, 12288]⟩ : Shape).Idx → EReal) (A : (⟨1, ![8]⟩ : Shape).Idx → EReal) (j : S4x8x256x512.Idx) : EReal :=
  ∑ i : Fin 256, (kAt X (j 0) (j 1) i (j 2) * ((gam (A (ix1 (j 1))) ^ (255 - i.val) : ℝ) : EReal)) * vAt X (j 0) (j 1) i (j 3)

/-- The backward state over the argument arrays. -/
def G10 (X : (⟨2, ![1024, 12288]⟩ : Shape).Idx → EReal) (B : (⟨1, ![8]⟩ : Shape).Idx → EReal) (j : S4x8x256x512.Idx) : EReal :=
  ∑ i : Fin 256, (kAt X (j 0) (j 1) i (j 2) * ((gam (B (ix1 (j 1))) ^ i.val : ℝ) : EReal)) * vAt X (j 0) (j 1) i (j 3)

/-- The row `i` of the block of sequence `k / 8`. -/
def rowAt (k : ℕ) (i : Fin 256) : Fin 1024 := ⟨(k / 8 * 256 + i.val) % 1024, Nat.mod_lt _ (by decide)⟩

/-- The column `e` of the block of head `k % 8`. -/
def colAt (k : ℕ) (e : Fin 512) : Fin 4096 := ⟨(k % 8 * 512 + e.val) % 4096, Nat.mod_lt _ (by decide)⟩

/-- The outputs of one grid point. -/
theorem block8 (c : Dev nD) (hX : ∀ j, ∃ r : ℝ, m ((c : Thread nD τ).loc main_arg0) j = (r : EReal)) (t : Fin cfg0.N) (i : Fin 256) (e : Fin 512) :
    (outsAt0 m c t).1 (ix2 i e)
      = G8 (m ((c : Thread nD τ).loc main_arg0)) (m ((c : Thread nD τ).loc main_arg1)) (m ((c : Thread nD τ).loc main_arg2)) (ix2 (rowAt t.val i) (colAt t.val e)) := by
  have ht : t.val < 32 := lt_of_lt_of_eq t.isLt N_0
  have hi := i.isLt
  have he := e.isLt
  rw [out8 m c t]
  refine (pay19_read _ _ _ _ _ _ i e).trans ?_
  have z7 : ∀ d e, k0_pay18 (F := Ideal) (k0_pay16 (iblk m c 7 t)) (ix2 d e) = 0 := fun d e => (pay16_read _ d e).trans (blk7 m c t d e)
  have z6 : ∀ d e, k0_pay11 (F := Ideal) (iblk m c 6 t) (ix2 d e) = 0 := fun d e => (pay11_read _ d e).trans (blk6 m c t d e)
  simp only [pay17_read, pay12_read, pay1_read, z7, z6, blk2 m c t, blk3 m c t, blk4 m c t, blk5 m c t]
  have hb : (⟨(rowAt t.val i).val / 256, by have := (rowAt t.val i).isLt; omega⟩ : Fin 4) = bAt t.val := Fin.ext (by simp only [rowAt, bAt]; omega)
  have hh : (⟨(colAt t.val e).val / 512, by have := (colAt t.val e).isLt; omega⟩ : Fin 8) = hAt t.val := Fin.ext (by simp only [colAt, hAt]; omega)
  have hr : (⟨(rowAt t.val i).val % 256, Nat.mod_lt _ (by decide)⟩ : Fin 256) = i := Fin.ext (by simp only [rowAt]; omega)
  have hc : (⟨(colAt t.val e).val % 512, Nat.mod_lt _ (by decide)⟩ : Fin 512) = e := Fin.ext (by simp only [colAt]; omega)
  show _ = gated (both _ _ _ ⟨(rowAt t.val i).val / 256, _⟩ ⟨(colAt t.val e).val / 512, _⟩ ⟨(rowAt t.val i).val % 256, _⟩)
    (gAt _ ⟨(rowAt t.val i).val / 256, _⟩ ⟨(colAt t.val e).val / 512, _⟩ ⟨(rowAt t.val i).val % 256, _⟩ ⟨(colAt t.val e).val % 512, _⟩) ⟨(colAt t.val e).val % 512, _⟩
  rw [hb, hh, hr, hc]
  refine congrArg (fun o => gated o _ e) (funext fun x => ?_)
  exact whole_both _ _ _ hX _ _ i x _ _

/-- The forward state of one grid point. -/
theorem block9 (c : Dev nD) (t : Fin cfg0.N) (d : Fin 256) (e : Fin 512) :
    (outsAt0 m c t).2.1 (ix4 0 0 d e)
      = G9 (m ((c : Thread nD τ).loc main_arg0)) (m ((c : Thread nD τ).loc main_arg1)) (ix4 (bAt t.val) (hAt t.val) d e) := by
  rw [out9 m c t]
  refine (pay15_read _ d e).trans ((pay14_read _ _ _ _ d e).trans ?_)
  have z6 : k0_pay11 (F := Ideal) (iblk m c 6 t) (ix2 d e) = 0 := (pay11_read _ d e).trans (blk6 m c t d e)
  rw [z6, zero_mul, zero_add]
  simp only [pay13_read, pay6_read, blk3 m c t, blk4 m c t]
  rfl

/-- The backward state of one grid point. -/
theorem block10 (c : Dev nD) (t : Fin cfg0.N) (d : Fin 256) (e : Fin 512) :
    (outsAt0 m c t).2.2 (ix4 0 0 d e)
      = G10 (m ((c : Thread nD τ).loc main_arg0)) (m ((c : Thread nD τ).loc main_arg2)) (ix4 (bAt t.val) (hAt t.val) d e) := by
  rw [out10 m c t]
  refine (pay21_read _ d e).trans ((pay20_read _ _ _ _ _ d e).trans ?_)
  have z7 : k0_pay16 (F := Ideal) (iblk m c 7 t) (ix2 d e) = 0 := (pay16_read _ d e).trans (blk7 m c t d e)
  rw [z7, zero_mul, zero_add]
  simp only [pay9_read, blk3 m c t, blk4 m c t]
  rfl

/-- The outputs' array after the run. -/
theorem final8 (c : Dev nD) (hX : ∀ j, ∃ r : ℝ, m ((c : Thread nD τ).loc main_arg0) j = (r : EReal)) : (dats m 0 c).arrAt 8 (cfgs 0).N
    = G8 (m ((c : Thread nD τ).loc main_arg0)) (m ((c : Thread nD τ).loc main_arg1)) (m ((c : Thread nD τ).loc main_arg2)) := by
  refine (dats m 0 c).arrAt_eq_of_covers 8 _ (by decide +kernel) fun t _ y => ?_
  have ht : t.val < 32 := lt_of_lt_of_eq t.isLt N_0
  blk_simp
  rw [after0_8]
  have hy : (y 0).val < 256 := (y 0).isLt
  have hz : (y 1).val < 512 := (y 1).isLt
  have hr : (win0_8.blk t).view.emb y = ix2 (rowAt t.val (y 0)) (colAt t.val (y 1)) := by
    unfold rowAt colAt
    blk_ext [idx_val t]
  rw [hr]
  refine Eq.trans ?_ (block8 m c hX t (y 0) (y 1))
  rw [← eq_ix2 y]

/-- The forward state's array after the run. -/
theorem final9 (c : Dev nD) : (dats m 0 c).arrAt 9 (cfgs 0).N
    = G9 (m ((c : Thread nD τ).loc main_arg0)) (m ((c : Thread nD τ).loc main_arg1)) := by
  refine (dats m 0 c).arrAt_eq_of_covers 9 _ (by decide +kernel) fun t _ y => ?_
  have ht : t.val < 32 := lt_of_lt_of_eq t.isLt N_0
  blk_simp
  rw [after0_9]
  have h0 : (y 0).val < 1 := (y 0).isLt
  have h1 : (y 1).val < 1 := (y 1).isLt
  have h2 : (y 2).val < 256 := (y 2).isLt
  have h3 : (y 3).val < 512 := (y 3).isLt
  have hr : (win0_9.blk t).view.emb y = ix4 (bAt t.val) (hAt t.val) (y 2) (y 3) := by
    unfold bAt hAt
    blk_ext [idx_val t]
  rw [hr]
  refine Eq.trans ?_ (block9 m c t (y 2) (y 3))
  refine congrArg _ ?_
  refine (eq_ix4 y).trans ?_
  rw [show y 0 = (0 : Fin 1) from Fin.ext (Nat.lt_one_iff.mp h0), show y 1 = (0 : Fin 1) from Fin.ext (Nat.lt_one_iff.mp h1)]

/-- The backward state's array after the run. -/
theorem final10 (c : Dev nD) : (dats m 0 c).arrAt 10 (cfgs 0).N
    = G10 (m ((c : Thread nD τ).loc main_arg0)) (m ((c : Thread nD τ).loc main_arg2)) := by
  refine (dats m 0 c).arrAt_eq_of_covers 10 _ (by decide +kernel) fun t _ y => ?_
  have ht : t.val < 32 := lt_of_lt_of_eq t.isLt N_0
  blk_simp
  rw [after0_10]
  have h0 : (y 0).val < 1 := (y 0).isLt
  have h1 : (y 1).val < 1 := (y 1).isLt
  have h2 : (y 2).val < 256 := (y 2).isLt
  have h3 : (y 3).val < 512 := (y 3).isLt
  have hr : (win0_10.blk t).view.emb y = ix4 (bAt t.val) (hAt t.val) (y 2) (y 3) := by
    unfold bAt hAt
    blk_ext [idx_val t]
  rw [hr]
  refine Eq.trans ?_ (block10 m c t (y 2) (y 3))
  refine congrArg _ ?_
  refine (eq_ix4 y).trans ?_
  rw [show y 0 = (0 : Fin 1) from Fin.ext (Nat.lt_one_iff.mp h0), show y 1 = (0 : Fin 1) from Fin.ext (Nat.lt_one_iff.mp h1)]

end Cert.RetCtxIdeal.Value

end

end
-- ==== Proof.RetCtxRef.lean ====
module

public import proofs.«01_k».proof.Proof.RetCore
public import proofs.«01_k».proof.Proof.Gen.RetCtxReferenceIdeal

@[expose] public section

/-! The context's retention: the reference's steps, each a definition over its inputs, and each read at an index. -/

set_option maxRecDepth 16384

noncomputable section

namespace Cert.RetCtxReferenceIdeal.Value

open Cert.RetCtxReferenceIdeal Cert.RetCtxReferenceIdeal.Gen Idealize.ShloMosaic Idealize.ShloMosaic.TcCoe Idealize.SL.Sem

/-- The projected rows, by sequence. -/
def rows (X : FVec Ideal S1024x12288 .bf16) : FVec Ideal S4x256x12288 .f32 :=
  shapeCast _ (extf .f32 X bitsLt_bf16_f32) shapeCasts_S1024x12288_S4x256x12288

/-- The gates. -/
def gates (X : FVec Ideal S1024x12288 .bf16) : FVec Ideal S4x256x4096 .f32 :=
  extractStridedSlice S4x256x4096 ![0, 0, 8192] (rows X) slices_S4x256x12288_S4x256x4096_0_0_8192

/-- The queries, by head. -/
def queries (X : FVec Ideal S1024x12288 .bf16) : FVec Ideal S4x256x8x256 .f32 :=
  shapeCast _ (extractStridedSlice S4x256x2048 ![0, 0, 0] (rows X) slices_S4x256x12288_S4x256x2048_0_0_0) shapeCasts_S4x256x2048_S4x256x8x256

/-- The keys, by head. -/
def keys (X : FVec Ideal S1024x12288 .bf16) : FVec Ideal S4x256x8x256 .f32 :=
  shapeCast _ (extractStridedSlice S4x256x2048 ![0, 0, 2048] (rows X) slices_S4x256x12288_S4x256x2048_0_0_2048) shapeCasts_S4x256x2048_S4x256x8x256

/-- The values, by head. -/
def vals (X : FVec Ideal S1024x12288 .bf16) : FVec Ideal S4x256x8x512 .f32 :=
  shapeCast _ (extractStridedSlice S4x256x4096 ![0, 0, 4096] (rows X) slices_S4x256x12288_S4x256x4096_0_0_4096) shapeCasts_S4x256x4096_S4x256x8x512

/-- The logs of the decays. -/
def logs (A : FVec Ideal S8 .f32) : FVec Ideal S8 .f32 :=
  Host.negf (select (cmpf .une (subf (Host.negf A) (broadcastInDim S8 ![] bcast_S_S8 (constant S_ .f32 0x00000000#32) : FVec Ideal S8 .f32)) (subf (Host.negf A) (broadcastInDim S8 ![] bcast_S_S8 (constant S_ .f32 0x00000000#32) : FVec Ideal S8 .f32)))
    (addf (Host.negf A) (broadcastInDim S8 ![] bcast_S_S8 (constant S_ .f32 0x00000000#32)))
    (addf (maximumf (Host.negf A) (broadcastInDim S8 ![] bcast_S_S8 (constant S_ .f32 0x00000000#32)))
      (Host.log1p (Host.exp (Host.negf (Host.absf (subf (Host.negf A) (broadcastInDim S8 ![] bcast_S_S8 (constant S_ .f32 0x00000000#32)))))))))

/-- The zero state. -/
def zeros : FVec Ideal S4x8x256x512 .f32 := broadcastInDim S4x8x256x512 ![] bcast_S_S4x8x256x512 (constant S_ .f32 0x00000000#32)

/-- The rows' numbers in a chunk. -/
def places : FVec Ideal S128 .f32 := sitofp .f32 (iotaInDim S128 32 0)

/-- Their differences. -/
def gaps : FVec Ideal S128x128 .f32 :=
  subf (broadcastInDim S128x128 ![0, 1] bcast_S128x1_S128x128_0_1 (broadcastInDim S128x1 ![0] bcast_S128_S128x1_0 places))
    (broadcastInDim S128x128 ![0, 1] bcast_S1x128_S128x128_0_1 (broadcastInDim S1x128 ![1] bcast_S128_S1x128_1 places))

/-- The decay between two rows of a chunk. -/
def inner (L : FVec Ideal S8 .f32) : FVec Ideal S8x128x128 .f32 :=
  select (broadcastInDim S8x128x128 ![1, 2] bcast_S128x128_S8x128x128_1_2 (cmpf .oge gaps (broadcastInDim S128x128 ![] bcast_S_S128x128 (constant S_ .f32 0x00000000#32))))
    (Host.exp (mulf (broadcastInDim S8x128x128 ![0, 1, 2] bcast_S8x1x1_S8x128x128_0_1_2 (broadcastInDim S8x1x1 ![0] bcast_S8_S8x1x1_0 L))
      (broadcastInDim S8x128x128 ![0, 1, 2] bcast_S1x128x128_S8x128x128_0_1_2 (broadcastInDim S1x128x128 ![1, 2] bcast_S128x128_S1x128x128_1_2
        (maximumf gaps (broadcastInDim S128x128 ![] bcast_S_S128x128 (constant S_ .f32 0x00000000#32)))))))
    (broadcastInDim S8x128x128 ![] bcast_S_S8x128x128 (id (constant S_ .f32 0x00000000#32)))

/-- The decay from the state to a row. -/
def fromState (L : FVec Ideal S8 .f32) : FVec Ideal S1x8x128x1 .f32 :=
  broadcastInDim S1x8x128x1 ![1, 2] bcast_S8x128_S1x8x128x1_1_2 (Host.exp (mulf (broadcastInDim S8x128 ![0, 1] bcast_S8x1_S8x128_0_1 (broadcastInDim S8x1 ![0] bcast_S8_S8x1_0 L))
    (broadcastInDim S8x128 ![0, 1] bcast_S1x128_S8x128_0_1 (broadcastInDim S1x128 ![1] bcast_S128_S1x128_1 (addf places (broadcastInDim S128 ![] bcast_S_S128 (constant S_ .f32 0x3F800000#32)))))))

/-- The decay from a row to the next state. -/
def toState (L : FVec Ideal S8 .f32) : FVec Ideal S1x8x128x1 .f32 :=
  broadcastInDim S1x8x128x1 ![1, 2] bcast_S8x128_S1x8x128x1_1_2 (Host.exp (mulf (broadcastInDim S8x128 ![0, 1] bcast_S8x1_S8x128_0_1 (broadcastInDim S8x1 ![0] bcast_S8_S8x1_0 L))
    (broadcastInDim S8x128 ![0, 1] bcast_S1x128_S8x128_0_1 (broadcastInDim S1x128 ![1] bcast_S128_S1x128_1 (subf (broadcastInDim S128 ![] bcast_S_S128 (constant S_ .f32 0x42FE0000#32)) places)))))

/-- The decay over a chunk. -/
def across (L : FVec Ideal S8 .f32) : FVec Ideal S1x8x1x1 .f32 :=
  broadcastInDim S1x8x1x1 ![1] bcast_S8_S1x8x1x1_1 (Host.exp (mulf L (broadcastInDim S8 ![] bcast_S_S8 (constant S_ .f32 0x43000000#32))))

/-- Queries or keys by chunk. -/
def chunks (T : FVec Ideal S4x256x8x256 .f32) : FVec Ideal S2x4x8x128x256 .f32 :=
  transpose S2x4x8x128x256 [1, 0, 3, 2, 4] (shapeCast S4x2x128x8x256 T shapeCasts_S4x256x8x256_S4x2x128x8x256) transposes_S4x2x128x8x256_S2x4x8x128x256_1_0_3_2_4

/-- Values by chunk. -/
def chunksV (T : FVec Ideal S4x256x8x512 .f32) : FVec Ideal S2x4x8x128x512 .f32 :=
  transpose S2x4x8x128x512 [1, 0, 3, 2, 4] (shapeCast S4x2x128x8x512 T shapeCasts_S4x256x8x512_S4x2x128x8x512) transposes_S4x2x128x8x512_S2x4x8x128x512_1_0_3_2_4

/-- The first chunk. -/
def fst (T : FVec Ideal S4x256x8x256 .f32) : FVec Ideal S4x8x128x256 .f32 :=
  shapeCast _ (extractStridedSlice S1x4x8x128x256 ![0, 0, 0, 0, 0] (chunks T) slices_S2x4x8x128x256_S1x4x8x128x256_0_0_0_0_0) shapeCasts_S1x4x8x128x256_S4x8x128x256

/-- The second chunk. -/
def snd (T : FVec Ideal S4x256x8x256 .f32) : FVec Ideal S4x8x128x256 .f32 :=
  shapeCast _ (extractStridedSlice S1x4x8x128x256 ![1, 0, 0, 0, 0] (chunks T) slices_S2x4x8x128x256_S1x4x8x128x256_1_0_0_0_0) shapeCasts_S1x4x8x128x256_S4x8x128x256

/-- The first chunk's values. -/
def fstV (T : FVec Ideal S4x256x8x512 .f32) : FVec Ideal S4x8x128x512 .f32 :=
  shapeCast _ (extractStridedSlice S1x4x8x128x512 ![0, 0, 0, 0, 0] (chunksV T) slices_S2x4x8x128x512_S1x4x8x128x512_0_0_0_0_0) shapeCasts_S1x4x8x128x512_S4x8x128x512

/-- The second chunk's values. -/
def sndV (T : FVec Ideal S4x256x8x512 .f32) : FVec Ideal S4x8x128x512 .f32 :=
  shapeCast _ (extractStridedSlice S1x4x8x128x512 ![1, 0, 0, 0, 0] (chunksV T) slices_S2x4x8x128x512_S1x4x8x128x512_1_0_0_0_0) shapeCasts_S1x4x8x128x512_S4x8x128x512

/-- The state after a chunk. -/
def step (L : FVec Ideal S8 .f32) (S : FVec Ideal S4x8x256x512 .f32) (K : FVec Ideal S4x8x128x256 .f32) (U : FVec Ideal S4x8x128x512 .f32) : FVec Ideal S4x8x256x512 .f32 :=
  addf (mulf S (broadcastInDim S4x8x256x512 ![0, 1, 2, 3] bcast_S1x8x1x1_S4x8x256x512_0_1_2_3 (across L)))
    (Host.dotGeneral dot_S4x8x128x256_S4x8x128x512_S4x8x256x512_2_2_3_3_01_01 none (mulf K (broadcastInDim S4x8x128x256 ![0, 1, 2, 3] bcast_S1x8x128x1_S4x8x128x256_0_1_2_3 (toState L))) U)

/-- A chunk's output. -/
def chunk (L : FVec Ideal S8 .f32) (S : FVec Ideal S4x8x256x512 .f32) (Q K : FVec Ideal S4x8x128x256 .f32) (U : FVec Ideal S4x8x128x512 .f32) : FVec Ideal S4x8x128x512 .f32 :=
  addf (Host.dotGeneral dot_S4x8x128x128_S4x8x128x512_S4x8x128x512_3_2_2_3_01_01 none
      (mulf (Host.dotGeneral dot_S4x8x128x256_S4x8x128x256_S4x8x128x128_3_3_2_2_01_01 none Q K)
        (broadcastInDim S4x8x128x128 ![0, 1, 2, 3] bcast_S1x8x128x128_S4x8x128x128_0_1_2_3 (broadcastInDim S1x8x128x128 ![1, 2, 3] bcast_S8x128x128_S1x8x128x128_1_2_3 (inner L)))) U)
    (mulf (Host.dotGeneral dot_S4x8x128x256_S4x8x256x512_S4x8x128x512_3_2_2_3_01_01 none Q S)
      (broadcastInDim S4x8x128x512 ![0, 1, 2, 3] bcast_S1x8x128x1_S4x8x128x512_0_1_2_3 (fromState L)))

/-- The state after the first chunk. -/
def mid (L : FVec Ideal S8 .f32) (K : FVec Ideal S4x256x8x256 .f32) (U : FVec Ideal S4x256x8x512 .f32) : FVec Ideal S4x8x256x512 .f32 :=
  step L zeros (fst K) (fstV U)

/-- The state after both. -/
def last (L : FVec Ideal S8 .f32) (K : FVec Ideal S4x256x8x256 .f32) (U : FVec Ideal S4x256x8x512 .f32) : FVec Ideal S4x8x256x512 .f32 :=
  step L (mid L K U) (snd K) (sndV U)

/-- Both chunks' outputs as rows. -/
def outs (L : FVec Ideal S8 .f32) (Q K : FVec Ideal S4x256x8x256 .f32) (U : FVec Ideal S4x256x8x512 .f32) : FVec Ideal S4x256x8x512 .f32 :=
  shapeCast _ (transpose S4x2x128x8x512 [1, 0, 3, 2, 4] (concatenate S2x4x8x128x512 0
    [⟨S1x4x8x128x512, (broadcastInDim S1x4x8x128x512 ![1, 2, 3, 4] bcast_S4x8x128x512_S1x4x8x128x512_1_2_3_4 (chunk L zeros (fst Q) (fst K) (fstV U)))⟩,
     ⟨S1x4x8x128x512, (broadcastInDim S1x4x8x128x512 ![1, 2, 3, 4] bcast_S4x8x128x512_S1x4x8x128x512_1_2_3_4 (chunk L (mid L K U) (snd Q) (snd K) (sndV U)))⟩]
    concatenates_S1x4x8x128x512_S1x4x8x128x512_S2x4x8x128x512_d0) transposes_S2x4x8x128x512_S4x2x128x8x512_1_0_3_2_4) shapeCasts_S4x2x128x8x512_S4x256x8x512

/-- Queries or keys in reverse. -/
def flip (T : FVec Ideal S4x256x8x256 .f32) : FVec Ideal S4x256x8x256 .f32 := Host.reverse [1] T

/-- Values in reverse. -/
def flipV (T : FVec Ideal S4x256x8x512 .f32) : FVec Ideal S4x256x8x512 .f32 := Host.reverse [1] T

/-- The forward outputs and the backward ones, summed. -/
def total (X : FVec Ideal S1024x12288 .bf16) (A B : FVec Ideal S8 .f32) : FVec Ideal S4x256x8x512 .f32 :=
  addf (outs (logs A) (queries X) (keys X) (vals X))
    (flipV (outs (logs B) (flip (queries X)) (flip (keys X)) (flipV (vals X))))

/-- The forward state. -/
def fwd (X : FVec Ideal S1024x12288 .bf16) (A : FVec Ideal S8 .f32) : FVec Ideal S4x8x256x512 .f32 := last (logs A) (keys X) (vals X)

/-- The backward state. -/
def bwd (X : FVec Ideal S1024x12288 .bf16) (B : FVec Ideal S8 .f32) : FVec Ideal S4x8x256x512 .f32 := last (logs B) (flip (keys X)) (flipV (vals X))

open Cert.RetCore

/-- A query. -/
theorem queries_read (X : FVec Ideal S1024x12288 .bf16) (b : Fin 4) (i : Fin 256) (h : Fin 8) (d : Fin 256) :
    queries X (ix4 b i h d) = qAt X b h i d := by
  unfold qAt
  pointwise [queries, rows]

/-- A key. -/
theorem keys_read (X : FVec Ideal S1024x12288 .bf16) (b : Fin 4) (i : Fin 256) (h : Fin 8) (d : Fin 256) :
    keys X (ix4 b i h d) = kAt X b h i d := by
  unfold kAt
  pointwise [keys, rows]

/-- A value. -/
theorem vals_read (X : FVec Ideal S1024x12288 .bf16) (b : Fin 4) (i : Fin 256) (h : Fin 8) (e : Fin 512) :
    vals X (ix4 b i h e) = vAt X b h i e := by
  unfold vAt
  pointwise [vals, rows]

/-- A gate. -/
theorem gates_read (X : FVec Ideal S1024x12288 .bf16) (b : Fin 4) (i : Fin 256) (h : Fin 8) (e : Fin 512) :
    gates X (ix3 b i ⟨h.val * 512 + e.val, by omega⟩) = gAt X b h i e := by
  unfold gAt
  pointwise [gates, rows]

/-- The log of a decay. -/
theorem logs_read (A : FVec Ideal S8 .f32) (h : Fin 8) : logs A (ix1 h) = lsr (A (ix1 h)) := by
  unfold lsr
  pointwise [logs]
  rw [if_neg (fun h => h rfl)]
  rfl

/-- A row's place. -/
theorem places_read (i : Fin 128) : places (ix1 i) = ((i.val : ℝ) : EReal) := by
  pointwise [places]
  exact word_real i.val (by omega)

/-- A zero. -/
theorem zeros_read (b : Fin 4) (h : Fin 8) (d : Fin 256) (e : Fin 512) : zeros (ix4 b h d e) = 0 := by
  pointwise [zeros]

/-- The first chunk's row. -/
theorem fst_read (T : FVec Ideal S4x256x8x256 .f32) (b : Fin 4) (h : Fin 8) (i : Fin 128) (d : Fin 256) :
    fst T (ix4 b h i d) = T (ix4 b (lo i) h d) := by
  unfold lo
  pointwise [fst, chunks]

/-- The second chunk's row. -/
theorem snd_read (T : FVec Ideal S4x256x8x256 .f32) (b : Fin 4) (h : Fin 8) (i : Fin 128) (d : Fin 256) :
    snd T (ix4 b h i d) = T (ix4 b (hi i) h d) := by
  unfold hi
  pointwise [snd, chunks]

/-- The first chunk's value row. -/
theorem fstV_read (T : FVec Ideal S4x256x8x512 .f32) (b : Fin 4) (h : Fin 8) (i : Fin 128) (d : Fin 512) :
    fstV T (ix4 b h i d) = T (ix4 b (lo i) h d) := by
  unfold lo
  pointwise [fstV, chunksV]

/-- The second chunk's value row. -/
theorem sndV_read (T : FVec Ideal S4x256x8x512 .f32) (b : Fin 4) (h : Fin 8) (i : Fin 128) (d : Fin 512) :
    sndV T (ix4 b h i d) = T (ix4 b (hi i) h d) := by
  unfold hi
  pointwise [sndV, chunksV]

/-- The decay between two rows. -/
theorem inner_read (L : FVec Ideal S8 .f32) (h : Fin 8) (i j : Fin 128) :
    inner L (ix3 h i j) = if j ≤ i then Ideal.exp (L (ix1 h) * (((i.val - j.val : ℕ) : ℝ) : EReal)) else 0 := by
  pointwise [inner, gaps, places_read]
  rw [max_gap]
  refine if_congr ((gap_nonneg _ _).trans Fin.le_def.symm) rfl ?_
  exact Ideal.ofBits_zero_f32

/-- The decay from the state. -/
theorem fromState_read (L : FVec Ideal S8 .f32) (h : Fin 8) (i : Fin 128) :
    fromState L (ix4 0 h i 0) = Ideal.exp (L (ix1 h) * (((i.val + 1 : ℕ) : ℝ) : EReal)) := by
  pointwise [fromState, places_read]
  rw [Nat.cast_add, Nat.cast_one, EReal.coe_add, EReal.coe_one]

/-- The decay to the state. -/
theorem toState_read (L : FVec Ideal S8 .f32) (h : Fin 8) (i : Fin 128) :
    toState L (ix4 0 h i 0) = Ideal.exp (L (ix1 h) * (((127 - i.val : ℕ) : ℝ) : EReal)) := by
  pointwise [toState, places_read]
  rw [c127, ← gap_coe 127 i.val (by omega)]
  norm_num

/-- The decay over a chunk. -/
theorem across_read (L : FVec Ideal S8 .f32) (h : Fin 8) :
    across L (ix4 0 h 0 0) = Ideal.exp (L (ix1 h) * (((128 : ℕ) : ℝ) : EReal)) := by
  pointwise [across]
  rw [c128]
  norm_num

/-- The state after a chunk. -/
theorem step_read (L : FVec Ideal S8 .f32) (S : FVec Ideal S4x8x256x512 .f32) (K : FVec Ideal S4x8x128x256 .f32) (U : FVec Ideal S4x8x128x512 .f32)
    (b : Fin 4) (h : Fin 8) (d : Fin 256) (e : Fin 512) :
    step L S K U (ix4 b h d e) = S (ix4 b h d e) * across L (ix4 0 h 0 0)
      + ∑ j : Fin 128, (K (ix4 b h j d) * toState L (ix4 0 h j 0)) * U (ix4 b h j e) := by
  pointwise [step]

/-- A chunk's output. -/
theorem chunk_read (L : FVec Ideal S8 .f32) (S : FVec Ideal S4x8x256x512 .f32) (Q K : FVec Ideal S4x8x128x256 .f32) (U : FVec Ideal S4x8x128x512 .f32)
    (b : Fin 4) (h : Fin 8) (i : Fin 128) (e : Fin 512) :
    chunk L S Q K U (ix4 b h i e)
      = (∑ j : Fin 128, ((∑ d : Fin 256, Q (ix4 b h i d) * K (ix4 b h j d)) * inner L (ix3 h i j)) * U (ix4 b h j e))
        + (∑ d : Fin 256, Q (ix4 b h i d) * S (ix4 b h d e)) * fromState L (ix4 0 h i 0) := by
  pointwise [chunk]

/-- The state after the first chunk. -/
theorem mid_read (x : EReal) (L : FVec Ideal S8 .f32) (K : FVec Ideal S4x256x8x256 .f32) (U : FVec Ideal S4x256x8x512 .f32)
    (b : Fin 4) (h : Fin 8) (d : Fin 256) (e : Fin 512) (hL : L (ix1 h) = lsk x) :
    mid L K U (ix4 b h d e) = S1 (gam x) (fun j => K (ix4 b j h d)) (fun j => U (ix4 b j h e)) := by
  unfold mid S1
  simp only [step_read, across_read, toState_read, zeros_read, fst_read, fstV_read, hL, gam_pow]

/-- The state after both chunks. -/
theorem last_read (x : EReal) (L : FVec Ideal S8 .f32) (K : FVec Ideal S4x256x8x256 .f32) (U : FVec Ideal S4x256x8x512 .f32)
    (b : Fin 4) (h : Fin 8) (d : Fin 256) (e : Fin 512) (hL : L (ix1 h) = lsk x) :
    last L K U (ix4 b h d e) = S2 (gam x) (fun j => K (ix4 b j h d)) (fun j => U (ix4 b j h e)) := by
  unfold last S2
  simp only [step_read, across_read, toState_read, mid_read x L K U b h d e hL, snd_read, sndV_read, hL, gam_pow]

/-- The first chunk's output. -/
theorem chunk0_read (x : EReal) (L : FVec Ideal S8 .f32) (Q K : FVec Ideal S4x256x8x256 .f32) (U : FVec Ideal S4x256x8x512 .f32)
    (b : Fin 4) (h : Fin 8) (i : Fin 128) (e : Fin 512) (hL : L (ix1 h) = lsk x) :
    chunk L zeros (fst Q) (fst K) (fstV U) (ix4 b h i e)
      = O1 (gam x) (fun i d => Q (ix4 b i h d)) (fun j d => K (ix4 b j h d)) (fun j => U (ix4 b j h e)) i := by
  unfold O1
  simp only [chunk_read, inner_read, fromState_read, zeros_read, fst_read, fstV_read, hL, gam_pow]

/-- The second chunk's output. -/
theorem chunk1_read (x : EReal) (L : FVec Ideal S8 .f32) (Q K : FVec Ideal S4x256x8x256 .f32) (U : FVec Ideal S4x256x8x512 .f32)
    (b : Fin 4) (h : Fin 8) (i : Fin 128) (e : Fin 512) (hL : L (ix1 h) = lsk x) :
    chunk L (mid L K U) (snd Q) (snd K) (sndV U) (ix4 b h i e)
      = O2 (gam x) (fun i d => Q (ix4 b i h d)) (fun j d => K (ix4 b j h d)) (fun j => U (ix4 b j h e)) i := by
  unfold O2
  simp only [chunk_read, inner_read, fromState_read, mid_read x L K U b h _ e hL, snd_read, sndV_read, hL, gam_pow]

/-- The outputs as rows. -/
theorem outs_read (x : EReal) (L : FVec Ideal S8 .f32) (Q K : FVec Ideal S4x256x8x256 .f32) (U : FVec Ideal S4x256x8x512 .f32)
    (b : Fin 4) (h : Fin 8) (i : Fin 256) (e : Fin 512) (hL : L (ix1 h) = lsk x) :
    outs L Q K U (ix4 b i h e)
      = O (gam x) (fun i d => Q (ix4 b i h d)) (fun j d => K (ix4 b j h d)) (fun j => U (ix4 b j h e)) i := by
  unfold O
  by_cases hi : i.val < 128
  · rw [dif_pos hi, ← chunk0_read x L Q K U b h ⟨i.val, hi⟩ e hL]
    pointwise [outs]
    rw [dif_pos (by omega)]
    exact congrArg _ (congrArg (fun i => ix4 b h i e) (Fin.ext (by simp only; omega)))
  · rw [dif_neg hi, ← chunk1_read x L Q K U b h ⟨i.val - 128, by omega⟩ e hL]
    pointwise [outs]
    rw [dif_neg (by omega)]
    exact congrArg _ (congrArg (fun i => ix4 b h i e) (Fin.ext (by simp only; omega)))

/-- Queries or keys in reverse, read at an index. -/
theorem rev_read (T : FVec Ideal S4x256x8x256 .f32) (b : Fin 4) (i : Fin 256) (h : Fin 8) (d : Fin 256) :
    flip T (ix4 b i h d) = T (ix4 b i.rev h d) := by
  pointwise [flip]
  rfl

/-- Values in reverse, read at an index. -/
theorem revV_read (T : FVec Ideal S4x256x8x512 .f32) (b : Fin 4) (i : Fin 256) (h : Fin 8) (d : Fin 512) :
    flipV T (ix4 b i h d) = T (ix4 b i.rev h d) := by
  pointwise [flipV]
  rfl

/-- The log of a decay, as the kernel forms it. -/
theorem logs_lsk (A : FVec Ideal S8 .f32) (h : Fin 8) : logs A (ix1 h) = lsk (A (ix1 h)) := (logs_read A h).trans (lsk_eq _).symm

/-- The forward state, read at an index. -/
theorem fwd_read (X : FVec Ideal S1024x12288 .bf16) (A : FVec Ideal S8 .f32) (b : Fin 4) (h : Fin 8) (d : Fin 256) (e : Fin 512) :
    fwd X A (ix4 b h d e) = ∑ j : Fin 256, (kAt X b h j d * ((gam (A (ix1 h)) ^ (255 - j.val) : ℝ) : EReal)) * vAt X b h j e := by
  unfold fwd
  rw [last_read (A (ix1 h)) _ _ _ b h d e (logs_lsk A h)]
  simp only [keys_read, vals_read]
  exact S2_eq _ (gam_nonneg _) _ _

/-- The backward state, read at an index. -/
theorem bwd_read (X : FVec Ideal S1024x12288 .bf16) (B : FVec Ideal S8 .f32) (b : Fin 4) (h : Fin 8) (d : Fin 256) (e : Fin 512) :
    bwd X B (ix4 b h d e) = ∑ j : Fin 256, (kAt X b h j d * ((gam (B (ix1 h)) ^ j.val : ℝ) : EReal)) * vAt X b h j e := by
  unfold bwd
  rw [last_read (B (ix1 h)) _ _ _ b h d e (logs_lsk B h)]
  simp only [rev_read, revV_read, keys_read, vals_read]
  exact S2_rev _ (gam_nonneg _) (fun j => kAt X b h j d) (fun j => vAt X b h j e)

/-- The summed outputs, read at an index. -/
theorem total_read (X : FVec Ideal S1024x12288 .bf16) (A B : FVec Ideal S8 .f32) (b : Fin 4) (i : Fin 256) (h : Fin 8) (e : Fin 512) :
    total X A B (ix4 b i h e) = both X A B b h i e := by
  unfold total both
  refine (addf_apply _ _ _).trans ?_
  rw [revV_read, outs_read (A (ix1 h)) _ _ _ _ b h i e (logs_lsk A h), outs_read (B (ix1 h)) _ _ _ _ b h i.rev e (logs_lsk B h)]
  simp only [rev_read, revV_read, queries_read, keys_read, vals_read]
  rfl

/-- The outputs normed. -/
def normed (T : FVec Ideal S4x256x8x512 .f32) : FVec Ideal S4x256x8x512 .f32 :=
  mulf T (broadcastInDim S4x256x8x512 ![0, 1, 2, 3] bcast_S4x256x8x1_S4x256x8x512_0_1_2_3 (Host.rsqrt (addf (Host.divf (broadcastInDim S4x256x8x1 ![0, 1, 2] bcast_S4x256x8_S4x256x8x1_0_1_2
    (Host.reduceAdd (mulf T T) (constant S_ .f32 0x00000000#32) reducesTo_S4x256x8x512_S4x256x8_d3 h_S_)) (broadcastInDim S4x256x8x1 ![] bcast_S_S4x256x8x1 (constant S_ .f32 0x44000000#32)))
    (broadcastInDim S4x256x8x1 ![] bcast_S_S4x256x8x1 (constant S_ .f32 0x358637BD#32)))))

/-- The gates' activation. -/
def act (G : FVec Ideal S4x256x4096 .f32) : FVec Ideal S4x256x4096 .f32 :=
  mulf G (Host.divf (broadcastInDim S4x256x4096 ![] bcast_S_S4x256x4096 (constant S_ .f32 0x3F800000#32))
    (addf (broadcastInDim S4x256x4096 ![] bcast_S_S4x256x4096 (constant S_ .f32 0x3F800000#32)) (Host.exp (Host.negf G))))

/-- The gated rows in one run. -/
def flat (G : FVec Ideal S4x256x4096 .f32) (N : FVec Ideal S4x256x8x512 .f32) : FVec Ideal S1024x4096 .bf16 :=
  truncf .bf16 (shapeCast _ (mulf (act G) (shapeCast S4x256x4096 N shapeCasts_S4x256x8x512_S4x256x4096)) shapeCasts_S4x256x4096_S1024x4096) bitsLt_bf16_f32

/-- The first result. -/
def result (X : FVec Ideal S1024x12288 .bf16) (A B : FVec Ideal S8 .f32) : FVec Ideal S1024x4096 .bf16 := flat (gates X) (normed (total X A B))

/-- A normed output. -/
theorem normed_read (T : FVec Ideal S4x256x8x512 .f32) (b : Fin 4) (i : Fin 256) (h : Fin 8) (e : Fin 512) :
    normed T (ix4 b i h e) = T (ix4 b i h e) * Ideal.rsqrt (Ideal.div (∑ x : Fin 512, T (ix4 b i h x) * T (ix4 b i h x)) (Ideal.ofBits .f32 0x44000000#32) + Ideal.ofBits .f32 0x358637BD#32) := by
  pointwise [normed]

/-- A gated entry. -/
theorem flat_read (G : FVec Ideal S4x256x4096 .f32) (N : FVec Ideal S4x256x8x512 .f32) (r : Fin 1024) (n : Fin 4096) :
    flat G N (ix2 r n) = G (ix3 ⟨r.val / 256, by omega⟩ ⟨r.val % 256, by omega⟩ n) * Ideal.logistic (G (ix3 ⟨r.val / 256, by omega⟩ ⟨r.val % 256, by omega⟩ n))
      * N (ix4 ⟨r.val / 256, by omega⟩ ⟨r.val % 256, by omega⟩ ⟨n.val / 512, by omega⟩ ⟨n.val % 512, by omega⟩) := by
  unfold Ideal.logistic
  pointwise [flat, act]

/-- The first result, read at an index. -/
theorem result_read (X : FVec Ideal S1024x12288 .bf16) (A B : FVec Ideal S8 .f32) (r : Fin 1024) (n : Fin 4096) :
    result X A B (ix2 r n) = gated (both X A B ⟨r.val / 256, by omega⟩ ⟨n.val / 512, by omega⟩ ⟨r.val % 256, by omega⟩)
      (gAt X ⟨r.val / 256, by omega⟩ ⟨n.val / 512, by omega⟩ ⟨r.val % 256, by omega⟩ ⟨n.val % 512, by omega⟩) ⟨n.val % 512, by omega⟩ := by
  have hg : gates X (ix3 ⟨r.val / 256, by omega⟩ ⟨r.val % 256, by omega⟩ n) = gAt X ⟨r.val / 256, by omega⟩ ⟨n.val / 512, by omega⟩ ⟨r.val % 256, by omega⟩ ⟨n.val % 512, by omega⟩ := by
    rw [← gates_read]
    exact congrArg _ (congrArg (fun c => ix3 _ _ c) (Fin.ext (by simp only; omega)))
  unfold result gated
  rw [flat_read, hg, normed_read]
  simp only [total_read]

end Cert.RetCtxReferenceIdeal.Value

end

end
-- ==== Proof.RetCtxRun.lean ====
module

public import proofs.«01_k».proof.Proof.RetCtxRef
public import proofs.«01_k».proof.Proof.Gen.RetCtxReferenceIdeal.Run

@[expose] public section

/-! The context's retention: the reference's result arrays, over its arguments. -/

set_option maxRecDepth 16384

noncomputable section

namespace Cert.RetCtxReferenceIdeal.Value

open Cert.RetCtxReferenceIdeal Cert.RetCtxReferenceIdeal.Gen Idealize.ShloMosaic Idealize.ShloMosaic.TcCoe Idealize.SL.Sem Idealize.ShloMosaic.StableHlo

/-- The run ends with the staged results and its arguments unchanged. -/
theorem run_staged (m : (ℓ : Loc nD τ sig) → Buf (Elt Ideal) ℓ) (g : Dev nD → PrngReg) :
    θ_run defs (onTc (τ := τ) (main (F := Ideal))) ⟨m, fun _ => 0, g⟩ fun r => ∀ c : Dev nD,
      r.2.mem ((c.tc : Thread nD τ).loc main_v215) = result (m ((c.tc : Thread nD τ).loc main_arg0)) (m ((c.tc : Thread nD τ).loc main_arg1)) (m ((c.tc : Thread nD τ).loc main_arg2))
      ∧ r.2.mem ((c.tc : Thread nD τ).loc main_v98) = fwd (m ((c.tc : Thread nD τ).loc main_arg0)) (m ((c.tc : Thread nD τ).loc main_arg1))
      ∧ r.2.mem ((c.tc : Thread nD τ).loc main_v193) = bwd (m ((c.tc : Thread nD τ).loc main_arg0)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c).1.trans rfl, (h c).2.1.trans rfl, (h c).2.2.1.trans rfl, (h c).2.2.2⟩) (run m g)

end Cert.RetCtxReferenceIdeal.Value

end

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.KernelIdeal.Value
public import proofs.«01_k».proof.Proof.Gen.Mlp
public import proofs.«01_k».proof.Proof.Gen.Mlp.Skeleton
public import proofs.«01_k».proof.Proof.Gen.Mlp.Launch
public import proofs.«01_k».proof.Proof.Gen.Mlp.Points
public import proofs.«01_k».proof.Proof.Gen.Mlp.Frame
public import proofs.«01_k».proof.Proof.Gen.MlpIdeal
public import proofs.«01_k».proof.Proof.Gen.MlpIdeal.Skeleton
public import proofs.«01_k».proof.Proof.Gen.MlpIdeal.Launch
public import proofs.«01_k».proof.Proof.Gen.MlpIdeal.Points
public import proofs.«01_k».proof.Proof.Gen.MlpIdeal.Frame
public import proofs.«01_k».proof.Proof.Gen.MlpIdeal.Value
public import proofs.«01_k».proof.Proof.Gen.MlpReferenceIdeal
public import proofs.«01_k».proof.Proof.Gen.MlpReferenceIdeal.Run
public import proofs.«01_k».proof.Proof.Gen.Mlp0
public import proofs.«01_k».proof.Proof.Gen.Mlp0.Skeleton
public import proofs.«01_k».proof.Proof.Gen.Mlp0.Launch
public import proofs.«01_k».proof.Proof.Gen.Mlp0.Points
public import proofs.«01_k».proof.Proof.Gen.Mlp0.Frame
public import proofs.«01_k».proof.Proof.Gen.Mlp0Ideal
public import proofs.«01_k».proof.Proof.Gen.Mlp0Ideal.Skeleton
public import proofs.«01_k».proof.Proof.Gen.Mlp0Ideal.Launch
public import proofs.«01_k».proof.Proof.Gen.Mlp0Ideal.Points
public import proofs.«01_k».proof.Proof.Gen.Mlp0Ideal.Frame
public import proofs.«01_k».proof.Proof.Gen.Mlp0Ideal.Value
public import proofs.«01_k».proof.Proof.Gen.Mlp0ReferenceIdeal
public import proofs.«01_k».proof.Proof.Gen.Mlp0ReferenceIdeal.Run
public import proofs.«01_k».proof.Proof.Gen.RetOut
public import proofs.«01_k».proof.Proof.Gen.RetOut.Skeleton
public import proofs.«01_k».proof.Proof.Gen.RetOut.Launch
public import proofs.«01_k».proof.Proof.Gen.RetOut.Points
public import proofs.«01_k».proof.Proof.Gen.RetOut.Frame
public import proofs.«01_k».proof.Proof.Gen.RetOutIdeal
public import proofs.«01_k».proof.Proof.Gen.RetOutIdeal.Skeleton
public import proofs.«01_k».proof.Proof.Gen.RetOutIdeal.Launch
public import proofs.«01_k».proof.Proof.Gen.RetOutIdeal.Points
public import proofs.«01_k».proof.Proof.Gen.RetOutIdeal.Frame
public import proofs.«01_k».proof.Proof.Gen.RetOutIdeal.Value
public import proofs.«01_k».proof.Proof.Gen.RetOutReferenceIdeal
public import proofs.«01_k».proof.Proof.Gen.RetOutReferenceIdeal.Run
public import proofs.«01_k».proof.Proof.Gen.AttnOut
public import proofs.«01_k».proof.Proof.Gen.AttnOut.Skeleton
public import proofs.«01_k».proof.Proof.Gen.AttnOut.Launch
public import proofs.«01_k».proof.Proof.Gen.AttnOut.Points
public import proofs.«01_k».proof.Proof.Gen.AttnOut.Frame
public import proofs.«01_k».proof.Proof.Gen.AttnOutIdeal
public import proofs.«01_k».proof.Proof.Gen.AttnOutIdeal.Skeleton
public import proofs.«01_k».proof.Proof.Gen.AttnOutIdeal.Launch
public import proofs.«01_k».proof.Proof.Gen.AttnOutIdeal.Points
public import proofs.«01_k».proof.Proof.Gen.AttnOutIdeal.Frame
public import proofs.«01_k».proof.Proof.Gen.AttnOutIdeal.Value
public import proofs.«01_k».proof.Proof.Gen.AttnOutReferenceIdeal
public import proofs.«01_k».proof.Proof.Gen.AttnOutReferenceIdeal.Run
public import proofs.«01_k».proof.Proof.Gen.RetProj
public import proofs.«01_k».proof.Proof.Gen.RetProj.Skeleton
public import proofs.«01_k».proof.Proof.Gen.RetProj.Launch
public import proofs.«01_k».proof.Proof.Gen.RetProj.Points
public import proofs.«01_k».proof.Proof.Gen.RetProj.Frame
public import proofs.«01_k».proof.Proof.Gen.RetProjIdeal
public import proofs.«01_k».proof.Proof.Gen.RetProjIdeal.Skeleton
public import proofs.«01_k».proof.Proof.Gen.RetProjIdeal.Launch
public import proofs.«01_k».proof.Proof.Gen.RetProjIdeal.Points
public import proofs.«01_k».proof.Proof.Gen.RetProjIdeal.Frame
public import proofs.«01_k».proof.Proof.Gen.RetProjIdeal.Value
public import proofs.«01_k».proof.Proof.Gen.RetProjReferenceIdeal
public import proofs.«01_k».proof.Proof.Gen.RetProjReferenceIdeal.Run
public import proofs.«01_k».proof.Proof.Gen.AttnProj
public import proofs.«01_k».proof.Proof.Gen.AttnProj.Skeleton
public import proofs.«01_k».proof.Proof.Gen.AttnProj.Launch
public import proofs.«01_k».proof.Proof.Gen.AttnProj.Points
public import proofs.«01_k».proof.Proof.Gen.AttnProj.Frame
public import proofs.«01_k».proof.Proof.Gen.AttnProjIdeal
public import proofs.«01_k».proof.Proof.Gen.AttnProjIdeal.Skeleton
public import proofs.«01_k».proof.Proof.Gen.AttnProjIdeal.Launch
public import proofs.«01_k».proof.Proof.Gen.AttnProjIdeal.Points
public import proofs.«01_k».proof.Proof.Gen.AttnProjIdeal.Frame
public import proofs.«01_k».proof.Proof.Gen.AttnProjIdeal.Value
public import proofs.«01_k».proof.Proof.Gen.AttnProjReferenceIdeal
public import proofs.«01_k».proof.Proof.Gen.AttnProjReferenceIdeal.Run
public import proofs.«01_k».proof.Proof.Gen.Mlp0Ctx
public import proofs.«01_k».proof.Proof.Gen.Mlp0Ctx.Skeleton
public import proofs.«01_k».proof.Proof.Gen.Mlp0Ctx.Launch
public import proofs.«01_k».proof.Proof.Gen.Mlp0Ctx.Points
public import proofs.«01_k».proof.Proof.Gen.Mlp0Ctx.Frame
public import proofs.«01_k».proof.Proof.Gen.Mlp0CtxIdeal
public import proofs.«01_k».proof.Proof.Gen.Mlp0CtxIdeal.Skeleton
public import proofs.«01_k».proof.Proof.Gen.Mlp0CtxIdeal.Launch
public import proofs.«01_k».proof.Proof.Gen.Mlp0CtxIdeal.Points
public import proofs.«01_k».proof.Proof.Gen.Mlp0CtxIdeal.Frame
public import proofs.«01_k».proof.Proof.Gen.Mlp0CtxIdeal.Value
public import proofs.«01_k».proof.Proof.Gen.Mlp0CtxReferenceIdeal
public import proofs.«01_k».proof.Proof.Gen.Mlp0CtxReferenceIdeal.Run
public import proofs.«01_k».proof.Proof.Gen.RetProjCtx
public import proofs.«01_k».proof.Proof.Gen.RetProjCtx.Skeleton
public import proofs.«01_k».proof.Proof.Gen.RetProjCtx.Launch
public import proofs.«01_k».proof.Proof.Gen.RetProjCtx.Points
public import proofs.«01_k».proof.Proof.Gen.RetProjCtx.Frame
public import proofs.«01_k».proof.Proof.Gen.RetProjCtxIdeal
public import proofs.«01_k».proof.Proof.Gen.RetProjCtxIdeal.Skeleton
public import proofs.«01_k».proof.Proof.Gen.RetProjCtxIdeal.Launch
public import proofs.«01_k».proof.Proof.Gen.RetProjCtxIdeal.Points
public import proofs.«01_k».proof.Proof.Gen.RetProjCtxIdeal.Frame
public import proofs.«01_k».proof.Proof.Gen.RetProjCtxIdeal.Value
public import proofs.«01_k».proof.Proof.Gen.RetProjCtxReferenceIdeal
public import proofs.«01_k».proof.Proof.Gen.RetProjCtxReferenceIdeal.Run
public import proofs.«01_k».proof.Proof.Gen.RetOutCtx
public import proofs.«01_k».proof.Proof.Gen.RetOutCtx.Skeleton
public import proofs.«01_k».proof.Proof.Gen.RetOutCtx.Launch
public import proofs.«01_k».proof.Proof.Gen.RetOutCtx.Points
public import proofs.«01_k».proof.Proof.Gen.RetOutCtx.Frame
public import proofs.«01_k».proof.Proof.Gen.RetOutCtxIdeal
public import proofs.«01_k».proof.Proof.Gen.RetOutCtxIdeal.Skeleton
public import proofs.«01_k».proof.Proof.Gen.RetOutCtxIdeal.Launch
public import proofs.«01_k».proof.Proof.Gen.RetOutCtxIdeal.Points
public import proofs.«01_k».proof.Proof.Gen.RetOutCtxIdeal.Frame
public import proofs.«01_k».proof.Proof.Gen.RetOutCtxIdeal.Value
public import proofs.«01_k».proof.Proof.Gen.RetOutCtxReferenceIdeal
public import proofs.«01_k».proof.Proof.Gen.RetOutCtxReferenceIdeal.Run
public import proofs.«01_k».proof.Proof.Gen.Pre_finite
public import proofs.«01_k».proof.Proof.Gen.RetCtx
public import proofs.«01_k».proof.Proof.Gen.RetCtx.Skeleton
public import proofs.«01_k».proof.Proof.Gen.RetCtx.Launch
public import proofs.«01_k».proof.Proof.Gen.RetCtx.Points
public import proofs.«01_k».proof.Proof.Gen.RetCtx.Frame
public import proofs.«01_k».proof.Proof.Gen.RetCtxIdeal
public import proofs.«01_k».proof.Proof.Gen.RetCtxIdeal.Skeleton
public import proofs.«01_k».proof.Proof.Gen.RetCtxIdeal.Launch
public import proofs.«01_k».proof.Proof.Gen.RetCtxIdeal.Points
public import proofs.«01_k».proof.Proof.Gen.RetCtxIdeal.Frame
public import proofs.«01_k».proof.Proof.Gen.RetCtxIdeal.Value
public import proofs.«01_k».proof.Proof.Gen.RetCtxReferenceIdeal
public import proofs.«01_k».proof.Proof.Gen.RetCtxReferenceIdeal.Run
public import proofs.«01_k».proof.Proof.Gen.AttnProjCtx
public import proofs.«01_k».proof.Proof.Gen.AttnProjCtx.Skeleton
public import proofs.«01_k».proof.Proof.Gen.AttnProjCtx.Launch
public import proofs.«01_k».proof.Proof.Gen.AttnProjCtx.Points
public import proofs.«01_k».proof.Proof.Gen.AttnProjCtx.Frame
public import proofs.«01_k».proof.Proof.Gen.AttnProjCtxIdeal
public import proofs.«01_k».proof.Proof.Gen.AttnProjCtxIdeal.Skeleton
public import proofs.«01_k».proof.Proof.Gen.AttnProjCtxIdeal.Launch
public import proofs.«01_k».proof.Proof.Gen.AttnProjCtxIdeal.Points
public import proofs.«01_k».proof.Proof.Gen.AttnProjCtxIdeal.Frame
public import proofs.«01_k».proof.Proof.Gen.AttnProjCtxIdeal.Value
public import proofs.«01_k».proof.Proof.Gen.AttnProjCtxReferenceIdeal
public import proofs.«01_k».proof.Proof.Gen.AttnProjCtxReferenceIdeal.Run
public import proofs.«01_k».proof.Proof.Gen.Ada
public import proofs.«01_k».proof.Proof.Gen.Ada.Skeleton
public import proofs.«01_k».proof.Proof.Gen.Ada.Launch
public import proofs.«01_k».proof.Proof.Gen.Ada.Points
public import proofs.«01_k».proof.Proof.Gen.Ada.Frame
public import proofs.«01_k».proof.Proof.Gen.AdaIdeal
public import proofs.«01_k».proof.Proof.Gen.AdaIdeal.Skeleton
public import proofs.«01_k».proof.Proof.Gen.AdaIdeal.Launch
public import proofs.«01_k».proof.Proof.Gen.AdaIdeal.Points
public import proofs.«01_k».proof.Proof.Gen.AdaIdeal.Frame
public import proofs.«01_k».proof.Proof.Gen.AdaIdeal.Value
public import proofs.«01_k».proof.Proof.Gen.AdaReferenceIdeal
public import proofs.«01_k».proof.Proof.Gen.AdaReferenceIdeal.Run
public import proofs.«01_k».proof.Proof.Blocks
public import proofs.«01_k».proof.Proof.RefRun
public import proofs.«01_k».proof.Proof.MlpBlocks
public import proofs.«01_k».proof.Proof.MlpRun
public import proofs.«01_k».proof.Proof.Mlp0Blocks
public import proofs.«01_k».proof.Proof.Mlp0Run
public import proofs.«01_k».proof.Proof.RetOutBlocks
public import proofs.«01_k».proof.Proof.RetOutRun
public import proofs.«01_k».proof.Proof.AttnOutBlocks
public import proofs.«01_k».proof.Proof.AttnOutRun
public import proofs.«01_k».proof.Proof.RetProjBlocks
public import proofs.«01_k».proof.Proof.RetProjRun
public import proofs.«01_k».proof.Proof.AttnProjBlocks
public import proofs.«01_k».proof.Proof.AttnProjRun
public import proofs.«01_k».proof.Proof.Mlp0CtxBlocks
public import proofs.«01_k».proof.Proof.Mlp0CtxRun
public import proofs.«01_k».proof.Proof.RetProjCtxBlocks
public import proofs.«01_k».proof.Proof.RetProjCtxRun
public import proofs.«01_k».proof.Proof.RetOutCtxBlocks
public import proofs.«01_k».proof.Proof.RetOutCtxRun
public import proofs.«01_k».proof.Proof.AttnProjCtxBlocks
public import proofs.«01_k».proof.Proof.AttnProjCtxRun
public import proofs.«01_k».proof.Proof.AdaBlocks
public import proofs.«01_k».proof.Proof.AdaRun
public import proofs.«01_k».proof.Proof.RetCtxBlocks
public import proofs.«01_k».proof.Proof.RetCtxRun
public import Idealize.ShloMosaic.Adequacy
public import Idealize.ShloMosaic.Init

@[expose] public section

noncomputable section

namespace Cert.Proof

open Idealize.ShloMosaic Idealize.SL.Sem Cert.Kernel

/-- The two attentions are one function of the three arguments. -/
theorem att_eq (A : FVec Ideal Cert.ReferenceIdeal.S16384x3072 .bf16) (C : FVec Ideal Cert.ReferenceIdeal.S1024x1024 .bf16)
    (Z : FVec Ideal Cert.ReferenceIdeal.S16 .f32) : Cert.ReferenceIdeal.Value.att A C Z = Cert.KernelIdeal.Value.G A C Z := by
  funext j
  obtain ⟨r, c, rfl⟩ : ∃ (r : Fin 16384) (c : Fin 2048), j = ix2 r c := ⟨j 0, j 1, eq_ix2 j⟩
  exact Cert.ReferenceIdeal.Value.att_read A C Z ⟨r.val / 4096, by omega⟩ ⟨r.val % 4096 / 128, by omega⟩ ⟨r.val % 128, by omega⟩
    ⟨c.val / 512, by omega⟩ ⟨c.val / 128 % 4, by omega⟩ ⟨c.val % 128, by omega⟩ r c ⟨c.val / 128, by omega⟩
    (by simp only; omega) (by simp only; omega) (by simp only; omega)

/-- The reference ends with its arguments unchanged and every counter at zero. -/
theorem frame_reference : Cert.quiescent_ReferenceIdeal := fun m g _ =>
  θ_run_mono (Cert.ReferenceIdeal.Value.run (F := Ideal) m g) fun r h =>
    ⟨fun c => (h c).2, Idealize.ShloMosaic.sem_eq_zero_of_no_sems (by decide) r.2⟩

/-- The kernel and the reference end with equal arrays. -/
theorem attention : Cert.algebraic_KernelIdeal_ReferenceIdeal := fun m g m' g' _ hag =>
  ⟨fun c => Cert.KernelIdeal.Value.G (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    θ_run_mono (Cert.KernelIdeal.Value.run_blocks m g) fun r h c =>
      ⟨(h c).1.trans (Cert.KernelIdeal.Value.final m c), (h c).2⟩,
    θ_run_mono (Cert.ReferenceIdeal.Value.run (F := Ideal) m' g') fun r h c =>
      ⟨(h c).1.trans ((Cert.ReferenceIdeal.Value.res_eq m' c).trans ((att_eq _ _ _).trans (by rw [(hag c).1, (hag c).2.1, (hag c).2.2]))), (h c).2⟩⟩

/-- The MLP's reference ends with its arguments unchanged and every counter at zero. -/
theorem frame_mlp_reference : Cert.quiescent_MlpReferenceIdeal := fun m g _ =>
  θ_run_mono (Cert.MlpReferenceIdeal.Value.run (F := Ideal) m g) fun r h =>
    ⟨fun c => (h c).2, Idealize.ShloMosaic.sem_eq_zero_of_no_sems (by decide) r.2⟩

/-- The two MLPs with the final norm are one function of the six arguments. -/
theorem mlp_eq (X : FVec Ideal Cert.MlpReferenceIdeal.S16384x2048 .f32) (g : FVec Ideal Cert.MlpReferenceIdeal.S2048 .f32)
    (M : FVec Ideal Cert.MlpReferenceIdeal.S2x8x1x12288 .f32) (W1 : FVec Ideal Cert.MlpReferenceIdeal.S2048x8192 .bf16)
    (W2 : FVec Ideal Cert.MlpReferenceIdeal.S8192x2048 .bf16) (fg : FVec Ideal Cert.MlpReferenceIdeal.S2048 .f32) :
    Cert.MlpReferenceIdeal.Value.result X g M W1 W2 fg = Cert.MlpIdeal.Value.G X g M W1 W2 fg := by
  funext j
  obtain ⟨r, d, rfl⟩ : ∃ (r : Fin 16384) (d : Fin 2048), j = ix2 r d := ⟨j 0, j 1, eq_ix2 j⟩
  exact Cert.MlpReferenceIdeal.Value.result_read X g M W1 W2 fg r d

/-- The MLP's kernel and its reference end with equal arrays. -/
theorem mlp : Cert.algebraic_MlpIdeal_MlpReferenceIdeal := fun m g m' g' _ hag =>
  ⟨fun c => Cert.MlpIdeal.Value.G (m ((c.tc : Thread Cert.MlpIdeal.nD Cert.MlpIdeal.τ).loc Cert.MlpIdeal.main_arg0))
      (m ((c.tc : Thread Cert.MlpIdeal.nD Cert.MlpIdeal.τ).loc Cert.MlpIdeal.main_arg1))
      (m ((c.tc : Thread Cert.MlpIdeal.nD Cert.MlpIdeal.τ).loc Cert.MlpIdeal.main_arg2))
      (m ((c.tc : Thread Cert.MlpIdeal.nD Cert.MlpIdeal.τ).loc Cert.MlpIdeal.main_arg3))
      (m ((c.tc : Thread Cert.MlpIdeal.nD Cert.MlpIdeal.τ).loc Cert.MlpIdeal.main_arg4))
      (m ((c.tc : Thread Cert.MlpIdeal.nD Cert.MlpIdeal.τ).loc Cert.MlpIdeal.main_arg5)),
    θ_run_mono (Cert.MlpIdeal.Value.run_blocks m g) fun r h c =>
      ⟨(h c).1.trans (Cert.MlpIdeal.Value.final m c), (h c).2⟩,
    θ_run_mono (Cert.MlpReferenceIdeal.Value.run (F := Ideal) m' g') fun r h c =>
      ⟨(h c).1.trans ((Cert.MlpReferenceIdeal.Value.res_eq m' c).trans ((mlp_eq _ _ _ _ _ _).trans (by
        rw [(hag c).1, (hag c).2.1, (hag c).2.2.1, (hag c).2.2.2.1, (hag c).2.2.2.2.1, (hag c).2.2.2.2.2]))), (h c).2⟩⟩

/-- The first layer's MLP: the reference ends with its arguments unchanged and every counter at zero. -/
theorem frame_mlp0_reference : Cert.quiescent_Mlp0ReferenceIdeal := fun m g _ =>
  θ_run_mono (Cert.Mlp0ReferenceIdeal.Value.run (F := Ideal) m g) fun r h =>
    ⟨fun c => (h c).2, Idealize.ShloMosaic.sem_eq_zero_of_no_sems (by decide) r.2⟩

/-- The first layer's MLP: the reference's result and the kernel's are one function of the arguments. -/
theorem mlp0_eq (X : FVec Ideal Cert.Mlp0ReferenceIdeal.S16384x2048 .f32) (g : FVec Ideal Cert.Mlp0ReferenceIdeal.S2048 .f32) (M : FVec Ideal Cert.Mlp0ReferenceIdeal.S2x8x1x12288 .f32) (W1 : FVec Ideal Cert.Mlp0ReferenceIdeal.S2048x8192 .bf16) (W2 : FVec Ideal Cert.Mlp0ReferenceIdeal.S8192x2048 .bf16) :
    Cert.Mlp0ReferenceIdeal.Value.result X g M W1 W2 = Cert.Mlp0Ideal.Value.G X g M W1 W2 := by
  funext j
  obtain ⟨r, d, rfl⟩ : ∃ (r : Fin 16384) (d : Fin 2048), j = ix2 r d := ⟨j 0, j 1, eq_ix2 j⟩
  exact Cert.Mlp0ReferenceIdeal.Value.result_read X g M W1 W2 r d

/-- The first layer's MLP: the kernel and the reference end with equal arrays. -/
theorem mlp0 : Cert.algebraic_Mlp0Ideal_Mlp0ReferenceIdeal := fun m g m' g' _ hag =>
  ⟨fun c => Cert.Mlp0Ideal.Value.G (m ((c.tc : Thread Cert.Mlp0Ideal.nD Cert.Mlp0Ideal.τ).loc Cert.Mlp0Ideal.main_arg0))
      (m ((c.tc : Thread Cert.Mlp0Ideal.nD Cert.Mlp0Ideal.τ).loc Cert.Mlp0Ideal.main_arg1))
      (m ((c.tc : Thread Cert.Mlp0Ideal.nD Cert.Mlp0Ideal.τ).loc Cert.Mlp0Ideal.main_arg2))
      (m ((c.tc : Thread Cert.Mlp0Ideal.nD Cert.Mlp0Ideal.τ).loc Cert.Mlp0Ideal.main_arg3))
      (m ((c.tc : Thread Cert.Mlp0Ideal.nD Cert.Mlp0Ideal.τ).loc Cert.Mlp0Ideal.main_arg4)),
    θ_run_mono (Cert.Mlp0Ideal.Value.run_blocks m g) fun r h c => ⟨(h c).1.trans (Cert.Mlp0Ideal.Value.final m c), (h c).2⟩,
    θ_run_mono (Cert.Mlp0ReferenceIdeal.Value.run (F := Ideal) m' g') fun r h c => ⟨(h c).1.trans ((Cert.Mlp0ReferenceIdeal.Value.res_eq m' c).trans ((mlp0_eq _ _ _ _ _).trans (by rw [(hag c).1, (hag c).2.1, (hag c).2.2.1, (hag c).2.2.2.1, (hag c).2.2.2.2]))), (h c).2⟩⟩

/-- The first layer's output projection: the reference ends with its arguments unchanged and every counter at zero. -/
theorem frame_ret_out_reference : Cert.quiescent_RetOutReferenceIdeal := fun m g _ =>
  θ_run_mono (Cert.RetOutReferenceIdeal.Value.run_result m g) fun r h =>
    ⟨fun c => (h c).2, Idealize.ShloMosaic.sem_eq_zero_of_no_sems (by decide) r.2⟩

/-- The first layer's output projection: the reference's result and the kernel's are one function of the arguments. -/
theorem ret_out_eq (Y : FVec Ideal Cert.RetOutReferenceIdeal.S16384x4096 .bf16) (W : FVec Ideal Cert.RetOutReferenceIdeal.S4096x2048 .bf16) (X : FVec Ideal Cert.RetOutReferenceIdeal.S16384x2048 .f32) (M : FVec Ideal Cert.RetOutReferenceIdeal.S2x8x1x12288 .f32) :
    Cert.RetOutReferenceIdeal.Value.result Y W X M = Cert.RetOutIdeal.Value.G Y W X M := by
  funext j
  obtain ⟨r, d, rfl⟩ : ∃ (r : Fin 16384) (d : Fin 2048), j = ix2 r d := ⟨j 0, j 1, eq_ix2 j⟩
  exact Cert.RetOutReferenceIdeal.Value.result_read Y W X M r d

/-- The first layer's output projection: the kernel and the reference end with equal arrays. -/
theorem ret_out : Cert.algebraic_RetOutIdeal_RetOutReferenceIdeal := fun m g m' g' _ hag =>
  ⟨fun c => Cert.RetOutIdeal.Value.G (m ((c.tc : Thread Cert.RetOutIdeal.nD Cert.RetOutIdeal.τ).loc Cert.RetOutIdeal.main_arg0))
      (m ((c.tc : Thread Cert.RetOutIdeal.nD Cert.RetOutIdeal.τ).loc Cert.RetOutIdeal.main_arg1))
      (m ((c.tc : Thread Cert.RetOutIdeal.nD Cert.RetOutIdeal.τ).loc Cert.RetOutIdeal.main_arg2))
      (m ((c.tc : Thread Cert.RetOutIdeal.nD Cert.RetOutIdeal.τ).loc Cert.RetOutIdeal.main_arg3)),
    θ_run_mono (Cert.RetOutIdeal.Value.run_blocks m g) fun r h c => ⟨(h c).1.trans (Cert.RetOutIdeal.Value.final m c), (h c).2⟩,
    θ_run_mono (Cert.RetOutReferenceIdeal.Value.run_result m' g') fun r h c => ⟨(h c).1.trans ((ret_out_eq _ _ _ _).trans (by rw [(hag c).1, (hag c).2.1, (hag c).2.2.1, (hag c).2.2.2])), (h c).2⟩⟩

/-- The second layer's output projection: the reference ends with its arguments unchanged and every counter at zero. -/
theorem frame_attn_out_reference : Cert.quiescent_AttnOutReferenceIdeal := fun m g _ =>
  θ_run_mono (Cert.AttnOutReferenceIdeal.Value.run_result m g) fun r h =>
    ⟨fun c => (h c).2, Idealize.ShloMosaic.sem_eq_zero_of_no_sems (by decide) r.2⟩

/-- The second layer's output projection: the reference's result and the kernel's are one function of the arguments. -/
theorem attn_out_eq (Y : FVec Ideal Cert.AttnOutReferenceIdeal.S16384x2048 .bf16) (W : FVec Ideal Cert.AttnOutReferenceIdeal.S2048x2048 .bf16) (X : FVec Ideal Cert.AttnOutReferenceIdeal.S16384x2048 .f32) (M : FVec Ideal Cert.AttnOutReferenceIdeal.S2x8x1x12288 .f32) :
    Cert.AttnOutReferenceIdeal.Value.result Y W X M = Cert.AttnOutIdeal.Value.G Y W X M := by
  funext j
  obtain ⟨r, d, rfl⟩ : ∃ (r : Fin 16384) (d : Fin 2048), j = ix2 r d := ⟨j 0, j 1, eq_ix2 j⟩
  exact Cert.AttnOutReferenceIdeal.Value.result_read Y W X M r d

/-- The second layer's output projection: the kernel and the reference end with equal arrays. -/
theorem attn_out : Cert.algebraic_AttnOutIdeal_AttnOutReferenceIdeal := fun m g m' g' _ hag =>
  ⟨fun c => Cert.AttnOutIdeal.Value.G (m ((c.tc : Thread Cert.AttnOutIdeal.nD Cert.AttnOutIdeal.τ).loc Cert.AttnOutIdeal.main_arg0))
      (m ((c.tc : Thread Cert.AttnOutIdeal.nD Cert.AttnOutIdeal.τ).loc Cert.AttnOutIdeal.main_arg1))
      (m ((c.tc : Thread Cert.AttnOutIdeal.nD Cert.AttnOutIdeal.τ).loc Cert.AttnOutIdeal.main_arg2))
      (m ((c.tc : Thread Cert.AttnOutIdeal.nD Cert.AttnOutIdeal.τ).loc Cert.AttnOutIdeal.main_arg3)),
    θ_run_mono (Cert.AttnOutIdeal.Value.run_blocks m g) fun r h c => ⟨(h c).1.trans (Cert.AttnOutIdeal.Value.final m c), (h c).2⟩,
    θ_run_mono (Cert.AttnOutReferenceIdeal.Value.run_result m' g') fun r h c => ⟨(h c).1.trans ((attn_out_eq _ _ _ _).trans (by rw [(hag c).1, (hag c).2.1, (hag c).2.2.1, (hag c).2.2.2])), (h c).2⟩⟩

/-- The first layer's input projection: the reference ends with its arguments unchanged and every counter at zero. -/
theorem frame_ret_proj_reference : Cert.quiescent_RetProjReferenceIdeal := fun m g _ =>
  θ_run_mono (Cert.RetProjReferenceIdeal.Value.run (F := Ideal) m g) fun r h =>
    ⟨fun c => (h c).2, Idealize.ShloMosaic.sem_eq_zero_of_no_sems (by decide) r.2⟩

/-- The first layer's input projection: the reference's result and the kernel's are one function of the arguments. -/
theorem ret_proj_eq (X : FVec Ideal Cert.RetProjReferenceIdeal.S16384x2048 .f32) (g : FVec Ideal Cert.RetProjReferenceIdeal.S2048 .f32) (M : FVec Ideal Cert.RetProjReferenceIdeal.S2x8x1x12288 .f32) (W : FVec Ideal Cert.RetProjReferenceIdeal.S2048x12288 .bf16) :
    Cert.RetProjReferenceIdeal.Value.result X g M W = Cert.RetProjIdeal.Value.G X g M W := by
  funext j
  obtain ⟨r, d, rfl⟩ : ∃ (r : Fin 16384) (d : Fin 12288), j = ix2 r d := ⟨j 0, j 1, eq_ix2 j⟩
  exact Cert.RetProjReferenceIdeal.Value.result_read X g M W r d

/-- The first layer's input projection: the kernel and the reference end with equal arrays. -/
theorem ret_proj : Cert.algebraic_RetProjIdeal_RetProjReferenceIdeal := fun m g m' g' _ hag =>
  ⟨fun c => Cert.RetProjIdeal.Value.G (m ((c.tc : Thread Cert.RetProjIdeal.nD Cert.RetProjIdeal.τ).loc Cert.RetProjIdeal.main_arg0))
      (m ((c.tc : Thread Cert.RetProjIdeal.nD Cert.RetProjIdeal.τ).loc Cert.RetProjIdeal.main_arg1))
      (m ((c.tc : Thread Cert.RetProjIdeal.nD Cert.RetProjIdeal.τ).loc Cert.RetProjIdeal.main_arg2))
      (m ((c.tc : Thread Cert.RetProjIdeal.nD Cert.RetProjIdeal.τ).loc Cert.RetProjIdeal.main_arg3)),
    θ_run_mono (Cert.RetProjIdeal.Value.run_blocks m g) fun r h c => ⟨(h c).1.trans (Cert.RetProjIdeal.Value.final m c), (h c).2⟩,
    θ_run_mono (Cert.RetProjReferenceIdeal.Value.run (F := Ideal) m' g') fun r h c => ⟨(h c).1.trans ((Cert.RetProjReferenceIdeal.Value.res_eq m' c).trans ((ret_proj_eq _ _ _ _).trans (by rw [(hag c).1, (hag c).2.1, (hag c).2.2.1, (hag c).2.2.2]))), (h c).2⟩⟩

/-- The second layer's input projection: the reference ends with its arguments unchanged and every counter at zero. -/
theorem frame_attn_proj_reference : Cert.quiescent_AttnProjReferenceIdeal := fun m g _ =>
  θ_run_mono (Cert.AttnProjReferenceIdeal.Value.run (F := Ideal) m g) fun r h =>
    ⟨fun c => (h c).2, Idealize.ShloMosaic.sem_eq_zero_of_no_sems (by decide) r.2⟩

/-- The second layer's input projection: the reference's result and the kernel's are one function of the arguments. -/
theorem attn_proj_eq (X : FVec Ideal Cert.AttnProjReferenceIdeal.S16384x2048 .f32) (g : FVec Ideal Cert.AttnProjReferenceIdeal.S2048 .f32) (M : FVec Ideal Cert.AttnProjReferenceIdeal.S2x8x1x12288 .f32) (W : FVec Ideal Cert.AttnProjReferenceIdeal.S2048x3072 .bf16) :
    Cert.AttnProjReferenceIdeal.Value.result X g M W = Cert.AttnProjIdeal.Value.G X g M W := by
  funext j
  obtain ⟨r, d, rfl⟩ : ∃ (r : Fin 16384) (d : Fin 3072), j = ix2 r d := ⟨j 0, j 1, eq_ix2 j⟩
  exact Cert.AttnProjReferenceIdeal.Value.result_read X g M W r d

/-- The second layer's input projection: the kernel and the reference end with equal arrays. -/
theorem attn_proj : Cert.algebraic_AttnProjIdeal_AttnProjReferenceIdeal := fun m g m' g' _ hag =>
  ⟨fun c => Cert.AttnProjIdeal.Value.G (m ((c.tc : Thread Cert.AttnProjIdeal.nD Cert.AttnProjIdeal.τ).loc Cert.AttnProjIdeal.main_arg0))
      (m ((c.tc : Thread Cert.AttnProjIdeal.nD Cert.AttnProjIdeal.τ).loc Cert.AttnProjIdeal.main_arg1))
      (m ((c.tc : Thread Cert.AttnProjIdeal.nD Cert.AttnProjIdeal.τ).loc Cert.AttnProjIdeal.main_arg2))
      (m ((c.tc : Thread Cert.AttnProjIdeal.nD Cert.AttnProjIdeal.τ).loc Cert.AttnProjIdeal.main_arg3)),
    θ_run_mono (Cert.AttnProjIdeal.Value.run_blocks m g) fun r h c => ⟨(h c).1.trans (Cert.AttnProjIdeal.Value.final m c), (h c).2⟩,
    θ_run_mono (Cert.AttnProjReferenceIdeal.Value.run (F := Ideal) m' g') fun r h c => ⟨(h c).1.trans ((Cert.AttnProjReferenceIdeal.Value.res_eq m' c).trans ((attn_proj_eq _ _ _ _).trans (by rw [(hag c).1, (hag c).2.1, (hag c).2.2.1, (hag c).2.2.2]))), (h c).2⟩⟩

/-- The first layer's MLP on the context: the reference ends with its arguments unchanged and every counter at zero. -/
theorem frame_mlp0_ctx_reference : Cert.quiescent_Mlp0CtxReferenceIdeal := fun m g _ =>
  θ_run_mono (Cert.Mlp0CtxReferenceIdeal.Value.run (F := Ideal) m g) fun r h =>
    ⟨fun c => (h c).2, Idealize.ShloMosaic.sem_eq_zero_of_no_sems (by decide) r.2⟩

/-- The first layer's MLP on the context: the reference's result and the kernel's are one function of the arguments. -/
theorem mlp0_ctx_eq (X : FVec Ideal Cert.Mlp0CtxReferenceIdeal.S1024x2048 .f32) (g : FVec Ideal Cert.Mlp0CtxReferenceIdeal.S2048 .f32) (M : FVec Ideal Cert.Mlp0CtxReferenceIdeal.S2x8x1x12288 .f32) (W1 : FVec Ideal Cert.Mlp0CtxReferenceIdeal.S2048x8192 .bf16) (W2 : FVec Ideal Cert.Mlp0CtxReferenceIdeal.S8192x2048 .bf16) :
    Cert.Mlp0CtxReferenceIdeal.Value.result X g M W1 W2 = Cert.Mlp0CtxIdeal.Value.G X g M W1 W2 := by
  funext j
  obtain ⟨r, d, rfl⟩ : ∃ (r : Fin 1024) (d : Fin 2048), j = ix2 r d := ⟨j 0, j 1, eq_ix2 j⟩
  exact Cert.Mlp0CtxReferenceIdeal.Value.result_read X g M W1 W2 r d

/-- The first layer's MLP on the context: the kernel and the reference end with equal arrays. -/
theorem mlp0_ctx : Cert.algebraic_Mlp0CtxIdeal_Mlp0CtxReferenceIdeal := fun m g m' g' _ hag =>
  ⟨fun c => Cert.Mlp0CtxIdeal.Value.G (m ((c.tc : Thread Cert.Mlp0CtxIdeal.nD Cert.Mlp0CtxIdeal.τ).loc Cert.Mlp0CtxIdeal.main_arg0))
      (m ((c.tc : Thread Cert.Mlp0CtxIdeal.nD Cert.Mlp0CtxIdeal.τ).loc Cert.Mlp0CtxIdeal.main_arg1))
      (m ((c.tc : Thread Cert.Mlp0CtxIdeal.nD Cert.Mlp0CtxIdeal.τ).loc Cert.Mlp0CtxIdeal.main_arg2))
      (m ((c.tc : Thread Cert.Mlp0CtxIdeal.nD Cert.Mlp0CtxIdeal.τ).loc Cert.Mlp0CtxIdeal.main_arg3))
      (m ((c.tc : Thread Cert.Mlp0CtxIdeal.nD Cert.Mlp0CtxIdeal.τ).loc Cert.Mlp0CtxIdeal.main_arg4)),
    θ_run_mono (Cert.Mlp0CtxIdeal.Value.run_blocks m g) fun r h c => ⟨(h c).1.trans (Cert.Mlp0CtxIdeal.Value.final m c), (h c).2⟩,
    θ_run_mono (Cert.Mlp0CtxReferenceIdeal.Value.run (F := Ideal) m' g') fun r h c => ⟨(h c).1.trans ((Cert.Mlp0CtxReferenceIdeal.Value.res_eq m' c).trans ((mlp0_ctx_eq _ _ _ _ _).trans (by rw [(hag c).1, (hag c).2.1, (hag c).2.2.1, (hag c).2.2.2.1, (hag c).2.2.2.2]))), (h c).2⟩⟩

/-- The first layer's input projection on the context: the reference ends with its arguments unchanged and every counter at zero. -/
theorem frame_ret_proj_ctx_reference : Cert.quiescent_RetProjCtxReferenceIdeal := fun m g _ =>
  θ_run_mono (Cert.RetProjCtxReferenceIdeal.Value.run (F := Ideal) m g) fun r h =>
    ⟨fun c => (h c).2, Idealize.ShloMosaic.sem_eq_zero_of_no_sems (by decide) r.2⟩

/-- The first layer's input projection on the context: the reference's result and the kernel's are one function of the arguments. -/
theorem ret_proj_ctx_eq (X : FVec Ideal Cert.RetProjCtxReferenceIdeal.S1024x2048 .f32) (g : FVec Ideal Cert.RetProjCtxReferenceIdeal.S2048 .f32) (M : FVec Ideal Cert.RetProjCtxReferenceIdeal.S2x8x1x12288 .f32) (W : FVec Ideal Cert.RetProjCtxReferenceIdeal.S2048x12288 .bf16) :
    Cert.RetProjCtxReferenceIdeal.Value.result X g M W = Cert.RetProjCtxIdeal.Value.G X g M W := by
  funext j
  obtain ⟨r, d, rfl⟩ : ∃ (r : Fin 1024) (d : Fin 12288), j = ix2 r d := ⟨j 0, j 1, eq_ix2 j⟩
  exact Cert.RetProjCtxReferenceIdeal.Value.result_read X g M W r d

/-- The first layer's input projection on the context: the kernel and the reference end with equal arrays. -/
theorem ret_proj_ctx : Cert.algebraic_RetProjCtxIdeal_RetProjCtxReferenceIdeal := fun m g m' g' _ hag =>
  ⟨fun c => Cert.RetProjCtxIdeal.Value.G (m ((c.tc : Thread Cert.RetProjCtxIdeal.nD Cert.RetProjCtxIdeal.τ).loc Cert.RetProjCtxIdeal.main_arg0))
      (m ((c.tc : Thread Cert.RetProjCtxIdeal.nD Cert.RetProjCtxIdeal.τ).loc Cert.RetProjCtxIdeal.main_arg1))
      (m ((c.tc : Thread Cert.RetProjCtxIdeal.nD Cert.RetProjCtxIdeal.τ).loc Cert.RetProjCtxIdeal.main_arg2))
      (m ((c.tc : Thread Cert.RetProjCtxIdeal.nD Cert.RetProjCtxIdeal.τ).loc Cert.RetProjCtxIdeal.main_arg3)),
    θ_run_mono (Cert.RetProjCtxIdeal.Value.run_blocks m g) fun r h c => ⟨(h c).1.trans (Cert.RetProjCtxIdeal.Value.final m c), (h c).2⟩,
    θ_run_mono (Cert.RetProjCtxReferenceIdeal.Value.run (F := Ideal) m' g') fun r h c => ⟨(h c).1.trans ((Cert.RetProjCtxReferenceIdeal.Value.res_eq m' c).trans ((ret_proj_ctx_eq _ _ _ _).trans (by rw [(hag c).1, (hag c).2.1, (hag c).2.2.1, (hag c).2.2.2]))), (h c).2⟩⟩

/-- The first layer's output projection on the context: the reference ends with its arguments unchanged and every counter at zero. -/
theorem frame_ret_out_ctx_reference : Cert.quiescent_RetOutCtxReferenceIdeal := fun m g _ =>
  θ_run_mono (Cert.RetOutCtxReferenceIdeal.Value.run_result m g) fun r h =>
    ⟨fun c => (h c).2, Idealize.ShloMosaic.sem_eq_zero_of_no_sems (by decide) r.2⟩

/-- The first layer's output projection on the context: the reference's result and the kernel's are one function of the arguments. -/
theorem ret_out_ctx_eq (Y : FVec Ideal Cert.RetOutCtxReferenceIdeal.S1024x4096 .bf16) (W : FVec Ideal Cert.RetOutCtxReferenceIdeal.S4096x2048 .bf16) (X : FVec Ideal Cert.RetOutCtxReferenceIdeal.S1024x2048 .f32) (M : FVec Ideal Cert.RetOutCtxReferenceIdeal.S2x8x1x12288 .f32) :
    Cert.RetOutCtxReferenceIdeal.Value.result Y W X M = Cert.RetOutCtxIdeal.Value.G Y W X M := by
  funext j
  obtain ⟨r, d, rfl⟩ : ∃ (r : Fin 1024) (d : Fin 2048), j = ix2 r d := ⟨j 0, j 1, eq_ix2 j⟩
  exact Cert.RetOutCtxReferenceIdeal.Value.result_read Y W X M r d

/-- The first layer's output projection on the context: the kernel and the reference end with equal arrays. -/
theorem ret_out_ctx : Cert.algebraic_RetOutCtxIdeal_RetOutCtxReferenceIdeal := fun m g m' g' _ hag =>
  ⟨fun c => Cert.RetOutCtxIdeal.Value.G (m ((c.tc : Thread Cert.RetOutCtxIdeal.nD Cert.RetOutCtxIdeal.τ).loc Cert.RetOutCtxIdeal.main_arg0))
      (m ((c.tc : Thread Cert.RetOutCtxIdeal.nD Cert.RetOutCtxIdeal.τ).loc Cert.RetOutCtxIdeal.main_arg1))
      (m ((c.tc : Thread Cert.RetOutCtxIdeal.nD Cert.RetOutCtxIdeal.τ).loc Cert.RetOutCtxIdeal.main_arg2))
      (m ((c.tc : Thread Cert.RetOutCtxIdeal.nD Cert.RetOutCtxIdeal.τ).loc Cert.RetOutCtxIdeal.main_arg3)),
    θ_run_mono (Cert.RetOutCtxIdeal.Value.run_blocks m g) fun r h c => ⟨(h c).1.trans (Cert.RetOutCtxIdeal.Value.final m c), (h c).2⟩,
    θ_run_mono (Cert.RetOutCtxReferenceIdeal.Value.run_result m' g') fun r h c => ⟨(h c).1.trans ((ret_out_ctx_eq _ _ _ _).trans (by rw [(hag c).1, (hag c).2.1, (hag c).2.2.1, (hag c).2.2.2])), (h c).2⟩⟩

/-- The second layer's keys and values on the context: the reference ends with its arguments unchanged and every counter at zero. -/
theorem frame_attn_proj_ctx_reference : Cert.quiescent_AttnProjCtxReferenceIdeal := fun m g _ =>
  θ_run_mono (Cert.AttnProjCtxReferenceIdeal.Value.run_result m g) fun r h =>
    ⟨fun c => (h c).2, Idealize.ShloMosaic.sem_eq_zero_of_no_sems (by decide) r.2⟩

/-- The second layer's keys and values on the context: the reference's result and the kernel's are one function of the arguments. -/
theorem attn_proj_ctx_eq (X : FVec Ideal Cert.AttnProjCtxReferenceIdeal.S1024x2048 .f32) (g : FVec Ideal Cert.AttnProjCtxReferenceIdeal.S2048 .f32) (M : FVec Ideal Cert.AttnProjCtxReferenceIdeal.S2x8x1x12288 .f32) (W : FVec Ideal Cert.AttnProjCtxReferenceIdeal.S2048x3072 .bf16) :
    Cert.AttnProjCtxReferenceIdeal.Value.result X g M W = Cert.AttnProjCtxIdeal.Value.G X g M W := by
  funext j
  obtain ⟨r, d, rfl⟩ : ∃ (r : Fin 1024) (d : Fin 1024), j = ix2 r d := ⟨j 0, j 1, eq_ix2 j⟩
  exact Cert.AttnProjCtxReferenceIdeal.Value.result_read X g M W r d

/-- The second layer's keys and values on the context: the kernel and the reference end with equal arrays. -/
theorem attn_proj_ctx : Cert.algebraic_AttnProjCtxIdeal_AttnProjCtxReferenceIdeal := fun m g m' g' _ hag =>
  ⟨fun c => Cert.AttnProjCtxIdeal.Value.G (m ((c.tc : Thread Cert.AttnProjCtxIdeal.nD Cert.AttnProjCtxIdeal.τ).loc Cert.AttnProjCtxIdeal.main_arg0))
      (m ((c.tc : Thread Cert.AttnProjCtxIdeal.nD Cert.AttnProjCtxIdeal.τ).loc Cert.AttnProjCtxIdeal.main_arg1))
      (m ((c.tc : Thread Cert.AttnProjCtxIdeal.nD Cert.AttnProjCtxIdeal.τ).loc Cert.AttnProjCtxIdeal.main_arg2))
      (m ((c.tc : Thread Cert.AttnProjCtxIdeal.nD Cert.AttnProjCtxIdeal.τ).loc Cert.AttnProjCtxIdeal.main_arg3)),
    θ_run_mono (Cert.AttnProjCtxIdeal.Value.run_blocks m g) fun r h c => ⟨(h c).1.trans (Cert.AttnProjCtxIdeal.Value.final m c), (h c).2⟩,
    θ_run_mono (Cert.AttnProjCtxReferenceIdeal.Value.run_result m' g') fun r h c => ⟨(h c).1.trans ((attn_proj_ctx_eq _ _ _ _).trans (by rw [(hag c).1, (hag c).2.1, (hag c).2.2.1, (hag c).2.2.2])), (h c).2⟩⟩

/-- The modulation's product: the reference ends with its arguments unchanged and every counter at zero. -/
theorem frame_ada_reference : Cert.quiescent_AdaReferenceIdeal := fun m g _ =>
  θ_run_mono (Cert.AdaReferenceIdeal.Value.run_result m g) fun r h =>
    ⟨fun c => (h c).2, Idealize.ShloMosaic.sem_eq_zero_of_no_sems (by decide) r.2⟩

/-- The modulation's product: the reference's result and the kernel's are one function of the arguments. -/
theorem ada_eq (C : FVec Ideal Cert.AdaReferenceIdeal.S8x2048 .f32) (W : FVec Ideal Cert.AdaReferenceIdeal.S2x2048x12288 .f32) (B : FVec Ideal Cert.AdaReferenceIdeal.S2x12288 .f32) :
    Cert.AdaReferenceIdeal.Value.result C W B = Cert.AdaIdeal.Value.G C W B := by
  funext j
  obtain ⟨i, r, n, rfl⟩ : ∃ (i : Fin 2) (r : Fin 8) (n : Fin 12288), j = ix3 i r n := ⟨j 0, j 1, j 2, eq_ix3 j⟩
  exact Cert.AdaReferenceIdeal.Value.result_read C W B i r n

/-- The modulation's product: the kernel and the reference end with equal arrays. -/
theorem ada : Cert.algebraic_AdaIdeal_AdaReferenceIdeal := fun m g m' g' _ hag =>
  ⟨fun c => Cert.AdaIdeal.Value.G (m ((c.tc : Thread Cert.AdaIdeal.nD Cert.AdaIdeal.τ).loc Cert.AdaIdeal.main_arg0))
      (m ((c.tc : Thread Cert.AdaIdeal.nD Cert.AdaIdeal.τ).loc Cert.AdaIdeal.main_arg1))
      (m ((c.tc : Thread Cert.AdaIdeal.nD Cert.AdaIdeal.τ).loc Cert.AdaIdeal.main_arg2)),
    θ_run_mono (Cert.AdaIdeal.Value.run_blocks m g) fun r h c => ⟨(h c).1.trans (Cert.AdaIdeal.Value.final m c), (h c).2⟩,
    θ_run_mono (Cert.AdaReferenceIdeal.Value.run_result m' g') fun r h c => ⟨(h c).1.trans ((ada_eq _ _ _).trans (by rw [(hag c).1, (hag c).2.1, (hag c).2.2])), (h c).2⟩⟩

/-- The context's retention: the reference ends with its arguments unchanged and every counter at zero. -/
theorem frame_ret_ctx_reference : Cert.quiescent_RetCtxReferenceIdeal := fun m g _ =>
  θ_run_mono (Cert.RetCtxReferenceIdeal.Value.run_staged m g) fun r h =>
    ⟨fun c => (h c).2.2.2, Idealize.ShloMosaic.sem_eq_zero_of_no_sems (by decide) r.2⟩

/-- An array whose magnitudes are all below infinity holds reals. -/
theorem reals_of_finite (X : FVec Ideal Cert.Pre_finite.S1024x12288 .bf16) (A B : FVec Ideal Cert.Pre_finite.S8 .f32)
    (h : Cert.Pre_finite.fn (F := Ideal) X A B = fun _ => 1#1) (j : Cert.Pre_finite.S1024x12288.Idx) : ∃ r : ℝ, X j = (r : EReal) := by
  have hj := congrFun h j
  have hlt : max (X j) (-(X j)) < (⊤ : EReal) := by
    by_contra hn
    have e : Cert.Pre_finite.fn (F := Ideal) X A B j = BitVec.ofBool (decide (max (X j) (-(X j)) < Ideal.ofBits .f32 0x7F800000#32)) := by
      pointwise [Cert.Pre_finite.fn]
      rfl
    rw [e, Cert.RetCore.cinf, decide_eq_false hn] at hj
    exact absurd hj (by decide)
  have h1 : X j ≠ ⊤ := fun e => absurd hlt (by rw [e]; simp)
  have h2 : X j ≠ ⊥ := fun e => absurd hlt (by rw [e]; simp)
  exact ⟨EReal.toReal (X j), (EReal.coe_toReal h1 h2).symm⟩

/-- The context's retention: the outputs of the reference and of the kernel are one function of the arguments. -/
theorem ret_ctx_out (X : FVec Ideal Cert.RetCtxReferenceIdeal.S1024x12288 .bf16) (A B : FVec Ideal Cert.RetCtxReferenceIdeal.S8 .f32) :
    Cert.RetCtxReferenceIdeal.Value.result X A B = Cert.RetCtxIdeal.Value.G8 X A B := by
  funext j
  obtain ⟨r, n, rfl⟩ : ∃ (r : Fin 1024) (n : Fin 4096), j = ix2 r n := ⟨j 0, j 1, eq_ix2 j⟩
  exact Cert.RetCtxReferenceIdeal.Value.result_read X A B r n

/-- The context's retention: the forward states of the reference and of the kernel are one function of the arguments. -/
theorem ret_ctx_fwd (X : FVec Ideal Cert.RetCtxReferenceIdeal.S1024x12288 .bf16) (A : FVec Ideal Cert.RetCtxReferenceIdeal.S8 .f32) :
    Cert.RetCtxReferenceIdeal.Value.fwd X A = Cert.RetCtxIdeal.Value.G9 X A := by
  funext j
  obtain ⟨b, h, d, e, rfl⟩ : ∃ (b : Fin 4) (h : Fin 8) (d : Fin 256) (e : Fin 512), j = ix4 b h d e := ⟨j 0, j 1, j 2, j 3, eq_ix4 j⟩
  exact Cert.RetCtxReferenceIdeal.Value.fwd_read X A b h d e

/-- The context's retention: the backward states of the reference and of the kernel are one function of the arguments. -/
theorem ret_ctx_bwd (X : FVec Ideal Cert.RetCtxReferenceIdeal.S1024x12288 .bf16) (B : FVec Ideal Cert.RetCtxReferenceIdeal.S8 .f32) :
    Cert.RetCtxReferenceIdeal.Value.bwd X B = Cert.RetCtxIdeal.Value.G10 X B := by
  funext j
  obtain ⟨b, h, d, e, rfl⟩ : ∃ (b : Fin 4) (h : Fin 8) (d : Fin 256) (e : Fin 512), j = ix4 b h d e := ⟨j 0, j 1, j 2, j 3, eq_ix4 j⟩
  exact Cert.RetCtxReferenceIdeal.Value.bwd_read X B b h d e

/-- The context's retention: on finite projections the kernel and the reference end with equal arrays. -/
theorem ret_ctx : Cert.algebraic_RetCtxIdeal_RetCtxReferenceIdeal_pre_finite := fun m g m' g' hp hag =>
  ⟨fun c => Cert.RetCtxIdeal.Value.G8 (m ((c.tc : Thread Cert.RetCtxIdeal.nD Cert.RetCtxIdeal.τ).loc Cert.RetCtxIdeal.main_arg0))
      (m ((c.tc : Thread Cert.RetCtxIdeal.nD Cert.RetCtxIdeal.τ).loc Cert.RetCtxIdeal.main_arg1))
      (m ((c.tc : Thread Cert.RetCtxIdeal.nD Cert.RetCtxIdeal.τ).loc Cert.RetCtxIdeal.main_arg2)),
    fun c => Cert.RetCtxIdeal.Value.G9 (m ((c.tc : Thread Cert.RetCtxIdeal.nD Cert.RetCtxIdeal.τ).loc Cert.RetCtxIdeal.main_arg0))
      (m ((c.tc : Thread Cert.RetCtxIdeal.nD Cert.RetCtxIdeal.τ).loc Cert.RetCtxIdeal.main_arg1)),
    fun c => Cert.RetCtxIdeal.Value.G10 (m ((c.tc : Thread Cert.RetCtxIdeal.nD Cert.RetCtxIdeal.τ).loc Cert.RetCtxIdeal.main_arg0))
      (m ((c.tc : Thread Cert.RetCtxIdeal.nD Cert.RetCtxIdeal.τ).loc Cert.RetCtxIdeal.main_arg2)),
    θ_run_mono (Cert.RetCtxIdeal.Value.run_blocks m g) fun r h c =>
      ⟨(h c).1.trans (Cert.RetCtxIdeal.Value.final8 m c (reals_of_finite _ _ _ (hp c))), (h c).2.1.trans (Cert.RetCtxIdeal.Value.final9 m c),
        (h c).2.2.1.trans (Cert.RetCtxIdeal.Value.final10 m c), (h c).2.2.2⟩,
    θ_run_mono (Cert.RetCtxReferenceIdeal.Value.run_staged m' g') fun r h c =>
      ⟨(h c).1.trans ((ret_ctx_out _ _ _).trans (by rw [(hag c).1, (hag c).2.1, (hag c).2.2])), (h c).2.1.trans ((ret_ctx_fwd _ _).trans (by rw [(hag c).1, (hag c).2.1])),
        (h c).2.2.1.trans ((ret_ctx_bwd _ _).trans (by rw [(hag c).1, (hag c).2.2])), (h c).2.2.2⟩⟩

theorem claim : Cert.Claim := ⟨Cert.Kernel.Gen.facts, Cert.KernelIdeal.Gen.facts, Cert.ReferenceIdeal.Gen.facts,
  Cert.Mlp.Gen.facts, Cert.MlpIdeal.Gen.facts, Cert.MlpReferenceIdeal.Gen.facts,
  Cert.Mlp0.Gen.facts, Cert.Mlp0Ideal.Gen.facts, Cert.Mlp0ReferenceIdeal.Gen.facts,
  Cert.RetOut.Gen.facts, Cert.RetOutIdeal.Gen.facts, Cert.RetOutReferenceIdeal.Gen.facts,
  Cert.AttnOut.Gen.facts, Cert.AttnOutIdeal.Gen.facts, Cert.AttnOutReferenceIdeal.Gen.facts,
  Cert.RetProj.Gen.facts, Cert.RetProjIdeal.Gen.facts, Cert.RetProjReferenceIdeal.Gen.facts,
  Cert.AttnProj.Gen.facts, Cert.AttnProjIdeal.Gen.facts, Cert.AttnProjReferenceIdeal.Gen.facts,
  Cert.Mlp0Ctx.Gen.facts, Cert.Mlp0CtxIdeal.Gen.facts, Cert.Mlp0CtxReferenceIdeal.Gen.facts,
  Cert.RetProjCtx.Gen.facts, Cert.RetProjCtxIdeal.Gen.facts, Cert.RetProjCtxReferenceIdeal.Gen.facts,
  Cert.RetOutCtx.Gen.facts, Cert.RetOutCtxIdeal.Gen.facts, Cert.RetOutCtxReferenceIdeal.Gen.facts,
  Cert.AttnProjCtx.Gen.facts, Cert.AttnProjCtxIdeal.Gen.facts, Cert.AttnProjCtxReferenceIdeal.Gen.facts,
  Cert.Ada.Gen.facts, Cert.AdaIdeal.Gen.facts, Cert.AdaReferenceIdeal.Gen.facts,
  Cert.RetCtx.Gen.facts, Cert.RetCtxIdeal.Gen.facts, Cert.RetCtxReferenceIdeal.Gen.facts, Cert.Pre_finite.Gen.facts,
  fun m g _ => Cert.Kernel.Gen.frame m g, fun m g _ => Cert.KernelIdeal.Gen.frame m g, frame_reference,
  fun m g _ => Cert.Mlp.Gen.frame m g, fun m g _ => Cert.MlpIdeal.Gen.frame m g, frame_mlp_reference,
  fun m g _ => Cert.Mlp0.Gen.frame m g, fun m g _ => Cert.Mlp0Ideal.Gen.frame m g, frame_mlp0_reference,
  fun m g _ => Cert.RetOut.Gen.frame m g, fun m g _ => Cert.RetOutIdeal.Gen.frame m g, frame_ret_out_reference,
  fun m g _ => Cert.AttnOut.Gen.frame m g, fun m g _ => Cert.AttnOutIdeal.Gen.frame m g, frame_attn_out_reference,
  fun m g _ => Cert.RetProj.Gen.frame m g, fun m g _ => Cert.RetProjIdeal.Gen.frame m g, frame_ret_proj_reference,
  fun m g _ => Cert.AttnProj.Gen.frame m g, fun m g _ => Cert.AttnProjIdeal.Gen.frame m g, frame_attn_proj_reference,
  fun m g _ => Cert.Mlp0Ctx.Gen.frame m g, fun m g _ => Cert.Mlp0CtxIdeal.Gen.frame m g, frame_mlp0_ctx_reference,
  fun m g _ => Cert.RetProjCtx.Gen.frame m g, fun m g _ => Cert.RetProjCtxIdeal.Gen.frame m g, frame_ret_proj_ctx_reference,
  fun m g _ => Cert.RetOutCtx.Gen.frame m g, fun m g _ => Cert.RetOutCtxIdeal.Gen.frame m g, frame_ret_out_ctx_reference,
  fun m g _ => Cert.AttnProjCtx.Gen.frame m g, fun m g _ => Cert.AttnProjCtxIdeal.Gen.frame m g, frame_attn_proj_ctx_reference,
  fun m g _ => Cert.Ada.Gen.frame m g, fun m g _ => Cert.AdaIdeal.Gen.frame m g, frame_ada_reference,
  fun m g _ => Cert.RetCtx.Gen.frame m g, fun m g _ => Cert.RetCtxIdeal.Gen.frame m g, fun m g _ => Cert.RetCtxIdeal.Gen.frame m g,
  frame_ret_ctx_reference, fun m g _ => frame_ret_ctx_reference m g trivial,
  IdealRules.named_const.statement Cert.KernelIdeal.κ "mask" .f32 0xF149F2CA#32 ⊥ rfl, attention,
  trivial, mlp,
  trivial, mlp0,
  trivial, ret_out,
  trivial, attn_out,
  trivial, ret_proj,
  trivial, attn_proj,
  trivial, mlp0_ctx,
  trivial, ret_proj_ctx,
  trivial, ret_out_ctx,
  trivial, attn_proj_ctx,
  trivial, ada,
  trivial, ret_ctx⟩

end Cert.Proof

end
